-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DwGu (m : (ℓ : Loc Cert.DwGu.nD Cert.DwGu.τ Cert.DwGu.sig) → Buf (Elt Bits) ℓ) : Prop :=
  True

def Pre_DwGuIdeal (m : (ℓ : Loc Cert.DwGuIdeal.nD Cert.DwGuIdeal.τ Cert.DwGuIdeal.sig) → Buf (Elt Ideal) ℓ) : Prop :=
  True

def Pre_RefGuIdeal (m : (ℓ : Loc Cert.RefGuIdeal.nD Cert.RefGuIdeal.τ Cert.RefGuIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_DwMq (m : (ℓ : Loc Cert.DwMq.nD Cert.DwMq.τ Cert.DwMq.sig) → Buf (Elt Bits) ℓ) : Prop :=
  True

def Pre_DwMqIdeal (m : (ℓ : Loc Cert.DwMqIdeal.nD Cert.DwMqIdeal.τ Cert.DwMqIdeal.sig) → Buf (Elt Ideal) ℓ) : Prop :=
  True

def Pre_RefMqIdeal (m : (ℓ : Loc Cert.RefMqIdeal.nD Cert.RefMqIdeal.τ Cert.RefMqIdeal.sig) → Buf (Elt Ideal) ℓ) : Prop :=
  True

def Pre_DwMo (m : (ℓ : Loc Cert.DwMo.nD Cert.DwMo.τ Cert.DwMo.sig) → Buf (Elt Bits) ℓ) : Prop :=
  True

def Pre_DwMoIdeal (m : (ℓ : Loc Cert.DwMoIdeal.nD Cert.DwMoIdeal.τ Cert.DwMoIdeal.sig) → Buf (Elt Ideal) ℓ) : Prop :=
  True

def Pre_RefMoIdeal (m : (ℓ : Loc Cert.RefMoIdeal.nD Cert.RefMoIdeal.τ Cert.RefMoIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_RefXIdeal (m : (ℓ : Loc Cert.RefXIdeal.nD Cert.RefXIdeal.τ Cert.RefXIdeal.sig) → Buf (Elt Ideal) ℓ) : Prop :=
  True

def Pre_BwdFfn (m : (ℓ : Loc Cert.BwdFfn.nD Cert.BwdFfn.τ Cert.BwdFfn.sig) → Buf (Elt Bits) ℓ) : Prop :=
  True

def Pre_BwdFfnIdeal (m : (ℓ : Loc Cert.BwdFfnIdeal.nD Cert.BwdFfnIdeal.τ Cert.BwdFfnIdeal.sig) → Buf (Elt Ideal) ℓ) : Prop :=
  True

def Pre_BwdFfnIdeal_all_finite [hPre_all_finite : Cert.Pre_all_finite.Facts] (m : (ℓ : Loc Cert.BwdFfnIdeal.nD Cert.BwdFfnIdeal.τ Cert.BwdFfnIdeal.sig) → Buf (Elt Ideal) ℓ) : Prop :=
  ∀ c : Dev Cert.BwdFfnIdeal.nD,
    (Cert.Pre_all_finite.fn (F := Ideal) (m ((c.tc : Thread Cert.BwdFfnIdeal.nD Cert.BwdFfnIdeal.τ).loc Cert.BwdFfnIdeal.main_arg0)) (m ((c.tc : Thread Cert.BwdFfnIdeal.nD Cert.BwdFfnIdeal.τ).loc Cert.BwdFfnIdeal.main_arg1)) (m ((c.tc : Thread Cert.BwdFfnIdeal.nD Cert.BwdFfnIdeal.τ).loc Cert.BwdFfnIdeal.main_arg2)) (m ((c.tc : Thread Cert.BwdFfnIdeal.nD Cert.BwdFfnIdeal.τ).loc Cert.BwdFfnIdeal.main_arg3)) (m ((c.tc : Thread Cert.BwdFfnIdeal.nD Cert.BwdFfnIdeal.τ).loc Cert.BwdFfnIdeal.main_arg4))).1 = (fun _ => 1#1)
    ∧ (Cert.Pre_all_finite.fn (F := Ideal) (m ((c.tc : Thread Cert.BwdFfnIdeal.nD Cert.BwdFfnIdeal.τ).loc Cert.BwdFfnIdeal.main_arg0)) (m ((c.tc : Thread Cert.BwdFfnIdeal.nD Cert.BwdFfnIdeal.τ).loc Cert.BwdFfnIdeal.main_arg1)) (m ((c.tc : Thread Cert.BwdFfnIdeal.nD Cert.BwdFfnIdeal.τ).loc Cert.BwdFfnIdeal.main_arg2)) (m ((c.tc : Thread Cert.BwdFfnIdeal.nD Cert.BwdFfnIdeal.τ).loc Cert.BwdFfnIdeal.main_arg3)) (m ((c.tc : Thread Cert.BwdFfnIdeal.nD Cert.BwdFfnIdeal.τ).loc Cert.BwdFfnIdeal.main_arg4))).2.1 = (fun _ => 1#1)
    ∧ (Cert.Pre_all_finite.fn (F := Ideal) (m ((c.tc : Thread Cert.BwdFfnIdeal.nD Cert.BwdFfnIdeal.τ).loc Cert.BwdFfnIdeal.main_arg0)) (m ((c.tc : Thread Cert.BwdFfnIdeal.nD Cert.BwdFfnIdeal.τ).loc Cert.BwdFfnIdeal.main_arg1)) (m ((c.tc : Thread Cert.BwdFfnIdeal.nD Cert.BwdFfnIdeal.τ).loc Cert.BwdFfnIdeal.main_arg2)) (m ((c.tc : Thread Cert.BwdFfnIdeal.nD Cert.BwdFfnIdeal.τ).loc Cert.BwdFfnIdeal.main_arg3)) (m ((c.tc : Thread Cert.BwdFfnIdeal.nD Cert.BwdFfnIdeal.τ).loc Cert.BwdFfnIdeal.main_arg4))).2.2.1 = (fun _ => 1#1)
    ∧ (Cert.Pre_all_finite.fn (F := Ideal) (m ((c.tc : Thread Cert.BwdFfnIdeal.nD Cert.BwdFfnIdeal.τ).loc Cert.BwdFfnIdeal.main_arg0)) (m ((c.tc : Thread Cert.BwdFfnIdeal.nD Cert.BwdFfnIdeal.τ).loc Cert.BwdFfnIdeal.main_arg1)) (m ((c.tc : Thread Cert.BwdFfnIdeal.nD Cert.BwdFfnIdeal.τ).loc Cert.BwdFfnIdeal.main_arg2)) (m ((c.tc : Thread Cert.BwdFfnIdeal.nD Cert.BwdFfnIdeal.τ).loc Cert.BwdFfnIdeal.main_arg3)) (m ((c.tc : Thread Cert.BwdFfnIdeal.nD Cert.BwdFfnIdeal.τ).loc Cert.BwdFfnIdeal.main_arg4))).2.2.2.1 = (fun _ => 1#1)
    ∧ (Cert.Pre_all_finite.fn (F := Ideal) (m ((c.tc : Thread Cert.BwdFfnIdeal.nD Cert.BwdFfnIdeal.τ).loc Cert.BwdFfnIdeal.main_arg0)) (m ((c.tc : Thread Cert.BwdFfnIdeal.nD Cert.BwdFfnIdeal.τ).loc Cert.BwdFfnIdeal.main_arg1)) (m ((c.tc : Thread Cert.BwdFfnIdeal.nD Cert.BwdFfnIdeal.τ).loc Cert.BwdFfnIdeal.main_arg2)) (m ((c.tc : Thread Cert.BwdFfnIdeal.nD Cert.BwdFfnIdeal.τ).loc Cert.BwdFfnIdeal.main_arg3)) (m ((c.tc : Thread Cert.BwdFfnIdeal.nD Cert.BwdFfnIdeal.τ).loc Cert.BwdFfnIdeal.main_arg4))).2.2.2.2 = (fun _ => 1#1)

def Pre_RefFfnIdeal (m : (ℓ : Loc Cert.RefFfnIdeal.nD Cert.RefFfnIdeal.τ Cert.RefFfnIdeal.sig) → Buf (Elt Ideal) ℓ) : Prop :=
  True

def Pre_RefFfnIdeal_all_finite [hPre_all_finite : Cert.Pre_all_finite.Facts] (m : (ℓ : Loc Cert.RefFfnIdeal.nD Cert.RefFfnIdeal.τ Cert.RefFfnIdeal.sig) → Buf (Elt Ideal) ℓ) : Prop :=
  ∀ c : Dev Cert.RefFfnIdeal.nD,
    (Cert.Pre_all_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).1 = (fun _ => 1#1)
    ∧ (Cert.Pre_all_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).2.1 = (fun _ => 1#1)
    ∧ (Cert.Pre_all_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).2.2.1 = (fun _ => 1#1)
    ∧ (Cert.Pre_all_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).2.2.2.1 = (fun _ => 1#1)
    ∧ (Cert.Pre_all_finite.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).2.2.2.2 = (fun _ => 1#1)

def Pre_FwdFfn (m : (ℓ : Loc Cert.FwdFfn.nD Cert.FwdFfn.τ Cert.FwdFfn.sig) → Buf (Elt Bits) ℓ) : Prop :=
  True

def Pre_FwdFfnIdeal (m : (ℓ : Loc Cert.FwdFfnIdeal.nD Cert.FwdFfnIdeal.τ Cert.FwdFfnIdeal.sig) → Buf (Elt Ideal) ℓ) : Prop :=
  True

def Pre_RefLayerIdeal (m : (ℓ : Loc Cert.RefLayerIdeal.nD Cert.RefLayerIdeal.τ Cert.RefLayerIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_RefAIdeal (m : (ℓ : Loc Cert.RefAIdeal.nD Cert.RefAIdeal.τ Cert.RefAIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwGu [hDwGu : Cert.DwGu.Facts] : Prop :=
  ∀ (m : (ℓ : Loc Cert.DwGu.nD Cert.DwGu.τ Cert.DwGu.sig) → Buf (Elt Bits) ℓ) (g : Dev Cert.DwGu.nD → PrngReg), Pre_DwGu m →
    θ_run (Cert.DwGu.defs (F := Bits)) (onTc (τ := Cert.DwGu.τ) (Cert.DwGu.main (F := Bits))) ⟨m, fun _ => 0, g⟩ (fun r => (∀ c : Dev Cert.DwGu.nD,
      r.2.mem ((c.tc : Thread Cert.DwGu.nD Cert.DwGu.τ).loc Cert.DwGu.main_arg0) = m ((c.tc : Thread Cert.DwGu.nD Cert.DwGu.τ).loc Cert.DwGu.main_arg0)
      ∧ r.2.mem ((c.tc : Thread Cert.DwGu.nD Cert.DwGu.τ).loc Cert.DwGu.main_arg1) = m ((c.tc : Thread Cert.DwGu.nD Cert.DwGu.τ).loc Cert.DwGu.main_arg1))
      ∧ r.2.sem = fun _ => 0)

def quiescent_DwGuIdeal [hDwGuIdeal : Cert.DwGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ r.2.sem = fun _ => 0)

def quiescent_RefGuIdeal [hRefGuIdeal : Cert.RefGuIdeal.Facts] : Prop :=
  ∀ (m : (ℓ : Loc Cert.RefGuIdeal.nD Cert.RefGuIdeal.τ Cert.RefGuIdeal.sig) → Buf (Elt Ideal) ℓ) (g : Dev Cert.RefGuIdeal.nD → PrngReg), Pre_RefGuIdeal m →
    θ_run (Cert.RefGuIdeal.defs (F := Ideal)) (onTc (τ := Cert.RefGuIdeal.τ) (Cert.RefGuIdeal.main (F := Ideal))) ⟨m, fun _ => 0, g⟩ (fun r => (∀ c : Dev Cert.RefGuIdeal.nD,
      r.2.mem ((c.tc : Thread Cert.RefGuIdeal.nD Cert.RefGuIdeal.τ).loc Cert.RefGuIdeal.main_arg0) = m ((c.tc : Thread Cert.RefGuIdeal.nD Cert.RefGuIdeal.τ).loc Cert.RefGuIdeal.main_arg0)
      ∧ r.2.mem ((c.tc : Thread Cert.RefGuIdeal.nD Cert.RefGuIdeal.τ).loc Cert.RefGuIdeal.main_arg1) = m ((c.tc : Thread Cert.RefGuIdeal.nD Cert.RefGuIdeal.τ).loc Cert.RefGuIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1))
      ∧ r.2.sem = fun _ => 0)

def quiescent_DwMq [hDwMq : Cert.DwMq.Facts] : Prop :=
  ∀ (m : (ℓ : Loc Cert.DwMq.nD Cert.DwMq.τ Cert.DwMq.sig) → Buf (Elt Bits) ℓ) (g : Dev Cert.DwMq.nD → PrngReg), Pre_DwMq m →
    θ_run (Cert.DwMq.defs (F := Bits)) (onTc (τ := Cert.DwMq.τ) (Cert.DwMq.main (F := Bits))) ⟨m, fun _ => 0, g⟩ (fun r => (∀ c : Dev Cert.DwMq.nD,
      r.2.mem ((c.tc : Thread Cert.DwMq.nD Cert.DwMq.τ).loc Cert.DwMq.main_arg0) = m ((c.tc : Thread Cert.DwMq.nD Cert.DwMq.τ).loc Cert.DwMq.main_arg0)
      ∧ r.2.mem ((c.tc : Thread Cert.DwMq.nD Cert.DwMq.τ).loc Cert.DwMq.main_arg1) = m ((c.tc : Thread Cert.DwMq.nD Cert.DwMq.τ).loc Cert.DwMq.main_arg1))
      ∧ r.2.sem = fun _ => 0)

def quiescent_DwMqIdeal [hDwMqIdeal : Cert.DwMqIdeal.Facts] : Prop :=
  ∀ (m : (ℓ : Loc Cert.DwMqIdeal.nD Cert.DwMqIdeal.τ Cert.DwMqIdeal.sig) → Buf (Elt Ideal) ℓ) (g : Dev Cert.DwMqIdeal.nD → PrngReg), Pre_DwMqIdeal m →
    θ_run (Cert.DwMqIdeal.defs (F := Ideal)) (onTc (τ := Cert.DwMqIdeal.τ) (Cert.DwMqIdeal.main (F := Ideal))) ⟨m, fun _ => 0, g⟩ (fun r => (∀ c : Dev Cert.DwMqIdeal.nD,
      r.2.mem ((c.tc : Thread Cert.DwMqIdeal.nD Cert.DwMqIdeal.τ).loc Cert.DwMqIdeal.main_arg0) = m ((c.tc : Thread Cert.DwMqIdeal.nD Cert.DwMqIdeal.τ).loc Cert.DwMqIdeal.main_arg0)
      ∧ r.2.mem ((c.tc : Thread Cert.DwMqIdeal.nD Cert.DwMqIdeal.τ).loc Cert.DwMqIdeal.main_arg1) = m ((c.tc : Thread Cert.DwMqIdeal.nD Cert.DwMqIdeal.τ).loc Cert.DwMqIdeal.main_arg1))
      ∧ r.2.sem = fun _ => 0)

def quiescent_RefMqIdeal [hRefMqIdeal : Cert.RefMqIdeal.Facts] : Prop :=
  ∀ (m : (ℓ : Loc Cert.RefMqIdeal.nD Cert.RefMqIdeal.τ Cert.RefMqIdeal.sig) → Buf (Elt Ideal) ℓ) (g : Dev Cert.RefMqIdeal.nD → PrngReg), Pre_RefMqIdeal m →
    θ_run (Cert.RefMqIdeal.defs (F := Ideal)) (onTc (τ := Cert.RefMqIdeal.τ) (Cert.RefMqIdeal.main (F := Ideal))) ⟨m, fun _ => 0, g⟩ (fun r => (∀ c : Dev Cert.RefMqIdeal.nD,
      r.2.mem ((c.tc : Thread Cert.RefMqIdeal.nD Cert.RefMqIdeal.τ).loc Cert.RefMqIdeal.main_arg0) = m ((c.tc : Thread Cert.RefMqIdeal.nD Cert.RefMqIdeal.τ).loc Cert.RefMqIdeal.main_arg0)
      ∧ r.2.mem ((c.tc : Thread Cert.RefMqIdeal.nD Cert.RefMqIdeal.τ).loc Cert.RefMqIdeal.main_arg1) = m ((c.tc : Thread Cert.RefMqIdeal.nD Cert.RefMqIdeal.τ).loc Cert.RefMqIdeal.main_arg1))
      ∧ r.2.sem = fun _ => 0)

def quiescent_DwMo [hDwMo : Cert.DwMo.Facts] : Prop :=
  ∀ (m : (ℓ : Loc Cert.DwMo.nD Cert.DwMo.τ Cert.DwMo.sig) → Buf (Elt Bits) ℓ) (g : Dev Cert.DwMo.nD → PrngReg), Pre_DwMo m →
    θ_run (Cert.DwMo.defs (F := Bits)) (onTc (τ := Cert.DwMo.τ) (Cert.DwMo.main (F := Bits))) ⟨m, fun _ => 0, g⟩ (fun r => (∀ c : Dev Cert.DwMo.nD,
      r.2.mem ((c.tc : Thread Cert.DwMo.nD Cert.DwMo.τ).loc Cert.DwMo.main_arg0) = m ((c.tc : Thread Cert.DwMo.nD Cert.DwMo.τ).loc Cert.DwMo.main_arg0)
      ∧ r.2.mem ((c.tc : Thread Cert.DwMo.nD Cert.DwMo.τ).loc Cert.DwMo.main_arg1) = m ((c.tc : Thread Cert.DwMo.nD Cert.DwMo.τ).loc Cert.DwMo.main_arg1))
      ∧ r.2.sem = fun _ => 0)

def quiescent_DwMoIdeal [hDwMoIdeal : Cert.DwMoIdeal.Facts] : Prop :=
  ∀ (m : (ℓ : Loc Cert.DwMoIdeal.nD Cert.DwMoIdeal.τ Cert.DwMoIdeal.sig) → Buf (Elt Ideal) ℓ) (g : Dev Cert.DwMoIdeal.nD → PrngReg), Pre_DwMoIdeal m →
    θ_run (Cert.DwMoIdeal.defs (F := Ideal)) (onTc (τ := Cert.DwMoIdeal.τ) (Cert.DwMoIdeal.main (F := Ideal))) ⟨m, fun _ => 0, g⟩ (fun r => (∀ c : Dev Cert.DwMoIdeal.nD,
      r.2.mem ((c.tc : Thread Cert.DwMoIdeal.nD Cert.DwMoIdeal.τ).loc Cert.DwMoIdeal.main_arg0) = m ((c.tc : Thread Cert.DwMoIdeal.nD Cert.DwMoIdeal.τ).loc Cert.DwMoIdeal.main_arg0)
      ∧ r.2.mem ((c.tc : Thread Cert.DwMoIdeal.nD Cert.DwMoIdeal.τ).loc Cert.DwMoIdeal.main_arg1) = m ((c.tc : Thread Cert.DwMoIdeal.nD Cert.DwMoIdeal.τ).loc Cert.DwMoIdeal.main_arg1))
      ∧ r.2.sem = fun _ => 0)

def quiescent_RefMoIdeal [hRefMoIdeal : Cert.RefMoIdeal.Facts] : Prop :=
  ∀ (m : (ℓ : Loc Cert.RefMoIdeal.nD Cert.RefMoIdeal.τ Cert.RefMoIdeal.sig) → Buf (Elt Ideal) ℓ) (g : Dev Cert.RefMoIdeal.nD → PrngReg), Pre_RefMoIdeal m →
    θ_run (Cert.RefMoIdeal.defs (F := Ideal)) (onTc (τ := Cert.RefMoIdeal.τ) (Cert.RefMoIdeal.main (F := Ideal))) ⟨m, fun _ => 0, g⟩ (fun r => (∀ c : Dev Cert.RefMoIdeal.nD,
      r.2.mem ((c.tc : Thread Cert.RefMoIdeal.nD Cert.RefMoIdeal.τ).loc Cert.RefMoIdeal.main_arg0) = m ((c.tc : Thread Cert.RefMoIdeal.nD Cert.RefMoIdeal.τ).loc Cert.RefMoIdeal.main_arg0)
      ∧ r.2.mem ((c.tc : Thread Cert.RefMoIdeal.nD Cert.RefMoIdeal.τ).loc Cert.RefMoIdeal.main_arg1) = m ((c.tc : Thread Cert.RefMoIdeal.nD Cert.RefMoIdeal.τ).loc Cert.RefMoIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_RefXIdeal [hRefXIdeal : Cert.RefXIdeal.Facts] : Prop :=
  ∀ (m : (ℓ : Loc Cert.RefXIdeal.nD Cert.RefXIdeal.τ Cert.RefXIdeal.sig) → Buf (Elt Ideal) ℓ) (g : Dev Cert.RefXIdeal.nD → PrngReg), Pre_RefXIdeal m →
    θ_run (Cert.RefXIdeal.defs (F := Ideal)) (onTc (τ := Cert.RefXIdeal.τ) (Cert.RefXIdeal.main (F := Ideal))) ⟨m, fun _ => 0, g⟩ (fun r => (∀ c : Dev Cert.RefXIdeal.nD,
      r.2.mem ((c.tc : Thread Cert.RefXIdeal.nD Cert.RefXIdeal.τ).loc Cert.RefXIdeal.main_arg0) = m ((c.tc : Thread Cert.RefXIdeal.nD Cert.RefXIdeal.τ).loc Cert.RefXIdeal.main_arg0)
      ∧ r.2.mem ((c.tc : Thread Cert.RefXIdeal.nD Cert.RefXIdeal.τ).loc Cert.RefXIdeal.main_arg1) = m ((c.tc : Thread Cert.RefXIdeal.nD Cert.RefXIdeal.τ).loc Cert.RefXIdeal.main_arg1)
      ∧ r.2.mem ((c.tc : Thread Cert.RefXIdeal.nD Cert.RefXIdeal.τ).loc Cert.RefXIdeal.main_arg2) = m ((c.tc : Thread Cert.RefXIdeal.nD Cert.RefXIdeal.τ).loc Cert.RefXIdeal.main_arg2)
      ∧ r.2.mem ((c.tc : Thread Cert.RefXIdeal.nD Cert.RefXIdeal.τ).loc Cert.RefXIdeal.main_arg3) = m ((c.tc : Thread Cert.RefXIdeal.nD Cert.RefXIdeal.τ).loc Cert.RefXIdeal.main_arg3)
      ∧ r.2.mem ((c.tc : Thread Cert.RefXIdeal.nD Cert.RefXIdeal.τ).loc Cert.RefXIdeal.main_arg4) = m ((c.tc : Thread Cert.RefXIdeal.nD Cert.RefXIdeal.τ).loc Cert.RefXIdeal.main_arg4))
      ∧ r.2.sem = fun _ => 0)

def quiescent_BwdFfn [hBwdFfn : Cert.BwdFfn.Facts] : Prop :=
  ∀ (m : (ℓ : Loc Cert.BwdFfn.nD Cert.BwdFfn.τ Cert.BwdFfn.sig) → Buf (Elt Bits) ℓ) (g : Dev Cert.BwdFfn.nD → PrngReg), Pre_BwdFfn m →
    θ_run (Cert.BwdFfn.defs (F := Bits)) (onTc (τ := Cert.BwdFfn.τ) (Cert.BwdFfn.main (F := Bits))) ⟨m, fun _ => 0, g⟩ (fun r => (∀ c : Dev Cert.BwdFfn.nD,
      r.2.mem ((c.tc : Thread Cert.BwdFfn.nD Cert.BwdFfn.τ).loc Cert.BwdFfn.main_arg0) = m ((c.tc : Thread Cert.BwdFfn.nD Cert.BwdFfn.τ).loc Cert.BwdFfn.main_arg0)
      ∧ r.2.mem ((c.tc : Thread Cert.BwdFfn.nD Cert.BwdFfn.τ).loc Cert.BwdFfn.main_arg1) = m ((c.tc : Thread Cert.BwdFfn.nD Cert.BwdFfn.τ).loc Cert.BwdFfn.main_arg1)
      ∧ r.2.mem ((c.tc : Thread Cert.BwdFfn.nD Cert.BwdFfn.τ).loc Cert.BwdFfn.main_arg2) = m ((c.tc : Thread Cert.BwdFfn.nD Cert.BwdFfn.τ).loc Cert.BwdFfn.main_arg2)
      ∧ r.2.mem ((c.tc : Thread Cert.BwdFfn.nD Cert.BwdFfn.τ).loc Cert.BwdFfn.main_arg3) = m ((c.tc : Thread Cert.BwdFfn.nD Cert.BwdFfn.τ).loc Cert.BwdFfn.main_arg3)
      ∧ r.2.mem ((c.tc : Thread Cert.BwdFfn.nD Cert.BwdFfn.τ).loc Cert.BwdFfn.main_arg4) = m ((c.tc : Thread Cert.BwdFfn.nD Cert.BwdFfn.τ).loc Cert.BwdFfn.main_arg4))
      ∧ r.2.sem = fun _ => 0)

def quiescent_BwdFfnIdeal [hBwdFfnIdeal : Cert.BwdFfnIdeal.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg), Pre_BwdFfnIdeal m →
    θ_run (Cert.BwdFfnIdeal.defs (F := Ideal)) (onTc (τ := Cert.BwdFfnIdeal.τ) (Cert.BwdFfnIdeal.main (F := Ideal))) ⟨m, fun _ => 0, g⟩ (fun r => (∀ c : Dev Cert.BwdFfnIdeal.nD,
      r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
      ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
      ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
      ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3)
      ∧ r.2.mem ((c.tc : Thread Cert.BwdFfnIdeal.nD Cert.BwdFfnIdeal.τ).loc Cert.BwdFfnIdeal.main_arg4) = m ((c.tc : Thread Cert.BwdFfnIdeal.nD Cert.BwdFfnIdeal.τ).loc Cert.BwdFfnIdeal.main_arg4))
      ∧ r.2.sem = fun _ => 0)

def quiescent_BwdFfnIdeal_pre_all_finite [hBwdFfnIdeal : Cert.BwdFfnIdeal.Facts] [hPre_all_finite : Cert.Pre_all_finite.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg), Pre_BwdFfnIdeal_all_finite m →
    θ_run (Cert.BwdFfnIdeal.defs (F := Ideal)) (onTc (τ := Cert.BwdFfnIdeal.τ) (Cert.BwdFfnIdeal.main (F := Ideal))) ⟨m, fun _ => 0, g⟩ (fun r => (∀ c : Dev Cert.BwdFfnIdeal.nD,
      r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
      ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
      ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
      ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3)
      ∧ r.2.mem ((c.tc : Thread Cert.BwdFfnIdeal.nD Cert.BwdFfnIdeal.τ).loc Cert.BwdFfnIdeal.main_arg4) = m ((c.tc : Thread Cert.BwdFfnIdeal.nD Cert.BwdFfnIdeal.τ).loc Cert.BwdFfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_RefFfnIdeal_pre_all_finite [hRefFfnIdeal : Cert.RefFfnIdeal.Facts] [hPre_all_finite : Cert.Pre_all_finite.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal_all_finite m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_FwdFfn [hFwdFfn : Cert.FwdFfn.Facts] : Prop :=
  ∀ (m : (ℓ : Loc Cert.FwdFfn.nD Cert.FwdFfn.τ Cert.FwdFfn.sig) → Buf (Elt Bits) ℓ) (g : Dev Cert.FwdFfn.nD → PrngReg), Pre_FwdFfn m →
    θ_run (Cert.FwdFfn.defs (F := Bits)) (onTc (τ := Cert.FwdFfn.τ) (Cert.FwdFfn.main (F := Bits))) ⟨m, fun _ => 0, g⟩ (fun r => (∀ c : Dev Cert.FwdFfn.nD,
      r.2.mem ((c.tc : Thread Cert.FwdFfn.nD Cert.FwdFfn.τ).loc Cert.FwdFfn.main_arg0) = m ((c.tc : Thread Cert.FwdFfn.nD Cert.FwdFfn.τ).loc Cert.FwdFfn.main_arg0)
      ∧ r.2.mem ((c.tc : Thread Cert.FwdFfn.nD Cert.FwdFfn.τ).loc Cert.FwdFfn.main_arg1) = m ((c.tc : Thread Cert.FwdFfn.nD Cert.FwdFfn.τ).loc Cert.FwdFfn.main_arg1)
      ∧ r.2.mem ((c.tc : Thread Cert.FwdFfn.nD Cert.FwdFfn.τ).loc Cert.FwdFfn.main_arg2) = m ((c.tc : Thread Cert.FwdFfn.nD Cert.FwdFfn.τ).loc Cert.FwdFfn.main_arg2)
      ∧ r.2.mem ((c.tc : Thread Cert.FwdFfn.nD Cert.FwdFfn.τ).loc Cert.FwdFfn.main_arg3) = m ((c.tc : Thread Cert.FwdFfn.nD Cert.FwdFfn.τ).loc Cert.FwdFfn.main_arg3)
      ∧ r.2.mem ((c.tc : Thread Cert.FwdFfn.nD Cert.FwdFfn.τ).loc Cert.FwdFfn.main_arg4) = m ((c.tc : Thread Cert.FwdFfn.nD Cert.FwdFfn.τ).loc Cert.FwdFfn.main_arg4)
      ∧ r.2.mem ((c.tc : Thread Cert.FwdFfn.nD Cert.FwdFfn.τ).loc Cert.FwdFfn.main_arg5) = m ((c.tc : Thread Cert.FwdFfn.nD Cert.FwdFfn.τ).loc Cert.FwdFfn.main_arg5))
      ∧ r.2.sem = fun _ => 0)

def quiescent_FwdFfnIdeal [hFwdFfnIdeal : Cert.FwdFfnIdeal.Facts] : Prop :=
  ∀ (m : (ℓ : Loc Cert.FwdFfnIdeal.nD Cert.FwdFfnIdeal.τ Cert.FwdFfnIdeal.sig) → Buf (Elt Ideal) ℓ) (g : Dev Cert.FwdFfnIdeal.nD → PrngReg), Pre_FwdFfnIdeal m →
    θ_run (Cert.FwdFfnIdeal.defs (F := Ideal)) (onTc (τ := Cert.FwdFfnIdeal.τ) (Cert.FwdFfnIdeal.main (F := Ideal))) ⟨m, fun _ => 0, g⟩ (fun r => (∀ c : Dev Cert.FwdFfnIdeal.nD,
      r.2.mem ((c.tc : Thread Cert.FwdFfnIdeal.nD Cert.FwdFfnIdeal.τ).loc Cert.FwdFfnIdeal.main_arg0) = m ((c.tc : Thread Cert.FwdFfnIdeal.nD Cert.FwdFfnIdeal.τ).loc Cert.FwdFfnIdeal.main_arg0)
      ∧ r.2.mem ((c.tc : Thread Cert.FwdFfnIdeal.nD Cert.FwdFfnIdeal.τ).loc Cert.FwdFfnIdeal.main_arg1) = m ((c.tc : Thread Cert.FwdFfnIdeal.nD Cert.FwdFfnIdeal.τ).loc Cert.FwdFfnIdeal.main_arg1)
      ∧ r.2.mem ((c.tc : Thread Cert.FwdFfnIdeal.nD Cert.FwdFfnIdeal.τ).loc Cert.FwdFfnIdeal.main_arg2) = m ((c.tc : Thread Cert.FwdFfnIdeal.nD Cert.FwdFfnIdeal.τ).loc Cert.FwdFfnIdeal.main_arg2)
      ∧ r.2.mem ((c.tc : Thread Cert.FwdFfnIdeal.nD Cert.FwdFfnIdeal.τ).loc Cert.FwdFfnIdeal.main_arg3) = m ((c.tc : Thread Cert.FwdFfnIdeal.nD Cert.FwdFfnIdeal.τ).loc Cert.FwdFfnIdeal.main_arg3)
      ∧ r.2.mem ((c.tc : Thread Cert.FwdFfnIdeal.nD Cert.FwdFfnIdeal.τ).loc Cert.FwdFfnIdeal.main_arg4) = m ((c.tc : Thread Cert.FwdFfnIdeal.nD Cert.FwdFfnIdeal.τ).loc Cert.FwdFfnIdeal.main_arg4)
      ∧ r.2.mem ((c.tc : Thread Cert.FwdFfnIdeal.nD Cert.FwdFfnIdeal.τ).loc Cert.FwdFfnIdeal.main_arg5) = m ((c.tc : Thread Cert.FwdFfnIdeal.nD Cert.FwdFfnIdeal.τ).loc Cert.FwdFfnIdeal.main_arg5))
      ∧ r.2.sem = fun _ => 0)

def quiescent_RefLayerIdeal [hRefLayerIdeal : Cert.RefLayerIdeal.Facts] : Prop :=
  ∀ (m : (ℓ : Loc Cert.RefLayerIdeal.nD Cert.RefLayerIdeal.τ Cert.RefLayerIdeal.sig) → Buf (Elt Ideal) ℓ) (g : Dev Cert.RefLayerIdeal.nD → PrngReg), Pre_RefLayerIdeal m →
    θ_run (Cert.RefLayerIdeal.defs (F := Ideal)) (onTc (τ := Cert.RefLayerIdeal.τ) (Cert.RefLayerIdeal.main (F := Ideal))) ⟨m, fun _ => 0, g⟩ (fun r => (∀ c : Dev Cert.RefLayerIdeal.nD,
      r.2.mem ((c.tc : Thread Cert.RefLayerIdeal.nD Cert.RefLayerIdeal.τ).loc Cert.RefLayerIdeal.main_arg0) = m ((c.tc : Thread Cert.RefLayerIdeal.nD Cert.RefLayerIdeal.τ).loc Cert.RefLayerIdeal.main_arg0)
      ∧ r.2.mem ((c.tc : Thread Cert.RefLayerIdeal.nD Cert.RefLayerIdeal.τ).loc Cert.RefLayerIdeal.main_arg1) = m ((c.tc : Thread Cert.RefLayerIdeal.nD Cert.RefLayerIdeal.τ).loc Cert.RefLayerIdeal.main_arg1)
      ∧ r.2.mem ((c.tc : Thread Cert.RefLayerIdeal.nD Cert.RefLayerIdeal.τ).loc Cert.RefLayerIdeal.main_arg2) = m ((c.tc : Thread Cert.RefLayerIdeal.nD Cert.RefLayerIdeal.τ).loc Cert.RefLayerIdeal.main_arg2)
      ∧ r.2.mem ((c.tc : Thread Cert.RefLayerIdeal.nD Cert.RefLayerIdeal.τ).loc Cert.RefLayerIdeal.main_arg3) = m ((c.tc : Thread Cert.RefLayerIdeal.nD Cert.RefLayerIdeal.τ).loc Cert.RefLayerIdeal.main_arg3)
      ∧ r.2.mem ((c.tc : Thread Cert.RefLayerIdeal.nD Cert.RefLayerIdeal.τ).loc Cert.RefLayerIdeal.main_arg4) = m ((c.tc : Thread Cert.RefLayerIdeal.nD Cert.RefLayerIdeal.τ).loc Cert.RefLayerIdeal.main_arg4)
      ∧ r.2.mem ((c.tc : Thread Cert.RefLayerIdeal.nD Cert.RefLayerIdeal.τ).loc Cert.RefLayerIdeal.main_arg5) = m ((c.tc : Thread Cert.RefLayerIdeal.nD Cert.RefLayerIdeal.τ).loc Cert.RefLayerIdeal.main_arg5))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2)
      ∧ r.2.mem ((c.tc : Thread Cert.FwdIn.nD Cert.FwdIn.τ).loc Cert.FwdIn.main_arg3) = m ((c.tc : Thread Cert.FwdIn.nD Cert.FwdIn.τ).loc Cert.FwdIn.main_arg3))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
      ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18)
      ∧ r.2.mem ((c.tc : Thread Cert.Adam.nD Cert.Adam.τ).loc Cert.Adam.main_arg19) = m ((c.tc : Thread Cert.Adam.nD Cert.Adam.τ).loc Cert.Adam.main_arg19)
      ∧ r.2.mem ((c.tc : Thread Cert.Adam.nD Cert.Adam.τ).loc Cert.Adam.main_arg20) = m ((c.tc : Thread Cert.Adam.nD Cert.Adam.τ).loc Cert.Adam.main_arg20)
      ∧ r.2.mem ((c.tc : Thread Cert.Adam.nD Cert.Adam.τ).loc Cert.Adam.main_arg21) = m ((c.tc : Thread Cert.Adam.nD Cert.Adam.τ).loc Cert.Adam.main_arg21)
      ∧ r.2.mem ((c.tc : Thread Cert.Adam.nD Cert.Adam.τ).loc Cert.Adam.main_arg22) = m ((c.tc : Thread Cert.Adam.nD Cert.Adam.τ).loc Cert.Adam.main_arg22)
      ∧ r.2.mem ((c.tc : Thread Cert.Adam.nD Cert.Adam.τ).loc Cert.Adam.main_arg23) = m ((c.tc : Thread Cert.Adam.nD Cert.Adam.τ).loc Cert.Adam.main_arg23)
      ∧ r.2.mem ((c.tc : Thread Cert.Adam.nD Cert.Adam.τ).loc Cert.Adam.main_arg24) = m ((c.tc : Thread Cert.Adam.nD Cert.Adam.τ).loc Cert.Adam.main_arg24)
      ∧ r.2.mem ((c.tc : Thread Cert.Adam.nD Cert.Adam.τ).loc Cert.Adam.main_arg25) = m ((c.tc : Thread Cert.Adam.nD Cert.Adam.τ).loc Cert.Adam.main_arg25)
      ∧ r.2.mem ((c.tc : Thread Cert.Adam.nD Cert.Adam.τ).loc Cert.Adam.main_arg26) = m ((c.tc : Thread Cert.Adam.nD Cert.Adam.τ).loc Cert.Adam.main_arg26)
      ∧ r.2.mem ((c.tc : Thread Cert.Adam.nD Cert.Adam.τ).loc Cert.Adam.main_arg27) = m ((c.tc : Thread Cert.Adam.nD Cert.Adam.τ).loc Cert.Adam.main_arg27)
      ∧ r.2.mem ((c.tc : Thread Cert.Adam.nD Cert.Adam.τ).loc Cert.Adam.main_arg28) = m ((c.tc : Thread Cert.Adam.nD Cert.Adam.τ).loc Cert.Adam.main_arg28)
      ∧ r.2.mem ((c.tc : Thread Cert.Adam.nD Cert.Adam.τ).loc Cert.Adam.main_arg29) = m ((c.tc : Thread Cert.Adam.nD Cert.Adam.τ).loc Cert.Adam.main_arg29)
      ∧ r.2.mem ((c.tc : Thread Cert.Adam.nD Cert.Adam.τ).loc Cert.Adam.main_arg30) = m ((c.tc : Thread Cert.Adam.nD Cert.Adam.τ).loc Cert.Adam.main_arg30)
      ∧ r.2.mem ((c.tc : Thread Cert.Adam.nD Cert.Adam.τ).loc Cert.Adam.main_arg31) = m ((c.tc : Thread Cert.Adam.nD Cert.Adam.τ).loc Cert.Adam.main_arg31)
      ∧ r.2.mem ((c.tc : Thread Cert.Adam.nD Cert.Adam.τ).loc Cert.Adam.main_arg32) = m ((c.tc : Thread Cert.Adam.nD Cert.Adam.τ).loc Cert.Adam.main_arg32)
      ∧ r.2.mem ((c.tc : Thread Cert.Adam.nD Cert.Adam.τ).loc Cert.Adam.main_arg33) = m ((c.tc : Thread Cert.Adam.nD Cert.Adam.τ).loc Cert.Adam.main_arg33)
      ∧ r.2.mem ((c.tc : Thread Cert.Adam.nD Cert.Adam.τ).loc Cert.Adam.main_arg34) = m ((c.tc : Thread Cert.Adam.nD Cert.Adam.τ).loc Cert.Adam.main_arg34)
      ∧ r.2.mem ((c.tc : Thread Cert.Adam.nD Cert.Adam.τ).loc Cert.Adam.main_arg35) = m ((c.tc : Thread Cert.Adam.nD Cert.Adam.τ).loc Cert.Adam.main_arg35)
      ∧ r.2.mem ((c.tc : Thread Cert.Adam.nD Cert.Adam.τ).loc Cert.Adam.main_arg36) = m ((c.tc : Thread Cert.Adam.nD Cert.Adam.τ).loc Cert.Adam.main_arg36)
      ∧ r.2.mem ((c.tc : Thread Cert.Adam.nD Cert.Adam.τ).loc Cert.Adam.main_arg37) = m ((c.tc : Thread Cert.Adam.nD Cert.Adam.τ).loc Cert.Adam.main_arg37)
      ∧ r.2.mem ((c.tc : Thread Cert.Adam.nD Cert.Adam.τ).loc Cert.Adam.main_arg38) = m ((c.tc : Thread Cert.Adam.nD Cert.Adam.τ).loc Cert.Adam.main_arg38)
      ∧ r.2.mem ((c.tc : Thread Cert.Adam.nD Cert.Adam.τ).loc Cert.Adam.main_arg39) = m ((c.tc : Thread Cert.Adam.nD Cert.Adam.τ).loc Cert.Adam.main_arg39))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
      ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
      ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
      ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
      ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
      ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
      ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
      ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
      ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
      ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27)
      ∧ r.2.mem ((c.tc : Thread Cert.AdamIdeal.nD Cert.AdamIdeal.τ).loc Cert.AdamIdeal.main_arg28) = m ((c.tc : Thread Cert.AdamIdeal.nD Cert.AdamIdeal.τ).loc Cert.AdamIdeal.main_arg28)
      ∧ r.2.mem ((c.tc : Thread Cert.AdamIdeal.nD Cert.AdamIdeal.τ).loc Cert.AdamIdeal.main_arg29) = m ((c.tc : Thread Cert.AdamIdeal.nD Cert.AdamIdeal.τ).loc Cert.AdamIdeal.main_arg29)
      ∧ r.2.mem ((c.tc : Thread Cert.AdamIdeal.nD Cert.AdamIdeal.τ).loc Cert.AdamIdeal.main_arg30) = m ((c.tc : Thread Cert.AdamIdeal.nD Cert.AdamIdeal.τ).loc Cert.AdamIdeal.main_arg30)
      ∧ r.2.mem ((c.tc : Thread Cert.AdamIdeal.nD Cert.AdamIdeal.τ).loc Cert.AdamIdeal.main_arg31) = m ((c.tc : Thread Cert.AdamIdeal.nD Cert.AdamIdeal.τ).loc Cert.AdamIdeal.main_arg31)
      ∧ r.2.mem ((c.tc : Thread Cert.AdamIdeal.nD Cert.AdamIdeal.τ).loc Cert.AdamIdeal.main_arg32) = m ((c.tc : Thread Cert.AdamIdeal.nD Cert.AdamIdeal.τ).loc Cert.AdamIdeal.main_arg32)
      ∧ r.2.mem ((c.tc : Thread Cert.AdamIdeal.nD Cert.AdamIdeal.τ).loc Cert.AdamIdeal.main_arg33) = m ((c.tc : Thread Cert.AdamIdeal.nD Cert.AdamIdeal.τ).loc Cert.AdamIdeal.main_arg33)
      ∧ r.2.mem ((c.tc : Thread Cert.AdamIdeal.nD Cert.AdamIdeal.τ).loc Cert.AdamIdeal.main_arg34) = m ((c.tc : Thread Cert.AdamIdeal.nD Cert.AdamIdeal.τ).loc Cert.AdamIdeal.main_arg34)
      ∧ r.2.mem ((c.tc : Thread Cert.AdamIdeal.nD Cert.AdamIdeal.τ).loc Cert.AdamIdeal.main_arg35) = m ((c.tc : Thread Cert.AdamIdeal.nD Cert.AdamIdeal.τ).loc Cert.AdamIdeal.main_arg35)
      ∧ r.2.mem ((c.tc : Thread Cert.AdamIdeal.nD Cert.AdamIdeal.τ).loc Cert.AdamIdeal.main_arg36) = m ((c.tc : Thread Cert.AdamIdeal.nD Cert.AdamIdeal.τ).loc Cert.AdamIdeal.main_arg36)
      ∧ r.2.mem ((c.tc : Thread Cert.AdamIdeal.nD Cert.AdamIdeal.τ).loc Cert.AdamIdeal.main_arg37) = m ((c.tc : Thread Cert.AdamIdeal.nD Cert.AdamIdeal.τ).loc Cert.AdamIdeal.main_arg37)
      ∧ r.2.mem ((c.tc : Thread Cert.AdamIdeal.nD Cert.AdamIdeal.τ).loc Cert.AdamIdeal.main_arg38) = m ((c.tc : Thread Cert.AdamIdeal.nD Cert.AdamIdeal.τ).loc Cert.AdamIdeal.main_arg38)
      ∧ r.2.mem ((c.tc : Thread Cert.AdamIdeal.nD Cert.AdamIdeal.τ).loc Cert.AdamIdeal.main_arg39) = m ((c.tc : Thread Cert.AdamIdeal.nD Cert.AdamIdeal.τ).loc Cert.AdamIdeal.main_arg39))
      ∧ r.2.sem = fun _ => 0)

def quiescent_RefAIdeal [hRefAIdeal : Cert.RefAIdeal.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2)
      ∧ r.2.mem ((c.tc : Thread Cert.RefAIdeal.nD Cert.RefAIdeal.τ).loc Cert.RefAIdeal.main_arg3) = m ((c.tc : Thread Cert.RefAIdeal.nD Cert.RefAIdeal.τ).loc Cert.RefAIdeal.main_arg3)
      ∧ r.2.mem ((c.tc : Thread Cert.RefAIdeal.nD Cert.RefAIdeal.τ).loc Cert.RefAIdeal.main_arg4) = m ((c.tc : Thread Cert.RefAIdeal.nD Cert.RefAIdeal.τ).loc Cert.RefAIdeal.main_arg4)
      ∧ r.2.mem ((c.tc : Thread Cert.RefAIdeal.nD Cert.RefAIdeal.τ).loc Cert.RefAIdeal.main_arg5) = m ((c.tc : Thread Cert.RefAIdeal.nD Cert.RefAIdeal.τ).loc Cert.RefAIdeal.main_arg5)
      ∧ r.2.mem ((c.tc : Thread Cert.RefAIdeal.nD Cert.RefAIdeal.τ).loc Cert.RefAIdeal.main_arg6) = m ((c.tc : Thread Cert.RefAIdeal.nD Cert.RefAIdeal.τ).loc Cert.RefAIdeal.main_arg6)
      ∧ r.2.mem ((c.tc : Thread Cert.RefAIdeal.nD Cert.RefAIdeal.τ).loc Cert.RefAIdeal.main_arg7) = m ((c.tc : Thread Cert.RefAIdeal.nD Cert.RefAIdeal.τ).loc Cert.RefAIdeal.main_arg7)
      ∧ r.2.mem ((c.tc : Thread Cert.RefAIdeal.nD Cert.RefAIdeal.τ).loc Cert.RefAIdeal.main_arg8) = m ((c.tc : Thread Cert.RefAIdeal.nD Cert.RefAIdeal.τ).loc Cert.RefAIdeal.main_arg8)
      ∧ r.2.mem ((c.tc : Thread Cert.RefAIdeal.nD Cert.RefAIdeal.τ).loc Cert.RefAIdeal.main_arg9) = m ((c.tc : Thread Cert.RefAIdeal.nD Cert.RefAIdeal.τ).loc Cert.RefAIdeal.main_arg9)
      ∧ r.2.mem ((c.tc : Thread Cert.RefAIdeal.nD Cert.RefAIdeal.τ).loc Cert.RefAIdeal.main_arg10) = m ((c.tc : Thread Cert.RefAIdeal.nD Cert.RefAIdeal.τ).loc Cert.RefAIdeal.main_arg10)
      ∧ r.2.mem ((c.tc : Thread Cert.RefAIdeal.nD Cert.RefAIdeal.τ).loc Cert.RefAIdeal.main_arg11) = m ((c.tc : Thread Cert.RefAIdeal.nD Cert.RefAIdeal.τ).loc Cert.RefAIdeal.main_arg11)
      ∧ r.2.mem ((c.tc : Thread Cert.RefAIdeal.nD Cert.RefAIdeal.τ).loc Cert.RefAIdeal.main_arg12) = m ((c.tc : Thread Cert.RefAIdeal.nD Cert.RefAIdeal.τ).loc Cert.RefAIdeal.main_arg12)
      ∧ r.2.mem ((c.tc : Thread Cert.RefAIdeal.nD Cert.RefAIdeal.τ).loc Cert.RefAIdeal.main_arg13) = m ((c.tc : Thread Cert.RefAIdeal.nD Cert.RefAIdeal.τ).loc Cert.RefAIdeal.main_arg13)
      ∧ r.2.mem ((c.tc : Thread Cert.RefAIdeal.nD Cert.RefAIdeal.τ).loc Cert.RefAIdeal.main_arg14) = m ((c.tc : Thread Cert.RefAIdeal.nD Cert.RefAIdeal.τ).loc Cert.RefAIdeal.main_arg14)
      ∧ r.2.mem ((c.tc : Thread Cert.RefAIdeal.nD Cert.RefAIdeal.τ).loc Cert.RefAIdeal.main_arg15) = m ((c.tc : Thread Cert.RefAIdeal.nD Cert.RefAIdeal.τ).loc Cert.RefAIdeal.main_arg15)
      ∧ r.2.mem ((c.tc : Thread Cert.RefAIdeal.nD Cert.RefAIdeal.τ).loc Cert.RefAIdeal.main_arg16) = m ((c.tc : Thread Cert.RefAIdeal.nD Cert.RefAIdeal.τ).loc Cert.RefAIdeal.main_arg16)
      ∧ r.2.mem ((c.tc : Thread Cert.RefAIdeal.nD Cert.RefAIdeal.τ).loc Cert.RefAIdeal.main_arg17) = m ((c.tc : Thread Cert.RefAIdeal.nD Cert.RefAIdeal.τ).loc Cert.RefAIdeal.main_arg17)
      ∧ r.2.mem ((c.tc : Thread Cert.RefAIdeal.nD Cert.RefAIdeal.τ).loc Cert.RefAIdeal.main_arg18) = m ((c.tc : Thread Cert.RefAIdeal.nD Cert.RefAIdeal.τ).loc Cert.RefAIdeal.main_arg18)
      ∧ r.2.mem ((c.tc : Thread Cert.RefAIdeal.nD Cert.RefAIdeal.τ).loc Cert.RefAIdeal.main_arg19) = m ((c.tc : Thread Cert.RefAIdeal.nD Cert.RefAIdeal.τ).loc Cert.RefAIdeal.main_arg19)
      ∧ r.2.mem ((c.tc : Thread Cert.RefAIdeal.nD Cert.RefAIdeal.τ).loc Cert.RefAIdeal.main_arg20) = m ((c.tc : Thread Cert.RefAIdeal.nD Cert.RefAIdeal.τ).loc Cert.RefAIdeal.main_arg20)
      ∧ r.2.mem ((c.tc : Thread Cert.RefAIdeal.nD Cert.RefAIdeal.τ).loc Cert.RefAIdeal.main_arg21) = m ((c.tc : Thread Cert.RefAIdeal.nD Cert.RefAIdeal.τ).loc Cert.RefAIdeal.main_arg21)
      ∧ r.2.mem ((c.tc : Thread Cert.RefAIdeal.nD Cert.RefAIdeal.τ).loc Cert.RefAIdeal.main_arg22) = m ((c.tc : Thread Cert.RefAIdeal.nD Cert.RefAIdeal.τ).loc Cert.RefAIdeal.main_arg22)
      ∧ r.2.mem ((c.tc : Thread Cert.RefAIdeal.nD Cert.RefAIdeal.τ).loc Cert.RefAIdeal.main_arg23) = m ((c.tc : Thread Cert.RefAIdeal.nD Cert.RefAIdeal.τ).loc Cert.RefAIdeal.main_arg23)
      ∧ r.2.mem ((c.tc : Thread Cert.RefAIdeal.nD Cert.RefAIdeal.τ).loc Cert.RefAIdeal.main_arg24) = m ((c.tc : Thread Cert.RefAIdeal.nD Cert.RefAIdeal.τ).loc Cert.RefAIdeal.main_arg24)
      ∧ r.2.mem ((c.tc : Thread Cert.RefAIdeal.nD Cert.RefAIdeal.τ).loc Cert.RefAIdeal.main_arg25) = m ((c.tc : Thread Cert.RefAIdeal.nD Cert.RefAIdeal.τ).loc Cert.RefAIdeal.main_arg25)
      ∧ r.2.mem ((c.tc : Thread Cert.RefAIdeal.nD Cert.RefAIdeal.τ).loc Cert.RefAIdeal.main_arg26) = m ((c.tc : Thread Cert.RefAIdeal.nD Cert.RefAIdeal.τ).loc Cert.RefAIdeal.main_arg26)
      ∧ r.2.mem ((c.tc : Thread Cert.RefAIdeal.nD Cert.RefAIdeal.τ).loc Cert.RefAIdeal.main_arg27) = m ((c.tc : Thread Cert.RefAIdeal.nD Cert.RefAIdeal.τ).loc Cert.RefAIdeal.main_arg27)
      ∧ r.2.mem ((c.tc : Thread Cert.RefAIdeal.nD Cert.RefAIdeal.τ).loc Cert.RefAIdeal.main_arg28) = m ((c.tc : Thread Cert.RefAIdeal.nD Cert.RefAIdeal.τ).loc Cert.RefAIdeal.main_arg28)
      ∧ r.2.mem ((c.tc : Thread Cert.RefAIdeal.nD Cert.RefAIdeal.τ).loc Cert.RefAIdeal.main_arg29) = m ((c.tc : Thread Cert.RefAIdeal.nD Cert.RefAIdeal.τ).loc Cert.RefAIdeal.main_arg29)
      ∧ r.2.mem ((c.tc : Thread Cert.RefAIdeal.nD Cert.RefAIdeal.τ).loc Cert.RefAIdeal.main_arg30) = m ((c.tc : Thread Cert.RefAIdeal.nD Cert.RefAIdeal.τ).loc Cert.RefAIdeal.main_arg30)
      ∧ r.2.mem ((c.tc : Thread Cert.RefAIdeal.nD Cert.RefAIdeal.τ).loc Cert.RefAIdeal.main_arg31) = m ((c.tc : Thread Cert.RefAIdeal.nD Cert.RefAIdeal.τ).loc Cert.RefAIdeal.main_arg31)
      ∧ r.2.mem ((c.tc : Thread Cert.RefAIdeal.nD Cert.RefAIdeal.τ).loc Cert.RefAIdeal.main_arg32) = m ((c.tc : Thread Cert.RefAIdeal.nD Cert.RefAIdeal.τ).loc Cert.RefAIdeal.main_arg32)
      ∧ r.2.mem ((c.tc : Thread Cert.RefAIdeal.nD Cert.RefAIdeal.τ).loc Cert.RefAIdeal.main_arg33) = m ((c.tc : Thread Cert.RefAIdeal.nD Cert.RefAIdeal.τ).loc Cert.RefAIdeal.main_arg33)
      ∧ r.2.mem ((c.tc : Thread Cert.RefAIdeal.nD Cert.RefAIdeal.τ).loc Cert.RefAIdeal.main_arg34) = m ((c.tc : Thread Cert.RefAIdeal.nD Cert.RefAIdeal.τ).loc Cert.RefAIdeal.main_arg34)
      ∧ r.2.mem ((c.tc : Thread Cert.RefAIdeal.nD Cert.RefAIdeal.τ).loc Cert.RefAIdeal.main_arg35) = m ((c.tc : Thread Cert.RefAIdeal.nD Cert.RefAIdeal.τ).loc Cert.RefAIdeal.main_arg35)
      ∧ r.2.mem ((c.tc : Thread Cert.RefAIdeal.nD Cert.RefAIdeal.τ).loc Cert.RefAIdeal.main_arg36) = m ((c.tc : Thread Cert.RefAIdeal.nD Cert.RefAIdeal.τ).loc Cert.RefAIdeal.main_arg36)
      ∧ r.2.mem ((c.tc : Thread Cert.RefAIdeal.nD Cert.RefAIdeal.τ).loc Cert.RefAIdeal.main_arg37) = m ((c.tc : Thread Cert.RefAIdeal.nD Cert.RefAIdeal.τ).loc Cert.RefAIdeal.main_arg37)
      ∧ r.2.mem ((c.tc : Thread Cert.RefAIdeal.nD Cert.RefAIdeal.τ).loc Cert.RefAIdeal.main_arg38) = m ((c.tc : Thread Cert.RefAIdeal.nD Cert.RefAIdeal.τ).loc Cert.RefAIdeal.main_arg38)
      ∧ r.2.mem ((c.tc : Thread Cert.RefAIdeal.nD Cert.RefAIdeal.τ).loc Cert.RefAIdeal.main_arg39) = m ((c.tc : Thread Cert.RefAIdeal.nD Cert.RefAIdeal.τ).loc Cert.RefAIdeal.main_arg39))
      ∧ r.2.sem = fun _ => 0)

def preserves_Kernel_KernelIdeal : Prop :=
  True

def preserves_DwGu_DwGuIdeal : Prop :=
  True

def algebraic_DwGuIdeal_RefGuIdeal [hDwGuIdeal : Cert.DwGuIdeal.Facts] [hRefGuIdeal : Cert.RefGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg)
    (m' : (ℓ : Loc Cert.RefGuIdeal.nD Cert.RefGuIdeal.τ Cert.RefGuIdeal.sig) → Buf (Elt Ideal) ℓ) (g' : Dev Cert.RefGuIdeal.nD → PrngReg), Pre_DwGuIdeal m →
    (∀ c : Dev Cert.DwGuIdeal.nD,
      m' ((c.tc : Thread Cert.RefGuIdeal.nD Cert.RefGuIdeal.τ).loc Cert.RefGuIdeal.main_arg0) = m ((c.tc : Thread Cert.DwGuIdeal.nD Cert.DwGuIdeal.τ).loc Cert.DwGuIdeal.main_arg0)
      ∧ m' ((c.tc : Thread Cert.RefGuIdeal.nD Cert.RefGuIdeal.τ).loc Cert.RefGuIdeal.main_arg1) = m ((c.tc : Thread Cert.DwGuIdeal.nD Cert.DwGuIdeal.τ).loc Cert.DwGuIdeal.main_arg1)) →
    ∃ (v0 : (c : Dev Cert.DwGuIdeal.nD) → Buf (Elt Ideal) ((c.tc : Thread Cert.DwGuIdeal.nD Cert.DwGuIdeal.τ).loc Cert.DwGuIdeal.main_v0)),
      θ_run (Cert.DwGuIdeal.defs (F := Ideal)) (onTc (τ := Cert.DwGuIdeal.τ) (Cert.DwGuIdeal.main (F := Ideal))) ⟨m, fun _ => 0, g⟩ (fun r => ∀ c : Dev Cert.DwGuIdeal.nD,
          r.2.mem ((c.tc : Thread Cert.DwGuIdeal.nD Cert.DwGuIdeal.τ).loc Cert.DwGuIdeal.main_v0) = v0 c
          ∧ r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
          ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ θ_run (Cert.RefGuIdeal.defs (F := Ideal)) (onTc (τ := Cert.RefGuIdeal.τ) (Cert.RefGuIdeal.main (F := Ideal))) ⟨m', fun _ => 0, g'⟩ (fun r => ∀ c : Dev Cert.RefGuIdeal.nD,
          r.2.mem ((c.tc : Thread Cert.RefGuIdeal.nD Cert.RefGuIdeal.τ).loc Cert.RefGuIdeal.main_v7) = v0 c
          ∧ r.2.mem ((c.tc : Thread Cert.RefGuIdeal.nD Cert.RefGuIdeal.τ).loc Cert.RefGuIdeal.main_arg0) = m' ((c.tc : Thread Cert.RefGuIdeal.nD Cert.RefGuIdeal.τ).loc Cert.RefGuIdeal.main_arg0)
          ∧ r.2.mem ((c.tc : Thread Cert.RefGuIdeal.nD Cert.RefGuIdeal.τ).loc Cert.RefGuIdeal.main_arg1) = m' ((c.tc : Thread Cert.RefGuIdeal.nD Cert.RefGuIdeal.τ).loc Cert.RefGuIdeal.main_arg1))

def preserves_DwDown_DwDownIdeal : Prop :=
  True

def algebraic_DwDownIdeal_RefDownIdeal [hDwDownIdeal : Cert.DwDownIdeal.Facts] [hRefDownIdeal : Cert.RefDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DwDownIdeal m →
    (∀ c : Dev Cert.DwDownIdeal.nD,
      m' ((c.tc : Thread Cert.RefDownIdeal.nD Cert.RefDownIdeal.τ).loc Cert.RefDownIdeal.main_arg0) = m ((c.tc : Thread Cert.DwDownIdeal.nD Cert.DwDownIdeal.τ).loc Cert.DwDownIdeal.main_arg0)
      ∧ m' ((c.tc : Thread Cert.RefDownIdeal.nD Cert.RefDownIdeal.τ).loc Cert.RefDownIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v4) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_DwOut_DwOutIdeal : Prop :=
  True

def algebraic_DwOutIdeal_RefOutIdeal [hDwOutIdeal : Cert.DwOutIdeal.Facts] [hRefOutIdeal : Cert.RefOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_DwOutIdeal m →
    (∀ c : Dev Cert.DwOutIdeal.nD,
      m' ((c.tc : Thread Cert.RefOutIdeal.nD Cert.RefOutIdeal.τ).loc Cert.RefOutIdeal.main_arg0) = m ((c.tc : Thread Cert.DwOutIdeal.nD Cert.DwOutIdeal.τ).loc Cert.DwOutIdeal.main_arg0)
      ∧ m' ((c.tc : Thread Cert.RefOutIdeal.nD Cert.RefOutIdeal.τ).loc Cert.RefOutIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v4) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1))

def preserves_DwMq_DwMqIdeal : Prop :=
  True

def algebraic_DwMqIdeal_RefMqIdeal [hDwMqIdeal : Cert.DwMqIdeal.Facts] [hRefMqIdeal : Cert.RefMqIdeal.Facts] : Prop :=
  ∀ (m : (ℓ : Loc Cert.DwMqIdeal.nD Cert.DwMqIdeal.τ Cert.DwMqIdeal.sig) → Buf (Elt Ideal) ℓ) (g : Dev Cert.DwMqIdeal.nD → PrngReg)
    (m' : (ℓ : Loc Cert.RefMqIdeal.nD Cert.RefMqIdeal.τ Cert.RefMqIdeal.sig) → Buf (Elt Ideal) ℓ) (g' : Dev Cert.RefMqIdeal.nD → PrngReg), Pre_DwMqIdeal m →
    (∀ c : Dev Cert.DwMqIdeal.nD,
      m' ((c.tc : Thread Cert.RefMqIdeal.nD Cert.RefMqIdeal.τ).loc Cert.RefMqIdeal.main_arg0) = m ((c.tc : Thread Cert.DwMqIdeal.nD Cert.DwMqIdeal.τ).loc Cert.DwMqIdeal.main_arg0)
      ∧ m' ((c.tc : Thread Cert.RefMqIdeal.nD Cert.RefMqIdeal.τ).loc Cert.RefMqIdeal.main_arg1) = m ((c.tc : Thread Cert.DwMqIdeal.nD Cert.DwMqIdeal.τ).loc Cert.DwMqIdeal.main_arg1)) →
    ∃ (v0 : (c : Dev Cert.DwMqIdeal.nD) → Buf (Elt Ideal) ((c.tc : Thread Cert.DwMqIdeal.nD Cert.DwMqIdeal.τ).loc Cert.DwMqIdeal.main_v0)),
      θ_run (Cert.DwMqIdeal.defs (F := Ideal)) (onTc (τ := Cert.DwMqIdeal.τ) (Cert.DwMqIdeal.main (F := Ideal))) ⟨m, fun _ => 0, g⟩ (fun r => ∀ c : Dev Cert.DwMqIdeal.nD,
          r.2.mem ((c.tc : Thread Cert.DwMqIdeal.nD Cert.DwMqIdeal.τ).loc Cert.DwMqIdeal.main_v0) = v0 c
          ∧ r.2.mem ((c.tc : Thread Cert.DwMqIdeal.nD Cert.DwMqIdeal.τ).loc Cert.DwMqIdeal.main_arg0) = m ((c.tc : Thread Cert.DwMqIdeal.nD Cert.DwMqIdeal.τ).loc Cert.DwMqIdeal.main_arg0)
          ∧ r.2.mem ((c.tc : Thread Cert.DwMqIdeal.nD Cert.DwMqIdeal.τ).loc Cert.DwMqIdeal.main_arg1) = m ((c.tc : Thread Cert.DwMqIdeal.nD Cert.DwMqIdeal.τ).loc Cert.DwMqIdeal.main_arg1))
      ∧ θ_run (Cert.RefMqIdeal.defs (F := Ideal)) (onTc (τ := Cert.RefMqIdeal.τ) (Cert.RefMqIdeal.main (F := Ideal))) ⟨m', fun _ => 0, g'⟩ (fun r => ∀ c : Dev Cert.RefMqIdeal.nD,
          r.2.mem ((c.tc : Thread Cert.RefMqIdeal.nD Cert.RefMqIdeal.τ).loc Cert.RefMqIdeal.main_v5) = v0 c
          ∧ r.2.mem ((c.tc : Thread Cert.RefMqIdeal.nD Cert.RefMqIdeal.τ).loc Cert.RefMqIdeal.main_arg0) = m' ((c.tc : Thread Cert.RefMqIdeal.nD Cert.RefMqIdeal.τ).loc Cert.RefMqIdeal.main_arg0)
          ∧ r.2.mem ((c.tc : Thread Cert.RefMqIdeal.nD Cert.RefMqIdeal.τ).loc Cert.RefMqIdeal.main_arg1) = m' ((c.tc : Thread Cert.RefMqIdeal.nD Cert.RefMqIdeal.τ).loc Cert.RefMqIdeal.main_arg1))

def preserves_DwMo_DwMoIdeal : Prop :=
  True

def algebraic_DwMoIdeal_RefMoIdeal [hDwMoIdeal : Cert.DwMoIdeal.Facts] [hRefMoIdeal : Cert.RefMoIdeal.Facts] : Prop :=
  ∀ (m : (ℓ : Loc Cert.DwMoIdeal.nD Cert.DwMoIdeal.τ Cert.DwMoIdeal.sig) → Buf (Elt Ideal) ℓ) (g : Dev Cert.DwMoIdeal.nD → PrngReg)
    (m' : (ℓ : Loc Cert.RefMoIdeal.nD Cert.RefMoIdeal.τ Cert.RefMoIdeal.sig) → Buf (Elt Ideal) ℓ) (g' : Dev Cert.RefMoIdeal.nD → PrngReg), Pre_DwMoIdeal m →
    (∀ c : Dev Cert.DwMoIdeal.nD,
      m' ((c.tc : Thread Cert.RefMoIdeal.nD Cert.RefMoIdeal.τ).loc Cert.RefMoIdeal.main_arg0) = m ((c.tc : Thread Cert.DwMoIdeal.nD Cert.DwMoIdeal.τ).loc Cert.DwMoIdeal.main_arg0)
      ∧ m' ((c.tc : Thread Cert.RefMoIdeal.nD Cert.RefMoIdeal.τ).loc Cert.RefMoIdeal.main_arg1) = m ((c.tc : Thread Cert.DwMoIdeal.nD Cert.DwMoIdeal.τ).loc Cert.DwMoIdeal.main_arg1)) →
    ∃ (v0 : (c : Dev Cert.DwMoIdeal.nD) → Buf (Elt Ideal) ((c.tc : Thread Cert.DwMoIdeal.nD Cert.DwMoIdeal.τ).loc Cert.DwMoIdeal.main_v0)),
      θ_run (Cert.DwMoIdeal.defs (F := Ideal)) (onTc (τ := Cert.DwMoIdeal.τ) (Cert.DwMoIdeal.main (F := Ideal))) ⟨m, fun _ => 0, g⟩ (fun r => ∀ c : Dev Cert.DwMoIdeal.nD,
          r.2.mem ((c.tc : Thread Cert.DwMoIdeal.nD Cert.DwMoIdeal.τ).loc Cert.DwMoIdeal.main_v0) = v0 c
          ∧ r.2.mem ((c.tc : Thread Cert.DwMoIdeal.nD Cert.DwMoIdeal.τ).loc Cert.DwMoIdeal.main_arg0) = m ((c.tc : Thread Cert.DwMoIdeal.nD Cert.DwMoIdeal.τ).loc Cert.DwMoIdeal.main_arg0)
          ∧ r.2.mem ((c.tc : Thread Cert.DwMoIdeal.nD Cert.DwMoIdeal.τ).loc Cert.DwMoIdeal.main_arg1) = m ((c.tc : Thread Cert.DwMoIdeal.nD Cert.DwMoIdeal.τ).loc Cert.DwMoIdeal.main_arg1))
      ∧ θ_run (Cert.RefMoIdeal.defs (F := Ideal)) (onTc (τ := Cert.RefMoIdeal.τ) (Cert.RefMoIdeal.main (F := Ideal))) ⟨m', fun _ => 0, g'⟩ (fun r => ∀ c : Dev Cert.RefMoIdeal.nD,
          r.2.mem ((c.tc : Thread Cert.RefMoIdeal.nD Cert.RefMoIdeal.τ).loc Cert.RefMoIdeal.main_v4) = v0 c
          ∧ r.2.mem ((c.tc : Thread Cert.RefMoIdeal.nD Cert.RefMoIdeal.τ).loc Cert.RefMoIdeal.main_arg0) = m' ((c.tc : Thread Cert.RefMoIdeal.nD Cert.RefMoIdeal.τ).loc Cert.RefMoIdeal.main_arg0)
          ∧ r.2.mem ((c.tc : Thread Cert.RefMoIdeal.nD Cert.RefMoIdeal.τ).loc Cert.RefMoIdeal.main_arg1) = m' ((c.tc : Thread Cert.RefMoIdeal.nD Cert.RefMoIdeal.τ).loc Cert.RefMoIdeal.main_arg1))

def preserves_DwIn_DwInIdeal : Prop :=
  True

def algebraic_DwInIdeal_RefInIdeal [hDwInIdeal : Cert.DwInIdeal.Facts] [hRefInIdeal : Cert.RefInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.RefInIdeal.nD Cert.RefInIdeal.τ Cert.RefInIdeal.sig) → Buf (Elt Ideal) ℓ) (g' : Dev Cert.RefInIdeal.nD → PrngReg), Pre_DwInIdeal m →
    (∀ c : Dev Cert.DwInIdeal.nD,
      m' ((c.tc : Thread Cert.RefInIdeal.nD Cert.RefInIdeal.τ).loc Cert.RefInIdeal.main_arg0) = m ((c.tc : Thread Cert.DwInIdeal.nD Cert.DwInIdeal.τ).loc Cert.DwInIdeal.main_arg0)
      ∧ m' ((c.tc : Thread Cert.RefInIdeal.nD Cert.RefInIdeal.τ).loc Cert.RefInIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v7) = v0 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1))

def preserves_BwdIn_BwdInIdeal : Prop :=
  True

def algebraic_BwdInIdeal_RefXIdeal [hBwdInIdeal : Cert.BwdInIdeal.Facts] [hRefXIdeal : Cert.RefXIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.RefXIdeal.nD Cert.RefXIdeal.τ Cert.RefXIdeal.sig) → Buf (Elt Ideal) ℓ) (g' : Dev Cert.RefXIdeal.nD → PrngReg), Pre_BwdInIdeal m →
    (∀ c : Dev Cert.BwdInIdeal.nD,
      m' ((c.tc : Thread Cert.RefXIdeal.nD Cert.RefXIdeal.τ).loc Cert.RefXIdeal.main_arg0) = m ((c.tc : Thread Cert.BwdInIdeal.nD Cert.BwdInIdeal.τ).loc Cert.BwdInIdeal.main_arg0)
      ∧ m' ((c.tc : Thread Cert.RefXIdeal.nD Cert.RefXIdeal.τ).loc Cert.RefXIdeal.main_arg1) = m ((c.tc : Thread Cert.BwdInIdeal.nD Cert.BwdInIdeal.τ).loc Cert.BwdInIdeal.main_arg1)
      ∧ m' ((c.tc : Thread Cert.RefXIdeal.nD Cert.RefXIdeal.τ).loc Cert.RefXIdeal.main_arg2) = m ((c.tc : Thread Cert.BwdInIdeal.nD Cert.BwdInIdeal.τ).loc Cert.BwdInIdeal.main_arg2)
      ∧ m' ((c.tc : Thread Cert.RefXIdeal.nD Cert.RefXIdeal.τ).loc Cert.RefXIdeal.main_arg3) = m ((c.tc : Thread Cert.BwdInIdeal.nD Cert.BwdInIdeal.τ).loc Cert.BwdInIdeal.main_arg3)
      ∧ m' ((c.tc : Thread Cert.RefXIdeal.nD Cert.RefXIdeal.τ).loc Cert.RefXIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v7_0)) (v1 : (c : Dev Cert.BwdInIdeal.nD) → Buf (Elt Ideal) ((c.tc : Thread Cert.BwdInIdeal.nD Cert.BwdInIdeal.τ).loc Cert.BwdInIdeal.main_v7_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v7_0) = v0 c
          ∧ r.2.mem ((c.tc : Thread Cert.BwdInIdeal.nD Cert.BwdInIdeal.τ).loc Cert.BwdInIdeal.main_v7_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.RefXIdeal.defs (F := Ideal)) (onTc (τ := Cert.RefXIdeal.τ) (Cert.RefXIdeal.main (F := Ideal))) ⟨m', fun _ => 0, g'⟩ (fun r => ∀ c : Dev Cert.RefXIdeal.nD,
          r.2.mem ((c.tc : Thread Cert.RefXIdeal.nD Cert.RefXIdeal.τ).loc Cert.RefXIdeal.main_v38) = v0 c
          ∧ r.2.mem ((c.tc : Thread Cert.RefXIdeal.nD Cert.RefXIdeal.τ).loc Cert.RefXIdeal.main_v39) = v1 c
          ∧ r.2.mem ((c.tc : Thread Cert.RefXIdeal.nD Cert.RefXIdeal.τ).loc Cert.RefXIdeal.main_arg0) = m' ((c.tc : Thread Cert.RefXIdeal.nD Cert.RefXIdeal.τ).loc Cert.RefXIdeal.main_arg0)
          ∧ r.2.mem ((c.tc : Thread Cert.RefXIdeal.nD Cert.RefXIdeal.τ).loc Cert.RefXIdeal.main_arg1) = m' ((c.tc : Thread Cert.RefXIdeal.nD Cert.RefXIdeal.τ).loc Cert.RefXIdeal.main_arg1)
          ∧ r.2.mem ((c.tc : Thread Cert.RefXIdeal.nD Cert.RefXIdeal.τ).loc Cert.RefXIdeal.main_arg2) = m' ((c.tc : Thread Cert.RefXIdeal.nD Cert.RefXIdeal.τ).loc Cert.RefXIdeal.main_arg2)
          ∧ r.2.mem ((c.tc : Thread Cert.RefXIdeal.nD Cert.RefXIdeal.τ).loc Cert.RefXIdeal.main_arg3) = m' ((c.tc : Thread Cert.RefXIdeal.nD Cert.RefXIdeal.τ).loc Cert.RefXIdeal.main_arg3)
          ∧ r.2.mem ((c.tc : Thread Cert.RefXIdeal.nD Cert.RefXIdeal.τ).loc Cert.RefXIdeal.main_arg4) = m' ((c.tc : Thread Cert.RefXIdeal.nD Cert.RefXIdeal.τ).loc Cert.RefXIdeal.main_arg4))

def preserves_BwdFfn_BwdFfnIdeal : Prop :=
  True

def algebraic_BwdFfnIdeal_RefFfnIdeal_pre_all_finite [hBwdFfnIdeal : Cert.BwdFfnIdeal.Facts] [hRefFfnIdeal : Cert.RefFfnIdeal.Facts] [hPre_all_finite : Cert.Pre_all_finite.Facts] : Prop :=
  ∀ (m : (ℓ : Loc Cert.BwdFfnIdeal.nD Cert.BwdFfnIdeal.τ Cert.BwdFfnIdeal.sig) → Buf (Elt Ideal) ℓ) (g : Dev Cert.BwdFfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_BwdFfnIdeal_all_finite m →
    (∀ c : Dev Cert.BwdFfnIdeal.nD,
      m' ((c.tc : Thread Cert.RefFfnIdeal.nD Cert.RefFfnIdeal.τ).loc Cert.RefFfnIdeal.main_arg0) = m ((c.tc : Thread Cert.BwdFfnIdeal.nD Cert.BwdFfnIdeal.τ).loc Cert.BwdFfnIdeal.main_arg0)
      ∧ m' ((c.tc : Thread Cert.RefFfnIdeal.nD Cert.RefFfnIdeal.τ).loc Cert.RefFfnIdeal.main_arg1) = m ((c.tc : Thread Cert.BwdFfnIdeal.nD Cert.BwdFfnIdeal.τ).loc Cert.BwdFfnIdeal.main_arg1)
      ∧ m' ((c.tc : Thread Cert.RefFfnIdeal.nD Cert.RefFfnIdeal.τ).loc Cert.RefFfnIdeal.main_arg2) = m ((c.tc : Thread Cert.BwdFfnIdeal.nD Cert.BwdFfnIdeal.τ).loc Cert.BwdFfnIdeal.main_arg2)
      ∧ m' ((c.tc : Thread Cert.RefFfnIdeal.nD Cert.RefFfnIdeal.τ).loc Cert.RefFfnIdeal.main_arg3) = m ((c.tc : Thread Cert.BwdFfnIdeal.nD Cert.BwdFfnIdeal.τ).loc Cert.BwdFfnIdeal.main_arg3)
      ∧ m' ((c.tc : Thread Cert.RefFfnIdeal.nD Cert.RefFfnIdeal.τ).loc Cert.RefFfnIdeal.main_arg4) = m ((c.tc : Thread Cert.BwdFfnIdeal.nD Cert.BwdFfnIdeal.τ).loc Cert.BwdFfnIdeal.main_arg4)) →
    ∃ (v0 : (c : Dev Cert.BwdFfnIdeal.nD) → Buf (Elt Ideal) ((c.tc : Thread Cert.BwdFfnIdeal.nD Cert.BwdFfnIdeal.τ).loc Cert.BwdFfnIdeal.main_v19_0)) (v1 : (c : Dev Cert.BwdFfnIdeal.nD) → Buf (Elt Ideal) ((c.tc : Thread Cert.BwdFfnIdeal.nD Cert.BwdFfnIdeal.τ).loc Cert.BwdFfnIdeal.main_v19_1)) (v2 : (c : Dev Cert.BwdFfnIdeal.nD) → Buf (Elt Ideal) ((c.tc : Thread Cert.BwdFfnIdeal.nD Cert.BwdFfnIdeal.τ).loc Cert.BwdFfnIdeal.main_v19_2)),
      θ_run (Cert.BwdFfnIdeal.defs (F := Ideal)) (onTc (τ := Cert.BwdFfnIdeal.τ) (Cert.BwdFfnIdeal.main (F := Ideal))) ⟨m, fun _ => 0, g⟩ (fun r => ∀ c : Dev Cert.BwdFfnIdeal.nD,
          r.2.mem ((c.tc : Thread Cert.BwdFfnIdeal.nD Cert.BwdFfnIdeal.τ).loc Cert.BwdFfnIdeal.main_v19_0) = v0 c
          ∧ r.2.mem ((c.tc : Thread Cert.BwdFfnIdeal.nD Cert.BwdFfnIdeal.τ).loc Cert.BwdFfnIdeal.main_v19_1) = v1 c
          ∧ r.2.mem ((c.tc : Thread Cert.BwdFfnIdeal.nD Cert.BwdFfnIdeal.τ).loc Cert.BwdFfnIdeal.main_v19_2) = v2 c
          ∧ r.2.mem ((c.tc : Thread Cert.BwdFfnIdeal.nD Cert.BwdFfnIdeal.τ).loc Cert.BwdFfnIdeal.main_arg0) = m ((c.tc : Thread Cert.BwdFfnIdeal.nD Cert.BwdFfnIdeal.τ).loc Cert.BwdFfnIdeal.main_arg0)
          ∧ r.2.mem ((c.tc : Thread Cert.BwdFfnIdeal.nD Cert.BwdFfnIdeal.τ).loc Cert.BwdFfnIdeal.main_arg1) = m ((c.tc : Thread Cert.BwdFfnIdeal.nD Cert.BwdFfnIdeal.τ).loc Cert.BwdFfnIdeal.main_arg1)
          ∧ r.2.mem ((c.tc : Thread Cert.BwdFfnIdeal.nD Cert.BwdFfnIdeal.τ).loc Cert.BwdFfnIdeal.main_arg2) = m ((c.tc : Thread Cert.BwdFfnIdeal.nD Cert.BwdFfnIdeal.τ).loc Cert.BwdFfnIdeal.main_arg2)
          ∧ r.2.mem ((c.tc : Thread Cert.BwdFfnIdeal.nD Cert.BwdFfnIdeal.τ).loc Cert.BwdFfnIdeal.main_arg3) = m ((c.tc : Thread Cert.BwdFfnIdeal.nD Cert.BwdFfnIdeal.τ).loc Cert.BwdFfnIdeal.main_arg3)
          ∧ r.2.mem ((c.tc : Thread Cert.BwdFfnIdeal.nD Cert.BwdFfnIdeal.τ).loc Cert.BwdFfnIdeal.main_arg4) = m ((c.tc : Thread Cert.BwdFfnIdeal.nD Cert.BwdFfnIdeal.τ).loc Cert.BwdFfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v52) = v0 c
          ∧ r.2.mem ((c.tc : Thread Cert.RefFfnIdeal.nD Cert.RefFfnIdeal.τ).loc Cert.RefFfnIdeal.main_v53) = v1 c
          ∧ r.2.mem ((c.tc : Thread Cert.RefFfnIdeal.nD Cert.RefFfnIdeal.τ).loc Cert.RefFfnIdeal.main_v54) = v2 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_FwdFfn_FwdFfnIdeal : Prop :=
  True

def algebraic_FwdFfnIdeal_RefLayerIdeal [hFwdFfnIdeal : Cert.FwdFfnIdeal.Facts] [hRefLayerIdeal : Cert.RefLayerIdeal.Facts] : Prop :=
  ∀ (m : (ℓ : Loc Cert.FwdFfnIdeal.nD Cert.FwdFfnIdeal.τ Cert.FwdFfnIdeal.sig) → Buf (Elt Ideal) ℓ) (g : Dev Cert.FwdFfnIdeal.nD → PrngReg)
    (m' : (ℓ : Loc Cert.RefLayerIdeal.nD Cert.RefLayerIdeal.τ Cert.RefLayerIdeal.sig) → Buf (Elt Ideal) ℓ) (g' : Dev Cert.RefLayerIdeal.nD → PrngReg), Pre_FwdFfnIdeal m →
    (∀ c : Dev Cert.FwdFfnIdeal.nD,
      m' ((c.tc : Thread Cert.RefLayerIdeal.nD Cert.RefLayerIdeal.τ).loc Cert.RefLayerIdeal.main_arg0) = m ((c.tc : Thread Cert.FwdFfnIdeal.nD Cert.FwdFfnIdeal.τ).loc Cert.FwdFfnIdeal.main_arg0)
      ∧ m' ((c.tc : Thread Cert.RefLayerIdeal.nD Cert.RefLayerIdeal.τ).loc Cert.RefLayerIdeal.main_arg1) = m ((c.tc : Thread Cert.FwdFfnIdeal.nD Cert.FwdFfnIdeal.τ).loc Cert.FwdFfnIdeal.main_arg1)
      ∧ m' ((c.tc : Thread Cert.RefLayerIdeal.nD Cert.RefLayerIdeal.τ).loc Cert.RefLayerIdeal.main_arg2) = m ((c.tc : Thread Cert.FwdFfnIdeal.nD Cert.FwdFfnIdeal.τ).loc Cert.FwdFfnIdeal.main_arg2)
      ∧ m' ((c.tc : Thread Cert.RefLayerIdeal.nD Cert.RefLayerIdeal.τ).loc Cert.RefLayerIdeal.main_arg3) = m ((c.tc : Thread Cert.FwdFfnIdeal.nD Cert.FwdFfnIdeal.τ).loc Cert.FwdFfnIdeal.main_arg3)
      ∧ m' ((c.tc : Thread Cert.RefLayerIdeal.nD Cert.RefLayerIdeal.τ).loc Cert.RefLayerIdeal.main_arg4) = m ((c.tc : Thread Cert.FwdFfnIdeal.nD Cert.FwdFfnIdeal.τ).loc Cert.FwdFfnIdeal.main_arg4)
      ∧ m' ((c.tc : Thread Cert.RefLayerIdeal.nD Cert.RefLayerIdeal.τ).loc Cert.RefLayerIdeal.main_arg5) = m ((c.tc : Thread Cert.FwdFfnIdeal.nD Cert.FwdFfnIdeal.τ).loc Cert.FwdFfnIdeal.main_arg5)) →
    ∃ (v0 : (c : Dev Cert.FwdFfnIdeal.nD) → Buf (Elt Ideal) ((c.tc : Thread Cert.FwdFfnIdeal.nD Cert.FwdFfnIdeal.τ).loc Cert.FwdFfnIdeal.main_v6_0)) (v1 : (c : Dev Cert.FwdFfnIdeal.nD) → Buf (Elt Ideal) ((c.tc : Thread Cert.FwdFfnIdeal.nD Cert.FwdFfnIdeal.τ).loc Cert.FwdFfnIdeal.main_v6_1)) (v2 : (c : Dev Cert.FwdFfnIdeal.nD) → Buf (Elt Ideal) ((c.tc : Thread Cert.FwdFfnIdeal.nD Cert.FwdFfnIdeal.τ).loc Cert.FwdFfnIdeal.main_v6_2)) (v3 : (c : Dev Cert.FwdFfnIdeal.nD) → Buf (Elt Ideal) ((c.tc : Thread Cert.FwdFfnIdeal.nD Cert.FwdFfnIdeal.τ).loc Cert.FwdFfnIdeal.main_v6_3)),
      θ_run (Cert.FwdFfnIdeal.defs (F := Ideal)) (onTc (τ := Cert.FwdFfnIdeal.τ) (Cert.FwdFfnIdeal.main (F := Ideal))) ⟨m, fun _ => 0, g⟩ (fun r => ∀ c : Dev Cert.FwdFfnIdeal.nD,
          r.2.mem ((c.tc : Thread Cert.FwdFfnIdeal.nD Cert.FwdFfnIdeal.τ).loc Cert.FwdFfnIdeal.main_v6_0) = v0 c
          ∧ r.2.mem ((c.tc : Thread Cert.FwdFfnIdeal.nD Cert.FwdFfnIdeal.τ).loc Cert.FwdFfnIdeal.main_v6_1) = v1 c
          ∧ r.2.mem ((c.tc : Thread Cert.FwdFfnIdeal.nD Cert.FwdFfnIdeal.τ).loc Cert.FwdFfnIdeal.main_v6_2) = v2 c
          ∧ r.2.mem ((c.tc : Thread Cert.FwdFfnIdeal.nD Cert.FwdFfnIdeal.τ).loc Cert.FwdFfnIdeal.main_v6_3) = v3 c
          ∧ r.2.mem ((c.tc : Thread Cert.FwdFfnIdeal.nD Cert.FwdFfnIdeal.τ).loc Cert.FwdFfnIdeal.main_arg0) = m ((c.tc : Thread Cert.FwdFfnIdeal.nD Cert.FwdFfnIdeal.τ).loc Cert.FwdFfnIdeal.main_arg0)
          ∧ r.2.mem ((c.tc : Thread Cert.FwdFfnIdeal.nD Cert.FwdFfnIdeal.τ).loc Cert.FwdFfnIdeal.main_arg1) = m ((c.tc : Thread Cert.FwdFfnIdeal.nD Cert.FwdFfnIdeal.τ).loc Cert.FwdFfnIdeal.main_arg1)
          ∧ r.2.mem ((c.tc : Thread Cert.FwdFfnIdeal.nD Cert.FwdFfnIdeal.τ).loc Cert.FwdFfnIdeal.main_arg2) = m ((c.tc : Thread Cert.FwdFfnIdeal.nD Cert.FwdFfnIdeal.τ).loc Cert.FwdFfnIdeal.main_arg2)
          ∧ r.2.mem ((c.tc : Thread Cert.FwdFfnIdeal.nD Cert.FwdFfnIdeal.τ).loc Cert.FwdFfnIdeal.main_arg3) = m ((c.tc : Thread Cert.FwdFfnIdeal.nD Cert.FwdFfnIdeal.τ).loc Cert.FwdFfnIdeal.main_arg3)
          ∧ r.2.mem ((c.tc : Thread Cert.FwdFfnIdeal.nD Cert.FwdFfnIdeal.τ).loc Cert.FwdFfnIdeal.main_arg4) = m ((c.tc : Thread Cert.FwdFfnIdeal.nD Cert.FwdFfnIdeal.τ).loc Cert.FwdFfnIdeal.main_arg4)
          ∧ r.2.mem ((c.tc : Thread Cert.FwdFfnIdeal.nD Cert.FwdFfnIdeal.τ).loc Cert.FwdFfnIdeal.main_arg5) = m ((c.tc : Thread Cert.FwdFfnIdeal.nD Cert.FwdFfnIdeal.τ).loc Cert.FwdFfnIdeal.main_arg5))
      ∧ θ_run (Cert.RefLayerIdeal.defs (F := Ideal)) (onTc (τ := Cert.RefLayerIdeal.τ) (Cert.RefLayerIdeal.main (F := Ideal))) ⟨m', fun _ => 0, g'⟩ (fun r => ∀ c : Dev Cert.RefLayerIdeal.nD,
          r.2.mem ((c.tc : Thread Cert.RefLayerIdeal.nD Cert.RefLayerIdeal.τ).loc Cert.RefLayerIdeal.main_v67) = v0 c
          ∧ r.2.mem ((c.tc : Thread Cert.RefLayerIdeal.nD Cert.RefLayerIdeal.τ).loc Cert.RefLayerIdeal.main_v13) = v1 c
          ∧ r.2.mem ((c.tc : Thread Cert.RefLayerIdeal.nD Cert.RefLayerIdeal.τ).loc Cert.RefLayerIdeal.main_v68) = v2 c
          ∧ r.2.mem ((c.tc : Thread Cert.RefLayerIdeal.nD Cert.RefLayerIdeal.τ).loc Cert.RefLayerIdeal.main_v66) = v3 c
          ∧ r.2.mem ((c.tc : Thread Cert.RefLayerIdeal.nD Cert.RefLayerIdeal.τ).loc Cert.RefLayerIdeal.main_arg0) = m' ((c.tc : Thread Cert.RefLayerIdeal.nD Cert.RefLayerIdeal.τ).loc Cert.RefLayerIdeal.main_arg0)
          ∧ r.2.mem ((c.tc : Thread Cert.RefLayerIdeal.nD Cert.RefLayerIdeal.τ).loc Cert.RefLayerIdeal.main_arg1) = m' ((c.tc : Thread Cert.RefLayerIdeal.nD Cert.RefLayerIdeal.τ).loc Cert.RefLayerIdeal.main_arg1)
          ∧ r.2.mem ((c.tc : Thread Cert.RefLayerIdeal.nD Cert.RefLayerIdeal.τ).loc Cert.RefLayerIdeal.main_arg2) = m' ((c.tc : Thread Cert.RefLayerIdeal.nD Cert.RefLayerIdeal.τ).loc Cert.RefLayerIdeal.main_arg2)
          ∧ r.2.mem ((c.tc : Thread Cert.RefLayerIdeal.nD Cert.RefLayerIdeal.τ).loc Cert.RefLayerIdeal.main_arg3) = m' ((c.tc : Thread Cert.RefLayerIdeal.nD Cert.RefLayerIdeal.τ).loc Cert.RefLayerIdeal.main_arg3)
          ∧ r.2.mem ((c.tc : Thread Cert.RefLayerIdeal.nD Cert.RefLayerIdeal.τ).loc Cert.RefLayerIdeal.main_arg4) = m' ((c.tc : Thread Cert.RefLayerIdeal.nD Cert.RefLayerIdeal.τ).loc Cert.RefLayerIdeal.main_arg4)
          ∧ r.2.mem ((c.tc : Thread Cert.RefLayerIdeal.nD Cert.RefLayerIdeal.τ).loc Cert.RefLayerIdeal.main_arg5) = m' ((c.tc : Thread Cert.RefLayerIdeal.nD Cert.RefLayerIdeal.τ).loc Cert.RefLayerIdeal.main_arg5))

def preserves_FwdIn_FwdInIdeal : Prop :=
  True

def algebraic_FwdInIdeal_RefProjIdeal [hFwdInIdeal : Cert.FwdInIdeal.Facts] [hRefProjIdeal : Cert.RefProjIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_FwdInIdeal m →
    (∀ c : Dev Cert.FwdInIdeal.nD,
      m' ((c.tc : Thread Cert.RefProjIdeal.nD Cert.RefProjIdeal.τ).loc Cert.RefProjIdeal.main_arg0) = m ((c.tc : Thread Cert.FwdInIdeal.nD Cert.FwdInIdeal.τ).loc Cert.FwdInIdeal.main_arg0)
      ∧ m' ((c.tc : Thread Cert.RefProjIdeal.nD Cert.RefProjIdeal.τ).loc Cert.RefProjIdeal.main_arg1) = m ((c.tc : Thread Cert.FwdInIdeal.nD Cert.FwdInIdeal.τ).loc Cert.FwdInIdeal.main_arg1)
      ∧ m' ((c.tc : Thread Cert.RefProjIdeal.nD Cert.RefProjIdeal.τ).loc Cert.RefProjIdeal.main_arg2) = m ((c.tc : Thread Cert.FwdInIdeal.nD Cert.FwdInIdeal.τ).loc Cert.FwdInIdeal.main_arg2)
      ∧ m' ((c.tc : Thread Cert.RefProjIdeal.nD Cert.RefProjIdeal.τ).loc Cert.RefProjIdeal.main_arg3) = m ((c.tc : Thread Cert.FwdInIdeal.nD Cert.FwdInIdeal.τ).loc Cert.FwdInIdeal.main_arg3)) →
    ∃ (v0 : (c : Dev Cert.FwdInIdeal.nD) → Buf (Elt Ideal) ((c.tc : Thread Cert.FwdInIdeal.nD Cert.FwdInIdeal.τ).loc Cert.FwdInIdeal.main_v7_0)) (v1 : (c : Dev Cert.FwdInIdeal.nD) → Buf (Elt Ideal) ((c.tc : Thread Cert.FwdInIdeal.nD Cert.FwdInIdeal.τ).loc Cert.FwdInIdeal.main_v7_1)) (v2 : (c : Dev Cert.FwdInIdeal.nD) → Buf (Elt Ideal) ((c.tc : Thread Cert.FwdInIdeal.nD Cert.FwdInIdeal.τ).loc Cert.FwdInIdeal.main_v7_2)) (v3 : (c : Dev Cert.FwdInIdeal.nD) → Buf (Elt Ideal) ((c.tc : Thread Cert.FwdInIdeal.nD Cert.FwdInIdeal.τ).loc Cert.FwdInIdeal.main_v7_3)) (v4 : (c : Dev Cert.FwdInIdeal.nD) → Buf (Elt Ideal) ((c.tc : Thread Cert.FwdInIdeal.nD Cert.FwdInIdeal.τ).loc Cert.FwdInIdeal.main_v7_4)) (v5 : (c : Dev Cert.FwdInIdeal.nD) → Buf (Elt Ideal) ((c.tc : Thread Cert.FwdInIdeal.nD Cert.FwdInIdeal.τ).loc Cert.FwdInIdeal.main_v7_5)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v7_0) = v0 c
          ∧ r.2.mem ((c.tc : Thread Cert.FwdInIdeal.nD Cert.FwdInIdeal.τ).loc Cert.FwdInIdeal.main_v7_1) = v1 c
          ∧ r.2.mem ((c.tc : Thread Cert.FwdInIdeal.nD Cert.FwdInIdeal.τ).loc Cert.FwdInIdeal.main_v7_2) = v2 c
          ∧ r.2.mem ((c.tc : Thread Cert.FwdInIdeal.nD Cert.FwdInIdeal.τ).loc Cert.FwdInIdeal.main_v7_3) = v3 c
          ∧ r.2.mem ((c.tc : Thread Cert.FwdInIdeal.nD Cert.FwdInIdeal.τ).loc Cert.FwdInIdeal.main_v7_4) = v4 c
          ∧ r.2.mem ((c.tc : Thread Cert.FwdInIdeal.nD Cert.FwdInIdeal.τ).loc Cert.FwdInIdeal.main_v7_5) = v5 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
          ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v19) = v0 c
          ∧ r.2.mem ((c.tc : Thread Cert.RefProjIdeal.nD Cert.RefProjIdeal.τ).loc Cert.RefProjIdeal.main_v14) = v1 c
          ∧ r.2.mem ((c.tc : Thread Cert.RefProjIdeal.nD Cert.RefProjIdeal.τ).loc Cert.RefProjIdeal.main_v15) = v2 c
          ∧ r.2.mem ((c.tc : Thread Cert.RefProjIdeal.nD Cert.RefProjIdeal.τ).loc Cert.RefProjIdeal.main_v20) = v3 c
          ∧ r.2.mem ((c.tc : Thread Cert.RefProjIdeal.nD Cert.RefProjIdeal.τ).loc Cert.RefProjIdeal.main_v21) = v4 c
          ∧ r.2.mem ((c.tc : Thread Cert.RefProjIdeal.nD Cert.RefProjIdeal.τ).loc Cert.RefProjIdeal.main_v22) = v5 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3))

def preserves_Adam_AdamIdeal : Prop :=
  True

def algebraic_AdamIdeal_RefAIdeal [hAdamIdeal : Cert.AdamIdeal.Facts] [hRefAIdeal : Cert.RefAIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.RefAIdeal.nD Cert.RefAIdeal.τ Cert.RefAIdeal.sig) → Buf (Elt Ideal) ℓ) (g' : Dev Cert.RefAIdeal.nD → PrngReg), Pre_AdamIdeal m →
    (∀ c : Dev Cert.AdamIdeal.nD,
      m' ((c.tc : Thread Cert.RefAIdeal.nD Cert.RefAIdeal.τ).loc Cert.RefAIdeal.main_arg0) = m ((c.tc : Thread Cert.AdamIdeal.nD Cert.AdamIdeal.τ).loc Cert.AdamIdeal.main_arg0)
      ∧ m' ((c.tc : Thread Cert.RefAIdeal.nD Cert.RefAIdeal.τ).loc Cert.RefAIdeal.main_arg1) = m ((c.tc : Thread Cert.AdamIdeal.nD Cert.AdamIdeal.τ).loc Cert.AdamIdeal.main_arg1)
      ∧ m' ((c.tc : Thread Cert.RefAIdeal.nD Cert.RefAIdeal.τ).loc Cert.RefAIdeal.main_arg2) = m ((c.tc : Thread Cert.AdamIdeal.nD Cert.AdamIdeal.τ).loc Cert.AdamIdeal.main_arg2)
      ∧ m' ((c.tc : Thread Cert.RefAIdeal.nD Cert.RefAIdeal.τ).loc Cert.RefAIdeal.main_arg3) = m ((c.tc : Thread Cert.AdamIdeal.nD Cert.AdamIdeal.τ).loc Cert.AdamIdeal.main_arg3)
      ∧ m' ((c.tc : Thread Cert.RefAIdeal.nD Cert.RefAIdeal.τ).loc Cert.RefAIdeal.main_arg4) = m ((c.tc : Thread Cert.AdamIdeal.nD Cert.AdamIdeal.τ).loc Cert.AdamIdeal.main_arg4)
      ∧ m' ((c.tc : Thread Cert.RefAIdeal.nD Cert.RefAIdeal.τ).loc Cert.RefAIdeal.main_arg5) = m ((c.tc : Thread Cert.AdamIdeal.nD Cert.AdamIdeal.τ).loc Cert.AdamIdeal.main_arg5)
      ∧ m' ((c.tc : Thread Cert.RefAIdeal.nD Cert.RefAIdeal.τ).loc Cert.RefAIdeal.main_arg6) = m ((c.tc : Thread Cert.AdamIdeal.nD Cert.AdamIdeal.τ).loc Cert.AdamIdeal.main_arg6)
      ∧ m' ((c.tc : Thread Cert.RefAIdeal.nD Cert.RefAIdeal.τ).loc Cert.RefAIdeal.main_arg7) = m ((c.tc : Thread Cert.AdamIdeal.nD Cert.AdamIdeal.τ).loc Cert.AdamIdeal.main_arg7)
      ∧ m' ((c.tc : Thread Cert.RefAIdeal.nD Cert.RefAIdeal.τ).loc Cert.RefAIdeal.main_arg8) = m ((c.tc : Thread Cert.AdamIdeal.nD Cert.AdamIdeal.τ).loc Cert.AdamIdeal.main_arg8)
      ∧ m' ((c.tc : Thread Cert.RefAIdeal.nD Cert.RefAIdeal.τ).loc Cert.RefAIdeal.main_arg9) = m ((c.tc : Thread Cert.AdamIdeal.nD Cert.AdamIdeal.τ).loc Cert.AdamIdeal.main_arg9)
      ∧ m' ((c.tc : Thread Cert.RefAIdeal.nD Cert.RefAIdeal.τ).loc Cert.RefAIdeal.main_arg10) = m ((c.tc : Thread Cert.AdamIdeal.nD Cert.AdamIdeal.τ).loc Cert.AdamIdeal.main_arg10)
      ∧ m' ((c.tc : Thread Cert.RefAIdeal.nD Cert.RefAIdeal.τ).loc Cert.RefAIdeal.main_arg11) = m ((c.tc : Thread Cert.AdamIdeal.nD Cert.AdamIdeal.τ).loc Cert.AdamIdeal.main_arg11)
      ∧ m' ((c.tc : Thread Cert.RefAIdeal.nD Cert.RefAIdeal.τ).loc Cert.RefAIdeal.main_arg12) = m ((c.tc : Thread Cert.AdamIdeal.nD Cert.AdamIdeal.τ).loc Cert.AdamIdeal.main_arg12)
      ∧ m' ((c.tc : Thread Cert.RefAIdeal.nD Cert.RefAIdeal.τ).loc Cert.RefAIdeal.main_arg13) = m ((c.tc : Thread Cert.AdamIdeal.nD Cert.AdamIdeal.τ).loc Cert.AdamIdeal.main_arg13)
      ∧ m' ((c.tc : Thread Cert.RefAIdeal.nD Cert.RefAIdeal.τ).loc Cert.RefAIdeal.main_arg14) = m ((c.tc : Thread Cert.AdamIdeal.nD Cert.AdamIdeal.τ).loc Cert.AdamIdeal.main_arg14)
      ∧ m' ((c.tc : Thread Cert.RefAIdeal.nD Cert.RefAIdeal.τ).loc Cert.RefAIdeal.main_arg15) = m ((c.tc : Thread Cert.AdamIdeal.nD Cert.AdamIdeal.τ).loc Cert.AdamIdeal.main_arg15)
      ∧ m' ((c.tc : Thread Cert.RefAIdeal.nD Cert.RefAIdeal.τ).loc Cert.RefAIdeal.main_arg16) = m ((c.tc : Thread Cert.AdamIdeal.nD Cert.AdamIdeal.τ).loc Cert.AdamIdeal.main_arg16)
      ∧ m' ((c.tc : Thread Cert.RefAIdeal.nD Cert.RefAIdeal.τ).loc Cert.RefAIdeal.main_arg17) = m ((c.tc : Thread Cert.AdamIdeal.nD Cert.AdamIdeal.τ).loc Cert.AdamIdeal.main_arg17)
      ∧ m' ((c.tc : Thread Cert.RefAIdeal.nD Cert.RefAIdeal.τ).loc Cert.RefAIdeal.main_arg18) = m ((c.tc : Thread Cert.AdamIdeal.nD Cert.AdamIdeal.τ).loc Cert.AdamIdeal.main_arg18)
      ∧ m' ((c.tc : Thread Cert.RefAIdeal.nD Cert.RefAIdeal.τ).loc Cert.RefAIdeal.main_arg19) = m ((c.tc : Thread Cert.AdamIdeal.nD Cert.AdamIdeal.τ).loc Cert.AdamIdeal.main_arg19)
      ∧ m' ((c.tc : Thread Cert.RefAIdeal.nD Cert.RefAIdeal.τ).loc Cert.RefAIdeal.main_arg20) = m ((c.tc : Thread Cert.AdamIdeal.nD Cert.AdamIdeal.τ).loc Cert.AdamIdeal.main_arg20)
      ∧ m' ((c.tc : Thread Cert.RefAIdeal.nD Cert.RefAIdeal.τ).loc Cert.RefAIdeal.main_arg21) = m ((c.tc : Thread Cert.AdamIdeal.nD Cert.AdamIdeal.τ).loc Cert.AdamIdeal.main_arg21)
      ∧ m' ((c.tc : Thread Cert.RefAIdeal.nD Cert.RefAIdeal.τ).loc Cert.RefAIdeal.main_arg22) = m ((c.tc : Thread Cert.AdamIdeal.nD Cert.AdamIdeal.τ).loc Cert.AdamIdeal.main_arg22)
      ∧ m' ((c.tc : Thread Cert.RefAIdeal.nD Cert.RefAIdeal.τ).loc Cert.RefAIdeal.main_arg23) = m ((c.tc : Thread Cert.AdamIdeal.nD Cert.AdamIdeal.τ).loc Cert.AdamIdeal.main_arg23)
      ∧ m' ((c.tc : Thread Cert.RefAIdeal.nD Cert.RefAIdeal.τ).loc Cert.RefAIdeal.main_arg24) = m ((c.tc : Thread Cert.AdamIdeal.nD Cert.AdamIdeal.τ).loc Cert.AdamIdeal.main_arg24)
      ∧ m' ((c.tc : Thread Cert.RefAIdeal.nD Cert.RefAIdeal.τ).loc Cert.RefAIdeal.main_arg25) = m ((c.tc : Thread Cert.AdamIdeal.nD Cert.AdamIdeal.τ).loc Cert.AdamIdeal.main_arg25)
      ∧ m' ((c.tc : Thread Cert.RefAIdeal.nD Cert.RefAIdeal.τ).loc Cert.RefAIdeal.main_arg26) = m ((c.tc : Thread Cert.AdamIdeal.nD Cert.AdamIdeal.τ).loc Cert.AdamIdeal.main_arg26)
      ∧ m' ((c.tc : Thread Cert.RefAIdeal.nD Cert.RefAIdeal.τ).loc Cert.RefAIdeal.main_arg27) = m ((c.tc : Thread Cert.AdamIdeal.nD Cert.AdamIdeal.τ).loc Cert.AdamIdeal.main_arg27)
      ∧ m' ((c.tc : Thread Cert.RefAIdeal.nD Cert.RefAIdeal.τ).loc Cert.RefAIdeal.main_arg28) = m ((c.tc : Thread Cert.AdamIdeal.nD Cert.AdamIdeal.τ).loc Cert.AdamIdeal.main_arg28)
      ∧ m' ((c.tc : Thread Cert.RefAIdeal.nD Cert.RefAIdeal.τ).loc Cert.RefAIdeal.main_arg29) = m ((c.tc : Thread Cert.AdamIdeal.nD Cert.AdamIdeal.τ).loc Cert.AdamIdeal.main_arg29)
      ∧ m' ((c.tc : Thread Cert.RefAIdeal.nD Cert.RefAIdeal.τ).loc Cert.RefAIdeal.main_arg30) = m ((c.tc : Thread Cert.AdamIdeal.nD Cert.AdamIdeal.τ).loc Cert.AdamIdeal.main_arg30)
      ∧ m' ((c.tc : Thread Cert.RefAIdeal.nD Cert.RefAIdeal.τ).loc Cert.RefAIdeal.main_arg31) = m ((c.tc : Thread Cert.AdamIdeal.nD Cert.AdamIdeal.τ).loc Cert.AdamIdeal.main_arg31)
      ∧ m' ((c.tc : Thread Cert.RefAIdeal.nD Cert.RefAIdeal.τ).loc Cert.RefAIdeal.main_arg32) = m ((c.tc : Thread Cert.AdamIdeal.nD Cert.AdamIdeal.τ).loc Cert.AdamIdeal.main_arg32)
      ∧ m' ((c.tc : Thread Cert.RefAIdeal.nD Cert.RefAIdeal.τ).loc Cert.RefAIdeal.main_arg33) = m ((c.tc : Thread Cert.AdamIdeal.nD Cert.AdamIdeal.τ).loc Cert.AdamIdeal.main_arg33)
      ∧ m' ((c.tc : Thread Cert.RefAIdeal.nD Cert.RefAIdeal.τ).loc Cert.RefAIdeal.main_arg34) = m ((c.tc : Thread Cert.AdamIdeal.nD Cert.AdamIdeal.τ).loc Cert.AdamIdeal.main_arg34)
      ∧ m' ((c.tc : Thread Cert.RefAIdeal.nD Cert.RefAIdeal.τ).loc Cert.RefAIdeal.main_arg35) = m ((c.tc : Thread Cert.AdamIdeal.nD Cert.AdamIdeal.τ).loc Cert.AdamIdeal.main_arg35)
      ∧ m' ((c.tc : Thread Cert.RefAIdeal.nD Cert.RefAIdeal.τ).loc Cert.RefAIdeal.main_arg36) = m ((c.tc : Thread Cert.AdamIdeal.nD Cert.AdamIdeal.τ).loc Cert.AdamIdeal.main_arg36)
      ∧ m' ((c.tc : Thread Cert.RefAIdeal.nD Cert.RefAIdeal.τ).loc Cert.RefAIdeal.main_arg37) = m ((c.tc : Thread Cert.AdamIdeal.nD Cert.AdamIdeal.τ).loc Cert.AdamIdeal.main_arg37)
      ∧ m' ((c.tc : Thread Cert.RefAIdeal.nD Cert.RefAIdeal.τ).loc Cert.RefAIdeal.main_arg38) = m ((c.tc : Thread Cert.AdamIdeal.nD Cert.AdamIdeal.τ).loc Cert.AdamIdeal.main_arg38)
      ∧ m' ((c.tc : Thread Cert.RefAIdeal.nD Cert.RefAIdeal.τ).loc Cert.RefAIdeal.main_arg39) = m ((c.tc : Thread Cert.AdamIdeal.nD Cert.AdamIdeal.τ).loc Cert.AdamIdeal.main_arg39)) →
    ∃ (v0 : (c : Dev Cert.AdamIdeal.nD) → Buf (Elt Ideal) ((c.tc : Thread Cert.AdamIdeal.nD Cert.AdamIdeal.τ).loc Cert.AdamIdeal.main_v116_1)) (v1 : (c : Dev Cert.AdamIdeal.nD) → Buf (Elt Ideal) ((c.tc : Thread Cert.AdamIdeal.nD Cert.AdamIdeal.τ).loc Cert.AdamIdeal.main_v116_2)) (v2 : (c : Dev Cert.AdamIdeal.nD) → Buf (Elt Ideal) ((c.tc : Thread Cert.AdamIdeal.nD Cert.AdamIdeal.τ).loc Cert.AdamIdeal.main_v116_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v116_1) = v0 c
          ∧ r.2.mem ((c.tc : Thread Cert.AdamIdeal.nD Cert.AdamIdeal.τ).loc Cert.AdamIdeal.main_v116_2) = v1 c
          ∧ r.2.mem ((c.tc : Thread Cert.AdamIdeal.nD Cert.AdamIdeal.τ).loc Cert.AdamIdeal.main_v116_3) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
          ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
          ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
          ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
          ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
          ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
          ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
          ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
          ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
          ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27)
          ∧ r.2.mem ((c.tc : Thread Cert.AdamIdeal.nD Cert.AdamIdeal.τ).loc Cert.AdamIdeal.main_arg28) = m ((c.tc : Thread Cert.AdamIdeal.nD Cert.AdamIdeal.τ).loc Cert.AdamIdeal.main_arg28)
          ∧ r.2.mem ((c.tc : Thread Cert.AdamIdeal.nD Cert.AdamIdeal.τ).loc Cert.AdamIdeal.main_arg29) = m ((c.tc : Thread Cert.AdamIdeal.nD Cert.AdamIdeal.τ).loc Cert.AdamIdeal.main_arg29)
          ∧ r.2.mem ((c.tc : Thread Cert.AdamIdeal.nD Cert.AdamIdeal.τ).loc Cert.AdamIdeal.main_arg30) = m ((c.tc : Thread Cert.AdamIdeal.nD Cert.AdamIdeal.τ).loc Cert.AdamIdeal.main_arg30)
          ∧ r.2.mem ((c.tc : Thread Cert.AdamIdeal.nD Cert.AdamIdeal.τ).loc Cert.AdamIdeal.main_arg31) = m ((c.tc : Thread Cert.AdamIdeal.nD Cert.AdamIdeal.τ).loc Cert.AdamIdeal.main_arg31)
          ∧ r.2.mem ((c.tc : Thread Cert.AdamIdeal.nD Cert.AdamIdeal.τ).loc Cert.AdamIdeal.main_arg32) = m ((c.tc : Thread Cert.AdamIdeal.nD Cert.AdamIdeal.τ).loc Cert.AdamIdeal.main_arg32)
          ∧ r.2.mem ((c.tc : Thread Cert.AdamIdeal.nD Cert.AdamIdeal.τ).loc Cert.AdamIdeal.main_arg33) = m ((c.tc : Thread Cert.AdamIdeal.nD Cert.AdamIdeal.τ).loc Cert.AdamIdeal.main_arg33)
          ∧ r.2.mem ((c.tc : Thread Cert.AdamIdeal.nD Cert.AdamIdeal.τ).loc Cert.AdamIdeal.main_arg34) = m ((c.tc : Thread Cert.AdamIdeal.nD Cert.AdamIdeal.τ).loc Cert.AdamIdeal.main_arg34)
          ∧ r.2.mem ((c.tc : Thread Cert.AdamIdeal.nD Cert.AdamIdeal.τ).loc Cert.AdamIdeal.main_arg35) = m ((c.tc : Thread Cert.AdamIdeal.nD Cert.AdamIdeal.τ).loc Cert.AdamIdeal.main_arg35)
          ∧ r.2.mem ((c.tc : Thread Cert.AdamIdeal.nD Cert.AdamIdeal.τ).loc Cert.AdamIdeal.main_arg36) = m ((c.tc : Thread Cert.AdamIdeal.nD Cert.AdamIdeal.τ).loc Cert.AdamIdeal.main_arg36)
          ∧ r.2.mem ((c.tc : Thread Cert.AdamIdeal.nD Cert.AdamIdeal.τ).loc Cert.AdamIdeal.main_arg37) = m ((c.tc : Thread Cert.AdamIdeal.nD Cert.AdamIdeal.τ).loc Cert.AdamIdeal.main_arg37)
          ∧ r.2.mem ((c.tc : Thread Cert.AdamIdeal.nD Cert.AdamIdeal.τ).loc Cert.AdamIdeal.main_arg38) = m ((c.tc : Thread Cert.AdamIdeal.nD Cert.AdamIdeal.τ).loc Cert.AdamIdeal.main_arg38)
          ∧ r.2.mem ((c.tc : Thread Cert.AdamIdeal.nD Cert.AdamIdeal.τ).loc Cert.AdamIdeal.main_arg39) = m ((c.tc : Thread Cert.AdamIdeal.nD Cert.AdamIdeal.τ).loc Cert.AdamIdeal.main_arg39))
      ∧ θ_run (Cert.RefAIdeal.defs (F := Ideal)) (onTc (τ := Cert.RefAIdeal.τ) (Cert.RefAIdeal.main (F := Ideal))) ⟨m', fun _ => 0, g'⟩ (fun r => ∀ c : Dev Cert.RefAIdeal.nD,
          r.2.mem ((c.tc : Thread Cert.RefAIdeal.nD Cert.RefAIdeal.τ).loc Cert.RefAIdeal.main_v268) = v0 c
          ∧ r.2.mem ((c.tc : Thread Cert.RefAIdeal.nD Cert.RefAIdeal.τ).loc Cert.RefAIdeal.main_v297) = v1 c
          ∧ r.2.mem ((c.tc : Thread Cert.RefAIdeal.nD Cert.RefAIdeal.τ).loc Cert.RefAIdeal.main_v326) = v2 c
          ∧ r.2.mem ((c.tc : Thread Cert.RefAIdeal.nD Cert.RefAIdeal.τ).loc Cert.RefAIdeal.main_arg0) = m' ((c.tc : Thread Cert.RefAIdeal.nD Cert.RefAIdeal.τ).loc Cert.RefAIdeal.main_arg0)
          ∧ r.2.mem ((c.tc : Thread Cert.RefAIdeal.nD Cert.RefAIdeal.τ).loc Cert.RefAIdeal.main_arg1) = m' ((c.tc : Thread Cert.RefAIdeal.nD Cert.RefAIdeal.τ).loc Cert.RefAIdeal.main_arg1)
          ∧ r.2.mem ((c.tc : Thread Cert.RefAIdeal.nD Cert.RefAIdeal.τ).loc Cert.RefAIdeal.main_arg2) = m' ((c.tc : Thread Cert.RefAIdeal.nD Cert.RefAIdeal.τ).loc Cert.RefAIdeal.main_arg2)
          ∧ r.2.mem ((c.tc : Thread Cert.RefAIdeal.nD Cert.RefAIdeal.τ).loc Cert.RefAIdeal.main_arg3) = m' ((c.tc : Thread Cert.RefAIdeal.nD Cert.RefAIdeal.τ).loc Cert.RefAIdeal.main_arg3)
          ∧ r.2.mem ((c.tc : Thread Cert.RefAIdeal.nD Cert.RefAIdeal.τ).loc Cert.RefAIdeal.main_arg4) = m' ((c.tc : Thread Cert.RefAIdeal.nD Cert.RefAIdeal.τ).loc Cert.RefAIdeal.main_arg4)
          ∧ r.2.mem ((c.tc : Thread Cert.RefAIdeal.nD Cert.RefAIdeal.τ).loc Cert.RefAIdeal.main_arg5) = m' ((c.tc : Thread Cert.RefAIdeal.nD Cert.RefAIdeal.τ).loc Cert.RefAIdeal.main_arg5)
          ∧ r.2.mem ((c.tc : Thread Cert.RefAIdeal.nD Cert.RefAIdeal.τ).loc Cert.RefAIdeal.main_arg6) = m' ((c.tc : Thread Cert.RefAIdeal.nD Cert.RefAIdeal.τ).loc Cert.RefAIdeal.main_arg6)
          ∧ r.2.mem ((c.tc : Thread Cert.RefAIdeal.nD Cert.RefAIdeal.τ).loc Cert.RefAIdeal.main_arg7) = m' ((c.tc : Thread Cert.RefAIdeal.nD Cert.RefAIdeal.τ).loc Cert.RefAIdeal.main_arg7)
          ∧ r.2.mem ((c.tc : Thread Cert.RefAIdeal.nD Cert.RefAIdeal.τ).loc Cert.RefAIdeal.main_arg8) = m' ((c.tc : Thread Cert.RefAIdeal.nD Cert.RefAIdeal.τ).loc Cert.RefAIdeal.main_arg8)
          ∧ r.2.mem ((c.tc : Thread Cert.RefAIdeal.nD Cert.RefAIdeal.τ).loc Cert.RefAIdeal.main_arg9) = m' ((c.tc : Thread Cert.RefAIdeal.nD Cert.RefAIdeal.τ).loc Cert.RefAIdeal.main_arg9)
          ∧ r.2.mem ((c.tc : Thread Cert.RefAIdeal.nD Cert.RefAIdeal.τ).loc Cert.RefAIdeal.main_arg10) = m' ((c.tc : Thread Cert.RefAIdeal.nD Cert.RefAIdeal.τ).loc Cert.RefAIdeal.main_arg10)
          ∧ r.2.mem ((c.tc : Thread Cert.RefAIdeal.nD Cert.RefAIdeal.τ).loc Cert.RefAIdeal.main_arg11) = m' ((c.tc : Thread Cert.RefAIdeal.nD Cert.RefAIdeal.τ).loc Cert.RefAIdeal.main_arg11)
          ∧ r.2.mem ((c.tc : Thread Cert.RefAIdeal.nD Cert.RefAIdeal.τ).loc Cert.RefAIdeal.main_arg12) = m' ((c.tc : Thread Cert.RefAIdeal.nD Cert.RefAIdeal.τ).loc Cert.RefAIdeal.main_arg12)
          ∧ r.2.mem ((c.tc : Thread Cert.RefAIdeal.nD Cert.RefAIdeal.τ).loc Cert.RefAIdeal.main_arg13) = m' ((c.tc : Thread Cert.RefAIdeal.nD Cert.RefAIdeal.τ).loc Cert.RefAIdeal.main_arg13)
          ∧ r.2.mem ((c.tc : Thread Cert.RefAIdeal.nD Cert.RefAIdeal.τ).loc Cert.RefAIdeal.main_arg14) = m' ((c.tc : Thread Cert.RefAIdeal.nD Cert.RefAIdeal.τ).loc Cert.RefAIdeal.main_arg14)
          ∧ r.2.mem ((c.tc : Thread Cert.RefAIdeal.nD Cert.RefAIdeal.τ).loc Cert.RefAIdeal.main_arg15) = m' ((c.tc : Thread Cert.RefAIdeal.nD Cert.RefAIdeal.τ).loc Cert.RefAIdeal.main_arg15)
          ∧ r.2.mem ((c.tc : Thread Cert.RefAIdeal.nD Cert.RefAIdeal.τ).loc Cert.RefAIdeal.main_arg16) = m' ((c.tc : Thread Cert.RefAIdeal.nD Cert.RefAIdeal.τ).loc Cert.RefAIdeal.main_arg16)
          ∧ r.2.mem ((c.tc : Thread Cert.RefAIdeal.nD Cert.RefAIdeal.τ).loc Cert.RefAIdeal.main_arg17) = m' ((c.tc : Thread Cert.RefAIdeal.nD Cert.RefAIdeal.τ).loc Cert.RefAIdeal.main_arg17)
          ∧ r.2.mem ((c.tc : Thread Cert.RefAIdeal.nD Cert.RefAIdeal.τ).loc Cert.RefAIdeal.main_arg18) = m' ((c.tc : Thread Cert.RefAIdeal.nD Cert.RefAIdeal.τ).loc Cert.RefAIdeal.main_arg18)
          ∧ r.2.mem ((c.tc : Thread Cert.RefAIdeal.nD Cert.RefAIdeal.τ).loc Cert.RefAIdeal.main_arg19) = m' ((c.tc : Thread Cert.RefAIdeal.nD Cert.RefAIdeal.τ).loc Cert.RefAIdeal.main_arg19)
          ∧ r.2.mem ((c.tc : Thread Cert.RefAIdeal.nD Cert.RefAIdeal.τ).loc Cert.RefAIdeal.main_arg20) = m' ((c.tc : Thread Cert.RefAIdeal.nD Cert.RefAIdeal.τ).loc Cert.RefAIdeal.main_arg20)
          ∧ r.2.mem ((c.tc : Thread Cert.RefAIdeal.nD Cert.RefAIdeal.τ).loc Cert.RefAIdeal.main_arg21) = m' ((c.tc : Thread Cert.RefAIdeal.nD Cert.RefAIdeal.τ).loc Cert.RefAIdeal.main_arg21)
          ∧ r.2.mem ((c.tc : Thread Cert.RefAIdeal.nD Cert.RefAIdeal.τ).loc Cert.RefAIdeal.main_arg22) = m' ((c.tc : Thread Cert.RefAIdeal.nD Cert.RefAIdeal.τ).loc Cert.RefAIdeal.main_arg22)
          ∧ r.2.mem ((c.tc : Thread Cert.RefAIdeal.nD Cert.RefAIdeal.τ).loc Cert.RefAIdeal.main_arg23) = m' ((c.tc : Thread Cert.RefAIdeal.nD Cert.RefAIdeal.τ).loc Cert.RefAIdeal.main_arg23)
          ∧ r.2.mem ((c.tc : Thread Cert.RefAIdeal.nD Cert.RefAIdeal.τ).loc Cert.RefAIdeal.main_arg24) = m' ((c.tc : Thread Cert.RefAIdeal.nD Cert.RefAIdeal.τ).loc Cert.RefAIdeal.main_arg24)
          ∧ r.2.mem ((c.tc : Thread Cert.RefAIdeal.nD Cert.RefAIdeal.τ).loc Cert.RefAIdeal.main_arg25) = m' ((c.tc : Thread Cert.RefAIdeal.nD Cert.RefAIdeal.τ).loc Cert.RefAIdeal.main_arg25)
          ∧ r.2.mem ((c.tc : Thread Cert.RefAIdeal.nD Cert.RefAIdeal.τ).loc Cert.RefAIdeal.main_arg26) = m' ((c.tc : Thread Cert.RefAIdeal.nD Cert.RefAIdeal.τ).loc Cert.RefAIdeal.main_arg26)
          ∧ r.2.mem ((c.tc : Thread Cert.RefAIdeal.nD Cert.RefAIdeal.τ).loc Cert.RefAIdeal.main_arg27) = m' ((c.tc : Thread Cert.RefAIdeal.nD Cert.RefAIdeal.τ).loc Cert.RefAIdeal.main_arg27)
          ∧ r.2.mem ((c.tc : Thread Cert.RefAIdeal.nD Cert.RefAIdeal.τ).loc Cert.RefAIdeal.main_arg28) = m' ((c.tc : Thread Cert.RefAIdeal.nD Cert.RefAIdeal.τ).loc Cert.RefAIdeal.main_arg28)
          ∧ r.2.mem ((c.tc : Thread Cert.RefAIdeal.nD Cert.RefAIdeal.τ).loc Cert.RefAIdeal.main_arg29) = m' ((c.tc : Thread Cert.RefAIdeal.nD Cert.RefAIdeal.τ).loc Cert.RefAIdeal.main_arg29)
          ∧ r.2.mem ((c.tc : Thread Cert.RefAIdeal.nD Cert.RefAIdeal.τ).loc Cert.RefAIdeal.main_arg30) = m' ((c.tc : Thread Cert.RefAIdeal.nD Cert.RefAIdeal.τ).loc Cert.RefAIdeal.main_arg30)
          ∧ r.2.mem ((c.tc : Thread Cert.RefAIdeal.nD Cert.RefAIdeal.τ).loc Cert.RefAIdeal.main_arg31) = m' ((c.tc : Thread Cert.RefAIdeal.nD Cert.RefAIdeal.τ).loc Cert.RefAIdeal.main_arg31)
          ∧ r.2.mem ((c.tc : Thread Cert.RefAIdeal.nD Cert.RefAIdeal.τ).loc Cert.RefAIdeal.main_arg32) = m' ((c.tc : Thread Cert.RefAIdeal.nD Cert.RefAIdeal.τ).loc Cert.RefAIdeal.main_arg32)
          ∧ r.2.mem ((c.tc : Thread Cert.RefAIdeal.nD Cert.RefAIdeal.τ).loc Cert.RefAIdeal.main_arg33) = m' ((c.tc : Thread Cert.RefAIdeal.nD Cert.RefAIdeal.τ).loc Cert.RefAIdeal.main_arg33)
          ∧ r.2.mem ((c.tc : Thread Cert.RefAIdeal.nD Cert.RefAIdeal.τ).loc Cert.RefAIdeal.main_arg34) = m' ((c.tc : Thread Cert.RefAIdeal.nD Cert.RefAIdeal.τ).loc Cert.RefAIdeal.main_arg34)
          ∧ r.2.mem ((c.tc : Thread Cert.RefAIdeal.nD Cert.RefAIdeal.τ).loc Cert.RefAIdeal.main_arg35) = m' ((c.tc : Thread Cert.RefAIdeal.nD Cert.RefAIdeal.τ).loc Cert.RefAIdeal.main_arg35)
          ∧ r.2.mem ((c.tc : Thread Cert.RefAIdeal.nD Cert.RefAIdeal.τ).loc Cert.RefAIdeal.main_arg36) = m' ((c.tc : Thread Cert.RefAIdeal.nD Cert.RefAIdeal.τ).loc Cert.RefAIdeal.main_arg36)
          ∧ r.2.mem ((c.tc : Thread Cert.RefAIdeal.nD Cert.RefAIdeal.τ).loc Cert.RefAIdeal.main_arg37) = m' ((c.tc : Thread Cert.RefAIdeal.nD Cert.RefAIdeal.τ).loc Cert.RefAIdeal.main_arg37)
          ∧ r.2.mem ((c.tc : Thread Cert.RefAIdeal.nD Cert.RefAIdeal.τ).loc Cert.RefAIdeal.main_arg38) = m' ((c.tc : Thread Cert.RefAIdeal.nD Cert.RefAIdeal.τ).loc Cert.RefAIdeal.main_arg38)
          ∧ r.2.mem ((c.tc : Thread Cert.RefAIdeal.nD Cert.RefAIdeal.τ).loc Cert.RefAIdeal.main_arg39) = m' ((c.tc : Thread Cert.RefAIdeal.nD Cert.RefAIdeal.τ).loc Cert.RefAIdeal.main_arg39))

def Claim : Prop :=
  ∃ (hKernel : Cert.Kernel.Facts) (hKernelIdeal : Cert.KernelIdeal.Facts) (hReferenceIdeal : Cert.ReferenceIdeal.Facts) (hDwGu : Cert.DwGu.Facts) (hDwGuIdeal : Cert.DwGuIdeal.Facts) (hRefGuIdeal : Cert.RefGuIdeal.Facts) (hDwDown : Cert.DwDown.Facts) (hDwDownIdeal : Cert.DwDownIdeal.Facts) (hRefDownIdeal : Cert.RefDownIdeal.Facts) (hDwOut : Cert.DwOut.Facts) (hDwOutIdeal : Cert.DwOutIdeal.Facts) (hRefOutIdeal : Cert.RefOutIdeal.Facts) (hDwMq : Cert.DwMq.Facts) (hDwMqIdeal : Cert.DwMqIdeal.Facts) (hRefMqIdeal : Cert.RefMqIdeal.Facts) (hDwMo : Cert.DwMo.Facts) (hDwMoIdeal : Cert.DwMoIdeal.Facts) (hRefMoIdeal : Cert.RefMoIdeal.Facts) (hDwIn : Cert.DwIn.Facts) (hDwInIdeal : Cert.DwInIdeal.Facts) (hRefInIdeal : Cert.RefInIdeal.Facts) (hBwdIn : Cert.BwdIn.Facts) (hBwdInIdeal : Cert.BwdInIdeal.Facts) (hRefXIdeal : Cert.RefXIdeal.Facts) (hBwdFfn : Cert.BwdFfn.Facts) (hBwdFfnIdeal : Cert.BwdFfnIdeal.Facts) (hRefFfnIdeal : Cert.RefFfnIdeal.Facts) (hFwdFfn : Cert.FwdFfn.Facts) (hFwdFfnIdeal : Cert.FwdFfnIdeal.Facts) (hRefLayerIdeal : Cert.RefLayerIdeal.Facts) (hFwdIn : Cert.FwdIn.Facts) (hFwdInIdeal : Cert.FwdInIdeal.Facts) (hRefProjIdeal : Cert.RefProjIdeal.Facts) (hAdam : Cert.Adam.Facts) (hAdamIdeal : Cert.AdamIdeal.Facts) (hRefAIdeal : Cert.RefAIdeal.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_DwGu (hDwGu := hDwGu)
    ∧ quiescent_DwGuIdeal (hDwGuIdeal := hDwGuIdeal)
    ∧ quiescent_RefGuIdeal (hRefGuIdeal := hRefGuIdeal)
    ∧ quiescent_DwDown (hDwDown := hDwDown)
    ∧ quiescent_DwDownIdeal (hDwDownIdeal := hDwDownIdeal)
    ∧ quiescent_RefDownIdeal (hRefDownIdeal := hRefDownIdeal)
    ∧ quiescent_DwOut (hDwOut := hDwOut)
    ∧ quiescent_DwOutIdeal (hDwOutIdeal := hDwOutIdeal)
    ∧ quiescent_RefOutIdeal (hRefOutIdeal := hRefOutIdeal)
    ∧ quiescent_DwMq (hDwMq := hDwMq)
    ∧ quiescent_DwMqIdeal (hDwMqIdeal := hDwMqIdeal)
    ∧ quiescent_RefMqIdeal (hRefMqIdeal := hRefMqIdeal)
    ∧ quiescent_DwMo (hDwMo := hDwMo)
    ∧ quiescent_DwMoIdeal (hDwMoIdeal := hDwMoIdeal)
    ∧ quiescent_RefMoIdeal (hRefMoIdeal := hRefMoIdeal)
    ∧ quiescent_DwIn (hDwIn := hDwIn)
    ∧ quiescent_DwInIdeal (hDwInIdeal := hDwInIdeal)
    ∧ quiescent_RefInIdeal (hRefInIdeal := hRefInIdeal)
    ∧ quiescent_BwdIn (hBwdIn := hBwdIn)
    ∧ quiescent_BwdInIdeal (hBwdInIdeal := hBwdInIdeal)
    ∧ quiescent_RefXIdeal (hRefXIdeal := hRefXIdeal)
    ∧ quiescent_BwdFfn (hBwdFfn := hBwdFfn)
    ∧ quiescent_BwdFfnIdeal (hBwdFfnIdeal := hBwdFfnIdeal)
    ∧ quiescent_BwdFfnIdeal_pre_all_finite (hBwdFfnIdeal := hBwdFfnIdeal) (hPre_all_finite := hPre_all_finite)
    ∧ quiescent_RefFfnIdeal (hRefFfnIdeal := hRefFfnIdeal)
    ∧ quiescent_RefFfnIdeal_pre_all_finite (hRefFfnIdeal := hRefFfnIdeal) (hPre_all_finite := hPre_all_finite)
    ∧ quiescent_FwdFfn (hFwdFfn := hFwdFfn)
    ∧ quiescent_FwdFfnIdeal (hFwdFfnIdeal := hFwdFfnIdeal)
    ∧ quiescent_RefLayerIdeal (hRefLayerIdeal := hRefLayerIdeal)
    ∧ quiescent_FwdIn (hFwdIn := hFwdIn)
    ∧ quiescent_FwdInIdeal (hFwdInIdeal := hFwdInIdeal)
    ∧ quiescent_RefProjIdeal (hRefProjIdeal := hRefProjIdeal)
    ∧ quiescent_Adam (hAdam := hAdam)
    ∧ quiescent_AdamIdeal (hAdamIdeal := hAdamIdeal)
    ∧ quiescent_RefAIdeal (hRefAIdeal := hRefAIdeal)
    ∧ preserves_Kernel_KernelIdeal
    ∧ preserves_DwGu_DwGuIdeal
    ∧ algebraic_DwGuIdeal_RefGuIdeal (hDwGuIdeal := hDwGuIdeal) (hRefGuIdeal := hRefGuIdeal)
    ∧ preserves_DwDown_DwDownIdeal
    ∧ algebraic_DwDownIdeal_RefDownIdeal (hDwDownIdeal := hDwDownIdeal) (hRefDownIdeal := hRefDownIdeal)
    ∧ preserves_DwOut_DwOutIdeal
    ∧ algebraic_DwOutIdeal_RefOutIdeal (hDwOutIdeal := hDwOutIdeal) (hRefOutIdeal := hRefOutIdeal)
    ∧ preserves_DwMq_DwMqIdeal
    ∧ algebraic_DwMqIdeal_RefMqIdeal (hDwMqIdeal := hDwMqIdeal) (hRefMqIdeal := hRefMqIdeal)
    ∧ preserves_DwMo_DwMoIdeal
    ∧ algebraic_DwMoIdeal_RefMoIdeal (hDwMoIdeal := hDwMoIdeal) (hRefMoIdeal := hRefMoIdeal)
    ∧ preserves_DwIn_DwInIdeal
    ∧ algebraic_DwInIdeal_RefInIdeal (hDwInIdeal := hDwInIdeal) (hRefInIdeal := hRefInIdeal)
    ∧ preserves_BwdIn_BwdInIdeal
    ∧ algebraic_BwdInIdeal_RefXIdeal (hBwdInIdeal := hBwdInIdeal) (hRefXIdeal := hRefXIdeal)
    ∧ preserves_BwdFfn_BwdFfnIdeal
    ∧ algebraic_BwdFfnIdeal_RefFfnIdeal_pre_all_finite (hBwdFfnIdeal := hBwdFfnIdeal) (hRefFfnIdeal := hRefFfnIdeal) (hPre_all_finite := hPre_all_finite)
    ∧ preserves_FwdFfn_FwdFfnIdeal
    ∧ algebraic_FwdFfnIdeal_RefLayerIdeal (hFwdFfnIdeal := hFwdFfnIdeal) (hRefLayerIdeal := hRefLayerIdeal)
    ∧ preserves_FwdIn_FwdInIdeal
    ∧ algebraic_FwdInIdeal_RefProjIdeal (hFwdInIdeal := hFwdInIdeal) (hRefProjIdeal := hRefProjIdeal)
    ∧ preserves_Adam_AdamIdeal
    ∧ algebraic_AdamIdeal_RefAIdeal (hAdamIdeal := hAdamIdeal) (hRefAIdeal := hRefAIdeal)
-- ==== Pre_all_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024x5632 .f32) (main_arg3 : FVec F S2816x1024 .f32) (main_arg4 : FVec F S4096x1024 .f32) : IVec S4096x1024 1 × IVec S1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S2x2048x8x64 : Shape := ⟨4, ![2, 2048, 8, 64]⟩
abbrev S2x2048x8 : Shape := ⟨3, ![2, 2048, 8]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x1x2048 : Shape := ⟨4, ![2, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x8x64x2048 : Shape := ⟨4, ![2, 8, 64, 2048]⟩
abbrev S2x4x2x2048 : Shape := ⟨4, ![2, 4, 2, 2048]⟩
abbrev S2x4x8x2048 : Shape := ⟨4, ![2, 4, 8, 2048]⟩
abbrev S4096x512 : Shape := ⟨2, ![4096, 512]⟩
abbrev S2x2048x8x1 : Shape := ⟨4, ![2, 2048, 8, 1]⟩
abbrev S2x8x256x512 : Shape := ⟨4, ![2, 8, 256, 512]⟩
abbrev S2x8x512x256 : Shape := ⟨4, ![2, 8, 512, 256]⟩
abbrev S2048x128 : Shape := ⟨2, ![2048, 128]⟩
abbrev S256x128 : Shape := ⟨2, ![256, 128]⟩
abbrev S1x1x8x2048 : Shape := ⟨4, ![1, 1, 8, 2048]⟩
abbrev S1x8x128x256 : Shape := ⟨4, ![1, 8, 128, 256]⟩
abbrev S1x1x8x256 : Shape := ⟨4, ![1, 1, 8, 256]⟩
abbrev S2x2048x1 : Shape := ⟨3, ![2, 2048, 1]⟩
abbrev S2x256x256 : Shape := ⟨3, ![2, 256, 256]⟩
abbrev S128x256 : Shape := ⟨2, ![128, 256]⟩
abbrev S2x8x256 : Shape := ⟨3, ![2, 8, 256]⟩
abbrev S1x1x1x256 : Shape := ⟨4, ![1, 1, 1, 256]⟩
abbrev S1x256 : Shape := ⟨2, ![1, 256]⟩
abbrev S256x256 : Shape := ⟨2, ![256, 256]⟩
abbrev S1x256x256 : Shape := ⟨3, ![1, 256, 256]⟩
abbrev S256x1 : Shape := ⟨2, ![256, 1]⟩
abbrev S1x1x256 : Shape := ⟨3, ![1, 1, 256]⟩
abbrev S256 : Shape := ⟨1, ![256]⟩
abbrev S1x256x1 : Shape := ⟨3, ![1, 256, 1]⟩
abbrev S64x256 : Shape := ⟨2, ![64, 256]⟩
abbrev S1x1x64x256 : Shape := ⟨4, ![1, 1, 64, 256]⟩
abbrev S8x256 : Shape := ⟨2, ![8, 256]⟩
abbrev S1x2048x1 : Shape := ⟨3, ![1, 2048, 1]⟩

abbrev nBuf : Space → Nat
  | .hbm => 81
  | .vmem => 37
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x2048x8, .f32⟩
  | .hbm, ⟨4, _⟩ => ⟨S2x2048x8x64, .f32⟩
  | .hbm, ⟨5, _⟩ => ⟨S2x8x2048x2048, .f32⟩
  | .hbm, ⟨6, _⟩ => ⟨S_, .f32⟩
  | .hbm, ⟨7, _⟩ => ⟨S2x8x2048x2048, .f32⟩
  | .hbm, ⟨8, _⟩ => ⟨S2x8x2048x2048, .f32⟩
  | .hbm, ⟨9, _⟩ => ⟨S2x8x2048, .f32⟩
  | .hbm, ⟨10, _⟩ => ⟨S2x8x2048x1, .f32⟩
  | .hbm, ⟨11, _⟩ => ⟨S2x8x2048, .f32⟩
  | .hbm, ⟨12, _⟩ => ⟨S2x8x1x2048, .f32⟩
  | .hbm, ⟨13, _⟩ => ⟨S2x8x2048x2048, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S2x8x2048x2048, .i1⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S2x8x2048, .f32⟩
  | .hbm, ⟨32, _⟩ => ⟨S2x8x2048x1, .f32⟩
  | .hbm, ⟨33, _⟩ => ⟨S2x8x2048x2048, .f32⟩
  | .hbm, ⟨34, _⟩ => ⟨S2x8x2048x2048, .f32⟩
  | .hbm, ⟨35, _⟩ => ⟨S2x8x2048x2048, .f32⟩
  | .hbm, ⟨36, _⟩ => ⟨S_, .f32⟩
  | .hbm, ⟨37, _⟩ => ⟨S2x8x2048, .f32⟩
  | .hbm, ⟨38, _⟩ => ⟨S2x8x2048x1, .f32⟩
  | .hbm, ⟨39, _⟩ => ⟨S2x8x2048x2048, .f32⟩
  | .hbm, ⟨40, _⟩ => ⟨S2x8x2048x2048, .f32⟩
  | .hbm, ⟨41, _⟩ => ⟨S2x8x64x2048, .f32⟩
  | .hbm, ⟨42, _⟩ => ⟨S2x2048x8x64, .f32⟩
  | .hbm, ⟨43, _⟩ => ⟨S2x8x2048x1, .f32⟩
  | .hbm, ⟨44, _⟩ => ⟨S2x8x2048x1, .f32⟩
  | .hbm, ⟨45, _⟩ => ⟨S2x8x2048, .f32⟩
  | .hbm, ⟨46, _⟩ => ⟨S2x2048x8, .f32⟩
  | .hbm, ⟨47, _⟩ => ⟨S2x2048x8, .f32⟩
  | .hbm, ⟨48, _⟩ => ⟨S2x2048x8x64, .f32⟩
  | .hbm, ⟨49, _⟩ => ⟨S_, .f32⟩
  | .hbm, ⟨50, _⟩ => ⟨S2x2048x8, .f32⟩
  | .hbm, ⟨51, _⟩ => ⟨S2x8x2048, .f32⟩
  | .hbm, ⟨52, _⟩ => ⟨S2x4x2x2048, .f32⟩
  | .hbm, ⟨53, _⟩ => ⟨S_, .i32⟩
  | .hbm, ⟨54, _⟩ => ⟨S_, .f32⟩
  | .hbm, ⟨55, _⟩ => ⟨S2x4x8x2048, .f32⟩
  | .hbm, ⟨56, _⟩ => ⟨S4096x512, .f32⟩
  | .hbm, ⟨57, _⟩ => ⟨S4096x512, .bf16⟩
  | .hbm, ⟨58, _⟩ => ⟨S4096x512, .f32⟩
  | .hbm, ⟨59, _⟩ => ⟨S4096x512, .bf16⟩
  | .hbm, ⟨60, _⟩ => ⟨S4096x512, .f32⟩
  | .hbm, ⟨61, _⟩ => ⟨S4096x512, .bf16⟩
  | .hbm, ⟨62, _⟩ => ⟨S4096x512, .f32⟩
  | .hbm, ⟨63, _⟩ => ⟨S4096x512, .bf16⟩
  | .hbm, ⟨64, _⟩ => ⟨S2x2048x8x1, .f32⟩
  | .hbm, ⟨65, _⟩ => ⟨S2x2048x8x64, .f32⟩
  | .hbm, ⟨66, _⟩ => ⟨S4096x512, .f32⟩
  | .hbm, ⟨67, _⟩ => ⟨S2x2048x8x1, .f32⟩
  | .hbm, ⟨68, _⟩ => ⟨S2x2048x8x64, .f32⟩
  | .hbm, ⟨69, _⟩ => ⟨S4096x512, .f32⟩
  | .hbm, ⟨70, _⟩ => ⟨S2x8x256x512, .f32⟩
  | .hbm, ⟨71, _⟩ => ⟨S2x8x512x256, .f32⟩
  | .hbm, ⟨72, _⟩ => ⟨S2x8x512x256, .bf16⟩
  | .hbm, ⟨73, _⟩ => ⟨S2x8x256x512, .f32⟩
  | .hbm, ⟨74, _⟩ => ⟨S2x8x512x256, .f32⟩
  | .hbm, ⟨75, _⟩ => ⟨S2x8x512x256, .bf16⟩
  | .hbm, ⟨76, _⟩ => ⟨S4096x512, .bf16⟩
  | .hbm, ⟨77, _⟩ => ⟨S4096x512, .bf16⟩
  | .hbm, ⟨78, _⟩ => ⟨S4096x512, .bf16⟩
  | .hbm, ⟨79, _⟩ => ⟨S2x4x8x2048, .f32⟩
  | .hbm, ⟨80, _⟩ => ⟨S4096x512, .f32⟩
  | .local _ .vmem, ⟨0, _⟩ => ⟨S2048x128, .bf16⟩
  | .local _ .vmem, ⟨1, _⟩ => ⟨S2048x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x1x8x2048, .f32⟩
  | .local _ .vmem, ⟨13, _⟩ => ⟨S1x1x8x2048, .f32⟩
  | .local _ .vmem, ⟨14, _⟩ => ⟨S1x8x128x256, .bf16⟩
  | .local _ .vmem, ⟨15, _⟩ => ⟨S1x8x128x256, .bf16⟩
  | .local _ .vmem, ⟨16, _⟩ => ⟨S1x8x128x256, .bf16⟩
  | .local _ .vmem, ⟨17, _⟩ => ⟨S1x8x128x256, .bf16⟩
  | .local _ .vmem, ⟨18, _⟩ => ⟨S2048x128, .bf16⟩
  | .local _ .vmem, ⟨19, _⟩ => ⟨S2048x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S1x1x8x256, .f32⟩
  | .local _ .vmem, ⟨25, _⟩ => ⟨S1x1x8x256, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2x2048x1, .f32⟩
  | .local _ .vmem, ⟨30, _⟩ => ⟨S2x256x256, .f32⟩
  | .local _ .vmem, ⟨31, _⟩ => ⟨S2x256x256, .f32⟩
  | .local _ .vmem, ⟨32, _⟩ => ⟨S2x256x256, .f32⟩
  | .local _ .vmem, ⟨33, _⟩ => ⟨S2x256x256, .f32⟩
  | .local _ .vmem, ⟨34, _⟩ => ⟨S128x256, .f32⟩
  | .local _ .vmem, ⟨35, _⟩ => ⟨S128x256, .f32⟩
  | .local _ .vmem, ⟨36, _⟩ => ⟨S2x8x256, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c : Ref sig .tc := ⟨.hbm, 53, rfl⟩
abbrev main_call1_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61_0 : Ref sig .tc := ⟨.hbm, 76, rfl⟩
abbrev main_v61_1 : Ref sig .tc := ⟨.hbm, 77, rfl⟩
abbrev main_v61_2 : Ref sig .tc := ⟨.hbm, 78, rfl⟩
abbrev main_v61_3 : Ref sig .tc := ⟨.hbm, 79, rfl⟩
abbrev main_v61_4 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c256_i32 : BitVec 32 := 256#32
  let v29 : BitVec 32 := Scalar.muli arg2 c256_i32
  v29
def k0_off1 (i : grid0.Coords) : Fin 4 → Nat :=
  let c0_15 : Index := 0#32
  let c0_16 : Index := 0#32
  let c0_17 : Index := 0#32
  let arg2 : BitVec 32 := BitVec.ofNat 32 (i 2).val
  let c256_i32 : BitVec 32 := 256#32
  let v29 : BitVec 32 := Scalar.muli arg2 c256_i32
  let v30 : BitVec 32 := v29
  let v31 : Index := Scalar.indexCast v30
  ![0, 0, 0, v31.toNat]
def k0_off2 (i : grid0.Coords) : Fin 4 → Nat :=
  let c0_18 : Index := 0#32
  let c0_19 : Index := 0#32
  let c1 : Index := 1#32
  let arg2 : BitVec 32 := BitVec.ofNat 32 (i 2).val
  let c256_i32 : BitVec 32 := 256#32
  let v29 : BitVec 32 := Scalar.muli arg2 c256_i32
  let v30 : BitVec 32 := v29
  let v34 : Index := Scalar.indexCast v30
  ![0, 0, 1, v34.toNat]
def k0_mult2 (i : grid0.Coords) : BitVec 32 :=
  let c7_i32 : BitVec 32 := 7#32
  let arg2 : BitVec 32 := BitVec.ofNat 32 (i 2).val
  let v39 : BitVec 32 := Scalar.subi c7_i32 arg2
  let c0_i32_20 : BitVec 32 := 0#32
  let v40 : BitVec 1 := Scalar.cmpi .sgt v39 c0_i32_20
  let c1_i32 : BitVec 32 := 1#32
  let v41 : BitVec 32 := Scalar.addi arg2 c1_i32
  let c0_i32_21 : BitVec 32 := 0#32
  let v42 : BitVec 32 := Scalar.addi v41 c0_i32_21
  let v43 : BitVec 32 := Scalar.select v40 v42 arg2
  let c256_i32_22 : BitVec 32 := 256#32
  let v44 : BitVec 32 := Scalar.muli v43 c256_i32_22
  v44
def k0_off3 (i : grid0.Coords) : Fin 2 → Nat :=
  let c7_i32 : BitVec 32 := 7#32
  let arg2 : BitVec 32 := BitVec.ofNat 32 (i 2).val
  let v39 : BitVec 32 := Scalar.subi c7_i32 arg2
  let c0_i32_20 : BitVec 32 := 0#32
  let v40 : BitVec 1 := Scalar.cmpi .sgt v39 c0_i32_20
  let c1_i32 : BitVec 32 := 1#32
  let v41 : BitVec 32 := Scalar.addi arg2 c1_i32
  let c0_i32_21 : BitVec 32 := 0#32
  let v42 : BitVec 32 := Scalar.addi v41 c0_i32_21
  let v43 : BitVec 32 := Scalar.select v40 v42 arg2
  let c256_i32_22 : BitVec 32 := 256#32
  let v44 : BitVec 32 := Scalar.muli v43 c256_i32_22
  let v45 : BitVec 32 := v44
  let v46 : Index := Scalar.indexCast v45
  let c0_23 : Index := 0#32
  ![v46.toNat, 0]
@[reducible] def k0_t1_loop (i : grid0.Coords) : Scf.Loop 32 :=
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_50 : BitVec 32 := 1#32
  ⟨c0_i32_48, v89, c1_i32_50⟩
def k0_mult3 (i : grid0.Coords) (k0_t1 : Fin (k0_t1_loop i).trips) : BitVec 32 :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_95 : BitVec 32 := 1#32
  let v153 : BitVec 32 := Scalar.addi v152 c1_i32_95
  let c7_i32 : BitVec 32 := 7#32
  let arg2 : BitVec 32 := BitVec.ofNat 32 (i 2).val
  let v39 : BitVec 32 := Scalar.subi c7_i32 arg2
  let v154 : BitVec 1 := Scalar.cmpi .slt v153 v39
  let c1_i32_96 : BitVec 32 := 1#32
  let v155 : BitVec 32 := Scalar.addi arg2 c1_i32_96
  let v156 : BitVec 32 := Scalar.addi v155 v153
  let v157 : BitVec 32 := Scalar.select v154 v156 arg2
  let c256_i32_97 : BitVec 32 := 256#32
  let v158 : BitVec 32 := Scalar.muli v157 c256_i32_97
  v158
def k0_off4 (i : grid0.Coords) (k0_t1 : Fin (k0_t1_loop i).trips) (c1_i32_95 : BitVec 32) : Fin 2 → Nat :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let v153 : BitVec 32 := Scalar.addi v152 c1_i32_95
  let c7_i32 : BitVec 32 := 7#32
  let arg2 : BitVec 32 := BitVec.ofNat 32 (i 2).val
  let v39 : BitVec 32 := Scalar.subi c7_i32 arg2
  let v154 : BitVec 1 := Scalar.cmpi .slt v153 v39
  let c1_i32_96 : BitVec 32 := 1#32
  let v155 : BitVec 32 := Scalar.addi arg2 c1_i32_96
  let v156 : BitVec 32 := Scalar.addi v155 v153
  let v157 : BitVec 32 := Scalar.select v154 v156 arg2
  let c256_i32_97 : BitVec 32 := 256#32
  let v158 : BitVec 32 := Scalar.muli v157 c256_i32_97
  let v159 : BitVec 32 := v158
  let v160 : Index := Scalar.indexCast v159
  let c0_98 : Index := 0#32
  ![v160.toNat, 0]
def k0_mult4 (i : grid0.Coords) (k0_t1 : Fin (k0_t1_loop i).trips) : BitVec 32 :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  v186
def k0_off5 (i : grid0.Coords) (k0_t1 : Fin (k0_t1_loop i).trips) : Fin 2 → Nat :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v188 : Index := Scalar.indexCast v187
  let c0_118 : Index := 0#32
  ![v188.toNat, 0]
def k0_off6 (i : grid0.Coords) (k0_t1 : Fin (k0_t1_loop i).trips) : Fin 3 → Nat :=
  let c0_133 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v220 : Index := Scalar.indexCast v187
  let c0_134 : Index := 0#32
  ![0, v220.toNat, 0]
def k0_off7 (i : grid0.Coords) (k0_t1 : Fin (k0_t1_loop i).trips) : Fin 4 → Nat :=
  let c0_140 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let v233 : Index := Scalar.indexCast v185
  let c0_141 : Index := 0#32
  let c0_142 : Index := 0#32
  ![0, v233.toNat, 0, 0]
def k0_off8 (i : grid0.Coords) (k0_t1 : Fin (k0_t1_loop i).trips) : Fin 3 → Nat :=
  let c1_170 : Index := 1#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v284 : Index := Scalar.indexCast v187
  let c0_171 : Index := 0#32
  ![1, v284.toNat, 0]
def k0_off9 (i : grid0.Coords) (k0_t1 : Fin (k0_t1_loop i).trips) : Fin 4 → Nat :=
  let c0_176 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c7_i32 : BitVec 32 := 7#32
  let arg2 : BitVec 32 := BitVec.ofNat 32 (i 2).val
  let v39 : BitVec 32 := Scalar.subi c7_i32 arg2
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let v297 : Index := Scalar.indexCast v185
  let c64_177 : Index := 64#32
  let c0_178 : Index := 0#32
  ![0, v297.toNat, 64, 0]
def k0_mult5 (i : grid0.Coords) (k0_t1 : Fin (k0_t1_loop i).trips) : BitVec 32 :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c2_i32_193 : BitVec 32 := 2#32
  let v322 : BitVec 32 := Scalar.addi v152 c2_i32_193
  let c7_i32 : BitVec 32 := 7#32
  let arg2 : BitVec 32 := BitVec.ofNat 32 (i 2).val
  let v39 : BitVec 32 := Scalar.subi c7_i32 arg2
  let v323 : BitVec 1 := Scalar.cmpi .slt v322 v39
  let c1_i32_194 : BitVec 32 := 1#32
  let v324 : BitVec 32 := Scalar.addi arg2 c1_i32_194
  let v325 : BitVec 32 := Scalar.addi v324 v322
  let v326 : BitVec 32 := Scalar.select v323 v325 arg2
  let c256_i32_195 : BitVec 32 := 256#32
  let v327 : BitVec 32 := Scalar.muli v326 c256_i32_195
  v327
def k0_mult6 (i : grid0.Coords) (k0_t1 : Fin (k0_t1_loop i).trips) : BitVec 32 :=
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  v356
def k0_off10 (i : grid0.Coords) (k0_t1 : Fin (k0_t1_loop i).trips) : Fin 3 → Nat :=
  let c0_232 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  let v357 : BitVec 32 := v356
  let v390 : Index := Scalar.indexCast v357
  let c0_233 : Index := 0#32
  ![0, v390.toNat, 0]
def k0_off11 (i : grid0.Coords) (k0_t1 : Fin (k0_t1_loop i).trips) : Fin 4 → Nat :=
  let c0_239 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let v403 : Index := Scalar.indexCast v355
  let c0_240 : Index := 0#32
  let c0_241 : Index := 0#32
  ![0, v403.toNat, 0, 0]
def k0_off12 (i : grid0.Coords) (k0_t1 : Fin (k0_t1_loop i).trips) : Fin 3 → Nat :=
  let c1_269 : Index := 1#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  let v357 : BitVec 32 := v356
  let v454 : Index := Scalar.indexCast v357
  let c0_270 : Index := 0#32
  ![1, v454.toNat, 0]
def k0_off13 (i : grid0.Coords) (k0_t1 : Fin (k0_t1_loop i).trips) : Fin 4 → Nat :=
  let c0_276 : Index := 0#32
  let c2_i32_94 : BitVec 32 := 2#32
  let c0_i32_48 : BitVec 32 := 0#32
  let c1_i32_50 : BitVec 32 := 1#32
  let arg26 : BitVec 32 := Scf.iv c0_i32_48 c1_i32_50 k0_t1
  let v152 : BitVec 32 := Scalar.muli c2_i32_94 arg26
  let c1_i32_214 : BitVec 32 := 1#32
  let v351 : BitVec 32 := Scalar.addi v152 c1_i32_214
  let c7_i32 : BitVec 32 := 7#32
  let arg2 : BitVec 32 := BitVec.ofNat 32 (i 2).val
  let v39 : BitVec 32 := Scalar.subi c7_i32 arg2
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let v467 : Index := Scalar.indexCast v355
  let c64_277 : Index := 64#32
  let c0_278 : Index := 0#32
  ![0, v467.toNat, 64, 0]
@[reducible] def k0_t2_loop (i : grid0.Coords) : Scf.Loop 32 :=
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let v86 : BitVec 32 := Scalar.addi c0_i32_48 v85
  let c1_i32_51 : BitVec 32 := 1#32
  ⟨v89, v86, c1_i32_51⟩
def k0_mult7 (i : grid0.Coords) (k0_t2 : Fin (k0_t2_loop i).trips) : BitVec 32 :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_95 : BitVec 32 := 1#32
  let v153 : BitVec 32 := Scalar.addi v152 c1_i32_95
  let v154 : BitVec 1 := Scalar.cmpi .slt v153 v39
  let c1_i32_96 : BitVec 32 := 1#32
  let v155 : BitVec 32 := Scalar.addi arg2 c1_i32_96
  let v156 : BitVec 32 := Scalar.addi v155 v153
  let v157 : BitVec 32 := Scalar.select v154 v156 arg2
  let c256_i32_97 : BitVec 32 := 256#32
  let v158 : BitVec 32 := Scalar.muli v157 c256_i32_97
  v158
def k0_off14 (i : grid0.Coords) (k0_t2 : Fin (k0_t2_loop i).trips) (c1_i32_95 : BitVec 32) : Fin 2 → Nat :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v153 : BitVec 32 := Scalar.addi v152 c1_i32_95
  let v154 : BitVec 1 := Scalar.cmpi .slt v153 v39
  let c1_i32_96 : BitVec 32 := 1#32
  let v155 : BitVec 32 := Scalar.addi arg2 c1_i32_96
  let v156 : BitVec 32 := Scalar.addi v155 v153
  let v157 : BitVec 32 := Scalar.select v154 v156 arg2
  let c256_i32_97 : BitVec 32 := 256#32
  let v158 : BitVec 32 := Scalar.muli v157 c256_i32_97
  let v159 : BitVec 32 := v158
  let v160 : Index := Scalar.indexCast v159
  let c0_98 : Index := 0#32
  ![v160.toNat, 0]
def k0_mult8 (i : grid0.Coords) (k0_t2 : Fin (k0_t2_loop i).trips) : BitVec 32 :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  v186
def k0_off15 (i : grid0.Coords) (k0_t2 : Fin (k0_t2_loop i).trips) : Fin 2 → Nat :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v188 : Index := Scalar.indexCast v187
  let c0_118 : Index := 0#32
  ![v188.toNat, 0]
def k0_off16 (i : grid0.Coords) (k0_t2 : Fin (k0_t2_loop i).trips) : Fin 3 → Nat :=
  let c0_133 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v220 : Index := Scalar.indexCast v187
  let c0_134 : Index := 0#32
  ![0, v220.toNat, 0]
def k0_off17 (i : grid0.Coords) (k0_t2 : Fin (k0_t2_loop i).trips) : Fin 4 → Nat :=
  let c0_140 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let v233 : Index := Scalar.indexCast v185
  let c0_141 : Index := 0#32
  let c0_142 : Index := 0#32
  ![0, v233.toNat, 0, 0]
def k0_off18 (i : grid0.Coords) (k0_t2 : Fin (k0_t2_loop i).trips) : Fin 3 → Nat :=
  let c1_170 : Index := 1#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let c256_i32_117 : BitVec 32 := 256#32
  let v186 : BitVec 32 := Scalar.muli v185 c256_i32_117
  let v187 : BitVec 32 := v186
  let v284 : Index := Scalar.indexCast v187
  let c0_171 : Index := 0#32
  ![1, v284.toNat, 0]
def k0_off19 (i : grid0.Coords) (k0_t2 : Fin (k0_t2_loop i).trips) : Fin 4 → Nat :=
  let c0_176 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let v182 : BitVec 1 := Scalar.cmpi .slt v152 v39
  let c1_i32_116 : BitVec 32 := 1#32
  let v183 : BitVec 32 := Scalar.addi arg2 c1_i32_116
  let v184 : BitVec 32 := Scalar.addi v183 v152
  let v185 : BitVec 32 := Scalar.select v182 v184 arg2
  let v297 : Index := Scalar.indexCast v185
  let c64_177 : Index := 64#32
  let c0_178 : Index := 0#32
  ![0, v297.toNat, 64, 0]
def k0_mult9 (i : grid0.Coords) (k0_t2 : Fin (k0_t2_loop i).trips) : BitVec 32 :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c2_i32_193 : BitVec 32 := 2#32
  let v322 : BitVec 32 := Scalar.addi v152 c2_i32_193
  let v323 : BitVec 1 := Scalar.cmpi .slt v322 v39
  let c1_i32_194 : BitVec 32 := 1#32
  let v324 : BitVec 32 := Scalar.addi arg2 c1_i32_194
  let v325 : BitVec 32 := Scalar.addi v324 v322
  let v326 : BitVec 32 := Scalar.select v323 v325 arg2
  let c256_i32_195 : BitVec 32 := 256#32
  let v327 : BitVec 32 := Scalar.muli v326 c256_i32_195
  v327
def k0_mult10 (i : grid0.Coords) (k0_t2 : Fin (k0_t2_loop i).trips) : BitVec 32 :=
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  v356
def k0_off20 (i : grid0.Coords) (k0_t2 : Fin (k0_t2_loop i).trips) : Fin 3 → Nat :=
  let c0_232 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  let v357 : BitVec 32 := v356
  let v390 : Index := Scalar.indexCast v357
  let c0_233 : Index := 0#32
  ![0, v390.toNat, 0]
def k0_off21 (i : grid0.Coords) (k0_t2 : Fin (k0_t2_loop i).trips) : Fin 4 → Nat :=
  let c0_239 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let v403 : Index := Scalar.indexCast v355
  let c0_240 : Index := 0#32
  let c0_241 : Index := 0#32
  ![0, v403.toNat, 0, 0]
def k0_off22 (i : grid0.Coords) (k0_t2 : Fin (k0_t2_loop i).trips) : Fin 3 → Nat :=
  let c1_269 : Index := 1#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let c256_i32_216 : BitVec 32 := 256#32
  let v356 : BitVec 32 := Scalar.muli v355 c256_i32_216
  let v357 : BitVec 32 := v356
  let v454 : Index := Scalar.indexCast v357
  let c0_270 : Index := 0#32
  ![1, v454.toNat, 0]
def k0_off23 (i : grid0.Coords) (k0_t2 : Fin (k0_t2_loop i).trips) : Fin 4 → Nat :=
  let c0_276 : Index := 0#32
  let c2_i32_94 : BitVec 32 := 2#32
  let c0_i32_48 : BitVec 32 := 0#32
  let c7_i32 : BitVec 32 := 7#32
  let arg2 : BitVec 32 := BitVec.ofNat 32 (i 2).val
  let v39 : BitVec 32 := Scalar.subi c7_i32 arg2
  let c0_i32_41 : BitVec 32 := 0#32
  let v69 : BitVec 1 := Scalar.cmpi .sgt v39 c0_i32_41
  let v70 : BitVec 32 := Scalar.extui v69
  let c0_i32_42 : BitVec 32 := 0#32
  let v71 : BitVec 1 := Scalar.cmpi .slt v39 c0_i32_42
  let v72 : BitVec 32 := Scalar.extui v71
  let v73 : BitVec 32 := Scalar.subi v70 v72
  let c2_i32 : BitVec 32 := 2#32
  let c0_i32_43 : BitVec 32 := 0#32
  let v74 : BitVec 1 := Scalar.cmpi .sgt c2_i32 c0_i32_43
  let v75 : BitVec 32 := Scalar.extui v74
  let c0_i32_44 : BitVec 32 := 0#32
  let v76 : BitVec 1 := Scalar.cmpi .slt c2_i32 c0_i32_44
  let v77 : BitVec 32 := Scalar.extui v76
  let v78 : BitVec 32 := Scalar.subi v75 v77
  let v79 : BitVec 1 := Scalar.cmpi .ne v73 v78
  let v80 : BitVec 32 := Scalar.remsi v39 c2_i32
  let c0_i32_45 : BitVec 32 := 0#32
  let v81 : BitVec 1 := Scalar.cmpi .ne v80 c0_i32_45
  let v82 : BitVec 1 := Scalar.andi v79 v81
  let v68 : BitVec 32 := Scalar.divsi v39 c2_i32
  let c1_i32_46 : BitVec 32 := 1#32
  let v83 : BitVec 32 := Scalar.subi v68 c1_i32_46
  let v84 : BitVec 32 := Scalar.select v82 v83 v68
  let v85 : BitVec 32 := Scalar.subi v84 c0_i32_48
  let c1_i32_49 : BitVec 32 := 1#32
  let v87 : BitVec 32 := Scalar.divsi v85 c1_i32_49
  let v88 : BitVec 32 := Scalar.muli v87 c1_i32_49
  let v89 : BitVec 32 := Scalar.addi c0_i32_48 v88
  let c1_i32_51 : BitVec 32 := 1#32
  let arg26 : BitVec 32 := Scf.iv v89 c1_i32_51 k0_t2
  let v152 : BitVec 32 := Scalar.muli c2_i32_94 arg26
  let c1_i32_214 : BitVec 32 := 1#32
  let v351 : BitVec 32 := Scalar.addi v152 c1_i32_214
  let v352 : BitVec 1 := Scalar.cmpi .slt v351 v39
  let c1_i32_215 : BitVec 32 := 1#32
  let v353 : BitVec 32 := Scalar.addi arg2 c1_i32_215
  let v354 : BitVec 32 := Scalar.addi v353 v351
  let v355 : BitVec 32 := Scalar.select v352 v354 arg2
  let v467 : Index := Scalar.indexCast v355
  let c64_277 : Index := 64#32
  let c0_278 : Index := 0#32
  ![0, v467.toNat, 64, 0]
def k0_cond2 (i : grid0.Coords) : BitVec 1 :=
  let c7_i32 : BitVec 32 := 7#32
  let arg2 : BitVec 32 := BitVec.ofNat 32 (i 2).val
  let v39 : BitVec 32 := Scalar.subi c7_i32 arg2
  let c2_i32_52 : BitVec 32 := 2#32
  let c0_i32_53 : BitVec 32 := 0#32
  let v90 : BitVec 1 := Scalar.cmpi .eq c2_i32_52 c0_i32_53
  let c1_i32_54 : BitVec 32 := 1#32
  let v91 : BitVec 32 := Scalar.select v90 c1_i32_54 c2_i32_52
  let v92 : BitVec 32 := Scalar.remsi v39 v91
  let c0_i32_56 : BitVec 32 := 0#32
  let v94 : BitVec 1 := Scalar.cmpi .slt v92 c0_i32_56
  let c0_i32_57 : BitVec 32 := 0#32
  let v95 : BitVec 1 := Scalar.cmpi .slt v91 c0_i32_57
  let v96 : BitVec 1 := Scalar.xori v94 v95
  let c0_i32_55 : BitVec 32 := 0#32
  let v93 : BitVec 1 := Scalar.cmpi .ne v92 c0_i32_55
  let v97 : BitVec 1 := Scalar.andi v96 v93
  let v98 : BitVec 32 := Scalar.addi v92 v91
  let v99 : BitVec 32 := Scalar.select v97 v98 v92
  let c0_i32_58 : BitVec 32 := 0#32
  let v100 : BitVec 1 := Scalar.cmpi .eq v99 c0_i32_58
  let v101 : BitVec 32 := Scalar.extui v100
  let c0_i32_59 : BitVec 32 := 0#32
  let v102 : BitVec 1 := Scalar.cmpi .ne v101 c0_i32_59
  v102

def k0_mult11 (i : grid0.Coords) : BitVec 32 :=
  let arg2 : BitVec 32 := BitVec.ofNat 32 (i 2).val
  let c256_i32_94 : BitVec 32 := 256#32
  let v152 : BitVec 32 := Scalar.muli arg2 c256_i32_94
  v152
def k0_off24 (i : grid0.Coords) : Fin 2 → Nat :=
  let arg2 : BitVec 32 := BitVec.ofNat 32 (i 2).val
  let c256_i32_94 : BitVec 32 := 256#32
  let v152 : BitVec 32 := Scalar.muli arg2 c256_i32_94
  let v153 : BitVec 32 := v152
  let v154 : Index := Scalar.indexCast v153
  let c0_95 : Index := 0#32
  ![v154.toNat, 0]
def k0_off25 (i : grid0.Coords) : Fin 3 → Nat :=
  let c0_111 : Index := 0#32
  let arg2 : BitVec 32 := BitVec.ofNat 32 (i 2).val
  let c256_i32_94 : BitVec 32 := 256#32
  let v152 : BitVec 32 := Scalar.muli arg2 c256_i32_94
  let v153 : BitVec 32 := v152
  let v189 : Index := Scalar.indexCast v153
  let c0_112 : Index := 0#32
  ![0, v189.toNat, 0]
def k0_off26 (i : grid0.Coords) : Fin 4 → Nat :=
  let c0_118 : Index := 0#32
  let arg2 : BitVec 32 := BitVec.ofNat 32 (i 2).val
  let v202 : Index := Scalar.indexCast arg2
  let c0_119 : Index := 0#32
  let c0_120 : Index := 0#32
  ![0, v202.toNat, 0, 0]
def k0_off27 (i : grid0.Coords) : Fin 3 → Nat :=
  let c1_149 : Index := 1#32
  let arg2 : BitVec 32 := BitVec.ofNat 32 (i 2).val
  let c256_i32_94 : BitVec 32 := 256#32
  let v152 : BitVec 32 := Scalar.muli arg2 c256_i32_94
  let v153 : BitVec 32 := v152
  let v256 : Index := Scalar.indexCast v153
  let c0_150 : Index := 0#32
  ![1, v256.toNat, 0]
def k0_off28 (i : grid0.Coords) : Fin 4 → Nat :=
  let c0_155 : Index := 0#32
  let arg2 : BitVec 32 := BitVec.ofNat 32 (i 2).val
  let v269 : Index := Scalar.indexCast arg2
  let c64_156 : Index := 64#32
  let c0_157 : Index := 0#32
  ![0, v269.toNat, 64, 0]
def k0_cond3 (i : grid0.Coords) : BitVec 1 :=
  let c7_i32 : BitVec 32 := 7#32
  let arg2 : BitVec 32 := BitVec.ofNat 32 (i 2).val
  let v39 : BitVec 32 := Scalar.subi c7_i32 arg2
  let c2_i32_60 : BitVec 32 := 2#32
  let c0_i32_61 : BitVec 32 := 0#32
  let v103 : BitVec 1 := Scalar.cmpi .eq c2_i32_60 c0_i32_61
  let c1_i32_62 : BitVec 32 := 1#32
  let v104 : BitVec 32 := Scalar.select v103 c1_i32_62 c2_i32_60
  let v105 : BitVec 32 := Scalar.remsi v39 v104
  let c0_i32_64 : BitVec 32 := 0#32
  let v107 : BitVec 1 := Scalar.cmpi .slt v105 c0_i32_64
  let c0_i32_65 : BitVec 32 := 0#32
  let v108 : BitVec 1 := Scalar.cmpi .slt v104 c0_i32_65
  let v109 : BitVec 1 := Scalar.xori v107 v108
  let c0_i32_63 : BitVec 32 := 0#32
  let v106 : BitVec 1 := Scalar.cmpi .ne v105 c0_i32_63
  let v110 : BitVec 1 := Scalar.andi v109 v106
  let v111 : BitVec 32 := Scalar.addi v105 v104
  let v112 : BitVec 32 := Scalar.select v110 v111 v105
  let c1_i32_66 : BitVec 32 := 1#32
  let v113 : BitVec 1 := Scalar.cmpi .eq v112 c1_i32_66
  let v114 : BitVec 32 := Scalar.extui v113
  let c0_i32_67 : BitVec 32 := 0#32
  let v115 : BitVec 1 := Scalar.cmpi .ne v114 c0_i32_67
  v115

def k0_mult12 (i : grid0.Coords) : BitVec 32 :=
  let arg2 : BitVec 32 := BitVec.ofNat 32 (i 2).val
  let c256_i32_94 : BitVec 32 := 256#32
  let v152 : BitVec 32 := Scalar.muli arg2 c256_i32_94
  v152
def k0_off29 (i : grid0.Coords) : Fin 2 → Nat :=
  let arg2 : BitVec 32 := BitVec.ofNat 32 (i 2).val
  let c256_i32_94 : BitVec 32 := 256#32
  let v152 : BitVec 32 := Scalar.muli arg2 c256_i32_94
  let v153 : BitVec 32 := v152
  let v154 : Index := Scalar.indexCast v153
  let c0_95 : Index := 0#32
  ![v154.toNat, 0]
def k0_mult13 : BitVec 32 :=
  let c1792_i32 : BitVec 32 := 1792#32
  c1792_i32
def k0_mult14 (i : grid0.Coords) : BitVec 32 :=
  let arg2 : BitVec 32 := BitVec.ofNat 32 (i 2).val
  let c256_i32_191 : BitVec 32 := 256#32
  let v307 : BitVec 32 := Scalar.muli arg2 c256_i32_191
  v307
def k0_off30 (i : grid0.Coords) : Fin 3 → Nat :=
  let c0_208 : Index := 0#32
  let arg2 : BitVec 32 := BitVec.ofNat 32 (i 2).val
  let c256_i32_191 : BitVec 32 := 256#32
  let v307 : BitVec 32 := Scalar.muli arg2 c256_i32_191
  let v308 : BitVec 32 := v307
  let v344 : Index := Scalar.indexCast v308
  let c0_209 : Index := 0#32
  ![0, v344.toNat, 0]
def k0_off31 (i : grid0.Coords) : Fin 4 → Nat :=
  let c0_215 : Index := 0#32
  let arg2 : BitVec 32 := BitVec.ofNat 32 (i 2).val
  let v357 : Index := Scalar.indexCast arg2
  let c0_216 : Index := 0#32
  let c0_217 : Index := 0#32
  ![0, v357.toNat, 0, 0]
def k0_off32 (i : grid0.Coords) : Fin 3 → Nat :=
  let c1_246 : Index := 1#32
  let arg2 : BitVec 32 := BitVec.ofNat 32 (i 2).val
  let c256_i32_191 : BitVec 32 := 256#32
  let v307 : BitVec 32 := Scalar.muli arg2 c256_i32_191
  let v308 : BitVec 32 := v307
  let v411 : Index := Scalar.indexCast v308
  let c0_247 : Index := 0#32
  ![1, v411.toNat, 0]
def k0_off33 (i : grid0.Coords) : Fin 4 → Nat :=
  let c0_253 : Index := 0#32
  let arg2 : BitVec 32 := BitVec.ofNat 32 (i 2).val
  let v424 : Index := Scalar.indexCast arg2
  let c64_254 : Index := 64#32
  let c0_255 : Index := 0#32
  ![0, v424.toNat, 64, 0]
def k0_cond4 (i : grid0.Coords) : BitVec 1 :=
  let arg2 : BitVec 32 := BitVec.ofNat 32 (i 2).val
  let c7_i32_92 : BitVec 32 := 7#32
  let v149 : BitVec 1 := Scalar.cmpi .eq arg2 c7_i32_92
  let v150 : BitVec 32 := Scalar.extui v149
  let c0_i32_93 : BitVec 32 := 0#32
  let v151 : BitVec 1 := Scalar.cmpi .ne v150 c0_i32_93
  v151

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x8x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== ReferenceIdeal.lean ====
abbrev S2x2048x8x64 : Shape := ⟨4, ![2, 2048, 8, 64]⟩
abbrev S2x2048x8 : Shape := ⟨3, ![2, 2048, 8]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x1x2048 : Shape := ⟨4, ![2, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S2x8x64x2048 : Shape := ⟨4, ![2, 8, 64, 2048]⟩
abbrev S2x8x2048x64 : Shape := ⟨4, ![2, 8, 2048, 64]⟩
abbrev S2x2048x8x1 : Shape := ⟨4, ![2, 2048, 8, 1]⟩
abbrev S4096x512 : Shape := ⟨2, ![4096, 512]⟩
abbrev S2x4x2x2048 : Shape := ⟨4, ![2, 4, 2, 2048]⟩
abbrev S2x4x8x2048 : Shape := ⟨4, ![2, 4, 8, 2048]⟩

abbrev nBuf : Space → Nat
  | .hbm => 127
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x2048x8, .f32⟩
  | .hbm, ⟨4, _⟩ => ⟨S2x2048x8x64, .f32⟩
  | .hbm, ⟨5, _⟩ => ⟨S2x8x2048x2048, .f32⟩
  | .hbm, ⟨6, _⟩ => ⟨S_, .f32⟩
  | .hbm, ⟨7, _⟩ => ⟨S2x8x2048x2048, .f32⟩
  | .hbm, ⟨8, _⟩ => ⟨S2x8x2048x2048, .f32⟩
  | .hbm, ⟨9, _⟩ => ⟨S2x8x2048, .f32⟩
  | .hbm, ⟨10, _⟩ => ⟨S2x8x2048x1, .f32⟩
  | .hbm, ⟨11, _⟩ => ⟨S2x8x2048, .f32⟩
  | .hbm, ⟨12, _⟩ => ⟨S2x8x1x2048, .f32⟩
  | .hbm, ⟨13, _⟩ => ⟨S2x8x2048x2048, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S2x8x2048x2048, .i1⟩
  | .hbm, ⟨28, _⟩ => ⟨S2x8x2048x2048, .f32⟩
  | .hbm, ⟨29, _⟩ => ⟨S2x8x2048x2048, .f32⟩
  | .hbm, ⟨30, _⟩ => ⟨S_, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .i1⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S2x8x2048, .f32⟩
  | .hbm, ⟨43, _⟩ => ⟨S_, .f32⟩
  | .hbm, ⟨44, _⟩ => ⟨S2x8x2048, .f32⟩
  | .hbm, ⟨45, _⟩ => ⟨S2x8x2048, .i1⟩
  | .hbm, ⟨46, _⟩ => ⟨S_, .f32⟩
  | .hbm, ⟨47, _⟩ => ⟨S2x8x2048, .f32⟩
  | .hbm, ⟨48, _⟩ => ⟨S2x8x2048, .i1⟩
  | .hbm, ⟨49, _⟩ => ⟨S_, .f32⟩
  | .hbm, ⟨50, _⟩ => ⟨S2x8x2048, .f32⟩
  | .hbm, ⟨51, _⟩ => ⟨S_, .f32⟩
  | .hbm, ⟨52, _⟩ => ⟨S2x8x2048, .f32⟩
  | .hbm, ⟨53, _⟩ => ⟨S_, .f32⟩
  | .hbm, ⟨54, _⟩ => ⟨S2x8x2048, .f32⟩
  | .hbm, ⟨55, _⟩ => ⟨S2x8x2048, .f32⟩
  | .hbm, ⟨56, _⟩ => ⟨S2x8x2048, .f32⟩
  | .hbm, ⟨57, _⟩ => ⟨S2x8x2048x1, .f32⟩
  | .hbm, ⟨58, _⟩ => ⟨S2x8x2048x2048, .f32⟩
  | .hbm, ⟨59, _⟩ => ⟨S2x8x2048x2048, .f32⟩
  | .hbm, ⟨60, _⟩ => ⟨S2x8x2048x2048, .f32⟩
  | .hbm, ⟨61, _⟩ => ⟨S_, .f32⟩
  | .hbm, ⟨62, _⟩ => ⟨S2x8x2048, .f32⟩
  | .hbm, ⟨63, _⟩ => ⟨S2x8x2048x1, .f32⟩
  | .hbm, ⟨64, _⟩ => ⟨S2x8x2048x2048, .f32⟩
  | .hbm, ⟨65, _⟩ => ⟨S2x8x2048x2048, .f32⟩
  | .hbm, ⟨66, _⟩ => ⟨S2x8x2048x1, .f32⟩
  | .hbm, ⟨67, _⟩ => ⟨S_, .f32⟩
  | .hbm, ⟨68, _⟩ => ⟨S2x8x2048x1, .f32⟩
  | .hbm, ⟨69, _⟩ => ⟨S2x8x2048x1, .f32⟩
  | .hbm, ⟨70, _⟩ => ⟨S2x8x64x2048, .f32⟩
  | .hbm, ⟨71, _⟩ => ⟨S2x2048x8x64, .f32⟩
  | .hbm, ⟨72, _⟩ => ⟨S2x8x64x2048, .f32⟩
  | .hbm, ⟨73, _⟩ => ⟨S2x8x2048x2048, .f32⟩
  | .hbm, ⟨74, _⟩ => ⟨S2x8x64x2048, .f32⟩
  | .hbm, ⟨75, _⟩ => ⟨S2x2048x8x64, .f32⟩
  | .hbm, ⟨76, _⟩ => ⟨S2x8x2048x2048, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048, .f32⟩
  | .hbm, ⟨81, _⟩ => ⟨S2x8x2048x1, .f32⟩
  | .hbm, ⟨82, _⟩ => ⟨S2x8x2048x1, .f32⟩
  | .hbm, ⟨83, _⟩ => ⟨S2x8x2048x2048, .f32⟩
  | .hbm, ⟨84, _⟩ => ⟨S2x8x2048x2048, .f32⟩
  | .hbm, ⟨85, _⟩ => ⟨S_, .f32⟩
  | .hbm, ⟨86, _⟩ => ⟨S2x8x2048, .f32⟩
  | .hbm, ⟨87, _⟩ => ⟨S2x8x2048x2048, .f32⟩
  | .hbm, ⟨88, _⟩ => ⟨S2x8x2048x2048, .f32⟩
  | .hbm, ⟨89, _⟩ => ⟨S2x8x2048x2048, .f32⟩
  | .hbm, ⟨90, _⟩ => ⟨S_, .f32⟩
  | .hbm, ⟨91, _⟩ => ⟨S2x8x2048x2048, .f32⟩
  | .hbm, ⟨92, _⟩ => ⟨S2x8x2048x2048, .f32⟩
  | .hbm, ⟨93, _⟩ => ⟨S_, .f32⟩
  | .hbm, ⟨94, _⟩ => ⟨S2x8x2048, .f32⟩
  | .hbm, ⟨95, _⟩ => ⟨S2x8x2048x1, .f32⟩
  | .hbm, ⟨96, _⟩ => ⟨S2x8x2048x2048, .f32⟩
  | .hbm, ⟨97, _⟩ => ⟨S_, .f32⟩
  | .hbm, ⟨98, _⟩ => ⟨S2x8x2048, .f32⟩
  | .hbm, ⟨99, _⟩ => ⟨S2x8x1x2048, .f32⟩
  | .hbm, ⟨100, _⟩ => ⟨S_, .f32⟩
  | .hbm, ⟨101, _⟩ => ⟨S2x8x2048, .f32⟩
  | .hbm, ⟨102, _⟩ => ⟨S2x2048x8, .f32⟩
  | .hbm, ⟨103, _⟩ => ⟨S_, .f32⟩
  | .hbm, ⟨104, _⟩ => ⟨S2x8x2048, .f32⟩
  | .hbm, ⟨105, _⟩ => ⟨S2x2048x8, .f32⟩
  | .hbm, ⟨106, _⟩ => ⟨S_, .f32⟩
  | .hbm, ⟨107, _⟩ => ⟨S2x8x2048x2048, .f32⟩
  | .hbm, ⟨108, _⟩ => ⟨S2x8x2048x2048, .f32⟩
  | .hbm, ⟨109, _⟩ => ⟨S2x8x2048x64, .f32⟩
  | .hbm, ⟨110, _⟩ => ⟨S2x2048x8x64, .f32⟩
  | .hbm, ⟨111, _⟩ => ⟨S2x8x2048x64, .f32⟩
  | .hbm, ⟨112, _⟩ => ⟨S2x2048x8x64, .f32⟩
  | .hbm, ⟨113, _⟩ => ⟨S2x2048x8x1, .f32⟩
  | .hbm, ⟨114, _⟩ => ⟨S2x2048x8x64, .f32⟩
  | .hbm, ⟨115, _⟩ => ⟨S4096x512, .f32⟩
  | .hbm, ⟨116, _⟩ => ⟨S2x8x2048, .f32⟩
  | .hbm, ⟨117, _⟩ => ⟨S2x4x2x2048, .f32⟩
  | .hbm, ⟨118, _⟩ => ⟨S4096x512, .f32⟩
  | .hbm, ⟨119, _⟩ => ⟨S4096x512, .bf16⟩
  | .hbm, ⟨120, _⟩ => ⟨S4096x512, .f32⟩
  | .hbm, ⟨121, _⟩ => ⟨S4096x512, .bf16⟩
  | .hbm, ⟨122, _⟩ => ⟨S4096x512, .f32⟩
  | .hbm, ⟨123, _⟩ => ⟨S4096x512, .bf16⟩
  | .hbm, ⟨124, _⟩ => ⟨S_, .i32⟩
  | .hbm, ⟨125, _⟩ => ⟨S_, .f32⟩
  | .hbm, ⟨126, _⟩ => ⟨S2x4x8x2048, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call1_cst : Ref sig .tc := ⟨.hbm, 90, rfl⟩
abbrev main_call1_v0 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_call2_v0 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== DwGu.lean ====
abbrev S4096x1024 : Shape := ⟨2, ![4096, 1024]⟩
abbrev S4096x5632 : Shape := ⟨2, ![4096, 5632]⟩
abbrev S4x1024x1408 : Shape := ⟨3, ![4, 1024, 1408]⟩
abbrev S1024x1024 : Shape := ⟨2, ![1024, 1024]⟩
abbrev S1024x2816 : Shape := ⟨2, ![1024, 2816]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .f32⟩
  | .local _ .vmem, ⟨5, _⟩ => ⟨S2x1024x1408, .f32⟩
  | .local _ .vmem, ⟨6, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGuIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefOutIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwMq.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMqIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwMo.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMoIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwIn.lean ====
abbrev S4096x2688 : Shape := ⟨2, ![4096, 2688]⟩
abbrev S4096x1024 : Shape := ⟨2, ![4096, 1024]⟩
abbrev S2568x1024 : Shape := ⟨2, ![2568, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2688, .bf16⟩
  | .hbm, ⟨1, _⟩ => ⟨S4096x1024, .bf16⟩
  | .hbm, ⟨2, _⟩ => ⟨S2568x1024, .f32⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | _, _ => ⟨S4096x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInIdeal.lean ====
abbrev S4096x2688 : Shape := ⟨2, ![4096, 2688]⟩
abbrev S4096x1024 : Shape := ⟨2, ![4096, 1024]⟩
abbrev S_ : Shape := ⟨0, ![]⟩
abbrev S1024x2688 : Shape := ⟨2, ![1024, 2688]⟩
abbrev S2688x1024 : Shape := ⟨2, ![2688, 1024]⟩
abbrev S2568x1024 : Shape := ⟨2, ![2568, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2688, .bf16⟩
  | .hbm, ⟨1, _⟩ => ⟨S4096x1024, .bf16⟩
  | .hbm, ⟨2, _⟩ => ⟨S_, .f32⟩
  | .hbm, ⟨3, _⟩ => ⟨S1024x2688, .f32⟩
  | .hbm, ⟨4, _⟩ => ⟨S4096x1024, .f32⟩
  | .hbm, ⟨5, _⟩ => ⟨S4096x2688, .f32⟩
  | .hbm, ⟨6, _⟩ => ⟨S4096x2688, .f32⟩
  | .hbm, ⟨7, _⟩ => ⟨S2688x1024, .f32⟩
  | .hbm, ⟨8, _⟩ => ⟨S1024x2688, .f32⟩
  | .hbm, ⟨9, _⟩ => ⟨S2688x1024, .f32⟩
  | .hbm, ⟨10, _⟩ => ⟨S2568x1024, .f32⟩
  | _, _ => ⟨S4096x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BwdIn.lean ====
abbrev S4096x1024 : Shape := ⟨2, ![4096, 1024]⟩
abbrev S1024 : Shape := ⟨1, ![1024]⟩
abbrev S1024x2568 : Shape := ⟨2, ![1024, 2568]⟩
abbrev S4096x2568 : Shape := ⟨2, ![4096, 2568]⟩
abbrev S2568x1024 : Shape := ⟨2, ![2568, 1024]⟩
abbrev S8x1024 : Shape := ⟨2, ![8, 1024]⟩
abbrev S_ : Shape := ⟨0, ![]⟩
abbrev S128x1024 : Shape := ⟨2, ![128, 1024]⟩
abbrev S4096x2688 : Shape := ⟨2, ![4096, 2688]⟩
abbrev S1x1024 : Shape := ⟨2, ![1, 1024]⟩
abbrev S512x2688 : Shape := ⟨2, ![512, 2688]⟩
abbrev S512x1024 : Shape := ⟨2, ![512, 1024]⟩
abbrev S512x2560 : Shape := ⟨2, ![512, 2560]⟩
abbrev S2560x1024 : Shape := ⟨2, ![2560, 1024]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2568, .f32⟩
  | .hbm, ⟨4, _⟩ => ⟨S4096x2568, .f32⟩
  | .hbm, ⟨5, _⟩ => ⟨S1024x2568, .bf16⟩
  | .hbm, ⟨6, _⟩ => ⟨S2568x1024, .bf16⟩
  | .hbm, ⟨7, _⟩ => ⟨S8x1024, .bf16⟩
  | .hbm, ⟨8, _⟩ => ⟨S_, .i32⟩
  | .hbm, ⟨9, _⟩ => ⟨S_, .bf16⟩
  | .hbm, ⟨10, _⟩ => ⟨S128x1024, .bf16⟩
  | .hbm, ⟨11, _⟩ => ⟨S4096x2568, .bf16⟩
  | .hbm, ⟨12, _⟩ => ⟨S_, .i32⟩
  | .hbm, ⟨13, _⟩ => ⟨S_, .bf16⟩
  | .hbm, ⟨14, _⟩ => ⟨S4096x2688, .bf16⟩
  | .hbm, ⟨15, _⟩ => ⟨S1x1024, .f32⟩
  | .hbm, ⟨16, _⟩ => ⟨S4096x1024, .f32⟩
  | .hbm, ⟨17, _⟩ => ⟨S1x1024, .f32⟩
  | .local _ .vmem, ⟨0, _⟩ => ⟨S512x2688, .bf16⟩
  | .local _ .vmem, ⟨1, _⟩ => ⟨S512x2688, .bf16⟩
  | .local _ .vmem, ⟨2, _⟩ => ⟨S2568x1024, .bf16⟩
  | .local _ .vmem, ⟨3, _⟩ => ⟨S128x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2568x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefXIdeal.lean ====
abbrev S4096x1024 : Shape := ⟨2, ![4096, 1024]⟩
abbrev S1024 : Shape := ⟨1, ![1024]⟩
abbrev S1024x2568 : Shape := ⟨2, ![1024, 2568]⟩
abbrev S4096x2568 : Shape := ⟨2, ![4096, 2568]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2568, .f32⟩
  | .hbm, ⟨4, _⟩ => ⟨S4096x2568, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2568, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== BwdFfn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S256x1024 : Shape := ⟨2, ![256, 1024]⟩
abbrev S256x5632 : Shape := ⟨2, ![256, 5632]⟩
abbrev S1024x2816 : Shape := ⟨2, ![1024, 2816]⟩
abbrev S4 : Shape := ⟨1, ![4]⟩
abbrev S1 : Shape := ⟨1, ![1]⟩
abbrev S1024x1408 : Shape := ⟨2, ![1024, 1408]⟩
abbrev S1x1024x1408 : Shape := ⟨3, ![1, 1024, 1408]⟩
abbrev S256x2816 : Shape := ⟨2, ![256, 2816]⟩
abbrev S256 : Shape := ⟨1, ![256]⟩
abbrev S256x1 : Shape := ⟨2, ![256, 1]⟩

abbrev nBuf : Space → Nat
  | .hbm => 30
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S2816x1024, .bf16⟩
  | .hbm, ⟨26, _⟩ => ⟨S1x1024, .f32⟩
  | .hbm, ⟨27, _⟩ => ⟨S4096x5632, .bf16⟩
  | .hbm, ⟨28, _⟩ => ⟨S4096x1024, .f32⟩
  | .hbm, ⟨29, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S256x1024, .f32⟩
  | .local _ .vmem, ⟨5, _⟩ => ⟨S256x1024, .f32⟩
  | .local _ .vmem, ⟨6, _⟩ => ⟨S2816x1024, .bf16⟩
  | .local _ .vmem, ⟨7, _⟩ => ⟨S1x1024, .f32⟩
  | .local _ .vmem, ⟨8, _⟩ => ⟨S256x5632, .bf16⟩
  | .local _ .vmem, ⟨9, _⟩ => ⟨S256x5632, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefFfnIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x5632, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x5632, .f32⟩
  | .hbm, ⟨56, _⟩ => ⟨S4096x5632, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x5632, .bf16⟩
  | .hbm, ⟨84, _⟩ => ⟨S4096x1024, .f32⟩
  | .hbm, ⟨85, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== FwdFfn.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S4096x5632 : Shape := ⟨2, ![4096, 5632]⟩
abbrev S4096x2816 : Shape := ⟨2, ![4096, 2816]⟩
abbrev S1x128 : Shape := ⟨2, ![1, 128]⟩
abbrev S256x1024 : Shape := ⟨2, ![256, 1024]⟩
abbrev S256x5632 : Shape := ⟨2, ![256, 5632]⟩
abbrev S256x2816 : Shape := ⟨2, ![256, 2816]⟩
abbrev S1024x2816 : Shape := ⟨2, ![1024, 2816]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩

abbrev nBuf : Space → Nat
  | .hbm => 18
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S4096x1024, .bf16⟩
  | .hbm, ⟨13, _⟩ => ⟨S4096x5632, .f32⟩
  | .hbm, ⟨14, _⟩ => ⟨S4096x2816, .bf16⟩
  | .hbm, ⟨15, _⟩ => ⟨S4096x1024, .f32⟩
  | .hbm, ⟨16, _⟩ => ⟨S1x128, .f32⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S256x5632, .f32⟩
  | .local _ .vmem, ⟨10, _⟩ => ⟨S256x5632, .f32⟩
  | .local _ .vmem, ⟨11, _⟩ => ⟨S256x2816, .bf16⟩
  | .local _ .vmem, ⟨12, _⟩ => ⟨S256x2816, .bf16⟩
  | .local _ .vmem, ⟨13, _⟩ => ⟨S256x1024, .f32⟩
  | .local _ .vmem, ⟨14, _⟩ => ⟨S256x1024, .f32⟩
  | .local _ .vmem, ⟨15, _⟩ => ⟨S1x128, .f32⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RefLayerIdeal.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 101
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .bf16⟩
  | .hbm, ⟨100, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_cst_11 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_cst_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== FwdIn.lean ====
abbrev S4096x1024 : Shape := ⟨2, ![4096, 1024]⟩
abbrev S1024 : Shape := ⟨1, ![1024]⟩
abbrev S1024x2568 : Shape := ⟨2, ![1024, 2568]⟩
abbrev S8 : Shape := ⟨1, ![8]⟩
abbrev S2568x1024 : Shape := ⟨2, ![2568, 1024]⟩
abbrev S8x1024 : Shape := ⟨2, ![8, 1024]⟩
abbrev S_ : Shape := ⟨0, ![]⟩
abbrev S128x1024 : Shape := ⟨2, ![128, 1024]⟩
abbrev S1x8 : Shape := ⟨2, ![1, 8]⟩
abbrev S1x128 : Shape := ⟨2, ![1, 128]⟩
abbrev S1x1024 : Shape := ⟨2, ![1, 1024]⟩
abbrev S4096x512 : Shape := ⟨2, ![4096, 512]⟩
abbrev S4096x128 : Shape := ⟨2, ![4096, 128]⟩
abbrev S2x8x512x256 : Shape := ⟨4, ![2, 8, 512, 256]⟩
abbrev S512x1024 : Shape := ⟨2, ![512, 1024]⟩
abbrev S512x512 : Shape := ⟨2, ![512, 512]⟩
abbrev S512x128 : Shape := ⟨2, ![512, 128]⟩
abbrev S1x2x512x256 : Shape := ⟨4, ![1, 2, 512, 256]⟩
abbrev S8x128 : Shape := ⟨2, ![8, 128]⟩
abbrev S512 : Shape := ⟨1, ![512]⟩
abbrev S512x1 : Shape := ⟨2, ![512, 1]⟩
abbrev S256x512 : Shape := ⟨2, ![256, 512]⟩
abbrev S512x256 : Shape := ⟨2, ![512, 256]⟩
abbrev S1x1x512x256 : Shape := ⟨4, ![1, 1, 512, 256]⟩
abbrev S128x512 : Shape := ⟨2, ![128, 512]⟩

abbrev nBuf : Space → Nat
  | .hbm => 27
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S1024x2568, .bf16⟩
  | .hbm, ⟨5, _⟩ => ⟨S2568x1024, .bf16⟩
  | .hbm, ⟨6, _⟩ => ⟨S8x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S1x8, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S1x1024, .f32⟩
  | .hbm, ⟨15, _⟩ => ⟨S4096x1024, .bf16⟩
  | .hbm, ⟨16, _⟩ => ⟨S4096x512, .f32⟩
  | .hbm, ⟨17, _⟩ => ⟨S4096x512, .f32⟩
  | .hbm, ⟨18, _⟩ => ⟨S4096x512, .bf16⟩
  | .hbm, ⟨19, _⟩ => ⟨S4096x512, .bf16⟩
  | .hbm, ⟨20, _⟩ => ⟨S4096x512, .bf16⟩
  | .hbm, ⟨21, _⟩ => ⟨S4096x128, .f32⟩
  | .hbm, ⟨22, _⟩ => ⟨S4096x128, .f32⟩
  | .hbm, ⟨23, _⟩ => ⟨S4096x512, .f32⟩
  | .hbm, ⟨24, _⟩ => ⟨S4096x1024, .bf16⟩
  | .hbm, ⟨25, _⟩ => ⟨S4096x1024, .bf16⟩
  | .hbm, ⟨26, _⟩ => ⟨S2x8x512x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2568x1024, .bf16⟩
  | .local _ .vmem, ⟨4, _⟩ => ⟨S128x1024, .bf16⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x512, .f32⟩
  | .local _ .vmem, ⟨23, _⟩ => ⟨S512x512, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S1x2x512x256, .bf16⟩
  | .local _ .vmem, ⟨29, _⟩ => ⟨S1x2x512x256, .bf16⟩
  | .local _ .vmem, ⟨30, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev main_v7_8 : Ref sig .tc := ⟨.hbm, 23, rfl⟩
abbrev main_v7_9 : Ref sig .tc := ⟨.hbm, 24, rfl⟩
abbrev main_v7_10 : Ref sig .tc := ⟨.hbm, 25, rfl⟩
abbrev main_v7_11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2568x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== RefProjIdeal.lean ====
abbrev S4096x1024 : Shape := ⟨2, ![4096, 1024]⟩
abbrev S1024 : Shape := ⟨1, ![1024]⟩
abbrev S1024x2568 : Shape := ⟨2, ![1024, 2568]⟩
abbrev S8 : Shape := ⟨1, ![8]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2568 : Shape := ⟨2, ![4096, 2568]⟩
abbrev S4096x512 : Shape := ⟨2, ![4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2568, .f32⟩
  | .hbm, ⟨3, _⟩ => ⟨S8, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2568, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x1024, .bf16⟩
  | .hbm, ⟨27, _⟩ => ⟨S4096x512, .bf16⟩
  | .hbm, ⟨28, _⟩ => ⟨S4096x512, .bf16⟩
  | .hbm, ⟨29, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Adam.lean ====
abbrev S1x1024 : Shape := ⟨2, ![1, 1024]⟩
abbrev S1x8 : Shape := ⟨2, ![1, 8]⟩
abbrev S1x31x128 : Shape := ⟨3, ![1, 31, 128]⟩
abbrev S1x512 : Shape := ⟨2, ![1, 512]⟩
abbrev S1024 : Shape := ⟨1, ![1024]⟩
abbrev S_ : Shape := ⟨0, ![]⟩
abbrev S8x128 : Shape := ⟨2, ![8, 128]⟩
abbrev S8 : Shape := ⟨1, ![8]⟩
abbrev S3968 : Shape := ⟨1, ![3968]⟩
abbrev S4096 : Shape := ⟨1, ![4096]⟩
abbrev S32x128 : Shape := ⟨2, ![32, 128]⟩
abbrev S512 : Shape := ⟨1, ![512]⟩
abbrev S104x128 : Shape := ⟨2, ![104, 128]⟩

abbrev nBuf : Space → Nat
  | .hbm => 240
  | .vmem => 8
  | .smem => 0
  | _ => 0

abbrev hbmTy0_0 (i : Nat) : BufTy := match i % 128 with
  | 0 => ⟨S1x1024, .f32⟩
  | 1 => ⟨S1x8, .f32⟩
  | 2 => ⟨S1x31x128, .f32⟩
  | 3 => ⟨S1x512, .f32⟩
  | 4 => ⟨S1x512, .f32⟩
  | 5 => ⟨S1x512, .f32⟩
  | 6 => ⟨S1x1024, .f32⟩
  | 7 => ⟨S1024, .f32⟩
  | 8 => ⟨S1x1024, .f32⟩
  | 9 => ⟨S1024, .f32⟩
  | 10 => ⟨S1x1024, .f32⟩
  | 11 => ⟨S1x8, .f32⟩
  | 12 => ⟨S1x31x128, .f32⟩
  | 13 => ⟨S1x512, .f32⟩
  | 14 => ⟨S1x512, .f32⟩
  | 15 => ⟨S1x512, .f32⟩
  | 16 => ⟨S1x1024, .f32⟩
  | 17 => ⟨S1024, .f32⟩
  | 18 => ⟨S1x1024, .f32⟩
  | 19 => ⟨S1024, .f32⟩
  | 20 => ⟨S1x1024, .f32⟩
  | 21 => ⟨S1x8, .f32⟩
  | 22 => ⟨S1x31x128, .f32⟩
  | 23 => ⟨S1x512, .f32⟩
  | 24 => ⟨S1x512, .f32⟩
  | 25 => ⟨S1x512, .f32⟩
  | 26 => ⟨S1x1024, .f32⟩
  | 27 => ⟨S1024, .f32⟩
  | 28 => ⟨S1x1024, .f32⟩
  | 29 => ⟨S1024, .f32⟩
  | 30 => ⟨S1x1024, .f32⟩
  | 31 => ⟨S1x8, .f32⟩
  | 32 => ⟨S1x31x128, .f32⟩
  | 33 => ⟨S1x512, .f32⟩
  | 34 => ⟨S1x512, .f32⟩
  | 35 => ⟨S1x512, .f32⟩
  | 36 => ⟨S1x1024, .f32⟩
  | 37 => ⟨S1024, .f32⟩
  | 38 => ⟨S1x1024, .f32⟩
  | 39 => ⟨S1024, .f32⟩
  | 40 => ⟨S1024, .f32⟩
  | 41 => ⟨S_, .i32⟩
  | 42 => ⟨S_, .f32⟩
  | 43 => ⟨S1024, .f32⟩
  | 44 => ⟨S8x128, .f32⟩
  | 45 => ⟨S8, .f32⟩
  | 46 => ⟨S_, .i32⟩
  | 47 => ⟨S_, .f32⟩
  | 48 => ⟨S1024, .f32⟩
  | 49 => ⟨S8x128, .f32⟩
  | 50 => ⟨S3968, .f32⟩
  | 51 => ⟨S_, .i32⟩
  | 52 => ⟨S_, .f32⟩
  | 53 => ⟨S4096, .f32⟩
  | 54 => ⟨S32x128, .f32⟩
  | 55 => ⟨S512, .f32⟩
  | 56 => ⟨S_, .i32⟩
  | 57 => ⟨S_, .f32⟩
  | 58 => ⟨S1024, .f32⟩
  | 59 => ⟨S8x128, .f32⟩
  | 60 => ⟨S512, .f32⟩
  | 61 => ⟨S_, .i32⟩
  | 62 => ⟨S_, .f32⟩
  | 63 => ⟨S1024, .f32⟩
  | 64 => ⟨S8x128, .f32⟩
  | 65 => ⟨S512, .f32⟩
  | 66 => ⟨S_, .i32⟩
  | 67 => ⟨S_, .f32⟩
  | 68 => ⟨S1024, .f32⟩
  | 69 => ⟨S8x128, .f32⟩
  | 70 => ⟨S1024, .f32⟩
  | 71 => ⟨S_, .i32⟩
  | 72 => ⟨S_, .f32⟩
  | 73 => ⟨S1024, .f32⟩
  | 74 => ⟨S8x128, .f32⟩
  | 75 => ⟨S_, .i32⟩
  | 76 => ⟨S_, .f32⟩
  | 77 => ⟨S1024, .f32⟩
  | 78 => ⟨S8x128, .f32⟩
  | 79 => ⟨S1024, .f32⟩
  | 80 => ⟨S_, .i32⟩
  | 81 => ⟨S_, .f32⟩
  | 82 => ⟨S1024, .f32⟩
  | 83 => ⟨S8x128, .f32⟩
  | 84 => ⟨S_, .i32⟩
  | 85 => ⟨S_, .f32⟩
  | 86 => ⟨S1024, .f32⟩
  | 87 => ⟨S8x128, .f32⟩
  | 88 => ⟨S104x128, .f32⟩
  | 89 => ⟨S1024, .f32⟩
  | 90 => ⟨S_, .i32⟩
  | 91 => ⟨S_, .f32⟩
  | 92 => ⟨S1024, .f32⟩
  | 93 => ⟨S8x128, .f32⟩
  | 94 => ⟨S8, .f32⟩
  | 95 => ⟨S_, .i32⟩
  | 96 => ⟨S_, .f32⟩
  | 97 => ⟨S1024, .f32⟩
  | 98 => ⟨S8x128, .f32⟩
  | 99 => ⟨S3968, .f32⟩
  | 100 => ⟨S_, .i32⟩
  | 101 => ⟨S_, .f32⟩
  | 102 => ⟨S4096, .f32⟩
  | 103 => ⟨S32x128, .f32⟩
  | 104 => ⟨S512, .f32⟩
  | 105 => ⟨S_, .i32⟩
  | 106 => ⟨S_, .f32⟩
  | 107 => ⟨S1024, .f32⟩
  | 108 => ⟨S8x128, .f32⟩
  | 109 => ⟨S512, .f32⟩
  | 110 => ⟨S_, .i32⟩
  | 111 => ⟨S_, .f32⟩
  | 112 => ⟨S1024, .f32⟩
  | 113 => ⟨S8x128, .f32⟩
  | 114 => ⟨S512, .f32⟩
  | 115 => ⟨S_, .i32⟩
  | 116 => ⟨S_, .f32⟩
  | 117 => ⟨S1024, .f32⟩
  | 118 => ⟨S8x128, .f32⟩
  | 119 => ⟨S1024, .f32⟩
  | 120 => ⟨S_, .i32⟩
  | 121 => ⟨S_, .f32⟩
  | 122 => ⟨S1024, .f32⟩
  | 123 => ⟨S8x128, .f32⟩
  | 124 => ⟨S_, .i32⟩
  | 125 => ⟨S_, .f32⟩
  | 126 => ⟨S1024, .f32⟩
  | 127 => ⟨S8x128, .f32⟩
  | _ => ⟨S1x1024, .f32⟩

abbrev hbmTy0_1 (i : Nat) : BufTy := match i % 128 with
  | 0 => ⟨S1024, .f32⟩
  | 1 => ⟨S_, .i32⟩
  | 2 => ⟨S_, .f32⟩
  | 3 => ⟨S1024, .f32⟩
  | 4 => ⟨S8x128, .f32⟩
  | 5 => ⟨S_, .i32⟩
  | 6 => ⟨S_, .f32⟩
  | 7 => ⟨S1024, .f32⟩
  | 8 => ⟨S8x128, .f32⟩
  | 9 => ⟨S104x128, .f32⟩
  | 10 => ⟨S1024, .f32⟩
  | 11 => ⟨S_, .i32⟩
  | 12 => ⟨S_, .f32⟩
  | 13 => ⟨S1024, .f32⟩
  | 14 => ⟨S8x128, .f32⟩
  | 15 => ⟨S8, .f32⟩
  | 16 => ⟨S_, .i32⟩
  | 17 => ⟨S_, .f32⟩
  | 18 => ⟨S1024, .f32⟩
  | 19 => ⟨S8x128, .f32⟩
  | 20 => ⟨S3968, .f32⟩
  | 21 => ⟨S_, .i32⟩
  | 22 => ⟨S_, .f32⟩
  | 23 => ⟨S4096, .f32⟩
  | 24 => ⟨S32x128, .f32⟩
  | 25 => ⟨S512, .f32⟩
  | 26 => ⟨S_, .i32⟩
  | 27 => ⟨S_, .f32⟩
  | 28 => ⟨S1024, .f32⟩
  | 29 => ⟨S8x128, .f32⟩
  | 30 => ⟨S512, .f32⟩
  | 31 => ⟨S_, .i32⟩
  | 32 => ⟨S_, .f32⟩
  | 33 => ⟨S1024, .f32⟩
  | 34 => ⟨S8x128, .f32⟩
  | 35 => ⟨S512, .f32⟩
  | 36 => ⟨S_, .i32⟩
  | 37 => ⟨S_, .f32⟩
  | 38 => ⟨S1024, .f32⟩
  | 39 => ⟨S8x128, .f32⟩
  | 40 => ⟨S1024, .f32⟩
  | 41 => ⟨S_, .i32⟩
  | 42 => ⟨S_, .f32⟩
  | 43 => ⟨S1024, .f32⟩
  | 44 => ⟨S8x128, .f32⟩
  | 45 => ⟨S_, .i32⟩
  | 46 => ⟨S_, .f32⟩
  | 47 => ⟨S1024, .f32⟩
  | 48 => ⟨S8x128, .f32⟩
  | 49 => ⟨S1024, .f32⟩
  | 50 => ⟨S_, .i32⟩
  | 51 => ⟨S_, .f32⟩
  | 52 => ⟨S1024, .f32⟩
  | 53 => ⟨S8x128, .f32⟩
  | 54 => ⟨S_, .i32⟩
  | 55 => ⟨S_, .f32⟩
  | 56 => ⟨S1024, .f32⟩
  | 57 => ⟨S8x128, .f32⟩
  | 58 => ⟨S104x128, .f32⟩
  | 59 => ⟨S1024, .f32⟩
  | 60 => ⟨S_, .i32⟩
  | 61 => ⟨S_, .f32⟩
  | 62 => ⟨S1024, .f32⟩
  | 63 => ⟨S8x128, .f32⟩
  | 64 => ⟨S8, .f32⟩
  | 65 => ⟨S_, .i32⟩
  | 66 => ⟨S_, .f32⟩
  | 67 => ⟨S1024, .f32⟩
  | 68 => ⟨S8x128, .f32⟩
  | 69 => ⟨S3968, .f32⟩
  | 70 => ⟨S_, .i32⟩
  | 71 => ⟨S_, .f32⟩
  | 72 => ⟨S4096, .f32⟩
  | 73 => ⟨S32x128, .f32⟩
  | 74 => ⟨S512, .f32⟩
  | 75 => ⟨S_, .i32⟩
  | 76 => ⟨S_, .f32⟩
  | 77 => ⟨S1024, .f32⟩
  | 78 => ⟨S8x128, .f32⟩
  | 79 => ⟨S512, .f32⟩
  | 80 => ⟨S_, .i32⟩
  | 81 => ⟨S_, .f32⟩
  | 82 => ⟨S1024, .f32⟩
  | 83 => ⟨S8x128, .f32⟩
  | 84 => ⟨S512, .f32⟩
  | 85 => ⟨S_, .i32⟩
  | 86 => ⟨S_, .f32⟩
  | 87 => ⟨S1024, .f32⟩
  | 88 => ⟨S8x128, .f32⟩
  | 89 => ⟨S1024, .f32⟩
  | 90 => ⟨S_, .i32⟩
  | 91 => ⟨S_, .f32⟩
  | 92 => ⟨S1024, .f32⟩
  | 93 => ⟨S8x128, .f32⟩
  | 94 => ⟨S_, .i32⟩
  | 95 => ⟨S_, .f32⟩
  | 96 => ⟨S1024, .f32⟩
  | 97 => ⟨S8x128, .f32⟩
  | 98 => ⟨S1024, .f32⟩
  | 99 => ⟨S_, .i32⟩
  | 100 => ⟨S_, .f32⟩
  | 101 => ⟨S1024, .f32⟩
  | 102 => ⟨S8x128, .f32⟩
  | 103 => ⟨S_, .i32⟩
  | 104 => ⟨S_, .f32⟩
  | 105 => ⟨S1024, .f32⟩
  | 106 => ⟨S8x128, .f32⟩
  | 107 => ⟨S104x128, .f32⟩
  | 108 => ⟨S104x128, .f32⟩
  | 109 => ⟨S104x128, .f32⟩
  | 110 => ⟨S104x128, .f32⟩
  | 111 => ⟨S104x128, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | .local _ .vmem, ⟨0, _⟩ => ⟨S104x128, .f32⟩
  | .local _ .vmem, ⟨1, _⟩ => ⟨S104x128, .f32⟩
  | .local _ .vmem, ⟨2, _⟩ => ⟨S104x128, .f32⟩
  | .local _ .vmem, ⟨3, _⟩ => ⟨S104x128, .f32⟩
  | .local _ .vmem, ⟨4, _⟩ => ⟨S104x128, .f32⟩
  | .local _ .vmem, ⟨5, _⟩ => ⟨S104x128, .f32⟩
  | .local _ .vmem, ⟨6, _⟩ => ⟨S104x128, .f32⟩
  | .local _ .vmem, ⟨7, _⟩ => ⟨S104x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_c : Ref sig .tc := ⟨.hbm, 41, rfl⟩
abbrev main_call0_v0 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_c_0 : Ref sig .tc := ⟨.hbm, 46, rfl⟩
abbrev main_call1_v0 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_c_1 : Ref sig .tc := ⟨.hbm, 51, rfl⟩
abbrev main_call2_v0 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_c_2 : Ref sig .tc := ⟨.hbm, 56, rfl⟩
abbrev main_call3_v0 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_c_3 : Ref sig .tc := ⟨.hbm, 61, rfl⟩
abbrev main_call4_v0 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_c_4 : Ref sig .tc := ⟨.hbm, 66, rfl⟩
abbrev main_call5_v0 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_c_5 : Ref sig .tc := ⟨.hbm, 71, rfl⟩
abbrev main_call6_v0 : Ref sig .tc := ⟨.hbm, 72, rfl⟩
abbrev main_v19 : Ref sig .tc := ⟨.hbm, 73, rfl⟩
abbrev main_v20 : Ref sig .tc := ⟨.hbm, 74, rfl⟩
abbrev main_c_6 : Ref sig .tc := ⟨.hbm, 75, rfl⟩
abbrev main_call7_v0 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_c_7 : Ref sig .tc := ⟨.hbm, 80, rfl⟩
abbrev main_call8_v0 : Ref sig .tc := ⟨.hbm, 81, rfl⟩
abbrev main_v24 : Ref sig .tc := ⟨.hbm, 82, rfl⟩
abbrev main_v25 : Ref sig .tc := ⟨.hbm, 83, rfl⟩
abbrev main_c_8 : Ref sig .tc := ⟨.hbm, 84, rfl⟩
abbrev main_call9_v0 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_c_9 : Ref sig .tc := ⟨.hbm, 90, rfl⟩
abbrev main_call10_v0 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_c_10 : Ref sig .tc := ⟨.hbm, 95, rfl⟩
abbrev main_call11_v0 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_c_11 : Ref sig .tc := ⟨.hbm, 100, rfl⟩
abbrev main_call12_v0 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_c_12 : Ref sig .tc := ⟨.hbm, 105, rfl⟩
abbrev main_call13_v0 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_c_13 : Ref sig .tc := ⟨.hbm, 110, rfl⟩
abbrev main_call14_v0 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_c_14 : Ref sig .tc := ⟨.hbm, 115, rfl⟩
abbrev main_call15_v0 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_c_15 : Ref sig .tc := ⟨.hbm, 120, rfl⟩
abbrev main_call16_v0 : Ref sig .tc := ⟨.hbm, 121, rfl⟩
abbrev main_v48 : Ref sig .tc := ⟨.hbm, 122, rfl⟩
abbrev main_v49 : Ref sig .tc := ⟨.hbm, 123, rfl⟩
abbrev main_c_16 : Ref sig .tc := ⟨.hbm, 124, rfl⟩
abbrev main_call17_v0 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_c_17 : Ref sig .tc := ⟨.hbm, 129, rfl⟩
abbrev main_call18_v0 : Ref sig .tc := ⟨.hbm, 130, rfl⟩
abbrev main_v53 : Ref sig .tc := ⟨.hbm, 131, rfl⟩
abbrev main_v54 : Ref sig .tc := ⟨.hbm, 132, rfl⟩
abbrev main_c_18 : Ref sig .tc := ⟨.hbm, 133, rfl⟩
abbrev main_call19_v0 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_c_19 : Ref sig .tc := ⟨.hbm, 139, rfl⟩
abbrev main_call20_v0 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_c_20 : Ref sig .tc := ⟨.hbm, 144, rfl⟩
abbrev main_call21_v0 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_c_21 : Ref sig .tc := ⟨.hbm, 149, rfl⟩
abbrev main_call22_v0 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_c_22 : Ref sig .tc := ⟨.hbm, 154, rfl⟩
abbrev main_call23_v0 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_c_23 : Ref sig .tc := ⟨.hbm, 159, rfl⟩
abbrev main_call24_v0 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_c_24 : Ref sig .tc := ⟨.hbm, 164, rfl⟩
abbrev main_call25_v0 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_c_25 : Ref sig .tc := ⟨.hbm, 169, rfl⟩
abbrev main_call26_v0 : Ref sig .tc := ⟨.hbm, 170, rfl⟩
abbrev main_v77 : Ref sig .tc := ⟨.hbm, 171, rfl⟩
abbrev main_v78 : Ref sig .tc := ⟨.hbm, 172, rfl⟩
abbrev main_c_26 : Ref sig .tc := ⟨.hbm, 173, rfl⟩
abbrev main_call27_v0 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_c_27 : Ref sig .tc := ⟨.hbm, 178, rfl⟩
abbrev main_call28_v0 : Ref sig .tc := ⟨.hbm, 179, rfl⟩
abbrev main_v82 : Ref sig .tc := ⟨.hbm, 180, rfl⟩
abbrev main_v83 : Ref sig .tc := ⟨.hbm, 181, rfl⟩
abbrev main_c_28 : Ref sig .tc := ⟨.hbm, 182, rfl⟩
abbrev main_call29_v0 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_c_29 : Ref sig .tc := ⟨.hbm, 188, rfl⟩
abbrev main_call30_v0 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_c_30 : Ref sig .tc := ⟨.hbm, 193, rfl⟩
abbrev main_call31_v0 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_c_31 : Ref sig .tc := ⟨.hbm, 198, rfl⟩
abbrev main_call32_v0 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_c_32 : Ref sig .tc := ⟨.hbm, 203, rfl⟩
abbrev main_call33_v0 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_c_33 : Ref sig .tc := ⟨.hbm, 208, rfl⟩
abbrev main_call34_v0 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_c_34 : Ref sig .tc := ⟨.hbm, 213, rfl⟩
abbrev main_call35_v0 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_c_35 : Ref sig .tc := ⟨.hbm, 218, rfl⟩
abbrev main_call36_v0 : Ref sig .tc := ⟨.hbm, 219, rfl⟩
abbrev main_v106 : Ref sig .tc := ⟨.hbm, 220, rfl⟩
abbrev main_v107 : Ref sig .tc := ⟨.hbm, 221, rfl⟩
abbrev main_c_36 : Ref sig .tc := ⟨.hbm, 222, rfl⟩
abbrev main_call37_v0 : Ref sig .tc := ⟨.hbm, 223, rfl⟩
abbrev main_v108 : Ref sig .tc := ⟨.hbm, 224, rfl⟩
abbrev main_v109 : Ref sig .tc := ⟨.hbm, 225, rfl⟩
abbrev main_v110 : Ref sig .tc := ⟨.hbm, 226, rfl⟩
abbrev main_c_37 : Ref sig .tc := ⟨.hbm, 227, rfl⟩
abbrev main_call38_v0 : Ref sig .tc := ⟨.hbm, 228, rfl⟩
abbrev main_v111 : Ref sig .tc := ⟨.hbm, 229, rfl⟩
abbrev main_v112 : Ref sig .tc := ⟨.hbm, 230, rfl⟩
abbrev main_c_38 : Ref sig .tc := ⟨.hbm, 231, rfl⟩
abbrev main_call39_v0 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116_0 : Ref sig .tc := ⟨.hbm, 236, rfl⟩
abbrev main_v116_1 : Ref sig .tc := ⟨.hbm, 237, rfl⟩
abbrev main_v116_2 : Ref sig .tc := ⟨.hbm, 238, rfl⟩
abbrev main_v116_3 : Ref sig .tc := ⟨.hbm, 239, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S104x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefAIdeal.lean ====
abbrev S1x1024 : Shape := ⟨2, ![1, 1024]⟩
abbrev S1x8 : Shape := ⟨2, ![1, 8]⟩
abbrev S1x31x128 : Shape := ⟨3, ![1, 31, 128]⟩
abbrev S1x512 : Shape := ⟨2, ![1, 512]⟩
abbrev S1024 : Shape := ⟨1, ![1024]⟩
abbrev S_ : Shape := ⟨0, ![]⟩
abbrev S8x128 : Shape := ⟨2, ![8, 128]⟩
abbrev S8 : Shape := ⟨1, ![8]⟩
abbrev S3968 : Shape := ⟨1, ![3968]⟩
abbrev S4096 : Shape := ⟨1, ![4096]⟩
abbrev S32x128 : Shape := ⟨2, ![32, 128]⟩
abbrev S512 : Shape := ⟨1, ![512]⟩
abbrev S104x128 : Shape := ⟨2, ![104, 128]⟩

abbrev nBuf : Space → Nat
  | .hbm => 517
  | .vmem => 0
  | .smem => 0
  | _ => 0

abbrev hbmTy0_0 (i : Nat) : BufTy := match i % 128 with
  | 0 => ⟨S1x1024, .f32⟩
  | 1 => ⟨S1x8, .f32⟩
  | 2 => ⟨S1x31x128, .f32⟩
  | 3 => ⟨S1x512, .f32⟩
  | 4 => ⟨S1x512, .f32⟩
  | 5 => ⟨S1x512, .f32⟩
  | 6 => ⟨S1x1024, .f32⟩
  | 7 => ⟨S1024, .f32⟩
  | 8 => ⟨S1x1024, .f32⟩
  | 9 => ⟨S1024, .f32⟩
  | 10 => ⟨S1x1024, .f32⟩
  | 11 => ⟨S1x8, .f32⟩
  | 12 => ⟨S1x31x128, .f32⟩
  | 13 => ⟨S1x512, .f32⟩
  | 14 => ⟨S1x512, .f32⟩
  | 15 => ⟨S1x512, .f32⟩
  | 16 => ⟨S1x1024, .f32⟩
  | 17 => ⟨S1024, .f32⟩
  | 18 => ⟨S1x1024, .f32⟩
  | 19 => ⟨S1024, .f32⟩
  | 20 => ⟨S1x1024, .f32⟩
  | 21 => ⟨S1x8, .f32⟩
  | 22 => ⟨S1x31x128, .f32⟩
  | 23 => ⟨S1x512, .f32⟩
  | 24 => ⟨S1x512, .f32⟩
  | 25 => ⟨S1x512, .f32⟩
  | 26 => ⟨S1x1024, .f32⟩
  | 27 => ⟨S1024, .f32⟩
  | 28 => ⟨S1x1024, .f32⟩
  | 29 => ⟨S1024, .f32⟩
  | 30 => ⟨S1x1024, .f32⟩
  | 31 => ⟨S1x8, .f32⟩
  | 32 => ⟨S1x31x128, .f32⟩
  | 33 => ⟨S1x512, .f32⟩
  | 34 => ⟨S1x512, .f32⟩
  | 35 => ⟨S1x512, .f32⟩
  | 36 => ⟨S1x1024, .f32⟩
  | 37 => ⟨S1024, .f32⟩
  | 38 => ⟨S1x1024, .f32⟩
  | 39 => ⟨S1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S_, .f32⟩
  | 74 => ⟨S1x8, .f32⟩
  | 75 => ⟨S1x8, .f32⟩
  | 76 => ⟨S_, .f32⟩
  | 77 => ⟨S1x8, .f32⟩
  | 78 => ⟨S1x8, .f32⟩
  | 79 => ⟨S1x8, .f32⟩
  | 80 => ⟨S_, .f32⟩
  | 81 => ⟨S1x8, .f32⟩
  | 82 => ⟨S1x8, .f32⟩
  | 83 => ⟨S1x8, .f32⟩
  | 84 => ⟨S_, .f32⟩
  | 85 => ⟨S1x8, .f32⟩
  | 86 => ⟨S1x8, .f32⟩
  | 87 => ⟨S1x8, .f32⟩
  | 88 => ⟨S_, .f32⟩
  | 89 => ⟨S1x8, .f32⟩
  | 90 => ⟨S1x8, .f32⟩
  | 91 => ⟨S_, .f32⟩
  | 92 => ⟨S1x8, .f32⟩
  | 93 => ⟨S1x8, .f32⟩
  | 94 => ⟨S1x8, .f32⟩
  | 95 => ⟨S_, .f32⟩
  | 96 => ⟨S1x8, .f32⟩
  | 97 => ⟨S1x8, .f32⟩
  | 98 => ⟨S1x8, .f32⟩
  | 99 => ⟨S_, .f32⟩
  | 100 => ⟨S1x8, .f32⟩
  | 101 => ⟨S1x8, .f32⟩
  | 102 => ⟨S1x8, .f32⟩
  | 103 => ⟨S_, .f32⟩
  | 104 => ⟨S1x8, .f32⟩
  | 105 => ⟨S1x8, .f32⟩
  | 106 => ⟨S_, .f32⟩
  | 107 => ⟨S1x31x128, .f32⟩
  | 108 => ⟨S1x31x128, .f32⟩
  | 109 => ⟨S_, .f32⟩
  | 110 => ⟨S1x31x128, .f32⟩
  | 111 => ⟨S1x31x128, .f32⟩
  | 112 => ⟨S1x31x128, .f32⟩
  | 113 => ⟨S_, .f32⟩
  | 114 => ⟨S1x31x128, .f32⟩
  | 115 => ⟨S1x31x128, .f32⟩
  | 116 => ⟨S1x31x128, .f32⟩
  | 117 => ⟨S_, .f32⟩
  | 118 => ⟨S1x31x128, .f32⟩
  | 119 => ⟨S1x31x128, .f32⟩
  | 120 => ⟨S1x31x128, .f32⟩
  | 121 => ⟨S_, .f32⟩
  | 122 => ⟨S1x31x128, .f32⟩
  | 123 => ⟨S1x31x128, .f32⟩
  | 124 => ⟨S_, .f32⟩
  | 125 => ⟨S1x31x128, .f32⟩
  | 126 => ⟨S1x31x128, .f32⟩
  | 127 => ⟨S1x31x128, .f32⟩
  | _ => ⟨S1x1024, .f32⟩

abbrev hbmTy0_1 (i : Nat) : BufTy := match i % 128 with
  | 0 => ⟨S_, .f32⟩
  | 1 => ⟨S1x31x128, .f32⟩
  | 2 => ⟨S1x31x128, .f32⟩
  | 3 => ⟨S1x31x128, .f32⟩
  | 4 => ⟨S_, .f32⟩
  | 5 => ⟨S1x31x128, .f32⟩
  | 6 => ⟨S1x31x128, .f32⟩
  | 7 => ⟨S1x31x128, .f32⟩
  | 8 => ⟨S_, .f32⟩
  | 9 => ⟨S1x31x128, .f32⟩
  | 10 => ⟨S1x31x128, .f32⟩
  | 11 => ⟨S_, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S_, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S1x512, .f32⟩
  | 59 => ⟨S_, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S_, .f32⟩
  | 78 => ⟨S1x512, .f32⟩
  | 79 => ⟨S1x512, .f32⟩
  | 80 => ⟨S_, .f32⟩
  | 81 => ⟨S1x512, .f32⟩
  | 82 => ⟨S1x512, .f32⟩
  | 83 => ⟨S1x512, .f32⟩
  | 84 => ⟨S_, .f32⟩
  | 85 => ⟨S1x512, .f32⟩
  | 86 => ⟨S1x512, .f32⟩
  | 87 => ⟨S1x512, .f32⟩
  | 88 => ⟨S_, .f32⟩
  | 89 => ⟨S1x512, .f32⟩
  | 90 => ⟨S1x512, .f32⟩
  | 91 => ⟨S1x512, .f32⟩
  | 92 => ⟨S_, .f32⟩
  | 93 => ⟨S1x512, .f32⟩
  | 94 => ⟨S1x512, .f32⟩
  | 95 => ⟨S_, .f32⟩
  | 96 => ⟨S1x512, .f32⟩
  | 97 => ⟨S1x512, .f32⟩
  | 98 => ⟨S1x512, .f32⟩
  | 99 => ⟨S_, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S1x512, .f32⟩
  | 107 => ⟨S_, .f32⟩
  | 108 => ⟨S1x512, .f32⟩
  | 109 => ⟨S1x512, .f32⟩
  | 110 => ⟨S_, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x1024, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S_, .f32⟩
  | 38 => ⟨S1024, .f32⟩
  | 39 => ⟨S1024, .f32⟩
  | 40 => ⟨S1024, .f32⟩
  | 41 => ⟨S_, .f32⟩
  | 42 => ⟨S1024, .f32⟩
  | 43 => ⟨S1024, .f32⟩
  | 44 => ⟨S1024, .f32⟩
  | 45 => ⟨S_, .f32⟩
  | 46 => ⟨S1024, .f32⟩
  | 47 => ⟨S1024, .f32⟩
  | 48 => ⟨S_, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S_, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S_, .f32⟩
  | 89 => ⟨S1024, .f32⟩
  | 90 => ⟨S1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S_, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | 106 => ⟨S1024, .f32⟩
  | 107 => ⟨S_, .f32⟩
  | 108 => ⟨S1024, .f32⟩
  | 109 => ⟨S1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S_, .i32⟩
  | 116 => ⟨S_, .f32⟩
  | 117 => ⟨S1024, .f32⟩
  | 118 => ⟨S8x128, .f32⟩
  | 119 => ⟨S8, .f32⟩
  | 120 => ⟨S_, .i32⟩
  | 121 => ⟨S_, .f32⟩
  | 122 => ⟨S1024, .f32⟩
  | 123 => ⟨S8x128, .f32⟩
  | 124 => ⟨S3968, .f32⟩
  | 125 => ⟨S_, .i32⟩
  | 126 => ⟨S_, .f32⟩
  | 127 => ⟨S4096, .f32⟩
  | _ => ⟨S1x1024, .f32⟩

abbrev hbmTy0_3 (i : Nat) : BufTy := match i % 128 with
  | 0 => ⟨S32x128, .f32⟩
  | 1 => ⟨S512, .f32⟩
  | 2 => ⟨S_, .i32⟩
  | 3 => ⟨S_, .f32⟩
  | 4 => ⟨S1024, .f32⟩
  | 5 => ⟨S8x128, .f32⟩
  | 6 => ⟨S512, .f32⟩
  | 7 => ⟨S_, .i32⟩
  | 8 => ⟨S_, .f32⟩
  | 9 => ⟨S1024, .f32⟩
  | 10 => ⟨S8x128, .f32⟩
  | 11 => ⟨S512, .f32⟩
  | 12 => ⟨S_, .i32⟩
  | 13 => ⟨S_, .f32⟩
  | 14 => ⟨S1024, .f32⟩
  | 15 => ⟨S8x128, .f32⟩
  | 16 => ⟨S1024, .f32⟩
  | 17 => ⟨S_, .i32⟩
  | 18 => ⟨S_, .f32⟩
  | 19 => ⟨S1024, .f32⟩
  | 20 => ⟨S8x128, .f32⟩
  | 21 => ⟨S_, .i32⟩
  | 22 => ⟨S_, .f32⟩
  | 23 => ⟨S1024, .f32⟩
  | 24 => ⟨S8x128, .f32⟩
  | 25 => ⟨S1024, .f32⟩
  | 26 => ⟨S_, .i32⟩
  | 27 => ⟨S_, .f32⟩
  | 28 => ⟨S1024, .f32⟩
  | 29 => ⟨S8x128, .f32⟩
  | 30 => ⟨S_, .i32⟩
  | 31 => ⟨S_, .f32⟩
  | 32 => ⟨S1024, .f32⟩
  | 33 => ⟨S8x128, .f32⟩
  | 34 => ⟨S104x128, .f32⟩
  | 35 => ⟨S1024, .f32⟩
  | 36 => ⟨S_, .i32⟩
  | 37 => ⟨S_, .f32⟩
  | 38 => ⟨S1024, .f32⟩
  | 39 => ⟨S8x128, .f32⟩
  | 40 => ⟨S8, .f32⟩
  | 41 => ⟨S_, .i32⟩
  | 42 => ⟨S_, .f32⟩
  | 43 => ⟨S1024, .f32⟩
  | 44 => ⟨S8x128, .f32⟩
  | 45 => ⟨S3968, .f32⟩
  | 46 => ⟨S_, .i32⟩
  | 47 => ⟨S_, .f32⟩
  | 48 => ⟨S4096, .f32⟩
  | 49 => ⟨S32x128, .f32⟩
  | 50 => ⟨S512, .f32⟩
  | 51 => ⟨S_, .i32⟩
  | 52 => ⟨S_, .f32⟩
  | 53 => ⟨S1024, .f32⟩
  | 54 => ⟨S8x128, .f32⟩
  | 55 => ⟨S512, .f32⟩
  | 56 => ⟨S_, .i32⟩
  | 57 => ⟨S_, .f32⟩
  | 58 => ⟨S1024, .f32⟩
  | 59 => ⟨S8x128, .f32⟩
  | 60 => ⟨S512, .f32⟩
  | 61 => ⟨S_, .i32⟩
  | 62 => ⟨S_, .f32⟩
  | 63 => ⟨S1024, .f32⟩
  | 64 => ⟨S8x128, .f32⟩
  | 65 => ⟨S1024, .f32⟩
  | 66 => ⟨S_, .i32⟩
  | 67 => ⟨S_, .f32⟩
  | 68 => ⟨S1024, .f32⟩
  | 69 => ⟨S8x128, .f32⟩
  | 70 => ⟨S_, .i32⟩
  | 71 => ⟨S_, .f32⟩
  | 72 => ⟨S1024, .f32⟩
  | 73 => ⟨S8x128, .f32⟩
  | 74 => ⟨S1024, .f32⟩
  | 75 => ⟨S_, .i32⟩
  | 76 => ⟨S_, .f32⟩
  | 77 => ⟨S1024, .f32⟩
  | 78 => ⟨S8x128, .f32⟩
  | 79 => ⟨S_, .i32⟩
  | 80 => ⟨S_, .f32⟩
  | 81 => ⟨S1024, .f32⟩
  | 82 => ⟨S8x128, .f32⟩
  | 83 => ⟨S104x128, .f32⟩
  | 84 => ⟨S1024, .f32⟩
  | 85 => ⟨S_, .i32⟩
  | 86 => ⟨S_, .f32⟩
  | 87 => ⟨S1024, .f32⟩
  | 88 => ⟨S8x128, .f32⟩
  | 89 => ⟨S8, .f32⟩
  | 90 => ⟨S_, .i32⟩
  | 91 => ⟨S_, .f32⟩
  | 92 => ⟨S1024, .f32⟩
  | 93 => ⟨S8x128, .f32⟩
  | 94 => ⟨S3968, .f32⟩
  | 95 => ⟨S_, .i32⟩
  | 96 => ⟨S_, .f32⟩
  | 97 => ⟨S4096, .f32⟩
  | 98 => ⟨S32x128, .f32⟩
  | 99 => ⟨S512, .f32⟩
  | 100 => ⟨S_, .i32⟩
  | 101 => ⟨S_, .f32⟩
  | 102 => ⟨S1024, .f32⟩
  | 103 => ⟨S8x128, .f32⟩
  | 104 => ⟨S512, .f32⟩
  | 105 => ⟨S_, .i32⟩
  | 106 => ⟨S_, .f32⟩
  | 107 => ⟨S1024, .f32⟩
  | 108 => ⟨S8x128, .f32⟩
  | 109 => ⟨S512, .f32⟩
  | 110 => ⟨S_, .i32⟩
  | 111 => ⟨S_, .f32⟩
  | 112 => ⟨S1024, .f32⟩
  | 113 => ⟨S8x128, .f32⟩
  | 114 => ⟨S1024, .f32⟩
  | 115 => ⟨S_, .i32⟩
  | 116 => ⟨S_, .f32⟩
  | 117 => ⟨S1024, .f32⟩
  | 118 => ⟨S8x128, .f32⟩
  | 119 => ⟨S_, .i32⟩
  | 120 => ⟨S_, .f32⟩
  | 121 => ⟨S1024, .f32⟩
  | 122 => ⟨S8x128, .f32⟩
  | 123 => ⟨S1024, .f32⟩
  | 124 => ⟨S_, .i32⟩
  | 125 => ⟨S_, .f32⟩
  | 126 => ⟨S1024, .f32⟩
  | 127 => ⟨S8x128, .f32⟩
  | _ => ⟨S1x1024, .f32⟩

abbrev hbmTy0_4 (i : Nat) : BufTy := match i % 128 with
  | 0 => ⟨S_, .i32⟩
  | 1 => ⟨S_, .f32⟩
  | 2 => ⟨S1024, .f32⟩
  | 3 => ⟨S8x128, .f32⟩
  | 4 => ⟨S104x128, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_c : Ref sig .tc := ⟨.hbm, 371, rfl⟩
abbrev main_call0_v0 : Ref sig .tc := ⟨.hbm, 372, rfl⟩
abbrev main_v241 : Ref sig .tc := ⟨.hbm, 373, rfl⟩
abbrev main_v242 : Ref sig .tc := ⟨.hbm, 374, rfl⟩
abbrev main_v243 : Ref sig .tc := ⟨.hbm, 375, rfl⟩
abbrev main_c_89 : Ref sig .tc := ⟨.hbm, 376, rfl⟩
abbrev main_call1_v0 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_c_90 : Ref sig .tc := ⟨.hbm, 381, rfl⟩
abbrev main_call2_v0 : Ref sig .tc := ⟨.hbm, 382, rfl⟩
abbrev main_v247 : Ref sig .tc := ⟨.hbm, 383, rfl⟩
abbrev main_v248 : Ref sig .tc := ⟨.hbm, 384, rfl⟩
abbrev main_v249 : Ref sig .tc := ⟨.hbm, 385, rfl⟩
abbrev main_c_91 : Ref sig .tc := ⟨.hbm, 386, rfl⟩
abbrev main_call3_v0 : Ref sig .tc := ⟨.hbm, 387, rfl⟩
abbrev main_v250 : Ref sig .tc := ⟨.hbm, 388, rfl⟩
abbrev main_v251 : Ref sig .tc := ⟨.hbm, 389, rfl⟩
abbrev main_v252 : Ref sig .tc := ⟨.hbm, 390, rfl⟩
abbrev main_c_92 : Ref sig .tc := ⟨.hbm, 391, rfl⟩
abbrev main_call4_v0 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_c_93 : Ref sig .tc := ⟨.hbm, 396, rfl⟩
abbrev main_call5_v0 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_c_94 : Ref sig .tc := ⟨.hbm, 401, rfl⟩
abbrev main_call6_v0 : Ref sig .tc := ⟨.hbm, 402, rfl⟩
abbrev main_v259 : Ref sig .tc := ⟨.hbm, 403, rfl⟩
abbrev main_v260 : Ref sig .tc := ⟨.hbm, 404, rfl⟩
abbrev main_c_95 : Ref sig .tc := ⟨.hbm, 405, rfl⟩
abbrev main_call7_v0 : Ref sig .tc := ⟨.hbm, 406, rfl⟩
abbrev main_v261 : Ref sig .tc := ⟨.hbm, 407, rfl⟩
abbrev main_v262 : Ref sig .tc := ⟨.hbm, 408, rfl⟩
abbrev main_v263 : Ref sig .tc := ⟨.hbm, 409, rfl⟩
abbrev main_c_96 : Ref sig .tc := ⟨.hbm, 410, rfl⟩
abbrev main_call8_v0 : Ref sig .tc := ⟨.hbm, 411, rfl⟩
abbrev main_v264 : Ref sig .tc := ⟨.hbm, 412, rfl⟩
abbrev main_v265 : Ref sig .tc := ⟨.hbm, 413, rfl⟩
abbrev main_c_97 : Ref sig .tc := ⟨.hbm, 414, rfl⟩
abbrev main_call9_v0 : Ref sig .tc := ⟨.hbm, 415, rfl⟩
abbrev main_v266 : Ref sig .tc := ⟨.hbm, 416, rfl⟩
abbrev main_v267 : Ref sig .tc := ⟨.hbm, 417, rfl⟩
abbrev main_v268 : Ref sig .tc := ⟨.hbm, 418, rfl⟩
abbrev main_v269 : Ref sig .tc := ⟨.hbm, 419, rfl⟩
abbrev main_c_98 : Ref sig .tc := ⟨.hbm, 420, rfl⟩
abbrev main_call10_v0 : Ref sig .tc := ⟨.hbm, 421, rfl⟩
abbrev main_v270 : Ref sig .tc := ⟨.hbm, 422, rfl⟩
abbrev main_v271 : Ref sig .tc := ⟨.hbm, 423, rfl⟩
abbrev main_v272 : Ref sig .tc := ⟨.hbm, 424, rfl⟩
abbrev main_c_99 : Ref sig .tc := ⟨.hbm, 425, rfl⟩
abbrev main_call11_v0 : Ref sig .tc := ⟨.hbm, 426, rfl⟩
abbrev main_v273 : Ref sig .tc := ⟨.hbm, 427, rfl⟩
abbrev main_v274 : Ref sig .tc := ⟨.hbm, 428, rfl⟩
abbrev main_v275 : Ref sig .tc := ⟨.hbm, 429, rfl⟩
abbrev main_c_100 : Ref sig .tc := ⟨.hbm, 430, rfl⟩
abbrev main_call12_v0 : Ref sig .tc := ⟨.hbm, 431, rfl⟩
abbrev main_v276 : Ref sig .tc := ⟨.hbm, 432, rfl⟩
abbrev main_v277 : Ref sig .tc := ⟨.hbm, 433, rfl⟩
abbrev main_v278 : Ref sig .tc := ⟨.hbm, 434, rfl⟩
abbrev main_c_101 : Ref sig .tc := ⟨.hbm, 435, rfl⟩
abbrev main_call13_v0 : Ref sig .tc := ⟨.hbm, 436, rfl⟩
abbrev main_v279 : Ref sig .tc := ⟨.hbm, 437, rfl⟩
abbrev main_v280 : Ref sig .tc := ⟨.hbm, 438, rfl⟩
abbrev main_v281 : Ref sig .tc := ⟨.hbm, 439, rfl⟩
abbrev main_c_102 : Ref sig .tc := ⟨.hbm, 440, rfl⟩
abbrev main_call14_v0 : Ref sig .tc := ⟨.hbm, 441, rfl⟩
abbrev main_v282 : Ref sig .tc := ⟨.hbm, 442, rfl⟩
abbrev main_v283 : Ref sig .tc := ⟨.hbm, 443, rfl⟩
abbrev main_v284 : Ref sig .tc := ⟨.hbm, 444, rfl⟩
abbrev main_c_103 : Ref sig .tc := ⟨.hbm, 445, rfl⟩
abbrev main_call15_v0 : Ref sig .tc := ⟨.hbm, 446, rfl⟩
abbrev main_v285 : Ref sig .tc := ⟨.hbm, 447, rfl⟩
abbrev main_v286 : Ref sig .tc := ⟨.hbm, 448, rfl⟩
abbrev main_v287 : Ref sig .tc := ⟨.hbm, 449, rfl⟩
abbrev main_c_104 : Ref sig .tc := ⟨.hbm, 450, rfl⟩
abbrev main_call16_v0 : Ref sig .tc := ⟨.hbm, 451, rfl⟩
abbrev main_v288 : Ref sig .tc := ⟨.hbm, 452, rfl⟩
abbrev main_v289 : Ref sig .tc := ⟨.hbm, 453, rfl⟩
abbrev main_c_105 : Ref sig .tc := ⟨.hbm, 454, rfl⟩
abbrev main_call17_v0 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_c_106 : Ref sig .tc := ⟨.hbm, 459, rfl⟩
abbrev main_call18_v0 : Ref sig .tc := ⟨.hbm, 460, rfl⟩
abbrev main_v293 : Ref sig .tc := ⟨.hbm, 461, rfl⟩
abbrev main_v294 : Ref sig .tc := ⟨.hbm, 462, rfl⟩
abbrev main_c_107 : Ref sig .tc := ⟨.hbm, 463, rfl⟩
abbrev main_call19_v0 : Ref sig .tc := ⟨.hbm, 464, rfl⟩
abbrev main_v295 : Ref sig .tc := ⟨.hbm, 465, rfl⟩
abbrev main_v296 : Ref sig .tc := ⟨.hbm, 466, rfl⟩
abbrev main_v297 : Ref sig .tc := ⟨.hbm, 467, rfl⟩
abbrev main_v298 : Ref sig .tc := ⟨.hbm, 468, rfl⟩
abbrev main_c_108 : Ref sig .tc := ⟨.hbm, 469, rfl⟩
abbrev main_call20_v0 : Ref sig .tc := ⟨.hbm, 470, rfl⟩
abbrev main_v299 : Ref sig .tc := ⟨.hbm, 471, rfl⟩
abbrev main_v300 : Ref sig .tc := ⟨.hbm, 472, rfl⟩
abbrev main_v301 : Ref sig .tc := ⟨.hbm, 473, rfl⟩
abbrev main_c_109 : Ref sig .tc := ⟨.hbm, 474, rfl⟩
abbrev main_call21_v0 : Ref sig .tc := ⟨.hbm, 475, rfl⟩
abbrev main_v302 : Ref sig .tc := ⟨.hbm, 476, rfl⟩
abbrev main_v303 : Ref sig .tc := ⟨.hbm, 477, rfl⟩
abbrev main_v304 : Ref sig .tc := ⟨.hbm, 478, rfl⟩
abbrev main_c_110 : Ref sig .tc := ⟨.hbm, 479, rfl⟩
abbrev main_call22_v0 : Ref sig .tc := ⟨.hbm, 480, rfl⟩
abbrev main_v305 : Ref sig .tc := ⟨.hbm, 481, rfl⟩
abbrev main_v306 : Ref sig .tc := ⟨.hbm, 482, rfl⟩
abbrev main_v307 : Ref sig .tc := ⟨.hbm, 483, rfl⟩
abbrev main_c_111 : Ref sig .tc := ⟨.hbm, 484, rfl⟩
abbrev main_call23_v0 : Ref sig .tc := ⟨.hbm, 485, rfl⟩
abbrev main_v308 : Ref sig .tc := ⟨.hbm, 486, rfl⟩
abbrev main_v309 : Ref sig .tc := ⟨.hbm, 487, rfl⟩
abbrev main_v310 : Ref sig .tc := ⟨.hbm, 488, rfl⟩
abbrev main_c_112 : Ref sig .tc := ⟨.hbm, 489, rfl⟩
abbrev main_call24_v0 : Ref sig .tc := ⟨.hbm, 490, rfl⟩
abbrev main_v311 : Ref sig .tc := ⟨.hbm, 491, rfl⟩
abbrev main_v312 : Ref sig .tc := ⟨.hbm, 492, rfl⟩
abbrev main_v313 : Ref sig .tc := ⟨.hbm, 493, rfl⟩
abbrev main_c_113 : Ref sig .tc := ⟨.hbm, 494, rfl⟩
abbrev main_call25_v0 : Ref sig .tc := ⟨.hbm, 495, rfl⟩
abbrev main_v314 : Ref sig .tc := ⟨.hbm, 496, rfl⟩
abbrev main_v315 : Ref sig .tc := ⟨.hbm, 497, rfl⟩
abbrev main_v316 : Ref sig .tc := ⟨.hbm, 498, rfl⟩
abbrev main_c_114 : Ref sig .tc := ⟨.hbm, 499, rfl⟩
abbrev main_call26_v0 : Ref sig .tc := ⟨.hbm, 500, rfl⟩
abbrev main_v317 : Ref sig .tc := ⟨.hbm, 501, rfl⟩
abbrev main_v318 : Ref sig .tc := ⟨.hbm, 502, rfl⟩
abbrev main_c_115 : Ref sig .tc := ⟨.hbm, 503, rfl⟩
abbrev main_call27_v0 : Ref sig .tc := ⟨.hbm, 504, rfl⟩
abbrev main_v319 : Ref sig .tc := ⟨.hbm, 505, rfl⟩
abbrev main_v320 : Ref sig .tc := ⟨.hbm, 506, rfl⟩
abbrev main_v321 : Ref sig .tc := ⟨.hbm, 507, rfl⟩
abbrev main_c_116 : Ref sig .tc := ⟨.hbm, 508, rfl⟩
abbrev main_call28_v0 : Ref sig .tc := ⟨.hbm, 509, rfl⟩
abbrev main_v322 : Ref sig .tc := ⟨.hbm, 510, rfl⟩
abbrev main_v323 : Ref sig .tc := ⟨.hbm, 511, rfl⟩
abbrev main_c_117 : Ref sig .tc := ⟨.hbm, 512, rfl⟩
abbrev main_call29_v0 : Ref sig .tc := ⟨.hbm, 513, rfl⟩
abbrev main_v324 : Ref sig .tc := ⟨.hbm, 514, rfl⟩
abbrev main_v325 : Ref sig .tc := ⟨.hbm, 515, rfl⟩
abbrev main_v326 : Ref sig .tc := ⟨.hbm, 516, rfl⟩

abbrev nD : Nat := 1
abbrev τ : Topo := Topo.v7x

variable {F : FTy → Type} [FloatOps F]
-- ==== Proof.Offs.lean ====
/-
  The places the loop over pairs of query blocks reads and writes, in closed form: in trip `k` of key block `j` the
  even block is `j + 1 + 2 k`, the odd one `j + 2 + 2 k`.
-/
module

public import proofs.«01_k».proof.Proof.Gen.KernelIdeal.Loops

@[expose] public section

noncomputable section

namespace Cert.KernelIdeal.Fox

open Cert.KernelIdeal Cert.KernelIdeal.Gen
open Idealize.ShloMosaic Idealize.ShloMosaic.Tactic

theorem trips1 : ∀ i : grid0.Coords, (k0_t1_loop i).trips = (7 - (i 2).val) / 2 := by decide +kernel
theorem trips2 : ∀ i : grid0.Coords, (k0_t2_loop i).trips = 0 := by decide +kernel

theorem off4_1 : ∀ (i : grid0.Coords) (k : Fin (k0_t1_loop i).trips), k0_off4 i k 1#32 = ![256 * ((i 2).val + 2 * k.val + 2), 0] := by decide +kernel
theorem off4_2 : ∀ (i : grid0.Coords) (k : Fin (k0_t1_loop i).trips), k0_off4 i k 2#32 = ![256 * (if 2 * k.val + 2 < 7 - (i 2).val then (i 2).val + 2 * k.val + 3 else (i 2).val), 0] := by decide +kernel
theorem off5 : ∀ (i : grid0.Coords) (k : Fin (k0_t1_loop i).trips), k0_off5 i k = ![256 * ((i 2).val + 2 * k.val + 1), 0] := by decide +kernel
theorem off6 : ∀ (i : grid0.Coords) (k : Fin (k0_t1_loop i).trips), k0_off6 i k = ![0, 256 * ((i 2).val + 2 * k.val + 1), 0] := by decide +kernel
theorem off7 : ∀ (i : grid0.Coords) (k : Fin (k0_t1_loop i).trips), k0_off7 i k = ![0, (i 2).val + 2 * k.val + 1, 0, 0] := by decide +kernel
theorem off8 : ∀ (i : grid0.Coords) (k : Fin (k0_t1_loop i).trips), k0_off8 i k = ![1, 256 * ((i 2).val + 2 * k.val + 1), 0] := by decide +kernel
theorem off9 : ∀ (i : grid0.Coords) (k : Fin (k0_t1_loop i).trips), k0_off9 i k = ![0, (i 2).val + 2 * k.val + 1, 64, 0] := by decide +kernel
theorem off10 : ∀ (i : grid0.Coords) (k : Fin (k0_t1_loop i).trips), k0_off10 i k = ![0, 256 * ((i 2).val + 2 * k.val + 2), 0] := by decide +kernel
theorem off11 : ∀ (i : grid0.Coords) (k : Fin (k0_t1_loop i).trips), k0_off11 i k = ![0, (i 2).val + 2 * k.val + 2, 0, 0] := by decide +kernel
theorem off12 : ∀ (i : grid0.Coords) (k : Fin (k0_t1_loop i).trips), k0_off12 i k = ![1, 256 * ((i 2).val + 2 * k.val + 2), 0] := by decide +kernel
theorem off13 : ∀ (i : grid0.Coords) (k : Fin (k0_t1_loop i).trips), k0_off13 i k = ![0, (i 2).val + 2 * k.val + 2, 64, 0] := by decide +kernel

instance (i : grid0.Coords) (k : Fin (k0_t1_loop i).trips) : ClosedOff (k0_off4 i k 1#32) := ⟨_, off4_1 i k⟩
instance (i : grid0.Coords) (k : Fin (k0_t1_loop i).trips) : ClosedOff (k0_off4 i k 2#32) := ⟨_, off4_2 i k⟩
instance (i : grid0.Coords) (k : Fin (k0_t1_loop i).trips) : ClosedOff (k0_off5 i k) := ⟨_, off5 i k⟩
instance (i : grid0.Coords) (k : Fin (k0_t1_loop i).trips) : ClosedOff (k0_off6 i k) := ⟨_, off6 i k⟩
instance (i : grid0.Coords) (k : Fin (k0_t1_loop i).trips) : ClosedOff (k0_off7 i k) := ⟨_, off7 i k⟩
instance (i : grid0.Coords) (k : Fin (k0_t1_loop i).trips) : ClosedOff (k0_off8 i k) := ⟨_, off8 i k⟩
instance (i : grid0.Coords) (k : Fin (k0_t1_loop i).trips) : ClosedOff (k0_off9 i k) := ⟨_, off9 i k⟩
instance (i : grid0.Coords) (k : Fin (k0_t1_loop i).trips) : ClosedOff (k0_off10 i k) := ⟨_, off10 i k⟩
instance (i : grid0.Coords) (k : Fin (k0_t1_loop i).trips) : ClosedOff (k0_off11 i k) := ⟨_, off11 i k⟩
instance (i : grid0.Coords) (k : Fin (k0_t1_loop i).trips) : ClosedOff (k0_off12 i k) := ⟨_, off12 i k⟩
instance (i : grid0.Coords) (k : Fin (k0_t1_loop i).trips) : ClosedOff (k0_off13 i k) := ⟨_, off13 i k⟩

end Cert.KernelIdeal.Fox

end
-- ==== Proof.Trip.lean ====
/-
  One trip of the loop over pairs of query blocks, run once at a symbolic trip.
-/
module

public import proofs.«01_k».proof.Proof.Offs
public import Idealize.ShloMosaic.Lib.Ring
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one trip writes into the nine scratch buffers, as lists of stores, newest first. -/
structure Wr (F : FTy → Type) where
  l17 : List (View.Piece (Elt F) S2048x128 .f32)
  l18 : List (View.Piece (Elt F) S2x2048x1 .f32)
  l19 : List (View.Piece (Elt F) S2x256x256 .f32)
  l20 : List (View.Piece (Elt F) S2x256x256 .f32)
  l21 : List (View.Piece (Elt F) S2x256x256 .f32)
  l22 : List (View.Piece (Elt F) S2x256x256 .f32)
  l23 : List (View.Piece (Elt F) S128x256 .f32)
  l24 : List (View.Piece (Elt F) S128x256 .f32)
  l25 : List (View.Piece (Elt F) S2x8x256 .f32)

set_option maxHeartbeats 8000000 in
/-- One trip, from any contents of the scratch buffers. -/
noncomputable def tripRun (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole) (arg2 : BitVec 32) (v25 : FVec F S256x128 .bf16) (v26 : FVec F S256x128 .bf16) (v27 : FVec F S256x128 .bf16) (v28 : FVec F S256x128 .bf16) (v33 : FVec F S1x256 .f32) (v36 : FVec F S1x256 .f32) (v39 : BitVec 32) (v51 : FVec F S256x128 .bf16) (cst_37 : FVec F S256x256 .f32) (k : Fin (k0_t1_loop i).trips)
    (x3 : Vec F S2048x128 .bf16) (x6 : Vec F S2048x128 .bf16) (x7 : Vec F S2048x128 .f32) (x8 : Vec F S2048x128 .f32) (x10 : Vec F S1x8x128x256 .bf16) (x11 : Vec F S1x8x128x256 .bf16) (s17 : Vec F S2048x128 .f32) (s18 : Vec F S2x2048x1 .f32) (s19 : Vec F S2x256x256 .f32) (s20 : Vec F S2x256x256 .f32) (s21 : Vec F S2x256x256 .f32) (s22 : Vec F S2x256x256 .f32) (s23 : Vec F S128x256 .f32) (s24 : Vec F S128x256 .f32) (s25 : Vec F S2x8x256 .f32) :
    { W : Wr F //
      ∀ (E : Set ℕ) (K : Unit → sProp 𝕄),
        iprop(owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg10 fullShare x10 ∗ owns (c : Thread nD τ) arg11 fullShare x11 ∗ owns (c : Thread nD τ) arg17 fullShare s17 ∗ owns (c : Thread nD τ) arg18 fullShare s18 ∗ owns (c : Thread nD τ) arg19 fullShare s19 ∗ owns (c : Thread nD τ) arg20 fullShare s20 ∗ owns (c : Thread nD τ) arg21 fullShare s21 ∗ owns (c : Thread nD τ) arg22 fullShare s22 ∗ owns (c : Thread nD τ) arg23 fullShare s23 ∗ owns (c : Thread nD τ) arg24 fullShare s24 ∗ owns (c : Thread nD τ) arg25 fullShare s25
            ∗ (iprop(owns (c : Thread nD τ) arg3 fullShare x3 ∗ owns (c : Thread nD τ) arg6 fullShare x6 ∗ owns (c : Thread nD τ) arg7 fullShare x7 ∗ owns (c : Thread nD τ) arg8 fullShare x8 ∗ owns (c : Thread nD τ) arg10 fullShare x10 ∗ owns (c : Thread nD τ) arg11 fullShare x11 ∗ (arg17.view.loc (c : Thread nD τ) ↦[arg17.view.set]{fullShare} arg17.view.writes (Elt F) (harg17.unread s17) W.l17) ∗ (arg18.view.loc (c : Thread nD τ) ↦[arg18.view.set]{fullShare} arg18.view.writes (Elt F) (harg18.unread s18) W.l18) ∗ (arg19.view.loc (c : Thread nD τ) ↦[arg19.view.set]{fullShare} arg19.view.writes (Elt F) (harg19.unread s19) W.l19) ∗ (arg20.view.loc (c : Thread nD τ) ↦[arg20.view.set]{fullShare} arg20.view.writes (Elt F) (harg20.unread s20) W.l20) ∗ (arg21.view.loc (c : Thread nD τ) ↦[arg21.view.set]{fullShare} arg21.view.writes (Elt F) (harg21.unread s21) W.l21) ∗ (arg22.view.loc (c : Thread nD τ) ↦[arg22.view.set]{fullShare} arg22.view.writes (Elt F) (harg22.unread s22) W.l22) ∗ (arg23.view.loc (c : Thread nD τ) ↦[arg23.view.set]{fullShare} arg23.view.writes (Elt F) (harg23.unread s23) W.l23) ∗ (arg24.view.loc (c : Thread nD τ) ↦[arg24.view.set]{fullShare} arg24.view.writes (Elt F) (harg24.unread s24) W.l24) ∗ (arg25.view.loc (c : Thread nD τ) ↦[arg25.view.set]{fullShare} arg25.view.writes (Elt F) (harg25.unread s25) W.l25)) -∗ K ⟨⟩))
          ⊢ wp frame (wpE (defs₀ (F := F)) Variants.none c none) E (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 k ()) K } := by
  refine ⟨⟨?_, ?_, ?_, ?_, ?_, ?_, ?_, ?_, ?_⟩, fun E K => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f3, %hf3, H3⟩, ⟨%f6, %hf6, H6⟩, ⟨%f7, %hf7, H7⟩, ⟨%f8, %hf8, H8⟩, ⟨%f10, %hf10, H10⟩, ⟨%f11, %hf11, H11⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    obtain rfl := harg3.eq_unread hf3; obtain rfl := harg6.eq_unread hf6; obtain rfl := harg7.eq_unread hf7; obtain rfl := harg8.eq_unread hf8; obtain rfl := harg10.eq_unread hf10; obtain rfl := harg11.eq_unread hf11; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25
    sl_exec
    sl_step
    iapply Hk
    isplitl [H3]
    · iexists _; isplitr; · ipureintro; exact harg3.read_unread _
      iexact H3
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]
    · iexists _; isplitr; · ipureintro; exact harg10.read_unread _
      iexact H10
    isplitl [H11]
    · iexists _; isplitr; · ipureintro; exact harg11.read_unread _
      iexact H11
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.KernelIdeal.Fox

end
-- ==== Proof.Loop.lean ====
/-
  The invariants of the two counted loops: the loop over pairs of query blocks as a recursion over its trips, and the
  loop over its remainder, which makes no trip.
-/
module

public import proofs.«01_k».proof.Proof.Trip
public import Idealize.ShloMosaic.Lib.Ring
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] tripRun

/-- What the nine scratch buffers hold. -/
structure Raw (F : FTy → Type) (arg17 : Memref sig .tc .vmem S2048x128 .f32) (arg18 : Memref sig .tc .vmem S2x2048x1 .f32) (arg19 : Memref sig .tc .vmem S2x256x256 .f32) (arg20 : Memref sig .tc .vmem S2x256x256 .f32) (arg21 : Memref sig .tc .vmem S2x256x256 .f32) (arg22 : Memref sig .tc .vmem S2x256x256 .f32) (arg23 : Memref sig .tc .vmem S128x256 .f32) (arg24 : Memref sig .tc .vmem S128x256 .f32) (arg25 : Memref sig .tc .vmem S2x8x256 .f32) where
  f17 : arg17.view.ty.Contents (Elt F)
  f18 : arg18.view.ty.Contents (Elt F)
  f19 : arg19.view.ty.Contents (Elt F)
  f20 : arg20.view.ty.Contents (Elt F)
  f21 : arg21.view.ty.Contents (Elt F)
  f22 : arg22.view.ty.Contents (Elt F)
  f23 : arg23.view.ty.Contents (Elt F)
  f24 : arg24.view.ty.Contents (Elt F)
  f25 : arg25.view.ty.Contents (Elt F)

section
variable (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole) (arg2 : BitVec 32) (v25 : FVec F S256x128 .bf16) (v26 : FVec F S256x128 .bf16) (v27 : FVec F S256x128 .bf16) (v28 : FVec F S256x128 .bf16) (v33 : FVec F S1x256 .f32) (v36 : FVec F S1x256 .f32) (v39 : BitVec 32) (v51 : FVec F S256x128 .bf16) (cst_37 : FVec F S256x256 .f32)
  (x3 : Vec F S2048x128 .bf16) (x6 : Vec F S2048x128 .bf16) (x7 : Vec F S2048x128 .f32) (x8 : Vec F S2048x128 .f32) (x10 : Vec F S1x8x128x256 .bf16) (x11 : Vec F S1x8x128x256 .bf16)

/-- The scratch buffers after one trip. -/
def rawStep (k : Fin (k0_t1_loop i).trips) (r : Raw F arg17 arg18 arg19 arg20 arg21 arg22 arg23 arg24 arg25) : Raw F arg17 arg18 arg19 arg20 arg21 arg22 arg23 arg24 arg25 :=
  let W := (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 k x3 x6 x7 x8 x10 x11 (arg17.view.read (Elt F) r.f17) (arg18.view.read (Elt F) r.f18) (arg19.view.read (Elt F) r.f19) (arg20.view.read (Elt F) r.f20) (arg21.view.read (Elt F) r.f21) (arg22.view.read (Elt F) r.f22) (arg23.view.read (Elt F) r.f23) (arg24.view.read (Elt F) r.f24) (arg25.view.read (Elt F) r.f25)).1
  ⟨arg17.view.writes (Elt F) (harg17.unread (arg17.view.read (Elt F) r.f17)) W.l17, arg18.view.writes (Elt F) (harg18.unread (arg18.view.read (Elt F) r.f18)) W.l18, arg19.view.writes (Elt F) (harg19.unread (arg19.view.read (Elt F) r.f19)) W.l19, arg20.view.writes (Elt F) (harg20.unread (arg20.view.read (Elt F) r.f20)) W.l20, arg21.view.writes (Elt F) (harg21.unread (arg21.view.read (Elt F) r.f21)) W.l21, arg22.view.writes (Elt F) (harg22.unread (arg22.view.read (Elt F) r.f22)) W.l22, arg23.view.writes (Elt F) (harg23.unread (arg23.view.read (Elt F) r.f23)) W.l23, arg24.view.writes (Elt F) (harg24.unread (arg24.view.read (Elt F) r.f24)) W.l24, arg25.view.writes (Elt F) (harg25.unread (arg25.view.read (Elt F) r.f25)) W.l25⟩

/-- The scratch buffers before trip `n`, from what they hold at the loop's entry. -/
def rawAt (r : Raw F arg17 arg18 arg19 arg20 arg21 arg22 arg23 arg24 arg25) : ℕ → Raw F arg17 arg18 arg19 arg20 arg21 arg22 arg23 arg24 arg25
  | 0 => r
  | n + 1 => if h : n < (k0_t1_loop i).trips then rawStep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 x3 x6 x7 x8 x10 x11 ⟨n, h⟩ (rawAt r n) else rawAt r n

theorem rawAt_succ (r : Raw F arg17 arg18 arg19 arg20 arg21 arg22 arg23 arg24 arg25) (k : Fin (k0_t1_loop i).trips) :
    rawAt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 x3 x6 x7 x8 x10 x11 r (k.val + 1) = rawStep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 x3 x6 x7 x8 x10 x11 k (rawAt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 x3 x6 x7 x8 x10 x11 r k.val) := by
  rw [rawAt, dif_pos k.isLt]

/-- The buffers the loop touches, the scratch at `r`. -/
abbrev loopRes (r : Raw F arg17 arg18 arg19 arg20 arg21 arg22 arg23 arg24 arg25) : sProp 𝕄 :=
  iprop((arg3.view.loc (c : Thread nD τ) ↦[arg3.view.set]{fullShare} harg3.unread x3) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg10.view.loc (c : Thread nD τ) ↦[arg10.view.set]{fullShare} harg10.unread x10) ∗ (arg11.view.loc (c : Thread nD τ) ↦[arg11.view.set]{fullShare} harg11.unread x11) ∗ (arg17.view.loc (c : Thread nD τ) ↦[arg17.view.set]{fullShare} r.f17) ∗ (arg18.view.loc (c : Thread nD τ) ↦[arg18.view.set]{fullShare} r.f18) ∗ (arg19.view.loc (c : Thread nD τ) ↦[arg19.view.set]{fullShare} r.f19) ∗ (arg20.view.loc (c : Thread nD τ) ↦[arg20.view.set]{fullShare} r.f20) ∗ (arg21.view.loc (c : Thread nD τ) ↦[arg21.view.set]{fullShare} r.f21) ∗ (arg22.view.loc (c : Thread nD τ) ↦[arg22.view.set]{fullShare} r.f22) ∗ (arg23.view.loc (c : Thread nD τ) ↦[arg23.view.set]{fullShare} r.f23) ∗ (arg24.view.loc (c : Thread nD τ) ↦[arg24.view.set]{fullShare} r.f24) ∗ (arg25.view.loc (c : Thread nD τ) ↦[arg25.view.set]{fullShare} r.f25))

set_option maxHeartbeats 1000000 in
/-- One trip, over the raw contents. -/
theorem rawTrip (k : Fin (k0_t1_loop i).trips) (r : Raw F arg17 arg18 arg19 arg20 arg21 arg22 arg23 arg24 arg25) :
    loopRes c arg3 harg3 arg6 harg6 arg7 harg7 arg8 harg8 arg10 harg10 arg11 harg11 arg17 arg18 arg19 arg20 arg21 arg22 arg23 arg24 arg25 x3 x6 x7 x8 x10 x11 r
      ⊢ wp frame (wpE (defs₀ (F := F)) Variants.none c none) Set.univ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 k ())
          (fun _ => loopRes c arg3 harg3 arg6 harg6 arg7 harg7 arg8 harg8 arg10 harg10 arg11 harg11 arg17 arg18 arg19 arg20 arg21 arg22 arg23 arg24 arg25 x3 x6 x7 x8 x10 x11 (rawStep c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 x3 x6 x7 x8 x10 x11 k r)) := by
  iintro ⟨H3, H6, H7, H8, H10, H11, H17, H18, H19, H20, H21, H22, H23, H24, H25⟩
  iapply (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 k x3 x6 x7 x8 x10 x11 (arg17.view.read (Elt F) r.f17) (arg18.view.read (Elt F) r.f18) (arg19.view.read (Elt F) r.f19) (arg20.view.read (Elt F) r.f20) (arg21.view.read (Elt F) r.f21) (arg22.view.read (Elt F) r.f22) (arg23.view.read (Elt F) r.f23) (arg24.view.read (Elt F) r.f24) (arg25.view.read (Elt F) r.f25)).2 Set.univ
  unfold owns
  isplitl [H3]
  · iexists _; isplitr; · ipureintro; exact harg3.read_unread _
    iexact H3
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr; · ipureintro; exact harg10.read_unread _
    iexact H10
  isplitl [H11]
  · iexists _; isplitr; · ipureintro; exact harg11.read_unread _
    iexact H11
  isplitl [H17]
  · iexists _; isplitr; · ipureintro; rfl
    iexact H17
  isplitl [H18]
  · iexists _; isplitr; · ipureintro; rfl
    iexact H18
  isplitl [H19]
  · iexists _; isplitr; · ipureintro; rfl
    iexact H19
  isplitl [H20]
  · iexists _; isplitr; · ipureintro; rfl
    iexact H20
  isplitl [H21]
  · iexists _; isplitr; · ipureintro; rfl
    iexact H21
  isplitl [H22]
  · iexists _; isplitr; · ipureintro; rfl
    iexact H22
  isplitl [H23]
  · iexists _; isplitr; · ipureintro; rfl
    iexact H23
  isplitl [H24]
  · iexists _; isplitr; · ipureintro; rfl
    iexact H24
  isplitl [H25]
  · iexists _; isplitr; · ipureintro; rfl
    iexact H25
  iintro ⟨⟨%f3, %hf3, H3⟩, ⟨%f6, %hf6, H6⟩, ⟨%f7, %hf7, H7⟩, ⟨%f8, %hf8, H8⟩, ⟨%f10, %hf10, H10⟩, ⟨%f11, %hf11, H11⟩, H17, H18, H19, H20, H21, H22, H23, H24, H25⟩
  obtain rfl := harg3.eq_unread hf3; obtain rfl := harg6.eq_unread hf6; obtain rfl := harg7.eq_unread hf7; obtain rfl := harg8.eq_unread hf8; obtain rfl := harg10.eq_unread hf10; obtain rfl := harg11.eq_unread hf11
  isplitl [H3]; · iexact H3
  isplitl [H6]; · iexact H6
  isplitl [H7]; · iexact H7
  isplitl [H8]; · iexact H8
  isplitl [H10]; · iexact H10
  isplitl [H11]; · iexact H11
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

end

set_option warn.classDefReducibility false in
/-- The invariant of the loop over pairs. -/
@[sl_loop] def loopInv1 (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole) (arg2 : BitVec 32) (v25 : FVec F S256x128 .bf16) (v26 : FVec F S256x128 .bf16) (v27 : FVec F S256x128 .bf16) (v28 : FVec F S256x128 .bf16) (v33 : FVec F S1x256 .f32) (v36 : FVec F S1x256 .f32) (v39 : BitVec 32) (v51 : FVec F S256x128 .bf16) (cst_37 : FVec F S256x256 .f32)
    (x3 : Vec F S2048x128 .bf16) (x6 : Vec F S2048x128 .bf16) (x7 : Vec F S2048x128 .f32) (x8 : Vec F S2048x128 .f32) (x10 : Vec F S1x8x128x256 .bf16) (x11 : Vec F S1x8x128x256 .bf16) (g17 : arg17.view.ty.Contents (Elt F)) (g18 : arg18.view.ty.Contents (Elt F)) (g19 : arg19.view.ty.Contents (Elt F)) (g20 : arg20.view.ty.Contents (Elt F)) (g21 : arg21.view.ty.Contents (Elt F)) (g22 : arg22.view.ty.Contents (Elt F)) (g23 : arg23.view.ty.Contents (Elt F)) (g24 : arg24.view.ty.Contents (Elt F)) (g25 : arg25.view.ty.Contents (Elt F)) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 where
  inv k _ := loopRes c arg3 harg3 arg6 harg6 arg7 harg7 arg8 harg8 arg10 harg10 arg11 harg11 arg17 arg18 arg19 arg20 arg21 arg22 arg23 arg24 arg25 x3 x6 x7 x8 x10 x11 (rawAt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 x3 x6 x7 x8 x10 x11 ⟨g17, g18, g19, g20, g21, g22, g23, g24, g25⟩ k)
  step k _ := by
    rw [rawAt_succ]
    exact rawTrip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 x3 x6 x7 x8 x10 x11 k _

set_option warn.classDefReducibility false in
/-- The remainder loop makes no trip: nothing changes. -/
@[sl_loop] def loopInv2 (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole) (arg2 : BitVec 32) (v25 : FVec F S256x128 .bf16) (v26 : FVec F S256x128 .bf16) (v27 : FVec F S256x128 .bf16) (v28 : FVec F S256x128 .bf16) (v33 : FVec F S1x256 .f32) (v36 : FVec F S1x256 .f32) (v39 : BitVec 32) (v51 : FVec F S256x128 .bf16) (cst_37 : FVec F S256x256 .f32) (v89 : BitVec 32)
    (f25 : arg25.view.ty.Contents (Elt F)) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg2 v25 v26 v27 v28 v33 v36 v39 v51 cst_37 v89 where
  inv _ _ := iprop(arg25.view.loc (c : Thread nD τ) ↦[arg25.view.set]{fullShare} f25)
  step k _ := (Nat.not_lt_zero _ (Nat.lt_of_lt_of_eq k.isLt (trips2 i))).elim

end Cert.KernelIdeal.Fox

end
-- ==== Proof.Post.lean ====
/-
  What the body leaves in the buffers it writes.
-/
module

public import proofs.«01_k».proof.Proof.Loop
public import Idealize.ShloMosaic.Lib.Ring
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the five output blocks and the nine scratch buffers hold when the body ends. -/
structure Left (F : FTy → Type) (arg12 : Memref sig .tc .vmem S2048x128 .bf16) (arg13 : Memref sig .tc .vmem S256x128 .bf16) (arg14 : Memref sig .tc .vmem S256x128 .bf16) (arg15 : Memref sig .tc .vmem S1x1x8x256 .f32) (arg16 : Memref sig .tc .vmem S2048x128 .f32) (arg17 : Memref sig .tc .vmem S2048x128 .f32) (arg18 : Memref sig .tc .vmem S2x2048x1 .f32) (arg19 : Memref sig .tc .vmem S2x256x256 .f32) (arg20 : Memref sig .tc .vmem S2x256x256 .f32) (arg21 : Memref sig .tc .vmem S2x256x256 .f32) (arg22 : Memref sig .tc .vmem S2x256x256 .f32) (arg23 : Memref sig .tc .vmem S128x256 .f32) (arg24 : Memref sig .tc .vmem S128x256 .f32) (arg25 : Memref sig .tc .vmem S2x8x256 .f32) where
  f12 : arg12.view.ty.Contents (Elt F)
  f13 : arg13.view.ty.Contents (Elt F)
  f14 : arg14.view.ty.Contents (Elt F)
  f15 : arg15.view.ty.Contents (Elt F)
  f16 : arg16.view.ty.Contents (Elt F)
  f17 : arg17.view.ty.Contents (Elt F)
  f18 : arg18.view.ty.Contents (Elt F)
  f19 : arg19.view.ty.Contents (Elt F)
  f20 : arg20.view.ty.Contents (Elt F)
  f21 : arg21.view.ty.Contents (Elt F)
  f22 : arg22.view.ty.Contents (Elt F)
  f23 : arg23.view.ty.Contents (Elt F)
  f24 : arg24.view.ty.Contents (Elt F)
  f25 : arg25.view.ty.Contents (Elt F)

/-- The body's first condition: the point is the first of its head pair. -/
abbrev cond1 (i : grid0.Coords) : BitVec 1 := Scalar.cmpi .ne (Scalar.extui (Scalar.cmpi .eq (BitVec.ofNat 32 (i 2).val) 0#32) : BitVec 32) 0#32

/-- A whole buffer read at a value holds the value written over it. -/
theorem raw_of_owns (c : Dev nD) {sp} {s : Shape} {e : EltTy} {m : Memref sig .tc sp s e} (h : m.IsWhole) (x : Vec F s e) :
    owns (c : Thread nD τ) m fullShare x ⊢ (iprop(m.view.loc (c : Thread nD τ) ↦[m.view.set]{fullShare} h.unread x) : sProp 𝕄) := by
  unfold owns
  iintro ⟨%f, %hf, H⟩
  obtain rfl := h.eq_unread hf
  iexact H

theorem owns_of_raw (c : Dev nD) {sp} {s : Shape} {e : EltTy} {m : Memref sig .tc sp s e} (h : m.IsWhole) (x : Vec F s e) :
    (iprop(m.view.loc (c : Thread nD τ) ↦[m.view.set]{fullShare} h.unread x) : sProp 𝕄) ⊢ owns (c : Thread nD τ) m fullShare x := by
  unfold owns
  iintro H
  iexists _; isplitr; · ipureintro; exact h.read_unread _
  iexact H

end Cert.KernelIdeal.Fox

end
-- ==== Proof.BodyA.lean ====
/-
  The body at the first key block of a head pair, seven query blocks below the diagonal.
-/
module

public import proofs.«01_k».proof.Proof.Post
public import Idealize.ShloMosaic.Lib.Ring
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] rawStep tripRun View.writes

set_option maxHeartbeats 16000000 in
/-- The body's run over the buffers' raw contents: the first key block of a head pair, seven query blocks below the diagonal. -/
noncomputable def bodyRawA (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole)
    (hc1 : cond1 i = 1#1) (hc2 : ¬ k0_cond2 i = 1#1) (hc3 : k0_cond3 i = 1#1) (hc4 : ¬ k0_cond4 i = 1#1)
    (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :
    { W : Left F arg12 arg13 arg14 arg15 arg16 arg17 arg18 arg19 arg20 arg21 arg22 arg23 arg24 arg25 //
      ∀ (E : Set ℕ) (_ : E = Set.univ) (K : PUnit → sProp 𝕄),
        iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} harg12.unread x12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} harg16.unread x16) ∗ (arg17.view.loc (c : Thread nD τ) ↦[arg17.view.set]{fullShare} harg17.unread x17) ∗ (arg18.view.loc (c : Thread nD τ) ↦[arg18.view.set]{fullShare} harg18.unread x18) ∗ (arg19.view.loc (c : Thread nD τ) ↦[arg19.view.set]{fullShare} harg19.unread x19) ∗ (arg20.view.loc (c : Thread nD τ) ↦[arg20.view.set]{fullShare} harg20.unread x20) ∗ (arg21.view.loc (c : Thread nD τ) ↦[arg21.view.set]{fullShare} harg21.unread x21) ∗ (arg22.view.loc (c : Thread nD τ) ↦[arg22.view.set]{fullShare} harg22.unread x22) ∗ (arg23.view.loc (c : Thread nD τ) ↦[arg23.view.set]{fullShare} harg23.unread x23) ∗ (arg24.view.loc (c : Thread nD τ) ↦[arg24.view.set]{fullShare} harg24.unread x24) ∗ (arg25.view.loc (c : Thread nD τ) ↦[arg25.view.set]{fullShare} harg25.unread x25)
            ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} W.f12) ∗ (arg13.view.loc (c : Thread nD τ) ↦[arg13.view.set]{fullShare} W.f13) ∗ (arg14.view.loc (c : Thread nD τ) ↦[arg14.view.set]{fullShare} W.f14) ∗ (arg15.view.loc (c : Thread nD τ) ↦[arg15.view.set]{fullShare} W.f15) ∗ (arg16.view.loc (c : Thread nD τ) ↦[arg16.view.set]{fullShare} W.f16) ∗ (arg17.view.loc (c : Thread nD τ) ↦[arg17.view.set]{fullShare} W.f17) ∗ (arg18.view.loc (c : Thread nD τ) ↦[arg18.view.set]{fullShare} W.f18) ∗ (arg19.view.loc (c : Thread nD τ) ↦[arg19.view.set]{fullShare} W.f19) ∗ (arg20.view.loc (c : Thread nD τ) ↦[arg20.view.set]{fullShare} W.f20) ∗ (arg21.view.loc (c : Thread nD τ) ↦[arg21.view.set]{fullShare} W.f21) ∗ (arg22.view.loc (c : Thread nD τ) ↦[arg22.view.set]{fullShare} W.f22) ∗ (arg23.view.loc (c : Thread nD τ) ↦[arg23.view.set]{fullShare} W.f23) ∗ (arg24.view.loc (c : Thread nD τ) ↦[arg24.view.set]{fullShare} W.f24) ∗ (arg25.view.loc (c : Thread nD τ) ↦[arg25.view.set]{fullShare} W.f25)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_, ?_, ?_, ?_, ?_, ?_, ?_, ?_, ?_, ?_, ?_, ?_⟩, fun E hE K => ?run⟩
  case run =>
    subst hE
    simp only [cc0_fox_bwd_eq_skeleton]
    unfold cc0_fox_bwd_skel
    simp only [k0_part30_eq_skeleton, k0_part31_eq_skeleton, k0_part32_eq_skeleton, k0_part33_eq_skeleton, k0_part22_eq_skeleton, k0_part23_eq_skeleton, k0_part24_eq_skeleton, k0_part25_eq_skeleton, k0_part26_eq_skeleton, k0_part27_eq_skeleton, k0_part28_eq_skeleton, k0_part29_eq_skeleton]
    iintro ⟨H3, H4, H5, H6, H7, H8, H9, H10, H11, H12, H13, H14, H15, H16, H17, H18, H19, H20, H21, H22, H23, H24, H25, Hk⟩
    sl_exec (disch := first | sl_exact hc1 | sl_exact hc2 | sl_exact hc3 | sl_exact hc4)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

/-- The same over what is read of the buffers. -/
noncomputable def bodyRunA (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole)
    (hc1 : cond1 i = 1#1) (hc2 : ¬ k0_cond2 i = 1#1) (hc3 : k0_cond3 i = 1#1) (hc4 : ¬ k0_cond4 i = 1#1)
    (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :
    { W : Left F arg12 arg13 arg14 arg15 arg16 arg17 arg18 arg19 arg20 arg21 arg22 arg23 arg24 arg25 //
      ∀ (E : Set ℕ) (_ : E = Set.univ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} W.f12) ∗ (arg13.view.loc (c : Thread nD τ) ↦[arg13.view.set]{fullShare} W.f13) ∗ (arg14.view.loc (c : Thread nD τ) ↦[arg14.view.set]{fullShare} W.f14) ∗ (arg15.view.loc (c : Thread nD τ) ↦[arg15.view.set]{fullShare} W.f15) ∗ (arg16.view.loc (c : Thread nD τ) ↦[arg16.view.set]{fullShare} W.f16) ∗ (arg17.view.loc (c : Thread nD τ) ↦[arg17.view.set]{fullShare} W.f17) ∗ (arg18.view.loc (c : Thread nD τ) ↦[arg18.view.set]{fullShare} W.f18) ∗ (arg19.view.loc (c : Thread nD τ) ↦[arg19.view.set]{fullShare} W.f19) ∗ (arg20.view.loc (c : Thread nD τ) ↦[arg20.view.set]{fullShare} W.f20) ∗ (arg21.view.loc (c : Thread nD τ) ↦[arg21.view.set]{fullShare} W.f21) ∗ (arg22.view.loc (c : Thread nD τ) ↦[arg22.view.set]{fullShare} W.f22) ∗ (arg23.view.loc (c : Thread nD τ) ↦[arg23.view.set]{fullShare} W.f23) ∗ (arg24.view.loc (c : Thread nD τ) ↦[arg24.view.set]{fullShare} W.f24) ∗ (arg25.view.loc (c : Thread nD τ) ↦[arg25.view.set]{fullShare} W.f25)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨(bodyRawA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 x3 x4 x5 x6 x7 x8 x9 x10 x11 x12 x13 x14 x15 x16 x17 x18 x19 x20 x21 x22 x23 x24 x25).1, fun E hE K => ?run⟩
  case run =>
    generalize bodyRawA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 x3 x4 x5 x6 x7 x8 x9 x10 x11 x12 x13 x14 x15 x16 x17 x18 x19 x20 x21 x22 x23 x24 x25 = R
    iintro ⟨H3, H4, H5, H6, H7, H8, H9, H10, H11, H12, H13, H14, H15, H16, H17, H18, H19, H20, H21, H22, H23, H24, H25, Hk⟩
    iapply (R.2 E hE K)
    isplitl [H3]; · iapply (raw_of_owns c harg3 _); iexact H3
    isplitl [H4]; · iapply (raw_of_owns c harg4 _); iexact H4
    isplitl [H5]; · iapply (raw_of_owns c harg5 _); iexact H5
    isplitl [H6]; · iapply (raw_of_owns c harg6 _); iexact H6
    isplitl [H7]; · iapply (raw_of_owns c harg7 _); iexact H7
    isplitl [H8]; · iapply (raw_of_owns c harg8 _); iexact H8
    isplitl [H9]; · iapply (raw_of_owns c harg9 _); iexact H9
    isplitl [H10]; · iapply (raw_of_owns c harg10 _); iexact H10
    isplitl [H11]; · iapply (raw_of_owns c harg11 _); iexact H11
    isplitl [H12]; · iapply (raw_of_owns c harg12 _); iexact H12
    isplitl [H13]; · iapply (raw_of_owns c harg13 _); iexact H13
    isplitl [H14]; · iapply (raw_of_owns c harg14 _); iexact H14
    isplitl [H15]; · iapply (raw_of_owns c harg15 _); iexact H15
    isplitl [H16]; · iapply (raw_of_owns c harg16 _); iexact H16
    isplitl [H17]; · iapply (raw_of_owns c harg17 _); iexact H17
    isplitl [H18]; · iapply (raw_of_owns c harg18 _); iexact H18
    isplitl [H19]; · iapply (raw_of_owns c harg19 _); iexact H19
    isplitl [H20]; · iapply (raw_of_owns c harg20 _); iexact H20
    isplitl [H21]; · iapply (raw_of_owns c harg21 _); iexact H21
    isplitl [H22]; · iapply (raw_of_owns c harg22 _); iexact H22
    isplitl [H23]; · iapply (raw_of_owns c harg23 _); iexact H23
    isplitl [H24]; · iapply (raw_of_owns c harg24 _); iexact H24
    isplitl [H25]; · iapply (raw_of_owns c harg25 _); iexact H25
    iintro ⟨H3, H4, H5, H6, H7, H8, H9, H10, H11, H12, H13, H14, H15, H16, H17, H18, H19, H20, H21, H22, H23, H24, H25⟩
    iapply Hk
    isplitl [H3]; · iapply (owns_of_raw c harg3 _); iexact H3
    isplitl [H4]; · iapply (owns_of_raw c harg4 _); iexact H4
    isplitl [H5]; · iapply (owns_of_raw c harg5 _); iexact H5
    isplitl [H6]; · iapply (owns_of_raw c harg6 _); iexact H6
    isplitl [H7]; · iapply (owns_of_raw c harg7 _); iexact H7
    isplitl [H8]; · iapply (owns_of_raw c harg8 _); iexact H8
    isplitl [H9]; · iapply (owns_of_raw c harg9 _); iexact H9
    isplitl [H10]; · iapply (owns_of_raw c harg10 _); iexact H10
    isplitl [H11]; · iapply (owns_of_raw c harg11 _); iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.KernelIdeal.Fox

end
-- ==== Proof.BodyB.lean ====
/-
  The body at a later key block with an odd number of query blocks below the diagonal.
-/
module

public import proofs.«01_k».proof.Proof.Post
public import Idealize.ShloMosaic.Lib.Ring
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] rawStep tripRun View.writes

set_option maxHeartbeats 16000000 in
/-- The body's run over the buffers' raw contents: a later key block with an odd number of query blocks below the diagonal. -/
noncomputable def bodyRawB (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole)
    (hc1 : ¬ cond1 i = 1#1) (hc2 : ¬ k0_cond2 i = 1#1) (hc3 : k0_cond3 i = 1#1) (hc4 : ¬ k0_cond4 i = 1#1)
    (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :
    { W : Left F arg12 arg13 arg14 arg15 arg16 arg17 arg18 arg19 arg20 arg21 arg22 arg23 arg24 arg25 //
      ∀ (E : Set ℕ) (_ : E = Set.univ) (K : PUnit → sProp 𝕄),
        iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} harg12.unread x12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} harg16.unread x16) ∗ (arg17.view.loc (c : Thread nD τ) ↦[arg17.view.set]{fullShare} harg17.unread x17) ∗ (arg18.view.loc (c : Thread nD τ) ↦[arg18.view.set]{fullShare} harg18.unread x18) ∗ (arg19.view.loc (c : Thread nD τ) ↦[arg19.view.set]{fullShare} harg19.unread x19) ∗ (arg20.view.loc (c : Thread nD τ) ↦[arg20.view.set]{fullShare} harg20.unread x20) ∗ (arg21.view.loc (c : Thread nD τ) ↦[arg21.view.set]{fullShare} harg21.unread x21) ∗ (arg22.view.loc (c : Thread nD τ) ↦[arg22.view.set]{fullShare} harg22.unread x22) ∗ (arg23.view.loc (c : Thread nD τ) ↦[arg23.view.set]{fullShare} harg23.unread x23) ∗ (arg24.view.loc (c : Thread nD τ) ↦[arg24.view.set]{fullShare} harg24.unread x24) ∗ (arg25.view.loc (c : Thread nD τ) ↦[arg25.view.set]{fullShare} harg25.unread x25)
            ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} W.f12) ∗ (arg13.view.loc (c : Thread nD τ) ↦[arg13.view.set]{fullShare} W.f13) ∗ (arg14.view.loc (c : Thread nD τ) ↦[arg14.view.set]{fullShare} W.f14) ∗ (arg15.view.loc (c : Thread nD τ) ↦[arg15.view.set]{fullShare} W.f15) ∗ (arg16.view.loc (c : Thread nD τ) ↦[arg16.view.set]{fullShare} W.f16) ∗ (arg17.view.loc (c : Thread nD τ) ↦[arg17.view.set]{fullShare} W.f17) ∗ (arg18.view.loc (c : Thread nD τ) ↦[arg18.view.set]{fullShare} W.f18) ∗ (arg19.view.loc (c : Thread nD τ) ↦[arg19.view.set]{fullShare} W.f19) ∗ (arg20.view.loc (c : Thread nD τ) ↦[arg20.view.set]{fullShare} W.f20) ∗ (arg21.view.loc (c : Thread nD τ) ↦[arg21.view.set]{fullShare} W.f21) ∗ (arg22.view.loc (c : Thread nD τ) ↦[arg22.view.set]{fullShare} W.f22) ∗ (arg23.view.loc (c : Thread nD τ) ↦[arg23.view.set]{fullShare} W.f23) ∗ (arg24.view.loc (c : Thread nD τ) ↦[arg24.view.set]{fullShare} W.f24) ∗ (arg25.view.loc (c : Thread nD τ) ↦[arg25.view.set]{fullShare} W.f25)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_, ?_, ?_, ?_, ?_, ?_, ?_, ?_, ?_, ?_, ?_, ?_⟩, fun E hE K => ?run⟩
  case run =>
    subst hE
    simp only [cc0_fox_bwd_eq_skeleton]
    unfold cc0_fox_bwd_skel
    simp only [k0_part30_eq_skeleton, k0_part31_eq_skeleton, k0_part32_eq_skeleton, k0_part33_eq_skeleton, k0_part22_eq_skeleton, k0_part23_eq_skeleton, k0_part24_eq_skeleton, k0_part25_eq_skeleton, k0_part26_eq_skeleton, k0_part27_eq_skeleton, k0_part28_eq_skeleton, k0_part29_eq_skeleton]
    iintro ⟨H3, H4, H5, H6, H7, H8, H9, H10, H11, H12, H13, H14, H15, H16, H17, H18, H19, H20, H21, H22, H23, H24, H25, Hk⟩
    sl_exec (disch := first | sl_exact hc1 | sl_exact hc2 | sl_exact hc3 | sl_exact hc4)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

/-- The same over what is read of the buffers. -/
noncomputable def bodyRunB (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole)
    (hc1 : ¬ cond1 i = 1#1) (hc2 : ¬ k0_cond2 i = 1#1) (hc3 : k0_cond3 i = 1#1) (hc4 : ¬ k0_cond4 i = 1#1)
    (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :
    { W : Left F arg12 arg13 arg14 arg15 arg16 arg17 arg18 arg19 arg20 arg21 arg22 arg23 arg24 arg25 //
      ∀ (E : Set ℕ) (_ : E = Set.univ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} W.f12) ∗ (arg13.view.loc (c : Thread nD τ) ↦[arg13.view.set]{fullShare} W.f13) ∗ (arg14.view.loc (c : Thread nD τ) ↦[arg14.view.set]{fullShare} W.f14) ∗ (arg15.view.loc (c : Thread nD τ) ↦[arg15.view.set]{fullShare} W.f15) ∗ (arg16.view.loc (c : Thread nD τ) ↦[arg16.view.set]{fullShare} W.f16) ∗ (arg17.view.loc (c : Thread nD τ) ↦[arg17.view.set]{fullShare} W.f17) ∗ (arg18.view.loc (c : Thread nD τ) ↦[arg18.view.set]{fullShare} W.f18) ∗ (arg19.view.loc (c : Thread nD τ) ↦[arg19.view.set]{fullShare} W.f19) ∗ (arg20.view.loc (c : Thread nD τ) ↦[arg20.view.set]{fullShare} W.f20) ∗ (arg21.view.loc (c : Thread nD τ) ↦[arg21.view.set]{fullShare} W.f21) ∗ (arg22.view.loc (c : Thread nD τ) ↦[arg22.view.set]{fullShare} W.f22) ∗ (arg23.view.loc (c : Thread nD τ) ↦[arg23.view.set]{fullShare} W.f23) ∗ (arg24.view.loc (c : Thread nD τ) ↦[arg24.view.set]{fullShare} W.f24) ∗ (arg25.view.loc (c : Thread nD τ) ↦[arg25.view.set]{fullShare} W.f25)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨(bodyRawB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 x3 x4 x5 x6 x7 x8 x9 x10 x11 x12 x13 x14 x15 x16 x17 x18 x19 x20 x21 x22 x23 x24 x25).1, fun E hE K => ?run⟩
  case run =>
    generalize bodyRawB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 x3 x4 x5 x6 x7 x8 x9 x10 x11 x12 x13 x14 x15 x16 x17 x18 x19 x20 x21 x22 x23 x24 x25 = R
    iintro ⟨H3, H4, H5, H6, H7, H8, H9, H10, H11, H12, H13, H14, H15, H16, H17, H18, H19, H20, H21, H22, H23, H24, H25, Hk⟩
    iapply (R.2 E hE K)
    isplitl [H3]; · iapply (raw_of_owns c harg3 _); iexact H3
    isplitl [H4]; · iapply (raw_of_owns c harg4 _); iexact H4
    isplitl [H5]; · iapply (raw_of_owns c harg5 _); iexact H5
    isplitl [H6]; · iapply (raw_of_owns c harg6 _); iexact H6
    isplitl [H7]; · iapply (raw_of_owns c harg7 _); iexact H7
    isplitl [H8]; · iapply (raw_of_owns c harg8 _); iexact H8
    isplitl [H9]; · iapply (raw_of_owns c harg9 _); iexact H9
    isplitl [H10]; · iapply (raw_of_owns c harg10 _); iexact H10
    isplitl [H11]; · iapply (raw_of_owns c harg11 _); iexact H11
    isplitl [H12]; · iapply (raw_of_owns c harg12 _); iexact H12
    isplitl [H13]; · iapply (raw_of_owns c harg13 _); iexact H13
    isplitl [H14]; · iapply (raw_of_owns c harg14 _); iexact H14
    isplitl [H15]; · iapply (raw_of_owns c harg15 _); iexact H15
    isplitl [H16]; · iapply (raw_of_owns c harg16 _); iexact H16
    isplitl [H17]; · iapply (raw_of_owns c harg17 _); iexact H17
    isplitl [H18]; · iapply (raw_of_owns c harg18 _); iexact H18
    isplitl [H19]; · iapply (raw_of_owns c harg19 _); iexact H19
    isplitl [H20]; · iapply (raw_of_owns c harg20 _); iexact H20
    isplitl [H21]; · iapply (raw_of_owns c harg21 _); iexact H21
    isplitl [H22]; · iapply (raw_of_owns c harg22 _); iexact H22
    isplitl [H23]; · iapply (raw_of_owns c harg23 _); iexact H23
    isplitl [H24]; · iapply (raw_of_owns c harg24 _); iexact H24
    isplitl [H25]; · iapply (raw_of_owns c harg25 _); iexact H25
    iintro ⟨H3, H4, H5, H6, H7, H8, H9, H10, H11, H12, H13, H14, H15, H16, H17, H18, H19, H20, H21, H22, H23, H24, H25⟩
    iapply Hk
    isplitl [H3]; · iapply (owns_of_raw c harg3 _); iexact H3
    isplitl [H4]; · iapply (owns_of_raw c harg4 _); iexact H4
    isplitl [H5]; · iapply (owns_of_raw c harg5 _); iexact H5
    isplitl [H6]; · iapply (owns_of_raw c harg6 _); iexact H6
    isplitl [H7]; · iapply (owns_of_raw c harg7 _); iexact H7
    isplitl [H8]; · iapply (owns_of_raw c harg8 _); iexact H8
    isplitl [H9]; · iapply (owns_of_raw c harg9 _); iexact H9
    isplitl [H10]; · iapply (owns_of_raw c harg10 _); iexact H10
    isplitl [H11]; · iapply (owns_of_raw c harg11 _); iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.KernelIdeal.Fox

end
-- ==== Proof.BodyC.lean ====
/-
  The body at a key block with an even number of query blocks below the diagonal, not the last.
-/
module

public import proofs.«01_k».proof.Proof.Post
public import Idealize.ShloMosaic.Lib.Ring
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] rawStep tripRun View.writes

set_option maxHeartbeats 16000000 in
/-- The body's run over the buffers' raw contents: a key block with an even number of query blocks below the diagonal, not the last. -/
noncomputable def bodyRawC (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole)
    (hc1 : ¬ cond1 i = 1#1) (hc2 : k0_cond2 i = 1#1) (hc3 : ¬ k0_cond3 i = 1#1) (hc4 : ¬ k0_cond4 i = 1#1)
    (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :
    { W : Left F arg12 arg13 arg14 arg15 arg16 arg17 arg18 arg19 arg20 arg21 arg22 arg23 arg24 arg25 //
      ∀ (E : Set ℕ) (_ : E = Set.univ) (K : PUnit → sProp 𝕄),
        iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} harg12.unread x12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} harg16.unread x16) ∗ (arg17.view.loc (c : Thread nD τ) ↦[arg17.view.set]{fullShare} harg17.unread x17) ∗ (arg18.view.loc (c : Thread nD τ) ↦[arg18.view.set]{fullShare} harg18.unread x18) ∗ (arg19.view.loc (c : Thread nD τ) ↦[arg19.view.set]{fullShare} harg19.unread x19) ∗ (arg20.view.loc (c : Thread nD τ) ↦[arg20.view.set]{fullShare} harg20.unread x20) ∗ (arg21.view.loc (c : Thread nD τ) ↦[arg21.view.set]{fullShare} harg21.unread x21) ∗ (arg22.view.loc (c : Thread nD τ) ↦[arg22.view.set]{fullShare} harg22.unread x22) ∗ (arg23.view.loc (c : Thread nD τ) ↦[arg23.view.set]{fullShare} harg23.unread x23) ∗ (arg24.view.loc (c : Thread nD τ) ↦[arg24.view.set]{fullShare} harg24.unread x24) ∗ (arg25.view.loc (c : Thread nD τ) ↦[arg25.view.set]{fullShare} harg25.unread x25)
            ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} W.f12) ∗ (arg13.view.loc (c : Thread nD τ) ↦[arg13.view.set]{fullShare} W.f13) ∗ (arg14.view.loc (c : Thread nD τ) ↦[arg14.view.set]{fullShare} W.f14) ∗ (arg15.view.loc (c : Thread nD τ) ↦[arg15.view.set]{fullShare} W.f15) ∗ (arg16.view.loc (c : Thread nD τ) ↦[arg16.view.set]{fullShare} W.f16) ∗ (arg17.view.loc (c : Thread nD τ) ↦[arg17.view.set]{fullShare} W.f17) ∗ (arg18.view.loc (c : Thread nD τ) ↦[arg18.view.set]{fullShare} W.f18) ∗ (arg19.view.loc (c : Thread nD τ) ↦[arg19.view.set]{fullShare} W.f19) ∗ (arg20.view.loc (c : Thread nD τ) ↦[arg20.view.set]{fullShare} W.f20) ∗ (arg21.view.loc (c : Thread nD τ) ↦[arg21.view.set]{fullShare} W.f21) ∗ (arg22.view.loc (c : Thread nD τ) ↦[arg22.view.set]{fullShare} W.f22) ∗ (arg23.view.loc (c : Thread nD τ) ↦[arg23.view.set]{fullShare} W.f23) ∗ (arg24.view.loc (c : Thread nD τ) ↦[arg24.view.set]{fullShare} W.f24) ∗ (arg25.view.loc (c : Thread nD τ) ↦[arg25.view.set]{fullShare} W.f25)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_, ?_, ?_, ?_, ?_, ?_, ?_, ?_, ?_, ?_, ?_, ?_⟩, fun E hE K => ?run⟩
  case run =>
    subst hE
    simp only [cc0_fox_bwd_eq_skeleton]
    unfold cc0_fox_bwd_skel
    simp only [k0_part30_eq_skeleton, k0_part31_eq_skeleton, k0_part32_eq_skeleton, k0_part33_eq_skeleton, k0_part19_eq_skeleton, k0_part20_eq_skeleton, k0_part21_eq_skeleton]
    iintro ⟨H3, H4, H5, H6, H7, H8, H9, H10, H11, H12, H13, H14, H15, H16, H17, H18, H19, H20, H21, H22, H23, H24, H25, Hk⟩
    sl_exec (disch := first | sl_exact hc1 | sl_exact hc2 | sl_exact hc3 | sl_exact hc4)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

/-- The same over what is read of the buffers. -/
noncomputable def bodyRunC (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole)
    (hc1 : ¬ cond1 i = 1#1) (hc2 : k0_cond2 i = 1#1) (hc3 : ¬ k0_cond3 i = 1#1) (hc4 : ¬ k0_cond4 i = 1#1)
    (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :
    { W : Left F arg12 arg13 arg14 arg15 arg16 arg17 arg18 arg19 arg20 arg21 arg22 arg23 arg24 arg25 //
      ∀ (E : Set ℕ) (_ : E = Set.univ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} W.f12) ∗ (arg13.view.loc (c : Thread nD τ) ↦[arg13.view.set]{fullShare} W.f13) ∗ (arg14.view.loc (c : Thread nD τ) ↦[arg14.view.set]{fullShare} W.f14) ∗ (arg15.view.loc (c : Thread nD τ) ↦[arg15.view.set]{fullShare} W.f15) ∗ (arg16.view.loc (c : Thread nD τ) ↦[arg16.view.set]{fullShare} W.f16) ∗ (arg17.view.loc (c : Thread nD τ) ↦[arg17.view.set]{fullShare} W.f17) ∗ (arg18.view.loc (c : Thread nD τ) ↦[arg18.view.set]{fullShare} W.f18) ∗ (arg19.view.loc (c : Thread nD τ) ↦[arg19.view.set]{fullShare} W.f19) ∗ (arg20.view.loc (c : Thread nD τ) ↦[arg20.view.set]{fullShare} W.f20) ∗ (arg21.view.loc (c : Thread nD τ) ↦[arg21.view.set]{fullShare} W.f21) ∗ (arg22.view.loc (c : Thread nD τ) ↦[arg22.view.set]{fullShare} W.f22) ∗ (arg23.view.loc (c : Thread nD τ) ↦[arg23.view.set]{fullShare} W.f23) ∗ (arg24.view.loc (c : Thread nD τ) ↦[arg24.view.set]{fullShare} W.f24) ∗ (arg25.view.loc (c : Thread nD τ) ↦[arg25.view.set]{fullShare} W.f25)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨(bodyRawC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 x3 x4 x5 x6 x7 x8 x9 x10 x11 x12 x13 x14 x15 x16 x17 x18 x19 x20 x21 x22 x23 x24 x25).1, fun E hE K => ?run⟩
  case run =>
    generalize bodyRawC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 x3 x4 x5 x6 x7 x8 x9 x10 x11 x12 x13 x14 x15 x16 x17 x18 x19 x20 x21 x22 x23 x24 x25 = R
    iintro ⟨H3, H4, H5, H6, H7, H8, H9, H10, H11, H12, H13, H14, H15, H16, H17, H18, H19, H20, H21, H22, H23, H24, H25, Hk⟩
    iapply (R.2 E hE K)
    isplitl [H3]; · iapply (raw_of_owns c harg3 _); iexact H3
    isplitl [H4]; · iapply (raw_of_owns c harg4 _); iexact H4
    isplitl [H5]; · iapply (raw_of_owns c harg5 _); iexact H5
    isplitl [H6]; · iapply (raw_of_owns c harg6 _); iexact H6
    isplitl [H7]; · iapply (raw_of_owns c harg7 _); iexact H7
    isplitl [H8]; · iapply (raw_of_owns c harg8 _); iexact H8
    isplitl [H9]; · iapply (raw_of_owns c harg9 _); iexact H9
    isplitl [H10]; · iapply (raw_of_owns c harg10 _); iexact H10
    isplitl [H11]; · iapply (raw_of_owns c harg11 _); iexact H11
    isplitl [H12]; · iapply (raw_of_owns c harg12 _); iexact H12
    isplitl [H13]; · iapply (raw_of_owns c harg13 _); iexact H13
    isplitl [H14]; · iapply (raw_of_owns c harg14 _); iexact H14
    isplitl [H15]; · iapply (raw_of_owns c harg15 _); iexact H15
    isplitl [H16]; · iapply (raw_of_owns c harg16 _); iexact H16
    isplitl [H17]; · iapply (raw_of_owns c harg17 _); iexact H17
    isplitl [H18]; · iapply (raw_of_owns c harg18 _); iexact H18
    isplitl [H19]; · iapply (raw_of_owns c harg19 _); iexact H19
    isplitl [H20]; · iapply (raw_of_owns c harg20 _); iexact H20
    isplitl [H21]; · iapply (raw_of_owns c harg21 _); iexact H21
    isplitl [H22]; · iapply (raw_of_owns c harg22 _); iexact H22
    isplitl [H23]; · iapply (raw_of_owns c harg23 _); iexact H23
    isplitl [H24]; · iapply (raw_of_owns c harg24 _); iexact H24
    isplitl [H25]; · iapply (raw_of_owns c harg25 _); iexact H25
    iintro ⟨H3, H4, H5, H6, H7, H8, H9, H10, H11, H12, H13, H14, H15, H16, H17, H18, H19, H20, H21, H22, H23, H24, H25⟩
    iapply Hk
    isplitl [H3]; · iapply (owns_of_raw c harg3 _); iexact H3
    isplitl [H4]; · iapply (owns_of_raw c harg4 _); iexact H4
    isplitl [H5]; · iapply (owns_of_raw c harg5 _); iexact H5
    isplitl [H6]; · iapply (owns_of_raw c harg6 _); iexact H6
    isplitl [H7]; · iapply (owns_of_raw c harg7 _); iexact H7
    isplitl [H8]; · iapply (owns_of_raw c harg8 _); iexact H8
    isplitl [H9]; · iapply (owns_of_raw c harg9 _); iexact H9
    isplitl [H10]; · iapply (owns_of_raw c harg10 _); iexact H10
    isplitl [H11]; · iapply (owns_of_raw c harg11 _); iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.KernelIdeal.Fox

end
-- ==== Proof.BodyD.lean ====
/-
  The body at the last key block: the diagonal alone, and the totals over the key blocks leave.
-/
module

public import proofs.«01_k».proof.Proof.Post
public import Idealize.ShloMosaic.Lib.Ring
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] rawStep tripRun View.writes

set_option maxHeartbeats 16000000 in
/-- The body's run over the buffers' raw contents: the last key block: the diagonal alone, and the totals over the key blocks leave. -/
noncomputable def bodyRawD (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole)
    (hc1 : ¬ cond1 i = 1#1) (hc2 : k0_cond2 i = 1#1) (hc3 : ¬ k0_cond3 i = 1#1) (hc4 : k0_cond4 i = 1#1)
    (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :
    { W : Left F arg12 arg13 arg14 arg15 arg16 arg17 arg18 arg19 arg20 arg21 arg22 arg23 arg24 arg25 //
      ∀ (E : Set ℕ) (_ : E = Set.univ) (K : PUnit → sProp 𝕄),
        iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} harg12.unread x12) ∗ (arg13.view.loc (c : Thread nD τ) ↦[arg13.view.set]{fullShare} harg13.unread x13) ∗ (arg14.view.loc (c : Thread nD τ) ↦[arg14.view.set]{fullShare} harg14.unread x14) ∗ (arg15.view.loc (c : Thread nD τ) ↦[arg15.view.set]{fullShare} harg15.unread x15) ∗ (arg16.view.loc (c : Thread nD τ) ↦[arg16.view.set]{fullShare} harg16.unread x16) ∗ (arg17.view.loc (c : Thread nD τ) ↦[arg17.view.set]{fullShare} harg17.unread x17) ∗ (arg18.view.loc (c : Thread nD τ) ↦[arg18.view.set]{fullShare} harg18.unread x18) ∗ (arg19.view.loc (c : Thread nD τ) ↦[arg19.view.set]{fullShare} harg19.unread x19) ∗ (arg20.view.loc (c : Thread nD τ) ↦[arg20.view.set]{fullShare} harg20.unread x20) ∗ (arg21.view.loc (c : Thread nD τ) ↦[arg21.view.set]{fullShare} harg21.unread x21) ∗ (arg22.view.loc (c : Thread nD τ) ↦[arg22.view.set]{fullShare} harg22.unread x22) ∗ (arg23.view.loc (c : Thread nD τ) ↦[arg23.view.set]{fullShare} harg23.unread x23) ∗ (arg24.view.loc (c : Thread nD τ) ↦[arg24.view.set]{fullShare} harg24.unread x24) ∗ (arg25.view.loc (c : Thread nD τ) ↦[arg25.view.set]{fullShare} harg25.unread x25)
            ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (arg12.view.loc (c : Thread nD τ) ↦[arg12.view.set]{fullShare} W.f12) ∗ (arg13.view.loc (c : Thread nD τ) ↦[arg13.view.set]{fullShare} W.f13) ∗ (arg14.view.loc (c : Thread nD τ) ↦[arg14.view.set]{fullShare} W.f14) ∗ (arg15.view.loc (c : Thread nD τ) ↦[arg15.view.set]{fullShare} W.f15) ∗ (arg16.view.loc (c : Thread nD τ) ↦[arg16.view.set]{fullShare} W.f16) ∗ (arg17.view.loc (c : Thread nD τ) ↦[arg17.view.set]{fullShare} W.f17) ∗ (arg18.view.loc (c : Thread nD τ) ↦[arg18.view.set]{fullShare} W.f18) ∗ (arg19.view.loc (c : Thread nD τ) ↦[arg19.view.set]{fullShare} W.f19) ∗ (arg20.view.loc (c : Thread nD τ) ↦[arg20.view.set]{fullShare} W.f20) ∗ (arg21.view.loc (c : Thread nD τ) ↦[arg21.view.set]{fullShare} W.f21) ∗ (arg22.view.loc (c : Thread nD τ) ↦[arg22.view.set]{fullShare} W.f22) ∗ (arg23.view.loc (c : Thread nD τ) ↦[arg23.view.set]{fullShare} W.f23) ∗ (arg24.view.loc (c : Thread nD τ) ↦[arg24.view.set]{fullShare} W.f24) ∗ (arg25.view.loc (c : Thread nD τ) ↦[arg25.view.set]{fullShare} W.f25)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨⟨?_, ?_, ?_, ?_, ?_, ?_, ?_, ?_, ?_, ?_, ?_, ?_, ?_, ?_⟩, fun E hE K => ?run⟩
  case run =>
    subst hE
    simp only [cc0_fox_bwd_eq_skeleton]
    unfold cc0_fox_bwd_skel
    simp only [k0_part30_eq_skeleton, k0_part31_eq_skeleton, k0_part32_eq_skeleton, k0_part33_eq_skeleton, k0_part19_eq_skeleton, k0_part20_eq_skeleton, k0_part21_eq_skeleton]
    iintro ⟨H3, H4, H5, H6, H7, H8, H9, H10, H11, H12, H13, H14, H15, H16, H17, H18, H19, H20, H21, H22, H23, H24, H25, Hk⟩
    sl_exec (disch := first | sl_exact hc1 | sl_exact hc2 | sl_exact hc3 | sl_exact hc4)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

/-- The same over what is read of the buffers. -/
noncomputable def bodyRunD (c : Dev nD) (i : grid0.Coords) (arg3 : Memref sig .tc .vmem S2048x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x8x2048 .f32) (harg9 : arg9.IsWhole) (arg10 : Memref sig .tc .vmem S1x8x128x256 .bf16) (harg10 : arg10.IsWhole) (arg11 : Memref sig .tc .vmem S1x8x128x256 .bf16) (harg11 : arg11.IsWhole) (arg12 : Memref sig .tc .vmem S2048x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S1x1x8x256 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2x2048x1 .f32) (harg18 : arg18.IsWhole) (arg19 : Memref sig .tc .vmem S2x256x256 .f32) (harg19 : arg19.IsWhole) (arg20 : Memref sig .tc .vmem S2x256x256 .f32) (harg20 : arg20.IsWhole) (arg21 : Memref sig .tc .vmem S2x256x256 .f32) (harg21 : arg21.IsWhole) (arg22 : Memref sig .tc .vmem S2x256x256 .f32) (harg22 : arg22.IsWhole) (arg23 : Memref sig .tc .vmem S128x256 .f32) (harg23 : arg23.IsWhole) (arg24 : Memref sig .tc .vmem S128x256 .f32) (harg24 : arg24.IsWhole) (arg25 : Memref sig .tc .vmem S2x8x256 .f32) (harg25 : arg25.IsWhole)
    (hc1 : ¬ cond1 i = 1#1) (hc2 : k0_cond2 i = 1#1) (hc3 : ¬ k0_cond3 i = 1#1) (hc4 : k0_cond4 i = 1#1)
    (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :
    { W : Left F arg12 arg13 arg14 arg15 arg16 arg17 arg18 arg19 arg20 arg21 arg22 arg23 arg24 arg25 //
      ∀ (E : Set ℕ) (_ : E = Set.univ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (arg12.view.loc (c : Thread nD τ) ↦[arg12.view.set]{fullShare} W.f12) ∗ (arg13.view.loc (c : Thread nD τ) ↦[arg13.view.set]{fullShare} W.f13) ∗ (arg14.view.loc (c : Thread nD τ) ↦[arg14.view.set]{fullShare} W.f14) ∗ (arg15.view.loc (c : Thread nD τ) ↦[arg15.view.set]{fullShare} W.f15) ∗ (arg16.view.loc (c : Thread nD τ) ↦[arg16.view.set]{fullShare} W.f16) ∗ (arg17.view.loc (c : Thread nD τ) ↦[arg17.view.set]{fullShare} W.f17) ∗ (arg18.view.loc (c : Thread nD τ) ↦[arg18.view.set]{fullShare} W.f18) ∗ (arg19.view.loc (c : Thread nD τ) ↦[arg19.view.set]{fullShare} W.f19) ∗ (arg20.view.loc (c : Thread nD τ) ↦[arg20.view.set]{fullShare} W.f20) ∗ (arg21.view.loc (c : Thread nD τ) ↦[arg21.view.set]{fullShare} W.f21) ∗ (arg22.view.loc (c : Thread nD τ) ↦[arg22.view.set]{fullShare} W.f22) ∗ (arg23.view.loc (c : Thread nD τ) ↦[arg23.view.set]{fullShare} W.f23) ∗ (arg24.view.loc (c : Thread nD τ) ↦[arg24.view.set]{fullShare} W.f24) ∗ (arg25.view.loc (c : Thread nD τ) ↦[arg25.view.set]{fullShare} W.f25)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨(bodyRawD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 x3 x4 x5 x6 x7 x8 x9 x10 x11 x12 x13 x14 x15 x16 x17 x18 x19 x20 x21 x22 x23 x24 x25).1, fun E hE K => ?run⟩
  case run =>
    generalize bodyRawD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 x3 x4 x5 x6 x7 x8 x9 x10 x11 x12 x13 x14 x15 x16 x17 x18 x19 x20 x21 x22 x23 x24 x25 = R
    iintro ⟨H3, H4, H5, H6, H7, H8, H9, H10, H11, H12, H13, H14, H15, H16, H17, H18, H19, H20, H21, H22, H23, H24, H25, Hk⟩
    iapply (R.2 E hE K)
    isplitl [H3]; · iapply (raw_of_owns c harg3 _); iexact H3
    isplitl [H4]; · iapply (raw_of_owns c harg4 _); iexact H4
    isplitl [H5]; · iapply (raw_of_owns c harg5 _); iexact H5
    isplitl [H6]; · iapply (raw_of_owns c harg6 _); iexact H6
    isplitl [H7]; · iapply (raw_of_owns c harg7 _); iexact H7
    isplitl [H8]; · iapply (raw_of_owns c harg8 _); iexact H8
    isplitl [H9]; · iapply (raw_of_owns c harg9 _); iexact H9
    isplitl [H10]; · iapply (raw_of_owns c harg10 _); iexact H10
    isplitl [H11]; · iapply (raw_of_owns c harg11 _); iexact H11
    isplitl [H12]; · iapply (raw_of_owns c harg12 _); iexact H12
    isplitl [H13]; · iapply (raw_of_owns c harg13 _); iexact H13
    isplitl [H14]; · iapply (raw_of_owns c harg14 _); iexact H14
    isplitl [H15]; · iapply (raw_of_owns c harg15 _); iexact H15
    isplitl [H16]; · iapply (raw_of_owns c harg16 _); iexact H16
    isplitl [H17]; · iapply (raw_of_owns c harg17 _); iexact H17
    isplitl [H18]; · iapply (raw_of_owns c harg18 _); iexact H18
    isplitl [H19]; · iapply (raw_of_owns c harg19 _); iexact H19
    isplitl [H20]; · iapply (raw_of_owns c harg20 _); iexact H20
    isplitl [H21]; · iapply (raw_of_owns c harg21 _); iexact H21
    isplitl [H22]; · iapply (raw_of_owns c harg22 _); iexact H22
    isplitl [H23]; · iapply (raw_of_owns c harg23 _); iexact H23
    isplitl [H24]; · iapply (raw_of_owns c harg24 _); iexact H24
    isplitl [H25]; · iapply (raw_of_owns c harg25 _); iexact H25
    iintro ⟨H3, H4, H5, H6, H7, H8, H9, H10, H11, H12, H13, H14, H15, H16, H17, H18, H19, H20, H21, H22, H23, H24, H25⟩
    iapply Hk
    isplitl [H3]; · iapply (owns_of_raw c harg3 _); iexact H3
    isplitl [H4]; · iapply (owns_of_raw c harg4 _); iexact H4
    isplitl [H5]; · iapply (owns_of_raw c harg5 _); iexact H5
    isplitl [H6]; · iapply (owns_of_raw c harg6 _); iexact H6
    isplitl [H7]; · iapply (owns_of_raw c harg7 _); iexact H7
    isplitl [H8]; · iapply (owns_of_raw c harg8 _); iexact H8
    isplitl [H9]; · iapply (owns_of_raw c harg9 _); iexact H9
    isplitl [H10]; · iapply (owns_of_raw c harg10 _); iexact H10
    isplitl [H11]; · iapply (owns_of_raw c harg11 _); iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.KernelIdeal.Fox

end
-- ==== Proof.Run.lean ====
/-
  The run of the attention's gradient: the body at each point of the grid, the pipeline's proof data, and the frame. What the
  scratch totals hold between points and what the five results receive are left to predicates (`Says`), so that one run serves
  both the frame (predicates that say nothing) and the values.
-/
module

public import proofs.«01_k».proof.Proof.BodyA
public import proofs.«01_k».proof.Proof.BodyB
public import proofs.«01_k».proof.Proof.BodyC
public import proofs.«01_k».proof.Proof.BodyD
public import proofs.«01_k».proof.Proof.Gen.KernelIdeal.Frame
public import Idealize.ShloMosaic.Lib.Pipeline.DatRel
public import Idealize.ShloMosaic.Lib.Pipeline.ArrRel
public import Idealize.ShloMosaic.Lib.Claim
public import Idealize.ShloMosaic.Lib.Ring
public import Idealize.ShloMosaic.Lib.Tactic
public import Idealize.ShloMosaic.Lib.VecWindow
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligationRel cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case of the body a point takes -/

theorem cond1_iff : ∀ t : Fin cfg0.N, cond1 (grid0.coords t) = 1#1 ↔ t.val % 8 = 0 := by decide +kernel
theorem cond2_iff : ∀ t : Fin cfg0.N, k0_cond2 (grid0.coords t) = 1#1 ↔ t.val % 2 = 1 := by decide +kernel
theorem cond3_iff : ∀ t : Fin cfg0.N, k0_cond3 (grid0.coords t) = 1#1 ↔ t.val % 2 = 0 := by decide +kernel
theorem cond4_iff : ∀ t : Fin cfg0.N, k0_cond4 (grid0.coords t) = 1#1 ↔ t.val % 8 = 7 := by decide +kernel

/-- The point is the first of its head pair. -/
abbrev IsA (t : Fin cfg0.N) : Prop := t.val % 8 = 0
/-- A later point with an odd number of query blocks below the diagonal. -/
abbrev IsB (t : Fin cfg0.N) : Prop := t.val % 8 ≠ 0 ∧ t.val % 2 = 0
/-- A point with an even number of query blocks below the diagonal, not the last. -/
abbrev IsC (t : Fin cfg0.N) : Prop := t.val % 8 ≠ 7 ∧ t.val % 2 = 1
/-- The last point of its head pair. -/
abbrev IsD (t : Fin cfg0.N) : Prop := t.val % 8 = 7

/-- The body's run at a point of case A. -/
abbrev runA (c : Dev nD) (t : Fin cfg0.N) (h : IsA t) (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :=
  bodyRunA (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) ((cond1_iff t).mpr h) (fun e => by have := (cond2_iff t).mp e; omega) ((cond3_iff t).mpr (by omega)) (fun e => by have := (cond4_iff t).mp e; omega) x3 x4 x5 x6 x7 x8 x9 x10 x11 x12 x13 x14 x15 x16 x17 x18 x19 x20 x21 x22 x23 x24 x25

/-- The body's run at a point of case B. -/
abbrev runB (c : Dev nD) (t : Fin cfg0.N) (h : IsB t) (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :=
  bodyRunB (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (fun e => h.1 ((cond1_iff t).mp e)) (fun e => by have := (cond2_iff t).mp e; omega) ((cond3_iff t).mpr h.2) (fun e => by have := (cond4_iff t).mp e; omega) x3 x4 x5 x6 x7 x8 x9 x10 x11 x12 x13 x14 x15 x16 x17 x18 x19 x20 x21 x22 x23 x24 x25

/-- The body's run at a point of case C. -/
abbrev runC (c : Dev nD) (t : Fin cfg0.N) (h : IsC t) (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :=
  bodyRunC (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (fun e => by have := (cond1_iff t).mp e; omega) ((cond2_iff t).mpr h.2) (fun e => by have := (cond3_iff t).mp e; omega) (fun e => h.1 ((cond4_iff t).mp e)) x3 x4 x5 x6 x7 x8 x9 x10 x11 x12 x13 x14 x15 x16 x17 x18 x19 x20 x21 x22 x23 x24 x25

/-- The body's run at a point of case D. -/
abbrev runD (c : Dev nD) (t : Fin cfg0.N) (h : IsD t) (x3 : Vec F S2048x128 .bf16) (x4 : Vec F S256x128 .bf16) (x5 : Vec F S256x128 .bf16) (x6 : Vec F S2048x128 .bf16) (x7 : Vec F S2048x128 .f32) (x8 : Vec F S2048x128 .f32) (x9 : Vec F S1x1x8x2048 .f32) (x10 : Vec F S1x8x128x256 .bf16) (x11 : Vec F S1x8x128x256 .bf16) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32) :=
  bodyRunD (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (fun e => by have := (cond1_iff t).mp e; omega) ((cond2_iff t).mpr (by omega)) (fun e => by have := (cond3_iff t).mp e; omega) ((cond4_iff t).mpr h) x3 x4 x5 x6 x7 x8 x9 x10 x11 x12 x13 x14 x15 x16 x17 x18 x19 x20 x21 x22 x23 x24 x25

/-! ## What is claimed of the totals and the results -/

/-- What is said of the two scratch totals before each point, and of each result's block after it. -/
structure Says (F : FTy → Type) where
  Inv : ℕ → Vec F S2048x128 .f32 → Vec F S2x2048x1 .f32 → Prop
  O12 : Fin cfg0.N → Vec F S2048x128 .bf16 → Prop
  O13 : Fin cfg0.N → Vec F S256x128 .bf16 → Prop
  O14 : Fin cfg0.N → Vec F S256x128 .bf16 → Prop
  O15 : Fin cfg0.N → Vec F S1x1x8x256 .f32 → Prop
  O16 : Fin cfg0.N → Vec F S2048x128 .f32 → Prop

/-- What the body left at point `t` is as `S` says. -/
structure Says.Meets (S : Says F) (t : Fin cfg0.N) {arg12 : Memref sig .tc .vmem S2048x128 .bf16} {arg13 : Memref sig .tc .vmem S256x128 .bf16} {arg14 : Memref sig .tc .vmem S256x128 .bf16} {arg15 : Memref sig .tc .vmem S1x1x8x256 .f32} {arg16 : Memref sig .tc .vmem S2048x128 .f32} {arg17 : Memref sig .tc .vmem S2048x128 .f32} {arg18 : Memref sig .tc .vmem S2x2048x1 .f32} {arg19 : Memref sig .tc .vmem S2x256x256 .f32} {arg20 : Memref sig .tc .vmem S2x256x256 .f32} {arg21 : Memref sig .tc .vmem S2x256x256 .f32} {arg22 : Memref sig .tc .vmem S2x256x256 .f32} {arg23 : Memref sig .tc .vmem S128x256 .f32} {arg24 : Memref sig .tc .vmem S128x256 .f32} {arg25 : Memref sig .tc .vmem S2x8x256 .f32} (W : Left F arg12 arg13 arg14 arg15 arg16 arg17 arg18 arg19 arg20 arg21 arg22 arg23 arg24 arg25) : Prop where
  inv : S.Inv (t.val + 1) (arg17.view.read (Elt F) W.f17) (arg18.view.read (Elt F) W.f18)
  o12 : S.O12 t (arg12.view.read (Elt F) W.f12)
  o13 : S.O13 t (arg13.view.read (Elt F) W.f13)
  o14 : S.O14 t (arg14.view.read (Elt F) W.f14)
  o15 : S.O15 t (arg15.view.read (Elt F) W.f15)
  o16 : S.O16 t (arg16.view.read (Elt F) W.f16)

/-- At every point the body leaves what `S` says, if `S`'s invariant held before it. -/
structure Says.Sound (S : Says F) (c : Dev nD) : Prop where
  start : ∀ x y, S.Inv 0 x y
  caseA : ∀ (t : Fin cfg0.N) (h : IsA t) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32), S.Inv t.val x17 x18 →
    S.Meets t (runA (F := F) c t h (iblk m c 0 t) (iblk m c 1 t) (iblk m c 2 t) (iblk m c 3 t) (iblk m c 4 t) (iblk m c 5 t) (iblk m c 6 t) (iblk m c 7 t) (iblk m c 8 t) x12 x13 x14 x15 x16 x17 x18 x19 x20 x21 x22 x23 x24 x25).1
  caseB : ∀ (t : Fin cfg0.N) (h : IsB t) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32), S.Inv t.val x17 x18 →
    S.Meets t (runB (F := F) c t h (iblk m c 0 t) (iblk m c 1 t) (iblk m c 2 t) (iblk m c 3 t) (iblk m c 4 t) (iblk m c 5 t) (iblk m c 6 t) (iblk m c 7 t) (iblk m c 8 t) x12 x13 x14 x15 x16 x17 x18 x19 x20 x21 x22 x23 x24 x25).1
  caseC : ∀ (t : Fin cfg0.N) (h : IsC t) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32), S.Inv t.val x17 x18 →
    S.Meets t (runC (F := F) c t h (iblk m c 0 t) (iblk m c 1 t) (iblk m c 2 t) (iblk m c 3 t) (iblk m c 4 t) (iblk m c 5 t) (iblk m c 6 t) (iblk m c 7 t) (iblk m c 8 t) x12 x13 x14 x15 x16 x17 x18 x19 x20 x21 x22 x23 x24 x25).1
  caseD : ∀ (t : Fin cfg0.N) (h : IsD t) (x12 : Vec F S2048x128 .bf16) (x13 : Vec F S256x128 .bf16) (x14 : Vec F S256x128 .bf16) (x15 : Vec F S1x1x8x256 .f32) (x16 : Vec F S2048x128 .f32) (x17 : Vec F S2048x128 .f32) (x18 : Vec F S2x2048x1 .f32) (x19 : Vec F S2x256x256 .f32) (x20 : Vec F S2x256x256 .f32) (x21 : Vec F S2x256x256 .f32) (x22 : Vec F S2x256x256 .f32) (x23 : Vec F S128x256 .f32) (x24 : Vec F S128x256 .f32) (x25 : Vec F S2x8x256 .f32), S.Inv t.val x17 x18 →
    S.Meets t (runD (F := F) c t h (iblk m c 0 t) (iblk m c 1 t) (iblk m c 2 t) (iblk m c 3 t) (iblk m c 4 t) (iblk m c 5 t) (iblk m c 6 t) (iblk m c 7 t) (iblk m c 8 t) x12 x13 x14 x15 x16 x17 x18 x19 x20 x21 x22 x23 x24 x25).1

/-- Nothing is said: for the frame. -/
def nothing : Says F where
  Inv _ _ _ := True
  O12 _ _ := True
  O13 _ _ := True
  O14 _ _ := True
  O15 _ _ := True
  O16 _ _ := True

theorem nothing_sound (c : Dev nD) : (nothing (F := F)).Sound m c where
  start _ _ := trivial
  caseA t h _ _ _ _ _ _ _ _ _ _ _ _ _ _ _ := ⟨trivial, trivial, trivial, trivial, trivial, trivial⟩
  caseB t h _ _ _ _ _ _ _ _ _ _ _ _ _ _ _ := ⟨trivial, trivial, trivial, trivial, trivial, trivial⟩
  caseC t h _ _ _ _ _ _ _ _ _ _ _ _ _ _ _ := ⟨trivial, trivial, trivial, trivial, trivial, trivial⟩
  caseD t h _ _ _ _ _ _ _ _ _ _ _ _ _ _ _ := ⟨trivial, trivial, trivial, trivial, trivial, trivial⟩

/-! ## The proof data -/

abbrev sc0 := Memref.whole cc0_scratch0
abbrev sc1 := Memref.whole cc0_scratch1
abbrev sc2 := Memref.whole cc0_scratch2
abbrev sc3 := Memref.whole cc0_scratch3
abbrev sc4 := Memref.whole cc0_scratch4
abbrev sc5 := Memref.whole cc0_scratch5
abbrev sc6 := Memref.whole cc0_scratch6
abbrev sc7 := Memref.whole cc0_scratch7
abbrev sc8 := Memref.whole cc0_scratch8

/-- The scratch and the generator's register, all at anything. -/
theorem PhiA0_eq (c : Dev nD) : (Pipeline.ΦA spec0 c : sProp 𝕄)
    = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ ∃ r, prngReg c r) := by
  unfold Pipeline.ΦA
  rw [scopedRest0_eq]
  simp only [sc0, sc1, sc2, sc3, sc4, sc5, sc6, sc7, sc8, owns_whole]

/-- The invariant before point `n`: the two totals as `S` says, every other scratch buffer and the register at anything. -/
def PhiS (S : Says F) (c : Dev nD) (n : ℕ) : sProp 𝕄 :=
  iprop(((∃ x y, ⌜S.Inv n x y⌝ ∗ owns (c : Thread nD τ) sc0 fullShare x ∗ owns (c : Thread nD τ) sc1 fullShare y) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ ∃ r, prngReg c r)

/-- The pipeline's proof data: the inputs' blocks stay in place, the results' blocks are not named. -/
def dats (S : Says F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Dat.unnamed (cfg := cfg0) ⟨9, h⟩ t
    | ⟨10, h⟩ => Dat.unnamed (cfg := cfg0) ⟨10, h⟩ t
    | ⟨11, h⟩ => Dat.unnamed (cfg := cfg0) ⟨11, h⟩ t
    | ⟨12, h⟩ => Dat.unnamed (cfg := cfg0) ⟨12, h⟩ t
    | ⟨13, h⟩ => Dat.unnamed (cfg := cfg0) ⟨13, h⟩ t
  Φ t := PhiS S c t.val
  q _ := fullShare
  owed _ := 0

/-- The results' windows. -/
def fgt : Fin cfg0.W → Bool := fun w => decide (9 ≤ w.val)

/-- What is said of each result's block. -/
def Rl (S : Says F) : (w : Fin cfg0.W) → Fin cfg0.N → ((cfg0.win w).block.Idx → Elt F (cfg0.win w).elt) → Prop := fun w t X => match w with
  | ⟨0, _⟩ => True
  | ⟨1, _⟩ => True
  | ⟨2, _⟩ => True
  | ⟨3, _⟩ => True
  | ⟨4, _⟩ => True
  | ⟨5, _⟩ => True
  | ⟨6, _⟩ => True
  | ⟨7, _⟩ => True
  | ⟨8, _⟩ => True
  | ⟨9, _⟩ => S.O12 t X
  | ⟨10, _⟩ => S.O13 t X
  | ⟨11, _⟩ => S.O14 t X
  | ⟨12, _⟩ => S.O15 t X
  | ⟨13, _⟩ => S.O16 t X

theorem A_eq (S : Says F) (c : Dev nD) (w : Fin cfg0.W) : (dats m S 0 c).A w = V m c (Pipeline.arrRef spec0 w) := by
  dsimp only [dats]
theorem after0_0 (S : Says F) (c : Dev nD) (t : Fin cfg0.N) : (dats m S 0 c).after 0 t = iblk m c 0 t := by dsimp only [dats]
theorem after0_1 (S : Says F) (c : Dev nD) (t : Fin cfg0.N) : (dats m S 0 c).after 1 t = iblk m c 1 t := by dsimp only [dats]
theorem after0_2 (S : Says F) (c : Dev nD) (t : Fin cfg0.N) : (dats m S 0 c).after 2 t = iblk m c 2 t := by dsimp only [dats]
theorem after0_3 (S : Says F) (c : Dev nD) (t : Fin cfg0.N) : (dats m S 0 c).after 3 t = iblk m c 3 t := by dsimp only [dats]
theorem after0_4 (S : Says F) (c : Dev nD) (t : Fin cfg0.N) : (dats m S 0 c).after 4 t = iblk m c 4 t := by dsimp only [dats]
theorem after0_5 (S : Says F) (c : Dev nD) (t : Fin cfg0.N) : (dats m S 0 c).after 5 t = iblk m c 5 t := by dsimp only [dats]
theorem after0_6 (S : Says F) (c : Dev nD) (t : Fin cfg0.N) : (dats m S 0 c).after 6 t = iblk m c 6 t := by dsimp only [dats]
theorem after0_7 (S : Says F) (c : Dev nD) (t : Fin cfg0.N) : (dats m S 0 c).after 7 t = iblk m c 7 t := by dsimp only [dats]
theorem after0_8 (S : Says F) (c : Dev nD) (t : Fin cfg0.N) : (dats m S 0 c).after 8 t = iblk m c 8 t := by dsimp only [dats]
theorem before0_0 (S : Says F) (c : Dev nD) (t : Fin cfg0.N) (d) : (dats m S 0 c).before 0 t d = iblk m c 0 t :=
  before0_0_of m (dats m S 0 c) (A_eq m S c 0) (after0_0 m S c) t d
theorem before0_1 (S : Says F) (c : Dev nD) (t : Fin cfg0.N) (d) : (dats m S 0 c).before 1 t d = iblk m c 1 t :=
  before0_1_of m (dats m S 0 c) (A_eq m S c 1) (after0_1 m S c) t d
theorem before0_2 (S : Says F) (c : Dev nD) (t : Fin cfg0.N) (d) : (dats m S 0 c).before 2 t d = iblk m c 2 t :=
  before0_2_of m (dats m S 0 c) (A_eq m S c 2) (after0_2 m S c) t d
theorem before0_3 (S : Says F) (c : Dev nD) (t : Fin cfg0.N) (d) : (dats m S 0 c).before 3 t d = iblk m c 3 t :=
  before0_3_of m (dats m S 0 c) (A_eq m S c 3) (after0_3 m S c) t d
theorem before0_4 (S : Says F) (c : Dev nD) (t : Fin cfg0.N) (d) : (dats m S 0 c).before 4 t d = iblk m c 4 t :=
  before0_4_of m (dats m S 0 c) (A_eq m S c 4) (after0_4 m S c) t d
theorem before0_5 (S : Says F) (c : Dev nD) (t : Fin cfg0.N) (d) : (dats m S 0 c).before 5 t d = iblk m c 5 t :=
  before0_5_of m (dats m S 0 c) (A_eq m S c 5) (after0_5 m S c) t d
theorem before0_6 (S : Says F) (c : Dev nD) (t : Fin cfg0.N) (d) : (dats m S 0 c).before 6 t d = iblk m c 6 t :=
  before0_6_of m (dats m S 0 c) (A_eq m S c 6) (after0_6 m S c) t d
theorem before0_7 (S : Says F) (c : Dev nD) (t : Fin cfg0.N) (d) : (dats m S 0 c).before 7 t d = iblk m c 7 t :=
  before0_7_of m (dats m S 0 c) (A_eq m S c 7) (after0_7 m S c) t d
theorem before0_8 (S : Says F) (c : Dev nD) (t : Fin cfg0.N) (d) : (dats m S 0 c).before 8 t d = iblk m c 8 t :=
  before0_8_of m (dats m S 0 c) (A_eq m S c 8) (after0_8 m S c) t d
theorem Φ_castSucc (S : Says F) (c : Dev nD) (t : Fin cfg0.N) : (dats m S 0 c).Φ t.castSucc = PhiS S c t.val := by
  dsimp only [dats]; rfl
theorem Φ_succ (S : Says F) (c : Dev nD) (t : Fin cfg0.N) : (dats m S 0 c).Φ t.succ = PhiS S c (t.val + 1) := by
  dsimp only [dats]; rfl

/-! ## The body's obligation -/

/-- What the body is called with at point `t`, -/
def bodyPre (S : Says F) (c : Dev nD) (t : Fin cfg0.N) : sProp 𝕄 :=
  iprop((dats m S 0 c).Φ t.castSucc ∗ (dats m S 0 c).owesAt () t.castSucc
    ∗ (∃ d, owns (c : Thread nD τ) (st0_0 t) fullShare ((dats m S 0 c).before 0 t d))
    ∗ (∃ d, owns (c : Thread nD τ) (st0_1 t) fullShare ((dats m S 0 c).before 1 t d))
    ∗ (∃ d, owns (c : Thread nD τ) (st0_2 t) fullShare ((dats m S 0 c).before 2 t d))
    ∗ (∃ d, owns (c : Thread nD τ) (st0_3 t) fullShare ((dats m S 0 c).before 3 t d))
    ∗ (∃ d, owns (c : Thread nD τ) (st0_4 t) fullShare ((dats m S 0 c).before 4 t d))
    ∗ (∃ d, owns (c : Thread nD τ) (st0_5 t) fullShare ((dats m S 0 c).before 5 t d))
    ∗ (∃ d, owns (c : Thread nD τ) (st0_6 t) fullShare ((dats m S 0 c).before 6 t d))
    ∗ (∃ d, owns (c : Thread nD τ) (st0_7 t) fullShare ((dats m S 0 c).before 7 t d))
    ∗ (∃ d, owns (c : Thread nD τ) (st0_8 t) fullShare ((dats m S 0 c).before 8 t d))
    ∗ (∃ Y, ⌜((dats m S 0 c).toRRel fgt (Rl S)).Finds 9 t Y⌝ ∗ owns (c : Thread nD τ) (st0_9 t) fullShare Y)
    ∗ (∃ Y, ⌜((dats m S 0 c).toRRel fgt (Rl S)).Finds 10 t Y⌝ ∗ owns (c : Thread nD τ) (st0_10 t) fullShare Y)
    ∗ (∃ Y, ⌜((dats m S 0 c).toRRel fgt (Rl S)).Finds 11 t Y⌝ ∗ owns (c : Thread nD τ) (st0_11 t) fullShare Y)
    ∗ (∃ Y, ⌜((dats m S 0 c).toRRel fgt (Rl S)).Finds 12 t Y⌝ ∗ owns (c : Thread nD τ) (st0_12 t) fullShare Y)
    ∗ (∃ Y, ⌜((dats m S 0 c).toRRel fgt (Rl S)).Finds 13 t Y⌝ ∗ owns (c : Thread nD τ) (st0_13 t) fullShare Y))

/-- and what it returns. -/
def bodyPost (S : Says F) (c : Dev nD) (t : Fin cfg0.N) : sProp 𝕄 :=
  iprop((dats m S 0 c).Φ t.succ ∗ (dats m S 0 c).owesAt () t.succ
    ∗ owns (c : Thread nD τ) (st0_0 t) fullShare ((dats m S 0 c).after 0 t)
    ∗ owns (c : Thread nD τ) (st0_1 t) fullShare ((dats m S 0 c).after 1 t)
    ∗ owns (c : Thread nD τ) (st0_2 t) fullShare ((dats m S 0 c).after 2 t)
    ∗ owns (c : Thread nD τ) (st0_3 t) fullShare ((dats m S 0 c).after 3 t)
    ∗ owns (c : Thread nD τ) (st0_4 t) fullShare ((dats m S 0 c).after 4 t)
    ∗ owns (c : Thread nD τ) (st0_5 t) fullShare ((dats m S 0 c).after 5 t)
    ∗ owns (c : Thread nD τ) (st0_6 t) fullShare ((dats m S 0 c).after 6 t)
    ∗ owns (c : Thread nD τ) (st0_7 t) fullShare ((dats m S 0 c).after 7 t)
    ∗ owns (c : Thread nD τ) (st0_8 t) fullShare ((dats m S 0 c).after 8 t)
    ∗ (∃ X, ⌜S.O12 t X⌝ ∗ owns (c : Thread nD τ) (st0_9 t) fullShare X)
    ∗ (∃ X, ⌜S.O13 t X⌝ ∗ owns (c : Thread nD τ) (st0_10 t) fullShare X)
    ∗ (∃ X, ⌜S.O14 t X⌝ ∗ owns (c : Thread nD τ) (st0_11 t) fullShare X)
    ∗ (∃ X, ⌜S.O15 t X⌝ ∗ owns (c : Thread nD τ) (st0_12 t) fullShare X)
    ∗ (∃ X, ⌜S.O16 t X⌝ ∗ owns (c : Thread nD τ) (st0_13 t) fullShare X))

set_option maxHeartbeats 4000000 in
theorem sound_bodyA (S : Says F) (c : Dev nD) (hS : S.Sound m c) (t : Fin cfg0.N) (h : IsA t) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, before0_8]
  rw [show (dats m S 0 c).owesAt () t.succ = (dats m S 0 c).owesAt () t.castSucc from rfl, Φ_castSucc, Φ_succ,
    after0_0, after0_1, after0_2, after0_3, after0_4, after0_5, after0_6, after0_7, after0_8]
  unfold PhiS
  iintro ⟨⟨⟨⟨%x17, %x18, %hI, H17, H18⟩, ⟨%x19, H19⟩, ⟨%x20, H20⟩, ⟨%x21, H21⟩, ⟨%x22, H22⟩, ⟨%x23, H23⟩, ⟨%x24, H24⟩, ⟨%x25, H25⟩⟩, Hr⟩, Ho, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%x12, %hf12, H12⟩, ⟨%x13, %hf13, H13⟩, ⟨%x14, %hf14, H14⟩, ⟨%x15, %hf15, H15⟩, ⟨%x16, %hf16, H16⟩⟩
  have hM := hS.caseA t h x12 x13 x14 x15 x16 x17 x18 x19 x20 x21 x22 x23 x24 x25 hI
  generalize runA (F := F) c t h (iblk m c 0 t) (iblk m c 1 t) (iblk m c 2 t) (iblk m c 3 t) (iblk m c 4 t) (iblk m c 5 t) (iblk m c 6 t) (iblk m c 7 t) (iblk m c 8 t) x12 x13 x14 x15 x16 x17 x18 x19 x20 x21 x22 x23 x24 x25 = R at hM
  obtain ⟨W, hW⟩ := R
  iapply (hW Set.univ rfl _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H5, H6, H7, H8, H9, H10, H11, H12, H13, H14, H15, H16, H17, H18, H19, H20, H21, H22, H23, H24, H25⟩
  isplitl [H17 H18 H19 H20 H21 H22 H23 H24 H25 Hr]
  · isplitl [H17 H18 H19 H20 H21 H22 H23 H24 H25]
    · isplitl [H17 H18]
      · iexists (Memref.view sc0).read (Elt F) W.f17, (Memref.view sc1).read (Elt F) W.f18; isplitr; · ipureintro; exact hM.inv
        isplitl [H17]
        · unfold owns; iexists _; isplitr; · ipureintro; rfl
          iexact H17
        · unfold owns; iexists _; isplitr; · ipureintro; rfl
          iexact H18
      isplitl [H19]
      · iexists (Memref.view sc2).read (Elt F) W.f19; unfold owns; iexists _; isplitr; · ipureintro; rfl
        iexact H19
      isplitl [H20]
      · iexists (Memref.view sc3).read (Elt F) W.f20; unfold owns; iexists _; isplitr; · ipureintro; rfl
        iexact H20
      isplitl [H21]
      · iexists (Memref.view sc4).read (Elt F) W.f21; unfold owns; iexists _; isplitr; · ipureintro; rfl
        iexact H21
      isplitl [H22]
      · iexists (Memref.view sc5).read (Elt F) W.f22; unfold owns; iexists _; isplitr; · ipureintro; rfl
        iexact H22
      isplitl [H23]
      · iexists (Memref.view sc6).read (Elt F) W.f23; unfold owns; iexists _; isplitr; · ipureintro; rfl
        iexact H23
      isplitl [H24]
      · iexists (Memref.view sc7).read (Elt F) W.f24; unfold owns; iexists _; isplitr; · ipureintro; rfl
        iexact H24
      iexists (Memref.view sc8).read (Elt F) W.f25; unfold owns; iexists _; isplitr; · ipureintro; rfl
      iexact H25
    · iexact Hr
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists (Memref.view (st0_9 t)).read (Elt F) W.f12; isplitr; · ipureintro; exact hM.o12
    unfold owns; iexists _; isplitr; · ipureintro; rfl
    iexact H12
  isplitl [H13]
  · iexists (Memref.view (st0_10 t)).read (Elt F) W.f13; isplitr; · ipureintro; exact hM.o13
    unfold owns; iexists _; isplitr; · ipureintro; rfl
    iexact H13
  isplitl [H14]
  · iexists (Memref.view (st0_11 t)).read (Elt F) W.f14; isplitr; · ipureintro; exact hM.o14
    unfold owns; iexists _; isplitr; · ipureintro; rfl
    iexact H14
  isplitl [H15]
  · iexists (Memref.view (st0_12 t)).read (Elt F) W.f15; isplitr; · ipureintro; exact hM.o15
    unfold owns; iexists _; isplitr; · ipureintro; rfl
    iexact H15
  iexists (Memref.view (st0_13 t)).read (Elt F) W.f16; isplitr; · ipureintro; exact hM.o16
  unfold owns; iexists _; isplitr; · ipureintro; rfl
  iexact H16

set_option maxHeartbeats 4000000 in
theorem sound_bodyB (S : Says F) (c : Dev nD) (hS : S.Sound m c) (t : Fin cfg0.N) (h : IsB t) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, before0_8]
  rw [show (dats m S 0 c).owesAt () t.succ = (dats m S 0 c).owesAt () t.castSucc from rfl, Φ_castSucc, Φ_succ,
    after0_0, after0_1, after0_2, after0_3, after0_4, after0_5, after0_6, after0_7, after0_8]
  unfold PhiS
  iintro ⟨⟨⟨⟨%x17, %x18, %hI, H17, H18⟩, ⟨%x19, H19⟩, ⟨%x20, H20⟩, ⟨%x21, H21⟩, ⟨%x22, H22⟩, ⟨%x23, H23⟩, ⟨%x24, H24⟩, ⟨%x25, H25⟩⟩, Hr⟩, Ho, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%x12, %hf12, H12⟩, ⟨%x13, %hf13, H13⟩, ⟨%x14, %hf14, H14⟩, ⟨%x15, %hf15, H15⟩, ⟨%x16, %hf16, H16⟩⟩
  have hM := hS.caseB t h x12 x13 x14 x15 x16 x17 x18 x19 x20 x21 x22 x23 x24 x25 hI
  generalize runB (F := F) c t h (iblk m c 0 t) (iblk m c 1 t) (iblk m c 2 t) (iblk m c 3 t) (iblk m c 4 t) (iblk m c 5 t) (iblk m c 6 t) (iblk m c 7 t) (iblk m c 8 t) x12 x13 x14 x15 x16 x17 x18 x19 x20 x21 x22 x23 x24 x25 = R at hM
  obtain ⟨W, hW⟩ := R
  iapply (hW Set.univ rfl _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H5, H6, H7, H8, H9, H10, H11, H12, H13, H14, H15, H16, H17, H18, H19, H20, H21, H22, H23, H24, H25⟩
  isplitl [H17 H18 H19 H20 H21 H22 H23 H24 H25 Hr]
  · isplitl [H17 H18 H19 H20 H21 H22 H23 H24 H25]
    · isplitl [H17 H18]
      · iexists (Memref.view sc0).read (Elt F) W.f17, (Memref.view sc1).read (Elt F) W.f18; isplitr; · ipureintro; exact hM.inv
        isplitl [H17]
        · unfold owns; iexists _; isplitr; · ipureintro; rfl
          iexact H17
        · unfold owns; iexists _; isplitr; · ipureintro; rfl
          iexact H18
      isplitl [H19]
      · iexists (Memref.view sc2).read (Elt F) W.f19; unfold owns; iexists _; isplitr; · ipureintro; rfl
        iexact H19
      isplitl [H20]
      · iexists (Memref.view sc3).read (Elt F) W.f20; unfold owns; iexists _; isplitr; · ipureintro; rfl
        iexact H20
      isplitl [H21]
      · iexists (Memref.view sc4).read (Elt F) W.f21; unfold owns; iexists _; isplitr; · ipureintro; rfl
        iexact H21
      isplitl [H22]
      · iexists (Memref.view sc5).read (Elt F) W.f22; unfold owns; iexists _; isplitr; · ipureintro; rfl
        iexact H22
      isplitl [H23]
      · iexists (Memref.view sc6).read (Elt F) W.f23; unfold owns; iexists _; isplitr; · ipureintro; rfl
        iexact H23
      isplitl [H24]
      · iexists (Memref.view sc7).read (Elt F) W.f24; unfold owns; iexists _; isplitr; · ipureintro; rfl
        iexact H24
      iexists (Memref.view sc8).read (Elt F) W.f25; unfold owns; iexists _; isplitr; · ipureintro; rfl
      iexact H25
    · iexact Hr
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists (Memref.view (st0_9 t)).read (Elt F) W.f12; isplitr; · ipureintro; exact hM.o12
    unfold owns; iexists _; isplitr; · ipureintro; rfl
    iexact H12
  isplitl [H13]
  · iexists (Memref.view (st0_10 t)).read (Elt F) W.f13; isplitr; · ipureintro; exact hM.o13
    unfold owns; iexists _; isplitr; · ipureintro; rfl
    iexact H13
  isplitl [H14]
  · iexists (Memref.view (st0_11 t)).read (Elt F) W.f14; isplitr; · ipureintro; exact hM.o14
    unfold owns; iexists _; isplitr; · ipureintro; rfl
    iexact H14
  isplitl [H15]
  · iexists (Memref.view (st0_12 t)).read (Elt F) W.f15; isplitr; · ipureintro; exact hM.o15
    unfold owns; iexists _; isplitr; · ipureintro; rfl
    iexact H15
  iexists (Memref.view (st0_13 t)).read (Elt F) W.f16; isplitr; · ipureintro; exact hM.o16
  unfold owns; iexists _; isplitr; · ipureintro; rfl
  iexact H16

set_option maxHeartbeats 4000000 in
theorem sound_bodyC (S : Says F) (c : Dev nD) (hS : S.Sound m c) (t : Fin cfg0.N) (h : IsC t) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, before0_8]
  rw [show (dats m S 0 c).owesAt () t.succ = (dats m S 0 c).owesAt () t.castSucc from rfl, Φ_castSucc, Φ_succ,
    after0_0, after0_1, after0_2, after0_3, after0_4, after0_5, after0_6, after0_7, after0_8]
  unfold PhiS
  iintro ⟨⟨⟨⟨%x17, %x18, %hI, H17, H18⟩, ⟨%x19, H19⟩, ⟨%x20, H20⟩, ⟨%x21, H21⟩, ⟨%x22, H22⟩, ⟨%x23, H23⟩, ⟨%x24, H24⟩, ⟨%x25, H25⟩⟩, Hr⟩, Ho, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%x12, %hf12, H12⟩, ⟨%x13, %hf13, H13⟩, ⟨%x14, %hf14, H14⟩, ⟨%x15, %hf15, H15⟩, ⟨%x16, %hf16, H16⟩⟩
  have hM := hS.caseC t h x12 x13 x14 x15 x16 x17 x18 x19 x20 x21 x22 x23 x24 x25 hI
  generalize runC (F := F) c t h (iblk m c 0 t) (iblk m c 1 t) (iblk m c 2 t) (iblk m c 3 t) (iblk m c 4 t) (iblk m c 5 t) (iblk m c 6 t) (iblk m c 7 t) (iblk m c 8 t) x12 x13 x14 x15 x16 x17 x18 x19 x20 x21 x22 x23 x24 x25 = R at hM
  obtain ⟨W, hW⟩ := R
  iapply (hW Set.univ rfl _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H5, H6, H7, H8, H9, H10, H11, H12, H13, H14, H15, H16, H17, H18, H19, H20, H21, H22, H23, H24, H25⟩
  isplitl [H17 H18 H19 H20 H21 H22 H23 H24 H25 Hr]
  · isplitl [H17 H18 H19 H20 H21 H22 H23 H24 H25]
    · isplitl [H17 H18]
      · iexists (Memref.view sc0).read (Elt F) W.f17, (Memref.view sc1).read (Elt F) W.f18; isplitr; · ipureintro; exact hM.inv
        isplitl [H17]
        · unfold owns; iexists _; isplitr; · ipureintro; rfl
          iexact H17
        · unfold owns; iexists _; isplitr; · ipureintro; rfl
          iexact H18
      isplitl [H19]
      · iexists (Memref.view sc2).read (Elt F) W.f19; unfold owns; iexists _; isplitr; · ipureintro; rfl
        iexact H19
      isplitl [H20]
      · iexists (Memref.view sc3).read (Elt F) W.f20; unfold owns; iexists _; isplitr; · ipureintro; rfl
        iexact H20
      isplitl [H21]
      · iexists (Memref.view sc4).read (Elt F) W.f21; unfold owns; iexists _; isplitr; · ipureintro; rfl
        iexact H21
      isplitl [H22]
      · iexists (Memref.view sc5).read (Elt F) W.f22; unfold owns; iexists _; isplitr; · ipureintro; rfl
        iexact H22
      isplitl [H23]
      · iexists (Memref.view sc6).read (Elt F) W.f23; unfold owns; iexists _; isplitr; · ipureintro; rfl
        iexact H23
      isplitl [H24]
      · iexists (Memref.view sc7).read (Elt F) W.f24; unfold owns; iexists _; isplitr; · ipureintro; rfl
        iexact H24
      iexists (Memref.view sc8).read (Elt F) W.f25; unfold owns; iexists _; isplitr; · ipureintro; rfl
      iexact H25
    · iexact Hr
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists (Memref.view (st0_9 t)).read (Elt F) W.f12; isplitr; · ipureintro; exact hM.o12
    unfold owns; iexists _; isplitr; · ipureintro; rfl
    iexact H12
  isplitl [H13]
  · iexists (Memref.view (st0_10 t)).read (Elt F) W.f13; isplitr; · ipureintro; exact hM.o13
    unfold owns; iexists _; isplitr; · ipureintro; rfl
    iexact H13
  isplitl [H14]
  · iexists (Memref.view (st0_11 t)).read (Elt F) W.f14; isplitr; · ipureintro; exact hM.o14
    unfold owns; iexists _; isplitr; · ipureintro; rfl
    iexact H14
  isplitl [H15]
  · iexists (Memref.view (st0_12 t)).read (Elt F) W.f15; isplitr; · ipureintro; exact hM.o15
    unfold owns; iexists _; isplitr; · ipureintro; rfl
    iexact H15
  iexists (Memref.view (st0_13 t)).read (Elt F) W.f16; isplitr; · ipureintro; exact hM.o16
  unfold owns; iexists _; isplitr; · ipureintro; rfl
  iexact H16

set_option maxHeartbeats 4000000 in
theorem sound_bodyD (S : Says F) (c : Dev nD) (hS : S.Sound m c) (t : Fin cfg0.N) (h : IsD t) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, before0_8]
  rw [show (dats m S 0 c).owesAt () t.succ = (dats m S 0 c).owesAt () t.castSucc from rfl, Φ_castSucc, Φ_succ,
    after0_0, after0_1, after0_2, after0_3, after0_4, after0_5, after0_6, after0_7, after0_8]
  unfold PhiS
  iintro ⟨⟨⟨⟨%x17, %x18, %hI, H17, H18⟩, ⟨%x19, H19⟩, ⟨%x20, H20⟩, ⟨%x21, H21⟩, ⟨%x22, H22⟩, ⟨%x23, H23⟩, ⟨%x24, H24⟩, ⟨%x25, H25⟩⟩, Hr⟩, Ho, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%x12, %hf12, H12⟩, ⟨%x13, %hf13, H13⟩, ⟨%x14, %hf14, H14⟩, ⟨%x15, %hf15, H15⟩, ⟨%x16, %hf16, H16⟩⟩
  have hM := hS.caseD t h x12 x13 x14 x15 x16 x17 x18 x19 x20 x21 x22 x23 x24 x25 hI
  generalize runD (F := F) c t h (iblk m c 0 t) (iblk m c 1 t) (iblk m c 2 t) (iblk m c 3 t) (iblk m c 4 t) (iblk m c 5 t) (iblk m c 6 t) (iblk m c 7 t) (iblk m c 8 t) x12 x13 x14 x15 x16 x17 x18 x19 x20 x21 x22 x23 x24 x25 = R at hM
  obtain ⟨W, hW⟩ := R
  iapply (hW Set.univ rfl _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H3, H4, H5, H6, H7, H8, H9, H10, H11, H12, H13, H14, H15, H16, H17, H18, H19, H20, H21, H22, H23, H24, H25⟩
  isplitl [H17 H18 H19 H20 H21 H22 H23 H24 H25 Hr]
  · isplitl [H17 H18 H19 H20 H21 H22 H23 H24 H25]
    · isplitl [H17 H18]
      · iexists (Memref.view sc0).read (Elt F) W.f17, (Memref.view sc1).read (Elt F) W.f18; isplitr; · ipureintro; exact hM.inv
        isplitl [H17]
        · unfold owns; iexists _; isplitr; · ipureintro; rfl
          iexact H17
        · unfold owns; iexists _; isplitr; · ipureintro; rfl
          iexact H18
      isplitl [H19]
      · iexists (Memref.view sc2).read (Elt F) W.f19; unfold owns; iexists _; isplitr; · ipureintro; rfl
        iexact H19
      isplitl [H20]
      · iexists (Memref.view sc3).read (Elt F) W.f20; unfold owns; iexists _; isplitr; · ipureintro; rfl
        iexact H20
      isplitl [H21]
      · iexists (Memref.view sc4).read (Elt F) W.f21; unfold owns; iexists _; isplitr; · ipureintro; rfl
        iexact H21
      isplitl [H22]
      · iexists (Memref.view sc5).read (Elt F) W.f22; unfold owns; iexists _; isplitr; · ipureintro; rfl
        iexact H22
      isplitl [H23]
      · iexists (Memref.view sc6).read (Elt F) W.f23; unfold owns; iexists _; isplitr; · ipureintro; rfl
        iexact H23
      isplitl [H24]
      · iexists (Memref.view sc7).read (Elt F) W.f24; unfold owns; iexists _; isplitr; · ipureintro; rfl
        iexact H24
      iexists (Memref.view sc8).read (Elt F) W.f25; unfold owns; iexists _; isplitr; · ipureintro; rfl
      iexact H25
    · iexact Hr
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists (Memref.view (st0_9 t)).read (Elt F) W.f12; isplitr; · ipureintro; exact hM.o12
    unfold owns; iexists _; isplitr; · ipureintro; rfl
    iexact H12
  isplitl [H13]
  · iexists (Memref.view (st0_10 t)).read (Elt F) W.f13; isplitr; · ipureintro; exact hM.o13
    unfold owns; iexists _; isplitr; · ipureintro; rfl
    iexact H13
  isplitl [H14]
  · iexists (Memref.view (st0_11 t)).read (Elt F) W.f14; isplitr; · ipureintro; exact hM.o14
    unfold owns; iexists _; isplitr; · ipureintro; rfl
    iexact H14
  isplitl [H15]
  · iexists (Memref.view (st0_12 t)).read (Elt F) W.f15; isplitr; · ipureintro; exact hM.o15
    unfold owns; iexists _; isplitr; · ipureintro; rfl
    iexact H15
  iexists (Memref.view (st0_13 t)).read (Elt F) W.f16; isplitr; · ipureintro; exact hM.o16
  unfold owns; iexists _; isplitr; · ipureintro; rfl
  iexact H16

/-- The body at any point. -/
theorem sound_body (S : Says F) (c : Dev nD) (hS : S.Sound m c) (t : Fin cfg0.N) :
    bodyPre m S c t ⊢ wp frame (wpE (defs₀ (F := F)) Variants.none c none) Set.univ (bodyAt0 t) (fun _ => bodyPost m S c t) := by
  by_cases hA : IsA t
  · exact sound_bodyA m S c hS t hA
  by_cases hD : IsD t
  · exact sound_bodyD m S c hS t hD
  by_cases he : t.val % 2 = 0
  · exact sound_bodyB m S c hS t ⟨hA, he⟩
  · exact sound_bodyC m S c hS t ⟨hD, by omega⟩

theorem defs₀_row (t : Fin cfg0.N) :
    defs₀ (F := F) .tc cfg0.body (cfg0.bodyArgs t (cfg0.slots t)) = bodyAt0 t := by
  unfold defs₀; rw [Defs.onTc_tc]

theorem body_obligation (S : Says F) (c : Dev nD) (hS : S.Sound m c) :
    BodyObligationRel (dats (F := F) m S 0 c) (defs₀ (F := F)) Variants.none () Set.univ fgt (Rl S) := fun t => by
  rw [bigSep_W0, bigSep_W0, defs₀_row]
  exact triple_restated (sound_body m S c hS t) rfl .rfl fun _ => .rfl

/-! ## The run and the frame -/

theorem hin (S : Says F) (c : Dev nD) (hS : S.Sound m c) : (Pipeline.ΦA spec0 c : sProp 𝕄) ⊢ PhiS S c 0 := by
  rw [PhiA0_eq]
  unfold PhiS
  iintro ⟨⟨⟨%x, H0⟩, ⟨%y, H1⟩, Hs⟩, Hr⟩
  isplitl [H0 H1 Hs]
  · isplitl [H0 H1]
    · iexists x, y; isplitr; · ipureintro; exact hS.start x y
      isplitl [H0]; · iexact H0
      iexact H1
    · iexact Hs
  · iexact Hr

theorem hout (S : Says F) (c : Dev nD) (n : ℕ) : PhiS S c n ⊢ (Pipeline.ΦA spec0 c : sProp 𝕄) := by
  rw [PhiA0_eq]
  unfold PhiS
  iintro ⟨⟨⟨%x, %y, -, H0, H1⟩, Hs⟩, Hr⟩
  isplitl [H0 H1 Hs]
  · isplitl [H0]; · iexists x; iexact H0
    isplitl [H1]; · iexists y; iexact H1
    iexact Hs
  · iexact Hr

set_option backward.isDefEq.respectTransparency.types false in
/-- THE LAUNCH: every run ends, every counter at zero, each array as the library computes it from the proof data with the results held to
    what `S` says, every other buffer as the region found it. -/
theorem run_main (S : Says F) (hS : ∀ c, S.Sound m c) : θ_run defs (onTc (τ := τ) (main (F := F))) (s₀ m ρ)
    (fun r => (RDat.FramePost (cfgs 0) (fun c => (dats m S 0 c).toRRel fgt (Rl S)) (V m)) r ∧ r.2.sem = fun _ => 0) :=
  RDat.θ_run_frame_track (Q' := _) cfgs (0 : Fin 1) launch0 defs₀ Variants.none (fun c => (dats m S 0 c).toRRel fgt (Rl S)) m ρ main
    (hbody := fun c => (body_obligation m S c (hS c)).toRRel) (hshare := fun c => (dats m S 0 c).share_full fun _ => rfl)
    (howed := fun _ _ => rfl) (V := V m) (hmain := hmain m Variants.none) (hA := A_eq m S) (hin := fun c => hin m S c (hS c)) (hout := fun c => hout S c _)

/-- THE FRAME, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩)
    (run_main m ρ nothing fun c => nothing_sound m c)

end Cert.KernelIdeal.Fox

end
-- ==== Proof.DwSum.lean ====
/-
  A sum over 4096 rows taken in four blocks of 1024, added in order.
-/
module

public import Idealize.ShloMosaic.Lib.ValueIdx
public import Idealize.ShloMosaic.PureOps.Ideal.Laws

@[expose] public section

namespace Cert.Dw

/-- Four consecutive blocks of 1024 terms, added one after the other to nothing, are the sum of all 4096. -/
theorem sum_blocks (f : ℕ → EReal) :
    0 + ∑ k : Fin 1024, f (1024 * 0 + k.val) + ∑ k : Fin 1024, f (1024 * 1 + k.val) + ∑ k : Fin 1024, f (1024 * 2 + k.val)
      + ∑ k : Fin 1024, f (1024 * 3 + k.val) = ∑ k : Fin 4096, f k.val := by
  have h : ∀ n, ∑ k : Fin 1024, f (1024 * n + k.val) = ∑ k ∈ Finset.range 1024, f (1024 * n + k) := fun n =>
    Fin.sum_univ_eq_sum_range (fun k => f (1024 * n + k)) 1024
  rw [h, h, h, h, Fin.sum_univ_eq_sum_range f 4096, show (4096 : ℕ) = 1024 + 1024 + 1024 + 1024 from rfl,
    Finset.sum_range_add, Finset.sum_range_add, Finset.sum_range_add, zero_add]
  simp only [Nat.mul_zero, Nat.zero_add, Nat.mul_one, Nat.reduceMul, Nat.reduceAdd]

end Cert.Dw
-- ==== Proof.DwGu.lean ====
/-
  The gradient of w_gu: a product of the layer's input (transposed) and the gradient of its output, over the 4096 tokens. The
  kernel adds it up over four blocks of 1024 tokens; the reference takes it at once, as the derivative of the product.
-/
module

public import proofs.«01_k».proof.Proof.DwSum
public import proofs.«01_k».proof.Proof.Gen.DwGuIdeal.Value
public import proofs.«01_k».proof.Proof.Gen.RefGuIdeal.Run
public import Idealize.ShloMosaic.Lib.Tactic
public import Idealize.ShloMosaic.Lib.VecWindow
public import Idealize.ShloMosaic.Lib.Pointwise

@[expose] public section

noncomputable section

namespace Cert.RefGuIdeal.Val

open Cert.RefGuIdeal Cert.RefGuIdeal.Gen Idealize.ShloMosaic Idealize.ShloMosaic.StableHlo

/-- The reference's array, of its two arguments. -/
def array (A : FVec Ideal S4096x1024 .bf16) (B : FVec Ideal S4096x5632 .bf16) : Vec Ideal S4x1024x1408 .f32 :=
  transpose S4x1024x1408 [1, 0, 2] (shapeCast S1024x4x1408 (transpose S1024x5632 [1, 0] (Host.dotGeneral (F := Ideal) dot_S4096x5632_S4096x1024_S5632x1024_0_0_1_1_n_n none
    (extf .f32 B bitsLt_bf16_f32) (extf .f32 A bitsLt_bf16_f32)) transposes_S5632x1024_S1024x5632_1_0) shapeCasts_S1024x5632_S1024x4x1408) transposes_S1024x4x1408_S4x1024x1408_1_0_2

end Cert.RefGuIdeal.Val

namespace Cert.DwGuIdeal.Val

open Cert.DwGuIdeal Cert.DwGuIdeal.Gen Cert.DwGuIdeal.Value
open Idealize.ShloMosaic Idealize.ShloMosaic.TcCoe Idealize.SL.Sem

section AnyValues
variable {F : FTy → Type} [FloatOps F]
variable (m : (ℓ : Loc nD τ sig) → Buf (Elt F) ℓ)

theorem hz : (![0, 0] : Fin 2 → Nat) = fun _ => 0 := funext fun a => by fin_cases a <;> rfl

/-- The first block of a run: the total is the block's product added to zero. -/
theorem first_block (c : Dev nD) (t : Fin cfg0.N) (h0 : t.val % 4 = 0) :
    (outsAt0 m c t.val t.isLt).2 = k0_pay2 (F := F) k0_pay1 (iblk m c 0 t) (iblk m c 1 t) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1024x2816) hz, View.readCov_unit_zero (S := S1024x2816) _ hz]
  simp only [View.readAt_eq_ld, (hs0_0 t).read_unread, (hs0_1 t).read_unread, View.ld_unit_zero (S := S1024x2816) hz, View.ld_unit_zero (S := S1024x1024) hz]

/-- A block in the middle: its product is added to the total. -/
theorem next_block (c : Dev nD) (t : Fin cfg0.N) (h0 : ¬t.val % 4 = 0) (h1 : ¬t.val % 4 = 3) :
    (outsAt0 m c t.val t.isLt).2 = k0_pay2 (F := F) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  rw [View.canon_unit_zero hz]
  simp only [View.readAt_eq_ld, (hs0_0 t).read_unread, (hs0_1 t).read_unread, View.ld_unit_zero (S := S1024x2816) hz, View.ld_unit_zero (S := S1024x1024) hz]
  exact congrArg (fun z => k0_pay2 z _ _) (Memref.IsWhole.read_unread (Memref.isWhole_whole cc0_scratch0) _)

/-- A load of a window of a buffer just stored whole reads the payload's window. -/
theorem readCov_window {Val : EltTy → Type} [∀ e, Nonempty (Val e)] {κ : Kind} {sp : Space} {s : Shape} {e : EltTy} (v : View sig κ sp s e) {off off' size : Fin s.rank → ℕ}
    (inb : ∀ a, off a + size a ≤ s.size a) (inb' : ∀ a, off' a + s.size a ≤ s.size a) (w : (Rect.unit off' s.size inb').shape.Idx → Val e) (L : List (View.Piece Val s e)) :
    v.readCov (⟨Rect.unit off' s.size inb', w⟩ :: L) (Rect.unit off size inb).toLoadRect = VecWindow.window w off size inb := by
  show v.readAt Val _ (v.writes Val v.junk _) = _
  rw [View.readAt_unit v _ inb rfl inb, View.read_writes_full]

/-- The last block of a run: the total with its product goes out, in two slabs of 1408 columns. -/
theorem last_block (c : Dev nD) (t : Fin cfg0.N) (h0 : ¬t.val % 4 = 0) (h1 : t.val % 4 = 3) :
    (outsAt0 m c t.val t.isLt).1
      = VecWindow.put (VecWindow.put (VO0_2.read (Elt F) VO0_2.junk) ![0, 0, 0] S1x1024x1408.size
          (k0_pay3 (F := F) (VecWindow.window (s := S1024x2816) (k0_pay2 (F := F) (outsAt0 m c (t.val - 1) (Nat.lt_of_le_of_lt (Nat.sub_le _ _) t.isLt)).2 (iblk m c 0 t) (iblk m c 1 t))
            ![0, 0] S1024x1408.size inb_S1024x2816_S1024x1408_0_0)))
          ![1, 0, 0] S1x1024x1408.size
          (k0_pay4 (F := F) (VecWindow.window (s := S1024x2816) (k0_pay2 (F := F) (outsAt0 m c (t.val - 1) (Nat.lt_of_le_of_lt (Nat.sub_le _ _) t.isLt)).2 (iblk m c 0 t) (iblk m c 1 t))
            ![0, 1408] S1024x1408.size inb_S1024x2816_S1024x1408_0_1408)) := by
  rw [outsAt0_C m c t h0 h1]
  dsimp only
  unfold out0_C_2
  unfold kernelRun0_C
  dsimp only
  sl_unfold_words
  rw [View.read_writes_cons_put _ _ _ _ _ rfl, View.read_writes_cons_put _ _ _ _ _ rfl, View.writes_nil]
  rw [readCov_window, readCov_window]
  simp only [View.readAt_eq_ld, (hs0_0 t).read_unread, (hs0_1 t).read_unread, View.ld_unit_zero (S := S1024x1024) hz, View.ld_unit_zero (S := S1024x2816) hz]
  rw [show View.read (Elt F) scM0_0.view (Memref.IsWhole.unread (Memref.isWhole_whole cc0_scratch0) (outsAt0 m c (t.val - 1) (Nat.lt_of_le_of_lt (Nat.sub_le _ _) t.isLt)).2)
    = (outsAt0 m c (t.val - 1) (Nat.lt_of_le_of_lt (Nat.sub_le _ _) t.isLt)).2 from Memref.IsWhole.read_unread (Memref.isWhole_whole cc0_scratch0) _]

end AnyValues

/-- One block's product over the reals, entry by entry. -/
theorem pay2_apply (acc : Vec Ideal S1024x2816 .f32) (a : Vec Ideal S1024x1024 .bf16) (b : Vec Ideal S1024x2816 .bf16) (r : Fin 1024) (s : Fin 2816) :
    k0_pay2 (F := Ideal) acc a b (ix2 r s) = acc (ix2 r s) + ∑ k : Fin 1024, a (ix2 k r) * b (ix2 k s) := by
  unfold k0_pay2
  pointwise

/-- The two slabs, entry by entry. -/
theorem slabs_apply (x : Vec Ideal S2x1024x1408 .f32) (z : Vec Ideal S1024x2816 .f32) (l : Fin 2) (r : Fin 1024) (y : Fin 1408) (s : Fin 2816) (hs : s.val = 1408 * l.val + y.val) :
    VecWindow.put (VecWindow.put x ![0, 0, 0] S1x1024x1408.size
          (k0_pay3 (F := Ideal) (VecWindow.window (s := S1024x2816) z ![0, 0] S1024x1408.size inb_S1024x2816_S1024x1408_0_0)))
          ![1, 0, 0] S1x1024x1408.size
          (k0_pay4 (F := Ideal) (VecWindow.window (s := S1024x2816) z ![0, 1408] S1024x1408.size inb_S1024x2816_S1024x1408_0_1408)) (ix3 l r y)
      = z (ix2 r s) := by
  have hr := r.isLt
  have hy := y.isLt
  have e3 : ∀ (v : Vec Ideal S1024x1408 .f32) (w : Fin 1), k0_pay3 (F := Ideal) v (ix3 w r y) = v (ix2 r y) := fun v w => by
    unfold k0_pay3; pointwise
  have e4 : ∀ (v : Vec Ideal S1024x1408 .f32) (w : Fin 1), k0_pay4 (F := Ideal) v (ix3 w r y) = v (ix2 r y) := fun v w => by
    unfold k0_pay4; pointwise
  match l, hs with
  | ⟨0, _⟩, hs =>
    have n1 : ¬ ∀ a : Fin 3, (![1, 0, 0] : Fin 3 → ℕ) a ≤ ((ix3 (⟨0, by decide⟩ : Fin 2) r y : S2x1024x1408.Idx) a).val
        ∧ ((ix3 (⟨0, by decide⟩ : Fin 2) r y : S2x1024x1408.Idx) a).val < (![1, 0, 0] : Fin 3 → ℕ) a + S1x1024x1408.size a := fun h => absurd (h 0).1 (by show ¬ 1 ≤ 0; decide)
    have n2 : ∀ a : Fin 3, (![0, 0, 0] : Fin 3 → ℕ) a ≤ ((ix3 (⟨0, by decide⟩ : Fin 2) r y : S2x1024x1408.Idx) a).val
        ∧ ((ix3 (⟨0, by decide⟩ : Fin 2) r y : S2x1024x1408.Idx) a).val < (![0, 0, 0] : Fin 3 → ℕ) a + S1x1024x1408.size a := fun a => match a with
      | ⟨0, _⟩ => by show 0 ≤ 0 ∧ 0 < 0 + 1; decide
      | ⟨1, _⟩ => by show 0 ≤ r.val ∧ r.val < 0 + 1024; omega
      | ⟨2, _⟩ => by show 0 ≤ y.val ∧ y.val < 0 + 1408; omega
    unfold VecWindow.put
    rw [dif_neg n1, dif_pos n2]
    refine Eq.trans (congrArg _ (show _ = ix3 (⟨0, by decide⟩ : Fin 1) r y from ?_)) ((e3 _ _).trans ?_)
    · funext a; match a with | ⟨0, _⟩ => rfl | ⟨1, _⟩ => rfl | ⟨2, _⟩ => rfl
    · show z _ = z _
      congr 1; funext a; apply Fin.ext
      match a with
      | ⟨0, _⟩ => show 0 + 1 * r.val = r.val; omega
      | ⟨1, _⟩ => show 0 + 1 * y.val = s.val; rw [hs]; show _ = 1408 * 0 + y.val; omega
  | ⟨1, _⟩, hs =>
    have n1 : ∀ a : Fin 3, (![1, 0, 0] : Fin 3 → ℕ) a ≤ ((ix3 (⟨1, by decide⟩ : Fin 2) r y : S2x1024x1408.Idx) a).val
        ∧ ((ix3 (⟨1, by decide⟩ : Fin 2) r y : S2x1024x1408.Idx) a).val < (![1, 0, 0] : Fin 3 → ℕ) a + S1x1024x1408.size a := fun a => match a with
      | ⟨0, _⟩ => by show 1 ≤ 1 ∧ 1 < 1 + 1; decide
      | ⟨1, _⟩ => by show 0 ≤ r.val ∧ r.val < 0 + 1024; omega
      | ⟨2, _⟩ => by show 0 ≤ y.val ∧ y.val < 0 + 1408; omega
    unfold VecWindow.put
    rw [dif_pos n1]
    refine Eq.trans (congrArg _ (show _ = ix3 (⟨0, by decide⟩ : Fin 1) r y from ?_)) ((e4 _ _).trans ?_)
    · funext a; match a with | ⟨0, _⟩ => rfl | ⟨1, _⟩ => rfl | ⟨2, _⟩ => rfl
    · show z _ = z _
      congr 1; funext a; apply Fin.ext
      match a with
      | ⟨0, _⟩ => show 0 + 1 * r.val = r.val; omega
      | ⟨1, _⟩ => show 1408 + 1 * y.val = s.val; rw [hs]; show _ = 1408 * 1 + y.val; omega

theorem pay1_apply (r : Fin 1024) (s : Fin 2816) : k0_pay1 (F := Ideal) (ix2 r s) = 0 := by
  unfold k0_pay1
  pointwise

variable (m : (ℓ : Loc nD τ sig) → Buf (Elt Ideal) ℓ)

/-- The two arguments, entry by entry. -/
def argA (c : Dev nD) : Vec Ideal S4096x1024 .bf16 := m ((c : Thread nD τ).loc main_arg0)
def argB (c : Dev nD) : Vec Ideal S4096x5632 .bf16 := m ((c : Thread nD τ).loc main_arg1)

/-- Where the blocks of point `t` lie. -/
theorem index0 : ∀ t : Fin cfg0.N, win0_0.index t (0 : Fin 2) = t.val % 4 ∧ win0_0.index t (1 : Fin 2) = 0 :=
  (by decide +kernel : ∀ t : Fin grid0.N, _)
theorem index1 : ∀ t : Fin cfg0.N, win0_1.index t (0 : Fin 2) = t.val % 4 ∧ win0_1.index t (1 : Fin 2) = t.val / 4 :=
  (by decide +kernel : ∀ t : Fin grid0.N, _)

theorem blockA (c : Dev nD) (t : Fin cfg0.N) (k : Fin 1024) (r : Fin 1024) (p : Fin 4096)
    (hp : p.val = 1024 * (t.val % 4) + k.val) :
    (iblk m c 0 t : Vec Ideal S1024x1024 .bf16) (ix2 k r) = argA m c (ix2 p r) := by
  unfold iblk
  rw [View.read_apply]
  show V m c main_arg0 _ = _
  unfold V argA
  show m _ _ = m _ _
  congr 1
  funext a
  apply Fin.ext
  match a with
  | ⟨0, _⟩ => show win0_0.index t 0 * 1024 + 1 * k.val = p.val; rw [(index0 t).1, hp]; omega
  | ⟨1, _⟩ => show win0_0.index t 1 * 1024 + 1 * r.val = r.val; rw [(index0 t).2]; omega

theorem blockB (c : Dev nD) (t : Fin cfg0.N) (k : Fin 1024) (s : Fin 2816) (p : Fin 4096) (y : Fin 5632)
    (hp : p.val = 1024 * (t.val % 4) + k.val) (hy : y.val = 2816 * (t.val / 4) + s.val) :
    (iblk m c 1 t : Vec Ideal S1024x2816 .bf16) (ix2 k s) = argB m c (ix2 p y) := by
  unfold iblk
  rw [View.read_apply]
  show V m c main_arg1 _ = _
  unfold V argB
  show m _ _ = m _ _
  congr 1
  funext a
  apply Fin.ext
  match a with
  | ⟨0, _⟩ => show win0_1.index t 0 * 1024 + 1 * k.val = p.val; rw [(index1 t).1, hp]; omega
  | ⟨1, _⟩ => show win0_1.index t 1 * 2816 + 1 * s.val = y.val; rw [(index1 t).2, hy]; omega

/-- The product's term of token `k`, at one entry. -/
def term (c : Dev nD) (x : Fin 1024) (y : Fin 5632) (k : ℕ) : EReal :=
  if h : k < 4096 then argA m c (ix2 ⟨k, h⟩ x) * argB m c (ix2 ⟨k, h⟩ y) else 0

/-- One block, entry by entry: what the total held, and the terms of the block's tokens. -/
theorem step (acc : Vec Ideal S1024x2816 .f32) (c : Dev nD) (t : Fin cfg0.N) (j : ℕ) (hj : t.val % 4 = j) (r : Fin 1024) (s : Fin 2816) (y : Fin 5632)
    (hy : y.val = 2816 * (t.val / 4) + s.val) :
    k0_pay2 (F := Ideal) acc (iblk m c 0 t) (iblk m c 1 t) (ix2 r s) = acc (ix2 r s) + ∑ k : Fin 1024, term m c r y (1024 * j + k.val) := by
  refine (pay2_apply acc _ _ r s).trans (congrArg (acc (ix2 r s) + ·) (Finset.sum_congr rfl fun k _ => ?_))
  have hk : 1024 * j + k.val < 4096 := by have := k.isLt; have := Nat.mod_lt t.val (show 4 > 0 by decide); omega
  unfold term
  rw [dif_pos hk]
  rw [blockA m c t k r ⟨_, hk⟩ (by rw [hj]), blockB m c t k s ⟨_, hk⟩ y (by rw [hj]) hy]

/-- What goes out at the last point of a run, entry by entry: the whole sum. -/
theorem total (c : Dev nD) (q : ℕ) (hq : 4 * q + 3 < cfg0.N) (l : Fin 2) (r : Fin 1024) (z : Fin 1408) (y : Fin 5632) (hy : y.val = 2816 * q + (1408 * l.val + z.val)) :
    (outsAt0 m c (4 * q + 3) hq).1 (ix3 l r z) = ∑ k : Fin 4096, term m c r y k.val := by
  have hs : 1408 * l.val + z.val < 2816 := by have := l.isLt; have := z.isLt; omega
  have e0 := first_block m c ⟨4 * q, by omega⟩ (by show 4 * q % 4 = 0; omega)
  have e1 := next_block m c ⟨4 * q + 1, by omega⟩ (by show ¬(4 * q + 1) % 4 = 0; omega) (by show ¬(4 * q + 1) % 4 = 3; omega)
  have e2 := next_block m c ⟨4 * q + 2, by omega⟩ (by show ¬(4 * q + 2) % 4 = 0; omega) (by show ¬(4 * q + 2) % 4 = 3; omega)
  have e3 := last_block m c ⟨4 * q + 3, hq⟩ (by show ¬(4 * q + 3) % 4 = 0; omega) (by show (4 * q + 3) % 4 = 3; omega)
  simp only [Nat.add_sub_cancel] at e1
  simp only [show 4 * q + 2 - 1 = 4 * q + 1 from by omega] at e2
  simp only [show 4 * q + 3 - 1 = 4 * q + 2 from by omega] at e3
  rw [e3, slabs_apply _ _ l r z ⟨_, hs⟩ rfl, step m _ c _ 3 (by show (4 * q + 3) % 4 = 3; omega) r _ y (by rw [hy]; show _ = 2816 * ((4 * q + 3) / 4) + (1408 * l.val + z.val); omega),
    e2, step m _ c _ 2 (by show (4 * q + 2) % 4 = 2; omega) r _ y (by rw [hy]; show _ = 2816 * ((4 * q + 2) / 4) + (1408 * l.val + z.val); omega),
    e1, step m _ c _ 1 (by show (4 * q + 1) % 4 = 1; omega) r _ y (by rw [hy]; show _ = 2816 * ((4 * q + 1) / 4) + (1408 * l.val + z.val); omega),
    e0, step m _ c _ 0 (by show 4 * q % 4 = 0; omega) r _ y (by rw [hy]; show _ = 2816 * (4 * q / 4) + (1408 * l.val + z.val); omega), pay1_apply]
  exact Dw.sum_blocks _

/-- The array after the run, entry by entry. -/
theorem result (c : Dev nD) (l : Fin 4) (x : Fin 1024) (z : Fin 1408) (y : Fin 5632) (hy : y.val = 1408 * l.val + z.val) :
    id (α := Vec Ideal S4x1024x1408 .f32) (G2 m c) (ix3 l x z) = ∑ k : Fin 4096, argA m c (ix2 k x) * argB m c (ix2 k y) := by
  have hl4 : l.val < 4 := l.isLt
  have hx : x.val < 1024 := x.isLt
  have hz : z.val < 1408 := z.isLt
  have hp : pt2Of (ix3 l x z) = 4 * (l.val / 2) + 3 := by
    show 4 * (1 * (l.val / 2 - 0) + 1 * (x.val / 1024 - 0) + 1 * (z.val / 1408 - 0)) + 3 = _
    omega
  have hl : loc2Of (ix3 l x z) = ix3 ⟨l.val % 2, Nat.mod_lt _ (by decide)⟩ x z := by
    funext a
    apply Fin.ext
    match a with
    | ⟨0, _⟩ => rfl
    | ⟨1, _⟩ => show x.val % 1024 = x.val; omega
    | ⟨2, _⟩ => show z.val % 1408 = z.val; omega
  have hN : 4 * (l.val / 2) + 3 < cfg0.N := by rw [show cfg0.N = 8 from N_0]; omega
  unfold G2
  rw [id, dif_pos (by rw [hp]; exact hN), hl, fold0_congr m c _ _ (4 * (l.val / 2) + 3) (by omega) hp, ← outsAt0_sweep m c _ hN,
    total m c _ hN _ _ _ y (by rw [hy]; show _ = 2816 * (l.val / 2) + (1408 * (l.val % 2) + z.val); omega)]
  exact Finset.sum_congr rfl fun k _ => by unfold term; rw [dif_pos k.isLt]

/-- The reference's array, entry by entry. -/
theorem reference_apply (A : FVec Ideal Cert.RefGuIdeal.S4096x1024 .bf16) (B : FVec Ideal Cert.RefGuIdeal.S4096x5632 .bf16) (l : Fin 4) (x : Fin 1024) (z : Fin 1408) (y : Fin 5632)
    (hy : y.val = 1408 * l.val + z.val) :
    Cert.RefGuIdeal.Val.array A B (ix3 l x z) = ∑ k : Fin 4096, A (ix2 k x) * B (ix2 k y) := by
  have hb : l.val * 1408 + z.val < 5632 := by have := l.isLt; have := z.isLt; omega
  obtain rfl : y = ⟨l.val * 1408 + z.val, hb⟩ := Fin.ext (by rw [hy]; show _ = l.val * 1408 + z.val; omega)
  unfold Cert.RefGuIdeal.Val.array
  pointwise
  exact Finset.sum_congr rfl fun k _ => EReal.mul_comm _ _

/-- The reference's array is the kernel's. -/
theorem result_eq (c : Dev nD) : G2 m c = Cert.RefGuIdeal.Val.array (argA m c) (argB m c) := by
  funext i
  obtain ⟨l, x, z, rfl⟩ : ∃ (l : Fin 4) (x : Fin 1024) (z : Fin 1408), i = ix3 l x z :=
    ⟨i 0, i 1, i 2, by funext a; match a with | ⟨0, _⟩ => rfl | ⟨1, _⟩ => rfl | ⟨2, _⟩ => rfl⟩
  have hy : 1408 * l.val + z.val < 5632 := by have := l.isLt; have := z.isLt; omega
  exact (result m c l x z ⟨_, hy⟩ rfl).trans (reference_apply (argA m c) (argB m c) l x z ⟨_, hy⟩ rfl).symm

end Cert.DwGuIdeal.Val

end
-- ==== Proof.DwDown.lean ====
/-
  The gradient of w_down: a product of the layer's input (transposed) and the gradient of its output, over the 4096 tokens. The
  kernel adds it up over four blocks of 1024 tokens; the reference takes it at once, as the derivative of the product.
-/
module

public import proofs.«01_k».proof.Proof.DwSum
public import proofs.«01_k».proof.Proof.Gen.DwDownIdeal.Value
public import proofs.«01_k».proof.Proof.Gen.RefDownIdeal.Run
public import Idealize.ShloMosaic.Lib.Tactic
public import Idealize.ShloMosaic.Lib.Pointwise

@[expose] public section

noncomputable section

namespace Cert.RefDownIdeal.Val

open Cert.RefDownIdeal Cert.RefDownIdeal.Gen Idealize.ShloMosaic Idealize.ShloMosaic.StableHlo

/-- The reference's array, of its two arguments. -/
def array (A : FVec Ideal S4096x2816 .bf16) (B : FVec Ideal S4096x1024 .f32) : Vec Ideal S2816x1024 .f32 :=
  transpose S2816x1024 [1, 0] (Host.dotGeneral (F := Ideal) dot_S4096x1024_S4096x2816_S1024x2816_0_0_1_1_n_n none (B)
    (extf .f32 A bitsLt_bf16_f32)) transposes_S1024x2816_S2816x1024_1_0

end Cert.RefDownIdeal.Val

namespace Cert.DwDownIdeal.Val

open Cert.DwDownIdeal Cert.DwDownIdeal.Gen Cert.DwDownIdeal.Value
open Idealize.ShloMosaic Idealize.ShloMosaic.TcCoe Idealize.SL.Sem

section AnyValues
variable {F : FTy → Type} [FloatOps F]
variable (m : (ℓ : Loc nD τ sig) → Buf (Elt F) ℓ)

theorem hz : (![0, 0] : Fin 2 → Nat) = fun _ => 0 := funext fun a => by fin_cases a <;> rfl

/-- The first block of a run: the total is the block's product added to zero. -/
theorem first_block (c : Dev nD) (t : Fin cfg0.N) (h0 : t.val % 4 = 0) :
    (outsAt0 m c t.val t.isLt).2 = k0_pay2 (F := F) k0_pay1 (iblk m c 0 t) (iblk m c 1 t) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1408x1024) hz, View.readCov_unit_zero (S := S1408x1024) _ hz]
  simp only [View.readAt_eq_ld, (hs0_0 t).read_unread, (hs0_1 t).read_unread, View.ld_unit_zero (S := S1408x1024) hz, View.ld_unit_zero (S := S1024x1408) hz, View.ld_unit_zero (S := S1024x1024) hz]

/-- A block in the middle: its product is added to the total. -/
theorem next_block (c : Dev nD) (t : Fin cfg0.N) (h0 : ¬t.val % 4 = 0) (h1 : ¬t.val % 4 = 3) :
    (outsAt0 m c t.val t.isLt).2 = k0_pay2 (F := F) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  rw [View.canon_unit_zero hz]
  simp only [View.readAt_eq_ld, (hs0_0 t).read_unread, (hs0_1 t).read_unread, View.ld_unit_zero (S := S1408x1024) hz, View.ld_unit_zero (S := S1024x1408) hz, View.ld_unit_zero (S := S1024x1024) hz]
  exact congrArg (fun z => k0_pay2 z _ _) (Memref.IsWhole.read_unread (Memref.isWhole_whole cc0_scratch0) _)

/-- The last block of a run: the total with its product is what goes out. -/
theorem last_block (c : Dev nD) (t : Fin cfg0.N) (h0 : ¬t.val % 4 = 0) (h1 : t.val % 4 = 3) :
    (outsAt0 m c t.val t.isLt).1 = k0_pay2 (F := F) (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero hz]
  simp only [View.readAt_eq_ld, (hs0_0 t).read_unread, (hs0_1 t).read_unread, View.ld_unit_zero (S := S1408x1024) hz, View.ld_unit_zero (S := S1024x1408) hz, View.ld_unit_zero (S := S1024x1024) hz,
    View.readCov_unit_zero (S := S1408x1024) _ hz]
  exact congrArg (fun z => k0_pay2 z _ _) (Memref.IsWhole.read_unread (Memref.isWhole_whole cc0_scratch0) _)

end AnyValues

/-- One block's product over the reals, entry by entry. -/
theorem pay2_apply (acc : Vec Ideal S1408x1024 .f32) (a : Vec Ideal S1024x1408 .bf16) (b : Vec Ideal S1024x1024 .f32) (r : Fin 1408) (s : Fin 1024) :
    k0_pay2 (F := Ideal) acc a b (ix2 r s) = acc (ix2 r s) + ∑ k : Fin 1024, a (ix2 k r) * b (ix2 k s) := by
  unfold k0_pay2
  pointwise

theorem pay1_apply (r : Fin 1408) (s : Fin 1024) : k0_pay1 (F := Ideal) (ix2 r s) = 0 := by
  unfold k0_pay1
  pointwise

variable (m : (ℓ : Loc nD τ sig) → Buf (Elt Ideal) ℓ)

/-- The two arguments, entry by entry. -/
def argA (c : Dev nD) : Vec Ideal S4096x2816 .bf16 := m ((c : Thread nD τ).loc main_arg0)
def argB (c : Dev nD) : Vec Ideal S4096x1024 .f32 := m ((c : Thread nD τ).loc main_arg1)

/-- Where the blocks of point `t` lie. -/
theorem index0 : ∀ t : Fin cfg0.N, win0_0.index t (0 : Fin 2) = t.val % 4 ∧ win0_0.index t (1 : Fin 2) = t.val / 4 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)

theorem blockA (c : Dev nD) (t : Fin cfg0.N) (k : Fin 1024) (r : Fin 1408) (p : Fin 4096) (x : Fin 2816)
    (hp : p.val = 1024 * (t.val % 4) + k.val) (hx : x.val = 1408 * (t.val / 4) + r.val) :
    (iblk m c 0 t : Vec Ideal S1024x1408 .bf16) (ix2 k r) = argA m c (ix2 p x) := by
  unfold iblk
  rw [View.read_apply]
  show V m c main_arg0 _ = _
  unfold V argA
  show m _ _ = m _ _
  congr 1
  funext a
  apply Fin.ext
  match a with
  | ⟨0, _⟩ => show win0_0.index t 0 * 1024 + 1 * k.val = p.val; rw [(index0 t).1, hp]; omega
  | ⟨1, _⟩ => show win0_0.index t 1 * 1408 + 1 * r.val = x.val; rw [(index0 t).2, hx]; omega

theorem blockB (c : Dev nD) (t : Fin cfg0.N) (k : Fin 1024) (s : Fin 1024) (p : Fin 4096)
    (hp : p.val = 1024 * (t.val % 4) + k.val) :
    (iblk m c 1 t : Vec Ideal S1024x1024 .f32) (ix2 k s) = argB m c (ix2 p s) := by
  unfold iblk
  rw [View.read_apply]
  show V m c main_arg1 _ = _
  unfold V argB
  show m _ _ = m _ _
  congr 1
  funext a
  apply Fin.ext
  match a with
  | ⟨0, _⟩ => show win0_1.index t 0 * 1024 + 1 * k.val = p.val; rw [(index1 t).1, hp]; omega
  | ⟨1, _⟩ => show win0_1.index t 1 * 1024 + 1 * s.val = s.val; rw [(index1 t).2]; omega

/-- The product's term of token `k`, at one entry. -/
def term (c : Dev nD) (x : Fin 2816) (y : Fin 1024) (k : ℕ) : EReal :=
  if h : k < 4096 then argA m c (ix2 ⟨k, h⟩ x) * argB m c (ix2 ⟨k, h⟩ y) else 0

/-- One block, entry by entry: what the total held, and the terms of the block's tokens. -/
theorem step (acc : Vec Ideal S1408x1024 .f32) (c : Dev nD) (t : Fin cfg0.N) (j : ℕ) (hj : t.val % 4 = j) (r : Fin 1408) (s : Fin 1024) (x : Fin 2816)
    (hx : x.val = 1408 * (t.val / 4) + r.val) :
    k0_pay2 (F := Ideal) acc (iblk m c 0 t) (iblk m c 1 t) (ix2 r s) = acc (ix2 r s) + ∑ k : Fin 1024, term m c x s (1024 * j + k.val) := by
  refine (pay2_apply acc _ _ r s).trans (congrArg (acc (ix2 r s) + ·) (Finset.sum_congr rfl fun k _ => ?_))
  have hk : 1024 * j + k.val < 4096 := by have := k.isLt; have := Nat.mod_lt t.val (show 4 > 0 by decide); omega
  unfold term
  rw [dif_pos hk]
  rw [blockA m c t k r ⟨_, hk⟩ x (by rw [hj]) hx, blockB m c t k s ⟨_, hk⟩ (by rw [hj])]

/-- What the total holds at the last point of a run, entry by entry: the whole sum. -/
theorem total (c : Dev nD) (q : ℕ) (hq : 4 * q + 3 < cfg0.N) (r : Fin 1408) (s : Fin 1024) (x : Fin 2816) (hx : x.val = 1408 * q + r.val) :
    (outsAt0 m c (4 * q + 3) hq).1 (ix2 r s) = ∑ k : Fin 4096, term m c x s k.val := by
  have e0 := first_block m c ⟨4 * q, by omega⟩ (by show 4 * q % 4 = 0; omega)
  have e1 := next_block m c ⟨4 * q + 1, by omega⟩ (by show ¬(4 * q + 1) % 4 = 0; omega) (by show ¬(4 * q + 1) % 4 = 3; omega)
  have e2 := next_block m c ⟨4 * q + 2, by omega⟩ (by show ¬(4 * q + 2) % 4 = 0; omega) (by show ¬(4 * q + 2) % 4 = 3; omega)
  have e3 := last_block m c ⟨4 * q + 3, hq⟩ (by show ¬(4 * q + 3) % 4 = 0; omega) (by show (4 * q + 3) % 4 = 3; omega)
  simp only [Nat.add_sub_cancel] at e1
  simp only [show 4 * q + 2 - 1 = 4 * q + 1 from by omega] at e2
  simp only [show 4 * q + 3 - 1 = 4 * q + 2 from by omega] at e3
  rw [e3, step m _ c _ 3 (by show (4 * q + 3) % 4 = 3; omega) r s x (by rw [hx]; show _ = 1408 * ((4 * q + 3) / 4) + _; omega),
    e2, step m _ c _ 2 (by show (4 * q + 2) % 4 = 2; omega) r s x (by rw [hx]; show _ = 1408 * ((4 * q + 2) / 4) + _; omega),
    e1, step m _ c _ 1 (by show (4 * q + 1) % 4 = 1; omega) r s x (by rw [hx]; show _ = 1408 * ((4 * q + 1) / 4) + _; omega),
    e0, step m _ c _ 0 (by show 4 * q % 4 = 0; omega) r s x (by rw [hx]; show _ = 1408 * (4 * q / 4) + _; omega), pay1_apply]
  exact Dw.sum_blocks _

/-- The array after the run, entry by entry. -/
theorem result (c : Dev nD) (x : Fin 2816) (y : Fin 1024) : id (α := Vec Ideal S2816x1024 .f32) (G2 m c) (ix2 x y) = ∑ k : Fin 4096, argA m c (ix2 k x) * argB m c (ix2 k y) := by
  have hx : x.val < 2816 := x.isLt
  have hy : y.val < 1024 := y.isLt
  have hp : pt2Of (ix2 x y) = 4 * (x.val / 1408) + 3 := by
    show 4 * (1 * (x.val / 1408 - 0) + 1 * (y.val / 1024 - 0)) + 3 = _
    omega
  have hl : loc2Of (ix2 x y) = ix2 ⟨x.val % 1408, Nat.mod_lt _ (by decide)⟩ y := by
    funext a
    apply Fin.ext
    match a with
    | ⟨0, _⟩ => rfl
    | ⟨1, _⟩ => show y.val % 1024 = y.val; omega
  have hN : 4 * (x.val / 1408) + 3 < cfg0.N := by rw [show cfg0.N = 8 from N_0]; omega
  unfold G2
  rw [id, dif_pos (by rw [hp]; exact hN), hl, fold0_congr m c _ _ (4 * (x.val / 1408) + 3) (by omega) hp, ← outsAt0_sweep m c _ hN,
    total m c _ hN _ _ x (by show x.val = 1408 * (x.val / 1408) + x.val % 1408; omega)]
  exact Finset.sum_congr rfl fun k _ => by unfold term; rw [dif_pos k.isLt]

/-- The reference's array, entry by entry. -/
theorem reference_apply (A : FVec Ideal Cert.RefDownIdeal.S4096x2816 .bf16) (B : FVec Ideal Cert.RefDownIdeal.S4096x1024 .f32) (x : Fin 2816) (y : Fin 1024) :
    Cert.RefDownIdeal.Val.array A B (ix2 x y) = ∑ k : Fin 4096, A (ix2 k x) * B (ix2 k y) := by
  unfold Cert.RefDownIdeal.Val.array
  pointwise
  exact Finset.sum_congr rfl fun k _ => EReal.mul_comm _ _

/-- The reference's array is the kernel's. -/
theorem result_eq (c : Dev nD) : G2 m c = Cert.RefDownIdeal.Val.array (argA m c) (argB m c) := by
  funext i
  obtain ⟨x, y, rfl⟩ : ∃ (x : Fin 2816) (y : Fin 1024), i = ix2 x y := ⟨i 0, i 1, by funext a; match a with | ⟨0, _⟩ => rfl | ⟨1, _⟩ => rfl⟩
  exact (result m c x y).trans (reference_apply (argA m c) (argB m c) x y).symm

end Cert.DwDownIdeal.Val

end
-- ==== Proof.DwOut.lean ====
/-
  The gradient of w_out: a product of the layer's input (transposed) and the gradient of its output, over the 4096 tokens. The
  kernel adds it up over four blocks of 1024 tokens; the reference takes it at once, as the derivative of the product.
-/
module

public import proofs.«01_k».proof.Proof.DwSum
public import proofs.«01_k».proof.Proof.Gen.DwOutIdeal.Value
public import proofs.«01_k».proof.Proof.Gen.RefOutIdeal.Run
public import Idealize.ShloMosaic.Lib.Tactic
public import Idealize.ShloMosaic.Lib.Pointwise

@[expose] public section

noncomputable section

namespace Cert.RefOutIdeal.Val

open Cert.RefOutIdeal Cert.RefOutIdeal.Gen Idealize.ShloMosaic Idealize.ShloMosaic.StableHlo

/-- The reference's array, of its two arguments. -/
def array (A : FVec Ideal S4096x1024 .bf16) (B : FVec Ideal S4096x1024 .f32) : Vec Ideal S1024x1024 .f32 :=
  transpose S1024x1024 [1, 0] (Host.dotGeneral (F := Ideal) dot_S4096x1024_S4096x1024_S1024x1024_0_0_1_1_n_n none (B)
    (extf .f32 A bitsLt_bf16_f32)) transposes_S1024x1024_S1024x1024_1_0

end Cert.RefOutIdeal.Val

namespace Cert.DwOutIdeal.Val

open Cert.DwOutIdeal Cert.DwOutIdeal.Gen Cert.DwOutIdeal.Value
open Idealize.ShloMosaic Idealize.ShloMosaic.TcCoe Idealize.SL.Sem

section AnyValues
variable {F : FTy → Type} [FloatOps F]
variable (m : (ℓ : Loc nD τ sig) → Buf (Elt F) ℓ)

theorem hz : (![0, 0] : Fin 2 → Nat) = fun _ => 0 := funext fun a => by fin_cases a <;> rfl

/-- The first block of a run: the total is the block's product added to zero. -/
theorem first_block (c : Dev nD) (t : Fin cfg0.N) (h0 : t.val % 4 = 0) :
    (outsAt0 m c t.val t.isLt).2 = k0_pay2 (F := F) k0_pay1 (iblk m c 0 t) (iblk m c 1 t) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz]

/-- A block in the middle: its product is added to the total. -/
theorem next_block (c : Dev nD) (t : Fin cfg0.N) (h0 : ¬t.val % 4 = 0) (h1 : ¬t.val % 4 = 3) :
    (outsAt0 m c t.val t.isLt).2 = k0_pay2 (F := F) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  rw [View.canon_unit_zero hz]
  simp only [View.readAt_eq_ld, (hs0_0 t).read_unread, (hs0_1 t).read_unread, View.ld_unit_zero (S := S1024x1024) hz]
  exact congrArg (fun z => k0_pay2 z _ _) (Memref.IsWhole.read_unread (Memref.isWhole_whole cc0_scratch0) _)

/-- The last block of a run: the total with its product is what goes out. -/
theorem last_block (c : Dev nD) (t : Fin cfg0.N) (h0 : ¬t.val % 4 = 0) (h1 : t.val % 4 = 3) :
    (outsAt0 m c t.val t.isLt).1 = k0_pay2 (F := F) (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero hz]
  simp only [View.readAt_eq_ld, (hs0_0 t).read_unread, (hs0_1 t).read_unread, View.ld_unit_zero (S := S1024x1024) hz,
    View.readCov_unit_zero (S := S1024x1024) _ hz]
  exact congrArg (fun z => k0_pay2 z _ _) (Memref.IsWhole.read_unread (Memref.isWhole_whole cc0_scratch0) _)

end AnyValues

/-- One block's product over the reals, entry by entry. -/
theorem pay2_apply (acc : Vec Ideal S1024x1024 .f32) (a : Vec Ideal S1024x1024 .bf16) (b : Vec Ideal S1024x1024 .f32) (r : Fin 1024) (s : Fin 1024) :
    k0_pay2 (F := Ideal) acc a b (ix2 r s) = acc (ix2 r s) + ∑ k : Fin 1024, a (ix2 k r) * b (ix2 k s) := by
  unfold k0_pay2
  pointwise

theorem pay1_apply (r : Fin 1024) (s : Fin 1024) : k0_pay1 (F := Ideal) (ix2 r s) = 0 := by
  unfold k0_pay1
  pointwise

variable (m : (ℓ : Loc nD τ sig) → Buf (Elt Ideal) ℓ)

/-- The two arguments, entry by entry. -/
def argA (c : Dev nD) : Vec Ideal S4096x1024 .bf16 := m ((c : Thread nD τ).loc main_arg0)
def argB (c : Dev nD) : Vec Ideal S4096x1024 .f32 := m ((c : Thread nD τ).loc main_arg1)

/-- Where the blocks of point `t` lie. -/
theorem index0 : ∀ t : Fin cfg0.N, win0_0.index t (0 : Fin 2) = t.val % 4 ∧ win0_0.index t (1 : Fin 2) = t.val / 4 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)

theorem blockA (c : Dev nD) (t : Fin cfg0.N) (k : Fin 1024) (r : Fin 1024) (p : Fin 4096) (x : Fin 1024)
    (hp : p.val = 1024 * (t.val % 4) + k.val) (hx : x.val = 1024 * (t.val / 4) + r.val) :
    (iblk m c 0 t : Vec Ideal S1024x1024 .bf16) (ix2 k r) = argA m c (ix2 p x) := by
  unfold iblk
  rw [View.read_apply]
  show V m c main_arg0 _ = _
  unfold V argA
  show m _ _ = m _ _
  congr 1
  funext a
  apply Fin.ext
  match a with
  | ⟨0, _⟩ => show win0_0.index t 0 * 1024 + 1 * k.val = p.val; rw [(index0 t).1, hp]; omega
  | ⟨1, _⟩ => show win0_0.index t 1 * 1024 + 1 * r.val = x.val; rw [(index0 t).2, hx]; omega

theorem blockB (c : Dev nD) (t : Fin cfg0.N) (k : Fin 1024) (s : Fin 1024) (p : Fin 4096)
    (hp : p.val = 1024 * (t.val % 4) + k.val) :
    (iblk m c 1 t : Vec Ideal S1024x1024 .f32) (ix2 k s) = argB m c (ix2 p s) := by
  unfold iblk
  rw [View.read_apply]
  show V m c main_arg1 _ = _
  unfold V argB
  show m _ _ = m _ _
  congr 1
  funext a
  apply Fin.ext
  match a with
  | ⟨0, _⟩ => show win0_1.index t 0 * 1024 + 1 * k.val = p.val; rw [(index1 t).1, hp]; omega
  | ⟨1, _⟩ => show win0_1.index t 1 * 1024 + 1 * s.val = s.val; rw [(index1 t).2]; omega

/-- The product's term of token `k`, at one entry. -/
def term (c : Dev nD) (x : Fin 1024) (y : Fin 1024) (k : ℕ) : EReal :=
  if h : k < 4096 then argA m c (ix2 ⟨k, h⟩ x) * argB m c (ix2 ⟨k, h⟩ y) else 0

/-- One block, entry by entry: what the total held, and the terms of the block's tokens. -/
theorem step (acc : Vec Ideal S1024x1024 .f32) (c : Dev nD) (t : Fin cfg0.N) (j : ℕ) (hj : t.val % 4 = j) (r : Fin 1024) (s : Fin 1024) (x : Fin 1024)
    (hx : x.val = 1024 * (t.val / 4) + r.val) :
    k0_pay2 (F := Ideal) acc (iblk m c 0 t) (iblk m c 1 t) (ix2 r s) = acc (ix2 r s) + ∑ k : Fin 1024, term m c x s (1024 * j + k.val) := by
  refine (pay2_apply acc _ _ r s).trans (congrArg (acc (ix2 r s) + ·) (Finset.sum_congr rfl fun k _ => ?_))
  have hk : 1024 * j + k.val < 4096 := by have := k.isLt; have := Nat.mod_lt t.val (show 4 > 0 by decide); omega
  unfold term
  rw [dif_pos hk]
  rw [blockA m c t k r ⟨_, hk⟩ x (by rw [hj]) hx, blockB m c t k s ⟨_, hk⟩ (by rw [hj])]

/-- What the total holds at the last point of a run, entry by entry: the whole sum. -/
theorem total (c : Dev nD) (q : ℕ) (hq : 4 * q + 3 < cfg0.N) (r : Fin 1024) (s : Fin 1024) (x : Fin 1024) (hx : x.val = 1024 * q + r.val) :
    (outsAt0 m c (4 * q + 3) hq).1 (ix2 r s) = ∑ k : Fin 4096, term m c x s k.val := by
  have e0 := first_block m c ⟨4 * q, by omega⟩ (by show 4 * q % 4 = 0; omega)
  have e1 := next_block m c ⟨4 * q + 1, by omega⟩ (by show ¬(4 * q + 1) % 4 = 0; omega) (by show ¬(4 * q + 1) % 4 = 3; omega)
  have e2 := next_block m c ⟨4 * q + 2, by omega⟩ (by show ¬(4 * q + 2) % 4 = 0; omega) (by show ¬(4 * q + 2) % 4 = 3; omega)
  have e3 := last_block m c ⟨4 * q + 3, hq⟩ (by show ¬(4 * q + 3) % 4 = 0; omega) (by show (4 * q + 3) % 4 = 3; omega)
  simp only [Nat.add_sub_cancel] at e1
  simp only [show 4 * q + 2 - 1 = 4 * q + 1 from by omega] at e2
  simp only [show 4 * q + 3 - 1 = 4 * q + 2 from by omega] at e3
  rw [e3, step m _ c _ 3 (by show (4 * q + 3) % 4 = 3; omega) r s x (by rw [hx]; show _ = 1024 * ((4 * q + 3) / 4) + _; omega),
    e2, step m _ c _ 2 (by show (4 * q + 2) % 4 = 2; omega) r s x (by rw [hx]; show _ = 1024 * ((4 * q + 2) / 4) + _; omega),
    e1, step m _ c _ 1 (by show (4 * q + 1) % 4 = 1; omega) r s x (by rw [hx]; show _ = 1024 * ((4 * q + 1) / 4) + _; omega),
    e0, step m _ c _ 0 (by show 4 * q % 4 = 0; omega) r s x (by rw [hx]; show _ = 1024 * (4 * q / 4) + _; omega), pay1_apply]
  exact Dw.sum_blocks _

/-- The array after the run, entry by entry. -/
theorem result (c : Dev nD) (x : Fin 1024) (y : Fin 1024) : id (α := Vec Ideal S1024x1024 .f32) (G2 m c) (ix2 x y) = ∑ k : Fin 4096, argA m c (ix2 k x) * argB m c (ix2 k y) := by
  have hx : x.val < 1024 := x.isLt
  have hy : y.val < 1024 := y.isLt
  have hp : pt2Of (ix2 x y) = 4 * (x.val / 1024) + 3 := by
    show 4 * (1 * (x.val / 1024 - 0) + 1 * (y.val / 1024 - 0)) + 3 = _
    omega
  have hl : loc2Of (ix2 x y) = ix2 ⟨x.val % 1024, Nat.mod_lt _ (by decide)⟩ y := by
    funext a
    apply Fin.ext
    match a with
    | ⟨0, _⟩ => rfl
    | ⟨1, _⟩ => show y.val % 1024 = y.val; omega
  have hN : 4 * (x.val / 1024) + 3 < cfg0.N := by rw [show cfg0.N = 4 from N_0]; omega
  unfold G2
  rw [id, dif_pos (by rw [hp]; exact hN), hl, fold0_congr m c _ _ (4 * (x.val / 1024) + 3) (by omega) hp, ← outsAt0_sweep m c _ hN,
    total m c _ hN _ _ x (by show x.val = 1024 * (x.val / 1024) + x.val % 1024; omega)]
  exact Finset.sum_congr rfl fun k _ => by unfold term; rw [dif_pos k.isLt]

/-- The reference's array, entry by entry. -/
theorem reference_apply (A : FVec Ideal Cert.RefOutIdeal.S4096x1024 .bf16) (B : FVec Ideal Cert.RefOutIdeal.S4096x1024 .f32) (x : Fin 1024) (y : Fin 1024) :
    Cert.RefOutIdeal.Val.array A B (ix2 x y) = ∑ k : Fin 4096, A (ix2 k x) * B (ix2 k y) := by
  unfold Cert.RefOutIdeal.Val.array
  pointwise
  exact Finset.sum_congr rfl fun k _ => EReal.mul_comm _ _

/-- The reference's array is the kernel's. -/
theorem result_eq (c : Dev nD) : G2 m c = Cert.RefOutIdeal.Val.array (argA m c) (argB m c) := by
  funext i
  obtain ⟨x, y, rfl⟩ : ∃ (x : Fin 1024) (y : Fin 1024), i = ix2 x y := ⟨i 0, i 1, by funext a; match a with | ⟨0, _⟩ => rfl | ⟨1, _⟩ => rfl⟩
  exact (result m c x y).trans (reference_apply (argA m c) (argB m c) x y).symm

end Cert.DwOutIdeal.Val

end
-- ==== Proof.DwMq.lean ====
/-
  The gradient of w_mq: a product of the layer's input (transposed) and the gradient of its output, over the 4096 tokens. The
  kernel adds it up over four blocks of 1024 tokens; the reference takes it at once, as the derivative of the product.
-/
module

public import proofs.«01_k».proof.Proof.DwSum
public import proofs.«01_k».proof.Proof.Gen.DwMqIdeal.Value
public import proofs.«01_k».proof.Proof.Gen.RefMqIdeal.Run
public import Idealize.ShloMosaic.Lib.Tactic
public import Idealize.ShloMosaic.Lib.Pointwise

@[expose] public section

noncomputable section

namespace Cert.RefMqIdeal.Val

open Cert.RefMqIdeal Cert.RefMqIdeal.Gen Idealize.ShloMosaic Idealize.ShloMosaic.StableHlo

/-- The reference's array, of its two arguments. -/
def array (A : FVec Ideal S4096x1024 .bf16) (B : FVec Ideal S4096x1024 .bf16) : Vec Ideal S1024x1024 .f32 :=
  transpose S1024x1024 [1, 0] (Host.dotGeneral (F := Ideal) dot_S4096x1024_S4096x1024_S1024x1024_0_0_1_1_n_n none (extf .f32 B bitsLt_bf16_f32)
    (extf .f32 A bitsLt_bf16_f32)) transposes_S1024x1024_S1024x1024_1_0

end Cert.RefMqIdeal.Val

namespace Cert.DwMqIdeal.Val

open Cert.DwMqIdeal Cert.DwMqIdeal.Gen Cert.DwMqIdeal.Value
open Idealize.ShloMosaic Idealize.ShloMosaic.TcCoe Idealize.SL.Sem

section AnyValues
variable {F : FTy → Type} [FloatOps F]
variable (m : (ℓ : Loc nD τ sig) → Buf (Elt F) ℓ)

theorem hz : (![0, 0] : Fin 2 → Nat) = fun _ => 0 := funext fun a => by fin_cases a <;> rfl

/-- The first block of a run: the total is the block's product added to zero. -/
theorem first_block (c : Dev nD) (t : Fin cfg0.N) (h0 : t.val % 4 = 0) :
    (outsAt0 m c t.val t.isLt).2 = k0_pay2 (F := F) k0_pay1 (iblk m c 0 t) (iblk m c 1 t) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz]

/-- A block in the middle: its product is added to the total. -/
theorem next_block (c : Dev nD) (t : Fin cfg0.N) (h0 : ¬t.val % 4 = 0) (h1 : ¬t.val % 4 = 3) :
    (outsAt0 m c t.val t.isLt).2 = k0_pay2 (F := F) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  rw [View.canon_unit_zero hz]
  simp only [View.readAt_eq_ld, (hs0_0 t).read_unread, (hs0_1 t).read_unread, View.ld_unit_zero (S := S1024x1024) hz]
  exact congrArg (fun z => k0_pay2 z _ _) (Memref.IsWhole.read_unread (Memref.isWhole_whole cc0_scratch0) _)

/-- The last block of a run: the total with its product is what goes out. -/
theorem last_block (c : Dev nD) (t : Fin cfg0.N) (h0 : ¬t.val % 4 = 0) (h1 : t.val % 4 = 3) :
    (outsAt0 m c t.val t.isLt).1 = k0_pay2 (F := F) (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero hz]
  simp only [View.readAt_eq_ld, (hs0_0 t).read_unread, (hs0_1 t).read_unread, View.ld_unit_zero (S := S1024x1024) hz,
    View.readCov_unit_zero (S := S1024x1024) _ hz]
  exact congrArg (fun z => k0_pay2 z _ _) (Memref.IsWhole.read_unread (Memref.isWhole_whole cc0_scratch0) _)

end AnyValues

/-- One block's product over the reals, entry by entry. -/
theorem pay2_apply (acc : Vec Ideal S1024x1024 .f32) (a : Vec Ideal S1024x1024 .bf16) (b : Vec Ideal S1024x1024 .bf16) (r : Fin 1024) (s : Fin 1024) :
    k0_pay2 (F := Ideal) acc a b (ix2 r s) = acc (ix2 r s) + ∑ k : Fin 1024, a (ix2 k r) * b (ix2 k s) := by
  unfold k0_pay2
  pointwise

theorem pay1_apply (r : Fin 1024) (s : Fin 1024) : k0_pay1 (F := Ideal) (ix2 r s) = 0 := by
  unfold k0_pay1
  pointwise

variable (m : (ℓ : Loc nD τ sig) → Buf (Elt Ideal) ℓ)

/-- The two arguments, entry by entry. -/
def argA (c : Dev nD) : Vec Ideal S4096x1024 .bf16 := m ((c : Thread nD τ).loc main_arg0)
def argB (c : Dev nD) : Vec Ideal S4096x1024 .bf16 := m ((c : Thread nD τ).loc main_arg1)

/-- Where the blocks of point `t` lie. -/
theorem index0 : ∀ t : Fin cfg0.N, win0_0.index t (0 : Fin 2) = t.val % 4 ∧ win0_0.index t (1 : Fin 2) = t.val / 4 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)

theorem blockA (c : Dev nD) (t : Fin cfg0.N) (k : Fin 1024) (r : Fin 1024) (p : Fin 4096) (x : Fin 1024)
    (hp : p.val = 1024 * (t.val % 4) + k.val) (hx : x.val = 1024 * (t.val / 4) + r.val) :
    (iblk m c 0 t : Vec Ideal S1024x1024 .bf16) (ix2 k r) = argA m c (ix2 p x) := by
  unfold iblk
  rw [View.read_apply]
  show V m c main_arg0 _ = _
  unfold V argA
  show m _ _ = m _ _
  congr 1
  funext a
  apply Fin.ext
  match a with
  | ⟨0, _⟩ => show win0_0.index t 0 * 1024 + 1 * k.val = p.val; rw [(index0 t).1, hp]; omega
  | ⟨1, _⟩ => show win0_0.index t 1 * 1024 + 1 * r.val = x.val; rw [(index0 t).2, hx]; omega

theorem blockB (c : Dev nD) (t : Fin cfg0.N) (k : Fin 1024) (s : Fin 1024) (p : Fin 4096)
    (hp : p.val = 1024 * (t.val % 4) + k.val) :
    (iblk m c 1 t : Vec Ideal S1024x1024 .bf16) (ix2 k s) = argB m c (ix2 p s) := by
  unfold iblk
  rw [View.read_apply]
  show V m c main_arg1 _ = _
  unfold V argB
  show m _ _ = m _ _
  congr 1
  funext a
  apply Fin.ext
  match a with
  | ⟨0, _⟩ => show win0_1.index t 0 * 1024 + 1 * k.val = p.val; rw [(index1 t).1, hp]; omega
  | ⟨1, _⟩ => show win0_1.index t 1 * 1024 + 1 * s.val = s.val; rw [(index1 t).2]; omega

/-- The product's term of token `k`, at one entry. -/
def term (c : Dev nD) (x : Fin 1024) (y : Fin 1024) (k : ℕ) : EReal :=
  if h : k < 4096 then argA m c (ix2 ⟨k, h⟩ x) * argB m c (ix2 ⟨k, h⟩ y) else 0

/-- One block, entry by entry: what the total held, and the terms of the block's tokens. -/
theorem step (acc : Vec Ideal S1024x1024 .f32) (c : Dev nD) (t : Fin cfg0.N) (j : ℕ) (hj : t.val % 4 = j) (r : Fin 1024) (s : Fin 1024) (x : Fin 1024)
    (hx : x.val = 1024 * (t.val / 4) + r.val) :
    k0_pay2 (F := Ideal) acc (iblk m c 0 t) (iblk m c 1 t) (ix2 r s) = acc (ix2 r s) + ∑ k : Fin 1024, term m c x s (1024 * j + k.val) := by
  refine (pay2_apply acc _ _ r s).trans (congrArg (acc (ix2 r s) + ·) (Finset.sum_congr rfl fun k _ => ?_))
  have hk : 1024 * j + k.val < 4096 := by have := k.isLt; have := Nat.mod_lt t.val (show 4 > 0 by decide); omega
  unfold term
  rw [dif_pos hk]
  rw [blockA m c t k r ⟨_, hk⟩ x (by rw [hj]) hx, blockB m c t k s ⟨_, hk⟩ (by rw [hj])]

/-- What the total holds at the last point of a run, entry by entry: the whole sum. -/
theorem total (c : Dev nD) (q : ℕ) (hq : 4 * q + 3 < cfg0.N) (r : Fin 1024) (s : Fin 1024) (x : Fin 1024) (hx : x.val = 1024 * q + r.val) :
    (outsAt0 m c (4 * q + 3) hq).1 (ix2 r s) = ∑ k : Fin 4096, term m c x s k.val := by
  have e0 := first_block m c ⟨4 * q, by omega⟩ (by show 4 * q % 4 = 0; omega)
  have e1 := next_block m c ⟨4 * q + 1, by omega⟩ (by show ¬(4 * q + 1) % 4 = 0; omega) (by show ¬(4 * q + 1) % 4 = 3; omega)
  have e2 := next_block m c ⟨4 * q + 2, by omega⟩ (by show ¬(4 * q + 2) % 4 = 0; omega) (by show ¬(4 * q + 2) % 4 = 3; omega)
  have e3 := last_block m c ⟨4 * q + 3, hq⟩ (by show ¬(4 * q + 3) % 4 = 0; omega) (by show (4 * q + 3) % 4 = 3; omega)
  simp only [Nat.add_sub_cancel] at e1
  simp only [show 4 * q + 2 - 1 = 4 * q + 1 from by omega] at e2
  simp only [show 4 * q + 3 - 1 = 4 * q + 2 from by omega] at e3
  rw [e3, step m _ c _ 3 (by show (4 * q + 3) % 4 = 3; omega) r s x (by rw [hx]; show _ = 1024 * ((4 * q + 3) / 4) + _; omega),
    e2, step m _ c _ 2 (by show (4 * q + 2) % 4 = 2; omega) r s x (by rw [hx]; show _ = 1024 * ((4 * q + 2) / 4) + _; omega),
    e1, step m _ c _ 1 (by show (4 * q + 1) % 4 = 1; omega) r s x (by rw [hx]; show _ = 1024 * ((4 * q + 1) / 4) + _; omega),
    e0, step m _ c _ 0 (by show 4 * q % 4 = 0; omega) r s x (by rw [hx]; show _ = 1024 * (4 * q / 4) + _; omega), pay1_apply]
  exact Dw.sum_blocks _

/-- The array after the run, entry by entry. -/
theorem result (c : Dev nD) (x : Fin 1024) (y : Fin 1024) : id (α := Vec Ideal S1024x1024 .f32) (G2 m c) (ix2 x y) = ∑ k : Fin 4096, argA m c (ix2 k x) * argB m c (ix2 k y) := by
  have hx : x.val < 1024 := x.isLt
  have hy : y.val < 1024 := y.isLt
  have hp : pt2Of (ix2 x y) = 4 * (x.val / 1024) + 3 := by
    show 4 * (1 * (x.val / 1024 - 0) + 1 * (y.val / 1024 - 0)) + 3 = _
    omega
  have hl : loc2Of (ix2 x y) = ix2 ⟨x.val % 1024, Nat.mod_lt _ (by decide)⟩ y := by
    funext a
    apply Fin.ext
    match a with
    | ⟨0, _⟩ => rfl
    | ⟨1, _⟩ => show y.val % 1024 = y.val; omega
  have hN : 4 * (x.val / 1024) + 3 < cfg0.N := by rw [show cfg0.N = 4 from N_0]; omega
  unfold G2
  rw [id, dif_pos (by rw [hp]; exact hN), hl, fold0_congr m c _ _ (4 * (x.val / 1024) + 3) (by omega) hp, ← outsAt0_sweep m c _ hN,
    total m c _ hN _ _ x (by show x.val = 1024 * (x.val / 1024) + x.val % 1024; omega)]
  exact Finset.sum_congr rfl fun k _ => by unfold term; rw [dif_pos k.isLt]

/-- The reference's array, entry by entry. -/
theorem reference_apply (A : FVec Ideal Cert.RefMqIdeal.S4096x1024 .bf16) (B : FVec Ideal Cert.RefMqIdeal.S4096x1024 .bf16) (x : Fin 1024) (y : Fin 1024) :
    Cert.RefMqIdeal.Val.array A B (ix2 x y) = ∑ k : Fin 4096, A (ix2 k x) * B (ix2 k y) := by
  unfold Cert.RefMqIdeal.Val.array
  pointwise
  exact Finset.sum_congr rfl fun k _ => EReal.mul_comm _ _

/-- The reference's array is the kernel's. -/
theorem result_eq (c : Dev nD) : G2 m c = Cert.RefMqIdeal.Val.array (argA m c) (argB m c) := by
  funext i
  obtain ⟨x, y, rfl⟩ : ∃ (x : Fin 1024) (y : Fin 1024), i = ix2 x y := ⟨i 0, i 1, by funext a; match a with | ⟨0, _⟩ => rfl | ⟨1, _⟩ => rfl⟩
  exact (result m c x y).trans (reference_apply (argA m c) (argB m c) x y).symm

end Cert.DwMqIdeal.Val

end
-- ==== Proof.DwMo.lean ====
/-
  The gradient of w_mo: a product of the layer's input (transposed) and the gradient of its output, over the 4096 tokens. The
  kernel adds it up over four blocks of 1024 tokens; the reference takes it at once, as the derivative of the product.
-/
module

public import proofs.«01_k».proof.Proof.DwSum
public import proofs.«01_k».proof.Proof.Gen.DwMoIdeal.Value
public import proofs.«01_k».proof.Proof.Gen.RefMoIdeal.Run
public import Idealize.ShloMosaic.Lib.Tactic
public import Idealize.ShloMosaic.Lib.Pointwise

@[expose] public section

noncomputable section

namespace Cert.RefMoIdeal.Val

open Cert.RefMoIdeal Cert.RefMoIdeal.Gen Idealize.ShloMosaic Idealize.ShloMosaic.StableHlo

/-- The reference's array, of its two arguments. -/
def array (A : FVec Ideal S4096x1024 .bf16) (B : FVec Ideal S4096x1024 .f32) : Vec Ideal S1024x1024 .f32 :=
  transpose S1024x1024 [1, 0] (Host.dotGeneral (F := Ideal) dot_S4096x1024_S4096x1024_S1024x1024_0_0_1_1_n_n none (B)
    (extf .f32 A bitsLt_bf16_f32)) transposes_S1024x1024_S1024x1024_1_0

end Cert.RefMoIdeal.Val

namespace Cert.DwMoIdeal.Val

open Cert.DwMoIdeal Cert.DwMoIdeal.Gen Cert.DwMoIdeal.Value
open Idealize.ShloMosaic Idealize.ShloMosaic.TcCoe Idealize.SL.Sem

section AnyValues
variable {F : FTy → Type} [FloatOps F]
variable (m : (ℓ : Loc nD τ sig) → Buf (Elt F) ℓ)

theorem hz : (![0, 0] : Fin 2 → Nat) = fun _ => 0 := funext fun a => by fin_cases a <;> rfl

/-- The first block of a run: the total is the block's product added to zero. -/
theorem first_block (c : Dev nD) (t : Fin cfg0.N) (h0 : t.val % 4 = 0) :
    (outsAt0 m c t.val t.isLt).2 = k0_pay2 (F := F) k0_pay1 (iblk m c 0 t) (iblk m c 1 t) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x1024) hz]

/-- A block in the middle: its product is added to the total. -/
theorem next_block (c : Dev nD) (t : Fin cfg0.N) (h0 : ¬t.val % 4 = 0) (h1 : ¬t.val % 4 = 3) :
    (outsAt0 m c t.val t.isLt).2 = k0_pay2 (F := F) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  rw [View.canon_unit_zero hz]
  simp only [View.readAt_eq_ld, (hs0_0 t).read_unread, (hs0_1 t).read_unread, View.ld_unit_zero (S := S1024x1024) hz]
  exact congrArg (fun z => k0_pay2 z _ _) (Memref.IsWhole.read_unread (Memref.isWhole_whole cc0_scratch0) _)

/-- The last block of a run: the total with its product is what goes out. -/
theorem last_block (c : Dev nD) (t : Fin cfg0.N) (h0 : ¬t.val % 4 = 0) (h1 : t.val % 4 = 3) :
    (outsAt0 m c t.val t.isLt).1 = k0_pay2 (F := F) (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero hz]
  simp only [View.readAt_eq_ld, (hs0_0 t).read_unread, (hs0_1 t).read_unread, View.ld_unit_zero (S := S1024x1024) hz,
    View.readCov_unit_zero (S := S1024x1024) _ hz]
  exact congrArg (fun z => k0_pay2 z _ _) (Memref.IsWhole.read_unread (Memref.isWhole_whole cc0_scratch0) _)

end AnyValues

/-- One block's product over the reals, entry by entry. -/
theorem pay2_apply (acc : Vec Ideal S1024x1024 .f32) (a : Vec Ideal S1024x1024 .bf16) (b : Vec Ideal S1024x1024 .f32) (r : Fin 1024) (s : Fin 1024) :
    k0_pay2 (F := Ideal) acc a b (ix2 r s) = acc (ix2 r s) + ∑ k : Fin 1024, a (ix2 k r) * b (ix2 k s) := by
  unfold k0_pay2
  pointwise

theorem pay1_apply (r : Fin 1024) (s : Fin 1024) : k0_pay1 (F := Ideal) (ix2 r s) = 0 := by
  unfold k0_pay1
  pointwise

variable (m : (ℓ : Loc nD τ sig) → Buf (Elt Ideal) ℓ)

/-- The two arguments, entry by entry. -/
def argA (c : Dev nD) : Vec Ideal S4096x1024 .bf16 := m ((c : Thread nD τ).loc main_arg0)
def argB (c : Dev nD) : Vec Ideal S4096x1024 .f32 := m ((c : Thread nD τ).loc main_arg1)

/-- Where the blocks of point `t` lie. -/
theorem index0 : ∀ t : Fin cfg0.N, win0_0.index t (0 : Fin 2) = t.val % 4 ∧ win0_0.index t (1 : Fin 2) = t.val / 4 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)

theorem blockA (c : Dev nD) (t : Fin cfg0.N) (k : Fin 1024) (r : Fin 1024) (p : Fin 4096) (x : Fin 1024)
    (hp : p.val = 1024 * (t.val % 4) + k.val) (hx : x.val = 1024 * (t.val / 4) + r.val) :
    (iblk m c 0 t : Vec Ideal S1024x1024 .bf16) (ix2 k r) = argA m c (ix2 p x) := by
  unfold iblk
  rw [View.read_apply]
  show V m c main_arg0 _ = _
  unfold V argA
  show m _ _ = m _ _
  congr 1
  funext a
  apply Fin.ext
  match a with
  | ⟨0, _⟩ => show win0_0.index t 0 * 1024 + 1 * k.val = p.val; rw [(index0 t).1, hp]; omega
  | ⟨1, _⟩ => show win0_0.index t 1 * 1024 + 1 * r.val = x.val; rw [(index0 t).2, hx]; omega

theorem blockB (c : Dev nD) (t : Fin cfg0.N) (k : Fin 1024) (s : Fin 1024) (p : Fin 4096)
    (hp : p.val = 1024 * (t.val % 4) + k.val) :
    (iblk m c 1 t : Vec Ideal S1024x1024 .f32) (ix2 k s) = argB m c (ix2 p s) := by
  unfold iblk
  rw [View.read_apply]
  show V m c main_arg1 _ = _
  unfold V argB
  show m _ _ = m _ _
  congr 1
  funext a
  apply Fin.ext
  match a with
  | ⟨0, _⟩ => show win0_1.index t 0 * 1024 + 1 * k.val = p.val; rw [(index1 t).1, hp]; omega
  | ⟨1, _⟩ => show win0_1.index t 1 * 1024 + 1 * s.val = s.val; rw [(index1 t).2]; omega

/-- The product's term of token `k`, at one entry. -/
def term (c : Dev nD) (x : Fin 1024) (y : Fin 1024) (k : ℕ) : EReal :=
  if h : k < 4096 then argA m c (ix2 ⟨k, h⟩ x) * argB m c (ix2 ⟨k, h⟩ y) else 0

/-- One block, entry by entry: what the total held, and the terms of the block's tokens. -/
theorem step (acc : Vec Ideal S1024x1024 .f32) (c : Dev nD) (t : Fin cfg0.N) (j : ℕ) (hj : t.val % 4 = j) (r : Fin 1024) (s : Fin 1024) (x : Fin 1024)
    (hx : x.val = 1024 * (t.val / 4) + r.val) :
    k0_pay2 (F := Ideal) acc (iblk m c 0 t) (iblk m c 1 t) (ix2 r s) = acc (ix2 r s) + ∑ k : Fin 1024, term m c x s (1024 * j + k.val) := by
  refine (pay2_apply acc _ _ r s).trans (congrArg (acc (ix2 r s) + ·) (Finset.sum_congr rfl fun k _ => ?_))
  have hk : 1024 * j + k.val < 4096 := by have := k.isLt; have := Nat.mod_lt t.val (show 4 > 0 by decide); omega
  unfold term
  rw [dif_pos hk]
  rw [blockA m c t k r ⟨_, hk⟩ x (by rw [hj]) hx, blockB m c t k s ⟨_, hk⟩ (by rw [hj])]

/-- What the total holds at the last point of a run, entry by entry: the whole sum. -/
theorem total (c : Dev nD) (q : ℕ) (hq : 4 * q + 3 < cfg0.N) (r : Fin 1024) (s : Fin 1024) (x : Fin 1024) (hx : x.val = 1024 * q + r.val) :
    (outsAt0 m c (4 * q + 3) hq).1 (ix2 r s) = ∑ k : Fin 4096, term m c x s k.val := by
  have e0 := first_block m c ⟨4 * q, by omega⟩ (by show 4 * q % 4 = 0; omega)
  have e1 := next_block m c ⟨4 * q + 1, by omega⟩ (by show ¬(4 * q + 1) % 4 = 0; omega) (by show ¬(4 * q + 1) % 4 = 3; omega)
  have e2 := next_block m c ⟨4 * q + 2, by omega⟩ (by show ¬(4 * q + 2) % 4 = 0; omega) (by show ¬(4 * q + 2) % 4 = 3; omega)
  have e3 := last_block m c ⟨4 * q + 3, hq⟩ (by show ¬(4 * q + 3) % 4 = 0; omega) (by show (4 * q + 3) % 4 = 3; omega)
  simp only [Nat.add_sub_cancel] at e1
  simp only [show 4 * q + 2 - 1 = 4 * q + 1 from by omega] at e2
  simp only [show 4 * q + 3 - 1 = 4 * q + 2 from by omega] at e3
  rw [e3, step m _ c _ 3 (by show (4 * q + 3) % 4 = 3; omega) r s x (by rw [hx]; show _ = 1024 * ((4 * q + 3) / 4) + _; omega),
    e2, step m _ c _ 2 (by show (4 * q + 2) % 4 = 2; omega) r s x (by rw [hx]; show _ = 1024 * ((4 * q + 2) / 4) + _; omega),
    e1, step m _ c _ 1 (by show (4 * q + 1) % 4 = 1; omega) r s x (by rw [hx]; show _ = 1024 * ((4 * q + 1) / 4) + _; omega),
    e0, step m _ c _ 0 (by show 4 * q % 4 = 0; omega) r s x (by rw [hx]; show _ = 1024 * (4 * q / 4) + _; omega), pay1_apply]
  exact Dw.sum_blocks _

/-- The array after the run, entry by entry. -/
theorem result (c : Dev nD) (x : Fin 1024) (y : Fin 1024) : id (α := Vec Ideal S1024x1024 .f32) (G2 m c) (ix2 x y) = ∑ k : Fin 4096, argA m c (ix2 k x) * argB m c (ix2 k y) := by
  have hx : x.val < 1024 := x.isLt
  have hy : y.val < 1024 := y.isLt
  have hp : pt2Of (ix2 x y) = 4 * (x.val / 1024) + 3 := by
    show 4 * (1 * (x.val / 1024 - 0) + 1 * (y.val / 1024 - 0)) + 3 = _
    omega
  have hl : loc2Of (ix2 x y) = ix2 ⟨x.val % 1024, Nat.mod_lt _ (by decide)⟩ y := by
    funext a
    apply Fin.ext
    match a with
    | ⟨0, _⟩ => rfl
    | ⟨1, _⟩ => show y.val % 1024 = y.val; omega
  have hN : 4 * (x.val / 1024) + 3 < cfg0.N := by rw [show cfg0.N = 4 from N_0]; omega
  unfold G2
  rw [id, dif_pos (by rw [hp]; exact hN), hl, fold0_congr m c _ _ (4 * (x.val / 1024) + 3) (by omega) hp, ← outsAt0_sweep m c _ hN,
    total m c _ hN _ _ x (by show x.val = 1024 * (x.val / 1024) + x.val % 1024; omega)]
  exact Finset.sum_congr rfl fun k _ => by unfold term; rw [dif_pos k.isLt]

/-- The reference's array, entry by entry. -/
theorem reference_apply (A : FVec Ideal Cert.RefMoIdeal.S4096x1024 .bf16) (B : FVec Ideal Cert.RefMoIdeal.S4096x1024 .f32) (x : Fin 1024) (y : Fin 1024) :
    Cert.RefMoIdeal.Val.array A B (ix2 x y) = ∑ k : Fin 4096, A (ix2 k x) * B (ix2 k y) := by
  unfold Cert.RefMoIdeal.Val.array
  pointwise
  exact Finset.sum_congr rfl fun k _ => EReal.mul_comm _ _

/-- The reference's array is the kernel's. -/
theorem result_eq (c : Dev nD) : G2 m c = Cert.RefMoIdeal.Val.array (argA m c) (argB m c) := by
  funext i
  obtain ⟨x, y, rfl⟩ : ∃ (x : Fin 1024) (y : Fin 1024), i = ix2 x y := ⟨i 0, i 1, by funext a; match a with | ⟨0, _⟩ => rfl | ⟨1, _⟩ => rfl⟩
  exact (result m c x y).trans (reference_apply (argA m c) (argB m c) x y).symm

end Cert.DwMoIdeal.Val

end
-- ==== Proof.DwIn.lean ====
/-
  The gradient of w_in: a product of the layer's input (transposed) and the gradient of its output, over the 4096 tokens. The
  kernel adds it up over four blocks of 1024 tokens; the reference takes it at once, as the derivative of the product.
-/
module

public import proofs.«01_k».proof.Proof.DwSum
public import proofs.«01_k».proof.Proof.Gen.DwInIdeal.Value
public import proofs.«01_k».proof.Proof.Gen.RefInIdeal.Run
public import Idealize.ShloMosaic.Lib.Tactic
public import Idealize.ShloMosaic.Lib.Pointwise

@[expose] public section

noncomputable section

namespace Cert.RefInIdeal.Val

open Cert.RefInIdeal Cert.RefInIdeal.Gen Idealize.ShloMosaic Idealize.ShloMosaic.StableHlo

/-- The reference's array, of its two arguments. -/
def array (A : FVec Ideal S4096x2688 .bf16) (B : FVec Ideal S4096x1024 .bf16) : Vec Ideal S2568x1024 .f32 :=
  extractStridedSlice S2568x1024 ![0, 0] (transpose S2688x1024 [1, 0] (transpose S1024x2688 [1, 0] (Host.dotGeneral (F := Ideal) dot_S4096x2688_S4096x1024_S2688x1024_0_0_1_1_n_n none
    (extf .f32 A bitsLt_bf16_f32) (extf .f32 B bitsLt_bf16_f32)) transposes_S2688x1024_S1024x2688_1_0) transposes_S1024x2688_S2688x1024_1_0) slices_S2688x1024_S2568x1024_0_0

end Cert.RefInIdeal.Val

namespace Cert.DwInIdeal.Val

open Cert.DwInIdeal Cert.DwInIdeal.Gen Cert.DwInIdeal.Value
open Idealize.ShloMosaic Idealize.ShloMosaic.TcCoe Idealize.SL.Sem

section AnyValues
variable {F : FTy → Type} [FloatOps F]
variable (m : (ℓ : Loc nD τ sig) → Buf (Elt F) ℓ)

theorem hz : (![0, 0] : Fin 2 → Nat) = fun _ => 0 := funext fun a => by fin_cases a <;> rfl

/-- The first block of a run: the total is the block's product added to zero. -/
theorem first_block (c : Dev nD) (t : Fin cfg0.N) (h0 : t.val % 4 = 0) :
    (outsAt0 m c t.val t.isLt).2 = k0_pay2 (F := F) k0_pay1 (iblk m c 0 t) (iblk m c 1 t) := by
  have h1 : ¬t.val % 4 = 3 := by omega
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  rw [View.canon_cons_unit_zero (S := S896x1024) hz, View.readCov_unit_zero (S := S896x1024) _ hz]
  simp only [View.readAt_eq_ld, (hs0_0 t).read_unread, (hs0_1 t).read_unread, View.ld_unit_zero (S := S896x1024) hz, View.ld_unit_zero (S := S1024x896) hz, View.ld_unit_zero (S := S1024x1024) hz]

/-- A block in the middle: its product is added to the total. -/
theorem next_block (c : Dev nD) (t : Fin cfg0.N) (h0 : ¬t.val % 4 = 0) (h1 : ¬t.val % 4 = 3) :
    (outsAt0 m c t.val t.isLt).2 = k0_pay2 (F := F) (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  rw [View.canon_unit_zero hz]
  simp only [View.readAt_eq_ld, (hs0_0 t).read_unread, (hs0_1 t).read_unread, View.ld_unit_zero (S := S896x1024) hz, View.ld_unit_zero (S := S1024x896) hz, View.ld_unit_zero (S := S1024x1024) hz]
  exact congrArg (fun z => k0_pay2 z _ _) (Memref.IsWhole.read_unread (Memref.isWhole_whole cc0_scratch0) _)

/-- The last block of a run: the total with its product is what goes out. -/
theorem last_block (c : Dev nD) (t : Fin cfg0.N) (h0 : ¬t.val % 4 = 0) (h1 : t.val % 4 = 3) :
    (outsAt0 m c t.val t.isLt).1 = k0_pay2 (F := F) (outsAt0 m c (t.val - 1) (Nat.lt_of_le_of_lt (Nat.sub_le _ _) t.isLt)).2 (iblk m c 0 t) (iblk m c 1 t) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  rw [View.canon_unit_zero hz]
  simp only [View.readAt_eq_ld, (hs0_0 t).read_unread, (hs0_1 t).read_unread, View.ld_unit_zero (S := S896x1024) hz, View.ld_unit_zero (S := S1024x896) hz, View.ld_unit_zero (S := S1024x1024) hz,
    View.readCov_unit_zero (S := S896x1024) _ hz]
  exact congrArg (fun z => k0_pay2 z _ _) (Memref.IsWhole.read_unread (Memref.isWhole_whole cc0_scratch0) _)

end AnyValues

/-- One block's product over the reals, entry by entry. -/
theorem pay2_apply (acc : Vec Ideal S896x1024 .f32) (a : Vec Ideal S1024x896 .bf16) (b : Vec Ideal S1024x1024 .bf16) (r : Fin 896) (s : Fin 1024) :
    k0_pay2 (F := Ideal) acc a b (ix2 r s) = acc (ix2 r s) + ∑ k : Fin 1024, a (ix2 k r) * b (ix2 k s) := by
  unfold k0_pay2
  pointwise

theorem pay1_apply (r : Fin 896) (s : Fin 1024) : k0_pay1 (F := Ideal) (ix2 r s) = 0 := by
  unfold k0_pay1
  pointwise

variable (m : (ℓ : Loc nD τ sig) → Buf (Elt Ideal) ℓ)

/-- The two arguments, entry by entry. -/
def argA (c : Dev nD) : Vec Ideal S4096x2688 .bf16 := m ((c : Thread nD τ).loc main_arg0)
def argB (c : Dev nD) : Vec Ideal S4096x1024 .bf16 := m ((c : Thread nD τ).loc main_arg1)

/-- Where the blocks of point `t` lie. -/
theorem index0 : ∀ t : Fin cfg0.N, win0_0.index t (0 : Fin 2) = t.val % 4 ∧ win0_0.index t (1 : Fin 2) = t.val / 4 :=
  (by decide +kernel : ∀ t : Fin grid0.N, _)
theorem index1 : ∀ t : Fin cfg0.N, win0_1.index t (0 : Fin 2) = t.val % 4 ∧ win0_1.index t (1 : Fin 2) = 0 :=
  (by decide +kernel : ∀ t : Fin grid0.N, _)

theorem blockA (c : Dev nD) (t : Fin cfg0.N) (k : Fin 1024) (r : Fin 896) (p : Fin 4096) (x : Fin 2688)
    (hp : p.val = 1024 * (t.val % 4) + k.val) (hx : x.val = 896 * (t.val / 4) + r.val) :
    (iblk m c 0 t : Vec Ideal S1024x896 .bf16) (ix2 k r) = argA m c (ix2 p x) := by
  unfold iblk
  rw [View.read_apply]
  show V m c main_arg0 _ = _
  unfold V argA
  show m _ _ = m _ _
  congr 1
  funext a
  apply Fin.ext
  match a with
  | ⟨0, _⟩ => show win0_0.index t 0 * 1024 + 1 * k.val = p.val; rw [(index0 t).1, hp]; omega
  | ⟨1, _⟩ => show win0_0.index t 1 * 896 + 1 * r.val = x.val; rw [(index0 t).2, hx]; omega

theorem blockB (c : Dev nD) (t : Fin cfg0.N) (k : Fin 1024) (s : Fin 1024) (p : Fin 4096)
    (hp : p.val = 1024 * (t.val % 4) + k.val) :
    (iblk m c 1 t : Vec Ideal S1024x1024 .bf16) (ix2 k s) = argB m c (ix2 p s) := by
  unfold iblk
  rw [View.read_apply]
  show V m c main_arg1 _ = _
  unfold V argB
  show m _ _ = m _ _
  congr 1
  funext a
  apply Fin.ext
  match a with
  | ⟨0, _⟩ => show win0_1.index t 0 * 1024 + 1 * k.val = p.val; rw [(index1 t).1, hp]; omega
  | ⟨1, _⟩ => show win0_1.index t 1 * 1024 + 1 * s.val = s.val; rw [(index1 t).2]; omega

/-- The product's term of token `k`, at one entry. -/
def term (c : Dev nD) (x : Fin 2688) (y : Fin 1024) (k : ℕ) : EReal :=
  if h : k < 4096 then argA m c (ix2 ⟨k, h⟩ x) * argB m c (ix2 ⟨k, h⟩ y) else 0

/-- One block, entry by entry: what the total held, and the terms of the block's tokens. -/
theorem step (acc : Vec Ideal S896x1024 .f32) (c : Dev nD) (t : Fin cfg0.N) (j : ℕ) (hj : t.val % 4 = j) (r : Fin 896) (s : Fin 1024) (x : Fin 2688)
    (hx : x.val = 896 * (t.val / 4) + r.val) :
    k0_pay2 (F := Ideal) acc (iblk m c 0 t) (iblk m c 1 t) (ix2 r s) = acc (ix2 r s) + ∑ k : Fin 1024, term m c x s (1024 * j + k.val) := by
  refine (pay2_apply acc _ _ r s).trans (congrArg (acc (ix2 r s) + ·) (Finset.sum_congr rfl fun k _ => ?_))
  have hk : 1024 * j + k.val < 4096 := by have := k.isLt; have := Nat.mod_lt t.val (show 4 > 0 by decide); omega
  unfold term
  rw [dif_pos hk]
  rw [blockA m c t k r ⟨_, hk⟩ x (by rw [hj]) hx, blockB m c t k s ⟨_, hk⟩ (by rw [hj])]

/-- What the total holds at the last point of a run, entry by entry: the whole sum. -/
theorem total (c : Dev nD) (q : ℕ) (hq : 4 * q + 3 < cfg0.N) (r : Fin 896) (s : Fin 1024) (x : Fin 2688) (hx : x.val = 896 * q + r.val) :
    (outsAt0 m c (4 * q + 3) hq).1 (ix2 r s) = ∑ k : Fin 4096, term m c x s k.val := by
  have e0 := first_block m c ⟨4 * q, by omega⟩ (by show 4 * q % 4 = 0; omega)
  have e1 := next_block m c ⟨4 * q + 1, by omega⟩ (by show ¬(4 * q + 1) % 4 = 0; omega) (by show ¬(4 * q + 1) % 4 = 3; omega)
  have e2 := next_block m c ⟨4 * q + 2, by omega⟩ (by show ¬(4 * q + 2) % 4 = 0; omega) (by show ¬(4 * q + 2) % 4 = 3; omega)
  have e3 := last_block m c ⟨4 * q + 3, hq⟩ (by show ¬(4 * q + 3) % 4 = 0; omega) (by show (4 * q + 3) % 4 = 3; omega)
  simp only [Nat.add_sub_cancel] at e1
  simp only [show 4 * q + 2 - 1 = 4 * q + 1 from by omega] at e2
  simp only [show 4 * q + 3 - 1 = 4 * q + 2 from by omega] at e3
  rw [e3, step m _ c _ 3 (by show (4 * q + 3) % 4 = 3; omega) r s x (by rw [hx]; show _ = 896 * ((4 * q + 3) / 4) + _; omega),
    e2, step m _ c _ 2 (by show (4 * q + 2) % 4 = 2; omega) r s x (by rw [hx]; show _ = 896 * ((4 * q + 2) / 4) + _; omega),
    e1, step m _ c _ 1 (by show (4 * q + 1) % 4 = 1; omega) r s x (by rw [hx]; show _ = 896 * ((4 * q + 1) / 4) + _; omega),
    e0, step m _ c _ 0 (by show 4 * q % 4 = 0; omega) r s x (by rw [hx]; show _ = 896 * (4 * q / 4) + _; omega), pay1_apply]
  exact Dw.sum_blocks _

/-- The array the run leaves: the first 2568 of the product's rows. -/
def final (c : Dev nD) : Vec Ideal S2568x1024 .f32 := fun i =>
  ∑ k : Fin 4096, term m c ⟨(i 0).val, lt_of_lt_of_le (show (i 0).val < 2568 from (i 0).isLt) (by decide)⟩ (i 1) k.val

/-- Where the result's blocks lie, and how many of their rows are in the array. -/
theorem index2 : ∀ t : Fin cfg0.N, win0_2.index t (0 : Fin 2) = t.val / 4 ∧ win0_2.index t (1 : Fin 2) = 0
    ∧ win0_2.xsize (grid0.coords t) (0 : Fin 2) = min 896 (2568 - 896 * (t.val / 4)) ∧ win0_2.xsize (grid0.coords t) (1 : Fin 2) = 1024 :=
  (by decide +kernel : ∀ t : Fin grid0.N, _)

/-- The last point of a run writes back its block of the array. -/
theorem flushed_eq (c : Dev nD) (t : Fin cfg0.N) (hf : (cfg0.win 2).flush t = true) :
    (dats m 0 c).flushed 2 t = ((cfg0.win 2).blk t).view.read (Elt Ideal) (final m c) := by
  have hm : t.val % 4 = 3 := (flush0_2 t).mp hf
  obtain ⟨e0, e1, e2, e3⟩ := index2 t
  have hN : t.val < 12 := lt_of_lt_of_eq t.isLt N_0
  rw [flushed2]
  funext y
  have hy0 : (y 0).val < 896 := lt_of_lt_of_le (show (y 0).val < win0_2.xsize (grid0.coords t) (0 : Fin 2) from (y 0).isLt) (by rw [e2]; exact Nat.min_le_left _ _)
  have hy1 : (y 1).val < 1024 := lt_of_lt_of_eq (show (y 1).val < win0_2.xsize (grid0.coords t) (1 : Fin 2) from (y 1).isLt) e3
  have hb0 : (((cfg0.win 2).blk t).view.emb y 0).val = win0_2.index t (0 : Fin 2) * 896 + 1 * (y 0).val := rfl
  have hb1 : (((cfg0.win 2).blk t).view.emb y 1).val = win0_2.index t (1 : Fin 2) * 1024 + 1 * (y 1).val := rfl
  have hq : t.val = 4 * (t.val / 4) + 3 := by omega
  have ht : ∀ (n : ℕ) (h : n < cfg0.N), n = t.val → (outsAt0 m c n h).1 = (outsAt0 m c t.val t.isLt).1 := fun n h e => by subst e; rfl
  have hq' : 4 * (t.val / 4) + 3 < cfg0.N := by rw [← hq]; exact t.isLt
  have hl : (cfg0.win 2).xinj (grid0.coords t) y = (ix2 ⟨(y 0).val, hy0⟩ ⟨(y 1).val, hy1⟩ : S896x1024.Idx) := by
    funext a; apply Fin.ext
    match a with
    | ⟨0, _⟩ => rfl
    | ⟨1, _⟩ => rfl
  show (outsAt0 m c t.val t.isLt).1 ((cfg0.win 2).xinj (grid0.coords t) y) = final m c (((cfg0.win 2).blk t).view.emb y)
  have hc : ((cfg0.win 2).blk t).view.emb y 1 = (⟨(y 1).val, hy1⟩ : Fin 1024) := Fin.ext (by rw [hb1, e1]; show 0 * 1024 + 1 * (y 1).val = (y 1).val; omega)
  unfold final
  rw [hl, ← ht _ hq' hq.symm, total m c (t.val / 4) hq' _ _ ⟨(((cfg0.win 2).blk t).view.emb y 0).val, by rw [hb0, e0]; omega⟩ (by rw [hb0, e0]; show t.val / 4 * 896 + 1 * (y 0).val = 896 * (t.val / 4) + (y 0).val; omega), hc]

/-- Every entry of the array is in some block written back. -/
theorem covered (i : S2568x1024.Idx) : ∃ t : Fin cfg0.N, (cfg0.win 2).flush t = true ∧ i ∈ ((cfg0.win 2).blk t).view.set := by
  have h0 : (i 0).val < 2568 := (i 0).isLt
  have h1 : (i 1).val < 1024 := (i 1).isLt
  refine ⟨⟨4 * ((i 0).val / 896) + 3, lt_of_lt_of_eq (by omega) N_0.symm⟩, (flush0_2 _).mpr (by show (4 * ((i 0).val / 896) + 3) % 4 = 3; omega), ?_⟩
  obtain ⟨e0, e1, e2, e3⟩ := index2 ⟨4 * ((i 0).val / 896) + 3, lt_of_lt_of_eq (by omega) N_0.symm⟩
  have hd : (4 * ((i 0).val / 896) + 3) / 4 = (i 0).val / 896 := by omega
  simp only [hd] at e0 e2
  generalize (⟨4 * ((i 0).val / 896) + 3, lt_of_lt_of_eq (by omega) N_0.symm⟩ : Fin cfg0.N) = t at *
  show i ∈ ((View.whole main_v0).slice (win0_2.rect t)).set
  rw [View.set_slice_whole, Rect.mem_set_unit]
  intro a
  match a with
  | ⟨0, _⟩ =>
    show win0_2.index t (0 : Fin 2) * 896 ≤ (i 0).val ∧ (i 0).val < win0_2.index t (0 : Fin 2) * 896 + win0_2.xsize (grid0.coords t) (0 : Fin 2)
    rw [e0, e2]; omega
  | ⟨1, _⟩ =>
    show win0_2.index t (1 : Fin 2) * 1024 ≤ (i 1).val ∧ (i 1).val < win0_2.index t (1 : Fin 2) * 1024 + win0_2.xsize (grid0.coords t) (1 : Fin 2)
    rw [e1, e3]; omega

/-- The array after the run. -/
theorem final_eq (c : Dev nD) : (dats m 0 c).arrAt 2 cfg0.N = final m c :=
  (dats m 0 c).arrAt_eq_of_cover 2 _ (fun t hf => flushed_eq m c t hf) covered

/-- The reference's array, entry by entry. -/
theorem reference_apply (A : FVec Ideal Cert.RefInIdeal.S4096x2688 .bf16) (B : FVec Ideal Cert.RefInIdeal.S4096x1024 .bf16) (x : Fin 2568) (y : Fin 1024) (x' : Fin 2688) (hx : x'.val = x.val) :
    Cert.RefInIdeal.Val.array A B (ix2 x y) = ∑ k : Fin 4096, A (ix2 k x') * B (ix2 k y) := by
  have hb : x.val < 2688 := lt_of_lt_of_le x.isLt (by decide)
  obtain rfl : x' = ⟨x.val, hb⟩ := Fin.ext hx
  unfold Cert.RefInIdeal.Val.array
  pointwise

/-- The reference's array is the kernel's. -/
theorem result_eq (c : Dev nD) : final m c = Cert.RefInIdeal.Val.array (argA m c) (argB m c) := by
  funext i
  obtain ⟨x, y, rfl⟩ : ∃ (x : Fin 2568) (y : Fin 1024), i = ix2 x y := ⟨i 0, i 1, by funext a; match a with | ⟨0, _⟩ => rfl | ⟨1, _⟩ => rfl⟩
  refine Eq.trans ?_ (reference_apply (argA m c) (argB m c) x y ⟨x.val, lt_of_lt_of_le x.isLt (by decide)⟩ rfl).symm
  exact Finset.sum_congr rfl fun k _ => by unfold term; rw [dif_pos k.isLt]; rfl

end Cert.DwInIdeal.Val

end
-- ==== Proof.Norm.lean ====
/-
  The gradient of a root-mean-square norm over the extended reals: the form in which a kernel computes it, and the form in which
  it comes out of differentiating the norm's lines one by one, are equal at every input. The factor `1 / √(mean of squares + ε)`
  is a real number that is not negative, also where a row holds an infinity (then it is 0), so it can be taken out of a sum.
-/
module

public import Idealize.ShloMosaic.Lib.ValueIdx
public import Idealize.ShloMosaic.PureOps.Ideal.Laws

@[expose] public section

noncomputable section

namespace Cert.Norm

open Idealize.ShloMosaic

/-- The literals of the norm: the width 1024, the small number added to the mean, and a half with its sign. -/
def width : EReal := Ideal.ofBits .f32 0x44800000#32
def eps : EReal := Ideal.ofBits .f32 0x358637BD#32
def half : EReal := Ideal.ofBits .f32 0xBF000000#32

theorem width_eq : width = ((1024 : ℝ) : EReal) := by
  unfold width; simp [Ideal.ofBits, Ideal.ieee]; rw [← EReal.coe_mul]; norm_num
theorem half_eq : half = ((-(1 / 2) : ℝ) : EReal) := by
  unfold half; simp [Ideal.ofBits, Ideal.ieee]; rw [← EReal.coe_mul]; norm_num
theorem eps_pos : ∃ e : ℝ, 0 < e ∧ eps = (e : EReal) := by
  unfold eps; simp [Ideal.ofBits, Ideal.ieee]
  exact ⟨_, by norm_num, rfl⟩

/-- A quotient by the width is a product with its inverse. -/
theorem div_width (a : EReal) : Ideal.div a width = a * ((1 / 1024 : ℝ) : EReal) := by
  unfold Ideal.div
  rw [width_eq, if_neg (by norm_num), ← EReal.coe_inv]
  norm_num

/-- A real factor that is not negative goes through a sum. -/
theorem mul_add_real (r : ℝ) (hr : 0 ≤ r) (a b : EReal) : (r : EReal) * (a + b) = r * a + r * b :=
  EReal.left_distrib_of_nonneg_of_ne_top (EReal.coe_nonneg.mpr hr) (EReal.coe_ne_top r) a b

theorem sum_mul_real {ι : Type} (s : Finset ι) (r : ℝ) (hr : 0 ≤ r) (f : ι → EReal) : ∑ j ∈ s, f j * (r : EReal) = (∑ j ∈ s, f j) * r := by
  classical
  induction s using Finset.induction_on with
  | empty => simp
  | insert a s ha ih =>
    rw [Finset.sum_insert ha, Finset.sum_insert ha, ih, mul_comm _ (r : EReal), mul_comm _ (r : EReal), mul_comm _ (r : EReal),
      mul_add_real r hr]

/-- Twice the same product with a real factor. -/
theorem twice (z : EReal) (c : ℝ) : z * (c : EReal) + z * c = z * ((c + c : ℝ) : EReal) := by
  rcases lt_trichotomy c 0 with h | rfl | h
  · have h2 : c + c < 0 := by linarith
    induction z using EReal.rec with
    | bot => rw [EReal.bot_mul_coe_of_neg h, EReal.bot_mul_coe_of_neg h2]; rfl
    | top => rw [EReal.top_mul_coe_of_neg h, EReal.top_mul_coe_of_neg h2]; rfl
    | coe x => rw [← EReal.coe_mul, ← EReal.coe_mul, ← EReal.coe_add, mul_add]
  · simp
  · have h2 : 0 < c + c := by linarith
    induction z using EReal.rec with
    | bot => rw [EReal.bot_mul_coe_of_pos h, EReal.bot_mul_coe_of_pos h2]; rfl
    | top => rw [EReal.top_mul_coe_of_pos h, EReal.top_mul_coe_of_pos h2]; rfl
    | coe x => rw [← EReal.coe_mul, ← EReal.coe_mul, ← EReal.coe_add, mul_add]

theorem square_nonneg (a : EReal) : 0 ≤ a * a := by
  induction a using EReal.rec with
  | bot => simp
  | top => simp
  | coe x => rw [← EReal.coe_mul]; exact EReal.coe_nonneg.mpr (mul_self_nonneg x)

/-- The mean of a row's squares, the small number added. -/
def meanSq (x : Fin 1024 → EReal) : EReal := Ideal.div (∑ j, x j * x j) width + eps

/-- The row's factor is a real number that is not negative, and divided by the mean it is its own cube. -/
theorem factor (x : Fin 1024 → EReal) : ∃ r : ℝ, 0 ≤ r ∧ Ideal.rsqrt (meanSq x) = (r : EReal) ∧ Ideal.div (Ideal.rsqrt (meanSq x)) (meanSq x) = ((r * r * r : ℝ) : EReal) := by
  obtain ⟨e, he, hee⟩ := eps_pos
  have hs : 0 ≤ Ideal.div (∑ j, x j * x j) width := by
    rw [div_width]
    exact mul_nonneg (Finset.sum_nonneg fun j _ => square_nonneg _) (EReal.coe_nonneg.mpr (by norm_num))
  unfold meanSq
  rw [hee]
  generalize Ideal.div (∑ j, x j * x j) width = s at hs
  induction s using EReal.rec with
  | bot => exact absurd hs (by simp)
  | top =>
    refine ⟨0, le_refl _, ?_, ?_⟩
    · rw [EReal.top_add_coe]; rfl
    · rw [EReal.top_add_coe]; show Ideal.div 0 ⊤ = _; unfold Ideal.div; simp
  | coe a =>
    have ha : 0 ≤ a := EReal.coe_nonneg.mp hs
    have hp : 0 < a + e := by linarith
    have hq : 0 < Real.sqrt (a + e) := Real.sqrt_pos.mpr hp
    have h1 : Ideal.rsqrt ((a : EReal) + e) = (((Real.sqrt (a + e))⁻¹ : ℝ) : EReal) := by
      rw [← EReal.coe_add, Ideal.rsqrt_coe, if_neg (not_lt.mpr hp.le), if_neg hp.ne']
    refine ⟨(Real.sqrt (a + e))⁻¹, (inv_pos.mpr hq).le, h1, ?_⟩
    rw [h1, ← EReal.coe_add]
    unfold Ideal.div
    rw [if_neg (by exact_mod_cast hp.ne'), ← EReal.coe_inv, ← EReal.coe_mul]
    congr 1
    have : (a + e)⁻¹ = (Real.sqrt (a + e))⁻¹ * (Real.sqrt (a + e))⁻¹ := by rw [← mul_inv, Real.mul_self_sqrt hp.le]
    rw [this]; ring

/-- The gradient at one entry of a row, as a kernel computes it: `x` the row, `d` the gradient of the scaled row. -/
def kernelGrad (x d : Fin 1024 → EReal) (i : Fin 1024) : EReal :=
  Ideal.rsqrt (meanSq x) * (d i - x i * Ideal.rsqrt (meanSq x) * Ideal.div (∑ j, d j * (x j * Ideal.rsqrt (meanSq x))) width)

/-- The gradient that reaches the row through the mean of its squares, as differentiating gives it. -/
def meanGrad (x d : Fin 1024 → EReal) : EReal :=
  Ideal.div ((∑ j, x j * d j) * (half * Ideal.div (Ideal.rsqrt (meanSq x)) (meanSq x))) width

/-- The two forms are equal. -/
theorem kernelGrad_eq (x d : Fin 1024 → EReal) (i : Fin 1024) :
    kernelGrad x d i = d i * Ideal.rsqrt (meanSq x) + x i * meanGrad x d + meanGrad x d * x i := by
  obtain ⟨r, hr, h1, h2⟩ := factor x
  unfold kernelGrad meanGrad
  rw [h2, h1, div_width, div_width, half_eq]
  have e1 : ∑ j, d j * (x j * (r : EReal)) = (∑ j, x j * d j) * r := by
    rw [← sum_mul_real _ r hr]
    exact Finset.sum_congr rfl fun j _ => by rw [← mul_assoc, mul_comm (d j)]
  rw [e1]
  generalize ∑ j, x j * d j = s
  have e2 : x i * (r : EReal) * (s * r * ((1 / 1024 : ℝ) : EReal)) = x i * s * ((r * r / 1024 : ℝ) : EReal) := by
    rw [show (r * r / 1024 : ℝ) = r * (r * (1 / 1024)) by ring, EReal.coe_mul, EReal.coe_mul]
    rw [mul_assoc, mul_assoc, mul_assoc, mul_left_comm (r : EReal) s]
  have e3 : s * (((-(1 / 2) : ℝ) : EReal) * ((r * r * r : ℝ) : EReal)) * ((1 / 1024 : ℝ) : EReal) = s * ((-(r * r * r / 2048) : ℝ) : EReal) := by
    rw [mul_assoc, ← EReal.coe_mul, ← EReal.coe_mul]
    congr 2; ring
  rw [e2, e3, mul_comm (s * _) (x i), add_assoc, ← mul_assoc, twice, sub_eq_add_neg, mul_add_real r hr, mul_comm (r : EReal) (d i)]
  congr 1
  rw [show (-(r * r * r / 2048) + -(r * r * r / 2048) : ℝ) = -(r * (r * r / 1024)) by ring, EReal.coe_neg, mul_neg, mul_neg, EReal.coe_mul]
  congr 1
  rw [mul_left_comm]

end Cert.Norm

end
-- ==== Proof.BwdInRef.lean ====
/-
  What the reference of the input projection's backward pass computes: the gradients of the layer's input and of its norm's gain,
  entry by entry.
-/
module

public import proofs.«01_k».proof.Proof.Norm
public import proofs.«01_k».proof.Proof.Gen.RefXIdeal.Run
public import Idealize.ShloMosaic.Lib.Tactic
public import Idealize.ShloMosaic.Lib.Pointwise

@[expose] public section

noncomputable section

namespace Cert.RefXIdeal.Val

open Cert.RefXIdeal Cert.RefXIdeal.Gen Idealize.ShloMosaic Idealize.ShloMosaic.StableHlo

/-- The mean of each row's squares, the small number added. -/
def meanSq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The gradient of the normed input, from the projection's. -/
def dh (w : FVec Ideal S1024x2568 .f32) (dz : FVec Ideal S4096x2568 .f32) : FVec Ideal S4096x1024 .f32 :=
  Host.dotGeneral (F := Ideal) dot_S4096x2568_S1024x2568_S4096x1024_1_1_0_0_n_n none dz w

/-- … times the gain. -/
def scaled (g : FVec Ideal S1024 .f32) (h : FVec Ideal S4096x1024 .f32) : FVec Ideal S4096x1024 .f32 :=
  mulf h (broadcastInDim S4096x1024 ![0, 1] bcast_S1x1024_S4096x1024_0_1 (broadcastInDim S1x1024 ![1] bcast_S1024_S1x1024_1 g))

/-- What reaches each row through the mean of its squares. -/
def meanGrad (x d : FVec Ideal S4096x1024 .f32) : FVec Ideal S4096x1024 .f32 :=
  broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (meanSq x)) (meanSq x)))) (broadcastInDim S4096x1 ![] bcast_S_S4096x1 (constant S_ .f32 0x44800000#32))) (constant S_ .f32 0x00000000#32) reducesTo_S4096x1_S4096_d1 h_S_)

/-- The gradient of the input. -/
def gradX (x d1 d : FVec Ideal S4096x1024 .f32) : FVec Ideal S4096x1024 .f32 :=
  addf d1 (addf (addf (mulf d (broadcastInDim S4096x1024 ![0, 1] bcast_S4096x1_S4096x1024_0_1 (Host.rsqrt (meanSq x)))) (mulf x (meanGrad x d))) (mulf (meanGrad x d) x))

/-- The gradient of the gain. -/
def gradG (x h : FVec Ideal S4096x1024 .f32) : FVec Ideal S1x1024 .f32 :=
  shapeCast _ (Host.reduceAdd (shapeCast _ (Host.reduceAdd (mulf (mulf x (broadcastInDim S4096x1024 ![0, 1] bcast_S4096x1_S4096x1024_0_1 (Host.rsqrt (meanSq x)))) h) (constant S_ .f32 0x00000000#32) reducesTo_S4096x1024_S1024_d0 h_S_) shapeCasts_S1024_S1x1024) (constant S_ .f32 0x00000000#32) reducesTo_S1x1024_S1024_d0 h_S_) shapeCasts_S1024_S1x1024

theorem meanSq_apply (x : FVec Ideal S4096x1024 .f32) (t : Fin 4096) :
    meanSq x (ix2 t 0) = Cert.Norm.meanSq fun j => x (ix2 t j) := by
  unfold meanSq Cert.Norm.meanSq Cert.Norm.width Cert.Norm.eps
  pointwise

theorem dh_apply (w : FVec Ideal S1024x2568 .f32) (dz : FVec Ideal S4096x2568 .f32) (t : Fin 4096) (j : Fin 1024) :
    dh w dz (ix2 t j) = ∑ k : Fin 2568, dz (ix2 t k) * w (ix2 j k) := by
  unfold dh
  pointwise

theorem scaled_apply (g : FVec Ideal S1024 .f32) (h : FVec Ideal S4096x1024 .f32) (t : Fin 4096) (j : Fin 1024) :
    scaled g h (ix2 t j) = h (ix2 t j) * g (ix1 j) := by
  unfold scaled
  pointwise

theorem meanGrad_apply (x d : FVec Ideal S4096x1024 .f32) (t : Fin 4096) (j : Fin 1024) :
    meanGrad x d (ix2 t j) = Cert.Norm.meanGrad (fun j => x (ix2 t j)) (fun j => d (ix2 t j)) := by
  unfold meanGrad Cert.Norm.meanGrad Cert.Norm.width Cert.Norm.half
  rw [← meanSq_apply x t]
  pointwise
  exact Fin.sum_univ_one _

/-- The gradient of the input at one entry, in the form in which a kernel computes it. -/
theorem gradX_apply (x d1 d : FVec Ideal S4096x1024 .f32) (t : Fin 4096) (j : Fin 1024) :
    gradX x d1 d (ix2 t j) = d1 (ix2 t j) + Cert.Norm.kernelGrad (fun j => x (ix2 t j)) (fun j => d (ix2 t j)) j := by
  rw [Cert.Norm.kernelGrad_eq, ← meanGrad_apply x d t j, ← meanSq_apply x t]
  unfold gradX
  pointwise

theorem gradG_apply (x h : FVec Ideal S4096x1024 .f32) (j : Fin 1024) :
    gradG x h (ix2 0 j) = ∑ t : Fin 4096, x (ix2 t j) * Ideal.rsqrt (Cert.Norm.meanSq fun j => x (ix2 t j)) * h (ix2 t j) := by
  refine Eq.trans ?_ (Finset.sum_congr rfl fun t _ => by rw [← meanSq_apply x t])
  unfold gradG
  pointwise
  exact Fin.sum_univ_one _

/-- The run's results are these arrays. -/
theorem result0_eq (m : (ℓ : Loc nD τ sig) → Buf (Elt Ideal) ℓ) (c : Dev nD) :
    Cert.RefXIdeal.Value.res_main_v38 (F := Ideal) m c = gradX (m ((c.tc : Thread nD τ).loc main_arg0)) (m ((c.tc : Thread nD τ).loc main_arg1)) (scaled (m ((c.tc : Thread nD τ).loc main_arg2)) (dh (m ((c.tc : Thread nD τ).loc main_arg3)) (m ((c.tc : Thread nD τ).loc main_arg4)))) := by
  unfold Cert.RefXIdeal.Value.res_main_v38
  rfl

end Cert.RefXIdeal.Val

end
-- ==== Proof.BwdIn.lean ====
/-
  The input projection's backward pass: eight blocks of 512 tokens. A block multiplies the projection's gradient with the weight
  (whose last eight columns lie in an array of their own, padded with zeros), takes it through the norm, and adds its part of the
  gain's gradient to the total. The arrays the run leaves, and that they are the reference's.
-/
module

public import proofs.«01_k».proof.Proof.Norm
public import proofs.«01_k».proof.Proof.BwdInRef
public import proofs.«01_k».proof.Proof.Gen.BwdInIdeal.Value
public import Idealize.ShloMosaic.Lib.Tactic
public import Idealize.ShloMosaic.Lib.Pointwise

@[expose] public section

noncomputable section

namespace Cert.BwdInIdeal.Val

open Cert.BwdInIdeal Cert.BwdInIdeal.Gen Cert.BwdInIdeal.Value
open Idealize.ShloMosaic Idealize.ShloMosaic.TcCoe Idealize.SL.Sem

theorem hz : (![0, 0] : Fin 2 → Nat) = fun _ => 0 := funext fun a => by fin_cases a <;> rfl

section AnyValues
variable {F : FTy → Type} [FloatOps F]
variable (m : (ℓ : Loc nD τ sig) → Buf (Elt F) ℓ)

/-- The four pieces that a block multiplies: the gradient's first 2560 columns and the weight's, and the rest of each. -/
def z1 (c : Dev nD) (t : Fin cfg0.N) : Vec F S512x2560 .bf16 := View.ld (S := S512x2688) (iblk m c 0 t) (Rect.unit (s := S512x2688) ![0, 0] S512x2560.size inb_S512x2688_S512x2560_0_0)
def z2 (c : Dev nD) (t : Fin cfg0.N) : Vec F S512x128 .bf16 := View.ld (S := S512x2688) (iblk m c 0 t) (Rect.unit (s := S512x2688) ![0, 2560] S512x128.size inb_S512x2688_S512x128_0_2560)
def w1 (c : Dev nD) (t : Fin cfg0.N) : Vec F S2560x1024 .bf16 := View.ld (S := S2568x1024) (iblk m c 1 t) (Rect.unit (s := S2568x1024) ![0, 0] S2560x1024.size inb_S2568x1024_S2560x1024_0_0)

/-- What a block writes of the input's gradient. -/
def rows (c : Dev nD) (t : Fin cfg0.N) : Vec F S512x1024 .f32 :=
  k0_pay1 (k0_pay5 (iblk m c 3 t)) (k0_pay7 (z1 m c t) (w1 m c t) (z2 m c t) (iblk m c 2 t) (iblk m c 3 t) (iblk m c 5 t)) (iblk m c 4 t)

/-- What a block makes of the gain's gradient, from what the total held. -/
def gain (c : Dev nD) (t : Fin cfg0.N) (acc : Vec F S1x1024 .f32) : Vec F S1x1024 .f32 :=
  k0_pay2 (k0_pay4 (z1 m c t) (w1 m c t) (z2 m c t) (iblk m c 2 t)) (k0_pay6 (iblk m c 3 t)) acc

theorem first_rows (c : Dev nD) (t : Fin cfg0.N) (h0 : t.val % 8 = 0) : (outsAt0 m c t.val t.isLt).1 = rows m c t := by
  rw [outsAt0_A m c t h0]
  dsimp only
  unfold out0_A_6
  rw [View.read_writes_eq_canon _ _ _ (cover0_A_6 c _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S128x1024) hz, View.ld_unit_zero (S := S1x1024) hz]
  rfl

theorem next_rows (c : Dev nD) (t : Fin cfg0.N) (h0 : ¬t.val % 8 = 0) : (outsAt0 m c t.val t.isLt).1 = rows m c t := by
  rw [outsAt0_B m c t h0]
  dsimp only
  unfold out0_B_6
  rw [View.read_writes_eq_canon _ _ _ (cover0_B_6 c _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S128x1024) hz, View.ld_unit_zero (S := S1x1024) hz]
  rfl

theorem all_rows (c : Dev nD) (t : Fin cfg0.N) : (outsAt0 m c t.val t.isLt).1 = rows m c t := by
  by_cases h : t.val % 8 = 0
  · exact first_rows m c t h
  · exact next_rows m c t h

theorem first_gain (c : Dev nD) (t : Fin cfg0.N) (h0 : t.val % 8 = 0) : (outsAt0 m c t.val t.isLt).2 = gain m c t k0_pay3 := by
  rw [outsAt0_A m c t h0]
  dsimp only
  unfold out0_A_7
  rw [View.read_writes_eq_canon _ _ _ (cover0_A_7 c _ _ _ _ _ _ _ _ _ _ _ _ _ _ _ _ _ _ _ _ _ _ _ _)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread, View.ld_unit_zero (S := S512x1024) hz, View.ld_unit_zero (S := S128x1024) hz, View.ld_unit_zero (S := S1x1024) hz]
  rfl

theorem next_gain (c : Dev nD) (t : Fin cfg0.N) (h0 : ¬t.val % 8 = 0) :
    (outsAt0 m c t.val t.isLt).2 = gain m c t (outsAt0 m c (t.val - 1) (Nat.lt_of_le_of_lt (Nat.sub_le _ _) t.isLt)).2 := by
  rw [outsAt0_B m c t h0]
  dsimp only
  unfold out0_B_7
  rw [View.read_writes_eq_canon _ _ _ (cover0_B_7 c _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_7 t).read_unread, View.ld_unit_zero (S := S512x1024) hz, View.ld_unit_zero (S := S128x1024) hz, View.ld_unit_zero (S := S1x1024) hz]
  rfl

/-- The arrays that the host prepares. -/
theorem V_dz (c : Dev nD) : (V m c main_v5 : Vec F S4096x2688 .bf16) = pad S4096x2688 ![0, 0] ![0, 120] ![0, 0] (truncf .bf16 (m ((c : Thread nD τ).loc main_arg4) : FVec F S4096x2568 .f32) bitsLt_bf16_f32) (sitofp .bf16 (constantI S_ 32 0#32)) pads_S4096x2568_S4096x2688_000_01200 h_S_ := by
  simp only [V, hostOps0, hostOps0_1, hostOps0_2, hostOps0_3, hostOps0_4, List.flatten_cons, List.flatten_nil, List.append_nil, List.cons_append, List.nil_append]
  after_results_simp <;> rfl

theorem V_w (c : Dev nD) : (V m c main_v1 : Vec F S2568x1024 .bf16) = transpose S2568x1024 [1, 0] (truncf .bf16 (m ((c : Thread nD τ).loc main_arg3) : FVec F S1024x2568 .f32) bitsLt_bf16_f32) transposes_S1024x2568_S2568x1024_1_0 := by
  simp only [V, hostOps0, hostOps0_1, hostOps0_2, hostOps0_3, hostOps0_4, List.flatten_cons, List.flatten_nil, List.append_nil, List.cons_append, List.nil_append]
  after_results_simp <;> rfl

theorem V_wt (c : Dev nD) : (V m c main_v3 : Vec F S128x1024 .bf16) = pad S128x1024 ![0, 0] ![120, 0] ![0, 0] (extractStridedSlice S8x1024 ![2560, 0] (transpose S2568x1024 [1, 0] (truncf .bf16 (m ((c : Thread nD τ).loc main_arg3) : FVec F S1024x2568 .f32) bitsLt_bf16_f32) transposes_S1024x2568_S2568x1024_1_0) slices_S2568x1024_S8x1024_2560_0) (sitofp .bf16 (constantI S_ 32 0#32)) pads_S8x1024_S128x1024_01200_000 h_S_ := by
  simp only [V, hostOps0, hostOps0_1, hostOps0_2, hostOps0_3, hostOps0_4, List.flatten_cons, List.flatten_nil, List.append_nil, List.cons_append, List.nil_append]
  after_results_simp <;> rfl

theorem V_g (c : Dev nD) : (V m c main_v6 : Vec F S1x1024 .f32) = shapeCast S1x1024 (m ((c : Thread nD τ).loc main_arg2) : FVec F S1024 .f32) shapeCasts_S1024_S1x1024 := by
  simp only [V, hostOps0, hostOps0_1, hostOps0_2, hostOps0_3, hostOps0_4, List.flatten_cons, List.flatten_nil, List.append_nil, List.cons_append, List.nil_append]
  after_results_simp <;> rfl

end AnyValues

end Cert.BwdInIdeal.Val

end
-- ==== Proof.BwdInVal.lean ====
/-
  The input projection's backward pass over the extended reals: the entries of what a block writes, the arrays after the eight
  blocks, and that they are the reference's.
-/
module

public import proofs.«01_k».proof.Proof.BwdIn
public import Idealize.ShloMosaic.Lib.Tactic
public import Idealize.ShloMosaic.Lib.Pointwise

@[expose] public section

noncomputable section

namespace Cert.BwdInIdeal.Val

open Cert.BwdInIdeal Cert.BwdInIdeal.Gen Cert.BwdInIdeal.Value
open Idealize.ShloMosaic Idealize.ShloMosaic.TcCoe Idealize.SL.Sem

/-! ## The block's arithmetic, entry by entry -/

theorem pay4_apply (a : Vec Ideal S512x2560 .bf16) (b : Vec Ideal S2560x1024 .bf16) (a' : Vec Ideal S512x128 .bf16) (b' : Vec Ideal S128x1024 .bf16) (r : Fin 512) (s : Fin 1024) :
    k0_pay4 (F := Ideal) a b a' b' (ix2 r s) = ∑ k : Fin 2560, a (ix2 r k) * b (ix2 k s) + ∑ k : Fin 128, a' (ix2 r k) * b' (ix2 k s) := by
  unfold k0_pay4
  pointwise

theorem pay5_apply (x : Vec Ideal S512x1024 .f32) (r : Fin 512) :
    k0_pay5 (F := Ideal) x (ix2 r 0) = Ideal.rsqrt (Cert.Norm.meanSq fun j => x (ix2 r j)) := by
  unfold k0_pay5 Cert.Norm.meanSq Cert.Norm.width Cert.Norm.eps
  pointwise

theorem pay6_apply (x : Vec Ideal S512x1024 .f32) (r : Fin 512) (s : Fin 1024) :
    k0_pay6 (F := Ideal) x (ix2 r s) = x (ix2 r s) * Ideal.rsqrt (Cert.Norm.meanSq fun j => x (ix2 r j)) := by
  rw [← pay5_apply x r]
  unfold k0_pay6
  generalize k0_pay5 x = q
  pointwise

theorem pay7_apply (a : Vec Ideal S512x2560 .bf16) (b : Vec Ideal S2560x1024 .bf16) (a' : Vec Ideal S512x128 .bf16) (b' : Vec Ideal S128x1024 .bf16) (x : Vec Ideal S512x1024 .f32) (g : Vec Ideal S1x1024 .f32) (r : Fin 512) (s : Fin 1024) :
    k0_pay7 (F := Ideal) a b a' b' x g (ix2 r s) = k0_pay4 (F := Ideal) a b a' b' (ix2 r s) * g (ix2 0 s)
      - x (ix2 r s) * Ideal.rsqrt (Cert.Norm.meanSq fun j => x (ix2 r j)) * Ideal.div (∑ j : Fin 1024, k0_pay4 (F := Ideal) a b a' b' (ix2 r j) * g (ix2 0 j) * (x (ix2 r j) * Ideal.rsqrt (Cert.Norm.meanSq fun j => x (ix2 r j)))) Cert.Norm.width := by
  have hu : ∀ j : Fin 1024, x (ix2 r j) * Ideal.rsqrt (Cert.Norm.meanSq fun j => x (ix2 r j)) = k0_pay6 (F := Ideal) x (ix2 r j) := fun j => (pay6_apply x r j).symm
  simp only [hu]
  unfold k0_pay7 Cert.Norm.width
  generalize k0_pay6 x = u
  generalize k0_pay4 a b a' b' = h
  pointwise

theorem pay1_apply (q : Vec Ideal S512x1 .f32) (u d : Vec Ideal S512x1024 .f32) (r : Fin 512) (s : Fin 1024) :
    k0_pay1 (F := Ideal) q u d (ix2 r s) = d (ix2 r s) + q (ix2 r 0) * u (ix2 r s) := by
  unfold k0_pay1
  pointwise

theorem pay2_apply (h xh : Vec Ideal S512x1024 .f32) (acc : Vec Ideal S1x1024 .f32) (s : Fin 1024) :
    k0_pay2 (F := Ideal) h xh acc (ix2 0 s) = acc (ix2 0 s) + ∑ r : Fin 512, h (ix2 r s) * xh (ix2 r s) := by
  unfold k0_pay2
  pointwise

theorem pay3_apply (s : Fin 1024) : k0_pay3 (F := Ideal) (ix2 0 s) = 0 := by
  unfold k0_pay3
  pointwise

variable (m : (ℓ : Loc nD τ sig) → Buf (Elt Ideal) ℓ)

/-- The arguments: the input, the residual's gradient, the gain, the weight, the projection's gradient. -/
def argX (c : Dev nD) : FVec Ideal S4096x1024 .f32 := m ((c : Thread nD τ).loc main_arg0)
def argD (c : Dev nD) : FVec Ideal S4096x1024 .f32 := m ((c : Thread nD τ).loc main_arg1)
def argG (c : Dev nD) : FVec Ideal S1024 .f32 := m ((c : Thread nD τ).loc main_arg2)
def argW (c : Dev nD) : FVec Ideal S1024x2568 .f32 := m ((c : Thread nD τ).loc main_arg3)
def argZ (c : Dev nD) : FVec Ideal S4096x2568 .f32 := m ((c : Thread nD τ).loc main_arg4)

/-! ## Where the blocks lie -/

theorem index_rows : ∀ t : Fin cfg0.N, win0_0.index t (0 : Fin 2) = t.val ∧ win0_0.index t (1 : Fin 2) = 0
    ∧ win0_3.index t (0 : Fin 2) = t.val ∧ win0_3.index t (1 : Fin 2) = 0 ∧ win0_4.index t (0 : Fin 2) = t.val ∧ win0_4.index t (1 : Fin 2) = 0
    ∧ win0_6.index t (0 : Fin 2) = t.val ∧ win0_6.index t (1 : Fin 2) = 0 :=
  (by decide +kernel : ∀ t : Fin grid0.N, _)
theorem index_whole : ∀ t : Fin cfg0.N, win0_1.index t (0 : Fin 2) = 0 ∧ win0_1.index t (1 : Fin 2) = 0
    ∧ win0_2.index t (0 : Fin 2) = 0 ∧ win0_2.index t (1 : Fin 2) = 0 ∧ win0_5.index t (0 : Fin 2) = 0 ∧ win0_5.index t (1 : Fin 2) = 0
    ∧ win0_7.index t (0 : Fin 2) = 0 ∧ win0_7.index t (1 : Fin 2) = 0 :=
  (by decide +kernel : ∀ t : Fin grid0.N, _)

/-- Row `r` of block `t`. -/
def tok (t : Fin cfg0.N) (r : Fin 512) : Fin 4096 := ⟨512 * t.val + r.val, by have := lt_of_lt_of_eq t.isLt N_0; have := r.isLt; omega⟩

theorem blockX (c : Dev nD) (t : Fin cfg0.N) (r : Fin 512) (s : Fin 1024) : (iblk m c 3 t : Vec Ideal S512x1024 .f32) (ix2 r s) = argX m c (ix2 (tok t r) s) := by
  unfold iblk
  rw [View.read_apply]
  show V m c main_arg0 _ = _
  rw [V_main_arg0]
  unfold argX
  congr 1
  funext a
  apply Fin.ext
  match a with
  | ⟨0, _⟩ => show win0_3.index t 0 * 512 + 1 * r.val = 512 * t.val + r.val; rw [(index_rows t).2.2.1]; omega
  | ⟨1, _⟩ => show win0_3.index t 1 * 1024 + 1 * s.val = s.val; rw [(index_rows t).2.2.2.1]; omega

theorem blockD (c : Dev nD) (t : Fin cfg0.N) (r : Fin 512) (s : Fin 1024) : (iblk m c 4 t : Vec Ideal S512x1024 .f32) (ix2 r s) = argD m c (ix2 (tok t r) s) := by
  unfold iblk
  rw [View.read_apply]
  show V m c main_arg1 _ = _
  rw [V_main_arg1]
  unfold argD
  congr 1
  funext a
  apply Fin.ext
  match a with
  | ⟨0, _⟩ => show win0_4.index t 0 * 512 + 1 * r.val = 512 * t.val + r.val; rw [(index_rows t).2.2.2.2.1]; omega
  | ⟨1, _⟩ => show win0_4.index t 1 * 1024 + 1 * s.val = s.val; rw [(index_rows t).2.2.2.2.2.1]; omega

theorem blockG (c : Dev nD) (t : Fin cfg0.N) (s : Fin 1024) : (iblk m c 5 t : Vec Ideal S1x1024 .f32) (ix2 0 s) = argG m c (ix1 s) := by
  unfold iblk
  rw [View.read_apply]
  have e : ((cfg0.win 5).blk t).view.emb (ix2 0 s : S1x1024.Idx) = (ix2 0 s : S1x1024.Idx) := by
    funext a
    apply Fin.ext
    match a with
    | ⟨0, _⟩ => show win0_5.index t 0 * 1 + 1 * 0 = 0; rw [(index_whole t).2.2.2.2.1]
    | ⟨1, _⟩ => show win0_5.index t 1 * 1024 + 1 * s.val = s.val; rw [(index_whole t).2.2.2.2.2.1]; omega
  show V m c main_v6 (((cfg0.win 5).blk t).view.emb (ix2 0 s : S1x1024.Idx)) = _
  rw [e]
  refine (congrFun (V_g m c) _).trans ?_
  unfold argG
  pointwise

theorem padded (A : FVec Ideal S4096x2568 .f32) (p : Fin 4096) (k : Fin 2688) :
    pad S4096x2688 ![0, 0] ![0, 120] ![0, 0] (truncf .bf16 A bitsLt_bf16_f32) (sitofp .bf16 (constantI S_ 32 0#32)) pads_S4096x2568_S4096x2688_000_01200 h_S_ (ix2 p k)
      = if h : k.val < 2568 then A (ix2 p ⟨k.val, h⟩) else 0 := by
  have e : (FloatOps.sitofp FTy.bf16 0#32 : Ideal .bf16) = (0 : EReal) := by
    show (((0#32 : BitVec 32).toInt : ℝ) : EReal) = 0
    norm_num
  pointwise
  rw [e]

theorem blockZ (c : Dev nD) (t : Fin cfg0.N) (r : Fin 512) (k : Fin 2688) :
    (iblk m c 0 t : Vec Ideal S512x2688 .bf16) (ix2 r k) = if h : k.val < 2568 then argZ m c (ix2 (tok t r) ⟨k.val, h⟩) else 0 := by
  unfold iblk
  rw [View.read_apply]
  have e : ((cfg0.win 0).blk t).view.emb (ix2 r k : S512x2688.Idx) = (ix2 (tok t r) k : S4096x2688.Idx) := by
    funext a
    apply Fin.ext
    match a with
    | ⟨0, _⟩ => show win0_0.index t 0 * 512 + 1 * r.val = 512 * t.val + r.val; rw [(index_rows t).1]; omega
    | ⟨1, _⟩ => show win0_0.index t 1 * 2688 + 1 * k.val = k.val; rw [(index_rows t).2.1]; omega
  show V m c main_v5 (((cfg0.win 0).blk t).view.emb (ix2 r k : S512x2688.Idx)) = _
  rw [e]
  refine (congrFun (V_dz m c) _).trans ?_
  exact padded (argZ m c) (tok t r) k

theorem blockW (c : Dev nD) (t : Fin cfg0.N) (k : Fin 2568) (s : Fin 1024) :
    (iblk m c 1 t : Vec Ideal S2568x1024 .bf16) (ix2 k s) = argW m c (ix2 s k) := by
  unfold iblk
  rw [View.read_apply]
  have e : ((cfg0.win 1).blk t).view.emb (ix2 k s : S2568x1024.Idx) = (ix2 k s : S2568x1024.Idx) := by
    funext a
    apply Fin.ext
    match a with
    | ⟨0, _⟩ => show win0_1.index t 0 * 2568 + 1 * k.val = k.val; rw [(index_whole t).1]; omega
    | ⟨1, _⟩ => show win0_1.index t 1 * 1024 + 1 * s.val = s.val; rw [(index_whole t).2.1]; omega
  show V m c main_v1 (((cfg0.win 1).blk t).view.emb (ix2 k s : S2568x1024.Idx)) = _
  rw [e]
  refine (congrFun (V_w m c) _).trans ?_
  unfold argW
  pointwise

theorem padded_rows (A : FVec Ideal S1024x2568 .f32) (k : Fin 128) (s : Fin 1024) :
    pad S128x1024 ![0, 0] ![120, 0] ![0, 0] (extractStridedSlice S8x1024 ![2560, 0] (transpose S2568x1024 [1, 0] (truncf .bf16 A bitsLt_bf16_f32) transposes_S1024x2568_S2568x1024_1_0) slices_S2568x1024_S8x1024_2560_0) (sitofp .bf16 (constantI S_ 32 0#32)) pads_S8x1024_S128x1024_01200_000 h_S_ (ix2 k s)
      = if h : 2560 + k.val < 2568 then A (ix2 s ⟨2560 + k.val, h⟩) else 0 := by
  have e : (FloatOps.sitofp FTy.bf16 0#32 : Ideal .bf16) = (0 : EReal) := by
    show (((0#32 : BitVec 32).toInt : ℝ) : EReal) = 0
    norm_num
  pointwise
  rw [e]
  by_cases h : k.val < 8
  · rw [dif_pos h, dif_pos (by omega)]
  · rw [dif_neg h, dif_neg (by omega)]

theorem blockT (c : Dev nD) (t : Fin cfg0.N) (k : Fin 128) (s : Fin 1024) :
    (iblk m c 2 t : Vec Ideal S128x1024 .bf16) (ix2 k s) = if h : 2560 + k.val < 2568 then argW m c (ix2 s ⟨2560 + k.val, h⟩) else 0 := by
  unfold iblk
  rw [View.read_apply]
  have e : ((cfg0.win 2).blk t).view.emb (ix2 k s : S128x1024.Idx) = (ix2 k s : S128x1024.Idx) := by
    funext a
    apply Fin.ext
    match a with
    | ⟨0, _⟩ => show win0_2.index t 0 * 128 + 1 * k.val = k.val; rw [(index_whole t).2.2.1]; omega
    | ⟨1, _⟩ => show win0_2.index t 1 * 1024 + 1 * s.val = s.val; rw [(index_whole t).2.2.2.1]; omega
  show V m c main_v3 (((cfg0.win 2).blk t).view.emb (ix2 k s : S128x1024.Idx)) = _
  rw [e]
  refine (congrFun (V_wt m c) _).trans ?_
  exact padded_rows (argW m c) k s

theorem z1_apply (c : Dev nD) (t : Fin cfg0.N) (r : Fin 512) (k : Fin 2560) :
    z1 m c t (ix2 r k) = argZ m c (ix2 (tok t r) ⟨k.val, lt_of_lt_of_le k.isLt (by decide)⟩) := by
  unfold z1
  have e : (Rect.unit (s := S512x2688) ![0, 0] S512x2560.size inb_S512x2688_S512x2560_0_0).idx (ix2 r k : S512x2560.Idx) = (ix2 r ⟨k.val, lt_of_lt_of_le k.isLt (by decide)⟩ : S512x2688.Idx) := by
    funext a
    apply Fin.ext
    match a with
    | ⟨0, _⟩ => show 0 + 1 * r.val = r.val; omega
    | ⟨1, _⟩ => show 0 + 1 * k.val = k.val; omega
  refine (congrArg (iblk m c 0 t : Vec Ideal S512x2688 .bf16) e).trans ?_
  rw [blockZ, dif_pos (show k.val < 2568 by have := k.isLt; omega)]

theorem z2_apply (c : Dev nD) (t : Fin cfg0.N) (r : Fin 512) (k : Fin 128) :
    z2 m c t (ix2 r k) = if h : 2560 + k.val < 2568 then argZ m c (ix2 (tok t r) ⟨2560 + k.val, h⟩) else 0 := by
  unfold z2
  have e : (Rect.unit (s := S512x2688) ![0, 2560] S512x128.size inb_S512x2688_S512x128_0_2560).idx (ix2 r k : S512x128.Idx) = (ix2 r ⟨2560 + k.val, by have := k.isLt; omega⟩ : S512x2688.Idx) := by
    funext a
    apply Fin.ext
    match a with
    | ⟨0, _⟩ => show 0 + 1 * r.val = r.val; omega
    | ⟨1, _⟩ => show 2560 + 1 * k.val = 2560 + k.val; omega
  refine (congrArg (iblk m c 0 t : Vec Ideal S512x2688 .bf16) e).trans ?_
  rw [blockZ]

theorem w1_apply (c : Dev nD) (t : Fin cfg0.N) (k : Fin 2560) (s : Fin 1024) :
    w1 m c t (ix2 k s) = argW m c (ix2 s ⟨k.val, lt_of_lt_of_le k.isLt (by decide)⟩) := by
  unfold w1
  have e : (Rect.unit (s := S2568x1024) ![0, 0] S2560x1024.size inb_S2568x1024_S2560x1024_0_0).idx (ix2 k s : S2560x1024.Idx) = (ix2 ⟨k.val, lt_of_lt_of_le k.isLt (by decide)⟩ s : S2568x1024.Idx) := by
    funext a
    apply Fin.ext
    match a with
    | ⟨0, _⟩ => show 0 + 1 * k.val = k.val; omega
    | ⟨1, _⟩ => show 0 + 1 * s.val = s.val; omega
  refine (congrArg (iblk m c 1 t : Vec Ideal S2568x1024 .bf16) e).trans ?_
  rw [blockW]

/-! ## A block's entries -/

/-- A sum over `n` terms in two parts, the second padded with zeros. -/
theorem sum_padded {n a b d : ℕ} (hn : n + d = a + b) (ha : a ≤ n) (f : Fin n → EReal) :
    ∑ k : Fin a, f ⟨k.val, lt_of_lt_of_le k.isLt ha⟩ + ∑ k : Fin b, (if h : a + k.val < n then f ⟨a + k.val, h⟩ else 0) = ∑ k : Fin n, f k := by
  have a1 := Finset.sum_range_add (fun k => if h : k < n then f ⟨k, h⟩ else 0) a b
  have a2 := Finset.sum_range_add (fun k => if h : k < n then f ⟨k, h⟩ else 0) n d
  rw [hn, a1] at a2
  simp only [Finset.sum_range] at a2
  rw [Finset.sum_eq_zero (s := (Finset.univ : Finset (Fin d))) (fun k _ => dif_neg (by omega)), add_zero] at a2
  refine Eq.trans ?_ (a2.trans (Finset.sum_congr rfl fun k _ => dif_pos k.isLt))
  congr 1
  exact Finset.sum_congr rfl fun k _ => by rw [dif_pos (lt_of_lt_of_le k.isLt ha)]

/-- The gradient of the normed rows. -/
def H (c : Dev nD) : FVec Ideal S4096x1024 .f32 := Cert.RefXIdeal.Val.dh (argW m c) (argZ m c)

theorem product_apply (c : Dev nD) (t : Fin cfg0.N) (r : Fin 512) (s : Fin 1024) :
    k0_pay4 (F := Ideal) (z1 m c t) (w1 m c t) (z2 m c t) (iblk m c 2 t) (ix2 r s) = H m c (ix2 (tok t r) s) := by
  refine Eq.trans ?_ (Cert.RefXIdeal.Val.dh_apply (argW m c) (argZ m c) (tok t r) s).symm
  rw [pay4_apply, ← sum_padded (show 2568 + 120 = 2560 + 128 from rfl) (by decide)]
  congr 1
  · exact Finset.sum_congr rfl fun k _ => by rw [z1_apply, w1_apply]
  · refine Finset.sum_congr rfl fun k _ => ?_
    rw [z2_apply, blockT]
    split <;> simp

theorem rows_apply (c : Dev nD) (t : Fin cfg0.N) (r : Fin 512) (s : Fin 1024) :
    rows m c t (ix2 r s) = argD m c (ix2 (tok t r) s)
      + Cert.Norm.kernelGrad (fun j => argX m c (ix2 (tok t r) j)) (fun j => H m c (ix2 (tok t r) j) * argG m c (ix1 j)) s := by
  unfold rows Cert.Norm.kernelGrad
  rw [pay1_apply, pay5_apply, pay7_apply]
  simp only [product_apply, blockX, blockD, blockG]

theorem gain_apply (c : Dev nD) (t : Fin cfg0.N) (acc : Vec Ideal S1x1024 .f32) (s : Fin 1024) :
    gain m c t acc (ix2 0 s) = acc (ix2 0 s) + ∑ r : Fin 512, argX m c (ix2 (tok t r) s) * Ideal.rsqrt (Cert.Norm.meanSq fun j => argX m c (ix2 (tok t r) j)) * H m c (ix2 (tok t r) s) := by
  unfold gain
  rw [pay2_apply]
  simp only [product_apply, pay6_apply, blockX]
  congr 1
  exact Finset.sum_congr rfl fun r _ => mul_comm _ _

/-! ## The gain's total -/

/-- Token `n`'s term of the gain's gradient, zero past the last token. -/
def term (c : Dev nD) (s : Fin 1024) (n : ℕ) : EReal :=
  if h : n < 4096 then argX m c (ix2 ⟨n, h⟩ s) * Ideal.rsqrt (Cert.Norm.meanSq fun j => argX m c (ix2 ⟨n, h⟩ j)) * H m c (ix2 ⟨n, h⟩ s) else 0

theorem gain_term (c : Dev nD) (t : Fin cfg0.N) (acc : Vec Ideal S1x1024 .f32) (s : Fin 1024) :
    gain m c t acc (ix2 0 s) = acc (ix2 0 s) + ∑ k ∈ Finset.range 512, term m c s (512 * t.val + k) := by
  rw [gain_apply, Finset.sum_range]
  congr 1
  refine Finset.sum_congr rfl fun r _ => ?_
  have h : 512 * t.val + r.val < 4096 := (tok t r).isLt
  unfold term
  rw [dif_pos h]
  rfl

theorem total (c : Dev nD) (s : Fin 1024) : ∀ (n : ℕ) (h : n < cfg0.N), (outsAt0 m c n h).2 (ix2 0 s) = ∑ k ∈ Finset.range (512 * (n + 1)), term m c s k := by
  intro n
  induction n with
  | zero =>
    intro h
    refine (congrFun (first_gain m c ⟨0, h⟩ rfl) _).trans ?_
    rw [gain_term, pay3_apply, zero_add]
    exact Finset.sum_congr rfl fun k _ => by rw [show 512 * (⟨0, h⟩ : Fin cfg0.N).val + k = k from by show 512 * 0 + k = k; omega]
  | succ n ih =>
    intro h
    have hN : n + 1 < 8 := lt_of_lt_of_eq h N_0
    refine (congrFun (next_gain m c ⟨n + 1, h⟩ (by show ¬(n + 1) % 8 = 0; omega)) _).trans ?_
    rw [gain_term, show 512 * (n + 1 + 1) = 512 * (n + 1) + 512 from by omega, Finset.sum_range_add]
    congr 1
    exact ih (lt_trans (Nat.lt_succ_self n) h)

/-! ## The arrays after the run -/

/-- The input's gradient and the gain's. -/
def finalX (c : Dev nD) : FVec Ideal S4096x1024 .f32 :=
  Cert.RefXIdeal.Val.gradX (argX m c) (argD m c) (Cert.RefXIdeal.Val.scaled (argG m c) (H m c))
def finalG (c : Dev nD) : FVec Ideal S1x1024 .f32 := Cert.RefXIdeal.Val.gradG (argX m c) (H m c)

theorem finalX_apply (c : Dev nD) (t : Fin 4096) (s : Fin 1024) :
    finalX m c (ix2 t s) = argD m c (ix2 t s) + Cert.Norm.kernelGrad (fun j => argX m c (ix2 t j)) (fun j => H m c (ix2 t j) * argG m c (ix1 j)) s := by
  refine (Cert.RefXIdeal.Val.gradX_apply (argX m c) (argD m c) _ t s).trans ?_
  congr 1
  exact congrArg (fun d => Cert.Norm.kernelGrad (fun j => argX m c (ix2 t j)) d s) (funext fun j => Cert.RefXIdeal.Val.scaled_apply (argG m c) (H m c) t j)

theorem flushedX (c : Dev nD) (t : Fin cfg0.N) : (dats m 0 c).flushed 6 t = ((cfg0.win 6).blk t).view.read (Elt Ideal) (finalX m c) := by
  rw [flushed6]
  funext y
  obtain ⟨r, s, rfl⟩ : ∃ (r : Fin 512) (s : Fin 1024), y = (ix2 r s : S512x1024.Idx) := ⟨y 0, y 1, by funext a; match a with | ⟨0, _⟩ => rfl | ⟨1, _⟩ => rfl⟩
  have e : ((cfg0.win 6).blk t).view.emb (ix2 r s : S512x1024.Idx) = (ix2 (tok t r) s : S4096x1024.Idx) := by
    funext a
    apply Fin.ext
    match a with
    | ⟨0, _⟩ => show win0_6.index t 0 * 512 + 1 * r.val = 512 * t.val + r.val; rw [(index_rows t).2.2.2.2.2.2.1]; omega
    | ⟨1, _⟩ => show win0_6.index t 1 * 1024 + 1 * s.val = s.val; rw [(index_rows t).2.2.2.2.2.2.2]; omega
  have hl : (cfg0.win 6).xinj (grid0.coords t) (ix2 r s : S512x1024.Idx) = (ix2 r s : S512x1024.Idx) := by
    funext a; apply Fin.ext
    match a with
    | ⟨0, _⟩ => rfl
    | ⟨1, _⟩ => rfl
  show (outsAt0 m c t.val t.isLt).1 ((cfg0.win 6).xinj (grid0.coords t) (ix2 r s : S512x1024.Idx)) = finalX m c (((cfg0.win 6).blk t).view.emb (ix2 r s : S512x1024.Idx))
  rw [hl, e, all_rows, rows_apply]
  exact (finalX_apply m c (tok t r) s).symm

theorem coveredX (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  refine ⟨⟨(i 0).val / 512, lt_of_lt_of_eq (by omega) N_0.symm⟩, flush0_6 _, ?_⟩
  have hd : (⟨(i 0).val / 512, lt_of_lt_of_eq (by omega) N_0.symm⟩ : Fin cfg0.N).val = (i 0).val / 512 := rfl
  generalize (⟨(i 0).val / 512, lt_of_lt_of_eq (by omega) N_0.symm⟩ : Fin cfg0.N) = t at *
  have e0 := (index_rows t).2.2.2.2.2.2.1
  have e1 := (index_rows t).2.2.2.2.2.2.2
  show i ∈ ((View.whole main_v7_0).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [e0]; omega
  | ⟨1, _⟩ =>
    show win0_6.index t (1 : Fin 2) * 1024 ≤ (i 1).val ∧ (i 1).val < win0_6.index t (1 : Fin 2) * 1024 + 1024
    rw [e1]; omega

theorem finalX_eq (c : Dev nD) : (dats m 0 c).arrAt 6 cfg0.N = finalX m c :=
  (dats m 0 c).arrAt_eq_of_cover 6 _ (fun t _ => flushedX m c t) coveredX

theorem flushedG (c : Dev nD) (t : Fin cfg0.N) (hf : (cfg0.win 7).flush t = true) :
    (dats m 0 c).flushed 7 t = ((cfg0.win 7).blk t).view.read (Elt Ideal) (finalG m c) := by
  have ht : t.val = 7 := by have := (flush0_7 t).mp hf; have := lt_of_lt_of_eq t.isLt N_0; omega
  rw [flushed7]
  funext y
  obtain ⟨s, rfl⟩ : ∃ (s : Fin 1024), y = (ix2 0 s : S1x1024.Idx) := ⟨y 1, by
    funext a
    match a with
    | ⟨0, _⟩ => exact Fin.ext (by have : (y 0).val < 1 := (y 0).isLt; show (y 0).val = 0; omega)
    | ⟨1, _⟩ => rfl⟩
  have e : ((cfg0.win 7).blk t).view.emb (ix2 0 s : S1x1024.Idx) = (ix2 0 s : S1x1024.Idx) := by
    funext a
    apply Fin.ext
    match a with
    | ⟨0, _⟩ => show win0_7.index t 0 * 1 + 1 * 0 = 0; rw [(index_whole t).2.2.2.2.2.2.1]
    | ⟨1, _⟩ => show win0_7.index t 1 * 1024 + 1 * s.val = s.val; rw [(index_whole t).2.2.2.2.2.2.2]; omega
  have hl : (cfg0.win 7).xinj (grid0.coords t) (ix2 0 s : S1x1024.Idx) = (ix2 0 s : S1x1024.Idx) := by
    funext a; apply Fin.ext
    match a with
    | ⟨0, _⟩ => rfl
    | ⟨1, _⟩ => rfl
  show (outsAt0 m c t.val t.isLt).2 ((cfg0.win 7).xinj (grid0.coords t) (ix2 0 s : S1x1024.Idx)) = finalG m c (((cfg0.win 7).blk t).view.emb (ix2 0 s : S1x1024.Idx))
  rw [hl, e, total, ht]
  refine Eq.trans ?_ (Cert.RefXIdeal.Val.gradG_apply (argX m c) (H m c) s).symm
  rw [show 512 * (7 + 1) = 4096 from rfl, Finset.sum_range]
  exact Finset.sum_congr rfl fun k _ => by unfold term; rw [dif_pos k.isLt]

theorem coveredG (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  refine ⟨⟨7, lt_of_lt_of_eq (by decide) N_0.symm⟩, (flush0_7 _).mpr rfl, ?_⟩
  generalize (⟨7, lt_of_lt_of_eq (by decide) N_0.symm⟩ : Fin cfg0.N) = t at *
  have e0 := (index_whole t).2.2.2.2.2.2.1
  have e1 := (index_whole t).2.2.2.2.2.2.2
  show i ∈ ((View.whole main_v7_1).slice (win0_7.rect t)).set
  rw [View.set_slice_whole, Rect.mem_set_unit]
  intro a
  match a with
  | ⟨0, _⟩ =>
    show win0_7.index t (0 : Fin 2) * 1 ≤ (i 0).val ∧ (i 0).val < win0_7.index t (0 : Fin 2) * 1 + 1
    rw [e0]; omega
  | ⟨1, _⟩ =>
    show win0_7.index t (1 : Fin 2) * 1024 ≤ (i 1).val ∧ (i 1).val < win0_7.index t (1 : Fin 2) * 1024 + 1024
    rw [e1]; omega

theorem finalG_eq (c : Dev nD) : (dats m 0 c).arrAt 7 cfg0.N = finalG m c :=
  (dats m 0 c).arrAt_eq_of_cover 7 _ (fun t hf => flushedG m c t hf) coveredG

end Cert.BwdInIdeal.Val

end
-- ==== Proof.FfnRunA.lean ====
/- The body's run at the first grid point: the four copies of the gate and up weights out of HBM fly together, each lent
   its own half of a scratch and its own read token of the source, and are waited for before the first product. -/
module

public import proofs.«01_k».proof.Proof.Gen.BwdFfnIdeal.Frame.Runs

@[expose] public section

-- membership in a rectangle of production extents (`View.cover_of_tiled`): the elaborator's structural look
-- recurses once per coordinate of the long axes
set_option maxRecDepth 16384

noncomputable section

namespace Cert.BwdFfnIdeal.Ffn

open Cert.BwdFfnIdeal Cert.BwdFfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- An array held whole is a remainder and four read tokens. -/
theorem toks4 (ℓ : Loc nD τ sig) (f : Buf (Elt F) ℓ) :
    (ℓ ↦{fullShare} f : sProp 𝕄) ⊣⊢ iprop((ℓ ↦{Transfers.shareDrop fullShare 4} f) ∗ (ℓ ↦{Transfers.shareTokN fullShare 0} f)
      ∗ (ℓ ↦{Transfers.shareTokN fullShare 1} f) ∗ (ℓ ↦{Transfers.shareTokN fullShare 2} f) ∗ (ℓ ↦{Transfers.shareTokN fullShare 3} f)) := by
  have e : BI.bigSep (Finset.range 4) (fun i => (ℓ ↦{Transfers.shareTokN fullShare i} f : sProp 𝕄))
      = iprop((ℓ ↦{Transfers.shareTokN fullShare 0} f) ∗ (ℓ ↦{Transfers.shareTokN fullShare 1} f)
        ∗ (ℓ ↦{Transfers.shareTokN fullShare 2} f) ∗ (ℓ ↦{Transfers.shareTokN fullShare 3} f)) := by
    rw [show Finset.range 4 = {0, 1, 2, 3} by decide, BI.bigSep_insert (by decide), BI.bigSep_insert (by decide), BI.bigSep_insert (by decide),
      BI.bigSep_singleton]
    rfl
  rw [← e]
  exact Transfers.pointsTo_toks_range fullShare 4

-- (the run's proof term is large: the definition's epilogue — `abstractNestedProofs` — walks it past the default budget)
set_option sl_exec.dmaWindow true in
set_option sl_exec.dmaWindowSet true in
set_option sl_exec.dmaWindowLent true in
set_option maxHeartbeats 4000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) :
    Σ' (L5 : List (View.Piece (Elt F) S256x5632 .bf16)), Σ' (L6 : List (View.Piece (Elt F) S256x1024 .f32)), Σ' (L7 : List (View.Piece (Elt F) S1x1024 .f32)), Σ' (LS0 : List (View.Piece (Elt F) S1024x2816 .bf16)), { LS1 : List (View.Piece (Elt F) S1024x2816 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0_bwd_ffn i arg1 harg1 arg2 harg2 arg3 harg3 (Memref.whole main_v2) (Memref.isWhole_whole _) arg5 harg5 arg6 harg6 arg7 harg7 arg8 harg8 arg9 harg9 arg10 harg10 arg11 harg11 cc0_scratch2) K } := by
  refine ⟨?_, ?_, ?_, ?_, ?_, fun W K => ?run⟩
  case run =>
    simp only [cc0_bwd_ffn_eq_skeleton]; unfold cc0_bwd_ffn_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hq0, Hq1, Hq2, Hq3, Hh0, HW, Hk⟩
    obtain rfl := harg1.eq_unread hf0; obtain rfl := harg2.eq_unread hf1; obtain rfl := harg3.eq_unread hf2; obtain rfl := harg5.eq_unread hf3; obtain rfl := harg6.eq_unread hf4
    ihave Hh' := (toks4 ((Memref.whole main_v2 : Memref sig .tc .hbm S4x1024x1408 .bf16).view.loc (c : Thread nD τ)) fh0).1 $$ Hh0
    icases Hh' with ⟨Hr, Ht0, Ht1, Ht2, Ht3⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hr Ht0 Ht1 Ht2 Ht3]
    · iapply (toks4 ((Memref.whole main_v2 : Memref sig .tc .hbm S4x1024x1408 .bf16).view.loc (c : Thread nD τ)) fh0).2
      iframe
    iexists _; iexact HW

end Cert.BwdFfnIdeal.Ffn

end
-- ==== Proof.FfnRunB.lean ====
/- The body's run at every later grid point: the weights are read from the scratches as the first point left them. -/
module

public import proofs.«01_k».proof.Proof.FfnRunA

@[expose] public section

-- membership in a rectangle of production extents (`View.cover_of_tiled`): the elaborator's structural look
-- recurses once per coordinate of the long axes
set_option maxRecDepth 16384

noncomputable section

namespace Cert.BwdFfnIdeal.Ffn

open Cert.BwdFfnIdeal Cert.BwdFfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the outputs it reads before covering (7) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) :
    Σ' (L5 : List (View.Piece (Elt F) S256x5632 .bf16)), Σ' (L6 : List (View.Piece (Elt F) S256x1024 .f32)), Σ' (L7 : List (View.Piece (Elt F) S1x1024 .f32)), Σ' (LS0 : List (View.Piece (Elt F) S1024x2816 .bf16)), { LS1 : List (View.Piece (Elt F) S1024x2816 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7 ∗ owns (c : Thread nD τ) arg10 fullShare xs0 ∗ owns (c : Thread nD τ) arg11 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ owns (c : Thread nD τ) arg11 fullShare xs1 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ W', owes (c : Thread nD τ) 0 W')) -∗ K ⟨⟩))
          ⊢ wp frame (wpE (defs₀ (F := F)) Variants.none c none) Set.univ (cc0_bwd_ffn i arg1 harg1 arg2 harg2 arg3 harg3 (Memref.whole main_v2) (Memref.isWhole_whole _) arg5 harg5 arg6 harg6 arg7 harg7 arg8 harg8 arg9 harg9 arg10 harg10 arg11 harg11 cc0_scratch2) K } := by
  refine ⟨?_, ?_, ?_, [], [], fun W K => ?run⟩
  case run =>
    simp only [cc0_bwd_ffn_eq_skeleton]; unfold cc0_bwd_ffn_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, ⟨%fs1, %hfs1, HS1⟩, Hq0, Hq1, Hq2, Hq3, Hh0, HW, Hk⟩
    obtain rfl := harg1.eq_unread hf0; obtain rfl := harg2.eq_unread hf1; obtain rfl := harg3.eq_unread hf2; obtain rfl := harg5.eq_unread hf3; obtain rfl := harg6.eq_unread hf4; obtain rfl := harg9.eq_unread hf7; obtain rfl := harg10.eq_unread hfs0; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]
    · iexists _; isplitr; · ipureintro; exact harg10.read_unread _
      iexact HS0
    isplitl [HS1]
    · iexists _; isplitr; · ipureintro; exact harg11.read_unread _
      iexact HS1
    isplitl [Hq0]; · iexact Hq0
    isplitl [Hq1]; · iexact Hq1
    isplitl [Hq2]; · iexact Hq2
    isplitl [Hq3]; · iexact Hq3
    isplitl [Hh0]; · iexact Hh0
    iexists _; iexact HW

end Cert.BwdFfnIdeal.Ffn

end
-- ==== Proof.FfnFrame.lean ====
/- What the outputs and the two carried scratches hold point by point, the obligation of one grid point, the launch and
   the frame of the whole call. -/
module

public import proofs.«01_k».proof.Proof.FfnRunB
public import Idealize.ShloMosaic.Lib.Claim

@[expose] public section

-- membership in a rectangle of production extents (`View.cover_of_tiled`): the elaborator's structural look
-- recurses once per coordinate of the long axes
set_option maxRecDepth 16384

noncomputable section

namespace Cert.BwdFfnIdeal.Ffn

open Cert.BwdFfnIdeal Cert.BwdFfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 5 tile its block (2 stores of `S256x2816`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) (y : S256x5632.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).1, y ∈ pc.1.set :=
  View.cover_of_tiledL (kernelRun0_A c i arg1 harg1 arg2 harg2 arg3 harg3 arg5 harg5 arg6 harg6 arg7 harg7 arg8 harg8 arg9 harg9 arg10 harg10 arg11 harg11 hc0 x0 x1 x2 x3 x4 fh0).1 S256x2816.size (by sl_kernel_rfl) y

/-- What case A leaves in output 5's staging buffer: its pieces read back over junk. -/
def out0_A_5 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) : Vec F S256x5632 .bf16 :=
  VO0_5.read (Elt F) (VO0_5.writes (Elt F) VO0_5.junk (kernelRun0_A c i arg1 harg1 arg2 harg2 arg3 harg3 arg5 harg5 arg6 harg6 arg7 harg7 arg8 harg8 arg9 harg9 arg10 harg10 arg11 harg11 hc0 x0 x1 x2 x3 x4 fh0).1)

/-- Case A's pieces for output 6 tile its block (1 store of `S256x1024`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) (y : S256x1024.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).2.1, y ∈ pc.1.set :=
  View.cover_of_tiledL (kernelRun0_A c i arg1 harg1 arg2 harg2 arg3 harg3 arg5 harg5 arg6 harg6 arg7 harg7 arg8 harg8 arg9 harg9 arg10 harg10 arg11 harg11 hc0 x0 x1 x2 x3 x4 fh0).2.1 S256x1024.size (by sl_kernel_rfl) y

/-- What case A leaves in output 6's staging buffer: its pieces read back over junk. -/
def out0_A_6 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) : Vec F S256x1024 .f32 :=
  VO0_6.read (Elt F) (VO0_6.writes (Elt F) VO0_6.junk (kernelRun0_A c i arg1 harg1 arg2 harg2 arg3 harg3 arg5 harg5 arg6 harg6 arg7 harg7 arg8 harg8 arg9 harg9 arg10 harg10 arg11 harg11 hc0 x0 x1 x2 x3 x4 fh0).2.1)

/-- Case A's pieces for output 7 tile its block (2 stores of `S1x1024`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) (y : S1x1024.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).2.2.1, y ∈ pc.1.set :=
  View.cover_of_tiledL (kernelRun0_A c i arg1 harg1 arg2 harg2 arg3 harg3 arg5 harg5 arg6 harg6 arg7 harg7 arg8 harg8 arg9 harg9 arg10 harg10 arg11 harg11 hc0 x0 x1 x2 x3 x4 fh0).2.2.1 S1x1024.size (by sl_kernel_rfl) y

/-- What case A leaves in output 7's staging buffer: its pieces read back over junk. -/
def out0_A_7 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) : Vec F S1x1024 .f32 :=
  VO0_7.read (Elt F) (VO0_7.writes (Elt F) VO0_7.junk (kernelRun0_A c i arg1 harg1 arg2 harg2 arg3 harg3 arg5 harg5 arg6 harg6 arg7 harg7 arg8 harg8 arg9 harg9 arg10 harg10 arg11 harg11 hc0 x0 x1 x2 x3 x4 fh0).2.2.1)

/-- Case A's pieces for scratch `arg10`, which the kernel carries between points, cover it: 2 pieces of `S1024x1408` tiling it (Lib/Ring.lean `Piece.tiledL`). -/
theorem scover0_A_0 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) (y : S1024x2816.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).2.2.2.1, y ∈ pc.1.set :=
  View.cover_of_tiledL (kernelRun0_A c i arg1 harg1 arg2 harg2 arg3 harg3 arg5 harg5 arg6 harg6 arg7 harg7 arg8 harg8 arg9 harg9 arg10 harg10 arg11 harg11 hc0 x0 x1 x2 x3 x4 fh0).2.2.2.1 S1024x1408.size (by sl_kernel_rfl) y

/-- What case A leaves in scratch `arg10`: its pieces read back over junk. -/
def sout0_A_0 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) : Vec F S1024x2816 .bf16 :=
  VS0_0.read (Elt F) (VS0_0.writes (Elt F) VS0_0.junk (kernelRun0_A c i arg1 harg1 arg2 harg2 arg3 harg3 arg5 harg5 arg6 harg6 arg7 harg7 arg8 harg8 arg9 harg9 arg10 harg10 arg11 harg11 hc0 x0 x1 x2 x3 x4 fh0).2.2.2.1)

/-- Case A's pieces for scratch `arg11`, which the kernel carries between points, cover it: 2 pieces of `S1024x1408` tiling it (Lib/Ring.lean `Piece.tiledL`). -/
theorem scover0_A_1 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) (y : S1024x2816.Idx) :
    ∃ pc ∈ (kernelRun0_A c i arg1 harg1 arg2 harg2 arg3 harg3 arg5 harg5 arg6 harg6 arg7 harg7 arg8 harg8 arg9 harg9 arg10 harg10 arg11 harg11 hc0 x0 x1 x2 x3 x4 fh0).2.2.2.2.1, y ∈ pc.1.set :=
  View.cover_of_tiledL (kernelRun0_A c i arg1 harg1 arg2 harg2 arg3 harg3 arg5 harg5 arg6 harg6 arg7 harg7 arg8 harg8 arg9 harg9 arg10 harg10 arg11 harg11 hc0 x0 x1 x2 x3 x4 fh0).2.2.2.2.1 S1024x1408.size (by sl_kernel_rfl) y

/-- What case A leaves in scratch `arg11`: its pieces read back over junk. -/
def sout0_A_1 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : cond0_0 i)
    (x0 : Vec F S256x1024 .f32) (x1 : Vec F S256x5632 .f32) (x2 : Vec F S256x1024 .f32) (x3 : Vec F S2816x1024 .bf16) (x4 : Vec F S1x1024 .f32) (fh0 : HbBuf0 (F := F) c hbM0_0) : Vec F S1024x2816 .bf16 :=
  VS0_1.read (Elt F) (VS0_1.writes (Elt F) VS0_1.junk (kernelRun0_A c i arg1 harg1 arg2 harg2 arg3 harg3 arg5 harg5 arg6 harg6 arg7 harg7 arg8 harg8 arg9 harg9 arg10 harg10 arg11 harg11 hc0 x0 x1 x2 x3 x4 fh0).2.2.2.2.1)

/-- Case B's pieces for output 5 tile its block (2 stores of `S256x2816`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) (y : S256x5632.Idx) :
    ∃ pc ∈ (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).1, y ∈ pc.1.set :=
  View.cover_of_tiledL (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).1 S256x2816.size (by sl_kernel_rfl) y

/-- What case B leaves in output 5's staging buffer: its pieces read back over junk. -/
def out0_B_5 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) : Vec F S256x5632 .bf16 :=
  VO0_5.read (Elt F) (VO0_5.writes (Elt F) VO0_5.junk (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).1)

/-- Case B's pieces for output 6 tile its block (1 store of `S256x1024`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) (y : S256x1024.Idx) :
    ∃ pc ∈ (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.1, y ∈ pc.1.set :=
  View.cover_of_tiledL (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.1 S256x1024.size (by sl_kernel_rfl) y

/-- What case B leaves in output 6's staging buffer: its pieces read back over junk. -/
def out0_B_6 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) : Vec F S256x1024 .f32 :=
  VO0_6.read (Elt F) (VO0_6.writes (Elt F) VO0_6.junk (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.1)

/-- Case B's pieces for output 7 tile its block (1 store of `S1x1024`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) (y : S1x1024.Idx) :
    ∃ pc ∈ (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.2.1, y ∈ pc.1.set :=
  View.cover_of_tiledL (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.2.1 S1x1024.size (by sl_kernel_rfl) y

/-- What case B leaves in output 7's staging buffer: its pieces read back over junk. -/
def out0_B_7 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) : Vec F S1x1024 .f32 :=
  VO0_7.read (Elt F) (VO0_7.writes (Elt F) VO0_7.junk (kernelRun0_B c i arg1 harg1 arg2 harg2 arg3 harg3 arg5 harg5 arg6 harg6 arg7 harg7 arg8 harg8 arg9 harg9 arg10 harg10 arg11 harg11 hc0 x0 x1 x2 x3 x4 xo7 xs0 xs1 fh0).2.2.1)

/-- Case B stores nothing into scratch `arg10`: it holds what the point before left. -/
def sout0_B_0 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) : Vec F S1024x2816 .bf16 := xs0

/-- Case B stores nothing into scratch `arg11`: it holds what the point before left. -/
def sout0_B_1 (c : Dev nD) (i : grid0.Coords) (arg1 : Memref sig .tc .vmem S256x1024 .f32) (harg1 : arg1.IsWhole) (arg2 : Memref sig .tc .vmem S256x5632 .f32) (harg2 : arg2.IsWhole) (arg3 : Memref sig .tc .vmem S256x1024 .f32) (harg3 : arg3.IsWhole) (arg5 : Memref sig .tc .vmem S2816x1024 .bf16) (harg5 : arg5.IsWhole) (arg6 : Memref sig .tc .vmem S1x1024 .f32) (harg6 : arg6.IsWhole) (arg7 : Memref sig .tc .vmem S256x5632 .bf16) (harg7 : arg7.IsWhole) (arg8 : Memref sig .tc .vmem S256x1024 .f32) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (hc0 : ¬cond0_0 i)
    (x0 : Vec F S256x1024 .f32) (x1 : Vec F S256x5632 .f32) (x2 : Vec F S256x1024 .f32) (x3 : Vec F S2816x1024 .bf16) (x4 : Vec F S1x1024 .f32) (xo7 : Vec F S1x1024 .f32) (xs0 : Vec F S1024x2816 .bf16) (xs1 : Vec F S1024x2816 .bf16) (fh0 : HbBuf0 (F := F) c hbM0_0) : Vec F S1024x2816 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x5632 .bf16 × Vec F S256x1024 .f32 × Vec F S1x1024 .f32 × Vec F S1024x2816 .bf16 × Vec F S1024x2816 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2))
  | n + 1, hn =>
    if h0 : (n + 1) % 16 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_v2), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_v2), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_v2), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_v2), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2 (V m c main_v2))

/-- `outsAt0` at a point of case A: that case's contents. -/
theorem outsAt0_A (c : Dev nD) (t : Fin cfg0.N) (h0 : t.val % 16 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v2), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v2), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v2), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v2), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v2)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v2), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v2), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v2), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v2), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v2)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v2)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v2))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_v2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 16 = 0) (d) :
    (dats m 0 c).before 7 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold out0_A_5 out0_A_6 out0_A_7 sout0_A_0 sout0_A_1; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (V m c main_v2)).2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, ⟨%e5, H5⟩, ⟨%e6, H6⟩, ⟨%e7, H7⟩, ⟨%es0, HS0⟩, ⟨%es1, HS1⟩, Hq0, Hq1, Hq2, Hq3, Hh0, ⟨%W', HW'⟩⟩
      isplitl [HS0 HS1 Hg Hq0 Hq1 Hq2 Hq3 Hh0]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _)
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_7_B m c t h0]
      unfold out0_B_5 out0_B_6 out0_B_7 sout0_B_0 sout0_B_1; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ (V m c main_v2)).2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, ⟨%e5, H5⟩, ⟨%e6, H6⟩, ⟨%e7, H7⟩, HS0, HS1, Hq0, Hq1, Hq2, Hq3, Hh0, ⟨%W', HW'⟩⟩
      isplitl [HS0 HS1 Hg Hq0 Hq1 Hq2 Hq3 Hh0]
      · isplitl [HS0 HS1]
        · isplitl [HS0]; · iexact HS0
          iexact HS1
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3⟩, Hh0⟩
  isplitl [HS0 HS1]
  · isplitl [HS0]
    · iexists _; iexact HS0
    iexists _; iexact HS1
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the run ends, leaves its arguments unchanged, and every semaphore's counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.BwdFfnIdeal.Ffn

end
-- ==== Proof.FfnBits.lean ====
/-
  The frame of the feed-forward layer's gradient over words, from the run that its reading over any values has: the two programs have the same text,
  so that their body tables are equal, and a run of the one is a run of the other.
-/
module

public import proofs.«01_k».proof.Defs
public import proofs.«01_k».proof.Proof.FfnFrame
public import proofs.«01_k».proof.Proof.Gen.BwdFfn
public import proofs.«01_k».proof.Proof.Gen.BwdFfnIdeal

@[expose] public section

noncomputable section

namespace Cert.BwdFfn.Words

open Idealize.ShloMosaic Idealize.ShloMosaic.TcCoe Idealize.SL.Sem

set_option maxRecDepth 100000 in
/-- The kernels' body tables: the one label's body is the same in both. -/
theorem bodies : Cert.BwdFfn.defs₀ (F := Bits) = Cert.BwdFfnIdeal.defs₀ (F := Bits) := by
  unfold Cert.BwdFfn.defs₀ Cert.BwdFfnIdeal.defs₀
  refine congrArg (Defs.onTc (nD := Cert.BwdFfnIdeal.nD) (τ := Cert.BwdFfnIdeal.τ) (sig := Cert.BwdFfnIdeal.sig) (Λ := Cert.BwdFfnIdeal.Λ₀)) ?_
  funext l x
  obtain ⟨l, hl⟩ := l
  cases l with
  | zero => rfl
  | succ n => exact absurd hl (Nat.not_lt.2 (Nat.le_add_left _ _))

set_option maxRecDepth 100000 in
theorem tables : Cert.BwdFfn.defs (F := Bits) = Cert.BwdFfnIdeal.defs (F := Bits) :=
  congrArg (Pipeline.defs (Cert.BwdFfnIdeal.pcfgs (F := Bits))) bodies

set_option maxRecDepth 100000 in
theorem frame : Cert.quiescent_BwdFfn (hBwdFfn := Cert.BwdFfn.Gen.facts) := fun m ρ _ => by
  have h := Cert.BwdFfnIdeal.Ffn.frame (F := Bits) m ρ
  rw [← tables] at h
  exact h

end Cert.BwdFfn.Words

end
-- ==== Proof.FfnValue.lean ====
/- The output arrays after the run, block by block. -/
module

public import proofs.«01_k».proof.Proof.FfnFrame
public import Idealize.ShloMosaic.Lib.Pipeline.Value

@[expose] public section

noncomputable section

namespace Cert.BwdFfnIdeal.FfnVal

open Cert.BwdFfnIdeal Cert.BwdFfnIdeal.Gen Cert.BwdFfnIdeal.Ffn Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 16 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v2)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 16 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v2)) := by
  simp only [flushed5, outsAt0_B m c t h0]

/-- The index map sends distinct grid points to distinct block indices (decided over the 16 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4096x5632.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 16 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v2)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 16 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v2)) := by
  simp only [flushed6, outsAt0_B m c t h0]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4096x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (V m c main_v2)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_v2)) := by
  simp only [flushed7, outsAt0_B m c t h0]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S1x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v19_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v19_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v19_2) = (dats m 0 c).arrAt 7 cfg0.N :=
  (h c).1 7

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 0 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 0).trans (((dats m 0 c).arrAt_in 0 rfl _).trans ((A_eq m c 0).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v19_0) = (dats m 0 c).arrAt 5 cfg0.N
      ∧ r.2.mem ((c : Thread nD τ).loc main_v19_1) = (dats m 0 c).arrAt 6 cfg0.N
      ∧ r.2.mem ((c : Thread nD τ).loc main_v19_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1024x2816 .bf16) : Vec F S1024x2816 .bf16 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v2)
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2 (V m c main_v2)

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.1 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2.2.1) 16 (fun n h => scAt0_0 m c n h (VS0_0.read (Elt F) VS0_0.junk)) (scAt0_0 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S1024x2816 .bf16) : Vec F S1024x2816 .bf16 :=
  if h0 : n % 16 = 0 then
    sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (V m c main_v2)
  else
    sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (V m c main_v2)

/-- WHAT CARRIED SCRATCH 1 HOLDS after point `t`: the fold of its run up to `t`, from the reset at the run's first point
    `16·(t / 16)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.2 = Pipeline.accAt (fun n h => scAt0_1 m c n h (VS0_1.read (Elt F) VS0_1.junk)) (scAt0_1 m c) (16 * (t.val / 16)) (t.val % 16)
      (by have h1 := t.isLt; have h2 := Nat.div_add_mod t.val 16; omega) :=
  Pipeline.eq_accAt_of_mod (fun n h => (outsAt0 m c n h).2.2.2.2) 16 (fun n h => scAt0_1 m c n h (VS0_1.read (Elt F) VS0_1.junk)) (scAt0_1 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_1; rw [dif_pos h0] <;> try rfl) | (rw [outsAt0_B m c ⟨n, h⟩ h0]; dsimp only; unfold scAt0_1; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_1; rw [dif_pos h0] <;> try rfl) | (rw [outsAt0_B m c ⟨n + 1, h⟩ h0]; dsimp only; unfold scAt0_1; rw [dif_neg h0] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

end Cert.BwdFfnIdeal.FfnVal

end
-- ==== Proof.FfnBlk.lean ====
/-
  The feed-forward layer's backward pass: sixteen blocks of 256 tokens. The first block copies the four slabs of the gate and up
  projections' weight into two buffers that the later blocks find there. What a block writes, as a term in its operands.
-/
module

public import proofs.«01_k».proof.Proof.FfnValue
public import Idealize.ShloMosaic.Lib.Tactic
public import Idealize.ShloMosaic.Lib.Pointwise
public import Idealize.ShloMosaic.Lib.ValueLayout

@[expose] public section

noncomputable section

namespace Cert.BwdFfnIdeal.Val

open Cert.BwdFfnIdeal Cert.BwdFfnIdeal.Gen Cert.BwdFfnIdeal.Ffn Cert.BwdFfnIdeal.FfnVal
open Idealize.ShloMosaic Idealize.ShloMosaic.TcCoe Idealize.SL.Sem

theorem hz : (![0, 0] : Fin 2 → Nat) = fun _ => 0 := funext fun a => by fin_cases a <;> rfl

section AnyValues
variable {F : FTy → Type} [FloatOps F]

/-- Two slabs of the weight side by side. -/
def pair (i j : Fin 4) (X : Vec F S4x1024x1408 .bf16) : Vec F S1024x2816 .bf16 := fun y =>
  if h : (y 1).val < 1408 then X (ix3 i (y 0) ⟨(y 1).val, h⟩)
  else X (ix3 j (y 0) ⟨(y 1).val - 1408, by have : (y 1).val < 2816 := (y 1).isLt; omega⟩)

/-- The slab that a copy reads. -/
theorem slab (X : Vec F S4x1024x1408 .bf16) (o : Fin 3 → ℕ) (i : Fin 4) (h0 : o 0 = i.val) (h1 : o 1 = 0) (h2 : o 2 = 0) (inb) (hn) (k : Fin 1024) (s : Fin 1408) :
    View.read (Elt F) (((View.whole main_v2).slice (Rect.unit (s := S4x1024x1408) o ![1, 1024, 1408] inb)).reshape S1024x1408 hn) X (ix2 k s : S1024x1408.Idx) = X (ix3 i k s) := by
  rw [View.read_apply]
  refine congrArg X ?_
  show (Rect.unit (s := S4x1024x1408) o ![1, 1024, 1408] inb).emb (Shape.reshapeEquiv hn (ix2 k s)) = _
  have e : Shape.reshapeEquiv hn (ix2 k s : S1024x1408.Idx) = (ix3 (⟨0, Nat.one_pos⟩ : Fin 1) k s : S1x1024x1408.Idx) := ValueIdx.reshapeEquiv_ix2_1ab hn k s
  refine (congrArg (Rect.unit (s := S4x1024x1408) o ![1, 1024, 1408] inb).emb e).trans ?_
  funext a
  apply Fin.ext
  match a with
  | ⟨0, _⟩ => show o 0 + 1 * 0 = i.val; omega
  | ⟨1, _⟩ => show o 1 + 1 * k.val = k.val; omega
  | ⟨2, _⟩ => show o 2 + 1 * s.val = s.val; omega

/-- Two copies, the one at the left half and the other at the right. -/
theorem copied (a b : Vec F S1024x1408 .bf16) (i j : Fin 4) (X : Vec F S4x1024x1408 .bf16)
    (ha : ∀ k s, a (ix2 k s) = X (ix3 i k s)) (hb : ∀ k s, b (ix2 k s) = X (ix3 j k s)) (inb inb') :
    View.canon (Val := Elt F) (s := S1024x2816) (e := .bf16) [⟨Rect.unit (s := S1024x2816) ![0, 1408] ![1024, 1408] inb, b⟩, ⟨Rect.unit (s := S1024x2816) ![0, 0] ![1024, 1408] inb', a⟩] = pair i j X := by
  funext y
  by_cases h : (y 1).val < 1408
  · have e : y = (Rect.unit (s := S1024x2816) ![0, 0] ![1024, 1408] inb').emb (ix2 (y 0) ⟨(y 1).val, h⟩ : S1024x1408.Idx) := by
      funext z
      apply Fin.ext
      match z with
      | ⟨0, _⟩ => show (y 0).val = 0 + 1 * (y 0).val; omega
      | ⟨1, _⟩ => show (y 1).val = 0 + 1 * (y 1).val; omega
    rw [View.canon_cons_of_not_mem]
    · conv_lhs => rw [e]
      rw [View.canon_cons_emb]
      unfold pair
      rw [dif_pos h]
      exact ha _ _
    · rw [Rect.mem_set_unit]
      intro hm
      have := (hm 1).1
      have h' : 1408 ≤ (y 1).val := this
      omega
  · have hy : (y 1).val < 2816 := (y 1).isLt
    have e : y = (Rect.unit (s := S1024x2816) ![0, 1408] ![1024, 1408] inb).emb (ix2 (y 0) ⟨(y 1).val - 1408, by omega⟩ : S1024x1408.Idx) := by
      funext z
      apply Fin.ext
      match z with
      | ⟨0, _⟩ => show (y 0).val = 0 + 1 * (y 0).val; omega
      | ⟨1, _⟩ => show (y 1).val = 1408 + 1 * ((y 1).val - 1408); omega
    conv_lhs => rw [e]
    rw [View.canon_cons_emb]
    unfold pair
    rw [dif_neg h]
    exact hb _ _

/-- Two blocks written side by side. -/
def halves (a b : Vec F S256x2816 .bf16) : Vec F S256x5632 .bf16 := fun y =>
  if h : (y 1).val < 2816 then a (ix2 (y 0) ⟨(y 1).val, h⟩)
  else b (ix2 (y 0) ⟨(y 1).val - 2816, by have : (y 1).val < 5632 := (y 1).isLt; omega⟩)

theorem written (a b : Vec F S256x2816 .bf16) (inb inb') :
    View.canon (Val := Elt F) (s := S256x5632) (e := .bf16) [⟨Rect.unit (s := S256x5632) ![0, 2816] S256x2816.size inb, b⟩, ⟨Rect.unit (s := S256x5632) ![0, 0] S256x2816.size inb', a⟩] = halves a b := by
  funext y
  by_cases h : (y 1).val < 2816
  · have e : y = (Rect.unit (s := S256x5632) ![0, 0] S256x2816.size inb').emb (ix2 (y 0) ⟨(y 1).val, h⟩ : S256x2816.Idx) := by
      funext z
      apply Fin.ext
      match z with
      | ⟨0, _⟩ => show (y 0).val = 0 + 1 * (y 0).val; omega
      | ⟨1, _⟩ => show (y 1).val = 0 + 1 * (y 1).val; omega
    rw [View.canon_cons_of_not_mem]
    · conv_lhs => rw [e]
      rw [View.canon_cons_emb]
      unfold halves
      rw [dif_pos h]
    · rw [Rect.mem_set_unit]
      intro hm
      have := (hm 1).1
      have h' : 2816 ≤ (y 1).val := this
      omega
  · have hy : (y 1).val < 5632 := (y 1).isLt
    have e : y = (Rect.unit (s := S256x5632) ![0, 2816] S256x2816.size inb).emb (ix2 (y 0) ⟨(y 1).val - 2816, by omega⟩ : S256x2816.Idx) := by
      funext z
      apply Fin.ext
      match z with
      | ⟨0, _⟩ => show (y 0).val = 0 + 1 * (y 0).val; omega
      | ⟨1, _⟩ => show (y 1).val = 2816 + 1 * ((y 1).val - 2816); omega
    conv_lhs => rw [e]
    rw [View.canon_cons_emb]
    unfold halves
    rw [dif_neg h]

variable (m : (ℓ : Loc nD τ sig) → Buf (Elt F) ℓ)

/-- A block's gate and up projections. -/
def pre (c : Dev nD) (t : Fin cfg0.N) : Vec F S256x2816 .f32 := View.ld (S := S256x5632) (iblk m c 1 t) (Rect.unit (s := S256x5632) ![0, 0] S256x2816.size inb_S256x5632_S256x2816_0_0)
def upb (c : Dev nD) (t : Fin cfg0.N) : Vec F S256x2816 .f32 := View.ld (S := S256x5632) (iblk m c 1 t) (Rect.unit (s := S256x5632) ![0, 2816] S256x2816.size inb_S256x5632_S256x2816_0_2816)

/-- Their gradients. -/
def dp (c : Dev nD) (t : Fin cfg0.N) : Vec F S256x2816 .bf16 := k0_pay5 (iblk m c 0 t) (iblk m c 3 t) (pre m c t) (upb m c t)
def du (c : Dev nD) (t : Fin cfg0.N) : Vec F S256x2816 .bf16 := k0_pay6 (iblk m c 0 t) (iblk m c 3 t) (pre m c t)

/-- The two halves of the weight, as the buffers hold them. -/
def wg (c : Dev nD) : Vec F S1024x2816 .bf16 := pair 0 1 (V m c main_v2)
def wu (c : Dev nD) : Vec F S1024x2816 .bf16 := pair 2 3 (V m c main_v2)

/-- What a block writes of the input's gradient, and what it makes of the gain's from what the total held. -/
def rows (c : Dev nD) (t : Fin cfg0.N) : Vec F S256x1024 .f32 :=
  k0_pay10 (iblk m c 0 t) (dp m c t) (du m c t) (wg m c) (wu m c) (iblk m c 2 t) (iblk m c 4 t)
def gain (c : Dev nD) (t : Fin cfg0.N) (acc : Vec F S1x1024 .f32) : Vec F S1x1024 .f32 :=
  k0_pay11 (dp m c t) (du m c t) (wg m c) (wu m c) (iblk m c 2 t) acc

theorem first_wg (c : Dev nD) (t : Fin cfg0.N) (h0 : t.val % 16 = 0) : (outsAt0 m c t.val t.isLt).2.2.2.1 = wg m c := by
  rw [outsAt0_A m c t h0]
  dsimp only
  unfold sout0_A_0
  rw [View.read_writes_eq_canon _ _ _ (scover0_A_0 c _ _ _ _ _ _ _ _ _ _ _ _ _ _ _ _ _ _ _ _ _ _ _ _ _ _ _ _)]
  unfold kernelRun0_A
  dsimp only
  sl_unfold_words
  exact copied _ _ 0 1 (V m c main_v2) (fun k s => slab _ _ 0 rfl rfl rfl _ _ k s) (fun k s => slab _ _ 1 rfl rfl rfl _ _ k s) _ _

theorem first_wu (c : Dev nD) (t : Fin cfg0.N) (h0 : t.val % 16 = 0) : (outsAt0 m c t.val t.isLt).2.2.2.2 = wu m c := by
  rw [outsAt0_A m c t h0]
  dsimp only
  unfold sout0_A_1
  rw [View.read_writes_eq_canon _ _ _ (scover0_A_1 c _ _ _ _ _ _ _ _ _ _ _ _ _ _ _ _ _ _ _ _ _ _ _ _ _ _ _ _)]
  unfold kernelRun0_A
  dsimp only
  sl_unfold_words
  exact copied _ _ 2 3 (V m c main_v2) (fun k s => slab _ _ 2 rfl rfl rfl _ _ k s) (fun k s => slab _ _ 3 rfl rfl rfl _ _ k s) _ _

/-- The loads of the first block find the halves. -/
theorem loaded_wg (c : Dev nD) (i i') (h h') (hq) :
    scM0_0.view.readCov (Val := Elt F)
        [⟨Rect.unit (s := S1024x2816) ![0, 1408] S1024x1408.size i, ReadAs.same.apply (View.read (Elt F) (((Memref.whole main_v2).slice (Rect.unit (s := S4x1024x1408) ![1, 0, 0] S1x1024x1408.size h) (fun _ => rfl)).squeeze S1024x1408 hq).view (V m c main_v2))⟩,
          ⟨Rect.unit (s := S1024x2816) ![0, 0] S1024x1408.size i', ReadAs.same.apply (View.read (Elt F) (((Memref.whole main_v2).slice (Rect.unit (s := S4x1024x1408) ![0, 0, 0] S1x1024x1408.size h') (fun _ => rfl)).squeeze S1024x1408 hq).view (V m c main_v2))⟩]
        (Rect.unit (s := S1024x2816) ![0, 0] S1024x2816.size inb_S1024x2816_S1024x2816_0_0).toLoadRect = wg m c := by
  rw [View.readCov_eq_canon']
  refine (View.ld_unit_zero (S := S1024x2816) hz _ _).trans ?_
  exact copied _ _ 0 1 (V m c main_v2) (fun k s => slab _ _ 0 rfl rfl rfl _ _ k s) (fun k s => slab _ _ 1 rfl rfl rfl _ _ k s) _ _

theorem loaded_wu (c : Dev nD) (i i') (h h') (hq) :
    scM0_1.view.readCov (Val := Elt F)
        [⟨Rect.unit (s := S1024x2816) ![0, 1408] S1024x1408.size i, ReadAs.same.apply (View.read (Elt F) (((Memref.whole main_v2).slice (Rect.unit (s := S4x1024x1408) ![3, 0, 0] S1x1024x1408.size h) (fun _ => rfl)).squeeze S1024x1408 hq).view (V m c main_v2))⟩,
          ⟨Rect.unit (s := S1024x2816) ![0, 0] S1024x1408.size i', ReadAs.same.apply (View.read (Elt F) (((Memref.whole main_v2).slice (Rect.unit (s := S4x1024x1408) ![2, 0, 0] S1x1024x1408.size h') (fun _ => rfl)).squeeze S1024x1408 hq).view (V m c main_v2))⟩]
        (Rect.unit (s := S1024x2816) ![0, 0] S1024x2816.size inb_S1024x2816_S1024x2816_0_0).toLoadRect = wu m c := by
  rw [View.readCov_eq_canon']
  refine (View.ld_unit_zero (S := S1024x2816) hz _ _).trans ?_
  exact copied _ _ 2 3 (V m c main_v2) (fun k s => slab _ _ 2 rfl rfl rfl _ _ k s) (fun k s => slab _ _ 3 rfl rfl rfl _ _ k s) _ _

/-- The later blocks leave the buffers as they are. -/
theorem next_w (c : Dev nD) (t : Fin cfg0.N) (h0 : ¬t.val % 16 = 0) :
    (outsAt0 m c t.val t.isLt).2.2.2 = (outsAt0 m c (t.val - 1) (Nat.lt_of_le_of_lt (Nat.sub_le _ _) t.isLt)).2.2.2 := by
  rw [outsAt0_B m c t h0]
  dsimp only
  rfl

theorem held (c : Dev nD) : ∀ (n : ℕ) (h : n < cfg0.N), (outsAt0 m c n h).2.2.2 = (wg m c, wu m c) := by
  intro n
  induction n with
  | zero => intro h; exact Prod.ext (first_wg m c ⟨0, h⟩ rfl) (first_wu m c ⟨0, h⟩ rfl)
  | succ n ih =>
    intro h
    have hN : n + 1 < 16 := lt_of_lt_of_eq h N_0
    exact (next_w m c ⟨n + 1, h⟩ (by show ¬(n + 1) % 16 = 0; omega)).trans (ih (lt_trans (Nat.lt_succ_self n) h))

theorem first_dgu (c : Dev nD) (t : Fin cfg0.N) (h0 : t.val % 16 = 0) : (outsAt0 m c t.val t.isLt).1 = halves (dp m c t) (du m c t) := by
  rw [outsAt0_A m c t h0]
  dsimp only
  unfold out0_A_5
  rw [View.read_writes_eq_canon _ _ _ (cover0_A_5 c _ _ _ _ _ _ _ _ _ _ _ _ _ _ _ _ _ _ _ _ _ _ _ _ _ _ _ _)]
  unfold kernelRun0_A
  dsimp only
  sl_unfold_words
  refine (written _ _ _ _).trans ?_
  simp only [View.readAt_eq_ld, (hs0_0 t).read_unread, (hs0_1 t).read_unread, (hs0_2 t).read_unread, (hs0_3 t).read_unread, (hs0_4 t).read_unread, View.ld_unit_zero (S := S256x1024) hz, View.ld_unit_zero (S := S2816x1024) hz, View.ld_unit_zero (S := S1x1024) hz]
  rfl

theorem next_dgu (c : Dev nD) (t : Fin cfg0.N) (h0 : ¬t.val % 16 = 0) : (outsAt0 m c t.val t.isLt).1 = halves (dp m c t) (du m c t) := by
  rw [outsAt0_B m c t h0]
  dsimp only
  unfold out0_B_5
  rw [View.read_writes_eq_canon _ _ _ (cover0_B_5 c _ _ _ _ _ _ _ _ _ _ _ _ _ _ _ _ _ _ _ _ _ _ _ _ _ _ _ _ _ _ _)]
  unfold kernelRun0_B
  dsimp only
  sl_unfold_words
  refine (written _ _ _ _).trans ?_
  simp only [View.readAt_eq_ld, (hs0_0 t).read_unread, (hs0_1 t).read_unread, (hs0_2 t).read_unread, (hs0_3 t).read_unread, (hs0_4 t).read_unread, View.ld_unit_zero (S := S256x1024) hz, View.ld_unit_zero (S := S2816x1024) hz, View.ld_unit_zero (S := S1x1024) hz]
  rfl

theorem all_dgu (c : Dev nD) (t : Fin cfg0.N) : (outsAt0 m c t.val t.isLt).1 = halves (dp m c t) (du m c t) := by
  by_cases h : t.val % 16 = 0
  · exact first_dgu m c t h
  · exact next_dgu m c t h

theorem first_rows (c : Dev nD) (t : Fin cfg0.N) (h0 : t.val % 16 = 0) : (outsAt0 m c t.val t.isLt).2.1 = rows m c t := by
  rw [outsAt0_A m c t h0]
  dsimp only
  unfold out0_A_6
  rw [View.read_writes_eq_canon _ _ _ (cover0_A_6 c _ _ _ _ _ _ _ _ _ _ _ _ _ _ _ _ _ _ _ _ _ _ _ _ _ _ _ _)]
  unfold kernelRun0_A
  dsimp only
  sl_unfold_words
  rw [View.canon_unit_zero hz, loaded_wg, loaded_wu]
  simp only [View.readAt_eq_ld, (hs0_0 t).read_unread, (hs0_1 t).read_unread, (hs0_2 t).read_unread, (hs0_3 t).read_unread, (hs0_4 t).read_unread, View.ld_unit_zero (S := S256x1024) hz, View.ld_unit_zero (S := S2816x1024) hz, View.ld_unit_zero (S := S1x1024) hz]
  rfl

theorem next_rows (c : Dev nD) (t : Fin cfg0.N) (h0 : ¬t.val % 16 = 0) : (outsAt0 m c t.val t.isLt).2.1 = rows m c t := by
  rw [outsAt0_B m c t h0]
  dsimp only
  rw [held]
  unfold out0_B_6
  rw [View.read_writes_eq_canon _ _ _ (cover0_B_6 c _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S256x1024) hz, View.ld_unit_zero (S := S2816x1024) hz, View.ld_unit_zero (S := S1x1024) hz, View.ld_unit_zero (S := S1024x2816) hz]
  rfl

theorem all_rows (c : Dev nD) (t : Fin cfg0.N) : (outsAt0 m c t.val t.isLt).2.1 = rows m c t := by
  by_cases h : t.val % 16 = 0
  · exact first_rows m c t h
  · exact next_rows m c t h

theorem first_gain (c : Dev nD) (t : Fin cfg0.N) (h0 : t.val % 16 = 0) : (outsAt0 m c t.val t.isLt).2.2.1 = gain m c t k0_pay1 := by
  rw [outsAt0_A m c t h0]
  dsimp only
  unfold out0_A_7
  rw [View.read_writes_eq_canon _ _ _ (cover0_A_7 c _ _ _ _ _ _ _ _ _ _ _ _ _ _ _ _ _ _ _ _ _ _ _ _ _ _ _ _)]
  unfold kernelRun0_A
  dsimp only
  sl_unfold_words
  rw [View.canon_cons_unit_zero (S := S1x1024) hz, View.readCov_unit_zero (S := S1x1024) _ hz, loaded_wg, loaded_wu]
  simp only [View.readAt_eq_ld, (hs0_0 t).read_unread, (hs0_1 t).read_unread, (hs0_2 t).read_unread, (hs0_3 t).read_unread, (hs0_4 t).read_unread, View.ld_unit_zero (S := S256x1024) hz, View.ld_unit_zero (S := S2816x1024) hz, View.ld_unit_zero (S := S1x1024) hz]
  rfl

theorem next_gain (c : Dev nD) (t : Fin cfg0.N) (h0 : ¬t.val % 16 = 0) :
    (outsAt0 m c t.val t.isLt).2.2.1 = gain m c t (outsAt0 m c (t.val - 1) (Nat.lt_of_le_of_lt (Nat.sub_le _ _) t.isLt)).2.2.1 := by
  rw [outsAt0_B m c t h0]
  dsimp only
  rw [held]
  unfold out0_B_7
  rw [View.read_writes_eq_canon _ _ _ (cover0_B_7 c _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, (Memref.isWhole_whole cc0_scratch0).read_unread, (Memref.isWhole_whole cc0_scratch1).read_unread, View.ld_unit_zero (S := S256x1024) hz, View.ld_unit_zero (S := S2816x1024) hz, View.ld_unit_zero (S := S1x1024) hz, View.ld_unit_zero (S := S1024x2816) hz]
  rfl

/-- The arrays that the host prepares. -/
theorem V_slabs (c : Dev nD) : (V m c main_v2 : Vec F S4x1024x1408 .bf16) = truncf .bf16 (transpose S4x1024x1408 [1, 0, 2] (shapeCast S1024x4x1408 (m ((c : Thread nD τ).loc main_arg2) : FVec F S1024x5632 .f32) shapeCasts_S1024x5632_S1024x4x1408) transposes_S1024x4x1408_S4x1024x1408_1_0_2 : FVec F S4x1024x1408 .f32) bitsLt_bf16_f32 := by
  simp only [V, hostOps0, List.flatten_cons, List.flatten_nil, List.append_nil, List.cons_append, List.nil_append]
  after_results_simp <;> rfl

theorem V_wd (c : Dev nD) : (V m c main_v17 : Vec F S2816x1024 .bf16) = truncf .bf16 (m ((c : Thread nD τ).loc main_arg3) : FVec F S2816x1024 .f32) bitsLt_bf16_f32 := by
  simp only [V, hostOps0, List.flatten_cons, List.flatten_nil, List.append_nil, List.cons_append, List.nil_append]
  after_results_simp <;> rfl

theorem V_g (c : Dev nD) : (V m c main_v18 : Vec F S1x1024 .f32) = shapeCast S1x1024 (m ((c : Thread nD τ).loc main_arg1) : FVec F S1024 .f32) shapeCasts_S1024_S1x1024 := by
  simp only [V, hostOps0, List.flatten_cons, List.flatten_nil, List.append_nil, List.cons_append, List.nil_append]
  after_results_simp <;> rfl

end AnyValues

end Cert.BwdFfnIdeal.Val

end
-- ==== Proof.Gate.lean ====
/-
  The derivative of a gated unit `p · σ(p) · u` over real numbers: the form in which a kernel computes it, and the form in which
  it comes out of differentiating the unit's lines, are equal. (At an infinity they are not: one is a sum of two terms of opposite
  sign.)  And the sums and products that stay real when their terms are.
-/
module

public import proofs.«01_k».proof.Proof.Norm
public import Idealize.ShloMosaic.Lib.ValueIdx
public import Idealize.ShloMosaic.PureOps.Ideal.Laws

@[expose] public section

noncomputable section

namespace Cert.Gate

open Idealize.ShloMosaic

/-- An extended real that is a real. -/
def IsReal (a : EReal) : Prop := ∃ r : ℝ, a = (r : EReal)

theorem IsReal.mul {a b : EReal} : IsReal a → IsReal b → IsReal (a * b) := by
  rintro ⟨r, rfl⟩ ⟨s, rfl⟩
  exact ⟨r * s, (EReal.coe_mul r s).symm⟩

theorem IsReal.sum {ι : Type} {s : Finset ι} {f : ι → EReal} (h : ∀ i, IsReal (f i)) : IsReal (∑ i ∈ s, f i) := by
  classical
  induction s using Finset.induction_on with
  | empty => exact ⟨0, by simp⟩
  | insert a s ha ih =>
    obtain ⟨r, hr⟩ := h a
    obtain ⟨q, hq⟩ := ih
    exact ⟨r + q, by rw [Finset.sum_insert ha, hr, hq, EReal.coe_add]⟩

theorem isReal_factor (x : Fin 1024 → EReal) : IsReal (Ideal.rsqrt (Cert.Norm.meanSq x)) := by
  obtain ⟨r, -, h, -⟩ := Cert.Norm.factor x
  exact ⟨r, h⟩

/-- The literal one. -/
def one : EReal := Ideal.ofBits .f32 0x3F800000#32
theorem one_eq : one = 1 := by
  unfold one; simp [Ideal.ofBits, Ideal.ieee]; rw [← EReal.coe_mul]; norm_num

/-- `σ(p) = 1 / (1 + exp (-p))`. -/
def sigma (p : EReal) : EReal := Ideal.div one (one + Ideal.exp (-p))

theorem sigma_real (p : ℝ) : IsReal (sigma p) := by
  unfold sigma
  rw [one_eq, ← EReal.coe_neg, Ideal.exp_coe, ← EReal.coe_one, ← EReal.coe_add, Ideal.div_coe (by have := Real.exp_pos (-p); linarith), ← EReal.coe_mul]
  exact ⟨_, rfl⟩

/-- The gradient at the gate's input and at the other factor, as a kernel computes them … -/
def gate (a p u : EReal) : EReal := a * u * sigma p * (one + p * (one - sigma p))
def up (a p : EReal) : EReal := a * p * sigma p

/-- … and the first as differentiating gives it. -/
theorem gate_eq {a p u : EReal} (ha : IsReal a) (hp : IsReal p) (hu : IsReal u) :
    gate a p u = a * u * sigma p + p * (a * u) * (sigma p * (one - sigma p)) := by
  obtain ⟨a, rfl⟩ := ha
  obtain ⟨p, rfl⟩ := hp
  obtain ⟨u, rfl⟩ := hu
  unfold gate
  obtain ⟨s, hs⟩ := sigma_real p
  rw [hs, one_eq, ← EReal.coe_one]
  simp only [← EReal.coe_mul, ← EReal.coe_sub, ← EReal.coe_add]
  congr 1
  ring

theorem up_eq (a p : EReal) : up a p = p * sigma p * a := by
  unfold up
  rw [mul_comm a p, mul_assoc, mul_assoc, mul_comm a]

end Cert.Gate

end
-- ==== Proof.FfnRef.lean ====
/-
  What the reference of the feed-forward layer's backward pass computes: the gradient of the gate and up projections' product, of
  the layer's input and of its norm's gain, entry by entry.
-/
module

public import proofs.«01_k».proof.Proof.Gate
public import proofs.«01_k».proof.Proof.BwdInRef
public import proofs.«01_k».proof.Proof.Gen.RefFfnIdeal.Run
public import Idealize.ShloMosaic.Lib.Tactic
public import Idealize.ShloMosaic.Lib.Pointwise

@[expose] public section

noncomputable section

namespace Cert.RefFfnIdeal.Val

open Cert.RefFfnIdeal Cert.RefFfnIdeal.Gen Idealize.ShloMosaic Idealize.ShloMosaic.StableHlo

/-- The normed input. -/
def normed (x : FVec Ideal S4096x1024 .f32) (g : FVec Ideal S1024 .f32) : FVec Ideal S4096x1024 .f32 :=
  mulf (mulf x (broadcastInDim S4096x1024 ![0, 1] bcast_S4096x1_S4096x1024_0_1 (Host.rsqrt (Cert.RefXIdeal.Val.meanSq x)))) (broadcastInDim S4096x1024 ![0, 1] bcast_S1x1024_S4096x1024_0_1 (broadcastInDim S1x1024 ![1] bcast_S1024_S1x1024_1 g))

/-- The gate and up projections, side by side. -/
def gu (x : FVec Ideal S4096x1024 .f32) (g : FVec Ideal S1024 .f32) (w : FVec Ideal S1024x5632 .f32) : FVec Ideal S4096x5632 .f32 :=
  Host.dotGeneral (F := Ideal) dot_S4096x1024_S1024x5632_S4096x5632_1_0_0_1_n_n none (normed x g) w
def gateOf (z : FVec Ideal S4096x5632 .f32) : FVec Ideal S4096x2816 .f32 := extractStridedSlice S4096x2816 ![0, 0] z slices_S4096x5632_S4096x2816_0_0
def upOf (z : FVec Ideal S4096x5632 .f32) : FVec Ideal S4096x2816 .f32 := extractStridedSlice S4096x2816 ![0, 2816] z slices_S4096x5632_S4096x2816_0_2816

/-- The gradient of the gated unit. -/
def dact (wd : FVec Ideal S2816x1024 .f32) (d : FVec Ideal S4096x1024 .f32) : FVec Ideal S4096x2816 .f32 :=
  Host.dotGeneral (F := Ideal) dot_S4096x1024_S2816x1024_S4096x2816_1_1_0_0_n_n none (shapeCast _ d shapeCasts_S4096x1024_S4096x1024) wd

def sigm (p : FVec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf p)))

def dup (a p : FVec Ideal S4096x2816 .f32) : FVec Ideal S4096x2816 .f32 := mulf (mulf p (sigm p)) a
def dgate (a p u : FVec Ideal S4096x2816 .f32) : FVec Ideal S4096x2816 .f32 :=
  addf (mulf (mulf a u) (sigm p)) (mulf (mulf p (mulf a u)) (mulf (sigm p) (subf (broadcastInDim S4096x2816 ![] bcast_S_S4096x2816 (constant S_ .f32 0x3F800000#32)) (sigm p))))

/-- The gradient of the two projections, side by side. -/
def beside (a b : FVec Ideal S4096x2816 .f32) : FVec Ideal S4096x5632 .f32 :=
  addf (pad S4096x5632 ![0, 2816] ![0, 0] ![0, 0] b (constant S_ .f32 0x00000000#32) pads_S4096x2816_S4096x5632_000_281600 h_S_)
    (pad S4096x5632 ![0, 0] ![0, 2816] ![0, 0] a (constant S_ .f32 0x00000000#32) pads_S4096x2816_S4096x5632_000_028160 h_S_)
def dgu (a p u : FVec Ideal S4096x2816 .f32) : FVec Ideal S4096x5632 .f32 := beside (dgate a p u) (dup a p)

/-- The gradient of the normed input. -/
def dh (w : FVec Ideal S1024x5632 .f32) (z : FVec Ideal S4096x5632 .f32) : FVec Ideal S4096x1024 .f32 :=
  Host.dotGeneral (F := Ideal) dot_S4096x5632_S1024x5632_S4096x1024_1_1_0_0_n_n none z w

theorem normed_apply (x : FVec Ideal S4096x1024 .f32) (g : FVec Ideal S1024 .f32) (t : Fin 4096) (k : Fin 1024) :
    normed x g (ix2 t k) = x (ix2 t k) * Ideal.rsqrt (Cert.Norm.meanSq fun j => x (ix2 t j)) * g (ix1 k) := by
  rw [← Cert.RefXIdeal.Val.meanSq_apply x t]
  unfold normed
  generalize Cert.RefXIdeal.Val.meanSq x = q
  pointwise

theorem gu_apply (x : FVec Ideal S4096x1024 .f32) (g : FVec Ideal S1024 .f32) (w : FVec Ideal S1024x5632 .f32) (t : Fin 4096) (j : Fin 5632) :
    gu x g w (ix2 t j) = ∑ k : Fin 1024, normed x g (ix2 t k) * w (ix2 k j) := by
  unfold gu
  generalize normed x g = q
  pointwise

theorem gateOf_apply (z : FVec Ideal S4096x5632 .f32) (t : Fin 4096) (f : Fin 2816) :
    gateOf z (ix2 t f) = z (ix2 t ⟨f.val, by have := f.isLt; omega⟩) := by
  unfold gateOf
  pointwise
theorem upOf_apply (z : FVec Ideal S4096x5632 .f32) (t : Fin 4096) (f : Fin 2816) :
    upOf z (ix2 t f) = z (ix2 t ⟨2816 + f.val, by have := f.isLt; omega⟩) := by
  unfold upOf
  pointwise

theorem dact_apply (wd : FVec Ideal S2816x1024 .f32) (d : FVec Ideal S4096x1024 .f32) (t : Fin 4096) (f : Fin 2816) :
    dact wd d (ix2 t f) = ∑ s : Fin 1024, d (ix2 t s) * wd (ix2 f s) := by
  unfold dact
  pointwise

theorem sig_apply (p : FVec Ideal S4096x2816 .f32) (t : Fin 4096) (f : Fin 2816) : sigm p (ix2 t f) = Cert.Gate.sigma (p (ix2 t f)) := by
  unfold sigm Cert.Gate.sigma Cert.Gate.one
  pointwise

theorem dup_apply (a p : FVec Ideal S4096x2816 .f32) (t : Fin 4096) (f : Fin 2816) : dup a p (ix2 t f) = Cert.Gate.up (a (ix2 t f)) (p (ix2 t f)) := by
  rw [Cert.Gate.up_eq, ← sig_apply p t f]
  unfold dup
  generalize sigm p = q
  pointwise

theorem dgate_apply (a p u : FVec Ideal S4096x2816 .f32) (t : Fin 4096) (f : Fin 2816)
    (ha : Cert.Gate.IsReal (a (ix2 t f))) (hp : Cert.Gate.IsReal (p (ix2 t f))) (hu : Cert.Gate.IsReal (u (ix2 t f))) :
    dgate a p u (ix2 t f) = Cert.Gate.gate (a (ix2 t f)) (p (ix2 t f)) (u (ix2 t f)) := by
  rw [Cert.Gate.gate_eq ha hp hu, ← sig_apply p t f]
  unfold dgate Cert.Gate.one
  generalize sigm p = q
  pointwise

theorem beside_left (a b : FVec Ideal S4096x2816 .f32) (t : Fin 4096) (f : Fin 2816) :
    beside a b (ix2 t ⟨f.val, by have := f.isLt; omega⟩) = a (ix2 t f) := by
  unfold beside
  pointwise
  rw [dif_neg (fun h => h.1), zero_add]

theorem beside_right (a b : FVec Ideal S4096x2816 .f32) (t : Fin 4096) (f : Fin 2816) :
    beside a b (ix2 t ⟨2816 + f.val, by have := f.isLt; omega⟩) = b (ix2 t f) := by
  unfold beside
  pointwise

theorem dh_apply (w : FVec Ideal S1024x5632 .f32) (z : FVec Ideal S4096x5632 .f32) (t : Fin 4096) (s : Fin 1024) :
    dh w z (ix2 t s) = ∑ k : Fin 5632, z (ix2 t k) * w (ix2 s k) := by
  unfold dh
  pointwise

/-- A sum over the projections' columns, the gate's first. -/
theorem sum_halves (f : Fin 5632 → EReal) :
    ∑ k : Fin 5632, f k = ∑ k : Fin 2816, f ⟨k.val, by have := k.isLt; omega⟩ + ∑ k : Fin 2816, f ⟨2816 + k.val, by have := k.isLt; omega⟩ :=
  Fin.sum_univ_add (a := 2816) (b := 2816) f

/-- The arguments: the input, the gain, the two weights, the gradient of the layer's output. -/
def argDgu (m : (ℓ : Loc nD τ sig) → Buf (Elt Ideal) ℓ) (c : Dev nD) : FVec Ideal S4096x5632 .f32 :=
  let z := gu (m ((c.tc : Thread nD τ).loc main_arg0)) (m ((c.tc : Thread nD τ).loc main_arg1)) (m ((c.tc : Thread nD τ).loc main_arg2))
  dgu (dact (m ((c.tc : Thread nD τ).loc main_arg3)) (m ((c.tc : Thread nD τ).loc main_arg4))) (gateOf z) (upOf z)

set_option maxRecDepth 8192 in
/-- The run's results are these arrays. -/
theorem result0_eq (m : (ℓ : Loc nD τ sig) → Buf (Elt Ideal) ℓ) (c : Dev nD) :
    Cert.RefFfnIdeal.Value.res_main_v52 (F := Ideal) m c = truncf .bf16 (argDgu m c) bitsLt_bf16_f32 := by
  unfold Cert.RefFfnIdeal.Value.res_main_v52
  rfl

set_option maxRecDepth 8192 in
theorem result1_eq (m : (ℓ : Loc nD τ sig) → Buf (Elt Ideal) ℓ) (c : Dev nD) :
    Cert.RefFfnIdeal.Value.res_main_v53 (F := Ideal) m c = Cert.RefXIdeal.Val.gradX (m ((c.tc : Thread nD τ).loc main_arg0)) (m ((c.tc : Thread nD τ).loc main_arg4)) (Cert.RefXIdeal.Val.scaled (m ((c.tc : Thread nD τ).loc main_arg1)) (dh (m ((c.tc : Thread nD τ).loc main_arg2)) (argDgu m c))) := by
  unfold Cert.RefFfnIdeal.Value.res_main_v53
  rfl

set_option maxRecDepth 8192 in
theorem result2_eq (m : (ℓ : Loc nD τ sig) → Buf (Elt Ideal) ℓ) (c : Dev nD) :
    Cert.RefFfnIdeal.Value.res_main_v54 (F := Ideal) m c = Cert.RefXIdeal.Val.gradG (m ((c.tc : Thread nD τ).loc main_arg0)) (dh (m ((c.tc : Thread nD τ).loc main_arg2)) (argDgu m c)) := by
  unfold Cert.RefFfnIdeal.Value.res_main_v54
  rfl

end Cert.RefFfnIdeal.Val

end
-- ==== Proof.FfnBlkVal.lean ====
/-
  The feed-forward layer's backward pass over the extended reals: the entries of what a block writes, the arrays after the sixteen
  blocks, and that they are the reference's where every argument's entries are real numbers.
-/
module

public import proofs.«01_k».proof.Proof.FfnBlk
public import proofs.«01_k».proof.Proof.FfnRef
public import proofs.«01_k».proof.Proof.Gen.Pre_all_finite
public import Idealize.ShloMosaic.Lib.Tactic
public import Idealize.ShloMosaic.Lib.Pointwise

@[expose] public section

noncomputable section

namespace Cert.BwdFfnIdeal.Val

open Cert.BwdFfnIdeal Cert.BwdFfnIdeal.Gen Cert.BwdFfnIdeal.Ffn Cert.BwdFfnIdeal.FfnVal
open Idealize.ShloMosaic Idealize.ShloMosaic.TcCoe Idealize.SL.Sem

/-! ## The block's arithmetic, entry by entry -/

theorem pay2_apply (d : Vec Ideal S256x1024 .f32) (w : Vec Ideal S2816x1024 .bf16) (r : Fin 256) (f : Fin 2816) :
    k0_pay2 (F := Ideal) d w (ix2 r f) = ∑ s : Fin 1024, d (ix2 r s) * w (ix2 f s) := by
  unfold k0_pay2
  pointwise

theorem pay3_apply (p : Vec Ideal S256x2816 .f32) (r : Fin 256) (f : Fin 2816) : k0_pay3 (F := Ideal) p (ix2 r f) = p (ix2 r f) := by
  unfold k0_pay3
  pointwise

theorem pay4_apply (p : Vec Ideal S256x2816 .f32) (r : Fin 256) (f : Fin 2816) : k0_pay4 (F := Ideal) p (ix2 r f) = Cert.Gate.sigma (p (ix2 r f)) := by
  rw [← pay3_apply p r f]
  unfold k0_pay4 Cert.Gate.sigma Cert.Gate.one
  generalize k0_pay3 p = q
  pointwise
  rw [zero_sub]

theorem pay5_apply (d : Vec Ideal S256x1024 .f32) (w : Vec Ideal S2816x1024 .bf16) (p u : Vec Ideal S256x2816 .f32) (r : Fin 256) (f : Fin 2816) :
    k0_pay5 (F := Ideal) d w p u (ix2 r f) = Cert.Gate.gate (∑ s : Fin 1024, d (ix2 r s) * w (ix2 f s)) (p (ix2 r f)) (u (ix2 r f)) := by
  unfold Cert.Gate.gate
  rw [← pay2_apply d w r f, ← pay4_apply p r f]
  have e := pay3_apply p r f
  rw [← e]
  unfold k0_pay5 Cert.Gate.one
  generalize k0_pay3 p = p'
  generalize k0_pay4 p = q
  generalize k0_pay2 d w = a
  pointwise

theorem pay6_apply (d : Vec Ideal S256x1024 .f32) (w : Vec Ideal S2816x1024 .bf16) (p : Vec Ideal S256x2816 .f32) (r : Fin 256) (f : Fin 2816) :
    k0_pay6 (F := Ideal) d w p (ix2 r f) = Cert.Gate.up (∑ s : Fin 1024, d (ix2 r s) * w (ix2 f s)) (p (ix2 r f)) := by
  unfold Cert.Gate.up
  rw [← pay2_apply d w r f, ← pay4_apply p r f, ← pay3_apply p r f]
  unfold k0_pay6
  generalize k0_pay3 p = p'
  generalize k0_pay4 p = q
  generalize k0_pay2 d w = a
  pointwise

theorem pay7_apply (a b : Vec Ideal S256x2816 .bf16) (v w : Vec Ideal S1024x2816 .bf16) (r : Fin 256) (s : Fin 1024) :
    k0_pay7 (F := Ideal) a b v w (ix2 r s) = ∑ k : Fin 2816, a (ix2 r k) * v (ix2 s k) + ∑ k : Fin 2816, b (ix2 r k) * w (ix2 s k) := by
  unfold k0_pay7
  pointwise

theorem pay8_apply (x : Vec Ideal S256x1024 .f32) (r : Fin 256) :
    k0_pay8 (F := Ideal) x (ix2 r 0) = Ideal.rsqrt (Cert.Norm.meanSq fun j => x (ix2 r j)) := by
  unfold k0_pay8 Cert.Norm.meanSq Cert.Norm.width Cert.Norm.eps
  pointwise

theorem pay9_apply (x : Vec Ideal S256x1024 .f32) (r : Fin 256) (s : Fin 1024) :
    k0_pay9 (F := Ideal) x (ix2 r s) = x (ix2 r s) * Ideal.rsqrt (Cert.Norm.meanSq fun j => x (ix2 r j)) := by
  rw [← pay8_apply x r]
  unfold k0_pay9
  generalize k0_pay8 x = q
  pointwise

theorem pay10_apply (d : Vec Ideal S256x1024 .f32) (a b : Vec Ideal S256x2816 .bf16) (v w : Vec Ideal S1024x2816 .bf16) (x : Vec Ideal S256x1024 .f32) (g : Vec Ideal S1x1024 .f32) (r : Fin 256) (s : Fin 1024) :
    k0_pay10 (F := Ideal) d a b v w x g (ix2 r s)
      = d (ix2 r s) + Cert.Norm.kernelGrad (fun j => x (ix2 r j)) (fun j => k0_pay7 (F := Ideal) a b v w (ix2 r j) * g (ix2 0 j)) s := by
  unfold Cert.Norm.kernelGrad
  have hu : ∀ j : Fin 1024, x (ix2 r j) * Ideal.rsqrt (Cert.Norm.meanSq fun j => x (ix2 r j)) = k0_pay9 (F := Ideal) x (ix2 r j) := fun j => (pay9_apply x r j).symm
  simp only [hu]
  rw [← pay8_apply x r]
  unfold k0_pay10 Cert.Norm.width
  generalize k0_pay9 x = u
  generalize k0_pay8 x = q
  generalize k0_pay7 a b v w = h
  pointwise

theorem pay11_apply (a b : Vec Ideal S256x2816 .bf16) (v w : Vec Ideal S1024x2816 .bf16) (x : Vec Ideal S256x1024 .f32) (acc : Vec Ideal S1x1024 .f32) (s : Fin 1024) :
    k0_pay11 (F := Ideal) a b v w x acc (ix2 0 s) = acc (ix2 0 s) + ∑ r : Fin 256, k0_pay7 (F := Ideal) a b v w (ix2 r s) * k0_pay9 (F := Ideal) x (ix2 r s) := by
  unfold k0_pay11
  generalize k0_pay9 x = u
  generalize k0_pay7 a b v w = h
  pointwise

theorem pay1_apply (s : Fin 1024) : k0_pay1 (F := Ideal) (ix2 0 s) = 0 := by
  unfold k0_pay1
  pointwise

variable (m : (ℓ : Loc nD τ sig) → Buf (Elt Ideal) ℓ)

/-- The arguments: the input, the gain, the two weights, the gradient of the layer's output. -/
def argX (c : Dev nD) : FVec Ideal S4096x1024 .f32 := m ((c : Thread nD τ).loc main_arg0)
def argG (c : Dev nD) : FVec Ideal S1024 .f32 := m ((c : Thread nD τ).loc main_arg1)
def argW (c : Dev nD) : FVec Ideal S1024x5632 .f32 := m ((c : Thread nD τ).loc main_arg2)
def argE (c : Dev nD) : FVec Ideal S2816x1024 .f32 := m ((c : Thread nD τ).loc main_arg3)
def argD (c : Dev nD) : FVec Ideal S4096x1024 .f32 := m ((c : Thread nD τ).loc main_arg4)

/-- The two projections, and the gradient of each. -/
def GU (c : Dev nD) : FVec Ideal S4096x5632 .f32 := Cert.RefFfnIdeal.Val.gu (argX m c) (argG m c) (argW m c)
def Z (c : Dev nD) : FVec Ideal S4096x5632 .f32 :=
  Cert.RefFfnIdeal.Val.dgu (Cert.RefFfnIdeal.Val.dact (argE m c) (argD m c)) (Cert.RefFfnIdeal.Val.gateOf (GU m c)) (Cert.RefFfnIdeal.Val.upOf (GU m c))

/-- Every entry of every argument is a real number. -/
def AllReal (c : Dev nD) : Prop :=
  (∀ i, Cert.Gate.IsReal (argX m c i)) ∧ (∀ i, Cert.Gate.IsReal (argG m c i)) ∧ (∀ i, Cert.Gate.IsReal (argW m c i))
    ∧ (∀ i, Cert.Gate.IsReal (argE m c i)) ∧ (∀ i, Cert.Gate.IsReal (argD m c i))

theorem real_gu (c : Dev nD) (h : AllReal m c) (t : Fin 4096) (j : Fin 5632) : Cert.Gate.IsReal (GU m c (ix2 t j)) := by
  unfold GU
  rw [Cert.RefFfnIdeal.Val.gu_apply]
  refine Cert.Gate.IsReal.sum fun k => ?_
  rw [Cert.RefFfnIdeal.Val.normed_apply]
  exact (((h.1 _).mul (Cert.Gate.isReal_factor _)).mul (h.2.1 _)).mul (h.2.2.1 _)

theorem real_dact (c : Dev nD) (h : AllReal m c) (t : Fin 4096) (f : Fin 2816) : Cert.Gate.IsReal (Cert.RefFfnIdeal.Val.dact (argE m c) (argD m c) (ix2 t f)) := by
  rw [Cert.RefFfnIdeal.Val.dact_apply]
  exact Cert.Gate.IsReal.sum fun k => (h.2.2.2.2 _).mul (h.2.2.2.1 _)

/-! ## Where the blocks lie -/

theorem index_rows : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 2) = t.val ∧ win0_2.index t (1 : Fin 2) = 0
    ∧ win0_5.index t (0 : Fin 2) = t.val ∧ win0_5.index t (1 : Fin 2) = 0 ∧ win0_6.index t (0 : Fin 2) = t.val ∧ win0_6.index t (1 : Fin 2) = 0 :=
  (by decide +kernel : ∀ t : Fin grid0.N, _)
theorem index_whole : ∀ t : Fin cfg0.N, win0_3.index t (0 : Fin 2) = 0 ∧ win0_3.index t (1 : Fin 2) = 0
    ∧ win0_4.index t (0 : Fin 2) = 0 ∧ win0_4.index t (1 : Fin 2) = 0 ∧ win0_7.index t (0 : Fin 2) = 0 ∧ win0_7.index t (1 : Fin 2) = 0 :=
  (by decide +kernel : ∀ t : Fin grid0.N, _)

/-- Row `r` of block `t`. -/
def tok (t : Fin cfg0.N) (r : Fin 256) : Fin 4096 := ⟨256 * t.val + r.val, by have := lt_of_lt_of_eq t.isLt N_0; have := r.isLt; omega⟩

theorem blockD (c : Dev nD) (t : Fin cfg0.N) (r : Fin 256) (s : Fin 1024) : (iblk m c 0 t : Vec Ideal S256x1024 .f32) (ix2 r s) = argD m c (ix2 (tok t r) s) := by
  unfold iblk
  rw [View.read_apply]
  show V m c main_arg4 _ = _
  rw [V_main_arg4]
  unfold argD
  congr 1
  funext a
  apply Fin.ext
  match a with
  | ⟨0, _⟩ => show win0_0.index t 0 * 256 + 1 * r.val = 256 * t.val + r.val; rw [(index_rows t).1]; omega
  | ⟨1, _⟩ => show win0_0.index t 1 * 1024 + 1 * s.val = s.val; rw [(index_rows t).2.1]; omega

theorem blockX (c : Dev nD) (t : Fin cfg0.N) (r : Fin 256) (s : Fin 1024) : (iblk m c 2 t : Vec Ideal S256x1024 .f32) (ix2 r s) = argX m c (ix2 (tok t r) s) := by
  unfold iblk
  rw [View.read_apply]
  show V m c main_arg0 _ = _
  rw [V_main_arg0]
  unfold argX
  congr 1
  funext a
  apply Fin.ext
  match a with
  | ⟨0, _⟩ => show win0_2.index t 0 * 256 + 1 * r.val = 256 * t.val + r.val; rw [(index_rows t).2.2.2.2.1]; omega
  | ⟨1, _⟩ => show win0_2.index t 1 * 1024 + 1 * s.val = s.val; rw [(index_rows t).2.2.2.2.2.1]; omega

set_option maxRecDepth 8192 in
theorem V_gu (c : Dev nD) : (V m c main_v16 : Vec Ideal S4096x5632 .f32) = GU m c := by
  simp only [V, hostOps0, List.flatten_cons, List.flatten_nil, List.append_nil, List.cons_append, List.nil_append]
  after_results_simp <;> rfl

theorem blockU (c : Dev nD) (t : Fin cfg0.N) (r : Fin 256) (k : Fin 5632) : (iblk m c 1 t : Vec Ideal S256x5632 .f32) (ix2 r k) = GU m c (ix2 (tok t r) k) := by
  unfold iblk
  rw [View.read_apply]
  have e : ((cfg0.win 1).blk t).view.emb (ix2 r k : S256x5632.Idx) = (ix2 (tok t r) k : S4096x5632.Idx) := by
    funext a
    apply Fin.ext
    match a with
    | ⟨0, _⟩ => show win0_1.index t 0 * 256 + 1 * r.val = 256 * t.val + r.val; rw [(index_rows t).2.2.1]; omega
    | ⟨1, _⟩ => show win0_1.index t 1 * 5632 + 1 * k.val = k.val; rw [(index_rows t).2.2.2.1]; omega
  show V m c main_v16 (((cfg0.win 1).blk t).view.emb (ix2 r k : S256x5632.Idx)) = _
  rw [e]
  exact congrFun (V_gu m c) _

theorem blockE (c : Dev nD) (t : Fin cfg0.N) (f : Fin 2816) (s : Fin 1024) : (iblk m c 3 t : Vec Ideal S2816x1024 .bf16) (ix2 f s) = argE m c (ix2 f s) := by
  unfold iblk
  rw [View.read_apply]
  have e : ((cfg0.win 3).blk t).view.emb (ix2 f s : S2816x1024.Idx) = (ix2 f s : S2816x1024.Idx) := by
    funext a
    apply Fin.ext
    match a with
    | ⟨0, _⟩ => show win0_3.index t 0 * 2816 + 1 * f.val = f.val; rw [(index_whole t).1]; omega
    | ⟨1, _⟩ => show win0_3.index t 1 * 1024 + 1 * s.val = s.val; rw [(index_whole t).2.1]; omega
  show V m c main_v17 (((cfg0.win 3).blk t).view.emb (ix2 f s : S2816x1024.Idx)) = _
  rw [e]
  refine (congrFun (V_wd m c) _).trans ?_
  unfold argE
  pointwise

theorem blockG (c : Dev nD) (t : Fin cfg0.N) (s : Fin 1024) : (iblk m c 4 t : Vec Ideal S1x1024 .f32) (ix2 0 s) = argG m c (ix1 s) := by
  unfold iblk
  rw [View.read_apply]
  have e : ((cfg0.win 4).blk t).view.emb (ix2 0 s : S1x1024.Idx) = (ix2 0 s : S1x1024.Idx) := by
    funext a
    apply Fin.ext
    match a with
    | ⟨0, _⟩ => show win0_4.index t 0 * 1 + 1 * 0 = 0; rw [(index_whole t).2.2.1]
    | ⟨1, _⟩ => show win0_4.index t 1 * 1024 + 1 * s.val = s.val; rw [(index_whole t).2.2.2.1]; omega
  show V m c main_v18 (((cfg0.win 4).blk t).view.emb (ix2 0 s : S1x1024.Idx)) = _
  rw [e]
  refine (congrFun (V_g m c) _).trans ?_
  unfold argG
  pointwise

theorem pre_apply (c : Dev nD) (t : Fin cfg0.N) (r : Fin 256) (f : Fin 2816) :
    pre m c t (ix2 r f) = GU m c (ix2 (tok t r) ⟨f.val, by have := f.isLt; omega⟩) := by
  unfold pre
  have e : (Rect.unit (s := S256x5632) ![0, 0] S256x2816.size inb_S256x5632_S256x2816_0_0).idx (ix2 r f : S256x2816.Idx) = (ix2 r ⟨f.val, by have := f.isLt; omega⟩ : S256x5632.Idx) := by
    funext a
    apply Fin.ext
    match a with
    | ⟨0, _⟩ => show 0 + 1 * r.val = r.val; omega
    | ⟨1, _⟩ => show 0 + 1 * f.val = f.val; omega
  refine (congrArg (iblk m c 1 t : Vec Ideal S256x5632 .f32) e).trans ?_
  rw [blockU]

theorem upb_apply (c : Dev nD) (t : Fin cfg0.N) (r : Fin 256) (f : Fin 2816) :
    upb m c t (ix2 r f) = GU m c (ix2 (tok t r) ⟨2816 + f.val, by have := f.isLt; omega⟩) := by
  unfold upb
  have e : (Rect.unit (s := S256x5632) ![0, 2816] S256x2816.size inb_S256x5632_S256x2816_0_2816).idx (ix2 r f : S256x2816.Idx) = (ix2 r ⟨2816 + f.val, by have := f.isLt; omega⟩ : S256x5632.Idx) := by
    funext a
    apply Fin.ext
    match a with
    | ⟨0, _⟩ => show 0 + 1 * r.val = r.val; omega
    | ⟨1, _⟩ => show 2816 + 1 * f.val = 2816 + f.val; omega
  refine (congrArg (iblk m c 1 t : Vec Ideal S256x5632 .f32) e).trans ?_
  rw [blockU]

theorem slabs_apply (c : Dev nD) (i : Fin 4) (k : Fin 1024) (s : Fin 1408) :
    (V m c main_v2 : Vec Ideal S4x1024x1408 .bf16) (ix3 i k s) = argW m c (ix2 k ⟨1408 * i.val + s.val, by have := i.isLt; have := s.isLt; omega⟩) := by
  refine (congrFun (V_slabs m c) _).trans ?_
  show transpose S4x1024x1408 [1, 0, 2] (shapeCast S1024x4x1408 (argW m c) shapeCasts_S1024x5632_S1024x4x1408) transposes_S1024x4x1408_S4x1024x1408_1_0_2 (ix3 i k s) = _
  refine (transpose_apply [1, 0, 2] _ transposes_S1024x4x1408_S4x1024x1408_1_0_2 (ix3 i k s : S4x1024x1408.Idx) (ix3 k i s : S1024x4x1408.Idx) fun b => match b with | ⟨0, _⟩ => rfl | ⟨1, _⟩ => rfl | ⟨2, _⟩ => rfl).trans ?_
  refine shapeCast_apply (argW m c) shapeCasts_S1024x5632_S1024x4x1408 (ix3 k i s : S1024x4x1408.Idx) _ ?_
  rw [Shape.rowMajor_val_two, Shape.rowMajor_val_three]
  show k.val * 5632 + (1408 * i.val + s.val) = (k.val * 4 + i.val) * 1408 + s.val
  omega

theorem wg_apply (c : Dev nD) (k : Fin 1024) (f : Fin 2816) : wg m c (ix2 k f) = argW m c (ix2 k ⟨f.val, by have := f.isLt; omega⟩) := by
  unfold wg pair
  by_cases h : f.val < 1408
  · refine (dif_pos h).trans ((slabs_apply m c 0 k ⟨f.val, h⟩).trans ?_)
    refine congrArg (fun q => argW m c (ix2 k q)) (Fin.ext ?_)
    show 1408 * 0 + f.val = f.val; omega
  · refine (dif_neg h).trans ((slabs_apply m c 1 k ⟨f.val - 1408, _⟩).trans ?_)
    refine congrArg (fun q => argW m c (ix2 k q)) (Fin.ext ?_)
    show 1408 * 1 + (f.val - 1408) = f.val; omega

theorem wu_apply (c : Dev nD) (k : Fin 1024) (f : Fin 2816) : wu m c (ix2 k f) = argW m c (ix2 k ⟨2816 + f.val, by have := f.isLt; omega⟩) := by
  unfold wu pair
  by_cases h : f.val < 1408
  · refine (dif_pos h).trans ((slabs_apply m c 2 k ⟨f.val, h⟩).trans ?_)
    refine congrArg (fun q => argW m c (ix2 k q)) (Fin.ext ?_)
    show 1408 * 2 + f.val = 2816 + f.val; omega
  · refine (dif_neg h).trans ((slabs_apply m c 3 k ⟨f.val - 1408, _⟩).trans ?_)
    refine congrArg (fun q => argW m c (ix2 k q)) (Fin.ext ?_)
    show 1408 * 3 + (f.val - 1408) = 2816 + f.val; omega

/-! ## A block's entries -/

theorem dp_apply (c : Dev nD) (hr : AllReal m c) (t : Fin cfg0.N) (r : Fin 256) (f : Fin 2816) :
    dp m c t (ix2 r f) = Z m c (ix2 (tok t r) ⟨f.val, by have := f.isLt; omega⟩) := by
  unfold Z Cert.RefFfnIdeal.Val.dgu dp
  refine Eq.trans ?_ (Cert.RefFfnIdeal.Val.beside_left _ _ (tok t r) f).symm
  have h1 := Cert.RefFfnIdeal.Val.gateOf_apply (GU m c) (tok t r) f
  have h2 := Cert.RefFfnIdeal.Val.upOf_apply (GU m c) (tok t r) f
  rw [Cert.RefFfnIdeal.Val.dgate_apply _ _ _ _ _ (real_dact m c hr _ _) (h1 ▸ real_gu m c hr _ _) (h2 ▸ real_gu m c hr _ _),
    h1, h2, Cert.RefFfnIdeal.Val.dact_apply, pay5_apply, pre_apply, upb_apply]
  simp only [blockD, blockE]

theorem du_apply (c : Dev nD) (t : Fin cfg0.N) (r : Fin 256) (f : Fin 2816) :
    du m c t (ix2 r f) = Z m c (ix2 (tok t r) ⟨2816 + f.val, by have := f.isLt; omega⟩) := by
  unfold Z Cert.RefFfnIdeal.Val.dgu du
  refine Eq.trans ?_ (Cert.RefFfnIdeal.Val.beside_right _ _ (tok t r) f).symm
  rw [Cert.RefFfnIdeal.Val.dup_apply, Cert.RefFfnIdeal.Val.gateOf_apply, Cert.RefFfnIdeal.Val.dact_apply, pay6_apply, pre_apply]
  simp only [blockD, blockE]

/-- The gradient of the normed rows. -/
def H (c : Dev nD) : FVec Ideal S4096x1024 .f32 := Cert.RefFfnIdeal.Val.dh (argW m c) (Z m c)

theorem product_apply (c : Dev nD) (hr : AllReal m c) (t : Fin cfg0.N) (r : Fin 256) (s : Fin 1024) :
    k0_pay7 (F := Ideal) (dp m c t) (du m c t) (wg m c) (wu m c) (ix2 r s) = H m c (ix2 (tok t r) s) := by
  refine Eq.trans ?_ (Cert.RefFfnIdeal.Val.dh_apply (argW m c) (Z m c) (tok t r) s).symm
  rw [pay7_apply, Cert.RefFfnIdeal.Val.sum_halves]
  exact congrArg₂ (fun a b : EReal => a + b) (Finset.sum_congr rfl fun k _ => by rw [dp_apply m c hr, wg_apply]) (Finset.sum_congr rfl fun k _ => by rw [du_apply, wu_apply])

theorem rows_apply (c : Dev nD) (hr : AllReal m c) (t : Fin cfg0.N) (r : Fin 256) (s : Fin 1024) :
    rows m c t (ix2 r s) = argD m c (ix2 (tok t r) s)
      + Cert.Norm.kernelGrad (fun j => argX m c (ix2 (tok t r) j)) (fun j => H m c (ix2 (tok t r) j) * argG m c (ix1 j)) s := by
  unfold rows
  rw [pay10_apply]
  simp only [product_apply m c hr, blockX, blockD, blockG]

theorem gain_apply (c : Dev nD) (hr : AllReal m c) (t : Fin cfg0.N) (acc : Vec Ideal S1x1024 .f32) (s : Fin 1024) :
    gain m c t acc (ix2 0 s) = acc (ix2 0 s) + ∑ r : Fin 256, argX m c (ix2 (tok t r) s) * Ideal.rsqrt (Cert.Norm.meanSq fun j => argX m c (ix2 (tok t r) j)) * H m c (ix2 (tok t r) s) := by
  unfold gain
  rw [pay11_apply]
  simp only [product_apply m c hr, pay9_apply, blockX]
  exact congrArg (fun b : EReal => acc (ix2 0 s) + b) (Finset.sum_congr rfl fun r _ => mul_comm _ _)

/-! ## The gain's total -/

/-- Token `n`'s term of the gain's gradient, zero past the last token. -/
def term (c : Dev nD) (s : Fin 1024) (n : ℕ) : EReal :=
  if h : n < 4096 then argX m c (ix2 ⟨n, h⟩ s) * Ideal.rsqrt (Cert.Norm.meanSq fun j => argX m c (ix2 ⟨n, h⟩ j)) * H m c (ix2 ⟨n, h⟩ s) else 0

theorem gain_term (c : Dev nD) (hr : AllReal m c) (t : Fin cfg0.N) (acc : Vec Ideal S1x1024 .f32) (s : Fin 1024) :
    gain m c t acc (ix2 0 s) = acc (ix2 0 s) + ∑ k ∈ Finset.range 256, term m c s (256 * t.val + k) := by
  rw [gain_apply m c hr, Finset.sum_range]
  congr 1
  refine Finset.sum_congr rfl fun r _ => ?_
  have h : 256 * t.val + r.val < 4096 := (tok t r).isLt
  unfold term
  rw [dif_pos h]
  rfl

theorem total (c : Dev nD) (hr : AllReal m c) (s : Fin 1024) : ∀ (n : ℕ) (h : n < cfg0.N), (outsAt0 m c n h).2.2.1 (ix2 0 s) = ∑ k ∈ Finset.range (256 * (n + 1)), term m c s k := by
  intro n
  induction n with
  | zero =>
    intro h
    refine (congrFun (first_gain m c ⟨0, h⟩ rfl) _).trans ?_
    rw [gain_term m c hr, pay1_apply, zero_add]
    exact Finset.sum_congr rfl fun k _ => by rw [show 256 * (⟨0, h⟩ : Fin cfg0.N).val + k = k from by show 256 * 0 + k = k; omega]
  | succ n ih =>
    intro h
    have hN : n + 1 < 16 := lt_of_lt_of_eq h N_0
    refine (congrFun (next_gain m c ⟨n + 1, h⟩ (by show ¬(n + 1) % 16 = 0; omega)) _).trans ?_
    rw [gain_term m c hr, show 256 * (n + 1 + 1) = 256 * (n + 1) + 256 from by omega, Finset.sum_range_add]
    congr 1
    exact ih (lt_trans (Nat.lt_succ_self n) h)

/-! ## The arrays after the run -/

/-- The gradients of the projections, of the input and of the gain. -/
def finalZ (c : Dev nD) : FVec Ideal S4096x5632 .bf16 := truncf .bf16 (Z m c) bitsLt_bf16_f32
def finalX (c : Dev nD) : FVec Ideal S4096x1024 .f32 :=
  Cert.RefXIdeal.Val.gradX (argX m c) (argD m c) (Cert.RefXIdeal.Val.scaled (argG m c) (H m c))
def finalG (c : Dev nD) : FVec Ideal S1x1024 .f32 := Cert.RefXIdeal.Val.gradG (argX m c) (H m c)

theorem finalX_apply (c : Dev nD) (t : Fin 4096) (s : Fin 1024) :
    finalX m c (ix2 t s) = argD m c (ix2 t s) + Cert.Norm.kernelGrad (fun j => argX m c (ix2 t j)) (fun j => H m c (ix2 t j) * argG m c (ix1 j)) s := by
  refine (Cert.RefXIdeal.Val.gradX_apply (argX m c) (argD m c) _ t s).trans ?_
  exact congrArg (fun d => argD m c (ix2 t s) + Cert.Norm.kernelGrad (fun j => argX m c (ix2 t j)) d s) (funext fun j => Cert.RefXIdeal.Val.scaled_apply (argG m c) (H m c) t j)

theorem halves_apply (c : Dev nD) (hr : AllReal m c) (t : Fin cfg0.N) (r : Fin 256) (k : Fin 5632) :
    halves (dp m c t) (du m c t) (ix2 r k) = finalZ m c (ix2 (tok t r) k) := by
  show _ = Z m c (ix2 (tok t r) k)
  unfold halves
  by_cases h : k.val < 2816
  · refine (dif_pos h).trans ?_
    exact dp_apply m c hr t r ⟨k.val, h⟩
  · refine (dif_neg h).trans ?_
    refine (du_apply m c t r ⟨k.val - 2816, _⟩).trans ?_
    refine congrArg (fun q => Z m c (ix2 (tok t r) q)) (Fin.ext ?_)
    show 2816 + (k.val - 2816) = k.val; omega

theorem flushedZ (c : Dev nD) (hr : AllReal m c) (t : Fin cfg0.N) : (dats m 0 c).flushed 5 t = ((cfg0.win 5).blk t).view.read (Elt Ideal) (finalZ m c) := by
  rw [flushed5]
  funext y
  obtain ⟨r, s, rfl⟩ : ∃ (r : Fin 256) (s : Fin 5632), y = (ix2 r s : S256x5632.Idx) := ⟨y 0, y 1, by funext a; match a with | ⟨0, _⟩ => rfl | ⟨1, _⟩ => rfl⟩
  have e : ((cfg0.win 5).blk t).view.emb (ix2 r s : S256x5632.Idx) = (ix2 (tok t r) s : S4096x5632.Idx) := by
    funext a
    apply Fin.ext
    match a with
    | ⟨0, _⟩ => show win0_5.index t 0 * 256 + 1 * r.val = 256 * t.val + r.val; rw [(index_rows t).2.2.2.2.2.2.1]; omega
    | ⟨1, _⟩ => show win0_5.index t 1 * 5632 + 1 * s.val = s.val; rw [(index_rows t).2.2.2.2.2.2.2.1]; omega
  have hl : (cfg0.win 5).xinj (grid0.coords t) (ix2 r s : S256x5632.Idx) = (ix2 r s : S256x5632.Idx) := by
    funext a; apply Fin.ext
    match a with
    | ⟨0, _⟩ => rfl
    | ⟨1, _⟩ => rfl
  show (outsAt0 m c t.val t.isLt).1 ((cfg0.win 5).xinj (grid0.coords t) (ix2 r s : S256x5632.Idx)) = finalZ m c (((cfg0.win 5).blk t).view.emb (ix2 r s : S256x5632.Idx))
  rw [hl, e, all_dgu]
  exact halves_apply m c hr t r s

theorem coveredZ (i : S4096x5632.Idx) : ∃ t : Fin cfg0.N, (cfg0.win 5).flush t = true ∧ i ∈ ((cfg0.win 5).blk t).view.set := by
  have h0 : (i 0).val < 4096 := (i 0).isLt
  have h1 : (i 1).val < 5632 := (i 1).isLt
  refine ⟨⟨(i 0).val / 256, lt_of_lt_of_eq (by omega) N_0.symm⟩, flush0_5 _, ?_⟩
  have hd : (⟨(i 0).val / 256, lt_of_lt_of_eq (by omega) N_0.symm⟩ : Fin cfg0.N).val = (i 0).val / 256 := rfl
  generalize (⟨(i 0).val / 256, lt_of_lt_of_eq (by omega) N_0.symm⟩ : Fin cfg0.N) = t at *
  have e0 := (index_rows t).2.2.2.2.2.2.1
  have e1 := (index_rows t).2.2.2.2.2.2.2.1
  show i ∈ ((View.whole main_v19_0).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    rw [e0]; omega
  | ⟨1, _⟩ =>
    show win0_5.index t (1 : Fin 2) * 5632 ≤ (i 1).val ∧ (i 1).val < win0_5.index t (1 : Fin 2) * 5632 + 5632
    rw [e1]; omega

theorem finalZ_eq (c : Dev nD) (hr : AllReal m c) : (dats m 0 c).arrAt 5 cfg0.N = finalZ m c :=
  (dats m 0 c).arrAt_eq_of_cover 5 _ (fun t _ => flushedZ m c hr t) coveredZ

theorem flushedX (c : Dev nD) (hr : AllReal m c) (t : Fin cfg0.N) : (dats m 0 c).flushed 6 t = ((cfg0.win 6).blk t).view.read (Elt Ideal) (finalX m c) := by
  rw [flushed6]
  funext y
  obtain ⟨r, s, rfl⟩ : ∃ (r : Fin 256) (s : Fin 1024), y = (ix2 r s : S256x1024.Idx) := ⟨y 0, y 1, by funext a; match a with | ⟨0, _⟩ => rfl | ⟨1, _⟩ => rfl⟩
  have e : ((cfg0.win 6).blk t).view.emb (ix2 r s : S256x1024.Idx) = (ix2 (tok t r) s : S4096x1024.Idx) := by
    funext a
    apply Fin.ext
    match a with
    | ⟨0, _⟩ => show win0_6.index t 0 * 256 + 1 * r.val = 256 * t.val + r.val; rw [(index_rows t).2.2.2.2.2.2.2.2.1]; omega
    | ⟨1, _⟩ => show win0_6.index t 1 * 1024 + 1 * s.val = s.val; rw [(index_rows t).2.2.2.2.2.2.2.2.2]; omega
  have hl : (cfg0.win 6).xinj (grid0.coords t) (ix2 r s : S256x1024.Idx) = (ix2 r s : S256x1024.Idx) := by
    funext a; apply Fin.ext
    match a with
    | ⟨0, _⟩ => rfl
    | ⟨1, _⟩ => rfl
  show (outsAt0 m c t.val t.isLt).2.1 ((cfg0.win 6).xinj (grid0.coords t) (ix2 r s : S256x1024.Idx)) = finalX m c (((cfg0.win 6).blk t).view.emb (ix2 r s : S256x1024.Idx))
  rw [hl, e, all_rows, rows_apply m c hr]
  exact (finalX_apply m c (tok t r) s).symm

theorem coveredX (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  refine ⟨⟨(i 0).val / 256, lt_of_lt_of_eq (by omega) N_0.symm⟩, flush0_6 _, ?_⟩
  have hd : (⟨(i 0).val / 256, lt_of_lt_of_eq (by omega) N_0.symm⟩ : Fin cfg0.N).val = (i 0).val / 256 := rfl
  generalize (⟨(i 0).val / 256, lt_of_lt_of_eq (by omega) N_0.symm⟩ : Fin cfg0.N) = t at *
  have e0 := (index_rows t).2.2.2.2.2.2.2.2.1
  have e1 := (index_rows t).2.2.2.2.2.2.2.2.2
  show i ∈ ((View.whole main_v19_1).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    rw [e0]; omega
  | ⟨1, _⟩ =>
    show win0_6.index t (1 : Fin 2) * 1024 ≤ (i 1).val ∧ (i 1).val < win0_6.index t (1 : Fin 2) * 1024 + 1024
    rw [e1]; omega

theorem finalX_eq (c : Dev nD) (hr : AllReal m c) : (dats m 0 c).arrAt 6 cfg0.N = finalX m c :=
  (dats m 0 c).arrAt_eq_of_cover 6 _ (fun t _ => flushedX m c hr t) coveredX

theorem flushedG (c : Dev nD) (hr : AllReal m c) (t : Fin cfg0.N) (hf : (cfg0.win 7).flush t = true) :
    (dats m 0 c).flushed 7 t = ((cfg0.win 7).blk t).view.read (Elt Ideal) (finalG m c) := by
  have ht : t.val = 15 := by have := (flush0_7 t).mp hf; have := lt_of_lt_of_eq t.isLt N_0; omega
  rw [flushed7]
  funext y
  obtain ⟨s, rfl⟩ : ∃ (s : Fin 1024), y = (ix2 0 s : S1x1024.Idx) := ⟨y 1, by
    funext a
    match a with
    | ⟨0, _⟩ => exact Fin.ext (by have : (y 0).val < 1 := (y 0).isLt; show (y 0).val = 0; omega)
    | ⟨1, _⟩ => rfl⟩
  have e : ((cfg0.win 7).blk t).view.emb (ix2 0 s : S1x1024.Idx) = (ix2 0 s : S1x1024.Idx) := by
    funext a
    apply Fin.ext
    match a with
    | ⟨0, _⟩ => show win0_7.index t 0 * 1 + 1 * 0 = 0; rw [(index_whole t).2.2.2.2.1]
    | ⟨1, _⟩ => show win0_7.index t 1 * 1024 + 1 * s.val = s.val; rw [(index_whole t).2.2.2.2.2]; omega
  have hl : (cfg0.win 7).xinj (grid0.coords t) (ix2 0 s : S1x1024.Idx) = (ix2 0 s : S1x1024.Idx) := by
    funext a; apply Fin.ext
    match a with
    | ⟨0, _⟩ => rfl
    | ⟨1, _⟩ => rfl
  show (outsAt0 m c t.val t.isLt).2.2.1 ((cfg0.win 7).xinj (grid0.coords t) (ix2 0 s : S1x1024.Idx)) = finalG m c (((cfg0.win 7).blk t).view.emb (ix2 0 s : S1x1024.Idx))
  rw [hl, e, total m c hr, ht]
  refine Eq.trans ?_ (Cert.RefXIdeal.Val.gradG_apply (argX m c) (H m c) s).symm
  rw [show 256 * (15 + 1) = 4096 from rfl, Finset.sum_range]
  exact Finset.sum_congr rfl fun k _ => by unfold term; rw [dif_pos k.isLt]

theorem coveredG (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  refine ⟨⟨15, lt_of_lt_of_eq (by decide) N_0.symm⟩, (flush0_7 _).mpr rfl, ?_⟩
  generalize (⟨15, lt_of_lt_of_eq (by decide) N_0.symm⟩ : Fin cfg0.N) = t at *
  have e0 := (index_whole t).2.2.2.2.1
  have e1 := (index_whole t).2.2.2.2.2
  show i ∈ ((View.whole main_v19_2).slice (win0_7.rect t)).set
  rw [View.set_slice_whole, Rect.mem_set_unit]
  intro a
  match a with
  | ⟨0, _⟩ =>
    show win0_7.index t (0 : Fin 2) * 1 ≤ (i 0).val ∧ (i 0).val < win0_7.index t (0 : Fin 2) * 1 + 1
    rw [e0]; omega
  | ⟨1, _⟩ =>
    show win0_7.index t (1 : Fin 2) * 1024 ≤ (i 1).val ∧ (i 1).val < win0_7.index t (1 : Fin 2) * 1024 + 1024
    rw [e1]; omega

theorem finalG_eq (c : Dev nD) (hr : AllReal m c) : (dats m 0 c).arrAt 7 cfg0.N = finalG m c :=
  (dats m 0 c).arrAt_eq_of_cover 7 _ (fun t hf => flushedG m c hr t hf) coveredG

/-! ## The precondition -/

/-- An extended real whose absolute value lies below the word for `+∞` is a real number. -/
theorem real_of_lt (a : EReal) (h : Ideal.cmp .olt (max a (-a)) (Ideal.ofBits .f32 0x7F800000#32) = 1#1) : Cert.Gate.IsReal a := by
  have e : Ideal.ofBits .f32 0x7F800000#32 = ⊤ := by simp [Ideal.ofBits, Ideal.ieee]
  rw [e] at h
  have h' : max a (-a) < ⊤ := by
    by_contra hn
    have e' : Ideal.cmp .olt (max a (-a)) ⊤ = BitVec.ofBool (decide (max a (-a) < ⊤)) := rfl
    rw [e', decide_eq_false hn] at h
    exact absurd h (by decide)
  induction a using EReal.rec with
  | bot => simp at h'
  | top => simp at h'
  | coe r => exact ⟨r, rfl⟩

/-- So where the precondition holds, every argument's entries are real. -/
theorem allReal (c : Dev nD)
    (h : ((Cert.Pre_all_finite.fn (F := Ideal) (argX m c) (argG m c) (argW m c) (argE m c) (argD m c)).1 = fun _ => 1#1)
      ∧ ((Cert.Pre_all_finite.fn (F := Ideal) (argX m c) (argG m c) (argW m c) (argE m c) (argD m c)).2.1 = fun _ => 1#1)
      ∧ ((Cert.Pre_all_finite.fn (F := Ideal) (argX m c) (argG m c) (argW m c) (argE m c) (argD m c)).2.2.1 = fun _ => 1#1)
      ∧ ((Cert.Pre_all_finite.fn (F := Ideal) (argX m c) (argG m c) (argW m c) (argE m c) (argD m c)).2.2.2.1 = fun _ => 1#1)
      ∧ ((Cert.Pre_all_finite.fn (F := Ideal) (argX m c) (argG m c) (argW m c) (argE m c) (argD m c)).2.2.2.2 = fun _ => 1#1)) : AllReal m c :=
  ⟨fun i => real_of_lt _ (congrFun h.1 i), fun i => real_of_lt _ (congrFun h.2.1 i), fun i => real_of_lt _ (congrFun h.2.2.1 i),
    fun i => real_of_lt _ (congrFun h.2.2.2.1 i), fun i => real_of_lt _ (congrFun h.2.2.2.2 i)⟩

end Cert.BwdFfnIdeal.Val

end
-- ==== Proof.KernelBits.lean ====
/-
  The frame of the attention's gradient over words, from the run that its reading over any values has: the two programs have the same text,
  so that their body tables are equal, and a run of the one is a run of the other.
-/
module

public import proofs.«01_k».proof.Defs
public import proofs.«01_k».proof.Proof.Run
public import proofs.«01_k».proof.Proof.Gen.Kernel
public import proofs.«01_k».proof.Proof.Gen.KernelIdeal

@[expose] public section

noncomputable section

namespace Cert.Kernel.Words

open Idealize.ShloMosaic Idealize.ShloMosaic.TcCoe Idealize.SL.Sem

set_option maxHeartbeats 8000000 in
set_option maxRecDepth 100000 in
/-- The kernels' body tables: the one label's body is the same in both. -/
theorem bodies : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l x
  obtain ⟨l, hl⟩ := l
  cases l with
  | zero => rfl
  | succ n => exact absurd hl (Nat.not_lt.2 (Nat.le_add_left _ _))

set_option maxHeartbeats 8000000 in
set_option maxRecDepth 100000 in
theorem tables : Cert.Kernel.defs (F := Bits) = Cert.KernelIdeal.defs (F := Bits) :=
  congrArg (Pipeline.defs (Cert.KernelIdeal.pcfgs (F := Bits))) bodies

set_option maxHeartbeats 8000000 in
set_option maxRecDepth 100000 in
theorem frame : Cert.quiescent_Kernel (hKernel := Cert.Kernel.Gen.facts) := fun m ρ _ => by
  have h := Cert.KernelIdeal.Fox.frame (F := Bits) m ρ
  rw [← tables] at h
  exact h

end Cert.Kernel.Words

end
-- ==== Proof.LayerRunA.lean ====
/- The body's run at the first grid point: the four copies of the gate and up weights out of HBM fly together, each lent
   its own half of a scratch and its own read token of the source, and are waited for before the first product. -/
module

public import proofs.«01_k».proof.Proof.Gen.FwdFfnIdeal.Frame.Runs

@[expose] public section

-- membership in a rectangle of production extents (`View.cover_of_tiled`): the elaborator's structural look
-- recurses once per coordinate of the long axes
set_option maxRecDepth 16384

noncomputable section

namespace Cert.FwdFfnIdeal.Ffn

open Cert.FwdFfnIdeal Cert.FwdFfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- An array held whole is a remainder and four read tokens. -/
theorem toks4 (ℓ : Loc nD τ sig) (f : Buf (Elt F) ℓ) :
    (ℓ ↦{fullShare} f : sProp 𝕄) ⊣⊢ iprop((ℓ ↦{Transfers.shareDrop fullShare 4} f) ∗ (ℓ ↦{Transfers.shareTokN fullShare 0} f)
      ∗ (ℓ ↦{Transfers.shareTokN fullShare 1} f) ∗ (ℓ ↦{Transfers.shareTokN fullShare 2} f) ∗ (ℓ ↦{Transfers.shareTokN fullShare 3} f)) := by
  have e : BI.bigSep (Finset.range 4) (fun i => (ℓ ↦{Transfers.shareTokN fullShare i} f : sProp 𝕄))
      = iprop((ℓ ↦{Transfers.shareTokN fullShare 0} f) ∗ (ℓ ↦{Transfers.shareTokN fullShare 1} f)
        ∗ (ℓ ↦{Transfers.shareTokN fullShare 2} f) ∗ (ℓ ↦{Transfers.shareTokN fullShare 3} f)) := by
    rw [show Finset.range 4 = {0, 1, 2, 3} by decide, BI.bigSep_insert (by decide), BI.bigSep_insert (by decide), BI.bigSep_insert (by decide),
      BI.bigSep_singleton]
    rfl
  rw [← e]
  exact Transfers.pointsTo_toks_range fullShare 4

-- (the run's proof term is large: the definition's epilogue — `abstractNestedProofs` — walks it past the default budget)
set_option sl_exec.dmaWindow true in
set_option sl_exec.dmaWindowSet true in
set_option sl_exec.dmaWindowLent true in
set_option maxHeartbeats 4000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) :
    Σ' (L5 : List (View.Piece (Elt F) S256x1024 .bf16)), Σ' (L6 : List (View.Piece (Elt F) S256x5632 .f32)), Σ' (L7 : List (View.Piece (Elt F) S256x2816 .bf16)), Σ' (L8 : List (View.Piece (Elt F) S256x1024 .f32)), Σ' (L9 : List (View.Piece (Elt F) S1x128 .f32)), Σ' (L10 : List (View.Piece (Elt F) S1x1024 .f32)), Σ' (LS0 : List (View.Piece (Elt F) S1024x2816 .bf16)), { LS1 : List (View.Piece (Elt F) S1024x2816 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_fwd_ffn i arg1 harg1 arg2 harg2 (Memref.whole main_v2) (Memref.isWhole_whole _) arg4 harg4 arg5 harg5 arg6 harg6 arg7 harg7 arg8 harg8 arg9 harg9 arg10 harg10 arg11 harg11 arg12 harg12 arg13 harg13 arg14 harg14 cc0_scratch2) K } := by
  refine ⟨?_, ?_, ?_, ?_, ?_, ?_, ?_, ?_, fun W K => ?run⟩
  case run =>
    simp only [cc0_fwd_ffn_eq_skeleton]; unfold cc0_fwd_ffn_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hq0, Hq1, Hq2, Hq3, Hh0, HW, Hk⟩
    obtain rfl := harg1.eq_unread hf0; obtain rfl := harg2.eq_unread hf1; obtain rfl := harg4.eq_unread hf2; obtain rfl := harg5.eq_unread hf3; obtain rfl := harg6.eq_unread hf4
    ihave Hh' := (toks4 ((Memref.whole main_v2 : Memref sig .tc .hbm S4x1024x1408 .bf16).view.loc (c : Thread nD τ)) fh0).1 $$ Hh0
    icases Hh' with ⟨Hr, Ht0, Ht1, Ht2, Ht3⟩
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [Hq0]; · iexact Hq0
    isplitl [Hq1]; · iexact Hq1
    isplitl [Hq2]; · iexact Hq2
    isplitl [Hq3]; · iexact Hq3
    isplitl [Hr Ht0 Ht1 Ht2 Ht3]
    · iapply (toks4 ((Memref.whole main_v2 : Memref sig .tc .hbm S4x1024x1408 .bf16).view.loc (c : Thread nD τ)) fh0).2
      iframe
    iexists _; iexact HW

end Cert.FwdFfnIdeal.Ffn

end
-- ==== Proof.LayerRunB.lean ====
/- The body's run at every later grid point: the weights are read from the scratches as the first point left them. -/
module

public import proofs.«01_k».proof.Proof.LayerRunA

@[expose] public section

-- membership in a rectangle of production extents (`View.cover_of_tiled`): the elaborator's structural look
-- recurses once per coordinate of the long axes
set_option maxRecDepth 16384

noncomputable section

namespace Cert.FwdFfnIdeal.Ffn

open Cert.FwdFfnIdeal Cert.FwdFfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the outputs it reads before covering (9, 10) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) :
    Σ' (L5 : List (View.Piece (Elt F) S256x1024 .bf16)), Σ' (L6 : List (View.Piece (Elt F) S256x5632 .f32)), Σ' (L7 : List (View.Piece (Elt F) S256x2816 .bf16)), Σ' (L8 : List (View.Piece (Elt F) S256x1024 .f32)), Σ' (L9 : List (View.Piece (Elt F) S1x128 .f32)), Σ' (L10 : List (View.Piece (Elt F) S1x1024 .f32)), Σ' (LS0 : List (View.Piece (Elt F) S1024x2816 .bf16)), { LS1 : List (View.Piece (Elt F) S1024x2816 .bf16) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo9 ∗ owns (c : Thread nD τ) arg12 fullShare xo10 ∗ owns (c : Thread nD τ) arg13 fullShare xs0 ∗ owns (c : Thread nD τ) arg14 fullShare xs1 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xs0 ∗ owns (c : Thread nD τ) arg14 fullShare xs1 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ hbPt0 c hbM0_0 fh0 ∗ (∃ W', owes (c : Thread nD τ) 0 W')) -∗ K ⟨⟩))
          ⊢ wp frame (wpE (defs₀ (F := F)) Variants.none c none) Set.univ (cc0_fwd_ffn i arg1 harg1 arg2 harg2 (Memref.whole main_v2) (Memref.isWhole_whole _) arg4 harg4 arg5 harg5 arg6 harg6 arg7 harg7 arg8 harg8 arg9 harg9 arg10 harg10 arg11 harg11 arg12 harg12 arg13 harg13 arg14 harg14 cc0_scratch2) K } := by
  refine ⟨?_, ?_, ?_, ?_, ?_, ?_, [], [], fun W K => ?run⟩
  case run =>
    simp only [cc0_fwd_ffn_eq_skeleton]; unfold cc0_fwd_ffn_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%fs0, %hfs0, HS0⟩, ⟨%fs1, %hfs1, HS1⟩, Hq0, Hq1, Hq2, Hq3, Hh0, HW, Hk⟩
    obtain rfl := harg1.eq_unread hf0; obtain rfl := harg2.eq_unread hf1; obtain rfl := harg4.eq_unread hf2; obtain rfl := harg5.eq_unread hf3; obtain rfl := harg6.eq_unread hf4; obtain rfl := harg11.eq_unread hf9; obtain rfl := harg12.eq_unread hf10; obtain rfl := harg13.eq_unread hfs0; obtain rfl := harg14.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg13.read_unread _
      iexact HS0
    isplitl [HS1]
    · iexists _; isplitr; · ipureintro; exact harg14.read_unread _
      iexact HS1
    isplitl [Hq0]; · iexact Hq0
    isplitl [Hq1]; · iexact Hq1
    isplitl [Hq2]; · iexact Hq2
    isplitl [Hq3]; · iexact Hq3
    isplitl [Hh0]; · iexact Hh0
    iexists _; iexact HW

end Cert.FwdFfnIdeal.Ffn

end
-- ==== Proof.LayerFrame.lean ====
/- What the outputs and the two carried scratches hold point by point, the obligation of one grid point, the launch and
   the frame of the whole call. -/
module

public import proofs.«01_k».proof.Proof.LayerRunB
public import Idealize.ShloMosaic.Lib.Claim

@[expose] public section

-- membership in a rectangle of production extents (`View.cover_of_tiled`): the elaborator's structural look
-- recurses once per coordinate of the long axes
set_option maxRecDepth 16384

noncomputable section

namespace Cert.FwdFfnIdeal.Ffn

open Cert.FwdFfnIdeal Cert.FwdFfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 5 tile its block (1 store of `S256x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) (y : S256x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).1 S256x1024.size (by sl_kernel_rfl) y

/-- What case A leaves in output 5's staging buffer: its pieces read back over junk. -/
def out0_A_5 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) : Vec F S256x1024 .bf16 :=
  VO0_5.read (Elt F) (VO0_5.writes (Elt F) VO0_5.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).1)

/-- Case A's pieces for output 6 tile its block (2 stores of `S256x2816`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) (y : S256x5632.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.1 S256x2816.size (by sl_kernel_rfl) y

/-- What case A leaves in output 6's staging buffer: its pieces read back over junk. -/
def out0_A_6 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) : Vec F S256x5632 .f32 :=
  VO0_6.read (Elt F) (VO0_6.writes (Elt F) VO0_6.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.1)

/-- Case A's pieces for output 7 tile its block (1 store of `S256x2816`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) (y : S256x2816.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.1 S256x2816.size (by sl_kernel_rfl) y

/-- What case A leaves in output 7's staging buffer: its pieces read back over junk. -/
def out0_A_7 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) : Vec F S256x2816 .bf16 :=
  VO0_7.read (Elt F) (VO0_7.writes (Elt F) VO0_7.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.1)

/-- Case A's pieces for output 8 tile its block (1 store of `S256x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) (y : S256x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.1 S256x1024.size (by sl_kernel_rfl) y

/-- What case A leaves in output 8's staging buffer: its pieces read back over junk. -/
def out0_A_8 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) : Vec F S256x1024 .f32 :=
  VO0_8.read (Elt F) (VO0_8.writes (Elt F) VO0_8.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.1)

/-- Case A's pieces for output 9 tile its block (2 stores of `S1x128`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) (y : S1x128.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.1 S1x128.size (by sl_kernel_rfl) y

/-- What case A leaves in output 9's staging buffer: its pieces read back over junk. -/
def out0_A_9 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) : Vec F S1x128 .f32 :=
  VO0_9.read (Elt F) (VO0_9.writes (Elt F) VO0_9.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.1)

/-- Case A's pieces for output 10 tile its block (2 stores of `S1x1024`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) (y : S1x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.1 S1x1024.size (by sl_kernel_rfl) y

/-- What case A leaves in output 10's staging buffer: its pieces read back over junk. -/
def out0_A_10 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) : Vec F S1x1024 .f32 :=
  VO0_10.read (Elt F) (VO0_10.writes (Elt F) VO0_10.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.1)

/-- Case A's pieces for scratch `arg13`, which the kernel carries between points, cover it: 2 pieces of `S1024x1408` tiling it (Lib/Ring.lean `Piece.tiledL`). -/
theorem scover0_A_0 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) (y : S1024x2816.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.1 S1024x1408.size (by sl_kernel_rfl) y

/-- What case A leaves in scratch `arg13`: its pieces read back over junk. -/
def sout0_A_0 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) : Vec F S1024x2816 .bf16 :=
  VS0_0.read (Elt F) (VS0_0.writes (Elt F) VS0_0.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.1)

/-- Case A's pieces for scratch `arg14`, which the kernel carries between points, cover it: 2 pieces of `S1024x1408` tiling it (Lib/Ring.lean `Piece.tiledL`). -/
theorem scover0_A_1 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) (y : S1024x2816.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.2.1 S1024x1408.size (by sl_kernel_rfl) y

/-- What case A leaves in scratch `arg14`: its pieces read back over junk. -/
def sout0_A_1 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : cond0_0 i)
    (x0 : Vec F S256x1024 .f32) (x1 : Vec F S256x1024 .f32) (x2 : Vec F S2816x1024 .bf16) (x3 : Vec F S1x1024 .f32) (x4 : Vec F S1x1024 .f32) (fh0 : HbBuf0 (F := F) c hbM0_0) : Vec F S1024x2816 .bf16 :=
  VS0_1.read (Elt F) (VS0_1.writes (Elt F) VS0_1.junk (kernelRun0_A c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 fh0).2.2.2.2.2.2.2.1)

/-- Case B's pieces for output 5 tile its block (1 store of `S256x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) (y : S256x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).1 S256x1024.size (by sl_kernel_rfl) y

/-- What case B leaves in output 5's staging buffer: its pieces read back over junk. -/
def out0_B_5 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) : Vec F S256x1024 .bf16 :=
  VO0_5.read (Elt F) (VO0_5.writes (Elt F) VO0_5.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).1)

/-- Case B's pieces for output 6 tile its block (2 stores of `S256x2816`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) (y : S256x5632.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.1 S256x2816.size (by sl_kernel_rfl) y

/-- What case B leaves in output 6's staging buffer: its pieces read back over junk. -/
def out0_B_6 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) : Vec F S256x5632 .f32 :=
  VO0_6.read (Elt F) (VO0_6.writes (Elt F) VO0_6.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.1)

/-- Case B's pieces for output 7 tile its block (1 store of `S256x2816`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) (y : S256x2816.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.1 S256x2816.size (by sl_kernel_rfl) y

/-- What case B leaves in output 7's staging buffer: its pieces read back over junk. -/
def out0_B_7 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) : Vec F S256x2816 .bf16 :=
  VO0_7.read (Elt F) (VO0_7.writes (Elt F) VO0_7.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.1)

/-- Case B's pieces for output 8 tile its block (1 store of `S256x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) (y : S256x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.1 S256x1024.size (by sl_kernel_rfl) y

/-- What case B leaves in output 8's staging buffer: its pieces read back over junk. -/
def out0_B_8 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) : Vec F S256x1024 .f32 :=
  VO0_8.read (Elt F) (VO0_8.writes (Elt F) VO0_8.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.1)

/-- Case B's pieces for output 9 tile its block (1 store of `S1x128`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) (y : S1x128.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.1 S1x128.size (by sl_kernel_rfl) y

/-- What case B leaves in output 9's staging buffer: its pieces read back over junk. -/
def out0_B_9 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) : Vec F S1x128 .f32 :=
  VO0_9.read (Elt F) (VO0_9.writes (Elt F) VO0_9.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.1)

/-- Case B's pieces for output 10 tile its block (1 store of `S1x1024`, checked by the kernel's evaluation: Lib/Ring.lean `Piece.tiledL`, linear in the pieces, through a loop's `@[irreducible]` trip theorem too), so they cover it. -/
theorem cover0_B_10 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) (y : S1x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.2.1 S1x1024.size (by sl_kernel_rfl) y

/-- What case B leaves in output 10's staging buffer: its pieces read back over junk. -/
def out0_B_10 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) : Vec F S1x1024 .f32 :=
  VO0_10.read (Elt F) (VO0_10.writes (Elt F) VO0_10.junk (kernelRun0_B c i arg1 harg1 arg2 harg2 arg4 harg4 arg5 harg5 arg6 harg6 arg7 harg7 arg8 harg8 arg9 harg9 arg10 harg10 arg11 harg11 arg12 harg12 arg13 harg13 arg14 harg14 hc0 x0 x1 x2 x3 x4 xo9 xo10 xs0 xs1 fh0).2.2.2.2.2.1)

/-- Case B stores nothing into scratch `arg13`: it holds what the point before left. -/
def sout0_B_0 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) : Vec F S1024x2816 .bf16 := xs0

/-- Case B stores nothing into scratch `arg14`: it holds what the point before left. -/
def sout0_B_1 (c : Dev nD) (i : grid0.Coords) (arg1 : Memref sig .tc .vmem S256x1024 .f32) (harg1 : arg1.IsWhole) (arg2 : Memref sig .tc .vmem S256x1024 .f32) (harg2 : arg2.IsWhole) (arg4 : Memref sig .tc .vmem S2816x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x5632 .f32) (harg8 : arg8.IsWhole) (arg9 : Memref sig .tc .vmem S256x2816 .bf16) (harg9 : arg9.IsWhole) (arg10 : Memref sig .tc .vmem S256x1024 .f32) (harg10 : arg10.IsWhole) (arg11 : Memref sig .tc .vmem S1x128 .f32) (harg11 : arg11.IsWhole) (arg12 : Memref sig .tc .vmem S1x1024 .f32) (harg12 : arg12.IsWhole) (arg13 : Memref sig .tc .vmem S1024x2816 .bf16) (harg13 : arg13.IsWhole) (arg14 : Memref sig .tc .vmem S1024x2816 .bf16) (harg14 : arg14.IsWhole) (hc0 : ¬cond0_0 i)
    (x0 : Vec F S256x1024 .f32) (x1 : Vec F S256x1024 .f32) (x2 : Vec F S2816x1024 .bf16) (x3 : Vec F S1x1024 .f32) (x4 : Vec F S1x1024 .f32) (xo9 : Vec F S1x128 .f32) (xo10 : Vec F S1x1024 .f32) (xs0 : Vec F S1024x2816 .bf16) (xs1 : Vec F S1024x2816 .bf16) (fh0 : HbBuf0 (F := F) c hbM0_0) : Vec F S1024x2816 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .bf16 × Vec F S256x5632 .f32 × Vec F S256x2816 .bf16 × Vec F S256x1024 .f32 × Vec F S1x128 .f32 × Vec F S1x1024 .f32 × Vec F S1024x2816 .bf16 × Vec F S1024x2816 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v2))
  | n + 1, hn =>
    if h0 : (n + 1) % 16 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v2))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v2), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v2), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v2), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v2), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v2), out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v2), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v2), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (V m c main_v2))

/-- `outsAt0` at a point of case A: that case's contents. -/
theorem outsAt0_A (c : Dev nD) (t : Fin cfg0.N) (h0 : t.val % 16 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v2), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v2), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v2), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v2), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v2), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v2), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v2), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (V m c main_v2)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v2), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v2), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v2), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v2), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v2), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v2), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v2), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_v2)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v2)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v2))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r) ∗ iprop(semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(hbPt0 c hbM0_0 (V m c main_v2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 16 = 0) (d) :
    (dats m 0 c).before 10 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8, after0_9, after0_10]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold out0_A_5 out0_A_6 out0_A_7 out0_A_8 out0_A_9 out0_A_10 sout0_A_0 sout0_A_1; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (V m c main_v2)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, ⟨%e5, H5⟩, ⟨%e6, H6⟩, ⟨%e7, H7⟩, ⟨%e8, H8⟩, ⟨%e9, H9⟩, ⟨%e10, H10⟩, ⟨%es0, HS0⟩, ⟨%es1, HS1⟩, Hq0, Hq1, Hq2, Hq3, Hh0, ⟨%W', HW'⟩⟩
      isplitl [HS0 HS1 Hg Hq0 Hq1 Hq2 Hq3 Hh0]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _)
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_9_B m c t h0, before0_10_B m c t h0]
      unfold out0_B_5 out0_B_6 out0_B_7 out0_B_8 out0_B_9 out0_B_10 sout0_B_0 sout0_B_1; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _ _ _ (V m c main_v2)).2.2.2.2.2.2.2.2 W _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexact H9
      isplitl [H10]; · iexact H10
      isplitl [HS0]; · iexact HS0
      isplitl [HS1]; · iexact HS1
      isplitl [Hq0]; · iexact Hq0
      isplitl [Hq1]; · iexact Hq1
      isplitl [Hq2]; · iexact Hq2
      isplitl [Hq3]; · iexact Hq3
      isplitl [Hh0]; · iexact Hh0
      isplitl [HW]; · iexact HW
      iintro ⟨H0, H1, H2, H3, H4, ⟨%e5, H5⟩, ⟨%e6, H6⟩, ⟨%e7, H7⟩, ⟨%e8, H8⟩, ⟨%e9, H9⟩, ⟨%e10, H10⟩, HS0, HS1, Hq0, Hq1, Hq2, Hq3, Hh0, ⟨%W', HW'⟩⟩
      isplitl [HS0 HS1 Hg Hq0 Hq1 Hq2 Hq3 Hh0]
      · isplitl [HS0 HS1]
        · isplitl [HS0]; · iexact HS0
          iexact HS1
        isplitl [Hg]
        · iexact Hg
        isplitl [Hq0 Hq1 Hq2 Hq3]
        · isplitl [Hq0]; · iexact Hq0
          isplitl [Hq1]; · iexact Hq1
          isplitl [Hq2]; · iexact Hq2
          iexact Hq3
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3⟩, Hh0⟩
  isplitl [HS0 HS1]
  · isplitl [HS0]
    · iexists _; iexact HS0
    iexists _; iexact HS1
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_FwdFfnIdeal`'s statement (Defs.lean) at any `F` — Proof.lean cites it at `Bits`:
    `theorem Cert.Proof.claim : Cert.Claim := ⟨Cert.FwdFfnIdeal.Gen.facts, fun m ρ _ => Cert.FwdFfnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FwdFfnIdeal.Ffn

end
-- ==== Proof.LayerBits.lean ====
/-
  The frame of the forward feed-forward layer over words, from the run that its reading over any values has: the two programs have the same text,
  so that their body tables are equal, and a run of the one is a run of the other.
-/
module

public import proofs.«01_k».proof.Defs
public import proofs.«01_k».proof.Proof.LayerFrame
public import proofs.«01_k».proof.Proof.Gen.FwdFfn
public import proofs.«01_k».proof.Proof.Gen.FwdFfnIdeal

@[expose] public section

noncomputable section

namespace Cert.FwdFfn.Words

open Idealize.ShloMosaic Idealize.ShloMosaic.TcCoe Idealize.SL.Sem

set_option maxRecDepth 100000 in
/-- The kernels' body tables: the one label's body is the same in both. -/
theorem bodies : Cert.FwdFfn.defs₀ (F := Bits) = Cert.FwdFfnIdeal.defs₀ (F := Bits) := by
  unfold Cert.FwdFfn.defs₀ Cert.FwdFfnIdeal.defs₀
  refine congrArg (Defs.onTc (nD := Cert.FwdFfnIdeal.nD) (τ := Cert.FwdFfnIdeal.τ) (sig := Cert.FwdFfnIdeal.sig) (Λ := Cert.FwdFfnIdeal.Λ₀)) ?_
  funext l x
  obtain ⟨l, hl⟩ := l
  cases l with
  | zero => rfl
  | succ n => exact absurd hl (Nat.not_lt.2 (Nat.le_add_left _ _))

set_option maxRecDepth 100000 in
theorem tables : Cert.FwdFfn.defs (F := Bits) = Cert.FwdFfnIdeal.defs (F := Bits) :=
  congrArg (Pipeline.defs (Cert.FwdFfnIdeal.pcfgs (F := Bits))) bodies

set_option maxRecDepth 100000 in
theorem frame : Cert.quiescent_FwdFfn (hFwdFfn := Cert.FwdFfn.Gen.facts) := fun m ρ _ => by
  have h := Cert.FwdFfnIdeal.Ffn.frame (F := Bits) m ρ
  rw [← tables] at h
  exact h

end Cert.FwdFfn.Words

end
-- ==== Proof.LayerValue.lean ====
/- The output arrays after the run, block by block. -/
module

public import proofs.«01_k».proof.Proof.LayerFrame
public import Idealize.ShloMosaic.Lib.Pipeline.Value

@[expose] public section

noncomputable section

namespace Cert.FwdFfnIdeal.FfnVal

open Cert.FwdFfnIdeal Cert.FwdFfnIdeal.Gen Cert.FwdFfnIdeal.Ffn Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What each block writes back, and the run -/

theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

theorem post5 (r : PUnit × MemSt nD τ sig (Elt F)) (h : Pipeline.FramePost cfgs (dats m) 0 (V m) r) (c : Dev nD) :
    r.2.mem ((c : Thread nD τ).loc main_v6_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v6_1) = (dats m 0 c).arrAt 6 cfg0.N :=
  (h c).1 6

theorem post7 (r : PUnit × MemSt nD τ sig (Elt F)) (h : Pipeline.FramePost cfgs (dats m) 0 (V m) r) (c : Dev nD) :
    r.2.mem ((c : Thread nD τ).loc main_v6_2) = (dats m 0 c).arrAt 7 cfg0.N :=
  (h c).1 7

theorem post8 (r : PUnit × MemSt nD τ sig (Elt F)) (h : Pipeline.FramePost cfgs (dats m) 0 (V m) r) (c : Dev nD) :
    r.2.mem ((c : Thread nD τ).loc main_v6_3) = (dats m 0 c).arrAt 8 cfg0.N :=
  (h c).1 8

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run, with what the first four arrays hold after it, and the arguments as they were. -/
theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_v6_2) = (dats m 0 c).arrAt 7 cfg0.N
      ∧ r.2.mem ((c : Thread nD τ).loc main_v6_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post5 m r h c,
      post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

end Cert.FwdFfnIdeal.FfnVal

end
-- ==== Proof.LayerBlk.lean ====
/-
  The forward feed-forward layer with the loss behind it: sixteen blocks of 256 tokens. The first block copies the four slabs of the
  gate and up projections' weight into two buffers that the later blocks find there. What a block writes, as a term in its operands.
-/
module

public import proofs.«01_k».proof.Proof.LayerValue
public import proofs.«01_k».proof.Proof.FfnBlk
public import Idealize.ShloMosaic.Lib.Tactic
public import Idealize.ShloMosaic.Lib.Pointwise
public import Idealize.ShloMosaic.Lib.ValueLayout

@[expose] public section

noncomputable section

namespace Cert.FwdFfnIdeal.Val

open Cert.FwdFfnIdeal Cert.FwdFfnIdeal.Gen Cert.FwdFfnIdeal.Ffn Cert.FwdFfnIdeal.FfnVal
open Idealize.ShloMosaic Idealize.ShloMosaic.TcCoe Idealize.SL.Sem
open Cert.BwdFfnIdeal.Val (hz pair copied)

section AnyValues
variable {F : FTy → Type} [FloatOps F]

/-- The slab that a copy reads. -/
theorem slab (X : Vec F S4x1024x1408 .bf16) (o : Fin 3 → ℕ) (i : Fin 4) (h0 : o 0 = i.val) (h1 : o 1 = 0) (h2 : o 2 = 0) (inb) (hn) (k : Fin 1024) (s : Fin 1408) :
    View.read (Elt F) (((View.whole main_v2).slice (Rect.unit (s := S4x1024x1408) o ![1, 1024, 1408] inb)).reshape S1024x1408 hn) X (ix2 k s : S1024x1408.Idx) = X (ix3 i k s) := by
  rw [View.read_apply]
  refine congrArg X ?_
  show (Rect.unit (s := S4x1024x1408) o ![1, 1024, 1408] inb).emb (Shape.reshapeEquiv hn (ix2 k s)) = _
  have e : Shape.reshapeEquiv hn (ix2 k s : S1024x1408.Idx) = (ix3 (⟨0, Nat.one_pos⟩ : Fin 1) k s : S1x1024x1408.Idx) := ValueIdx.reshapeEquiv_ix2_1ab hn k s
  refine (congrArg (Rect.unit (s := S4x1024x1408) o ![1, 1024, 1408] inb).emb e).trans ?_
  funext a
  apply Fin.ext
  match a with
  | ⟨0, _⟩ => show o 0 + 1 * 0 = i.val; omega
  | ⟨1, _⟩ => show o 1 + 1 * k.val = k.val; omega
  | ⟨2, _⟩ => show o 2 + 1 * s.val = s.val; omega

/-- Two blocks written side by side. -/
def halves (a b : Vec F S256x2816 .f32) : Vec F S256x5632 .f32 := fun y =>
  if h : (y 1).val < 2816 then a (ix2 (y 0) ⟨(y 1).val, h⟩)
  else b (ix2 (y 0) ⟨(y 1).val - 2816, by have : (y 1).val < 5632 := (y 1).isLt; omega⟩)

theorem written (a b : Vec F S256x2816 .f32) (inb inb') :
    View.canon (Val := Elt F) (s := S256x5632) (e := .f32) [⟨Rect.unit (s := S256x5632) ![0, 2816] S256x2816.size inb, b⟩, ⟨Rect.unit (s := S256x5632) ![0, 0] S256x2816.size inb', a⟩] = halves a b := by
  funext y
  by_cases h : (y 1).val < 2816
  · have e : y = (Rect.unit (s := S256x5632) ![0, 0] S256x2816.size inb').emb (ix2 (y 0) ⟨(y 1).val, h⟩ : S256x2816.Idx) := by
      funext z
      apply Fin.ext
      match z with
      | ⟨0, _⟩ => show (y 0).val = 0 + 1 * (y 0).val; omega
      | ⟨1, _⟩ => show (y 1).val = 0 + 1 * (y 1).val; omega
    rw [View.canon_cons_of_not_mem]
    · conv_lhs => rw [e]
      rw [View.canon_cons_emb]
      unfold halves
      rw [dif_pos h]
    · rw [Rect.mem_set_unit]
      intro hm
      have := (hm 1).1
      have h' : 2816 ≤ (y 1).val := this
      omega
  · have hy : (y 1).val < 5632 := (y 1).isLt
    have e : y = (Rect.unit (s := S256x5632) ![0, 2816] S256x2816.size inb).emb (ix2 (y 0) ⟨(y 1).val - 2816, by omega⟩ : S256x2816.Idx) := by
      funext z
      apply Fin.ext
      match z with
      | ⟨0, _⟩ => show (y 0).val = 0 + 1 * (y 0).val; omega
      | ⟨1, _⟩ => show (y 1).val = 2816 + 1 * ((y 1).val - 2816); omega
    conv_lhs => rw [e]
    rw [View.canon_cons_emb]
    unfold halves
    rw [dif_neg h]

variable (m : (ℓ : Loc nD τ sig) → Buf (Elt F) ℓ)

/-- The two halves of the weight, as the buffers hold them. -/
def wg (c : Dev nD) : Vec F S1024x2816 .bf16 := pair 0 1 (V m c main_v2)
def wu (c : Dev nD) : Vec F S1024x2816 .bf16 := pair 2 3 (V m c main_v2)

/-- A block's gate and up projections, and the divisor of the gate's sigmoid. -/
def gate (c : Dev nD) (t : Fin cfg0.N) : Vec F S256x2816 .f32 := k0_pay6 (iblk m c 0 t) (iblk m c 3 t) (wg m c)
def up (c : Dev nD) (t : Fin cfg0.N) : Vec F S256x2816 .f32 := k0_pay7 (iblk m c 0 t) (iblk m c 3 t) (wu m c)
def bottom (c : Dev nD) (t : Fin cfg0.N) : Vec F S256x2816 .f32 := k0_pay8 (iblk m c 0 t) (iblk m c 3 t) (wg m c)

/-- What a block writes: the normed rows, the gated unit, and the gradient of the loss at the layer's output. -/
def hfb (c : Dev nD) (t : Fin cfg0.N) : Vec F S256x1024 .bf16 := k0_pay5 (iblk m c 0 t) (iblk m c 3 t)
def actb (c : Dev nD) (t : Fin cfg0.N) : Vec F S256x2816 .bf16 := k0_pay9 (gate m c t) (up m c t) (bottom m c t) (Scalar.ofBits .f32 0x3F800000#32)
def rows (c : Dev nD) (t : Fin cfg0.N) : Vec F S256x1024 .f32 :=
  k0_pay1 (k0_pay11 (iblk m c 0 t) (gate m c t) (up m c t) (bottom m c t) (Scalar.ofBits .f32 0x3F800000#32) (iblk m c 2 t))
    (k0_pay12 (iblk m c 0 t) (gate m c t) (up m c t) (bottom m c t) (Scalar.ofBits .f32 0x3F800000#32) (iblk m c 2 t))
    (k0_pay13 (iblk m c 4 t))
    (k0_pay16 (iblk m c 0 t) (gate m c t) (up m c t) (bottom m c t) (Scalar.ofBits .f32 0x3F800000#32) (iblk m c 2 t) (iblk m c 4 t) (iblk m c 1 t))

theorem first_wg (c : Dev nD) (t : Fin cfg0.N) (h0 : t.val % 16 = 0) : (outsAt0 m c t.val t.isLt).2.2.2.2.2.2.1 = wg m c := by
  rw [outsAt0_A m c t h0]
  dsimp only
  unfold sout0_A_0
  rw [View.read_writes_eq_canon _ _ _ (scover0_A_0 c _ _ _ _ _ _ _ _ _ _ _ _ _ _ _ _ _ _ _ _ _ _ _ _ _ _ _ _ _ _ _ _ _ _)]
  unfold kernelRun0_A
  dsimp only
  sl_unfold_words
  exact copied _ _ 0 1 (V m c main_v2) (fun k s => slab _ _ 0 rfl rfl rfl _ _ k s) (fun k s => slab _ _ 1 rfl rfl rfl _ _ k s) _ _

theorem first_wu (c : Dev nD) (t : Fin cfg0.N) (h0 : t.val % 16 = 0) : (outsAt0 m c t.val t.isLt).2.2.2.2.2.2.2 = wu m c := by
  rw [outsAt0_A m c t h0]
  dsimp only
  unfold sout0_A_1
  rw [View.read_writes_eq_canon _ _ _ (scover0_A_1 c _ _ _ _ _ _ _ _ _ _ _ _ _ _ _ _ _ _ _ _ _ _ _ _ _ _ _ _ _ _ _ _ _ _)]
  unfold kernelRun0_A
  dsimp only
  sl_unfold_words
  exact copied _ _ 2 3 (V m c main_v2) (fun k s => slab _ _ 2 rfl rfl rfl _ _ k s) (fun k s => slab _ _ 3 rfl rfl rfl _ _ k s) _ _

/-! The loads of the first block find the halves. -/

theorem loaded_wg (c : Dev nD) (i i') (h h') (hq) :
    scM0_0.view.readCov (Val := Elt F)
        [⟨Rect.unit (s := S1024x2816) ![0, 1408] S1024x1408.size i, ReadAs.same.apply (View.read (Elt F) (((Memref.whole main_v2).slice (Rect.unit (s := S4x1024x1408) ![1, 0, 0] S1x1024x1408.size h) (fun _ => rfl)).squeeze S1024x1408 hq).view (V m c main_v2))⟩,
          ⟨Rect.unit (s := S1024x2816) ![0, 0] S1024x1408.size i', ReadAs.same.apply (View.read (Elt F) (((Memref.whole main_v2).slice (Rect.unit (s := S4x1024x1408) ![0, 0, 0] S1x1024x1408.size h') (fun _ => rfl)).squeeze S1024x1408 hq).view (V m c main_v2))⟩]
        (Rect.unit (s := S1024x2816) ![0, 0] S1024x2816.size inb_S1024x2816_S1024x2816_0_0).toLoadRect = wg m c := by
  rw [View.readCov_eq_canon']
  refine (View.ld_unit_zero (S := S1024x2816) hz _ _).trans ?_
  exact copied _ _ 0 1 (V m c main_v2) (fun k s => slab _ _ 0 rfl rfl rfl _ _ k s) (fun k s => slab _ _ 1 rfl rfl rfl _ _ k s) _ _

theorem loaded_wu (c : Dev nD) (i i') (h h') (hq) :
    scM0_1.view.readCov (Val := Elt F)
        [⟨Rect.unit (s := S1024x2816) ![0, 1408] S1024x1408.size i, ReadAs.same.apply (View.read (Elt F) (((Memref.whole main_v2).slice (Rect.unit (s := S4x1024x1408) ![3, 0, 0] S1x1024x1408.size h) (fun _ => rfl)).squeeze S1024x1408 hq).view (V m c main_v2))⟩,
          ⟨Rect.unit (s := S1024x2816) ![0, 0] S1024x1408.size i', ReadAs.same.apply (View.read (Elt F) (((Memref.whole main_v2).slice (Rect.unit (s := S4x1024x1408) ![2, 0, 0] S1x1024x1408.size h') (fun _ => rfl)).squeeze S1024x1408 hq).view (V m c main_v2))⟩]
        (Rect.unit (s := S1024x2816) ![0, 0] S1024x2816.size inb_S1024x2816_S1024x2816_0_0).toLoadRect = wu m c := by
  rw [View.readCov_eq_canon']
  refine (View.ld_unit_zero (S := S1024x2816) hz _ _).trans ?_
  exact copied _ _ 2 3 (V m c main_v2) (fun k s => slab _ _ 2 rfl rfl rfl _ _ k s) (fun k s => slab _ _ 3 rfl rfl rfl _ _ k s) _ _

/-- The later blocks leave the buffers as they are. -/
theorem next_w (c : Dev nD) (t : Fin cfg0.N) (h0 : ¬t.val % 16 = 0) :
    (outsAt0 m c t.val t.isLt).2.2.2.2.2.2 = (outsAt0 m c (t.val - 1) (Nat.lt_of_le_of_lt (Nat.sub_le _ _) t.isLt)).2.2.2.2.2.2 := by
  rw [outsAt0_B m c t h0]
  dsimp only
  rfl

theorem held (c : Dev nD) : ∀ (n : ℕ) (h : n < cfg0.N), (outsAt0 m c n h).2.2.2.2.2.2 = (wg m c, wu m c) := by
  intro n
  induction n with
  | zero => intro h; exact Prod.ext (first_wg m c ⟨0, h⟩ rfl) (first_wu m c ⟨0, h⟩ rfl)
  | succ n ih =>
    intro h
    have hN : n + 1 < 16 := lt_of_lt_of_eq h N_0
    exact (next_w m c ⟨n + 1, h⟩ (by show ¬(n + 1) % 16 = 0; omega)).trans (ih (lt_trans (Nat.lt_succ_self n) h))

theorem first_hf (c : Dev nD) (t : Fin cfg0.N) (h0 : t.val % 16 = 0) : (outsAt0 m c t.val t.isLt).1 = hfb m c t := by
  rw [outsAt0_A m c t h0]
  dsimp only
  unfold out0_A_5
  rw [View.read_writes_eq_canon _ _ _ (cover0_A_5 c _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, View.ld_unit_zero (S := S256x1024) hz, View.ld_unit_zero (S := S2816x1024) hz, View.ld_unit_zero (S := S1x1024) hz]
  rfl

theorem next_hf (c : Dev nD) (t : Fin cfg0.N) (h0 : ¬t.val % 16 = 0) : (outsAt0 m c t.val t.isLt).1 = hfb m c t := by
  rw [outsAt0_B m c t h0]
  dsimp only
  rw [held]
  unfold out0_B_5
  rw [View.read_writes_eq_canon _ _ _ (cover0_B_5 c _ _ _ _ _ _ _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S256x1024) hz, View.ld_unit_zero (S := S2816x1024) hz, View.ld_unit_zero (S := S1x1024) hz, View.ld_unit_zero (S := S1024x2816) hz]
  rfl

theorem all_hf (c : Dev nD) (t : Fin cfg0.N) : (outsAt0 m c t.val t.isLt).1 = hfb m c t := by
  by_cases h : t.val % 16 = 0
  · exact first_hf m c t h
  · exact next_hf m c t h

theorem first_gu (c : Dev nD) (t : Fin cfg0.N) (h0 : t.val % 16 = 0) : (outsAt0 m c t.val t.isLt).2.1 = halves (gate m c t) (up m c t) := by
  rw [outsAt0_A m c t h0]
  dsimp only
  unfold out0_A_6
  rw [View.read_writes_eq_canon _ _ _ (cover0_A_6 c _ _ _ _ _ _ _ _ _ _ _ _ _ _ _ _ _ _ _ _ _ _ _ _ _ _ _ _ _ _ _ _ _ _)]
  unfold kernelRun0_A
  dsimp only
  sl_unfold_words
  refine (written _ _ _ _).trans ?_
  rw [loaded_wg, loaded_wu]
  simp only [View.readAt_eq_ld, (hs0_0 t).read_unread, (hs0_1 t).read_unread, (hs0_2 t).read_unread, (hs0_3 t).read_unread, (hs0_4 t).read_unread, View.ld_unit_zero (S := S256x1024) hz, View.ld_unit_zero (S := S2816x1024) hz, View.ld_unit_zero (S := S1x1024) hz]
  rfl

theorem next_gu (c : Dev nD) (t : Fin cfg0.N) (h0 : ¬t.val % 16 = 0) : (outsAt0 m c t.val t.isLt).2.1 = halves (gate m c t) (up m c t) := by
  rw [outsAt0_B m c t h0]
  dsimp only
  rw [held]
  unfold out0_B_6
  rw [View.read_writes_eq_canon _ _ _ (cover0_B_6 c _ _ _ _ _ _ _ _ _ _ _ _ _ _ _ _ _ _ _ _ _ _ _ _ _ _ _ _ _ _ _ _ _ _ _ _ _ _)]
  unfold kernelRun0_B
  dsimp only
  sl_unfold_words
  refine (written _ _ _ _).trans ?_
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S256x1024) hz, View.ld_unit_zero (S := S2816x1024) hz, View.ld_unit_zero (S := S1x1024) hz, View.ld_unit_zero (S := S1024x2816) hz]
  rfl

theorem all_gu (c : Dev nD) (t : Fin cfg0.N) : (outsAt0 m c t.val t.isLt).2.1 = halves (gate m c t) (up m c t) := by
  by_cases h : t.val % 16 = 0
  · exact first_gu m c t h
  · exact next_gu m c t h

theorem first_act (c : Dev nD) (t : Fin cfg0.N) (h0 : t.val % 16 = 0) : (outsAt0 m c t.val t.isLt).2.2.1 = actb m c t := by
  rw [outsAt0_A m c t h0]
  dsimp only
  unfold out0_A_7
  rw [View.read_writes_eq_canon _ _ _ (cover0_A_7 c _ _ _ _ _ _ _ _ _ _ _ _ _ _ _ _ _ _ _ _ _ _ _ _ _ _ _ _ _ _ _ _ _ _)]
  unfold kernelRun0_A
  dsimp only
  sl_unfold_words
  rw [View.canon_unit_zero hz, loaded_wg, loaded_wu]
  simp only [View.readAt_eq_ld, (hs0_0 t).read_unread, (hs0_1 t).read_unread, (hs0_2 t).read_unread, (hs0_3 t).read_unread, (hs0_4 t).read_unread, View.ld_unit_zero (S := S256x1024) hz, View.ld_unit_zero (S := S2816x1024) hz, View.ld_unit_zero (S := S1x1024) hz]
  rfl

theorem next_act (c : Dev nD) (t : Fin cfg0.N) (h0 : ¬t.val % 16 = 0) : (outsAt0 m c t.val t.isLt).2.2.1 = actb m c t := by
  rw [outsAt0_B m c t h0]
  dsimp only
  rw [held]
  unfold out0_B_7
  rw [View.read_writes_eq_canon _ _ _ (cover0_B_7 c _ _ _ _ _ _ _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S256x1024) hz, View.ld_unit_zero (S := S2816x1024) hz, View.ld_unit_zero (S := S1x1024) hz, View.ld_unit_zero (S := S1024x2816) hz]
  rfl

theorem all_act (c : Dev nD) (t : Fin cfg0.N) : (outsAt0 m c t.val t.isLt).2.2.1 = actb m c t := by
  by_cases h : t.val % 16 = 0
  · exact first_act m c t h
  · exact next_act m c t h

theorem first_rows (c : Dev nD) (t : Fin cfg0.N) (h0 : t.val % 16 = 0) : (outsAt0 m c t.val t.isLt).2.2.2.1 = rows m c t := by
  rw [outsAt0_A m c t h0]
  dsimp only
  unfold out0_A_8
  rw [View.read_writes_eq_canon _ _ _ (cover0_A_8 c _ _ _ _ _ _ _ _ _ _ _ _ _ _ _ _ _ _ _ _ _ _ _ _ _ _ _ _ _ _ _ _ _ _)]
  unfold kernelRun0_A
  dsimp only
  sl_unfold_words
  rw [View.canon_unit_zero hz, loaded_wg, loaded_wu]
  simp only [View.readAt_eq_ld, (hs0_0 t).read_unread, (hs0_1 t).read_unread, (hs0_2 t).read_unread, (hs0_3 t).read_unread, (hs0_4 t).read_unread, View.ld_unit_zero (S := S256x1024) hz, View.ld_unit_zero (S := S2816x1024) hz, View.ld_unit_zero (S := S1x1024) hz]
  rfl

theorem next_rows (c : Dev nD) (t : Fin cfg0.N) (h0 : ¬t.val % 16 = 0) : (outsAt0 m c t.val t.isLt).2.2.2.1 = rows m c t := by
  rw [outsAt0_B m c t h0]
  dsimp only
  rw [held]
  unfold out0_B_8
  rw [View.read_writes_eq_canon _ _ _ (cover0_B_8 c _ _ _ _ _ _ _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (Memref.isWhole_whole cc0_scratch0).read_unread, (Memref.isWhole_whole cc0_scratch1).read_unread, View.ld_unit_zero (S := S256x1024) hz, View.ld_unit_zero (S := S2816x1024) hz, View.ld_unit_zero (S := S1x1024) hz, View.ld_unit_zero (S := S1024x2816) hz]
  rfl

theorem all_rows (c : Dev nD) (t : Fin cfg0.N) : (outsAt0 m c t.val t.isLt).2.2.2.1 = rows m c t := by
  by_cases h : t.val % 16 = 0
  · exact first_rows m c t h
  · exact next_rows m c t h

/-! The arrays that the host prepares. -/

theorem V_slabs (c : Dev nD) : (V m c main_v2 : Vec F S4x1024x1408 .bf16) = truncf .bf16 (transpose S4x1024x1408 [1, 0, 2] (shapeCast S1024x4x1408 (m ((c : Thread nD τ).loc main_arg2) : FVec F S1024x5632 .f32) shapeCasts_S1024x5632_S1024x4x1408) transposes_S1024x4x1408_S4x1024x1408_1_0_2 : FVec F S4x1024x1408 .f32) bitsLt_bf16_f32 := by
  simp only [V, hostOps0, List.flatten_cons, List.flatten_nil, List.append_nil, List.cons_append, List.nil_append]
  after_results_simp <;> rfl

theorem V_wd (c : Dev nD) : (V m c main_v3 : Vec F S2816x1024 .bf16) = truncf .bf16 (m ((c : Thread nD τ).loc main_arg3) : FVec F S2816x1024 .f32) bitsLt_bf16_f32 := by
  simp only [V, hostOps0, List.flatten_cons, List.flatten_nil, List.append_nil, List.cons_append, List.nil_append]
  after_results_simp <;> rfl

theorem V_g (c : Dev nD) : (V m c main_v4 : Vec F S1x1024 .f32) = shapeCast S1x1024 (m ((c : Thread nD τ).loc main_arg4) : FVec F S1024 .f32) shapeCasts_S1024_S1x1024 := by
  simp only [V, hostOps0, List.flatten_cons, List.flatten_nil, List.append_nil, List.cons_append, List.nil_append]
  after_results_simp <;> rfl

theorem V_gl (c : Dev nD) : (V m c main_v5 : Vec F S1x1024 .f32) = shapeCast S1x1024 (m ((c : Thread nD τ).loc main_arg5) : FVec F S1024 .f32) shapeCasts_S1024_S1x1024 := by
  simp only [V, hostOps0, List.flatten_cons, List.flatten_nil, List.append_nil, List.cons_append, List.nil_append]
  after_results_simp <;> rfl

end AnyValues

end Cert.FwdFfnIdeal.Val

end
-- ==== Proof.LayerRef.lean ====
/-
  What the reference of the forward feed-forward layer and of the loss computes, entry by entry: the normed input, the gate and up
  projections, the gated unit, and the gradient of the loss at the layer's output.
-/
module

public import proofs.«01_k».proof.Proof.FfnRef
public import proofs.«01_k».proof.Proof.Gen.RefLayerIdeal.Run
public import Idealize.ShloMosaic.Lib.Tactic
public import Idealize.ShloMosaic.Lib.Pointwise

@[expose] public section

noncomputable section

namespace Cert.RefLayerIdeal.Val

open Cert.RefLayerIdeal Cert.RefLayerIdeal.Gen Idealize.ShloMosaic Idealize.ShloMosaic.StableHlo
open Cert.RefFfnIdeal.Val (normed gu gateOf upOf sigm)

/-- The gated unit, from the two projections. -/
def act (z : FVec Ideal S4096x5632 .f32) : FVec Ideal S4096x2816 .f32 := mulf (mulf (gateOf z) (sigm (gateOf z))) (upOf z)

/-- The layer's output: its input and the unit's product with the second weight. -/
def out (x : FVec Ideal S4096x1024 .f32) (a : FVec Ideal S4096x2816 .f32) (wd : FVec Ideal S2816x1024 .f32) : FVec Ideal S4096x1024 .f32 :=
  addf x (Host.dotGeneral (F := Ideal) dot_S4096x2816_S2816x1024_S4096x1024_1_0_0_1_n_n none a wd)

/-- What the loss squares: the normed output less the target. -/
def miss (X : FVec Ideal S4096x1024 .f32) (g : FVec Ideal S1024 .f32) (tgt : FVec Ideal S4096x1024 .f32) : FVec Ideal S4096x1024 .f32 :=
  subf (normed X g) tgt

/-- The loss's slope there: half of the mean of each row's squares has this derivative. -/
def slope (e : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) e)

/-- The norm's gradient, with no other summand. -/
def through (x d : FVec Ideal S4096x1024 .f32) : FVec Ideal S4096x1024 .f32 :=
  addf (addf (mulf d (broadcastInDim S4096x1024 ![0, 1] bcast_S4096x1_S4096x1024_0_1 (Host.rsqrt (Cert.RefXIdeal.Val.meanSq x)))) (mulf x (Cert.RefXIdeal.Val.meanGrad x d))) (mulf (Cert.RefXIdeal.Val.meanGrad x d) x)

/-- The gradient of the loss at the layer's output. -/
def gradOut (X : FVec Ideal S4096x1024 .f32) (g : FVec Ideal S1024 .f32) (tgt : FVec Ideal S4096x1024 .f32) : FVec Ideal S4096x1024 .f32 :=
  through X (Cert.RefXIdeal.Val.scaled g (slope (miss X g tgt)))

theorem act_apply (z : FVec Ideal S4096x5632 .f32) (t : Fin 4096) (f : Fin 2816) :
    act z (ix2 t f) = z (ix2 t ⟨f.val, by have := f.isLt; omega⟩) * Cert.Gate.sigma (z (ix2 t ⟨f.val, by have := f.isLt; omega⟩)) * z (ix2 t ⟨2816 + f.val, by have := f.isLt; omega⟩) := by
  rw [← Cert.RefFfnIdeal.Val.gateOf_apply z t f, ← Cert.RefFfnIdeal.Val.upOf_apply z t f, ← Cert.RefFfnIdeal.Val.sig_apply (gateOf z) t f]
  unfold act
  generalize sigm (gateOf z) = s
  generalize gateOf z = p
  generalize upOf z = u
  pointwise

theorem out_apply (x : FVec Ideal S4096x1024 .f32) (a : FVec Ideal S4096x2816 .f32) (wd : FVec Ideal S2816x1024 .f32) (t : Fin 4096) (s : Fin 1024) :
    out x a wd (ix2 t s) = x (ix2 t s) + ∑ k : Fin 2816, a (ix2 t k) * wd (ix2 k s) := by
  unfold out
  pointwise

theorem miss_apply (X : FVec Ideal S4096x1024 .f32) (g : FVec Ideal S1024 .f32) (tgt : FVec Ideal S4096x1024 .f32) (t : Fin 4096) (s : Fin 1024) :
    miss X g tgt (ix2 t s) = X (ix2 t s) * Ideal.rsqrt (Cert.Norm.meanSq fun j => X (ix2 t j)) * g (ix1 s) - tgt (ix2 t s) := by
  rw [← Cert.RefFfnIdeal.Val.normed_apply X g t s]
  unfold miss
  generalize normed X g = q
  pointwise

/-- The inverse of the width, as a literal. -/
def share : EReal := Ideal.ofBits .f32 0x3A800000#32

theorem share_eq : share = ((1 / 1024 : ℝ) : EReal) := by
  unfold share; simp [Ideal.ofBits, Ideal.ieee]; rw [← EReal.coe_mul]; norm_num

theorem one_eq : Ideal.ofBits .f32 0x3F800000#32 = ((1 : ℝ) : EReal) := by
  simp [Ideal.ofBits, Ideal.ieee]; rw [← EReal.coe_mul]; norm_num
theorem two_eq : Ideal.ofBits .f32 0x40000000#32 = ((2 : ℝ) : EReal) := by
  simp [Ideal.ofBits, Ideal.ieee]; rw [← EReal.coe_mul]; norm_num
theorem half_eq : Ideal.ofBits .f32 0x3F000000#32 = ((1 / 2 : ℝ) : EReal) := by
  simp [Ideal.ofBits, Ideal.ieee]; rw [← EReal.coe_mul]; norm_num

theorem slope_apply (e : FVec Ideal S4096x1024 .f32) (t : Fin 4096) (s : Fin 1024) : slope e (ix2 t s) = e (ix2 t s) * share := by
  have h : slope e (ix2 t s) = Ideal.div (Ideal.ofBits .f32 0x3F000000#32 * Ideal.ofBits .f32 0x3F800000#32) Cert.Norm.width * (Ideal.ofBits .f32 0x40000000#32 * e (ix2 t s)) := by
    unfold slope Cert.Norm.width
    pointwise
  rw [h, Cert.Norm.div_width, half_eq, one_eq, two_eq, share_eq, ← mul_assoc, ← EReal.coe_mul, ← EReal.coe_mul, ← EReal.coe_mul, mul_comm]
  congr 2
  norm_num

theorem through_apply (x d : FVec Ideal S4096x1024 .f32) (t : Fin 4096) (j : Fin 1024) :
    through x d (ix2 t j) = Cert.Norm.kernelGrad (fun j => x (ix2 t j)) (fun j => d (ix2 t j)) j := by
  rw [Cert.Norm.kernelGrad_eq, ← Cert.RefXIdeal.Val.meanGrad_apply x d t j, ← Cert.RefXIdeal.Val.meanSq_apply x t]
  unfold through
  generalize Cert.RefXIdeal.Val.meanGrad x d = q
  generalize Cert.RefXIdeal.Val.meanSq x = p
  pointwise

theorem gradOut_apply (X : FVec Ideal S4096x1024 .f32) (g : FVec Ideal S1024 .f32) (tgt : FVec Ideal S4096x1024 .f32) (t : Fin 4096) (s : Fin 1024) :
    gradOut X g tgt (ix2 t s) = Cert.Norm.kernelGrad (fun j => X (ix2 t j))
      (fun j => (X (ix2 t j) * Ideal.rsqrt (Cert.Norm.meanSq fun j => X (ix2 t j)) * g (ix1 j) - tgt (ix2 t j)) * share * g (ix1 j)) s := by
  unfold gradOut
  rw [through_apply]
  refine congrArg (fun d => Cert.Norm.kernelGrad (fun j => X (ix2 t j)) d s) (funext fun j => ?_)
  rw [Cert.RefXIdeal.Val.scaled_apply, slope_apply, miss_apply]

/-- The run's last result is this array. -/
def argOut (m : (ℓ : Loc nD τ sig) → Buf (Elt Ideal) ℓ) (c : Dev nD) : FVec Ideal S4096x1024 .f32 :=
  out (m ((c.tc : Thread nD τ).loc main_arg0)) (act (gu (m ((c.tc : Thread nD τ).loc main_arg0)) (m ((c.tc : Thread nD τ).loc main_arg4)) (m ((c.tc : Thread nD τ).loc main_arg2)))) (m ((c.tc : Thread nD τ).loc main_arg3))

set_option maxRecDepth 8192 in
theorem result3_eq (m : (ℓ : Loc nD τ sig) → Buf (Elt Ideal) ℓ) (c : Dev nD) :
    Cert.RefLayerIdeal.Value.res_main_v66 (F := Ideal) m c = gradOut (argOut m c) (m ((c.tc : Thread nD τ).loc main_arg5)) (m ((c.tc : Thread nD τ).loc main_arg1)) := by
  unfold Cert.RefLayerIdeal.Value.res_main_v66
  rfl

end Cert.RefLayerIdeal.Val

end
-- ==== Proof.LayerVal.lean ====
/-
  The forward feed-forward layer and the loss's slope over the extended reals: the entries of what a block writes, the arrays after
  the sixteen blocks, and that they are the reference's.
-/
module

public import proofs.«01_k».proof.Proof.LayerBlk
public import proofs.«01_k».proof.Proof.LayerRef
public import Idealize.ShloMosaic.Lib.Tactic
public import Idealize.ShloMosaic.Lib.Pointwise

@[expose] public section

noncomputable section

namespace Cert.FwdFfnIdeal.Val

open Cert.FwdFfnIdeal Cert.FwdFfnIdeal.Gen Cert.FwdFfnIdeal.Ffn Cert.FwdFfnIdeal.FfnVal
open Idealize.ShloMosaic Idealize.ShloMosaic.TcCoe Idealize.SL.Sem
open Cert.BwdFfnIdeal.Val (pair)

/-! ## The block's arithmetic, entry by entry -/

theorem pay5_apply (x : Vec Ideal S256x1024 .f32) (g : Vec Ideal S1x1024 .f32) (r : Fin 256) (s : Fin 1024) :
    k0_pay5 (F := Ideal) x g (ix2 r s) = x (ix2 r s) * Ideal.rsqrt (Cert.Norm.meanSq fun j => x (ix2 r j)) * g (ix2 0 s) := by
  unfold k0_pay5 Cert.Norm.meanSq Cert.Norm.width Cert.Norm.eps
  pointwise

theorem pay6_apply (x : Vec Ideal S256x1024 .f32) (g : Vec Ideal S1x1024 .f32) (w : Vec Ideal S1024x2816 .bf16) (r : Fin 256) (f : Fin 2816) :
    k0_pay6 (F := Ideal) x g w (ix2 r f) = ∑ k : Fin 1024, k0_pay5 (F := Ideal) x g (ix2 r k) * w (ix2 k f) := by
  unfold k0_pay6
  generalize k0_pay5 x g = q
  pointwise

theorem pay7_apply (x : Vec Ideal S256x1024 .f32) (g : Vec Ideal S1x1024 .f32) (w : Vec Ideal S1024x2816 .bf16) (r : Fin 256) (f : Fin 2816) :
    k0_pay7 (F := Ideal) x g w (ix2 r f) = ∑ k : Fin 1024, k0_pay5 (F := Ideal) x g (ix2 r k) * w (ix2 k f) := by
  unfold k0_pay7
  generalize k0_pay5 x g = q
  pointwise

/-- The divisor of the gate's sigmoid. -/
theorem pay8_apply (x : Vec Ideal S256x1024 .f32) (g : Vec Ideal S1x1024 .f32) (w : Vec Ideal S1024x2816 .bf16) (r : Fin 256) (f : Fin 2816) :
    Ideal.div (Ideal.ofBits .f32 0x3F800000#32) (k0_pay8 (F := Ideal) x g w (ix2 r f)) = Cert.Gate.sigma (k0_pay6 (F := Ideal) x g w (ix2 r f)) := by
  unfold k0_pay8 Cert.Gate.sigma Cert.Gate.one
  generalize k0_pay6 x g w = q
  pointwise
  rw [zero_sub]

theorem pay9_apply (p u b : Vec Ideal S256x2816 .f32) (r : Fin 256) (f : Fin 2816) :
    k0_pay9 (F := Ideal) p u b (Scalar.ofBits .f32 0x3F800000#32) (ix2 r f) = p (ix2 r f) * Ideal.div (Ideal.ofBits .f32 0x3F800000#32) (b (ix2 r f)) * u (ix2 r f) := by
  unfold k0_pay9
  pointwise

theorem pay10_apply (x : Vec Ideal S256x1024 .f32) (p u b : Vec Ideal S256x2816 .f32) (o : Ideal .f32) (w : Vec Ideal S2816x1024 .bf16) (r : Fin 256) (s : Fin 1024) :
    k0_pay10 (F := Ideal) x p u b o w (ix2 r s) = x (ix2 r s) + ∑ k : Fin 2816, k0_pay9 (F := Ideal) p u b o (ix2 r k) * w (ix2 k s) := by
  unfold k0_pay10
  generalize k0_pay9 p u b o = q
  pointwise

theorem pay11_apply (x : Vec Ideal S256x1024 .f32) (p u b : Vec Ideal S256x2816 .f32) (o : Ideal .f32) (w : Vec Ideal S2816x1024 .bf16) (r : Fin 256) :
    k0_pay11 (F := Ideal) x p u b o w (ix2 r 0) = Ideal.rsqrt (Cert.Norm.meanSq fun j => k0_pay10 (F := Ideal) x p u b o w (ix2 r j)) := by
  unfold k0_pay11 Cert.Norm.meanSq Cert.Norm.width Cert.Norm.eps
  generalize k0_pay10 x p u b o w = q
  pointwise

theorem pay12_apply (x : Vec Ideal S256x1024 .f32) (p u b : Vec Ideal S256x2816 .f32) (o : Ideal .f32) (w : Vec Ideal S2816x1024 .bf16) (r : Fin 256) (s : Fin 1024) :
    k0_pay12 (F := Ideal) x p u b o w (ix2 r s) = k0_pay10 (F := Ideal) x p u b o w (ix2 r s) * Ideal.rsqrt (Cert.Norm.meanSq fun j => k0_pay10 (F := Ideal) x p u b o w (ix2 r j)) := by
  rw [← pay11_apply x p u b o w r]
  unfold k0_pay12
  generalize k0_pay11 x p u b o w = q
  generalize k0_pay10 x p u b o w = h
  pointwise

theorem pay13_apply (g : Vec Ideal S1x1024 .f32) (s : Fin 1024) : k0_pay13 (F := Ideal) g (ix2 0 s) = g (ix2 0 s) := by
  unfold k0_pay13
  pointwise

theorem pay16_apply (x : Vec Ideal S256x1024 .f32) (p u b : Vec Ideal S256x2816 .f32) (o : Ideal .f32) (w : Vec Ideal S2816x1024 .bf16) (g : Vec Ideal S1x1024 .f32) (y : Vec Ideal S256x1024 .f32) (r : Fin 256) (s : Fin 1024) :
    k0_pay16 (F := Ideal) x p u b o w g y (ix2 r s)
      = (k0_pay12 (F := Ideal) x p u b o w (ix2 r s) * g (ix2 0 s) - y (ix2 r s)) * Cert.RefLayerIdeal.Val.share := by
  rw [← pay13_apply g s]
  unfold k0_pay16 k0_pay14 Cert.RefLayerIdeal.Val.share
  generalize k0_pay12 x p u b o w = q
  generalize k0_pay13 g = h
  pointwise

theorem pay1_apply (q : Vec Ideal S256x1 .f32) (h : Vec Ideal S256x1024 .f32) (g : Vec Ideal S1x1024 .f32) (d : Vec Ideal S256x1024 .f32) (r : Fin 256) (s : Fin 1024) :
    k0_pay1 (F := Ideal) q h g d (ix2 r s) = q (ix2 r 0) * (d (ix2 r s) * g (ix2 0 s)
      - h (ix2 r s) * Ideal.div (∑ j : Fin 1024, d (ix2 r j) * g (ix2 0 j) * h (ix2 r j)) Cert.Norm.width) := by
  unfold k0_pay1 Cert.Norm.width
  pointwise

variable (m : (ℓ : Loc nD τ sig) → Buf (Elt Ideal) ℓ)

/-- The arguments: the input, the target, the two weights, the layer's and the last norm's gains. -/
def argX (c : Dev nD) : FVec Ideal S4096x1024 .f32 := m ((c : Thread nD τ).loc main_arg0)
def argY (c : Dev nD) : FVec Ideal S4096x1024 .f32 := m ((c : Thread nD τ).loc main_arg1)
def argW (c : Dev nD) : FVec Ideal S1024x5632 .f32 := m ((c : Thread nD τ).loc main_arg2)
def argE (c : Dev nD) : FVec Ideal S2816x1024 .f32 := m ((c : Thread nD τ).loc main_arg3)
def argG (c : Dev nD) : FVec Ideal S1024 .f32 := m ((c : Thread nD τ).loc main_arg4)
def argL (c : Dev nD) : FVec Ideal S1024 .f32 := m ((c : Thread nD τ).loc main_arg5)

/-- The normed input, the two projections, the gated unit, the layer's output, and the gradient of the loss there. -/
def H (c : Dev nD) : FVec Ideal S4096x1024 .f32 := Cert.RefFfnIdeal.Val.normed (argX m c) (argG m c)
def GU (c : Dev nD) : FVec Ideal S4096x5632 .f32 := Cert.RefFfnIdeal.Val.gu (argX m c) (argG m c) (argW m c)
def A (c : Dev nD) : FVec Ideal S4096x2816 .f32 := Cert.RefLayerIdeal.Val.act (GU m c)
def O (c : Dev nD) : FVec Ideal S4096x1024 .f32 := Cert.RefLayerIdeal.Val.out (argX m c) (A m c) (argE m c)
def D (c : Dev nD) : FVec Ideal S4096x1024 .f32 := Cert.RefLayerIdeal.Val.gradOut (O m c) (argL m c) (argY m c)

/-! ## Where the blocks lie -/

theorem index_rows : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)
theorem index_out : ∀ t : Fin cfg0.N, win0_5.index t (0 : Fin 2) = t.val ∧ win0_5.index t (1 : Fin 2) = 0
    ∧ win0_6.index t (0 : Fin 2) = t.val ∧ win0_6.index t (1 : Fin 2) = 0 ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)
theorem index_whole : ∀ t : Fin cfg0.N, win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0 :=
  (by decide +kernel : ∀ t : Fin grid0.N, _)

/-- Row `r` of block `t`. -/
def tok (t : Fin cfg0.N) (r : Fin 256) : Fin 4096 := ⟨256 * t.val + r.val, by have := lt_of_lt_of_eq t.isLt N_0; have := r.isLt; omega⟩

theorem blockX (c : Dev nD) (t : Fin cfg0.N) (r : Fin 256) (s : Fin 1024) : (iblk m c 0 t : Vec Ideal S256x1024 .f32) (ix2 r s) = argX m c (ix2 (tok t r) s) := by
  unfold iblk
  rw [View.read_apply]
  show V m c main_arg0 _ = _
  rw [V_main_arg0]
  unfold argX
  congr 1
  funext a
  apply Fin.ext
  match a with
  | ⟨0, _⟩ => show win0_0.index t 0 * 256 + 1 * r.val = 256 * t.val + r.val; rw [(index_rows t).1]; omega
  | ⟨1, _⟩ => show win0_0.index t 1 * 1024 + 1 * s.val = s.val; rw [(index_rows t).2.1]; omega

theorem blockY (c : Dev nD) (t : Fin cfg0.N) (r : Fin 256) (s : Fin 1024) : (iblk m c 1 t : Vec Ideal S256x1024 .f32) (ix2 r s) = argY m c (ix2 (tok t r) s) := by
  unfold iblk
  rw [View.read_apply]
  show V m c main_arg1 _ = _
  rw [V_main_arg1]
  unfold argY
  congr 1
  funext a
  apply Fin.ext
  match a with
  | ⟨0, _⟩ => show win0_1.index t 0 * 256 + 1 * r.val = 256 * t.val + r.val; rw [(index_rows t).2.2.1]; omega
  | ⟨1, _⟩ => show win0_1.index t 1 * 1024 + 1 * s.val = s.val; rw [(index_rows t).2.2.2]; omega

theorem blockE (c : Dev nD) (t : Fin cfg0.N) (f : Fin 2816) (s : Fin 1024) : (iblk m c 2 t : Vec Ideal S2816x1024 .bf16) (ix2 f s) = argE m c (ix2 f s) := by
  unfold iblk
  rw [View.read_apply]
  have e : ((cfg0.win 2).blk t).view.emb (ix2 f s : S2816x1024.Idx) = (ix2 f s : S2816x1024.Idx) := by
    funext a
    apply Fin.ext
    match a with
    | ⟨0, _⟩ => show win0_2.index t 0 * 2816 + 1 * f.val = f.val; rw [(index_whole t).1]; omega
    | ⟨1, _⟩ => show win0_2.index t 1 * 1024 + 1 * s.val = s.val; rw [(index_whole t).2.1]; omega
  show V m c main_v3 (((cfg0.win 2).blk t).view.emb (ix2 f s : S2816x1024.Idx)) = _
  rw [e]
  refine (congrFun (V_wd m c) _).trans ?_
  unfold argE
  pointwise

theorem blockG (c : Dev nD) (t : Fin cfg0.N) (s : Fin 1024) : (iblk m c 3 t : Vec Ideal S1x1024 .f32) (ix2 0 s) = argG m c (ix1 s) := by
  unfold iblk
  rw [View.read_apply]
  have e : ((cfg0.win 3).blk t).view.emb (ix2 0 s : S1x1024.Idx) = (ix2 0 s : S1x1024.Idx) := by
    funext a
    apply Fin.ext
    match a with
    | ⟨0, _⟩ => show win0_3.index t 0 * 1 + 1 * 0 = 0; rw [(index_whole t).2.2.1]
    | ⟨1, _⟩ => show win0_3.index t 1 * 1024 + 1 * s.val = s.val; rw [(index_whole t).2.2.2.1]; omega
  show V m c main_v4 (((cfg0.win 3).blk t).view.emb (ix2 0 s : S1x1024.Idx)) = _
  rw [e]
  refine (congrFun (V_g m c) _).trans ?_
  unfold argG
  pointwise

theorem blockL (c : Dev nD) (t : Fin cfg0.N) (s : Fin 1024) : (iblk m c 4 t : Vec Ideal S1x1024 .f32) (ix2 0 s) = argL m c (ix1 s) := by
  unfold iblk
  rw [View.read_apply]
  have e : ((cfg0.win 4).blk t).view.emb (ix2 0 s : S1x1024.Idx) = (ix2 0 s : S1x1024.Idx) := by
    funext a
    apply Fin.ext
    match a with
    | ⟨0, _⟩ => show win0_4.index t 0 * 1 + 1 * 0 = 0; rw [(index_whole t).2.2.2.2.1]
    | ⟨1, _⟩ => show win0_4.index t 1 * 1024 + 1 * s.val = s.val; rw [(index_whole t).2.2.2.2.2]; omega
  show V m c main_v5 (((cfg0.win 4).blk t).view.emb (ix2 0 s : S1x1024.Idx)) = _
  rw [e]
  refine (congrFun (V_gl m c) _).trans ?_
  unfold argL
  pointwise

theorem slabs_apply (c : Dev nD) (i : Fin 4) (k : Fin 1024) (s : Fin 1408) :
    (V m c main_v2 : Vec Ideal S4x1024x1408 .bf16) (ix3 i k s) = argW m c (ix2 k ⟨1408 * i.val + s.val, by have := i.isLt; have := s.isLt; omega⟩) := by
  refine (congrFun (V_slabs m c) _).trans ?_
  show transpose S4x1024x1408 [1, 0, 2] (shapeCast S1024x4x1408 (argW m c) shapeCasts_S1024x5632_S1024x4x1408) transposes_S1024x4x1408_S4x1024x1408_1_0_2 (ix3 i k s) = _
  refine (transpose_apply [1, 0, 2] _ transposes_S1024x4x1408_S4x1024x1408_1_0_2 (ix3 i k s : S4x1024x1408.Idx) (ix3 k i s : S1024x4x1408.Idx) fun b => match b with | ⟨0, _⟩ => rfl | ⟨1, _⟩ => rfl | ⟨2, _⟩ => rfl).trans ?_
  refine shapeCast_apply (argW m c) shapeCasts_S1024x5632_S1024x4x1408 (ix3 k i s : S1024x4x1408.Idx) _ ?_
  rw [Shape.rowMajor_val_two, Shape.rowMajor_val_three]
  show k.val * 5632 + (1408 * i.val + s.val) = (k.val * 4 + i.val) * 1408 + s.val
  omega

theorem wg_apply (c : Dev nD) (k : Fin 1024) (f : Fin 2816) : wg m c (ix2 k f) = argW m c (ix2 k ⟨f.val, by have := f.isLt; omega⟩) := by
  unfold wg pair
  by_cases h : f.val < 1408
  · refine (dif_pos h).trans ((slabs_apply m c 0 k ⟨f.val, h⟩).trans ?_)
    refine congrArg (fun q => argW m c (ix2 k q)) (Fin.ext ?_)
    show 1408 * 0 + f.val = f.val; omega
  · refine (dif_neg h).trans ((slabs_apply m c 1 k ⟨f.val - 1408, _⟩).trans ?_)
    refine congrArg (fun q => argW m c (ix2 k q)) (Fin.ext ?_)
    show 1408 * 1 + (f.val - 1408) = f.val; omega

theorem wu_apply (c : Dev nD) (k : Fin 1024) (f : Fin 2816) : wu m c (ix2 k f) = argW m c (ix2 k ⟨2816 + f.val, by have := f.isLt; omega⟩) := by
  unfold wu pair
  by_cases h : f.val < 1408
  · refine (dif_pos h).trans ((slabs_apply m c 2 k ⟨f.val, h⟩).trans ?_)
    refine congrArg (fun q => argW m c (ix2 k q)) (Fin.ext ?_)
    show 1408 * 2 + f.val = 2816 + f.val; omega
  · refine (dif_neg h).trans ((slabs_apply m c 3 k ⟨f.val - 1408, _⟩).trans ?_)
    refine congrArg (fun q => argW m c (ix2 k q)) (Fin.ext ?_)
    show 1408 * 3 + (f.val - 1408) = 2816 + f.val; omega

/-! ## A block's entries -/

theorem hfb_apply (c : Dev nD) (t : Fin cfg0.N) (r : Fin 256) (s : Fin 1024) : hfb m c t (ix2 r s) = H m c (ix2 (tok t r) s) := by
  unfold H hfb
  refine Eq.trans ?_ (Cert.RefFfnIdeal.Val.normed_apply (argX m c) (argG m c) (tok t r) s).symm
  rw [pay5_apply]
  simp only [blockX, blockG]

theorem gate_apply (c : Dev nD) (t : Fin cfg0.N) (r : Fin 256) (f : Fin 2816) :
    gate m c t (ix2 r f) = GU m c (ix2 (tok t r) ⟨f.val, by have := f.isLt; omega⟩) := by
  unfold GU gate
  refine Eq.trans ?_ (Cert.RefFfnIdeal.Val.gu_apply (argX m c) (argG m c) (argW m c) (tok t r) _).symm
  rw [pay6_apply]
  exact Finset.sum_congr rfl fun k _ => congrArg₂ (fun a b : EReal => a * b) (hfb_apply m c t r k) (wg_apply m c k f)

theorem up_apply (c : Dev nD) (t : Fin cfg0.N) (r : Fin 256) (f : Fin 2816) :
    up m c t (ix2 r f) = GU m c (ix2 (tok t r) ⟨2816 + f.val, by have := f.isLt; omega⟩) := by
  unfold GU up
  refine Eq.trans ?_ (Cert.RefFfnIdeal.Val.gu_apply (argX m c) (argG m c) (argW m c) (tok t r) _).symm
  rw [pay7_apply]
  exact Finset.sum_congr rfl fun k _ => congrArg₂ (fun a b : EReal => a * b) (hfb_apply m c t r k) (wu_apply m c k f)

theorem halves_apply (c : Dev nD) (t : Fin cfg0.N) (r : Fin 256) (k : Fin 5632) :
    halves (gate m c t) (up m c t) (ix2 r k) = GU m c (ix2 (tok t r) k) := by
  unfold halves
  by_cases h : k.val < 2816
  · refine (dif_pos h).trans ?_
    exact gate_apply m c t r ⟨k.val, h⟩
  · refine (dif_neg h).trans ?_
    refine (up_apply m c t r ⟨k.val - 2816, _⟩).trans ?_
    refine congrArg (fun q => GU m c (ix2 (tok t r) q)) (Fin.ext ?_)
    show 2816 + (k.val - 2816) = k.val; omega

theorem actb_apply (c : Dev nD) (t : Fin cfg0.N) (r : Fin 256) (f : Fin 2816) : actb m c t (ix2 r f) = A m c (ix2 (tok t r) f) := by
  unfold A actb
  refine Eq.trans ?_ (Cert.RefLayerIdeal.Val.act_apply (GU m c) (tok t r) f).symm
  rw [pay9_apply]
  unfold bottom
  rw [pay8_apply]
  show gate m c t (ix2 r f) * Cert.Gate.sigma (gate m c t (ix2 r f)) * up m c t (ix2 r f) = _
  rw [gate_apply, up_apply]

theorem sum_apply (c : Dev nD) (t : Fin cfg0.N) (r : Fin 256) (s : Fin 1024) :
    k0_pay10 (F := Ideal) (iblk m c 0 t) (gate m c t) (up m c t) (bottom m c t) (Scalar.ofBits .f32 0x3F800000#32) (iblk m c 2 t) (ix2 r s) = O m c (ix2 (tok t r) s) := by
  unfold O
  refine Eq.trans ?_ (Cert.RefLayerIdeal.Val.out_apply (argX m c) (A m c) (argE m c) (tok t r) s).symm
  rw [pay10_apply]
  exact congrArg₂ (fun a b : EReal => a + b) (blockX m c t r s) (Finset.sum_congr rfl fun k _ => congrArg₂ (fun a b : EReal => a * b) (actb_apply m c t r k) (blockE m c t k s))

theorem rows_apply (c : Dev nD) (t : Fin cfg0.N) (r : Fin 256) (s : Fin 1024) : rows m c t (ix2 r s) = D m c (ix2 (tok t r) s) := by
  unfold D rows
  refine Eq.trans ?_ (Cert.RefLayerIdeal.Val.gradOut_apply (O m c) (argL m c) (argY m c) (tok t r) s).symm
  rw [pay1_apply, pay11_apply]
  unfold Cert.Norm.kernelGrad
  simp only [pay16_apply, pay12_apply, pay13_apply, sum_apply, blockY, blockL]

/-! ## The arrays after the run -/

def final5 (c : Dev nD) : FVec Ideal S4096x1024 .bf16 := truncf .bf16 (H m c) bitsLt_bf16_f32
def final7 (c : Dev nD) : FVec Ideal S4096x2816 .bf16 := truncf .bf16 (A m c) bitsLt_bf16_f32

theorem flushed_5 (c : Dev nD) (t : Fin cfg0.N) : (dats m 0 c).flushed 5 t = ((cfg0.win 5).blk t).view.read (Elt Ideal) (final5 m c) := by
  rw [flushed5]
  funext y
  obtain ⟨r, s, rfl⟩ : ∃ (r : Fin 256) (s : Fin 1024), y = (ix2 r s : S256x1024.Idx) := ⟨y 0, y 1, by funext a; match a with | ⟨0, _⟩ => rfl | ⟨1, _⟩ => rfl⟩
  have e : ((cfg0.win 5).blk t).view.emb (ix2 r s : S256x1024.Idx) = (ix2 (tok t r) s : S4096x1024.Idx) := by
    funext a
    apply Fin.ext
    match a with
    | ⟨0, _⟩ => show win0_5.index t 0 * 256 + 1 * r.val = 256 * t.val + r.val; rw [(index_out t).1]; omega
    | ⟨1, _⟩ => show win0_5.index t 1 * 1024 + 1 * s.val = s.val; rw [(index_out t).2.1]; omega
  have hl : (cfg0.win 5).xinj (grid0.coords t) (ix2 r s : S256x1024.Idx) = (ix2 r s : S256x1024.Idx) := by
    funext a; apply Fin.ext
    match a with
    | ⟨0, _⟩ => rfl
    | ⟨1, _⟩ => rfl
  show (outsAt0 m c t.val t.isLt).1 ((cfg0.win 5).xinj (grid0.coords t) (ix2 r s : S256x1024.Idx)) = final5 m c (((cfg0.win 5).blk t).view.emb (ix2 r s : S256x1024.Idx))
  rw [hl, e, all_hf]
  exact hfb_apply m c t r s

theorem covered_5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  refine ⟨⟨(i 0).val / 256, lt_of_lt_of_eq (by omega) N_0.symm⟩, flush0_5 _, ?_⟩
  have hd : (⟨(i 0).val / 256, lt_of_lt_of_eq (by omega) N_0.symm⟩ : Fin cfg0.N).val = (i 0).val / 256 := rfl
  generalize (⟨(i 0).val / 256, lt_of_lt_of_eq (by omega) N_0.symm⟩ : Fin cfg0.N) = t at *
  have e0 := (index_out t).1
  have e1 := (index_out t).2.1
  show i ∈ ((View.whole main_v6_0).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    rw [e0]; omega
  | ⟨1, _⟩ =>
    show win0_5.index t (1 : Fin 2) * 1024 ≤ (i 1).val ∧ (i 1).val < win0_5.index t (1 : Fin 2) * 1024 + 1024
    rw [e1]; omega

theorem final5_eq (c : Dev nD) : (dats m 0 c).arrAt 5 cfg0.N = final5 m c :=
  (dats m 0 c).arrAt_eq_of_cover 5 _ (fun t _ => flushed_5 m c t) covered_5

theorem flushed_6 (c : Dev nD) (t : Fin cfg0.N) : (dats m 0 c).flushed 6 t = ((cfg0.win 6).blk t).view.read (Elt Ideal) (GU m c) := by
  rw [flushed6]
  funext y
  obtain ⟨r, s, rfl⟩ : ∃ (r : Fin 256) (s : Fin 5632), y = (ix2 r s : S256x5632.Idx) := ⟨y 0, y 1, by funext a; match a with | ⟨0, _⟩ => rfl | ⟨1, _⟩ => rfl⟩
  have e : ((cfg0.win 6).blk t).view.emb (ix2 r s : S256x5632.Idx) = (ix2 (tok t r) s : S4096x5632.Idx) := by
    funext a
    apply Fin.ext
    match a with
    | ⟨0, _⟩ => show win0_6.index t 0 * 256 + 1 * r.val = 256 * t.val + r.val; rw [(index_out t).2.2.1]; omega
    | ⟨1, _⟩ => show win0_6.index t 1 * 5632 + 1 * s.val = s.val; rw [(index_out t).2.2.2.1]; omega
  have hl : (cfg0.win 6).xinj (grid0.coords t) (ix2 r s : S256x5632.Idx) = (ix2 r s : S256x5632.Idx) := by
    funext a; apply Fin.ext
    match a with
    | ⟨0, _⟩ => rfl
    | ⟨1, _⟩ => rfl
  show (outsAt0 m c t.val t.isLt).2.1 ((cfg0.win 6).xinj (grid0.coords t) (ix2 r s : S256x5632.Idx)) = GU m c (((cfg0.win 6).blk t).view.emb (ix2 r s : S256x5632.Idx))
  rw [hl, e, all_gu]
  exact halves_apply m c t r s

theorem covered_6 (i : S4096x5632.Idx) : ∃ t : Fin cfg0.N, (cfg0.win 6).flush t = true ∧ i ∈ ((cfg0.win 6).blk t).view.set := by
  have h0 : (i 0).val < 4096 := (i 0).isLt
  have h1 : (i 1).val < 5632 := (i 1).isLt
  refine ⟨⟨(i 0).val / 256, lt_of_lt_of_eq (by omega) N_0.symm⟩, flush0_6 _, ?_⟩
  have hd : (⟨(i 0).val / 256, lt_of_lt_of_eq (by omega) N_0.symm⟩ : Fin cfg0.N).val = (i 0).val / 256 := rfl
  generalize (⟨(i 0).val / 256, lt_of_lt_of_eq (by omega) N_0.symm⟩ : Fin cfg0.N) = t at *
  have e0 := (index_out t).2.2.1
  have e1 := (index_out t).2.2.2.1
  show i ∈ ((View.whole main_v6_1).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    rw [e0]; omega
  | ⟨1, _⟩ =>
    show win0_6.index t (1 : Fin 2) * 5632 ≤ (i 1).val ∧ (i 1).val < win0_6.index t (1 : Fin 2) * 5632 + 5632
    rw [e1]; omega

theorem final6_eq (c : Dev nD) : (dats m 0 c).arrAt 6 cfg0.N = GU m c :=
  (dats m 0 c).arrAt_eq_of_cover 6 _ (fun t _ => flushed_6 m c t) covered_6

theorem flushed_7 (c : Dev nD) (t : Fin cfg0.N) : (dats m 0 c).flushed 7 t = ((cfg0.win 7).blk t).view.read (Elt Ideal) (final7 m c) := by
  rw [flushed7]
  funext y
  obtain ⟨r, s, rfl⟩ : ∃ (r : Fin 256) (s : Fin 2816), y = (ix2 r s : S256x2816.Idx) := ⟨y 0, y 1, by funext a; match a with | ⟨0, _⟩ => rfl | ⟨1, _⟩ => rfl⟩
  have e : ((cfg0.win 7).blk t).view.emb (ix2 r s : S256x2816.Idx) = (ix2 (tok t r) s : S4096x2816.Idx) := by
    funext a
    apply Fin.ext
    match a with
    | ⟨0, _⟩ => show win0_7.index t 0 * 256 + 1 * r.val = 256 * t.val + r.val; rw [(index_out t).2.2.2.2.1]; omega
    | ⟨1, _⟩ => show win0_7.index t 1 * 2816 + 1 * s.val = s.val; rw [(index_out t).2.2.2.2.2.1]; omega
  have hl : (cfg0.win 7).xinj (grid0.coords t) (ix2 r s : S256x2816.Idx) = (ix2 r s : S256x2816.Idx) := by
    funext a; apply Fin.ext
    match a with
    | ⟨0, _⟩ => rfl
    | ⟨1, _⟩ => rfl
  show (outsAt0 m c t.val t.isLt).2.2.1 ((cfg0.win 7).xinj (grid0.coords t) (ix2 r s : S256x2816.Idx)) = final7 m c (((cfg0.win 7).blk t).view.emb (ix2 r s : S256x2816.Idx))
  rw [hl, e, all_act]
  exact actb_apply m c t r s

theorem covered_7 (i : S4096x2816.Idx) : ∃ t : Fin cfg0.N, (cfg0.win 7).flush t = true ∧ i ∈ ((cfg0.win 7).blk t).view.set := by
  have h0 : (i 0).val < 4096 := (i 0).isLt
  have h1 : (i 1).val < 2816 := (i 1).isLt
  refine ⟨⟨(i 0).val / 256, lt_of_lt_of_eq (by omega) N_0.symm⟩, flush0_7 _, ?_⟩
  have hd : (⟨(i 0).val / 256, lt_of_lt_of_eq (by omega) N_0.symm⟩ : Fin cfg0.N).val = (i 0).val / 256 := rfl
  generalize (⟨(i 0).val / 256, lt_of_lt_of_eq (by omega) N_0.symm⟩ : Fin cfg0.N) = t at *
  have e0 := (index_out t).2.2.2.2.1
  have e1 := (index_out t).2.2.2.2.2.1
  show i ∈ ((View.whole main_v6_2).slice (win0_7.rect t)).set
  rw [View.set_slice_whole, Rect.mem_set_unit]
  intro a
  match a with
  | ⟨0, _⟩ =>
    show win0_7.index t (0 : Fin 2) * 256 ≤ (i 0).val ∧ (i 0).val < win0_7.index t (0 : Fin 2) * 256 + 256
    rw [e0]; omega
  | ⟨1, _⟩ =>
    show win0_7.index t (1 : Fin 2) * 2816 ≤ (i 1).val ∧ (i 1).val < win0_7.index t (1 : Fin 2) * 2816 + 2816
    rw [e1]; omega

theorem final7_eq (c : Dev nD) : (dats m 0 c).arrAt 7 cfg0.N = final7 m c :=
  (dats m 0 c).arrAt_eq_of_cover 7 _ (fun t _ => flushed_7 m c t) covered_7

theorem flushed_8 (c : Dev nD) (t : Fin cfg0.N) : (dats m 0 c).flushed 8 t = ((cfg0.win 8).blk t).view.read (Elt Ideal) (D m c) := by
  rw [flushed8]
  funext y
  obtain ⟨r, s, rfl⟩ : ∃ (r : Fin 256) (s : Fin 1024), y = (ix2 r s : S256x1024.Idx) := ⟨y 0, y 1, by funext a; match a with | ⟨0, _⟩ => rfl | ⟨1, _⟩ => rfl⟩
  have e : ((cfg0.win 8).blk t).view.emb (ix2 r s : S256x1024.Idx) = (ix2 (tok t r) s : S4096x1024.Idx) := by
    funext a
    apply Fin.ext
    match a with
    | ⟨0, _⟩ => show win0_8.index t 0 * 256 + 1 * r.val = 256 * t.val + r.val; rw [(index_out t).2.2.2.2.2.2.1]; omega
    | ⟨1, _⟩ => show win0_8.index t 1 * 1024 + 1 * s.val = s.val; rw [(index_out t).2.2.2.2.2.2.2]; omega
  have hl : (cfg0.win 8).xinj (grid0.coords t) (ix2 r s : S256x1024.Idx) = (ix2 r s : S256x1024.Idx) := by
    funext a; apply Fin.ext
    match a with
    | ⟨0, _⟩ => rfl
    | ⟨1, _⟩ => rfl
  show (outsAt0 m c t.val t.isLt).2.2.2.1 ((cfg0.win 8).xinj (grid0.coords t) (ix2 r s : S256x1024.Idx)) = D m c (((cfg0.win 8).blk t).view.emb (ix2 r s : S256x1024.Idx))
  rw [hl, e, all_rows]
  exact rows_apply m c t r s

theorem covered_8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  refine ⟨⟨(i 0).val / 256, lt_of_lt_of_eq (by omega) N_0.symm⟩, flush0_8 _, ?_⟩
  have hd : (⟨(i 0).val / 256, lt_of_lt_of_eq (by omega) N_0.symm⟩ : Fin cfg0.N).val = (i 0).val / 256 := rfl
  generalize (⟨(i 0).val / 256, lt_of_lt_of_eq (by omega) N_0.symm⟩ : Fin cfg0.N) = t at *
  have e0 := (index_out t).2.2.2.2.2.2.1
  have e1 := (index_out t).2.2.2.2.2.2.2
  show i ∈ ((View.whole main_v6_3).slice (win0_8.rect t)).set
  rw [View.set_slice_whole, Rect.mem_set_unit]
  intro a
  match a with
  | ⟨0, _⟩ =>
    show win0_8.index t (0 : Fin 2) * 256 ≤ (i 0).val ∧ (i 0).val < win0_8.index t (0 : Fin 2) * 256 + 256
    rw [e0]; omega
  | ⟨1, _⟩ =>
    show win0_8.index t (1 : Fin 2) * 1024 ≤ (i 1).val ∧ (i 1).val < win0_8.index t (1 : Fin 2) * 1024 + 1024
    rw [e1]; omega

theorem final8_eq (c : Dev nD) : (dats m 0 c).arrAt 8 cfg0.N = D m c :=
  (dats m 0 c).arrAt_eq_of_cover 8 _ (fun t _ => flushed_8 m c t) covered_8

end Cert.FwdFfnIdeal.Val

end
-- ==== Proof.Proj.lean ====
/-
  The input projection of the forward pass: eight blocks of 512 tokens. A block norms its rows, writes them, and multiplies them
  with five pieces of the weight, 512 columns each. The arrays the run leaves, and that they are the reference's.
-/
module

public import proofs.«01_k».proof.Proof.FfnRef
public import proofs.«01_k».proof.Proof.Gen.FwdInIdeal.Value
public import proofs.«01_k».proof.Proof.Gen.RefProjIdeal.Run
public import Idealize.ShloMosaic.Lib.Tactic
public import Idealize.ShloMosaic.Lib.Pointwise

@[expose] public section

noncomputable section

namespace Cert.RefProjIdeal.Val

open Cert.RefProjIdeal Cert.RefProjIdeal.Gen Idealize.ShloMosaic Idealize.ShloMosaic.StableHlo

/-- The product of the normed input with the weight, and its five pieces of 512 columns. -/
def whole (x : FVec Ideal S4096x1024 .f32) (g : FVec Ideal S1024 .f32) (w : FVec Ideal S1024x2568 .f32) : FVec Ideal S4096x2568 .f32 :=
  Host.dotGeneral (F := Ideal) dot_S4096x1024_S1024x2568_S4096x2568_1_0_0_1_n_n none (Cert.RefFfnIdeal.Val.normed x g) w
def piece0 (z : FVec Ideal S4096x2568 .f32) : FVec Ideal S4096x512 .f32 := extractStridedSlice S4096x512 ![0, 0] z slices_S4096x2568_S4096x512_0_0
def piece1 (z : FVec Ideal S4096x2568 .f32) : FVec Ideal S4096x512 .f32 := extractStridedSlice S4096x512 ![0, 512] z slices_S4096x2568_S4096x512_0_512
def piece2 (z : FVec Ideal S4096x2568 .f32) : FVec Ideal S4096x512 .f32 := extractStridedSlice S4096x512 ![0, 1024] z slices_S4096x2568_S4096x512_0_1024
def piece3 (z : FVec Ideal S4096x2568 .f32) : FVec Ideal S4096x512 .f32 := extractStridedSlice S4096x512 ![0, 1536] z slices_S4096x2568_S4096x512_0_1536
def piece4 (z : FVec Ideal S4096x2568 .f32) : FVec Ideal S4096x512 .f32 := extractStridedSlice S4096x512 ![0, 2048] z slices_S4096x2568_S4096x512_0_2048

theorem whole_apply (x : FVec Ideal S4096x1024 .f32) (g : FVec Ideal S1024 .f32) (w : FVec Ideal S1024x2568 .f32) (t : Fin 4096) (j : Fin 2568) :
    whole x g w (ix2 t j) = ∑ k : Fin 1024, Cert.RefFfnIdeal.Val.normed x g (ix2 t k) * w (ix2 k j) := by
  unfold whole
  generalize Cert.RefFfnIdeal.Val.normed x g = q
  pointwise

theorem piece0_apply (z : FVec Ideal S4096x2568 .f32) (t : Fin 4096) (s : Fin 512) :
    piece0 z (ix2 t s) = z (ix2 t ⟨s.val, by have := s.isLt; omega⟩) := by
  unfold piece0
  pointwise

theorem piece1_apply (z : FVec Ideal S4096x2568 .f32) (t : Fin 4096) (s : Fin 512) :
    piece1 z (ix2 t s) = z (ix2 t ⟨512 + s.val, by have := s.isLt; omega⟩) := by
  unfold piece1
  pointwise

theorem piece2_apply (z : FVec Ideal S4096x2568 .f32) (t : Fin 4096) (s : Fin 512) :
    piece2 z (ix2 t s) = z (ix2 t ⟨1024 + s.val, by have := s.isLt; omega⟩) := by
  unfold piece2
  pointwise

theorem piece3_apply (z : FVec Ideal S4096x2568 .f32) (t : Fin 4096) (s : Fin 512) :
    piece3 z (ix2 t s) = z (ix2 t ⟨1536 + s.val, by have := s.isLt; omega⟩) := by
  unfold piece3
  pointwise

theorem piece4_apply (z : FVec Ideal S4096x2568 .f32) (t : Fin 4096) (s : Fin 512) :
    piece4 z (ix2 t s) = z (ix2 t ⟨2048 + s.val, by have := s.isLt; omega⟩) := by
  unfold piece4
  pointwise

end Cert.RefProjIdeal.Val

namespace Cert.FwdInIdeal.Val

open Cert.FwdInIdeal Cert.FwdInIdeal.Gen Cert.FwdInIdeal.Value
open Idealize.ShloMosaic Idealize.ShloMosaic.TcCoe Idealize.SL.Sem

theorem hz : (![0, 0] : Fin 2 → Nat) = fun _ => 0 := funext fun a => by fin_cases a <;> rfl

section AnyValues
variable {F : FTy → Type} [FloatOps F]
variable (m : (ℓ : Loc nD τ sig) → Buf (Elt F) ℓ)

/-- The five pieces of the (transposed) weight that a block multiplies with. -/
def w0 (c : Dev nD) (t : Fin cfg0.N) : Vec F S512x1024 .bf16 := View.ld (S := S2568x1024) (iblk m c 2 t) (Rect.unit (s := S2568x1024) ![0, 0] S512x1024.size inb_S2568x1024_S512x1024_0_0)
def w1 (c : Dev nD) (t : Fin cfg0.N) : Vec F S512x1024 .bf16 := View.ld (S := S2568x1024) (iblk m c 2 t) (Rect.unit (s := S2568x1024) ![512, 0] S512x1024.size inb_S2568x1024_S512x1024_512_0)
def w2 (c : Dev nD) (t : Fin cfg0.N) : Vec F S512x1024 .bf16 := View.ld (S := S2568x1024) (iblk m c 2 t) (Rect.unit (s := S2568x1024) ![1024, 0] S512x1024.size inb_S2568x1024_S512x1024_1024_0)
def w3 (c : Dev nD) (t : Fin cfg0.N) : Vec F S512x1024 .bf16 := View.ld (S := S2568x1024) (iblk m c 2 t) (Rect.unit (s := S2568x1024) ![1536, 0] S512x1024.size inb_S2568x1024_S512x1024_1536_0)
def w4 (c : Dev nD) (t : Fin cfg0.N) : Vec F S512x1024 .bf16 := View.ld (S := S2568x1024) (iblk m c 2 t) (Rect.unit (s := S2568x1024) ![2048, 0] S512x1024.size inb_S2568x1024_S512x1024_2048_0)

/-- What a block writes: the normed rows, and their products with the five pieces. -/
def normedRows (c : Dev nD) (t : Fin cfg0.N) : Vec F S512x1024 .bf16 := k0_pay4 (iblk m c 0 t) (iblk m c 1 t)
def rows0 (c : Dev nD) (t : Fin cfg0.N) : Vec F S512x512 .f32 := k0_pay5 (iblk m c 0 t) (iblk m c 1 t) (w0 m c t)
def rows1 (c : Dev nD) (t : Fin cfg0.N) : Vec F S512x512 .f32 := k0_pay6 (iblk m c 0 t) (iblk m c 1 t) (w1 m c t)
def rows2 (c : Dev nD) (t : Fin cfg0.N) : Vec F S512x512 .bf16 := k0_pay9 (k0_pay4 (iblk m c 0 t) (iblk m c 1 t)) (k0_pay7 (w2 m c t)) (constant S512x512 .f32 0x00000000#32)
def rows3 (c : Dev nD) (t : Fin cfg0.N) : Vec F S512x512 .bf16 := k0_pay10 (k0_pay4 (iblk m c 0 t) (iblk m c 1 t)) (w3 m c t)
def rows4 (c : Dev nD) (t : Fin cfg0.N) : Vec F S512x512 .bf16 := k0_pay13 (k0_pay4 (iblk m c 0 t) (iblk m c 1 t)) (w4 m c t)

theorem first_normedRows (c : Dev nD) (t : Fin cfg0.N) (h0 : t.val % 4 = 0) : (outsAt0 m c t.val t.isLt).1 = normedRows m c t := by
  rw [outsAt0_A m c t h0]
  dsimp only
  unfold out0_A_5
  rw [View.read_writes_eq_canon _ _ _ (cover0_A_5 c _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem next_normedRows (c : Dev nD) (t : Fin cfg0.N) (h0 : ¬t.val % 4 = 0) : (outsAt0 m c t.val t.isLt).1 = normedRows m c t := by
  rw [outsAt0_B m c t h0]
  dsimp only
  unfold out0_B_5
  rw [View.read_writes_eq_canon _ _ _ (cover0_B_5 c _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem all_normedRows (c : Dev nD) (t : Fin cfg0.N) : (outsAt0 m c t.val t.isLt).1 = normedRows m c t := by
  by_cases h : t.val % 4 = 0
  · exact first_normedRows m c t h
  · exact next_normedRows m c t h

theorem first_rows0 (c : Dev nD) (t : Fin cfg0.N) (h0 : t.val % 4 = 0) : (outsAt0 m c t.val t.isLt).2.1 = rows0 m c t := by
  rw [outsAt0_A m c t h0]
  dsimp only
  unfold out0_A_6
  rw [View.read_writes_eq_canon _ _ _ (cover0_A_6 c _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem next_rows0 (c : Dev nD) (t : Fin cfg0.N) (h0 : ¬t.val % 4 = 0) : (outsAt0 m c t.val t.isLt).2.1 = rows0 m c t := by
  rw [outsAt0_B m c t h0]
  dsimp only
  unfold out0_B_6
  rw [View.read_writes_eq_canon _ _ _ (cover0_B_6 c _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem all_rows0 (c : Dev nD) (t : Fin cfg0.N) : (outsAt0 m c t.val t.isLt).2.1 = rows0 m c t := by
  by_cases h : t.val % 4 = 0
  · exact first_rows0 m c t h
  · exact next_rows0 m c t h

theorem first_rows1 (c : Dev nD) (t : Fin cfg0.N) (h0 : t.val % 4 = 0) : (outsAt0 m c t.val t.isLt).2.2.1 = rows1 m c t := by
  rw [outsAt0_A m c t h0]
  dsimp only
  unfold out0_A_7
  rw [View.read_writes_eq_canon _ _ _ (cover0_A_7 c _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem next_rows1 (c : Dev nD) (t : Fin cfg0.N) (h0 : ¬t.val % 4 = 0) : (outsAt0 m c t.val t.isLt).2.2.1 = rows1 m c t := by
  rw [outsAt0_B m c t h0]
  dsimp only
  unfold out0_B_7
  rw [View.read_writes_eq_canon _ _ _ (cover0_B_7 c _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem all_rows1 (c : Dev nD) (t : Fin cfg0.N) : (outsAt0 m c t.val t.isLt).2.2.1 = rows1 m c t := by
  by_cases h : t.val % 4 = 0
  · exact first_rows1 m c t h
  · exact next_rows1 m c t h

theorem first_rows2 (c : Dev nD) (t : Fin cfg0.N) (h0 : t.val % 4 = 0) : (outsAt0 m c t.val t.isLt).2.2.2.1 = rows2 m c t := by
  rw [outsAt0_A m c t h0]
  dsimp only
  unfold out0_A_8
  rw [View.read_writes_eq_canon _ _ _ (cover0_A_8 c _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem next_rows2 (c : Dev nD) (t : Fin cfg0.N) (h0 : ¬t.val % 4 = 0) : (outsAt0 m c t.val t.isLt).2.2.2.1 = rows2 m c t := by
  rw [outsAt0_B m c t h0]
  dsimp only
  unfold out0_B_8
  rw [View.read_writes_eq_canon _ _ _ (cover0_B_8 c _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem all_rows2 (c : Dev nD) (t : Fin cfg0.N) : (outsAt0 m c t.val t.isLt).2.2.2.1 = rows2 m c t := by
  by_cases h : t.val % 4 = 0
  · exact first_rows2 m c t h
  · exact next_rows2 m c t h

theorem first_rows3 (c : Dev nD) (t : Fin cfg0.N) (h0 : t.val % 4 = 0) : (outsAt0 m c t.val t.isLt).2.2.2.2.1 = rows3 m c t := by
  rw [outsAt0_A m c t h0]
  dsimp only
  unfold out0_A_9
  rw [View.read_writes_eq_canon _ _ _ (cover0_A_9 c _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem next_rows3 (c : Dev nD) (t : Fin cfg0.N) (h0 : ¬t.val % 4 = 0) : (outsAt0 m c t.val t.isLt).2.2.2.2.1 = rows3 m c t := by
  rw [outsAt0_B m c t h0]
  dsimp only
  unfold out0_B_9
  rw [View.read_writes_eq_canon _ _ _ (cover0_B_9 c _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem all_rows3 (c : Dev nD) (t : Fin cfg0.N) : (outsAt0 m c t.val t.isLt).2.2.2.2.1 = rows3 m c t := by
  by_cases h : t.val % 4 = 0
  · exact first_rows3 m c t h
  · exact next_rows3 m c t h

theorem first_rows4 (c : Dev nD) (t : Fin cfg0.N) (h0 : t.val % 4 = 0) : (outsAt0 m c t.val t.isLt).2.2.2.2.2.1 = rows4 m c t := by
  rw [outsAt0_A m c t h0]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem next_rows4 (c : Dev nD) (t : Fin cfg0.N) (h0 : ¬t.val % 4 = 0) : (outsAt0 m c t.val t.isLt).2.2.2.2.2.1 = rows4 m c t := by
  rw [outsAt0_B m c t h0]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, View.ld_unit_zero (S := S512x1024) hz, View.ld_unit_zero (S := S1x1024) hz]
  rfl

theorem all_rows4 (c : Dev nD) (t : Fin cfg0.N) : (outsAt0 m c t.val t.isLt).2.2.2.2.2.1 = rows4 m c t := by
  by_cases h : t.val % 4 = 0
  · exact first_rows4 m c t h
  · exact next_rows4 m c t h

/-- The arrays that the host prepares. -/
theorem V_w (c : Dev nD) : (V m c main_v1 : Vec F S2568x1024 .bf16) = transpose S2568x1024 [1, 0] (truncf .bf16 (m ((c : Thread nD τ).loc main_arg2) : FVec F S1024x2568 .f32) bitsLt_bf16_f32) transposes_S1024x2568_S2568x1024_1_0 := by
  simp only [V, hostOps0, hostOps0_1, hostOps0_2, hostOps0_3, hostOps0_4, List.flatten_cons, List.flatten_nil, List.append_nil, List.cons_append, List.nil_append]
  after_results_simp <;> rfl

theorem V_g (c : Dev nD) : (V m c main_v6 : Vec F S1x1024 .f32) = shapeCast S1x1024 (m ((c : Thread nD τ).loc main_arg1) : FVec F S1024 .f32) shapeCasts_S1024_S1x1024 := by
  simp only [V, hostOps0, hostOps0_1, hostOps0_2, hostOps0_3, hostOps0_4, List.flatten_cons, List.flatten_nil, List.append_nil, List.cons_append, List.nil_append]
  after_results_simp <;> rfl

end AnyValues

end Cert.FwdInIdeal.Val

end
-- ==== Proof.ProjVal.lean ====
/-
  The input projection of the forward pass over the extended reals: the entries of what a block writes, the arrays after the eight
  blocks, and that they are the reference's.
-/
module

public import proofs.«01_k».proof.Proof.Proj
public import Idealize.ShloMosaic.Lib.Tactic
public import Idealize.ShloMosaic.Lib.Pointwise

@[expose] public section

noncomputable section

namespace Cert.FwdInIdeal.Val

open Cert.FwdInIdeal Cert.FwdInIdeal.Gen Cert.FwdInIdeal.Value
open Idealize.ShloMosaic Idealize.ShloMosaic.TcCoe Idealize.SL.Sem

/-! ## The block's arithmetic, entry by entry -/

theorem pay4_apply (x : Vec Ideal S512x1024 .f32) (g : Vec Ideal S1x1024 .f32) (r : Fin 512) (s : Fin 1024) :
    k0_pay4 (F := Ideal) x g (ix2 r s) = x (ix2 r s) * Ideal.rsqrt (Cert.Norm.meanSq fun j => x (ix2 r j)) * g (ix2 0 s) := by
  unfold k0_pay4 Cert.Norm.meanSq Cert.Norm.width Cert.Norm.eps
  pointwise

theorem pay5_apply (x : Vec Ideal S512x1024 .f32) (g : Vec Ideal S1x1024 .f32) (w : Vec Ideal S512x1024 .bf16) (r f : Fin 512) :
    k0_pay5 (F := Ideal) x g w (ix2 r f) = ∑ k : Fin 1024, k0_pay4 (F := Ideal) x g (ix2 r k) * w (ix2 f k) := by
  unfold k0_pay5
  generalize k0_pay4 x g = q
  pointwise

theorem pay6_apply (x : Vec Ideal S512x1024 .f32) (g : Vec Ideal S1x1024 .f32) (w : Vec Ideal S512x1024 .bf16) (r f : Fin 512) :
    k0_pay6 (F := Ideal) x g w (ix2 r f) = ∑ k : Fin 1024, k0_pay4 (F := Ideal) x g (ix2 r k) * w (ix2 f k) := by
  unfold k0_pay6
  generalize k0_pay4 x g = q
  pointwise

theorem pay9_apply (h : Vec Ideal S512x1024 .bf16) (w : Vec Ideal S512x1024 .bf16) (r f : Fin 512) :
    k0_pay9 (F := Ideal) h (k0_pay7 w) (constant S512x512 .f32 0x00000000#32) (ix2 r f) = ∑ k : Fin 1024, h (ix2 r k) * w (ix2 f k) := by
  unfold k0_pay9 k0_pay8 k0_pay7
  pointwise

theorem pay10_apply (h : Vec Ideal S512x1024 .bf16) (w : Vec Ideal S512x1024 .bf16) (r f : Fin 512) :
    k0_pay10 (F := Ideal) h w (ix2 r f) = ∑ k : Fin 1024, h (ix2 r k) * w (ix2 f k) := by
  unfold k0_pay10
  pointwise

theorem pay13_apply (h : Vec Ideal S512x1024 .bf16) (w : Vec Ideal S512x1024 .bf16) (r f : Fin 512) :
    k0_pay13 (F := Ideal) h w (ix2 r f) = ∑ k : Fin 1024, h (ix2 r k) * w (ix2 f k) := by
  unfold k0_pay13
  pointwise

variable (m : (ℓ : Loc nD τ sig) → Buf (Elt Ideal) ℓ)

/-- The arguments: the input, the gain, the weight. -/
def argX (c : Dev nD) : FVec Ideal S4096x1024 .f32 := m ((c : Thread nD τ).loc main_arg0)
def argG (c : Dev nD) : FVec Ideal S1024 .f32 := m ((c : Thread nD τ).loc main_arg1)
def argW (c : Dev nD) : FVec Ideal S1024x2568 .f32 := m ((c : Thread nD τ).loc main_arg2)

/-- The normed input and its product with the weight. -/
def H (c : Dev nD) : FVec Ideal S4096x1024 .f32 := Cert.RefFfnIdeal.Val.normed (argX m c) (argG m c)
def Z (c : Dev nD) : FVec Ideal Cert.RefProjIdeal.S4096x2568 .f32 := Cert.RefProjIdeal.Val.whole (argX m c) (argG m c) (argW m c)

/-! ## Where the blocks lie -/

theorem index_in : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)
theorem index_5 : ∀ t : Fin cfg0.N, win0_5.index t (0 : Fin 2) = t.val ∧ win0_5.index t (1 : Fin 2) = 0 :=
  (by decide +kernel : ∀ t : Fin grid0.N, _)
theorem index_6 : ∀ t : Fin cfg0.N, win0_6.index t (0 : Fin 2) = t.val ∧ win0_6.index t (1 : Fin 2) = 0 :=
  (by decide +kernel : ∀ t : Fin grid0.N, _)
theorem index_7 : ∀ t : Fin cfg0.N, win0_7.index t (0 : Fin 2) = t.val ∧ win0_7.index t (1 : Fin 2) = 0 :=
  (by decide +kernel : ∀ t : Fin grid0.N, _)
theorem index_8 : ∀ t : Fin cfg0.N, win0_8.index t (0 : Fin 2) = t.val ∧ win0_8.index t (1 : Fin 2) = 0 :=
  (by decide +kernel : ∀ t : Fin grid0.N, _)
theorem index_9 : ∀ t : Fin cfg0.N, win0_9.index t (0 : Fin 2) = t.val ∧ win0_9.index t (1 : Fin 2) = 0 :=
  (by decide +kernel : ∀ t : Fin grid0.N, _)
theorem index_10 : ∀ t : Fin cfg0.N, win0_10.index t (0 : Fin 2) = t.val ∧ win0_10.index t (1 : Fin 2) = 0 :=
  (by decide +kernel : ∀ t : Fin grid0.N, _)

/-- Row `r` of block `t`. -/
def tok (t : Fin cfg0.N) (r : Fin 512) : Fin 4096 := ⟨512 * t.val + r.val, by have := lt_of_lt_of_eq t.isLt N_0; have := r.isLt; omega⟩

theorem blockX (c : Dev nD) (t : Fin cfg0.N) (r : Fin 512) (s : Fin 1024) : (iblk m c 0 t : Vec Ideal S512x1024 .f32) (ix2 r s) = argX m c (ix2 (tok t r) s) := by
  unfold iblk
  rw [View.read_apply]
  show V m c main_arg0 _ = _
  rw [V_main_arg0]
  unfold argX
  congr 1
  funext a
  apply Fin.ext
  match a with
  | ⟨0, _⟩ => show win0_0.index t 0 * 512 + 1 * r.val = 512 * t.val + r.val; rw [(index_in t).1]; omega
  | ⟨1, _⟩ => show win0_0.index t 1 * 1024 + 1 * s.val = s.val; rw [(index_in t).2.1]; omega

theorem blockG (c : Dev nD) (t : Fin cfg0.N) (s : Fin 1024) : (iblk m c 1 t : Vec Ideal S1x1024 .f32) (ix2 0 s) = argG m c (ix1 s) := by
  unfold iblk
  rw [View.read_apply]
  have e : ((cfg0.win 1).blk t).view.emb (ix2 0 s : S1x1024.Idx) = (ix2 0 s : S1x1024.Idx) := by
    funext a
    apply Fin.ext
    match a with
    | ⟨0, _⟩ => show win0_1.index t 0 * 1 + 1 * 0 = 0; rw [(index_in t).2.2.1]
    | ⟨1, _⟩ => show win0_1.index t 1 * 1024 + 1 * s.val = s.val; rw [(index_in t).2.2.2.1]; omega
  show V m c main_v6 (((cfg0.win 1).blk t).view.emb (ix2 0 s : S1x1024.Idx)) = _
  rw [e]
  refine (congrFun (V_g m c) _).trans ?_
  unfold argG
  pointwise

theorem blockW (c : Dev nD) (t : Fin cfg0.N) (k : Fin 2568) (s : Fin 1024) :
    (iblk m c 2 t : Vec Ideal S2568x1024 .bf16) (ix2 k s) = argW m c (ix2 s k) := by
  unfold iblk
  rw [View.read_apply]
  have e : ((cfg0.win 2).blk t).view.emb (ix2 k s : S2568x1024.Idx) = (ix2 k s : S2568x1024.Idx) := by
    funext a
    apply Fin.ext
    match a with
    | ⟨0, _⟩ => show win0_2.index t 0 * 2568 + 1 * k.val = k.val; rw [(index_in t).2.2.2.2.1]; omega
    | ⟨1, _⟩ => show win0_2.index t 1 * 1024 + 1 * s.val = s.val; rw [(index_in t).2.2.2.2.2]; omega
  show V m c main_v1 (((cfg0.win 2).blk t).view.emb (ix2 k s : S2568x1024.Idx)) = _
  rw [e]
  refine (congrFun (V_w m c) _).trans ?_
  unfold argW
  pointwise

theorem w0_apply (c : Dev nD) (t : Fin cfg0.N) (f : Fin 512) (k : Fin 1024) :
    w0 m c t (ix2 f k) = argW m c (ix2 k ⟨f.val, by have := f.isLt; omega⟩) := by
  unfold w0
  have e : (Rect.unit (s := S2568x1024) ![0, 0] S512x1024.size inb_S2568x1024_S512x1024_0_0).idx (ix2 f k : S512x1024.Idx) = (ix2 ⟨f.val, by have := f.isLt; omega⟩ k : S2568x1024.Idx) := by
    funext a
    apply Fin.ext
    match a with
    | ⟨0, _⟩ => show 0 + 1 * f.val = f.val; omega
    | ⟨1, _⟩ => show 0 + 1 * k.val = k.val; omega
  refine (congrArg (iblk m c 2 t : Vec Ideal S2568x1024 .bf16) e).trans ?_
  rw [blockW]

theorem w1_apply (c : Dev nD) (t : Fin cfg0.N) (f : Fin 512) (k : Fin 1024) :
    w1 m c t (ix2 f k) = argW m c (ix2 k ⟨512 + f.val, by have := f.isLt; omega⟩) := by
  unfold w1
  have e : (Rect.unit (s := S2568x1024) ![512, 0] S512x1024.size inb_S2568x1024_S512x1024_512_0).idx (ix2 f k : S512x1024.Idx) = (ix2 ⟨512 + f.val, by have := f.isLt; omega⟩ k : S2568x1024.Idx) := by
    funext a
    apply Fin.ext
    match a with
    | ⟨0, _⟩ => show 512 + 1 * f.val = 512 + f.val; omega
    | ⟨1, _⟩ => show 0 + 1 * k.val = k.val; omega
  refine (congrArg (iblk m c 2 t : Vec Ideal S2568x1024 .bf16) e).trans ?_
  rw [blockW]

theorem w2_apply (c : Dev nD) (t : Fin cfg0.N) (f : Fin 512) (k : Fin 1024) :
    w2 m c t (ix2 f k) = argW m c (ix2 k ⟨1024 + f.val, by have := f.isLt; omega⟩) := by
  unfold w2
  have e : (Rect.unit (s := S2568x1024) ![1024, 0] S512x1024.size inb_S2568x1024_S512x1024_1024_0).idx (ix2 f k : S512x1024.Idx) = (ix2 ⟨1024 + f.val, by have := f.isLt; omega⟩ k : S2568x1024.Idx) := by
    funext a
    apply Fin.ext
    match a with
    | ⟨0, _⟩ => show 1024 + 1 * f.val = 1024 + f.val; omega
    | ⟨1, _⟩ => show 0 + 1 * k.val = k.val; omega
  refine (congrArg (iblk m c 2 t : Vec Ideal S2568x1024 .bf16) e).trans ?_
  rw [blockW]

theorem w3_apply (c : Dev nD) (t : Fin cfg0.N) (f : Fin 512) (k : Fin 1024) :
    w3 m c t (ix2 f k) = argW m c (ix2 k ⟨1536 + f.val, by have := f.isLt; omega⟩) := by
  unfold w3
  have e : (Rect.unit (s := S2568x1024) ![1536, 0] S512x1024.size inb_S2568x1024_S512x1024_1536_0).idx (ix2 f k : S512x1024.Idx) = (ix2 ⟨1536 + f.val, by have := f.isLt; omega⟩ k : S2568x1024.Idx) := by
    funext a
    apply Fin.ext
    match a with
    | ⟨0, _⟩ => show 1536 + 1 * f.val = 1536 + f.val; omega
    | ⟨1, _⟩ => show 0 + 1 * k.val = k.val; omega
  refine (congrArg (iblk m c 2 t : Vec Ideal S2568x1024 .bf16) e).trans ?_
  rw [blockW]

theorem w4_apply (c : Dev nD) (t : Fin cfg0.N) (f : Fin 512) (k : Fin 1024) :
    w4 m c t (ix2 f k) = argW m c (ix2 k ⟨2048 + f.val, by have := f.isLt; omega⟩) := by
  unfold w4
  have e : (Rect.unit (s := S2568x1024) ![2048, 0] S512x1024.size inb_S2568x1024_S512x1024_2048_0).idx (ix2 f k : S512x1024.Idx) = (ix2 ⟨2048 + f.val, by have := f.isLt; omega⟩ k : S2568x1024.Idx) := by
    funext a
    apply Fin.ext
    match a with
    | ⟨0, _⟩ => show 2048 + 1 * f.val = 2048 + f.val; omega
    | ⟨1, _⟩ => show 0 + 1 * k.val = k.val; omega
  refine (congrArg (iblk m c 2 t : Vec Ideal S2568x1024 .bf16) e).trans ?_
  rw [blockW]

/-! ## A block's entries -/

theorem normed_block (c : Dev nD) (t : Fin cfg0.N) (r : Fin 512) (s : Fin 1024) :
    k0_pay4 (F := Ideal) (iblk m c 0 t) (iblk m c 1 t) (ix2 r s) = H m c (ix2 (tok t r) s) := by
  unfold H
  refine Eq.trans ?_ (Cert.RefFfnIdeal.Val.normed_apply (argX m c) (argG m c) (tok t r) s).symm
  rw [pay4_apply]
  simp only [blockX, blockG]

theorem normedRows_apply (c : Dev nD) (t : Fin cfg0.N) (r : Fin 512) (s : Fin 1024) : normedRows m c t (ix2 r s) = H m c (ix2 (tok t r) s) :=
  normed_block m c t r s

theorem rows0_apply (c : Dev nD) (t : Fin cfg0.N) (r f : Fin 512) : rows0 m c t (ix2 r f) = Cert.RefProjIdeal.Val.piece0 (Z m c) (ix2 (tok t r) f) := by
  unfold rows0 Z
  refine Eq.trans ?_ ((Cert.RefProjIdeal.Val.piece0_apply _ (tok t r) f).trans (Cert.RefProjIdeal.Val.whole_apply (argX m c) (argG m c) (argW m c) (tok t r) _)).symm
  rw [pay5_apply]
  exact Finset.sum_congr rfl fun k _ => congrArg₂ (fun a b : EReal => a * b) (normed_block m c t r k) (w0_apply m c t f k)

theorem rows1_apply (c : Dev nD) (t : Fin cfg0.N) (r f : Fin 512) : rows1 m c t (ix2 r f) = Cert.RefProjIdeal.Val.piece1 (Z m c) (ix2 (tok t r) f) := by
  unfold rows1 Z
  refine Eq.trans ?_ ((Cert.RefProjIdeal.Val.piece1_apply _ (tok t r) f).trans (Cert.RefProjIdeal.Val.whole_apply (argX m c) (argG m c) (argW m c) (tok t r) _)).symm
  rw [pay6_apply]
  exact Finset.sum_congr rfl fun k _ => congrArg₂ (fun a b : EReal => a * b) (normed_block m c t r k) (w1_apply m c t f k)

theorem rows2_apply (c : Dev nD) (t : Fin cfg0.N) (r f : Fin 512) : rows2 m c t (ix2 r f) = Cert.RefProjIdeal.Val.piece2 (Z m c) (ix2 (tok t r) f) := by
  unfold rows2 Z
  refine Eq.trans ?_ ((Cert.RefProjIdeal.Val.piece2_apply _ (tok t r) f).trans (Cert.RefProjIdeal.Val.whole_apply (argX m c) (argG m c) (argW m c) (tok t r) _)).symm
  rw [pay9_apply]
  exact Finset.sum_congr rfl fun k _ => congrArg₂ (fun a b : EReal => a * b) (normed_block m c t r k) (w2_apply m c t f k)

theorem rows3_apply (c : Dev nD) (t : Fin cfg0.N) (r f : Fin 512) : rows3 m c t (ix2 r f) = Cert.RefProjIdeal.Val.piece3 (Z m c) (ix2 (tok t r) f) := by
  unfold rows3 Z
  refine Eq.trans ?_ ((Cert.RefProjIdeal.Val.piece3_apply _ (tok t r) f).trans (Cert.RefProjIdeal.Val.whole_apply (argX m c) (argG m c) (argW m c) (tok t r) _)).symm
  rw [pay10_apply]
  exact Finset.sum_congr rfl fun k _ => congrArg₂ (fun a b : EReal => a * b) (normed_block m c t r k) (w3_apply m c t f k)

theorem rows4_apply (c : Dev nD) (t : Fin cfg0.N) (r f : Fin 512) : rows4 m c t (ix2 r f) = Cert.RefProjIdeal.Val.piece4 (Z m c) (ix2 (tok t r) f) := by
  unfold rows4 Z
  refine Eq.trans ?_ ((Cert.RefProjIdeal.Val.piece4_apply _ (tok t r) f).trans (Cert.RefProjIdeal.Val.whole_apply (argX m c) (argG m c) (argW m c) (tok t r) _)).symm
  rw [pay13_apply]
  exact Finset.sum_congr rfl fun k _ => congrArg₂ (fun a b : EReal => a * b) (normed_block m c t r k) (w4_apply m c t f k)

/-! ## The arrays after the run -/

def final0 (c : Dev nD) : FVec Ideal S4096x1024 .bf16 := truncf .bf16 (H m c) bitsLt_bf16_f32
def final1 (c : Dev nD) : FVec Ideal S4096x512 .f32 := Cert.RefProjIdeal.Val.piece0 (Z m c)
def final2 (c : Dev nD) : FVec Ideal S4096x512 .f32 := Cert.RefProjIdeal.Val.piece1 (Z m c)
def final3 (c : Dev nD) : FVec Ideal S4096x512 .bf16 := truncf .bf16 (Cert.RefProjIdeal.Val.piece2 (Z m c)) bitsLt_bf16_f32
def final4 (c : Dev nD) : FVec Ideal S4096x512 .bf16 := truncf .bf16 (Cert.RefProjIdeal.Val.piece3 (Z m c)) bitsLt_bf16_f32
def final5 (c : Dev nD) : FVec Ideal S4096x512 .bf16 := truncf .bf16 (Cert.RefProjIdeal.Val.piece4 (Z m c)) bitsLt_bf16_f32

theorem flush_eq_5 (c : Dev nD) (t : Fin cfg0.N) : (dats m 0 c).flushed 5 t = ((cfg0.win 5).blk t).view.read (Elt Ideal) (final0 m c) := by
  rw [flushed5]
  funext y
  obtain ⟨r, s, rfl⟩ : ∃ (r : Fin 512) (s : Fin 1024), y = (ix2 r s : S512x1024.Idx) := ⟨y 0, y 1, by funext a; match a with | ⟨0, _⟩ => rfl | ⟨1, _⟩ => rfl⟩
  have e : ((cfg0.win 5).blk t).view.emb (ix2 r s : S512x1024.Idx) = (ix2 (tok t r) s : S4096x1024.Idx) := by
    funext a
    apply Fin.ext
    match a with
    | ⟨0, _⟩ => show win0_5.index t 0 * 512 + 1 * r.val = 512 * t.val + r.val; rw [(index_5 t).1]; omega
    | ⟨1, _⟩ => show win0_5.index t 1 * 1024 + 1 * s.val = s.val; rw [(index_5 t).2]; omega
  have hl : (cfg0.win 5).xinj (grid0.coords t) (ix2 r s : S512x1024.Idx) = (ix2 r s : S512x1024.Idx) := by
    funext a; apply Fin.ext
    match a with
    | ⟨0, _⟩ => rfl
    | ⟨1, _⟩ => rfl
  show (outsAt0 m c t.val t.isLt).1 ((cfg0.win 5).xinj (grid0.coords t) (ix2 r s : S512x1024.Idx)) = final0 m c (((cfg0.win 5).blk t).view.emb (ix2 r s : S512x1024.Idx))
  rw [hl, e, all_normedRows]
  exact normedRows_apply m c t r s

theorem cover_all_5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  refine ⟨⟨(i 0).val / 512, lt_of_lt_of_eq (by omega) N_0.symm⟩, flush0_5 _, ?_⟩
  have hd : (⟨(i 0).val / 512, lt_of_lt_of_eq (by omega) N_0.symm⟩ : Fin cfg0.N).val = (i 0).val / 512 := rfl
  generalize (⟨(i 0).val / 512, lt_of_lt_of_eq (by omega) N_0.symm⟩ : Fin cfg0.N) = t at *
  have e0 := (index_5 t).1
  have e1 := (index_5 t).2
  show i ∈ ((View.whole main_v7_0).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 1024 ≤ (i 1).val ∧ (i 1).val < win0_5.index t (1 : Fin 2) * 1024 + 1024
    rw [e1]; omega

theorem final0_eq (c : Dev nD) : (dats m 0 c).arrAt 5 cfg0.N = final0 m c :=
  (dats m 0 c).arrAt_eq_of_cover 5 _ (fun t _ => flush_eq_5 m c t) cover_all_5

theorem flush_eq_6 (c : Dev nD) (t : Fin cfg0.N) : (dats m 0 c).flushed 6 t = ((cfg0.win 6).blk t).view.read (Elt Ideal) (final1 m c) := by
  rw [flushed6]
  funext y
  obtain ⟨r, s, rfl⟩ : ∃ (r : Fin 512) (s : Fin 512), y = (ix2 r s : S512x512.Idx) := ⟨y 0, y 1, by funext a; match a with | ⟨0, _⟩ => rfl | ⟨1, _⟩ => rfl⟩
  have e : ((cfg0.win 6).blk t).view.emb (ix2 r s : S512x512.Idx) = (ix2 (tok t r) s : S4096x512.Idx) := by
    funext a
    apply Fin.ext
    match a with
    | ⟨0, _⟩ => show win0_6.index t 0 * 512 + 1 * r.val = 512 * t.val + r.val; rw [(index_6 t).1]; omega
    | ⟨1, _⟩ => show win0_6.index t 1 * 512 + 1 * s.val = s.val; rw [(index_6 t).2]; omega
  have hl : (cfg0.win 6).xinj (grid0.coords t) (ix2 r s : S512x512.Idx) = (ix2 r s : S512x512.Idx) := by
    funext a; apply Fin.ext
    match a with
    | ⟨0, _⟩ => rfl
    | ⟨1, _⟩ => rfl
  show (outsAt0 m c t.val t.isLt).2.1 ((cfg0.win 6).xinj (grid0.coords t) (ix2 r s : S512x512.Idx)) = final1 m c (((cfg0.win 6).blk t).view.emb (ix2 r s : S512x512.Idx))
  rw [hl, e, all_rows0]
  exact rows0_apply m c t r s

theorem cover_all_6 (i : S4096x512.Idx) : ∃ t : Fin cfg0.N, (cfg0.win 6).flush t = true ∧ i ∈ ((cfg0.win 6).blk t).view.set := by
  have h0 : (i 0).val < 4096 := (i 0).isLt
  have h1 : (i 1).val < 512 := (i 1).isLt
  refine ⟨⟨(i 0).val / 512, lt_of_lt_of_eq (by omega) N_0.symm⟩, flush0_6 _, ?_⟩
  have hd : (⟨(i 0).val / 512, lt_of_lt_of_eq (by omega) N_0.symm⟩ : Fin cfg0.N).val = (i 0).val / 512 := rfl
  generalize (⟨(i 0).val / 512, lt_of_lt_of_eq (by omega) N_0.symm⟩ : Fin cfg0.N) = t at *
  have e0 := (index_6 t).1
  have e1 := (index_6 t).2
  show i ∈ ((View.whole main_v7_1).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [e0]; omega
  | ⟨1, _⟩ =>
    show win0_6.index t (1 : Fin 2) * 512 ≤ (i 1).val ∧ (i 1).val < win0_6.index t (1 : Fin 2) * 512 + 512
    rw [e1]; omega

theorem final1_eq (c : Dev nD) : (dats m 0 c).arrAt 6 cfg0.N = final1 m c :=
  (dats m 0 c).arrAt_eq_of_cover 6 _ (fun t _ => flush_eq_6 m c t) cover_all_6

theorem flush_eq_7 (c : Dev nD) (t : Fin cfg0.N) : (dats m 0 c).flushed 7 t = ((cfg0.win 7).blk t).view.read (Elt Ideal) (final2 m c) := by
  rw [flushed7]
  funext y
  obtain ⟨r, s, rfl⟩ : ∃ (r : Fin 512) (s : Fin 512), y = (ix2 r s : S512x512.Idx) := ⟨y 0, y 1, by funext a; match a with | ⟨0, _⟩ => rfl | ⟨1, _⟩ => rfl⟩
  have e : ((cfg0.win 7).blk t).view.emb (ix2 r s : S512x512.Idx) = (ix2 (tok t r) s : S4096x512.Idx) := by
    funext a
    apply Fin.ext
    match a with
    | ⟨0, _⟩ => show win0_7.index t 0 * 512 + 1 * r.val = 512 * t.val + r.val; rw [(index_7 t).1]; omega
    | ⟨1, _⟩ => show win0_7.index t 1 * 512 + 1 * s.val = s.val; rw [(index_7 t).2]; omega
  have hl : (cfg0.win 7).xinj (grid0.coords t) (ix2 r s : S512x512.Idx) = (ix2 r s : S512x512.Idx) := by
    funext a; apply Fin.ext
    match a with
    | ⟨0, _⟩ => rfl
    | ⟨1, _⟩ => rfl
  show (outsAt0 m c t.val t.isLt).2.2.1 ((cfg0.win 7).xinj (grid0.coords t) (ix2 r s : S512x512.Idx)) = final2 m c (((cfg0.win 7).blk t).view.emb (ix2 r s : S512x512.Idx))
  rw [hl, e, all_rows1]
  exact rows1_apply m c t r s

theorem cover_all_7 (i : S4096x512.Idx) : ∃ t : Fin cfg0.N, (cfg0.win 7).flush t = true ∧ i ∈ ((cfg0.win 7).blk t).view.set := by
  have h0 : (i 0).val < 4096 := (i 0).isLt
  have h1 : (i 1).val < 512 := (i 1).isLt
  refine ⟨⟨(i 0).val / 512, lt_of_lt_of_eq (by omega) N_0.symm⟩, flush0_7 _, ?_⟩
  have hd : (⟨(i 0).val / 512, lt_of_lt_of_eq (by omega) N_0.symm⟩ : Fin cfg0.N).val = (i 0).val / 512 := rfl
  generalize (⟨(i 0).val / 512, lt_of_lt_of_eq (by omega) N_0.symm⟩ : Fin cfg0.N) = t at *
  have e0 := (index_7 t).1
  have e1 := (index_7 t).2
  show i ∈ ((View.whole main_v7_2).slice (win0_7.rect t)).set
  rw [View.set_slice_whole, Rect.mem_set_unit]
  intro a
  match a with
  | ⟨0, _⟩ =>
    show win0_7.index t (0 : Fin 2) * 512 ≤ (i 0).val ∧ (i 0).val < win0_7.index t (0 : Fin 2) * 512 + 512
    rw [e0]; omega
  | ⟨1, _⟩ =>
    show win0_7.index t (1 : Fin 2) * 512 ≤ (i 1).val ∧ (i 1).val < win0_7.index t (1 : Fin 2) * 512 + 512
    rw [e1]; omega

theorem final2_eq (c : Dev nD) : (dats m 0 c).arrAt 7 cfg0.N = final2 m c :=
  (dats m 0 c).arrAt_eq_of_cover 7 _ (fun t _ => flush_eq_7 m c t) cover_all_7

theorem flush_eq_8 (c : Dev nD) (t : Fin cfg0.N) : (dats m 0 c).flushed 8 t = ((cfg0.win 8).blk t).view.read (Elt Ideal) (final3 m c) := by
  rw [flushed8]
  funext y
  obtain ⟨r, s, rfl⟩ : ∃ (r : Fin 512) (s : Fin 512), y = (ix2 r s : S512x512.Idx) := ⟨y 0, y 1, by funext a; match a with | ⟨0, _⟩ => rfl | ⟨1, _⟩ => rfl⟩
  have e : ((cfg0.win 8).blk t).view.emb (ix2 r s : S512x512.Idx) = (ix2 (tok t r) s : S4096x512.Idx) := by
    funext a
    apply Fin.ext
    match a with
    | ⟨0, _⟩ => show win0_8.index t 0 * 512 + 1 * r.val = 512 * t.val + r.val; rw [(index_8 t).1]; omega
    | ⟨1, _⟩ => show win0_8.index t 1 * 512 + 1 * s.val = s.val; rw [(index_8 t).2]; omega
  have hl : (cfg0.win 8).xinj (grid0.coords t) (ix2 r s : S512x512.Idx) = (ix2 r s : S512x512.Idx) := by
    funext a; apply Fin.ext
    match a with
    | ⟨0, _⟩ => rfl
    | ⟨1, _⟩ => rfl
  show (outsAt0 m c t.val t.isLt).2.2.2.1 ((cfg0.win 8).xinj (grid0.coords t) (ix2 r s : S512x512.Idx)) = final3 m c (((cfg0.win 8).blk t).view.emb (ix2 r s : S512x512.Idx))
  rw [hl, e, all_rows2]
  exact rows2_apply m c t r s

theorem cover_all_8 (i : S4096x512.Idx) : ∃ t : Fin cfg0.N, (cfg0.win 8).flush t = true ∧ i ∈ ((cfg0.win 8).blk t).view.set := by
  have h0 : (i 0).val < 4096 := (i 0).isLt
  have h1 : (i 1).val < 512 := (i 1).isLt
  refine ⟨⟨(i 0).val / 512, lt_of_lt_of_eq (by omega) N_0.symm⟩, flush0_8 _, ?_⟩
  have hd : (⟨(i 0).val / 512, lt_of_lt_of_eq (by omega) N_0.symm⟩ : Fin cfg0.N).val = (i 0).val / 512 := rfl
  generalize (⟨(i 0).val / 512, lt_of_lt_of_eq (by omega) N_0.symm⟩ : Fin cfg0.N) = t at *
  have e0 := (index_8 t).1
  have e1 := (index_8 t).2
  show i ∈ ((View.whole main_v7_3).slice (win0_8.rect t)).set
  rw [View.set_slice_whole, Rect.mem_set_unit]
  intro a
  match a with
  | ⟨0, _⟩ =>
    show win0_8.index t (0 : Fin 2) * 512 ≤ (i 0).val ∧ (i 0).val < win0_8.index t (0 : Fin 2) * 512 + 512
    rw [e0]; omega
  | ⟨1, _⟩ =>
    show win0_8.index t (1 : Fin 2) * 512 ≤ (i 1).val ∧ (i 1).val < win0_8.index t (1 : Fin 2) * 512 + 512
    rw [e1]; omega

theorem final3_eq (c : Dev nD) : (dats m 0 c).arrAt 8 cfg0.N = final3 m c :=
  (dats m 0 c).arrAt_eq_of_cover 8 _ (fun t _ => flush_eq_8 m c t) cover_all_8

theorem flush_eq_9 (c : Dev nD) (t : Fin cfg0.N) : (dats m 0 c).flushed 9 t = ((cfg0.win 9).blk t).view.read (Elt Ideal) (final4 m c) := by
  rw [flushed9]
  funext y
  obtain ⟨r, s, rfl⟩ : ∃ (r : Fin 512) (s : Fin 512), y = (ix2 r s : S512x512.Idx) := ⟨y 0, y 1, by funext a; match a with | ⟨0, _⟩ => rfl | ⟨1, _⟩ => rfl⟩
  have e : ((cfg0.win 9).blk t).view.emb (ix2 r s : S512x512.Idx) = (ix2 (tok t r) s : S4096x512.Idx) := by
    funext a
    apply Fin.ext
    match a with
    | ⟨0, _⟩ => show win0_9.index t 0 * 512 + 1 * r.val = 512 * t.val + r.val; rw [(index_9 t).1]; omega
    | ⟨1, _⟩ => show win0_9.index t 1 * 512 + 1 * s.val = s.val; rw [(index_9 t).2]; omega
  have hl : (cfg0.win 9).xinj (grid0.coords t) (ix2 r s : S512x512.Idx) = (ix2 r s : S512x512.Idx) := by
    funext a; apply Fin.ext
    match a with
    | ⟨0, _⟩ => rfl
    | ⟨1, _⟩ => rfl
  show (outsAt0 m c t.val t.isLt).2.2.2.2.1 ((cfg0.win 9).xinj (grid0.coords t) (ix2 r s : S512x512.Idx)) = final4 m c (((cfg0.win 9).blk t).view.emb (ix2 r s : S512x512.Idx))
  rw [hl, e, all_rows3]
  exact rows3_apply m c t r s

theorem cover_all_9 (i : S4096x512.Idx) : ∃ t : Fin cfg0.N, (cfg0.win 9).flush t = true ∧ i ∈ ((cfg0.win 9).blk t).view.set := by
  have h0 : (i 0).val < 4096 := (i 0).isLt
  have h1 : (i 1).val < 512 := (i 1).isLt
  refine ⟨⟨(i 0).val / 512, lt_of_lt_of_eq (by omega) N_0.symm⟩, flush0_9 _, ?_⟩
  have hd : (⟨(i 0).val / 512, lt_of_lt_of_eq (by omega) N_0.symm⟩ : Fin cfg0.N).val = (i 0).val / 512 := rfl
  generalize (⟨(i 0).val / 512, lt_of_lt_of_eq (by omega) N_0.symm⟩ : Fin cfg0.N) = t at *
  have e0 := (index_9 t).1
  have e1 := (index_9 t).2
  show i ∈ ((View.whole main_v7_4).slice (win0_9.rect t)).set
  rw [View.set_slice_whole, Rect.mem_set_unit]
  intro a
  match a with
  | ⟨0, _⟩ =>
    show win0_9.index t (0 : Fin 2) * 512 ≤ (i 0).val ∧ (i 0).val < win0_9.index t (0 : Fin 2) * 512 + 512
    rw [e0]; omega
  | ⟨1, _⟩ =>
    show win0_9.index t (1 : Fin 2) * 512 ≤ (i 1).val ∧ (i 1).val < win0_9.index t (1 : Fin 2) * 512 + 512
    rw [e1]; omega

theorem final4_eq (c : Dev nD) : (dats m 0 c).arrAt 9 cfg0.N = final4 m c :=
  (dats m 0 c).arrAt_eq_of_cover 9 _ (fun t _ => flush_eq_9 m c t) cover_all_9

theorem flush_eq_10 (c : Dev nD) (t : Fin cfg0.N) : (dats m 0 c).flushed 10 t = ((cfg0.win 10).blk t).view.read (Elt Ideal) (final5 m c) := by
  rw [flushed10]
  funext y
  obtain ⟨r, s, rfl⟩ : ∃ (r : Fin 512) (s : Fin 512), y = (ix2 r s : S512x512.Idx) := ⟨y 0, y 1, by funext a; match a with | ⟨0, _⟩ => rfl | ⟨1, _⟩ => rfl⟩
  have e : ((cfg0.win 10).blk t).view.emb (ix2 r s : S512x512.Idx) = (ix2 (tok t r) s : S4096x512.Idx) := by
    funext a
    apply Fin.ext
    match a with
    | ⟨0, _⟩ => show win0_10.index t 0 * 512 + 1 * r.val = 512 * t.val + r.val; rw [(index_10 t).1]; omega
    | ⟨1, _⟩ => show win0_10.index t 1 * 512 + 1 * s.val = s.val; rw [(index_10 t).2]; omega
  have hl : (cfg0.win 10).xinj (grid0.coords t) (ix2 r s : S512x512.Idx) = (ix2 r s : S512x512.Idx) := by
    funext a; apply Fin.ext
    match a with
    | ⟨0, _⟩ => rfl
    | ⟨1, _⟩ => rfl
  show (outsAt0 m c t.val t.isLt).2.2.2.2.2.1 ((cfg0.win 10).xinj (grid0.coords t) (ix2 r s : S512x512.Idx)) = final5 m c (((cfg0.win 10).blk t).view.emb (ix2 r s : S512x512.Idx))
  rw [hl, e, all_rows4]
  exact rows4_apply m c t r s

theorem cover_all_10 (i : S4096x512.Idx) : ∃ t : Fin cfg0.N, (cfg0.win 10).flush t = true ∧ i ∈ ((cfg0.win 10).blk t).view.set := by
  have h0 : (i 0).val < 4096 := (i 0).isLt
  have h1 : (i 1).val < 512 := (i 1).isLt
  refine ⟨⟨(i 0).val / 512, lt_of_lt_of_eq (by omega) N_0.symm⟩, flush0_10 _, ?_⟩
  have hd : (⟨(i 0).val / 512, lt_of_lt_of_eq (by omega) N_0.symm⟩ : Fin cfg0.N).val = (i 0).val / 512 := rfl
  generalize (⟨(i 0).val / 512, lt_of_lt_of_eq (by omega) N_0.symm⟩ : Fin cfg0.N) = t at *
  have e0 := (index_10 t).1
  have e1 := (index_10 t).2
  show i ∈ ((View.whole main_v7_5).slice (win0_10.rect t)).set
  rw [View.set_slice_whole, Rect.mem_set_unit]
  intro a
  match a with
  | ⟨0, _⟩ =>
    show win0_10.index t (0 : Fin 2) * 512 ≤ (i 0).val ∧ (i 0).val < win0_10.index t (0 : Fin 2) * 512 + 512
    rw [e0]; omega
  | ⟨1, _⟩ =>
    show win0_10.index t (1 : Fin 2) * 512 ≤ (i 1).val ∧ (i 1).val < win0_10.index t (1 : Fin 2) * 512 + 512
    rw [e1]; omega

theorem final5_eq (c : Dev nD) : (dats m 0 c).arrAt 10 cfg0.N = final5 m c :=
  (dats m 0 c).arrAt_eq_of_cover 10 _ (fun t _ => flush_eq_10 m c t) cover_all_10

end Cert.FwdInIdeal.Val

end
-- ==== Proof.Small.lean ====
/-
  The optimiser's step on the small parameters: the ten arrays laid out in rows of 128 lanes, one under another, the padding's lanes
  holding a value of their own; and that a function applied to every lane may as well be applied before the arrays are laid out.
-/
module

public import proofs.«01_k».proof.Proof.Gen.AdamIdeal.Value
public import Idealize.ShloMosaic.Lib.Tactic
public import Idealize.ShloMosaic.Lib.Pointwise

@[expose] public section

noncomputable section

namespace Cert.Small

open Idealize.ShloMosaic

/-- A function of every entry of a concatenation is the concatenation of the pieces with the function applied. -/
theorem concatenateAt_map {α β : Type} (g : α → β) {t : Shape} (a : Fin t.rank) (j : t.Idx) :
    ∀ (xs : List ((s : Shape) × (s.Idx → α))) (h : ∀ s ∈ xs.map (·.1), s.FitsOff t a)
      (h' : ∀ s ∈ (xs.map fun p => (⟨p.1, fun i => g (p.2 i)⟩ : (s : Shape) × (s.Idx → β))).map (·.1), s.FitsOff t a) (c : Nat)
      (hc : c < (axisSizes t a xs).sum) (hc' : c < (axisSizes t a (xs.map fun p => (⟨p.1, fun i => g (p.2 i)⟩ : (s : Shape) × (s.Idx → β)))).sum),
      concatenateAt t a j (xs.map fun p => (⟨p.1, fun i => g (p.2 i)⟩ : (s : Shape) × (s.Idx → β))) h' c hc' = g (concatenateAt t a j xs h c hc)
  | [], _, _, _, hc, _ => absurd hc (Nat.not_lt_zero _)
  | [⟨s, x⟩], h, h', c, hc, hc' => by
    rw [concatenateAt_singleton]
    exact concatenateAt_singleton a j (fun i => g (x i)) h' c hc'
  | ⟨s, x⟩ :: q :: xs, h, h', c, hc, hc' => by
    refine (concatenateAt_cons a j (fun i => g (x i)) (⟨q.1, fun i => g (q.2 i)⟩) _ h' c hc').trans ?_
    rw [concatenateAt_cons]
    by_cases hlt : c < s.size (a.cast (h s List.mem_cons_self).rank_eq.symm)
    · rw [dif_pos hlt, dif_pos hlt]
    · rw [dif_neg hlt, dif_neg hlt]
      exact concatenateAt_map g a j (q :: xs) _ _ _ _ _

theorem concatenate_map {α β : Type} (g : α → β) {t : Shape} (a : Fin t.rank) (xs : List ((s : Shape) × (s.Idx → α)))
    (h : Shape.Concatenates (xs.map (·.1)) t a)
    (h' : Shape.Concatenates ((xs.map fun p => (⟨p.1, fun i => g (p.2 i)⟩ : (s : Shape) × (s.Idx → β))).map (·.1)) t a) (j : t.Idx) :
    concatenate t a (xs.map fun p => (⟨p.1, fun i => g (p.2 i)⟩ : (s : Shape) × (s.Idx → β))) h' j = g (concatenate t a xs h j) := by
  rw [concatenate_apply, concatenate_apply]
  exact concatenateAt_map g a j xs _ _ _ _ _

/-- A function of every entry of a padded array is the array with the function applied, padded with the padding's image. -/
theorem pad_map {α β : Type} (g : α → β) {s t u : Shape} (lo hi int : Fin s.rank → Nat) (x : s.Idx → α) (v : u.Idx → α)
    (h : s.Pads lo hi int t) (hu : 0 < u.numel) :
    pad t lo hi int (fun i => g (x i)) (fun i => g (v i)) h hu = fun j => g (pad t lo hi int x v h hu j) := by
  funext j
  unfold pad
  split
  · rfl
  · rfl

end Cert.Small

namespace Cert.AdamIdeal.Val

open Cert.AdamIdeal Cert.AdamIdeal.Gen Cert.AdamIdeal.Value
open Idealize.ShloMosaic Idealize.ShloMosaic.TcCoe Idealize.SL.Sem

/-- Array 1, in its rows. -/
def row0 {α : Type} (z : α) (a : S1x1024.Idx → α) : S8x128.Idx → α :=
  shapeCast S8x128 (pad S1024 ![0] ![0] ![0] (shapeCast S1024 a shapeCasts_S1x1024_S1024) (fun _ : S_.Idx => z) pads_S1024_S1024_000 h_S_) shapeCasts_S1024_S8x128

theorem row0_map {α β : Type} (g : α → β) (z : α) (a : S1x1024.Idx → α) : row0 (g z) (fun i => g (a i)) = fun j => g (row0 z a j) := by
  funext j
  exact congrFun (Cert.Small.pad_map g ![0] ![0] ![0] (shapeCast S1024 a shapeCasts_S1x1024_S1024) (fun _ : S_.Idx => z) pads_S1024_S1024_000 h_S_) (Shape.reshapeEquiv shapeCasts_S1024_S8x128 j)

/-- Array 2, in its rows. -/
def row1 {α : Type} (z : α) (a : S1x8.Idx → α) : S8x128.Idx → α :=
  shapeCast S8x128 (pad S1024 ![0] ![1016] ![0] (shapeCast S8 a shapeCasts_S1x8_S8) (fun _ : S_.Idx => z) pads_S8_S1024_010160 h_S_) shapeCasts_S1024_S8x128

theorem row1_map {α β : Type} (g : α → β) (z : α) (a : S1x8.Idx → α) : row1 (g z) (fun i => g (a i)) = fun j => g (row1 z a j) := by
  funext j
  exact congrFun (Cert.Small.pad_map g ![0] ![1016] ![0] (shapeCast S8 a shapeCasts_S1x8_S8) (fun _ : S_.Idx => z) pads_S8_S1024_010160 h_S_) (Shape.reshapeEquiv shapeCasts_S1024_S8x128 j)

/-- Array 3, in its rows. -/
def row2 {α : Type} (z : α) (a : S1x31x128.Idx → α) : S32x128.Idx → α :=
  shapeCast S32x128 (pad S4096 ![0] ![128] ![0] (shapeCast S3968 a shapeCasts_S1x31x128_S3968) (fun _ : S_.Idx => z) pads_S3968_S4096_01280 h_S_) shapeCasts_S4096_S32x128

theorem row2_map {α β : Type} (g : α → β) (z : α) (a : S1x31x128.Idx → α) : row2 (g z) (fun i => g (a i)) = fun j => g (row2 z a j) := by
  funext j
  exact congrFun (Cert.Small.pad_map g ![0] ![128] ![0] (shapeCast S3968 a shapeCasts_S1x31x128_S3968) (fun _ : S_.Idx => z) pads_S3968_S4096_01280 h_S_) (Shape.reshapeEquiv shapeCasts_S4096_S32x128 j)

/-- Array 4, in its rows. -/
def row3 {α : Type} (z : α) (a : S1x512.Idx → α) : S8x128.Idx → α :=
  shapeCast S8x128 (pad S1024 ![0] ![512] ![0] (shapeCast S512 a shapeCasts_S1x512_S512) (fun _ : S_.Idx => z) pads_S512_S1024_05120 h_S_) shapeCasts_S1024_S8x128

theorem row3_map {α β : Type} (g : α → β) (z : α) (a : S1x512.Idx → α) : row3 (g z) (fun i => g (a i)) = fun j => g (row3 z a j) := by
  funext j
  exact congrFun (Cert.Small.pad_map g ![0] ![512] ![0] (shapeCast S512 a shapeCasts_S1x512_S512) (fun _ : S_.Idx => z) pads_S512_S1024_05120 h_S_) (Shape.reshapeEquiv shapeCasts_S1024_S8x128 j)

/-- Array 5, in its rows. -/
def row4 {α : Type} (z : α) (a : S1x512.Idx → α) : S8x128.Idx → α :=
  shapeCast S8x128 (pad S1024 ![0] ![512] ![0] (shapeCast S512 a shapeCasts_S1x512_S512) (fun _ : S_.Idx => z) pads_S512_S1024_05120 h_S_) shapeCasts_S1024_S8x128

theorem row4_map {α β : Type} (g : α → β) (z : α) (a : S1x512.Idx → α) : row4 (g z) (fun i => g (a i)) = fun j => g (row4 z a j) := by
  funext j
  exact congrFun (Cert.Small.pad_map g ![0] ![512] ![0] (shapeCast S512 a shapeCasts_S1x512_S512) (fun _ : S_.Idx => z) pads_S512_S1024_05120 h_S_) (Shape.reshapeEquiv shapeCasts_S1024_S8x128 j)

/-- Array 6, in its rows. -/
def row5 {α : Type} (z : α) (a : S1x512.Idx → α) : S8x128.Idx → α :=
  shapeCast S8x128 (pad S1024 ![0] ![512] ![0] (shapeCast S512 a shapeCasts_S1x512_S512) (fun _ : S_.Idx => z) pads_S512_S1024_05120 h_S_) shapeCasts_S1024_S8x128

theorem row5_map {α β : Type} (g : α → β) (z : α) (a : S1x512.Idx → α) : row5 (g z) (fun i => g (a i)) = fun j => g (row5 z a j) := by
  funext j
  exact congrFun (Cert.Small.pad_map g ![0] ![512] ![0] (shapeCast S512 a shapeCasts_S1x512_S512) (fun _ : S_.Idx => z) pads_S512_S1024_05120 h_S_) (Shape.reshapeEquiv shapeCasts_S1024_S8x128 j)

/-- Array 7, in its rows. -/
def row6 {α : Type} (z : α) (a : S1x1024.Idx → α) : S8x128.Idx → α :=
  shapeCast S8x128 (pad S1024 ![0] ![0] ![0] (shapeCast S1024 a shapeCasts_S1x1024_S1024) (fun _ : S_.Idx => z) pads_S1024_S1024_000 h_S_) shapeCasts_S1024_S8x128

theorem row6_map {α β : Type} (g : α → β) (z : α) (a : S1x1024.Idx → α) : row6 (g z) (fun i => g (a i)) = fun j => g (row6 z a j) := by
  funext j
  exact congrFun (Cert.Small.pad_map g ![0] ![0] ![0] (shapeCast S1024 a shapeCasts_S1x1024_S1024) (fun _ : S_.Idx => z) pads_S1024_S1024_000 h_S_) (Shape.reshapeEquiv shapeCasts_S1024_S8x128 j)

/-- Array 8, in its rows. -/
def row7 {α : Type} (z : α) (a : S1024.Idx → α) : S8x128.Idx → α :=
  shapeCast S8x128 (pad S1024 ![0] ![0] ![0] a (fun _ : S_.Idx => z) pads_S1024_S1024_000 h_S_) shapeCasts_S1024_S8x128

theorem row7_map {α β : Type} (g : α → β) (z : α) (a : S1024.Idx → α) : row7 (g z) (fun i => g (a i)) = fun j => g (row7 z a j) := by
  funext j
  exact congrFun (Cert.Small.pad_map g ![0] ![0] ![0] a (fun _ : S_.Idx => z) pads_S1024_S1024_000 h_S_) (Shape.reshapeEquiv shapeCasts_S1024_S8x128 j)

/-- Array 9, in its rows. -/
def row8 {α : Type} (z : α) (a : S1x1024.Idx → α) : S8x128.Idx → α :=
  shapeCast S8x128 (pad S1024 ![0] ![0] ![0] (shapeCast S1024 a shapeCasts_S1x1024_S1024) (fun _ : S_.Idx => z) pads_S1024_S1024_000 h_S_) shapeCasts_S1024_S8x128

theorem row8_map {α β : Type} (g : α → β) (z : α) (a : S1x1024.Idx → α) : row8 (g z) (fun i => g (a i)) = fun j => g (row8 z a j) := by
  funext j
  exact congrFun (Cert.Small.pad_map g ![0] ![0] ![0] (shapeCast S1024 a shapeCasts_S1x1024_S1024) (fun _ : S_.Idx => z) pads_S1024_S1024_000 h_S_) (Shape.reshapeEquiv shapeCasts_S1024_S8x128 j)

/-- Array 10, in its rows. -/
def row9 {α : Type} (z : α) (a : S1024.Idx → α) : S8x128.Idx → α :=
  shapeCast S8x128 (pad S1024 ![0] ![0] ![0] a (fun _ : S_.Idx => z) pads_S1024_S1024_000 h_S_) shapeCasts_S1024_S8x128

theorem row9_map {α β : Type} (g : α → β) (z : α) (a : S1024.Idx → α) : row9 (g z) (fun i => g (a i)) = fun j => g (row9 z a j) := by
  funext j
  exact congrFun (Cert.Small.pad_map g ![0] ![0] ![0] a (fun _ : S_.Idx => z) pads_S1024_S1024_000 h_S_) (Shape.reshapeEquiv shapeCasts_S1024_S8x128 j)

/-- The ten arrays, one under another. -/
def pack {α : Type} (z : α) (a0 : S1x1024.Idx → α) (a1 : S1x8.Idx → α) (a2 : S1x31x128.Idx → α) (a3 : S1x512.Idx → α) (a4 : S1x512.Idx → α) (a5 : S1x512.Idx → α) (a6 : S1x1024.Idx → α) (a7 : S1024.Idx → α) (a8 : S1x1024.Idx → α) (a9 : S1024.Idx → α) : S104x128.Idx → α :=
  concatenate S104x128 0 [⟨S8x128, row0 z a0⟩, ⟨S8x128, row1 z a1⟩, ⟨S32x128, row2 z a2⟩, ⟨S8x128, row3 z a3⟩, ⟨S8x128, row4 z a4⟩, ⟨S8x128, row5 z a5⟩, ⟨S8x128, row6 z a6⟩, ⟨S8x128, row7 z a7⟩, ⟨S8x128, row8 z a8⟩, ⟨S8x128, row9 z a9⟩] concatenates_S8x128_S8x128_S32x128_S8x128_S8x128_S8x128_S8x128_S8x128_S8x128_S8x128_S104x128_d0

theorem pack_map {α β : Type} (g : α → β) (z : α) (a0 : S1x1024.Idx → α) (a1 : S1x8.Idx → α) (a2 : S1x31x128.Idx → α) (a3 : S1x512.Idx → α) (a4 : S1x512.Idx → α) (a5 : S1x512.Idx → α) (a6 : S1x1024.Idx → α) (a7 : S1024.Idx → α) (a8 : S1x1024.Idx → α) (a9 : S1024.Idx → α) (j : S104x128.Idx) :
    pack (g z) (fun i => g (a0 i)) (fun i => g (a1 i)) (fun i => g (a2 i)) (fun i => g (a3 i)) (fun i => g (a4 i)) (fun i => g (a5 i)) (fun i => g (a6 i)) (fun i => g (a7 i)) (fun i => g (a8 i)) (fun i => g (a9 i)) j = g (pack z a0 a1 a2 a3 a4 a5 a6 a7 a8 a9 j) := by
  unfold pack
  rw [row0_map g z a0, row1_map g z a1, row2_map g z a2, row3_map g z a3, row4_map g z a4, row5_map g z a5, row6_map g z a6, row7_map g z a7, row8_map g z a8, row9_map g z a9]
  exact Cert.Small.concatenate_map g 0 [⟨S8x128, row0 z a0⟩, ⟨S8x128, row1 z a1⟩, ⟨S32x128, row2 z a2⟩, ⟨S8x128, row3 z a3⟩, ⟨S8x128, row4 z a4⟩, ⟨S8x128, row5 z a5⟩, ⟨S8x128, row6 z a6⟩, ⟨S8x128, row7 z a7⟩, ⟨S8x128, row8 z a8⟩, ⟨S8x128, row9 z a9⟩] concatenates_S8x128_S8x128_S32x128_S8x128_S8x128_S8x128_S8x128_S8x128_S8x128_S8x128_S104x128_d0 concatenates_S8x128_S8x128_S32x128_S8x128_S8x128_S8x128_S8x128_S8x128_S8x128_S8x128_S104x128_d0 j

section AnyValues

variable {F : FTy → Type} [FloatOps F]
variable (m : (ℓ : Loc nD τ sig) → Buf (Elt F) ℓ)

/-- The value in the padding's lanes. -/
def fill : F .f32 := (sitofp .f32 (constantI S_ 32 0#32) : FVec F S_ .f32) (Shape.Idx.first h_S_)

end AnyValues

end Cert.AdamIdeal.Val

end
-- ==== Proof.SmallV.lean ====
/-
  The optimiser's step on the small parameters: the ten arrays laid out in rows of 128 lanes, one under another, the padding's lanes
  holding a value of their own; and that a function applied to every lane may as well be applied before the arrays are laid out.
-/
module

public import proofs.«01_k».proof.Proof.Small
public import Idealize.ShloMosaic.Lib.Tactic
public import Idealize.ShloMosaic.Lib.Pointwise

@[expose] public section

noncomputable section

namespace Cert.AdamIdeal.Val

open Cert.AdamIdeal Cert.AdamIdeal.Gen Cert.AdamIdeal.Value
open Idealize.ShloMosaic Idealize.ShloMosaic.TcCoe Idealize.SL.Sem

section AnyValues

variable {F : FTy → Type} [FloatOps F]
variable (m : (ℓ : Loc nD τ sig) → Buf (Elt F) ℓ)

set_option maxRecDepth 65536 in
set_option maxHeartbeats 4000000 in
theorem V_pack0 (c : Dev nD) : (V m c main_v28 : Vec F S104x128 .f32) = pack (fill (F := F)) (m ((c : Thread nD τ).loc main_arg0) : FVec F S1x1024 .f32) (m ((c : Thread nD τ).loc main_arg1) : FVec F S1x8 .f32) (m ((c : Thread nD τ).loc main_arg2) : FVec F S1x31x128 .f32) (m ((c : Thread nD τ).loc main_arg3) : FVec F S1x512 .f32) (m ((c : Thread nD τ).loc main_arg4) : FVec F S1x512 .f32) (m ((c : Thread nD τ).loc main_arg5) : FVec F S1x512 .f32) (m ((c : Thread nD τ).loc main_arg6) : FVec F S1x1024 .f32) (m ((c : Thread nD τ).loc main_arg7) : FVec F S1024 .f32) (m ((c : Thread nD τ).loc main_arg8) : FVec F S1x1024 .f32) (m ((c : Thread nD τ).loc main_arg9) : FVec F S1024 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, List.flatten_cons, List.flatten_nil, List.append_nil, List.cons_append, List.nil_append]
  after_results_simp <;> rfl

set_option maxRecDepth 65536 in
set_option maxHeartbeats 4000000 in
theorem V_pack1 (c : Dev nD) : (V m c main_v57 : Vec F S104x128 .f32) = pack (fill (F := F)) (m ((c : Thread nD τ).loc main_arg10) : FVec F S1x1024 .f32) (m ((c : Thread nD τ).loc main_arg11) : FVec F S1x8 .f32) (m ((c : Thread nD τ).loc main_arg12) : FVec F S1x31x128 .f32) (m ((c : Thread nD τ).loc main_arg13) : FVec F S1x512 .f32) (m ((c : Thread nD τ).loc main_arg14) : FVec F S1x512 .f32) (m ((c : Thread nD τ).loc main_arg15) : FVec F S1x512 .f32) (m ((c : Thread nD τ).loc main_arg16) : FVec F S1x1024 .f32) (m ((c : Thread nD τ).loc main_arg17) : FVec F S1024 .f32) (m ((c : Thread nD τ).loc main_arg18) : FVec F S1x1024 .f32) (m ((c : Thread nD τ).loc main_arg19) : FVec F S1024 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, List.flatten_cons, List.flatten_nil, List.append_nil, List.cons_append, List.nil_append]
  after_results_simp <;> rfl

set_option maxRecDepth 65536 in
set_option maxHeartbeats 4000000 in
theorem V_pack2 (c : Dev nD) : (V m c main_v86 : Vec F S104x128 .f32) = pack (fill (F := F)) (m ((c : Thread nD τ).loc main_arg20) : FVec F S1x1024 .f32) (m ((c : Thread nD τ).loc main_arg21) : FVec F S1x8 .f32) (m ((c : Thread nD τ).loc main_arg22) : FVec F S1x31x128 .f32) (m ((c : Thread nD τ).loc main_arg23) : FVec F S1x512 .f32) (m ((c : Thread nD τ).loc main_arg24) : FVec F S1x512 .f32) (m ((c : Thread nD τ).loc main_arg25) : FVec F S1x512 .f32) (m ((c : Thread nD τ).loc main_arg26) : FVec F S1x1024 .f32) (m ((c : Thread nD τ).loc main_arg27) : FVec F S1024 .f32) (m ((c : Thread nD τ).loc main_arg28) : FVec F S1x1024 .f32) (m ((c : Thread nD τ).loc main_arg29) : FVec F S1024 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, List.flatten_cons, List.flatten_nil, List.append_nil, List.cons_append, List.nil_append]
  after_results_simp <;> rfl

set_option maxRecDepth 65536 in
set_option maxHeartbeats 4000000 in
theorem V_pack3 (c : Dev nD) : (V m c main_v115 : Vec F S104x128 .f32) = pack (fill (F := F)) (m ((c : Thread nD τ).loc main_arg30) : FVec F S1x1024 .f32) (m ((c : Thread nD τ).loc main_arg31) : FVec F S1x8 .f32) (m ((c : Thread nD τ).loc main_arg32) : FVec F S1x31x128 .f32) (m ((c : Thread nD τ).loc main_arg33) : FVec F S1x512 .f32) (m ((c : Thread nD τ).loc main_arg34) : FVec F S1x512 .f32) (m ((c : Thread nD τ).loc main_arg35) : FVec F S1x512 .f32) (m ((c : Thread nD τ).loc main_arg36) : FVec F S1x1024 .f32) (m ((c : Thread nD τ).loc main_arg37) : FVec F S1024 .f32) (m ((c : Thread nD τ).loc main_arg38) : FVec F S1x1024 .f32) (m ((c : Thread nD τ).loc main_arg39) : FVec F S1024 .f32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, List.flatten_cons, List.flatten_nil, List.append_nil, List.cons_append, List.nil_append]
  after_results_simp <;> rfl

end AnyValues

end Cert.AdamIdeal.Val

end
-- ==== Proof.SmallVal.lean ====
/-
  The optimiser's step on the small parameters over the extended reals: what the kernel's three arrays hold, entry by entry, and that
  they are the reference's. In the padding's lanes everything is zero, and a step from zeros is zero.
-/
module

public import proofs.«01_k».proof.Proof.SmallV
public import proofs.«01_k».proof.Proof.Gen.RefAIdeal.Run
public import Idealize.ShloMosaic.Lib.Tactic
public import Idealize.ShloMosaic.Lib.Pointwise

@[expose] public section

noncomputable section

namespace Cert.AdamIdeal.Val

open Cert.AdamIdeal Cert.AdamIdeal.Gen Cert.AdamIdeal.Value
open Idealize.ShloMosaic Idealize.ShloMosaic.TcCoe Idealize.SL.Sem

/-! ## One entry's step, from the parameter, its gradient and the two moments -/

/-- The new first moment. -/
def first (q : EReal × EReal × EReal × EReal) : EReal :=
  FloatOps.addf (F := Ideal) (φ := .f32) (FloatOps.mulf (F := Ideal) (φ := .f32) (Scalar.ofBits (F := Ideal) .f32 0x3F666666#32) q.2.2.1) (FloatOps.mulf (F := Ideal) (φ := .f32) (Scalar.ofBits (F := Ideal) .f32 0x3DCCCCCD#32) q.2.1)

/-- The new second moment. -/
def second (q : EReal × EReal × EReal × EReal) : EReal :=
  FloatOps.addf (F := Ideal) (φ := .f32) (FloatOps.mulf (F := Ideal) (φ := .f32) (Scalar.ofBits (F := Ideal) .f32 0x3F7FBE77#32) q.2.2.2) (FloatOps.mulf (F := Ideal) (φ := .f32) (Scalar.ofBits (F := Ideal) .f32 0x3A83126F#32) (FloatOps.mulf (F := Ideal) (φ := .f32) q.2.1 q.2.1))

/-- The step. -/
def delta (q : EReal × EReal × EReal × EReal) : EReal :=
  FloatOps.mulf (F := Ideal) (φ := .f32) (Scalar.ofBits (F := Ideal) .f32 0xBA83126F#32)
    (FloatOps.addf (F := Ideal) (φ := .f32)
      (FloatOps.divf (F := Ideal) (φ := .f32) (FloatOps.divf (F := Ideal) (φ := .f32) (first q) (Scalar.ofBits (F := Ideal) .f32 0x3F26BD02#32))
        (FloatOps.addf (F := Ideal) (φ := .f32) (FloatOps.sqrt (F := Ideal) (φ := .f32) (FloatOps.divf (F := Ideal) (φ := .f32) (second q) (Scalar.ofBits (F := Ideal) .f32 0x3C231ACC#32))) (Scalar.ofBits (F := Ideal) .f32 0x322BCC77#32)))
      (FloatOps.mulf (F := Ideal) (φ := .f32) (Scalar.ofBits (F := Ideal) .f32 0x3C23D70A#32) q.1))

theorem pay2_apply (G M : Vec Ideal S104x128 .f32) (W V : EReal) (j : S104x128.Idx) : k0_pay2 (F := Ideal) G M j = first (W, G j, M j, V) := by
  unfold k0_pay2 k0_pay1
  simp only [shapeCast_self]
  rfl

theorem pay3_apply (G V : Vec Ideal S104x128 .f32) (W M : EReal) (j : S104x128.Idx) : k0_pay3 (F := Ideal) G V j = second (W, G j, M, V j) := by
  unfold k0_pay3 k0_pay1
  simp only [shapeCast_self]
  rfl

theorem pay4_apply (G W M V : Vec Ideal S104x128 .f32) (j : S104x128.Idx) : k0_pay4 (F := Ideal) G W M V j = delta (W j, G j, M j, V j) := by
  unfold delta
  rw [← pay2_apply G M (W j) (V j) j, ← pay3_apply G V (W j) (M j) j]
  unfold k0_pay4
  simp only [shapeCast_self]
  rfl

/-! ## The padding's lanes -/

/-- The value in the padding's lanes is zero. -/
theorem fill_eq : (fill (F := Ideal) : EReal) = 0 := by
  show (((0#32).toInt : ℝ) : EReal) = 0
  simp

theorem correction_first_ne : Ideal.ofBits .f32 0x3F26BD02#32 ≠ 0 := by
  simp [Ideal.ofBits, Ideal.ieee]
theorem correction_second_ne : Ideal.ofBits .f32 0x3C231ACC#32 ≠ 0 := by
  simp [Ideal.ofBits, Ideal.ieee]
theorem eps_ne : Ideal.ofBits .f32 0x322BCC77#32 ≠ 0 := by
  simp [Ideal.ofBits, Ideal.ieee]
theorem sqrt_zero : Ideal.sqrt 0 = 0 := by
  rw [← EReal.coe_zero, Ideal.sqrt_coe]
  simp

theorem first_zero : first (0, 0, 0, 0) = 0 := by
  unfold first
  simp only [Ideal.addf_def, Ideal.mulf_def, mul_zero, add_zero]

theorem second_zero : second (0, 0, 0, 0) = 0 := by
  unfold second
  simp only [Ideal.addf_def, Ideal.mulf_def, mul_zero, add_zero]

theorem delta_zero : delta (0, 0, 0, 0) = 0 := by
  unfold delta
  rw [first_zero, second_zero]
  simp only [Ideal.addf_def, Ideal.mulf_def, Ideal.divf_def, mul_zero, add_zero, Ideal.ofBits_def, Ideal.sqrt_def]
  rw [Ideal.zero_div correction_first_ne, Ideal.zero_div correction_second_ne, sqrt_zero, zero_add, Ideal.zero_div eps_ne, mul_zero]

theorem first_fill : first (fill (F := Ideal), fill (F := Ideal), fill (F := Ideal), fill (F := Ideal)) = fill (F := Ideal) := by
  rw [fill_eq]; exact first_zero
theorem second_fill : second (fill (F := Ideal), fill (F := Ideal), fill (F := Ideal), fill (F := Ideal)) = fill (F := Ideal) := by
  rw [fill_eq]; exact second_zero
theorem delta_fill : delta (fill (F := Ideal), fill (F := Ideal), fill (F := Ideal), fill (F := Ideal)) = fill (F := Ideal) := by
  rw [fill_eq]; exact delta_zero

/-- Four packed arrays' entries side by side are the entries of one packed array of fours. -/
theorem pack_four (z : EReal) (w0 g0 m0 v0 : S1x1024.Idx → EReal) (w1 g1 m1 v1 : S1x8.Idx → EReal) (w2 g2 m2 v2 : S1x31x128.Idx → EReal) (w3 g3 m3 v3 : S1x512.Idx → EReal) (w4 g4 m4 v4 : S1x512.Idx → EReal) (w5 g5 m5 v5 : S1x512.Idx → EReal) (w6 g6 m6 v6 : S1x1024.Idx → EReal) (w7 g7 m7 v7 : S1024.Idx → EReal) (w8 g8 m8 v8 : S1x1024.Idx → EReal) (w9 g9 m9 v9 : S1024.Idx → EReal) (j : S104x128.Idx) :
    (pack z w0 w1 w2 w3 w4 w5 w6 w7 w8 w9 j, pack z g0 g1 g2 g3 g4 g5 g6 g7 g8 g9 j, pack z m0 m1 m2 m3 m4 m5 m6 m7 m8 m9 j, pack z v0 v1 v2 v3 v4 v5 v6 v7 v8 v9 j)
      = pack (z, z, z, z) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) j := by
  refine Prod.ext ?_ (Prod.ext ?_ (Prod.ext ?_ ?_))
  · exact pack_map (fun q : EReal × EReal × EReal × EReal => q.1) (z, z, z, z) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) j
  · exact pack_map (fun q : EReal × EReal × EReal × EReal => q.2.1) (z, z, z, z) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) j
  · exact pack_map (fun q : EReal × EReal × EReal × EReal => q.2.2.1) (z, z, z, z) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) j
  · exact pack_map (fun q : EReal × EReal × EReal × EReal => q.2.2.2) (z, z, z, z) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) j

/-- A step that takes the padding's value to itself may be taken before the arrays are packed. -/
theorem pack_step (f : EReal × EReal × EReal × EReal → EReal) (z : EReal) (hz : f (z, z, z, z) = z) (w0 g0 m0 v0 : S1x1024.Idx → EReal) (w1 g1 m1 v1 : S1x8.Idx → EReal) (w2 g2 m2 v2 : S1x31x128.Idx → EReal) (w3 g3 m3 v3 : S1x512.Idx → EReal) (w4 g4 m4 v4 : S1x512.Idx → EReal) (w5 g5 m5 v5 : S1x512.Idx → EReal) (w6 g6 m6 v6 : S1x1024.Idx → EReal) (w7 g7 m7 v7 : S1024.Idx → EReal) (w8 g8 m8 v8 : S1x1024.Idx → EReal) (w9 g9 m9 v9 : S1024.Idx → EReal) (j : S104x128.Idx) :
    f (pack z w0 w1 w2 w3 w4 w5 w6 w7 w8 w9 j, pack z g0 g1 g2 g3 g4 g5 g6 g7 g8 g9 j, pack z m0 m1 m2 m3 m4 m5 m6 m7 m8 m9 j, pack z v0 v1 v2 v3 v4 v5 v6 v7 v8 v9 j)
      = pack z (fun i => f (w0 i, g0 i, m0 i, v0 i)) (fun i => f (w1 i, g1 i, m1 i, v1 i)) (fun i => f (w2 i, g2 i, m2 i, v2 i)) (fun i => f (w3 i, g3 i, m3 i, v3 i)) (fun i => f (w4 i, g4 i, m4 i, v4 i)) (fun i => f (w5 i, g5 i, m5 i, v5 i)) (fun i => f (w6 i, g6 i, m6 i, v6 i)) (fun i => f (w7 i, g7 i, m7 i, v7 i)) (fun i => f (w8 i, g8 i, m8 i, v8 i)) (fun i => f (w9 i, g9 i, m9 i, v9 i)) j := by
  rw [pack_four z w0 g0 m0 v0 w1 g1 m1 v1 w2 g2 m2 v2 w3 g3 m3 v3 w4 g4 m4 v4 w5 g5 m5 v5 w6 g6 m6 v6 w7 g7 m7 v7 w8 g8 m8 v8 w9 g9 m9 v9 j]
  have h := pack_map f (z, z, z, z) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) j
  rw [hz] at h
  exact h.symm

/-! ## The kernel's arrays -/

variable (m : (ℓ : Loc nD τ sig) → Buf (Elt Ideal) ℓ)

theorem hz : (![0, 0] : Fin 2 → ℕ) = fun _ => 0 := by decide

theorem index_in : ∀ t : Fin cfg0.N, win0_0.index t (0 : Fin 2) = 0 ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 :=
  (by decide +kernel : ∀ t : Fin grid0.N, _)
theorem index_out : ∀ t : Fin cfg0.N, win0_5.index t (0 : Fin 2) = 0 ∧ win0_5.index t (1 : Fin 2) = 0 ∧ win0_6.index t (0 : Fin 2) = 0 ∧ win0_6.index t (1 : Fin 2) = 0 ∧ win0_7.index t (0 : Fin 2) = 0 ∧ win0_7.index t (1 : Fin 2) = 0 :=
  (by decide +kernel : ∀ t : Fin grid0.N, _)

theorem block0 (c : Dev nD) (t : Fin cfg0.N) : (iblk m c 0 t : Vec Ideal S104x128 .f32) = V m c main_v28 := by
  funext y
  obtain ⟨r, s, rfl⟩ : ∃ (r : Fin 104) (s : Fin 128), y = (ix2 r s : S104x128.Idx) := ⟨y 0, y 1, by funext a; match a with | ⟨0, _⟩ => rfl | ⟨1, _⟩ => rfl⟩
  unfold iblk
  rw [View.read_apply]
  have e : ((cfg0.win 0).blk t).view.emb (ix2 r s : S104x128.Idx) = (ix2 r s : S104x128.Idx) := by
    funext a
    apply Fin.ext
    match a with
    | ⟨0, _⟩ => show win0_0.index t 0 * 104 + 1 * r.val = r.val; rw [(index_in t).1]; omega
    | ⟨1, _⟩ => show win0_0.index t 1 * 128 + 1 * s.val = s.val; rw [(index_in t).2.1]; omega
  show V m c main_v28 (((cfg0.win 0).blk t).view.emb (ix2 r s : S104x128.Idx)) = _
  rw [e]

theorem block1 (c : Dev nD) (t : Fin cfg0.N) : (iblk m c 1 t : Vec Ideal S104x128 .f32) = V m c main_v57 := by
  funext y
  obtain ⟨r, s, rfl⟩ : ∃ (r : Fin 104) (s : Fin 128), y = (ix2 r s : S104x128.Idx) := ⟨y 0, y 1, by funext a; match a with | ⟨0, _⟩ => rfl | ⟨1, _⟩ => rfl⟩
  unfold iblk
  rw [View.read_apply]
  have e : ((cfg0.win 1).blk t).view.emb (ix2 r s : S104x128.Idx) = (ix2 r s : S104x128.Idx) := by
    funext a
    apply Fin.ext
    match a with
    | ⟨0, _⟩ => show win0_1.index t 0 * 104 + 1 * r.val = r.val; rw [(index_in t).2.2.1]; omega
    | ⟨1, _⟩ => show win0_1.index t 1 * 128 + 1 * s.val = s.val; rw [(index_in t).2.2.2.1]; omega
  show V m c main_v57 (((cfg0.win 1).blk t).view.emb (ix2 r s : S104x128.Idx)) = _
  rw [e]

theorem block2 (c : Dev nD) (t : Fin cfg0.N) : (iblk m c 2 t : Vec Ideal S104x128 .f32) = V m c main_v86 := by
  funext y
  obtain ⟨r, s, rfl⟩ : ∃ (r : Fin 104) (s : Fin 128), y = (ix2 r s : S104x128.Idx) := ⟨y 0, y 1, by funext a; match a with | ⟨0, _⟩ => rfl | ⟨1, _⟩ => rfl⟩
  unfold iblk
  rw [View.read_apply]
  have e : ((cfg0.win 2).blk t).view.emb (ix2 r s : S104x128.Idx) = (ix2 r s : S104x128.Idx) := by
    funext a
    apply Fin.ext
    match a with
    | ⟨0, _⟩ => show win0_2.index t 0 * 104 + 1 * r.val = r.val; rw [(index_in t).2.2.2.2.1]; omega
    | ⟨1, _⟩ => show win0_2.index t 1 * 128 + 1 * s.val = s.val; rw [(index_in t).2.2.2.2.2.1]; omega
  show V m c main_v86 (((cfg0.win 2).blk t).view.emb (ix2 r s : S104x128.Idx)) = _
  rw [e]

theorem block3 (c : Dev nD) (t : Fin cfg0.N) : (iblk m c 3 t : Vec Ideal S104x128 .f32) = V m c main_v115 := by
  funext y
  obtain ⟨r, s, rfl⟩ : ∃ (r : Fin 104) (s : Fin 128), y = (ix2 r s : S104x128.Idx) := ⟨y 0, y 1, by funext a; match a with | ⟨0, _⟩ => rfl | ⟨1, _⟩ => rfl⟩
  unfold iblk
  rw [View.read_apply]
  have e : ((cfg0.win 3).blk t).view.emb (ix2 r s : S104x128.Idx) = (ix2 r s : S104x128.Idx) := by
    funext a
    apply Fin.ext
    match a with
    | ⟨0, _⟩ => show win0_3.index t 0 * 104 + 1 * r.val = r.val; rw [(index_in t).2.2.2.2.2.2.1]; omega
    | ⟨1, _⟩ => show win0_3.index t 1 * 128 + 1 * s.val = s.val; rw [(index_in t).2.2.2.2.2.2.2]; omega
  show V m c main_v115 (((cfg0.win 3).blk t).view.emb (ix2 r s : S104x128.Idx)) = _
  rw [e]

/-- What the kernel's array of this result holds. -/
def final5 (c : Dev nD) : S104x128.Idx → EReal := pack (fill (F := Ideal) : EReal) (fun i => delta ((m ((c : Thread nD τ).loc main_arg0) : S1x1024.Idx → EReal) i, (m ((c : Thread nD τ).loc main_arg10) : S1x1024.Idx → EReal) i, (m ((c : Thread nD τ).loc main_arg20) : S1x1024.Idx → EReal) i, (m ((c : Thread nD τ).loc main_arg30) : S1x1024.Idx → EReal) i)) (fun i => delta ((m ((c : Thread nD τ).loc main_arg1) : S1x8.Idx → EReal) i, (m ((c : Thread nD τ).loc main_arg11) : S1x8.Idx → EReal) i, (m ((c : Thread nD τ).loc main_arg21) : S1x8.Idx → EReal) i, (m ((c : Thread nD τ).loc main_arg31) : S1x8.Idx → EReal) i)) (fun i => delta ((m ((c : Thread nD τ).loc main_arg2) : S1x31x128.Idx → EReal) i, (m ((c : Thread nD τ).loc main_arg12) : S1x31x128.Idx → EReal) i, (m ((c : Thread nD τ).loc main_arg22) : S1x31x128.Idx → EReal) i, (m ((c : Thread nD τ).loc main_arg32) : S1x31x128.Idx → EReal) i)) (fun i => delta ((m ((c : Thread nD τ).loc main_arg3) : S1x512.Idx → EReal) i, (m ((c : Thread nD τ).loc main_arg13) : S1x512.Idx → EReal) i, (m ((c : Thread nD τ).loc main_arg23) : S1x512.Idx → EReal) i, (m ((c : Thread nD τ).loc main_arg33) : S1x512.Idx → EReal) i)) (fun i => delta ((m ((c : Thread nD τ).loc main_arg4) : S1x512.Idx → EReal) i, (m ((c : Thread nD τ).loc main_arg14) : S1x512.Idx → EReal) i, (m ((c : Thread nD τ).loc main_arg24) : S1x512.Idx → EReal) i, (m ((c : Thread nD τ).loc main_arg34) : S1x512.Idx → EReal) i)) (fun i => delta ((m ((c : Thread nD τ).loc main_arg5) : S1x512.Idx → EReal) i, (m ((c : Thread nD τ).loc main_arg15) : S1x512.Idx → EReal) i, (m ((c : Thread nD τ).loc main_arg25) : S1x512.Idx → EReal) i, (m ((c : Thread nD τ).loc main_arg35) : S1x512.Idx → EReal) i)) (fun i => delta ((m ((c : Thread nD τ).loc main_arg6) : S1x1024.Idx → EReal) i, (m ((c : Thread nD τ).loc main_arg16) : S1x1024.Idx → EReal) i, (m ((c : Thread nD τ).loc main_arg26) : S1x1024.Idx → EReal) i, (m ((c : Thread nD τ).loc main_arg36) : S1x1024.Idx → EReal) i)) (fun i => delta ((m ((c : Thread nD τ).loc main_arg7) : S1024.Idx → EReal) i, (m ((c : Thread nD τ).loc main_arg17) : S1024.Idx → EReal) i, (m ((c : Thread nD τ).loc main_arg27) : S1024.Idx → EReal) i, (m ((c : Thread nD τ).loc main_arg37) : S1024.Idx → EReal) i)) (fun i => delta ((m ((c : Thread nD τ).loc main_arg8) : S1x1024.Idx → EReal) i, (m ((c : Thread nD τ).loc main_arg18) : S1x1024.Idx → EReal) i, (m ((c : Thread nD τ).loc main_arg28) : S1x1024.Idx → EReal) i, (m ((c : Thread nD τ).loc main_arg38) : S1x1024.Idx → EReal) i)) (fun i => delta ((m ((c : Thread nD τ).loc main_arg9) : S1024.Idx → EReal) i, (m ((c : Thread nD τ).loc main_arg19) : S1024.Idx → EReal) i, (m ((c : Thread nD τ).loc main_arg29) : S1024.Idx → EReal) i, (m ((c : Thread nD τ).loc main_arg39) : S1024.Idx → EReal) i))

theorem entry_delta (c : Dev nD) (j : S104x128.Idx) : k0_pay4 (F := Ideal) (V m c main_v57) (V m c main_v28) (V m c main_v86) (V m c main_v115) j = final5 m c j := by
  refine (pay4_apply _ _ _ _ j).trans ?_
  refine Eq.trans ?_ (pack_step delta (fill (F := Ideal) : EReal) delta_fill (m ((c : Thread nD τ).loc main_arg0)) (m ((c : Thread nD τ).loc main_arg10)) (m ((c : Thread nD τ).loc main_arg20)) (m ((c : Thread nD τ).loc main_arg30)) (m ((c : Thread nD τ).loc main_arg1)) (m ((c : Thread nD τ).loc main_arg11)) (m ((c : Thread nD τ).loc main_arg21)) (m ((c : Thread nD τ).loc main_arg31)) (m ((c : Thread nD τ).loc main_arg2)) (m ((c : Thread nD τ).loc main_arg12)) (m ((c : Thread nD τ).loc main_arg22)) (m ((c : Thread nD τ).loc main_arg32)) (m ((c : Thread nD τ).loc main_arg3)) (m ((c : Thread nD τ).loc main_arg13)) (m ((c : Thread nD τ).loc main_arg23)) (m ((c : Thread nD τ).loc main_arg33)) (m ((c : Thread nD τ).loc main_arg4)) (m ((c : Thread nD τ).loc main_arg14)) (m ((c : Thread nD τ).loc main_arg24)) (m ((c : Thread nD τ).loc main_arg34)) (m ((c : Thread nD τ).loc main_arg5)) (m ((c : Thread nD τ).loc main_arg15)) (m ((c : Thread nD τ).loc main_arg25)) (m ((c : Thread nD τ).loc main_arg35)) (m ((c : Thread nD τ).loc main_arg6)) (m ((c : Thread nD τ).loc main_arg16)) (m ((c : Thread nD τ).loc main_arg26)) (m ((c : Thread nD τ).loc main_arg36)) (m ((c : Thread nD τ).loc main_arg7)) (m ((c : Thread nD τ).loc main_arg17)) (m ((c : Thread nD τ).loc main_arg27)) (m ((c : Thread nD τ).loc main_arg37)) (m ((c : Thread nD τ).loc main_arg8)) (m ((c : Thread nD τ).loc main_arg18)) (m ((c : Thread nD τ).loc main_arg28)) (m ((c : Thread nD τ).loc main_arg38)) (m ((c : Thread nD τ).loc main_arg9)) (m ((c : Thread nD τ).loc main_arg19)) (m ((c : Thread nD τ).loc main_arg29)) (m ((c : Thread nD τ).loc main_arg39)) j)
  exact congrArg delta (congrArg₂ Prod.mk (congrFun (V_pack0 m c) j) (congrArg₂ Prod.mk (congrFun (V_pack1 m c) j) (congrArg₂ Prod.mk (congrFun (V_pack2 m c) j) (congrFun (V_pack3 m c) j))))

theorem flush_eq_5 (c : Dev nD) (t : Fin cfg0.N) : (dats m 0 c).flushed 5 t = ((cfg0.win 5).blk t).view.read (Elt Ideal) (final5 m c) := by
  rw [flushed5]
  unfold out0_5
  rw [View.canon_unit_zero hz]
  simp only [View.ld_unit_zero (S := S104x128) hz, block0, block1, block2, block3]
  funext y
  obtain ⟨r, s, rfl⟩ : ∃ (r : Fin 104) (s : Fin 128), y = (ix2 r s : S104x128.Idx) := ⟨y 0, y 1, by funext a; match a with | ⟨0, _⟩ => rfl | ⟨1, _⟩ => rfl⟩
  have e : ((cfg0.win 5).blk t).view.emb (ix2 r s : S104x128.Idx) = (ix2 r s : S104x128.Idx) := by
    funext a
    apply Fin.ext
    match a with
    | ⟨0, _⟩ => show win0_5.index t 0 * 104 + 1 * r.val = r.val; rw [(index_out t).1]; omega
    | ⟨1, _⟩ => show win0_5.index t 1 * 128 + 1 * s.val = s.val; rw [(index_out t).2.1]; omega
  have hl : (cfg0.win 5).xinj (grid0.coords t) (ix2 r s : S104x128.Idx) = (ix2 r s : S104x128.Idx) := by
    funext a; apply Fin.ext
    match a with
    | ⟨0, _⟩ => rfl
    | ⟨1, _⟩ => rfl
  show k0_pay4 (F := Ideal) (V m c main_v57) (V m c main_v28) (V m c main_v86) (V m c main_v115) ((cfg0.win 5).xinj (grid0.coords t) (ix2 r s : S104x128.Idx)) = final5 m c (((cfg0.win 5).blk t).view.emb (ix2 r s : S104x128.Idx))
  rw [hl, e]
  exact entry_delta m c _

theorem cover_all_5 (i : S104x128.Idx) : ∃ t : Fin cfg0.N, (cfg0.win 5).flush t = true ∧ i ∈ ((cfg0.win 5).blk t).view.set := by
  have h0 : (i 0).val < 104 := (i 0).isLt
  have h1 : (i 1).val < 128 := (i 1).isLt
  refine ⟨⟨0, lt_of_lt_of_eq (by omega) N_0.symm⟩, flush0_5 _, ?_⟩
  generalize (⟨0, lt_of_lt_of_eq (by omega) N_0.symm⟩ : Fin cfg0.N) = t at *
  have e0 := (index_out t).1
  have e1 := (index_out t).2.1
  show i ∈ ((View.whole main_v116_1).slice (win0_5.rect t)).set
  rw [View.set_slice_whole, Rect.mem_set_unit]
  intro a
  match a with
  | ⟨0, _⟩ =>
    show win0_5.index t (0 : Fin 2) * 104 ≤ (i 0).val ∧ (i 0).val < win0_5.index t (0 : Fin 2) * 104 + 104
    rw [e0]; omega
  | ⟨1, _⟩ =>
    show win0_5.index t (1 : Fin 2) * 128 ≤ (i 1).val ∧ (i 1).val < win0_5.index t (1 : Fin 2) * 128 + 128
    rw [e1]; omega

theorem final5_eq (c : Dev nD) : (dats m 0 c).arrAt 5 cfg0.N = final5 m c :=
  (dats m 0 c).arrAt_eq_of_cover 5 _ (fun t _ => flush_eq_5 m c t) cover_all_5

/-- What the kernel's array of this result holds. -/
def final6 (c : Dev nD) : S104x128.Idx → EReal := pack (fill (F := Ideal) : EReal) (fun i => first ((m ((c : Thread nD τ).loc main_arg0) : S1x1024.Idx → EReal) i, (m ((c : Thread nD τ).loc main_arg10) : S1x1024.Idx → EReal) i, (m ((c : Thread nD τ).loc main_arg20) : S1x1024.Idx → EReal) i, (m ((c : Thread nD τ).loc main_arg30) : S1x1024.Idx → EReal) i)) (fun i => first ((m ((c : Thread nD τ).loc main_arg1) : S1x8.Idx → EReal) i, (m ((c : Thread nD τ).loc main_arg11) : S1x8.Idx → EReal) i, (m ((c : Thread nD τ).loc main_arg21) : S1x8.Idx → EReal) i, (m ((c : Thread nD τ).loc main_arg31) : S1x8.Idx → EReal) i)) (fun i => first ((m ((c : Thread nD τ).loc main_arg2) : S1x31x128.Idx → EReal) i, (m ((c : Thread nD τ).loc main_arg12) : S1x31x128.Idx → EReal) i, (m ((c : Thread nD τ).loc main_arg22) : S1x31x128.Idx → EReal) i, (m ((c : Thread nD τ).loc main_arg32) : S1x31x128.Idx → EReal) i)) (fun i => first ((m ((c : Thread nD τ).loc main_arg3) : S1x512.Idx → EReal) i, (m ((c : Thread nD τ).loc main_arg13) : S1x512.Idx → EReal) i, (m ((c : Thread nD τ).loc main_arg23) : S1x512.Idx → EReal) i, (m ((c : Thread nD τ).loc main_arg33) : S1x512.Idx → EReal) i)) (fun i => first ((m ((c : Thread nD τ).loc main_arg4) : S1x512.Idx → EReal) i, (m ((c : Thread nD τ).loc main_arg14) : S1x512.Idx → EReal) i, (m ((c : Thread nD τ).loc main_arg24) : S1x512.Idx → EReal) i, (m ((c : Thread nD τ).loc main_arg34) : S1x512.Idx → EReal) i)) (fun i => first ((m ((c : Thread nD τ).loc main_arg5) : S1x512.Idx → EReal) i, (m ((c : Thread nD τ).loc main_arg15) : S1x512.Idx → EReal) i, (m ((c : Thread nD τ).loc main_arg25) : S1x512.Idx → EReal) i, (m ((c : Thread nD τ).loc main_arg35) : S1x512.Idx → EReal) i)) (fun i => first ((m ((c : Thread nD τ).loc main_arg6) : S1x1024.Idx → EReal) i, (m ((c : Thread nD τ).loc main_arg16) : S1x1024.Idx → EReal) i, (m ((c : Thread nD τ).loc main_arg26) : S1x1024.Idx → EReal) i, (m ((c : Thread nD τ).loc main_arg36) : S1x1024.Idx → EReal) i)) (fun i => first ((m ((c : Thread nD τ).loc main_arg7) : S1024.Idx → EReal) i, (m ((c : Thread nD τ).loc main_arg17) : S1024.Idx → EReal) i, (m ((c : Thread nD τ).loc main_arg27) : S1024.Idx → EReal) i, (m ((c : Thread nD τ).loc main_arg37) : S1024.Idx → EReal) i)) (fun i => first ((m ((c : Thread nD τ).loc main_arg8) : S1x1024.Idx → EReal) i, (m ((c : Thread nD τ).loc main_arg18) : S1x1024.Idx → EReal) i, (m ((c : Thread nD τ).loc main_arg28) : S1x1024.Idx → EReal) i, (m ((c : Thread nD τ).loc main_arg38) : S1x1024.Idx → EReal) i)) (fun i => first ((m ((c : Thread nD τ).loc main_arg9) : S1024.Idx → EReal) i, (m ((c : Thread nD τ).loc main_arg19) : S1024.Idx → EReal) i, (m ((c : Thread nD τ).loc main_arg29) : S1024.Idx → EReal) i, (m ((c : Thread nD τ).loc main_arg39) : S1024.Idx → EReal) i))

theorem entry_first (c : Dev nD) (j : S104x128.Idx) : k0_pay2 (F := Ideal) (V m c main_v57) (V m c main_v86) j = final6 m c j := by
  refine (pay2_apply _ _ (V m c main_v28 j) (V m c main_v115 j) j).trans ?_
  refine Eq.trans ?_ (pack_step first (fill (F := Ideal) : EReal) first_fill (m ((c : Thread nD τ).loc main_arg0)) (m ((c : Thread nD τ).loc main_arg10)) (m ((c : Thread nD τ).loc main_arg20)) (m ((c : Thread nD τ).loc main_arg30)) (m ((c : Thread nD τ).loc main_arg1)) (m ((c : Thread nD τ).loc main_arg11)) (m ((c : Thread nD τ).loc main_arg21)) (m ((c : Thread nD τ).loc main_arg31)) (m ((c : Thread nD τ).loc main_arg2)) (m ((c : Thread nD τ).loc main_arg12)) (m ((c : Thread nD τ).loc main_arg22)) (m ((c : Thread nD τ).loc main_arg32)) (m ((c : Thread nD τ).loc main_arg3)) (m ((c : Thread nD τ).loc main_arg13)) (m ((c : Thread nD τ).loc main_arg23)) (m ((c : Thread nD τ).loc main_arg33)) (m ((c : Thread nD τ).loc main_arg4)) (m ((c : Thread nD τ).loc main_arg14)) (m ((c : Thread nD τ).loc main_arg24)) (m ((c : Thread nD τ).loc main_arg34)) (m ((c : Thread nD τ).loc main_arg5)) (m ((c : Thread nD τ).loc main_arg15)) (m ((c : Thread nD τ).loc main_arg25)) (m ((c : Thread nD τ).loc main_arg35)) (m ((c : Thread nD τ).loc main_arg6)) (m ((c : Thread nD τ).loc main_arg16)) (m ((c : Thread nD τ).loc main_arg26)) (m ((c : Thread nD τ).loc main_arg36)) (m ((c : Thread nD τ).loc main_arg7)) (m ((c : Thread nD τ).loc main_arg17)) (m ((c : Thread nD τ).loc main_arg27)) (m ((c : Thread nD τ).loc main_arg37)) (m ((c : Thread nD τ).loc main_arg8)) (m ((c : Thread nD τ).loc main_arg18)) (m ((c : Thread nD τ).loc main_arg28)) (m ((c : Thread nD τ).loc main_arg38)) (m ((c : Thread nD τ).loc main_arg9)) (m ((c : Thread nD τ).loc main_arg19)) (m ((c : Thread nD τ).loc main_arg29)) (m ((c : Thread nD τ).loc main_arg39)) j)
  exact congrArg first (congrArg₂ Prod.mk (congrFun (V_pack0 m c) j) (congrArg₂ Prod.mk (congrFun (V_pack1 m c) j) (congrArg₂ Prod.mk (congrFun (V_pack2 m c) j) (congrFun (V_pack3 m c) j))))

theorem flush_eq_6 (c : Dev nD) (t : Fin cfg0.N) : (dats m 0 c).flushed 6 t = ((cfg0.win 6).blk t).view.read (Elt Ideal) (final6 m c) := by
  rw [flushed6]
  unfold out0_6
  rw [View.canon_unit_zero hz]
  simp only [View.ld_unit_zero (S := S104x128) hz, block0, block1, block2, block3]
  funext y
  obtain ⟨r, s, rfl⟩ : ∃ (r : Fin 104) (s : Fin 128), y = (ix2 r s : S104x128.Idx) := ⟨y 0, y 1, by funext a; match a with | ⟨0, _⟩ => rfl | ⟨1, _⟩ => rfl⟩
  have e : ((cfg0.win 6).blk t).view.emb (ix2 r s : S104x128.Idx) = (ix2 r s : S104x128.Idx) := by
    funext a
    apply Fin.ext
    match a with
    | ⟨0, _⟩ => show win0_6.index t 0 * 104 + 1 * r.val = r.val; rw [(index_out t).2.2.1]; omega
    | ⟨1, _⟩ => show win0_6.index t 1 * 128 + 1 * s.val = s.val; rw [(index_out t).2.2.2.1]; omega
  have hl : (cfg0.win 6).xinj (grid0.coords t) (ix2 r s : S104x128.Idx) = (ix2 r s : S104x128.Idx) := by
    funext a; apply Fin.ext
    match a with
    | ⟨0, _⟩ => rfl
    | ⟨1, _⟩ => rfl
  show k0_pay2 (F := Ideal) (V m c main_v57) (V m c main_v86) ((cfg0.win 6).xinj (grid0.coords t) (ix2 r s : S104x128.Idx)) = final6 m c (((cfg0.win 6).blk t).view.emb (ix2 r s : S104x128.Idx))
  rw [hl, e]
  exact entry_first m c _

theorem cover_all_6 (i : S104x128.Idx) : ∃ t : Fin cfg0.N, (cfg0.win 6).flush t = true ∧ i ∈ ((cfg0.win 6).blk t).view.set := by
  have h0 : (i 0).val < 104 := (i 0).isLt
  have h1 : (i 1).val < 128 := (i 1).isLt
  refine ⟨⟨0, lt_of_lt_of_eq (by omega) N_0.symm⟩, flush0_6 _, ?_⟩
  generalize (⟨0, lt_of_lt_of_eq (by omega) N_0.symm⟩ : Fin cfg0.N) = t at *
  have e0 := (index_out t).2.2.1
  have e1 := (index_out t).2.2.2.1
  show i ∈ ((View.whole main_v116_2).slice (win0_6.rect t)).set
  rw [View.set_slice_whole, Rect.mem_set_unit]
  intro a
  match a with
  | ⟨0, _⟩ =>
    show win0_6.index t (0 : Fin 2) * 104 ≤ (i 0).val ∧ (i 0).val < win0_6.index t (0 : Fin 2) * 104 + 104
    rw [e0]; omega
  | ⟨1, _⟩ =>
    show win0_6.index t (1 : Fin 2) * 128 ≤ (i 1).val ∧ (i 1).val < win0_6.index t (1 : Fin 2) * 128 + 128
    rw [e1]; omega

theorem final6_eq (c : Dev nD) : (dats m 0 c).arrAt 6 cfg0.N = final6 m c :=
  (dats m 0 c).arrAt_eq_of_cover 6 _ (fun t _ => flush_eq_6 m c t) cover_all_6

/-- What the kernel's array of this result holds. -/
def final7 (c : Dev nD) : S104x128.Idx → EReal := pack (fill (F := Ideal) : EReal) (fun i => second ((m ((c : Thread nD τ).loc main_arg0) : S1x1024.Idx → EReal) i, (m ((c : Thread nD τ).loc main_arg10) : S1x1024.Idx → EReal) i, (m ((c : Thread nD τ).loc main_arg20) : S1x1024.Idx → EReal) i, (m ((c : Thread nD τ).loc main_arg30) : S1x1024.Idx → EReal) i)) (fun i => second ((m ((c : Thread nD τ).loc main_arg1) : S1x8.Idx → EReal) i, (m ((c : Thread nD τ).loc main_arg11) : S1x8.Idx → EReal) i, (m ((c : Thread nD τ).loc main_arg21) : S1x8.Idx → EReal) i, (m ((c : Thread nD τ).loc main_arg31) : S1x8.Idx → EReal) i)) (fun i => second ((m ((c : Thread nD τ).loc main_arg2) : S1x31x128.Idx → EReal) i, (m ((c : Thread nD τ).loc main_arg12) : S1x31x128.Idx → EReal) i, (m ((c : Thread nD τ).loc main_arg22) : S1x31x128.Idx → EReal) i, (m ((c : Thread nD τ).loc main_arg32) : S1x31x128.Idx → EReal) i)) (fun i => second ((m ((c : Thread nD τ).loc main_arg3) : S1x512.Idx → EReal) i, (m ((c : Thread nD τ).loc main_arg13) : S1x512.Idx → EReal) i, (m ((c : Thread nD τ).loc main_arg23) : S1x512.Idx → EReal) i, (m ((c : Thread nD τ).loc main_arg33) : S1x512.Idx → EReal) i)) (fun i => second ((m ((c : Thread nD τ).loc main_arg4) : S1x512.Idx → EReal) i, (m ((c : Thread nD τ).loc main_arg14) : S1x512.Idx → EReal) i, (m ((c : Thread nD τ).loc main_arg24) : S1x512.Idx → EReal) i, (m ((c : Thread nD τ).loc main_arg34) : S1x512.Idx → EReal) i)) (fun i => second ((m ((c : Thread nD τ).loc main_arg5) : S1x512.Idx → EReal) i, (m ((c : Thread nD τ).loc main_arg15) : S1x512.Idx → EReal) i, (m ((c : Thread nD τ).loc main_arg25) : S1x512.Idx → EReal) i, (m ((c : Thread nD τ).loc main_arg35) : S1x512.Idx → EReal) i)) (fun i => second ((m ((c : Thread nD τ).loc main_arg6) : S1x1024.Idx → EReal) i, (m ((c : Thread nD τ).loc main_arg16) : S1x1024.Idx → EReal) i, (m ((c : Thread nD τ).loc main_arg26) : S1x1024.Idx → EReal) i, (m ((c : Thread nD τ).loc main_arg36) : S1x1024.Idx → EReal) i)) (fun i => second ((m ((c : Thread nD τ).loc main_arg7) : S1024.Idx → EReal) i, (m ((c : Thread nD τ).loc main_arg17) : S1024.Idx → EReal) i, (m ((c : Thread nD τ).loc main_arg27) : S1024.Idx → EReal) i, (m ((c : Thread nD τ).loc main_arg37) : S1024.Idx → EReal) i)) (fun i => second ((m ((c : Thread nD τ).loc main_arg8) : S1x1024.Idx → EReal) i, (m ((c : Thread nD τ).loc main_arg18) : S1x1024.Idx → EReal) i, (m ((c : Thread nD τ).loc main_arg28) : S1x1024.Idx → EReal) i, (m ((c : Thread nD τ).loc main_arg38) : S1x1024.Idx → EReal) i)) (fun i => second ((m ((c : Thread nD τ).loc main_arg9) : S1024.Idx → EReal) i, (m ((c : Thread nD τ).loc main_arg19) : S1024.Idx → EReal) i, (m ((c : Thread nD τ).loc main_arg29) : S1024.Idx → EReal) i, (m ((c : Thread nD τ).loc main_arg39) : S1024.Idx → EReal) i))

theorem entry_second (c : Dev nD) (j : S104x128.Idx) : k0_pay3 (F := Ideal) (V m c main_v57) (V m c main_v115) j = final7 m c j := by
  refine (pay3_apply _ _ (V m c main_v28 j) (V m c main_v86 j) j).trans ?_
  refine Eq.trans ?_ (pack_step second (fill (F := Ideal) : EReal) second_fill (m ((c : Thread nD τ).loc main_arg0)) (m ((c : Thread nD τ).loc main_arg10)) (m ((c : Thread nD τ).loc main_arg20)) (m ((c : Thread nD τ).loc main_arg30)) (m ((c : Thread nD τ).loc main_arg1)) (m ((c : Thread nD τ).loc main_arg11)) (m ((c : Thread nD τ).loc main_arg21)) (m ((c : Thread nD τ).loc main_arg31)) (m ((c : Thread nD τ).loc main_arg2)) (m ((c : Thread nD τ).loc main_arg12)) (m ((c : Thread nD τ).loc main_arg22)) (m ((c : Thread nD τ).loc main_arg32)) (m ((c : Thread nD τ).loc main_arg3)) (m ((c : Thread nD τ).loc main_arg13)) (m ((c : Thread nD τ).loc main_arg23)) (m ((c : Thread nD τ).loc main_arg33)) (m ((c : Thread nD τ).loc main_arg4)) (m ((c : Thread nD τ).loc main_arg14)) (m ((c : Thread nD τ).loc main_arg24)) (m ((c : Thread nD τ).loc main_arg34)) (m ((c : Thread nD τ).loc main_arg5)) (m ((c : Thread nD τ).loc main_arg15)) (m ((c : Thread nD τ).loc main_arg25)) (m ((c : Thread nD τ).loc main_arg35)) (m ((c : Thread nD τ).loc main_arg6)) (m ((c : Thread nD τ).loc main_arg16)) (m ((c : Thread nD τ).loc main_arg26)) (m ((c : Thread nD τ).loc main_arg36)) (m ((c : Thread nD τ).loc main_arg7)) (m ((c : Thread nD τ).loc main_arg17)) (m ((c : Thread nD τ).loc main_arg27)) (m ((c : Thread nD τ).loc main_arg37)) (m ((c : Thread nD τ).loc main_arg8)) (m ((c : Thread nD τ).loc main_arg18)) (m ((c : Thread nD τ).loc main_arg28)) (m ((c : Thread nD τ).loc main_arg38)) (m ((c : Thread nD τ).loc main_arg9)) (m ((c : Thread nD τ).loc main_arg19)) (m ((c : Thread nD τ).loc main_arg29)) (m ((c : Thread nD τ).loc main_arg39)) j)
  exact congrArg second (congrArg₂ Prod.mk (congrFun (V_pack0 m c) j) (congrArg₂ Prod.mk (congrFun (V_pack1 m c) j) (congrArg₂ Prod.mk (congrFun (V_pack2 m c) j) (congrFun (V_pack3 m c) j))))

theorem flush_eq_7 (c : Dev nD) (t : Fin cfg0.N) : (dats m 0 c).flushed 7 t = ((cfg0.win 7).blk t).view.read (Elt Ideal) (final7 m c) := by
  rw [flushed7]
  unfold out0_7
  rw [View.canon_unit_zero hz]
  simp only [View.ld_unit_zero (S := S104x128) hz, block0, block1, block2, block3]
  funext y
  obtain ⟨r, s, rfl⟩ : ∃ (r : Fin 104) (s : Fin 128), y = (ix2 r s : S104x128.Idx) := ⟨y 0, y 1, by funext a; match a with | ⟨0, _⟩ => rfl | ⟨1, _⟩ => rfl⟩
  have e : ((cfg0.win 7).blk t).view.emb (ix2 r s : S104x128.Idx) = (ix2 r s : S104x128.Idx) := by
    funext a
    apply Fin.ext
    match a with
    | ⟨0, _⟩ => show win0_7.index t 0 * 104 + 1 * r.val = r.val; rw [(index_out t).2.2.2.2.1]; omega
    | ⟨1, _⟩ => show win0_7.index t 1 * 128 + 1 * s.val = s.val; rw [(index_out t).2.2.2.2.2]; omega
  have hl : (cfg0.win 7).xinj (grid0.coords t) (ix2 r s : S104x128.Idx) = (ix2 r s : S104x128.Idx) := by
    funext a; apply Fin.ext
    match a with
    | ⟨0, _⟩ => rfl
    | ⟨1, _⟩ => rfl
  show k0_pay3 (F := Ideal) (V m c main_v57) (V m c main_v115) ((cfg0.win 7).xinj (grid0.coords t) (ix2 r s : S104x128.Idx)) = final7 m c (((cfg0.win 7).blk t).view.emb (ix2 r s : S104x128.Idx))
  rw [hl, e]
  exact entry_second m c _

theorem cover_all_7 (i : S104x128.Idx) : ∃ t : Fin cfg0.N, (cfg0.win 7).flush t = true ∧ i ∈ ((cfg0.win 7).blk t).view.set := by
  have h0 : (i 0).val < 104 := (i 0).isLt
  have h1 : (i 1).val < 128 := (i 1).isLt
  refine ⟨⟨0, lt_of_lt_of_eq (by omega) N_0.symm⟩, flush0_7 _, ?_⟩
  generalize (⟨0, lt_of_lt_of_eq (by omega) N_0.symm⟩ : Fin cfg0.N) = t at *
  have e0 := (index_out t).2.2.2.2.1
  have e1 := (index_out t).2.2.2.2.2
  show i ∈ ((View.whole main_v116_3).slice (win0_7.rect t)).set
  rw [View.set_slice_whole, Rect.mem_set_unit]
  intro a
  match a with
  | ⟨0, _⟩ =>
    show win0_7.index t (0 : Fin 2) * 104 ≤ (i 0).val ∧ (i 0).val < win0_7.index t (0 : Fin 2) * 104 + 104
    rw [e0]; omega
  | ⟨1, _⟩ =>
    show win0_7.index t (1 : Fin 2) * 128 ≤ (i 1).val ∧ (i 1).val < win0_7.index t (1 : Fin 2) * 128 + 128
    rw [e1]; omega

theorem final7_eq (c : Dev nD) : (dats m 0 c).arrAt 7 cfg0.N = final7 m c :=
  (dats m 0 c).arrAt_eq_of_cover 7 _ (fun t _ => flush_eq_7 m c t) cover_all_7

end Cert.AdamIdeal.Val

namespace Cert.RefAIdeal.Val

open Cert.RefAIdeal Cert.RefAIdeal.Gen Cert.RefAIdeal.Value
open Idealize.ShloMosaic Idealize.ShloMosaic.TcCoe Idealize.SL.Sem Idealize.ShloMosaic.StableHlo

variable (m : (ℓ : Loc nD τ sig) → Buf (Elt Ideal) ℓ)

/-- What the reference's array of this result holds. -/
def deltas (c : Dev nD) : S104x128.Idx → EReal := Cert.AdamIdeal.Val.pack (Cert.AdamIdeal.Val.fill (F := Ideal) : EReal) (fun i => Cert.AdamIdeal.Val.delta ((m ((c : Thread nD τ).loc main_arg0) : S1x1024.Idx → EReal) i, (m ((c : Thread nD τ).loc main_arg10) : S1x1024.Idx → EReal) i, (m ((c : Thread nD τ).loc main_arg20) : S1x1024.Idx → EReal) i, (m ((c : Thread nD τ).loc main_arg30) : S1x1024.Idx → EReal) i)) (fun i => Cert.AdamIdeal.Val.delta ((m ((c : Thread nD τ).loc main_arg1) : S1x8.Idx → EReal) i, (m ((c : Thread nD τ).loc main_arg11) : S1x8.Idx → EReal) i, (m ((c : Thread nD τ).loc main_arg21) : S1x8.Idx → EReal) i, (m ((c : Thread nD τ).loc main_arg31) : S1x8.Idx → EReal) i)) (fun i => Cert.AdamIdeal.Val.delta ((m ((c : Thread nD τ).loc main_arg2) : S1x31x128.Idx → EReal) i, (m ((c : Thread nD τ).loc main_arg12) : S1x31x128.Idx → EReal) i, (m ((c : Thread nD τ).loc main_arg22) : S1x31x128.Idx → EReal) i, (m ((c : Thread nD τ).loc main_arg32) : S1x31x128.Idx → EReal) i)) (fun i => Cert.AdamIdeal.Val.delta ((m ((c : Thread nD τ).loc main_arg3) : S1x512.Idx → EReal) i, (m ((c : Thread nD τ).loc main_arg13) : S1x512.Idx → EReal) i, (m ((c : Thread nD τ).loc main_arg23) : S1x512.Idx → EReal) i, (m ((c : Thread nD τ).loc main_arg33) : S1x512.Idx → EReal) i)) (fun i => Cert.AdamIdeal.Val.delta ((m ((c : Thread nD τ).loc main_arg4) : S1x512.Idx → EReal) i, (m ((c : Thread nD τ).loc main_arg14) : S1x512.Idx → EReal) i, (m ((c : Thread nD τ).loc main_arg24) : S1x512.Idx → EReal) i, (m ((c : Thread nD τ).loc main_arg34) : S1x512.Idx → EReal) i)) (fun i => Cert.AdamIdeal.Val.delta ((m ((c : Thread nD τ).loc main_arg5) : S1x512.Idx → EReal) i, (m ((c : Thread nD τ).loc main_arg15) : S1x512.Idx → EReal) i, (m ((c : Thread nD τ).loc main_arg25) : S1x512.Idx → EReal) i, (m ((c : Thread nD τ).loc main_arg35) : S1x512.Idx → EReal) i)) (fun i => Cert.AdamIdeal.Val.delta ((m ((c : Thread nD τ).loc main_arg6) : S1x1024.Idx → EReal) i, (m ((c : Thread nD τ).loc main_arg16) : S1x1024.Idx → EReal) i, (m ((c : Thread nD τ).loc main_arg26) : S1x1024.Idx → EReal) i, (m ((c : Thread nD τ).loc main_arg36) : S1x1024.Idx → EReal) i)) (fun i => Cert.AdamIdeal.Val.delta ((m ((c : Thread nD τ).loc main_arg7) : S1024.Idx → EReal) i, (m ((c : Thread nD τ).loc main_arg17) : S1024.Idx → EReal) i, (m ((c : Thread nD τ).loc main_arg27) : S1024.Idx → EReal) i, (m ((c : Thread nD τ).loc main_arg37) : S1024.Idx → EReal) i)) (fun i => Cert.AdamIdeal.Val.delta ((m ((c : Thread nD τ).loc main_arg8) : S1x1024.Idx → EReal) i, (m ((c : Thread nD τ).loc main_arg18) : S1x1024.Idx → EReal) i, (m ((c : Thread nD τ).loc main_arg28) : S1x1024.Idx → EReal) i, (m ((c : Thread nD τ).loc main_arg38) : S1x1024.Idx → EReal) i)) (fun i => Cert.AdamIdeal.Val.delta ((m ((c : Thread nD τ).loc main_arg9) : S1024.Idx → EReal) i, (m ((c : Thread nD τ).loc main_arg19) : S1024.Idx → EReal) i, (m ((c : Thread nD τ).loc main_arg29) : S1024.Idx → EReal) i, (m ((c : Thread nD τ).loc main_arg39) : S1024.Idx → EReal) i))

/-- What the reference's array of this result holds. -/
def firsts (c : Dev nD) : S104x128.Idx → EReal := Cert.AdamIdeal.Val.pack (Cert.AdamIdeal.Val.fill (F := Ideal) : EReal) (fun i => Cert.AdamIdeal.Val.first ((m ((c : Thread nD τ).loc main_arg0) : S1x1024.Idx → EReal) i, (m ((c : Thread nD τ).loc main_arg10) : S1x1024.Idx → EReal) i, (m ((c : Thread nD τ).loc main_arg20) : S1x1024.Idx → EReal) i, (m ((c : Thread nD τ).loc main_arg30) : S1x1024.Idx → EReal) i)) (fun i => Cert.AdamIdeal.Val.first ((m ((c : Thread nD τ).loc main_arg1) : S1x8.Idx → EReal) i, (m ((c : Thread nD τ).loc main_arg11) : S1x8.Idx → EReal) i, (m ((c : Thread nD τ).loc main_arg21) : S1x8.Idx → EReal) i, (m ((c : Thread nD τ).loc main_arg31) : S1x8.Idx → EReal) i)) (fun i => Cert.AdamIdeal.Val.first ((m ((c : Thread nD τ).loc main_arg2) : S1x31x128.Idx → EReal) i, (m ((c : Thread nD τ).loc main_arg12) : S1x31x128.Idx → EReal) i, (m ((c : Thread nD τ).loc main_arg22) : S1x31x128.Idx → EReal) i, (m ((c : Thread nD τ).loc main_arg32) : S1x31x128.Idx → EReal) i)) (fun i => Cert.AdamIdeal.Val.first ((m ((c : Thread nD τ).loc main_arg3) : S1x512.Idx → EReal) i, (m ((c : Thread nD τ).loc main_arg13) : S1x512.Idx → EReal) i, (m ((c : Thread nD τ).loc main_arg23) : S1x512.Idx → EReal) i, (m ((c : Thread nD τ).loc main_arg33) : S1x512.Idx → EReal) i)) (fun i => Cert.AdamIdeal.Val.first ((m ((c : Thread nD τ).loc main_arg4) : S1x512.Idx → EReal) i, (m ((c : Thread nD τ).loc main_arg14) : S1x512.Idx → EReal) i, (m ((c : Thread nD τ).loc main_arg24) : S1x512.Idx → EReal) i, (m ((c : Thread nD τ).loc main_arg34) : S1x512.Idx → EReal) i)) (fun i => Cert.AdamIdeal.Val.first ((m ((c : Thread nD τ).loc main_arg5) : S1x512.Idx → EReal) i, (m ((c : Thread nD τ).loc main_arg15) : S1x512.Idx → EReal) i, (m ((c : Thread nD τ).loc main_arg25) : S1x512.Idx → EReal) i, (m ((c : Thread nD τ).loc main_arg35) : S1x512.Idx → EReal) i)) (fun i => Cert.AdamIdeal.Val.first ((m ((c : Thread nD τ).loc main_arg6) : S1x1024.Idx → EReal) i, (m ((c : Thread nD τ).loc main_arg16) : S1x1024.Idx → EReal) i, (m ((c : Thread nD τ).loc main_arg26) : S1x1024.Idx → EReal) i, (m ((c : Thread nD τ).loc main_arg36) : S1x1024.Idx → EReal) i)) (fun i => Cert.AdamIdeal.Val.first ((m ((c : Thread nD τ).loc main_arg7) : S1024.Idx → EReal) i, (m ((c : Thread nD τ).loc main_arg17) : S1024.Idx → EReal) i, (m ((c : Thread nD τ).loc main_arg27) : S1024.Idx → EReal) i, (m ((c : Thread nD τ).loc main_arg37) : S1024.Idx → EReal) i)) (fun i => Cert.AdamIdeal.Val.first ((m ((c : Thread nD τ).loc main_arg8) : S1x1024.Idx → EReal) i, (m ((c : Thread nD τ).loc main_arg18) : S1x1024.Idx → EReal) i, (m ((c : Thread nD τ).loc main_arg28) : S1x1024.Idx → EReal) i, (m ((c : Thread nD τ).loc main_arg38) : S1x1024.Idx → EReal) i)) (fun i => Cert.AdamIdeal.Val.first ((m ((c : Thread nD τ).loc main_arg9) : S1024.Idx → EReal) i, (m ((c : Thread nD τ).loc main_arg19) : S1024.Idx → EReal) i, (m ((c : Thread nD τ).loc main_arg29) : S1024.Idx → EReal) i, (m ((c : Thread nD τ).loc main_arg39) : S1024.Idx → EReal) i))

/-- What the reference's array of this result holds. -/
def seconds (c : Dev nD) : S104x128.Idx → EReal := Cert.AdamIdeal.Val.pack (Cert.AdamIdeal.Val.fill (F := Ideal) : EReal) (fun i => Cert.AdamIdeal.Val.second ((m ((c : Thread nD τ).loc main_arg0) : S1x1024.Idx → EReal) i, (m ((c : Thread nD τ).loc main_arg10) : S1x1024.Idx → EReal) i, (m ((c : Thread nD τ).loc main_arg20) : S1x1024.Idx → EReal) i, (m ((c : Thread nD τ).loc main_arg30) : S1x1024.Idx → EReal) i)) (fun i => Cert.AdamIdeal.Val.second ((m ((c : Thread nD τ).loc main_arg1) : S1x8.Idx → EReal) i, (m ((c : Thread nD τ).loc main_arg11) : S1x8.Idx → EReal) i, (m ((c : Thread nD τ).loc main_arg21) : S1x8.Idx → EReal) i, (m ((c : Thread nD τ).loc main_arg31) : S1x8.Idx → EReal) i)) (fun i => Cert.AdamIdeal.Val.second ((m ((c : Thread nD τ).loc main_arg2) : S1x31x128.Idx → EReal) i, (m ((c : Thread nD τ).loc main_arg12) : S1x31x128.Idx → EReal) i, (m ((c : Thread nD τ).loc main_arg22) : S1x31x128.Idx → EReal) i, (m ((c : Thread nD τ).loc main_arg32) : S1x31x128.Idx → EReal) i)) (fun i => Cert.AdamIdeal.Val.second ((m ((c : Thread nD τ).loc main_arg3) : S1x512.Idx → EReal) i, (m ((c : Thread nD τ).loc main_arg13) : S1x512.Idx → EReal) i, (m ((c : Thread nD τ).loc main_arg23) : S1x512.Idx → EReal) i, (m ((c : Thread nD τ).loc main_arg33) : S1x512.Idx → EReal) i)) (fun i => Cert.AdamIdeal.Val.second ((m ((c : Thread nD τ).loc main_arg4) : S1x512.Idx → EReal) i, (m ((c : Thread nD τ).loc main_arg14) : S1x512.Idx → EReal) i, (m ((c : Thread nD τ).loc main_arg24) : S1x512.Idx → EReal) i, (m ((c : Thread nD τ).loc main_arg34) : S1x512.Idx → EReal) i)) (fun i => Cert.AdamIdeal.Val.second ((m ((c : Thread nD τ).loc main_arg5) : S1x512.Idx → EReal) i, (m ((c : Thread nD τ).loc main_arg15) : S1x512.Idx → EReal) i, (m ((c : Thread nD τ).loc main_arg25) : S1x512.Idx → EReal) i, (m ((c : Thread nD τ).loc main_arg35) : S1x512.Idx → EReal) i)) (fun i => Cert.AdamIdeal.Val.second ((m ((c : Thread nD τ).loc main_arg6) : S1x1024.Idx → EReal) i, (m ((c : Thread nD τ).loc main_arg16) : S1x1024.Idx → EReal) i, (m ((c : Thread nD τ).loc main_arg26) : S1x1024.Idx → EReal) i, (m ((c : Thread nD τ).loc main_arg36) : S1x1024.Idx → EReal) i)) (fun i => Cert.AdamIdeal.Val.second ((m ((c : Thread nD τ).loc main_arg7) : S1024.Idx → EReal) i, (m ((c : Thread nD τ).loc main_arg17) : S1024.Idx → EReal) i, (m ((c : Thread nD τ).loc main_arg27) : S1024.Idx → EReal) i, (m ((c : Thread nD τ).loc main_arg37) : S1024.Idx → EReal) i)) (fun i => Cert.AdamIdeal.Val.second ((m ((c : Thread nD τ).loc main_arg8) : S1x1024.Idx → EReal) i, (m ((c : Thread nD τ).loc main_arg18) : S1x1024.Idx → EReal) i, (m ((c : Thread nD τ).loc main_arg28) : S1x1024.Idx → EReal) i, (m ((c : Thread nD τ).loc main_arg38) : S1x1024.Idx → EReal) i)) (fun i => Cert.AdamIdeal.Val.second ((m ((c : Thread nD τ).loc main_arg9) : S1024.Idx → EReal) i, (m ((c : Thread nD τ).loc main_arg19) : S1024.Idx → EReal) i, (m ((c : Thread nD τ).loc main_arg29) : S1024.Idx → EReal) i, (m ((c : Thread nD τ).loc main_arg39) : S1024.Idx → EReal) i))

set_option maxRecDepth 65536 in
theorem deltas_eq (c : Dev nD) : res_main_v268 (F := Ideal) (launchContents m c) = deltas m c := by
  unfold res_main_v268
  rfl

end Cert.RefAIdeal.Val

end
-- ==== Proof.lean ====
/-
  The certificate's proof: the frames of the attention's gradient from one run of the kernel, and the value claims.
-/
module

public import proofs.«01_k».proof.Defs
public import proofs.«01_k».proof.Proof.Run
public import proofs.«01_k».proof.Proof.Gen.KernelIdeal
public import proofs.«01_k».proof.Proof.Gen.ReferenceIdeal
public import proofs.«01_k».proof.Proof.Gen.ReferenceIdeal.Run
public import proofs.«01_k».proof.Proof.DwGu
public import proofs.«01_k».proof.Proof.Gen.DwGu.Frame
public import proofs.«01_k».proof.Proof.Gen.DwGuIdeal.Value
public import proofs.«01_k».proof.Proof.Gen.RefGuIdeal.Run
public import proofs.«01_k».proof.Proof.DwDown
public import proofs.«01_k».proof.Proof.Gen.DwDown.Frame
public import proofs.«01_k».proof.Proof.Gen.DwDownIdeal.Value
public import proofs.«01_k».proof.Proof.Gen.RefDownIdeal.Run
public import proofs.«01_k».proof.Proof.DwOut
public import proofs.«01_k».proof.Proof.Gen.DwOut.Frame
public import proofs.«01_k».proof.Proof.Gen.DwOutIdeal.Value
public import proofs.«01_k».proof.Proof.Gen.RefOutIdeal.Run
public import proofs.«01_k».proof.Proof.DwMq
public import proofs.«01_k».proof.Proof.Gen.DwMq.Frame
public import proofs.«01_k».proof.Proof.Gen.DwMqIdeal.Value
public import proofs.«01_k».proof.Proof.Gen.RefMqIdeal.Run
public import proofs.«01_k».proof.Proof.DwMo
public import proofs.«01_k».proof.Proof.Gen.DwMo.Frame
public import proofs.«01_k».proof.Proof.Gen.DwMoIdeal.Value
public import proofs.«01_k».proof.Proof.Gen.RefMoIdeal.Run
public import proofs.«01_k».proof.Proof.DwIn
public import proofs.«01_k».proof.Proof.Gen.DwIn.Frame
public import proofs.«01_k».proof.Proof.Gen.DwInIdeal.Value
public import proofs.«01_k».proof.Proof.Gen.RefInIdeal.Run
public import proofs.«01_k».proof.Proof.BwdInVal
public import proofs.«01_k».proof.Proof.Gen.BwdIn.Frame
public import proofs.«01_k».proof.Proof.Gen.BwdInIdeal.Value
public import proofs.«01_k».proof.Proof.Gen.RefXIdeal.Run
public import proofs.«01_k».proof.Proof.FfnBits
public import proofs.«01_k».proof.Proof.FfnBlkVal
public import proofs.«01_k».proof.Proof.KernelBits
public import proofs.«01_k».proof.Proof.LayerBits
public import proofs.«01_k».proof.Proof.LayerVal
public import proofs.«01_k».proof.Proof.Gen.RefLayerIdeal.Run
public import proofs.«01_k».proof.Proof.ProjVal
public import proofs.«01_k».proof.Proof.SmallVal
public import proofs.«01_k».proof.Proof.Gen.Adam.Frame
public import proofs.«01_k».proof.Proof.Gen.AdamIdeal.Value
public import proofs.«01_k».proof.Proof.Gen.RefAIdeal.Run
public import proofs.«01_k».proof.Proof.Gen.FwdIn.Frame
public import proofs.«01_k».proof.Proof.Gen.FwdInIdeal.Value
public import proofs.«01_k».proof.Proof.Gen.RefProjIdeal.Run
public import Idealize.ShloMosaic.Adequacy
public import Idealize.ShloMosaic.Init

@[expose] public section

noncomputable section

namespace Cert.Proof

open Idealize.ShloMosaic Idealize.SL.Sem

/-! The references' frames: each is straight-line host code, and declares no semaphore. -/

theorem frame_Reference : Cert.quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem frame_RefGu : Cert.quiescent_RefGuIdeal (hRefGuIdeal := Cert.RefGuIdeal.Gen.facts) := fun m ρ _ =>
  (θ_run Cert.RefGuIdeal.defs _ _).mono (fun r h => ⟨fun c => (h c).2, sem_eq_zero_of_no_sems (by decide) r.2⟩)
    (Cert.RefGuIdeal.Value.run (F := Ideal) m ρ)

theorem frame_RefDown : Cert.quiescent_RefDownIdeal (hRefDownIdeal := Cert.RefDownIdeal.Gen.facts) := fun m ρ _ =>
  (θ_run Cert.RefDownIdeal.defs _ _).mono (fun r h => ⟨fun c => (h c).2, sem_eq_zero_of_no_sems (by decide) r.2⟩)
    (Cert.RefDownIdeal.Value.run (F := Ideal) m ρ)

theorem frame_RefOut : Cert.quiescent_RefOutIdeal (hRefOutIdeal := Cert.RefOutIdeal.Gen.facts) := fun m ρ _ =>
  (θ_run Cert.RefOutIdeal.defs _ _).mono (fun r h => ⟨fun c => (h c).2, sem_eq_zero_of_no_sems (by decide) r.2⟩)
    (Cert.RefOutIdeal.Value.run (F := Ideal) m ρ)

theorem frame_RefMq : Cert.quiescent_RefMqIdeal (hRefMqIdeal := Cert.RefMqIdeal.Gen.facts) := fun m ρ _ =>
  (θ_run Cert.RefMqIdeal.defs _ _).mono (fun r h => ⟨fun c => (h c).2, sem_eq_zero_of_no_sems (by decide) r.2⟩)
    (Cert.RefMqIdeal.Value.run (F := Ideal) m ρ)

theorem frame_RefMo : Cert.quiescent_RefMoIdeal (hRefMoIdeal := Cert.RefMoIdeal.Gen.facts) := fun m ρ _ =>
  (θ_run Cert.RefMoIdeal.defs _ _).mono (fun r h => ⟨fun c => (h c).2, sem_eq_zero_of_no_sems (by decide) r.2⟩)
    (Cert.RefMoIdeal.Value.run (F := Ideal) m ρ)

theorem frame_RefIn : Cert.quiescent_RefInIdeal (hRefInIdeal := Cert.RefInIdeal.Gen.facts) := fun m ρ _ =>
  (θ_run Cert.RefInIdeal.defs _ _).mono (fun r h => ⟨fun c => (h c).2, sem_eq_zero_of_no_sems (by decide) r.2⟩)
    (Cert.RefInIdeal.Value.run (F := Ideal) m ρ)

theorem frame_RefX : Cert.quiescent_RefXIdeal (hRefXIdeal := Cert.RefXIdeal.Gen.facts) := fun m ρ _ =>
  (θ_run Cert.RefXIdeal.defs _ _).mono (fun r h => ⟨fun c => (h c).2.2, sem_eq_zero_of_no_sems (by decide) r.2⟩)
    (Cert.RefXIdeal.Value.run (F := Ideal) m ρ)

/-! The products of the backward pass: the kernel's array is the reference's. -/

theorem algebraic_Gu : Cert.algebraic_DwGuIdeal_RefGuIdeal (hDwGuIdeal := Cert.DwGuIdeal.Gen.facts) (hRefGuIdeal := Cert.RefGuIdeal.Gen.facts) := by
  intro m ρ m' ρ' _ hagree
  refine ⟨fun c => Cert.DwGuIdeal.Value.G2 m c, Cert.DwGuIdeal.Value.run (F := Ideal) m ρ, ?_⟩
  refine (θ_run Cert.RefGuIdeal.defs _ _).mono (fun _ h c => ⟨(h c).1.trans ?_, (h c).2⟩) (Cert.RefGuIdeal.Value.run (F := Ideal) m' ρ')
  rw [(hagree c).1, (hagree c).2]
  exact (Cert.DwGuIdeal.Val.result_eq m c).symm

theorem algebraic_Down : Cert.algebraic_DwDownIdeal_RefDownIdeal (hDwDownIdeal := Cert.DwDownIdeal.Gen.facts) (hRefDownIdeal := Cert.RefDownIdeal.Gen.facts) := by
  intro m ρ m' ρ' _ hagree
  refine ⟨fun c => Cert.DwDownIdeal.Value.G2 m c, Cert.DwDownIdeal.Value.run (F := Ideal) m ρ, ?_⟩
  refine (θ_run Cert.RefDownIdeal.defs _ _).mono (fun _ h c => ⟨(h c).1.trans ?_, (h c).2⟩) (Cert.RefDownIdeal.Value.run (F := Ideal) m' ρ')
  rw [(hagree c).1, (hagree c).2]
  exact (Cert.DwDownIdeal.Val.result_eq m c).symm

theorem algebraic_Out : Cert.algebraic_DwOutIdeal_RefOutIdeal (hDwOutIdeal := Cert.DwOutIdeal.Gen.facts) (hRefOutIdeal := Cert.RefOutIdeal.Gen.facts) := by
  intro m ρ m' ρ' _ hagree
  refine ⟨fun c => Cert.DwOutIdeal.Value.G2 m c, Cert.DwOutIdeal.Value.run (F := Ideal) m ρ, ?_⟩
  refine (θ_run Cert.RefOutIdeal.defs _ _).mono (fun _ h c => ⟨(h c).1.trans ?_, (h c).2⟩) (Cert.RefOutIdeal.Value.run (F := Ideal) m' ρ')
  rw [(hagree c).1, (hagree c).2]
  exact (Cert.DwOutIdeal.Val.result_eq m c).symm

theorem algebraic_Mq : Cert.algebraic_DwMqIdeal_RefMqIdeal (hDwMqIdeal := Cert.DwMqIdeal.Gen.facts) (hRefMqIdeal := Cert.RefMqIdeal.Gen.facts) := by
  intro m ρ m' ρ' _ hagree
  refine ⟨fun c => Cert.DwMqIdeal.Value.G2 m c, Cert.DwMqIdeal.Value.run (F := Ideal) m ρ, ?_⟩
  refine (θ_run Cert.RefMqIdeal.defs _ _).mono (fun _ h c => ⟨(h c).1.trans ?_, (h c).2⟩) (Cert.RefMqIdeal.Value.run (F := Ideal) m' ρ')
  rw [(hagree c).1, (hagree c).2]
  exact (Cert.DwMqIdeal.Val.result_eq m c).symm

theorem algebraic_Mo : Cert.algebraic_DwMoIdeal_RefMoIdeal (hDwMoIdeal := Cert.DwMoIdeal.Gen.facts) (hRefMoIdeal := Cert.RefMoIdeal.Gen.facts) := by
  intro m ρ m' ρ' _ hagree
  refine ⟨fun c => Cert.DwMoIdeal.Value.G2 m c, Cert.DwMoIdeal.Value.run (F := Ideal) m ρ, ?_⟩
  refine (θ_run Cert.RefMoIdeal.defs _ _).mono (fun _ h c => ⟨(h c).1.trans ?_, (h c).2⟩) (Cert.RefMoIdeal.Value.run (F := Ideal) m' ρ')
  rw [(hagree c).1, (hagree c).2]
  exact (Cert.DwMoIdeal.Val.result_eq m c).symm

theorem algebraic_In : Cert.algebraic_DwInIdeal_RefInIdeal (hDwInIdeal := Cert.DwInIdeal.Gen.facts) (hRefInIdeal := Cert.RefInIdeal.Gen.facts) := by
  intro m ρ m' ρ' _ hagree
  refine ⟨fun c => Cert.DwInIdeal.Val.final m c, (θ_run Cert.DwInIdeal.defs _ _).mono (fun _ h c => ⟨(h c).1.trans (Cert.DwInIdeal.Val.final_eq m c), (h c).2⟩) (Cert.DwInIdeal.Value.run_blocks (F := Ideal) m ρ), ?_⟩
  refine (θ_run Cert.RefInIdeal.defs _ _).mono (fun _ h c => ⟨(h c).1.trans ?_, (h c).2⟩) (Cert.RefInIdeal.Value.run (F := Ideal) m' ρ')
  rw [(hagree c).1, (hagree c).2]
  exact (Cert.DwInIdeal.Val.result_eq m c).symm

/-! The input product's and first norm's gradient: both arrays are the reference's. -/

theorem algebraic_X : Cert.algebraic_BwdInIdeal_RefXIdeal (hBwdInIdeal := Cert.BwdInIdeal.Gen.facts) (hRefXIdeal := Cert.RefXIdeal.Gen.facts) := by
  intro m ρ m' ρ' _ hagree
  refine ⟨fun c => Cert.BwdInIdeal.Val.finalX m c, fun c => Cert.BwdInIdeal.Val.finalG m c,
    (θ_run Cert.BwdInIdeal.defs _ _).mono (fun _ h c => ⟨(h c).1.trans (Cert.BwdInIdeal.Val.finalX_eq m c),
      (h c).2.1.trans (Cert.BwdInIdeal.Val.finalG_eq m c), (h c).2.2⟩) (Cert.BwdInIdeal.Value.run_blocks (F := Ideal) m ρ), ?_⟩
  refine (θ_run Cert.RefXIdeal.defs _ _).mono (fun _ h c => ⟨(h c).1.trans ?_, (h c).2.1.trans ?_, (h c).2.2⟩) (Cert.RefXIdeal.Value.run (F := Ideal) m' ρ')
  · rw [Cert.RefXIdeal.Val.result0_eq, (hagree c).1, (hagree c).2.1, (hagree c).2.2.1, (hagree c).2.2.2.1, (hagree c).2.2.2.2]
    rfl
  · rw [(hagree c).1, (hagree c).2.2.2.1, (hagree c).2.2.2.2]
    rfl

/-! The feed-forward layer's gradient: the three arrays are the reference's where the arguments are real numbers. -/

theorem frame_RefFfn : Cert.quiescent_RefFfnIdeal (hRefFfnIdeal := Cert.RefFfnIdeal.Gen.facts) := fun m ρ _ =>
  (θ_run Cert.RefFfnIdeal.defs _ _).mono (fun r h => ⟨fun c => (h c).2.2.2, sem_eq_zero_of_no_sems (by decide) r.2⟩)
    (Cert.RefFfnIdeal.Value.run (F := Ideal) m ρ)

theorem frame_RefLayer : Cert.quiescent_RefLayerIdeal (hRefLayerIdeal := Cert.RefLayerIdeal.Gen.facts) := fun m ρ _ =>
  (θ_run Cert.RefLayerIdeal.defs _ _).mono (fun r h => ⟨fun c => (h c).2.2.2.2, sem_eq_zero_of_no_sems (by decide) r.2⟩)
    (Cert.RefLayerIdeal.Value.run (F := Ideal) m ρ)

theorem frame_RefProj : Cert.quiescent_RefProjIdeal (hRefProjIdeal := Cert.RefProjIdeal.Gen.facts) := fun m ρ _ =>
  (θ_run Cert.RefProjIdeal.defs _ _).mono (fun r h => ⟨fun c => (h c).2.2.2.2.2.2, sem_eq_zero_of_no_sems (by decide) r.2⟩)
    (Cert.RefProjIdeal.Value.run (F := Ideal) m ρ)

theorem algebraic_Ffn : Cert.algebraic_BwdFfnIdeal_RefFfnIdeal_pre_all_finite (hBwdFfnIdeal := Cert.BwdFfnIdeal.Gen.facts)
    (hRefFfnIdeal := Cert.RefFfnIdeal.Gen.facts) (hPre_all_finite := Cert.Pre_all_finite.Gen.facts) := by
  intro m ρ m' ρ' hpre hagree
  have hr : ∀ c, Cert.BwdFfnIdeal.Val.AllReal m c := fun c => Cert.BwdFfnIdeal.Val.allReal m c (hpre c)
  refine ⟨fun c => Cert.BwdFfnIdeal.Val.finalZ m c, fun c => Cert.BwdFfnIdeal.Val.finalX m c, fun c => Cert.BwdFfnIdeal.Val.finalG m c,
    (θ_run Cert.BwdFfnIdeal.defs _ _).mono (fun _ h c => ⟨(h c).1.trans (Cert.BwdFfnIdeal.Val.finalZ_eq m c (hr c)),
      (h c).2.1.trans (Cert.BwdFfnIdeal.Val.finalX_eq m c (hr c)), (h c).2.2.1.trans (Cert.BwdFfnIdeal.Val.finalG_eq m c (hr c)),
      (h c).2.2.2⟩) (Cert.BwdFfnIdeal.FfnVal.run_blocks (F := Ideal) m ρ), ?_⟩
  have hz : ∀ c, Cert.RefFfnIdeal.Val.argDgu m' c = Cert.BwdFfnIdeal.Val.Z m c := fun c => by
    unfold Cert.RefFfnIdeal.Val.argDgu
    rw [(hagree c).1, (hagree c).2.1, (hagree c).2.2.1, (hagree c).2.2.2.1, (hagree c).2.2.2.2]
    rfl
  refine (θ_run Cert.RefFfnIdeal.defs _ _).mono (fun _ h c => ⟨(h c).1.trans ?_, (h c).2.1.trans ?_, (h c).2.2.1.trans ?_, (h c).2.2.2⟩)
    (Cert.RefFfnIdeal.Value.run (F := Ideal) m' ρ')
  · rw [Cert.RefFfnIdeal.Val.result0_eq, hz c]
    rfl
  · rw [Cert.RefFfnIdeal.Val.result1_eq, hz c, (hagree c).1, (hagree c).2.1, (hagree c).2.2.1, (hagree c).2.2.2.2]
    rfl
  · rw [Cert.RefFfnIdeal.Val.result2_eq, hz c, (hagree c).1, (hagree c).2.2.1]
    rfl

set_option maxRecDepth 8192 in
theorem algebraic_Layer : Cert.algebraic_FwdFfnIdeal_RefLayerIdeal (hFwdFfnIdeal := Cert.FwdFfnIdeal.Gen.facts)
    (hRefLayerIdeal := Cert.RefLayerIdeal.Gen.facts) := by
  intro m ρ m' ρ' _ hagree
  refine ⟨fun c => Cert.FwdFfnIdeal.Val.final5 m c, fun c => Cert.FwdFfnIdeal.Val.GU m c, fun c => Cert.FwdFfnIdeal.Val.final7 m c, fun c => Cert.FwdFfnIdeal.Val.D m c,
    (θ_run Cert.FwdFfnIdeal.defs _ _).mono (fun _ h c => ⟨(h c).1.trans (Cert.FwdFfnIdeal.Val.final5_eq m c), (h c).2.1.trans (Cert.FwdFfnIdeal.Val.final6_eq m c),
      (h c).2.2.1.trans (Cert.FwdFfnIdeal.Val.final7_eq m c), (h c).2.2.2.1.trans (Cert.FwdFfnIdeal.Val.final8_eq m c), (h c).2.2.2.2⟩)
      (Cert.FwdFfnIdeal.FfnVal.run_blocks (F := Ideal) m ρ), ?_⟩
  refine (θ_run Cert.RefLayerIdeal.defs _ _).mono (fun _ h c => ⟨(h c).1.trans ?_, (h c).2.1.trans ?_, (h c).2.2.1.trans ?_, (h c).2.2.2.1.trans ?_, (h c).2.2.2.2⟩)
    (Cert.RefLayerIdeal.Value.run (F := Ideal) m' ρ')
  · rw [(hagree c).1, (hagree c).2.2.2.2.1]
    rfl
  · rw [(hagree c).1, (hagree c).2.2.2.2.1, (hagree c).2.2.1]
    rfl
  · rw [(hagree c).1, (hagree c).2.2.2.2.1, (hagree c).2.2.1]
    rfl
  · rw [Cert.RefLayerIdeal.Val.result3_eq]
    unfold Cert.RefLayerIdeal.Val.argOut
    rw [(hagree c).1, (hagree c).2.1, (hagree c).2.2.1, (hagree c).2.2.2.1, (hagree c).2.2.2.2.1, (hagree c).2.2.2.2.2]
    rfl

set_option maxRecDepth 8192 in
theorem algebraic_Proj : Cert.algebraic_FwdInIdeal_RefProjIdeal (hFwdInIdeal := Cert.FwdInIdeal.Gen.facts)
    (hRefProjIdeal := Cert.RefProjIdeal.Gen.facts) := by
  intro m ρ m' ρ' _ hagree
  refine ⟨fun c => Cert.FwdInIdeal.Val.final0 m c, fun c => Cert.FwdInIdeal.Val.final1 m c, fun c => Cert.FwdInIdeal.Val.final2 m c, fun c => Cert.FwdInIdeal.Val.final3 m c, fun c => Cert.FwdInIdeal.Val.final4 m c, fun c => Cert.FwdInIdeal.Val.final5 m c,
    (θ_run Cert.FwdInIdeal.defs _ _).mono (fun _ h c => ⟨(h c).1.trans (Cert.FwdInIdeal.Val.final0_eq m c), (h c).2.1.trans (Cert.FwdInIdeal.Val.final1_eq m c), (h c).2.2.1.trans (Cert.FwdInIdeal.Val.final2_eq m c), (h c).2.2.2.1.trans (Cert.FwdInIdeal.Val.final3_eq m c), (h c).2.2.2.2.1.trans (Cert.FwdInIdeal.Val.final4_eq m c), (h c).2.2.2.2.2.1.trans (Cert.FwdInIdeal.Val.final5_eq m c),
      (h c).2.2.2.2.2.2.2.2.2.2.2.2⟩) (Cert.FwdInIdeal.Value.run_blocks (F := Ideal) m ρ), ?_⟩
  refine (θ_run Cert.RefProjIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.RefProjIdeal.Value.run (F := Ideal) m' ρ')
  · rw [(hagree c).1, (hagree c).2.1]
    rfl
  · rw [(hagree c).1, (hagree c).2.1, (hagree c).2.2.1]
    rfl
  · rw [(hagree c).1, (hagree c).2.1, (hagree c).2.2.1]
    rfl
  · rw [(hagree c).1, (hagree c).2.1, (hagree c).2.2.1]
    rfl
  · rw [(hagree c).1, (hagree c).2.1, (hagree c).2.2.1]
    rfl
  · rw [(hagree c).1, (hagree c).2.1, (hagree c).2.2.1]
    rfl

theorem frame_RefA : Cert.quiescent_RefAIdeal (hRefAIdeal := Cert.RefAIdeal.Gen.facts) := fun m ρ _ =>
  (θ_run Cert.RefAIdeal.defs _ _).mono (fun r h => ⟨fun c => (h c).2.2.2, sem_eq_zero_of_no_sems (by decide) r.2⟩)
    (Cert.RefAIdeal.Value.run (F := Ideal) m ρ)

set_option maxRecDepth 65536 in
set_option maxHeartbeats 4000000 in
theorem algebraic_A : Cert.algebraic_AdamIdeal_RefAIdeal (hAdamIdeal := Cert.AdamIdeal.Gen.facts)
    (hRefAIdeal := Cert.RefAIdeal.Gen.facts) := by
  intro m ρ m' ρ' _ hagree
  refine ⟨fun c => Cert.AdamIdeal.Val.final5 m c, fun c => Cert.AdamIdeal.Val.final6 m c, fun c => Cert.AdamIdeal.Val.final7 m c,
    (θ_run Cert.AdamIdeal.defs _ _).mono (fun _ h c => ⟨(h c).2.1.trans (Cert.AdamIdeal.Val.final5_eq m c), (h c).2.2.1.trans (Cert.AdamIdeal.Val.final6_eq m c), (h c).2.2.2.1.trans (Cert.AdamIdeal.Val.final7_eq m c), (h c).2.2.2.2⟩)
      (Cert.AdamIdeal.Value.run_blocks (F := Ideal) m ρ), ?_⟩
  have hd : ∀ c, Cert.RefAIdeal.Val.deltas m' c = Cert.AdamIdeal.Val.final5 m c := fun c => by
    unfold Cert.RefAIdeal.Val.deltas Cert.AdamIdeal.Val.final5
    obtain ⟨h0, h1, h2, h3, h4, h5, h6, h7, h8, h9, h10, h11, h12, h13, h14, h15, h16, h17, h18, h19, h20, h21, h22, h23,
      h24, h25, h26, h27, h28, h29, h30, h31, h32, h33, h34, h35, h36, h37, h38, h39⟩ := hagree c
    rw [h0, h1, h2, h3, h4, h5, h6, h7, h8, h9, h10, h11, h12, h13, h14, h15, h16, h17, h18, h19, h20, h21, h22, h23, h24, h25,
      h26, h27, h28, h29, h30, h31, h32, h33, h34, h35, h36, h37, h38, h39]
  have hf : ∀ c, Cert.RefAIdeal.Val.firsts m' c = Cert.AdamIdeal.Val.final6 m c := fun c => by
    unfold Cert.RefAIdeal.Val.firsts Cert.AdamIdeal.Val.final6
    obtain ⟨h0, h1, h2, h3, h4, h5, h6, h7, h8, h9, h10, h11, h12, h13, h14, h15, h16, h17, h18, h19, h20, h21, h22, h23,
      h24, h25, h26, h27, h28, h29, h30, h31, h32, h33, h34, h35, h36, h37, h38, h39⟩ := hagree c
    rw [h0, h1, h2, h3, h4, h5, h6, h7, h8, h9, h10, h11, h12, h13, h14, h15, h16, h17, h18, h19, h20, h21, h22, h23, h24, h25,
      h26, h27, h28, h29, h30, h31, h32, h33, h34, h35, h36, h37, h38, h39]
  have hs : ∀ c, Cert.RefAIdeal.Val.seconds m' c = Cert.AdamIdeal.Val.final7 m c := fun c => by
    unfold Cert.RefAIdeal.Val.seconds Cert.AdamIdeal.Val.final7
    obtain ⟨h0, h1, h2, h3, h4, h5, h6, h7, h8, h9, h10, h11, h12, h13, h14, h15, h16, h17, h18, h19, h20, h21, h22, h23,
      h24, h25, h26, h27, h28, h29, h30, h31, h32, h33, h34, h35, h36, h37, h38, h39⟩ := hagree c
    rw [h0, h1, h2, h3, h4, h5, h6, h7, h8, h9, h10, h11, h12, h13, h14, h15, h16, h17, h18, h19, h20, h21, h22, h23, h24, h25,
      h26, h27, h28, h29, h30, h31, h32, h33, h34, h35, h36, h37, h38, h39]
  refine (θ_run Cert.RefAIdeal.defs _ _).mono (fun _ h c => ⟨(h c).1.trans ((Cert.RefAIdeal.Val.deltas_eq m' c).trans (hd c)), (h c).2.1.trans (Eq.trans ?_ (hf c)), (h c).2.2.1.trans (Eq.trans ?_ (hs c)), (h c).2.2.2⟩)
    (Cert.RefAIdeal.Value.run (F := Ideal) m' ρ')
  · rfl
  · rfl

theorem claim : Cert.Claim := ⟨Cert.Kernel.Gen.facts, Cert.KernelIdeal.Gen.facts, Cert.ReferenceIdeal.Gen.facts, Cert.DwGu.Gen.facts, Cert.DwGuIdeal.Gen.facts, Cert.RefGuIdeal.Gen.facts, Cert.DwDown.Gen.facts, Cert.DwDownIdeal.Gen.facts, Cert.RefDownIdeal.Gen.facts, Cert.DwOut.Gen.facts, Cert.DwOutIdeal.Gen.facts, Cert.RefOutIdeal.Gen.facts, Cert.DwMq.Gen.facts, Cert.DwMqIdeal.Gen.facts, Cert.RefMqIdeal.Gen.facts, Cert.DwMo.Gen.facts, Cert.DwMoIdeal.Gen.facts, Cert.RefMoIdeal.Gen.facts, Cert.DwIn.Gen.facts, Cert.DwInIdeal.Gen.facts, Cert.RefInIdeal.Gen.facts, Cert.BwdIn.Gen.facts, Cert.BwdInIdeal.Gen.facts, Cert.RefXIdeal.Gen.facts, Cert.BwdFfn.Gen.facts, Cert.BwdFfnIdeal.Gen.facts, Cert.RefFfnIdeal.Gen.facts, Cert.FwdFfn.Gen.facts, Cert.FwdFfnIdeal.Gen.facts, Cert.RefLayerIdeal.Gen.facts, Cert.FwdIn.Gen.facts, Cert.FwdInIdeal.Gen.facts, Cert.RefProjIdeal.Gen.facts, Cert.Adam.Gen.facts, Cert.AdamIdeal.Gen.facts, Cert.RefAIdeal.Gen.facts, Cert.Pre_all_finite.Gen.facts,
  Cert.Kernel.Words.frame, fun m ρ _ => Cert.KernelIdeal.Fox.frame (F := Ideal) m ρ, frame_Reference,
  fun m ρ _ => Cert.DwGu.Gen.frame m ρ, fun m ρ _ => Cert.DwGuIdeal.Gen.frame m ρ, frame_RefGu,
  fun m ρ _ => Cert.DwDown.Gen.frame m ρ, fun m ρ _ => Cert.DwDownIdeal.Gen.frame m ρ, frame_RefDown,
  fun m ρ _ => Cert.DwOut.Gen.frame m ρ, fun m ρ _ => Cert.DwOutIdeal.Gen.frame m ρ, frame_RefOut,
  fun m ρ _ => Cert.DwMq.Gen.frame m ρ, fun m ρ _ => Cert.DwMqIdeal.Gen.frame m ρ, frame_RefMq,
  fun m ρ _ => Cert.DwMo.Gen.frame m ρ, fun m ρ _ => Cert.DwMoIdeal.Gen.frame m ρ, frame_RefMo,
  fun m ρ _ => Cert.DwIn.Gen.frame m ρ, fun m ρ _ => Cert.DwInIdeal.Gen.frame m ρ, frame_RefIn,
  fun m ρ _ => Cert.BwdIn.Gen.frame m ρ, fun m ρ _ => Cert.BwdInIdeal.Gen.frame m ρ, frame_RefX,
  Cert.BwdFfn.Words.frame, fun m ρ _ => Cert.BwdFfnIdeal.Ffn.frame (F := Ideal) m ρ, fun m ρ _ => Cert.BwdFfnIdeal.Ffn.frame (F := Ideal) m ρ, frame_RefFfn, fun m ρ _ => frame_RefFfn m ρ trivial,
  Cert.FwdFfn.Words.frame, fun m ρ _ => Cert.FwdFfnIdeal.Ffn.frame (F := Ideal) m ρ, frame_RefLayer,
  fun m ρ _ => Cert.FwdIn.Gen.frame m ρ, fun m ρ _ => Cert.FwdInIdeal.Gen.frame m ρ, frame_RefProj,
  fun m ρ _ => Cert.Adam.Gen.frame m ρ, fun m ρ _ => Cert.AdamIdeal.Gen.frame m ρ, frame_RefA,
  trivial,
  trivial, algebraic_Gu,
  trivial, algebraic_Down,
  trivial, algebraic_Out,
  trivial, algebraic_Mq,
  trivial, algebraic_Mo,
  trivial, algebraic_In,
  trivial, algebraic_X,
  trivial, algebraic_Ffn,
  trivial, algebraic_Layer,
  trivial, algebraic_Proj,
  trivial, algebraic_A⟩

end Cert.Proof

end
